-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v63) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v63_0)) (v1 : (c : Dev Cert.Kernel6Ideal.nD) → Buf (Elt Ideal) ((c.tc : Thread Cert.Kernel6Ideal.nD Cert.Kernel6Ideal.τ).loc Cert.Kernel6Ideal.main_v63_1)) (v2 : (c : Dev Cert.Kernel6Ideal.nD) → Buf (Elt Ideal) ((c.tc : Thread Cert.Kernel6Ideal.nD Cert.Kernel6Ideal.τ).loc Cert.Kernel6Ideal.main_v63_2)) (v3 : (c : Dev Cert.Kernel6Ideal.nD) → Buf (Elt Ideal) ((c.tc : Thread Cert.Kernel6Ideal.nD Cert.Kernel6Ideal.τ).loc Cert.Kernel6Ideal.main_v63_3)) (v4 : (c : Dev Cert.Kernel6Ideal.nD) → Buf (Elt Ideal) ((c.tc : Thread Cert.Kernel6Ideal.nD Cert.Kernel6Ideal.τ).loc Cert.Kernel6Ideal.main_v63_4)) (v5 : (c : Dev Cert.Kernel6Ideal.nD) → Buf (Elt Ideal) ((c.tc : Thread Cert.Kernel6Ideal.nD Cert.Kernel6Ideal.τ).loc Cert.Kernel6Ideal.main_v63_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v63_0) = v0 c
          ∧ r.2.mem ((c.tc : Thread Cert.Kernel6Ideal.nD Cert.Kernel6Ideal.τ).loc Cert.Kernel6Ideal.main_v63_1) = v1 c
          ∧ r.2.mem ((c.tc : Thread Cert.Kernel6Ideal.nD Cert.Kernel6Ideal.τ).loc Cert.Kernel6Ideal.main_v63_2) = v2 c
          ∧ r.2.mem ((c.tc : Thread Cert.Kernel6Ideal.nD Cert.Kernel6Ideal.τ).loc Cert.Kernel6Ideal.main_v63_3) = v3 c
          ∧ r.2.mem ((c.tc : Thread Cert.Kernel6Ideal.nD Cert.Kernel6Ideal.τ).loc Cert.Kernel6Ideal.main_v63_4) = v4 c
          ∧ r.2.mem ((c.tc : Thread Cert.Kernel6Ideal.nD Cert.Kernel6Ideal.τ).loc Cert.Kernel6Ideal.main_v63_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v153) = v0 c
          ∧ r.2.mem ((c.tc : Thread Cert.Reference6Ideal.nD Cert.Reference6Ideal.τ).loc Cert.Reference6Ideal.main_v155) = v1 c
          ∧ r.2.mem ((c.tc : Thread Cert.Reference6Ideal.nD Cert.Reference6Ideal.τ).loc Cert.Reference6Ideal.main_v157) = v2 c
          ∧ r.2.mem ((c.tc : Thread Cert.Reference6Ideal.nD Cert.Reference6Ideal.τ).loc Cert.Reference6Ideal.main_v160) = v3 c
          ∧ r.2.mem ((c.tc : Thread Cert.Reference6Ideal.nD Cert.Reference6Ideal.τ).loc Cert.Reference6Ideal.main_v162) = v4 c
          ∧ r.2.mem ((c.tc : Thread Cert.Reference6Ideal.nD Cert.Reference6Ideal.τ).loc Cert.Reference6Ideal.main_v164) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v10) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_steps_finite : Cert.Pre_steps_finite.Facts),
    quiescent_Kernel (hKernel := hKernel)
    ∧ quiescent_KernelIdeal (hKernelIdeal := hKernelIdeal)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_steps_finite (hKernelIdeal := hKernelIdeal) (hReferenceIdeal := hReferenceIdeal) (hPre_steps_finite := hPre_steps_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_steps_finite.lean ====
abbrev S2x8192x2048 : Shape := ⟨3, ![2, 8192, 2048]⟩
abbrev S2x8192x3072 : Shape := ⟨3, ![2, 8192, 3072]⟩
abbrev S2x8192x32 : Shape := ⟨3, ![2, 8192, 32]⟩
abbrev S4x1x3072 : Shape := ⟨3, ![4, 1, 3072]⟩
abbrev S3072 : Shape := ⟨1, ![3072]⟩
abbrev S32 : Shape := ⟨1, ![32]⟩
abbrev S2048 : Shape := ⟨1, ![2048]⟩
abbrev S_ : Shape := ⟨0, ![]⟩
abbrev S1x1x32 : Shape := ⟨3, ![1, 1, 32]⟩

class Facts : Prop where
  bcast_S_S2x8192x32 : S_.BroadcastsInDim S2x8192x32 (![] : Fin 0 → Fin S2x8192x32.rank)
  bcast_S_S32 : S_.BroadcastsInDim S32 (![] : Fin 0 → Fin S32.rank)
  bcast_S32_S1x1x32_2 : S32.BroadcastsInDim S1x1x32 (![2] : Fin 1 → Fin S1x1x32.rank)
  bcast_S1x1x32_S2x8192x32_0_1_2 : S1x1x32.BroadcastsInDim S2x8192x32 (![0, 1, 2] : Fin 3 → Fin S2x8192x32.rank)

variable [Facts]

def fn {F : FTy → Type} [FloatOps F] (main_arg0 : FVec F S2x8192x2048 .f32) (main_arg1 : FVec F S2x8192x3072 .f32) (main_arg2 : FVec F S2x8192x32 .f32) (main_arg3 : FVec F S4x1x3072 .f32) (main_arg4 : FVec F S3072 .f32) (main_arg5 : FVec F S32 .f32) (main_arg6 : FVec F S32 .f32) (main_arg7 : FVec F S32 .f32) (main_arg8 : FVec F S2048 .f32) : IVec S2x8192x32 1 :=
  let main_v0 : FVec F S2x8192x32 .f32 := Host.absf main_arg2
  let main_cst : FVec F S_ .f32 := constant S_ .f32 0x7F800000#32
  let main_v1 : FVec F S2x8192x32 .f32 := broadcastInDim S2x8192x32 ![] bcast_S_S2x8192x32 main_cst
  let main_v2 : IVec S2x8192x32 1 := cmpf .olt main_v0 main_v1
  let main_v3 : FVec F S32 .f32 := Host.absf main_arg5
  let main_cst_0 : FVec F S_ .f32 := constant S_ .f32 0x7F800000#32
  let main_v4 : FVec F S32 .f32 := broadcastInDim S32 ![] bcast_S_S32 main_cst_0
  let main_v5 : IVec S32 1 := cmpf .olt main_v3 main_v4
  let main_v6 : IVec S1x1x32 1 := broadcastInDim S1x1x32 ![2] bcast_S32_S1x1x32_2 main_v5
  let main_v7 : IVec S2x8192x32 1 := broadcastInDim S2x8192x32 ![0, 1, 2] bcast_S1x1x32_S2x8192x32_0_1_2 main_v6
  let main_v8 : IVec S2x8192x32 1 := andi main_v2 main_v7
  let main_v9 : FVec F S32 .f32 := Host.absf main_arg6
  let main_cst_1 : FVec F S_ .f32 := constant S_ .f32 0x7F800000#32
  let main_v10 : FVec F S32 .f32 := broadcastInDim S32 ![] bcast_S_S32 main_cst_1
  let main_v11 : IVec S32 1 := cmpf .olt main_v9 main_v10
  let main_v12 : IVec S1x1x32 1 := broadcastInDim S1x1x32 ![2] bcast_S32_S1x1x32_2 main_v11
  let main_v13 : IVec S2x8192x32 1 := broadcastInDim S2x8192x32 ![0, 1, 2] bcast_S1x1x32_S2x8192x32_0_1_2 main_v12
  let main_v14 : IVec S2x8192x32 1 := andi main_v8 main_v13
  main_v14
-- ==== Kernel.lean ====
abbrev S2x8192x2048 : Shape := ⟨3, ![2, 8192, 2048]⟩
abbrev S2x8192x3072 : Shape := ⟨3, ![2, 8192, 3072]⟩
abbrev S2x8192x32 : Shape := ⟨3, ![2, 8192, 32]⟩
abbrev S4x1x3072 : Shape := ⟨3, ![4, 1, 3072]⟩
abbrev S3072 : Shape := ⟨1, ![3072]⟩
abbrev S32 : Shape := ⟨1, ![32]⟩
abbrev S2048 : Shape := ⟨1, ![2048]⟩
abbrev S16384x32 : Shape := ⟨2, ![16384, 32]⟩
abbrev S_ : Shape := ⟨0, ![]⟩
abbrev S16384x128 : Shape := ⟨2, ![16384, 128]⟩
abbrev S16384x2048 : Shape := ⟨2, ![16384, 2048]⟩
abbrev S16384x3072 : Shape := ⟨2, ![16384, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x2048 : Shape := ⟨2, ![1, 2048]⟩
abbrev S128x2048 : Shape := ⟨2, ![128, 2048]⟩
abbrev S4x3072 : Shape := ⟨2, ![4, 3072]⟩
abbrev S1x3072 : Shape := ⟨2, ![1, 3072]⟩
abbrev S1x32 : Shape := ⟨2, ![1, 32]⟩
abbrev S32x64 : Shape := ⟨2, ![32, 64]⟩
abbrev S128x3072 : Shape := ⟨2, ![128, 3072]⟩
abbrev S136x3072 : Shape := ⟨2, ![136, 3072]⟩
abbrev S8x3072 : Shape := ⟨2, ![8, 3072]⟩
abbrev S128x512 : Shape := ⟨2, ![128, 512]⟩
abbrev S1x512 : Shape := ⟨2, ![1, 512]⟩

abbrev nBuf : Space → Nat
  | .hbm => 64
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S2x8192x3072, .f32⟩
  | .hbm, ⟨2, _⟩ => ⟨S2x8192x32, .f32⟩
  | .hbm, ⟨3, _⟩ => ⟨S4x1x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S16384x32, .f32⟩
  | .hbm, ⟨10, _⟩ => ⟨S_, .i32⟩
  | .hbm, ⟨11, _⟩ => ⟨S_, .f32⟩
  | .hbm, ⟨12, _⟩ => ⟨S16384x128, .f32⟩
  | .hbm, ⟨13, _⟩ => ⟨S16384x2048, .f32⟩
  | .hbm, ⟨14, _⟩ => ⟨S16384x3072, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .bf16⟩
  | .hbm, ⟨23, _⟩ => ⟨S128, .i32⟩
  | .hbm, ⟨24, _⟩ => ⟨S128x1, .i32⟩
  | .hbm, ⟨25, _⟩ => ⟨S2048, .i32⟩
  | .hbm, ⟨26, _⟩ => ⟨S1x2048, .i32⟩
  | .hbm, ⟨27, _⟩ => ⟨S_, .i32⟩
  | .hbm, ⟨28, _⟩ => ⟨S_, .i32⟩
  | .hbm, ⟨29, _⟩ => ⟨S1x2048, .i32⟩
  | .hbm, ⟨30, _⟩ => ⟨S1x2048, .i32⟩
  | .hbm, ⟨31, _⟩ => ⟨S1x2048, .i32⟩
  | .hbm, ⟨32, _⟩ => ⟨S_, .i32⟩
  | .hbm, ⟨33, _⟩ => ⟨S1x2048, .i32⟩
  | .hbm, ⟨34, _⟩ => ⟨S1x2048, .i1⟩
  | .hbm, ⟨35, _⟩ => ⟨S1x2048, .i32⟩
  | .hbm, ⟨36, _⟩ => ⟨S1x2048, .i32⟩
  | .hbm, ⟨37, _⟩ => ⟨S_, .i32⟩
  | .hbm, ⟨38, _⟩ => ⟨S1x2048, .i32⟩
  | .hbm, ⟨39, _⟩ => ⟨S1x2048, .i1⟩
  | .hbm, ⟨40, _⟩ => ⟨S1x2048, .i1⟩
  | .hbm, ⟨41, _⟩ => ⟨S_, .i32⟩
  | .hbm, ⟨42, _⟩ => ⟨S1x2048, .i32⟩
  | .hbm, ⟨43, _⟩ => ⟨S1x2048, .i32⟩
  | .hbm, ⟨44, _⟩ => ⟨S1x2048, .i32⟩
  | .hbm, ⟨45, _⟩ => ⟨S128x2048, .i32⟩
  | .hbm, ⟨46, _⟩ => ⟨S128x2048, .i32⟩
  | .hbm, ⟨47, _⟩ => ⟨S128x2048, .i1⟩
  | .hbm, ⟨48, _⟩ => ⟨S128x2048, .bf16⟩
  | .hbm, ⟨49, _⟩ => ⟨S4x3072, .f32⟩
  | .hbm, ⟨50, _⟩ => ⟨S1x3072, .f32⟩
  | .hbm, ⟨51, _⟩ => ⟨S1x32, .f32⟩
  | .hbm, ⟨52, _⟩ => ⟨S_, .i32⟩
  | .hbm, ⟨53, _⟩ => ⟨S_, .f32⟩
  | .hbm, ⟨54, _⟩ => ⟨S1x128, .f32⟩
  | .hbm, ⟨55, _⟩ => ⟨S1x32, .f32⟩
  | .hbm, ⟨56, _⟩ => ⟨S_, .i32⟩
  | .hbm, ⟨57, _⟩ => ⟨S_, .f32⟩
  | .hbm, ⟨58, _⟩ => ⟨S1x128, .f32⟩
  | .hbm, ⟨59, _⟩ => ⟨S32x64, .f32⟩
  | .hbm, ⟨60, _⟩ => ⟨S2048, .f32⟩
  | .hbm, ⟨61, _⟩ => ⟨S1x2048, .f32⟩
  | .hbm, ⟨62, _⟩ => ⟨S1x2048, .f32⟩
  | .hbm, ⟨63, _⟩ => ⟨S16384x2048, .f32⟩
  | .local _ .vmem, ⟨0, _⟩ => ⟨S128x3072, .f32⟩
  | .local _ .vmem, ⟨1, _⟩ => ⟨S128x3072, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x128, .bf16⟩
  | .local _ .vmem, ⟨13, _⟩ => ⟨S128x2048, .bf16⟩
  | .local _ .vmem, ⟨14, _⟩ => ⟨S128x2048, .f32⟩
  | .local _ .vmem, ⟨15, _⟩ => ⟨S128x2048, .f32⟩
  | .local _ .vmem, ⟨16, _⟩ => ⟨S136x3072, .f32⟩
  | .local _ .vmem, ⟨17, _⟩ => ⟨S128x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_1 : Ref sig .tc := ⟨.hbm, 52, rfl⟩
abbrev main_call2_v0 : Ref sig .tc := ⟨.hbm, 53, rfl⟩
abbrev main_v24 : Ref sig .tc := ⟨.hbm, 54, rfl⟩
abbrev main_v25 : Ref sig .tc := ⟨.hbm, 55, rfl⟩
abbrev main_c_2 : Ref sig .tc := ⟨.hbm, 56, rfl⟩
abbrev main_call3_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x8192x2048 : Shape := ⟨3, ![2, 8192, 2048]⟩
abbrev S2x8192x3072 : Shape := ⟨3, ![2, 8192, 3072]⟩
abbrev S2x8192x32 : Shape := ⟨3, ![2, 8192, 32]⟩
abbrev S4x1x3072 : Shape := ⟨3, ![4, 1, 3072]⟩
abbrev S3072 : Shape := ⟨1, ![3072]⟩
abbrev S32 : Shape := ⟨1, ![32]⟩
abbrev S2048 : Shape := ⟨1, ![2048]⟩
abbrev S_ : Shape := ⟨0, ![]⟩
abbrev S2x8195x3072 : Shape := ⟨3, ![2, 8195, 3072]⟩
abbrev S1x1x3072 : Shape := ⟨3, ![1, 1, 3072]⟩
abbrev S2x8192x512 : Shape := ⟨3, ![2, 8192, 512]⟩
abbrev S2x8192x32x64 : Shape := ⟨4, ![2, 8192, 32, 64]⟩
abbrev S2x8192x4x128 : Shape := ⟨4, ![2, 8192, 4, 128]⟩
abbrev S1x1x32 : Shape := ⟨3, ![1, 1, 32]⟩
abbrev S2x8192x32x1 : Shape := ⟨4, ![2, 8192, 32, 1]⟩
abbrev S2x64x128x4x8x64 : Shape := ⟨6, ![2, 64, 128, 4, 8, 64]⟩
abbrev S2x64x128x4x8 : Shape := ⟨5, ![2, 64, 128, 4, 8]⟩
abbrev S2x64x128x4x128 : Shape := ⟨5, ![2, 64, 128, 4, 128]⟩
abbrev S128x128 : Shape := ⟨2, ![128, 128]⟩
abbrev S2x64x128x1x4x8 : Shape := ⟨6, ![2, 64, 128, 1, 4, 8]⟩
abbrev S2x64x1x128x4x8 : Shape := ⟨6, ![2, 64, 1, 128, 4, 8]⟩
abbrev S2x64x128x128x4x8 : Shape := ⟨6, ![2, 64, 128, 128, 4, 8]⟩
abbrev S1x1x128x128x1x1 : Shape := ⟨6, ![1, 1, 128, 128, 1, 1]⟩
abbrev S2x64x4x128x128 : Shape := ⟨5, ![2, 64, 4, 128, 128]⟩
abbrev S2x64x128x128x4 : Shape := ⟨5, ![2, 64, 128, 128, 4]⟩
abbrev S2x64x128x128x4x1 : Shape := ⟨6, ![2, 64, 128, 128, 4, 1]⟩
abbrev S2x64x4x8x64x128 : Shape := ⟨6, ![2, 64, 4, 8, 64, 128]⟩
abbrev S2x64x1x4x8 : Shape := ⟨5, ![2, 64, 1, 4, 8]⟩
abbrev S2x64x128x4x8x1 : Shape := ⟨6, ![2, 64, 128, 4, 8, 1]⟩
abbrev S2x64x4x8 : Shape := ⟨4, ![2, 64, 4, 8]⟩
abbrev S2x4x8x64x128 : Shape := ⟨5, ![2, 4, 8, 64, 128]⟩
abbrev S64x2x4x8x64x128 : Shape := ⟨6, ![64, 2, 4, 8, 64, 128]⟩
abbrev S64x2x4x8 : Shape := ⟨4, ![64, 2, 4, 8]⟩
abbrev S1x2x4x8x64x128 : Shape := ⟨6, ![1, 2, 4, 8, 64, 128]⟩
abbrev S1x2x4x8 : Shape := ⟨4, ![1, 2, 4, 8]⟩
abbrev S2x4x8 : Shape := ⟨3, ![2, 4, 8]⟩
abbrev S2x4x8x1x1 : Shape := ⟨5, ![2, 4, 8, 1, 1]⟩
abbrev S32x1 : Shape := ⟨2, ![32, 1]⟩
abbrev S1x1x32x1 : Shape := ⟨4, ![1, 1, 32, 1]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 214
  | .vmem => 0
  | .smem => 0
  | _ => 0

abbrev hbmTy0_0 (i : Nat) : BufTy := match i % 128 with
  | 0 => ⟨S2x8192x2048, .f32⟩
  | 1 => ⟨S2x8192x3072, .f32⟩
  | 2 => ⟨S2x8192x32, .f32⟩
  | 3 => ⟨S4x1x3072, .f32⟩
  | 4 => ⟨S3072, .f32⟩
  | 5 => ⟨S32, .f32⟩
  | 6 => ⟨S32, .f32⟩
  | 7 => ⟨S32, .f32⟩
  | 8 => ⟨S2048, .f32⟩
  | 9 => ⟨S_, .i32⟩
  | 10 => ⟨S_, .f32⟩
  | 11 => ⟨S2x8195x3072, .f32⟩
  | 12 => ⟨S2x8192x3072, .f32⟩
  | 13 => ⟨S1x1x3072, .f32⟩
  | 14 => ⟨S3072, .f32⟩
  | 15 => ⟨S1x1x3072, .f32⟩
  | 16 => ⟨S2x8192x3072, .f32⟩
  | 17 => ⟨S2x8192x3072, .f32⟩
  | 18 => ⟨S_, .f32⟩
  | 19 => ⟨S2x8192x3072, .f32⟩
  | 20 => ⟨S2x8192x3072, .f32⟩
  | 21 => ⟨S2x8192x3072, .f32⟩
  | 22 => ⟨S1x1x3072, .f32⟩
  | 23 => ⟨S3072, .f32⟩
  | 24 => ⟨S1x1x3072, .f32⟩
  | 25 => ⟨S2x8192x3072, .f32⟩
  | 26 => ⟨S2x8192x3072, .f32⟩
  | 27 => ⟨S2x8192x3072, .f32⟩
  | 28 => ⟨S2x8192x3072, .f32⟩
  | 29 => ⟨S1x1x3072, .f32⟩
  | 30 => ⟨S3072, .f32⟩
  | 31 => ⟨S1x1x3072, .f32⟩
  | 32 => ⟨S2x8192x3072, .f32⟩
  | 33 => ⟨S2x8192x3072, .f32⟩
  | 34 => ⟨S2x8192x3072, .f32⟩
  | 35 => ⟨S2x8192x3072, .f32⟩
  | 36 => ⟨S1x1x3072, .f32⟩
  | 37 => ⟨S3072, .f32⟩
  | 38 => ⟨S1x1x3072, .f32⟩
  | 39 => ⟨S2x8192x3072, .f32⟩
  | 40 => ⟨S2x8192x3072, .f32⟩
  | 41 => ⟨S2x8192x3072, .f32⟩
  | 42 => ⟨S1x1x3072, .f32⟩
  | 43 => ⟨S2x8192x3072, .f32⟩
  | 44 => ⟨S2x8192x3072, .f32⟩
  | 45 => ⟨S2x8192x3072, .f32⟩
  | 46 => ⟨S2x8192x3072, .f32⟩
  | 47 => ⟨S_, .f32⟩
  | 48 => ⟨S2x8192x3072, .f32⟩
  | 49 => ⟨S2x8192x3072, .f32⟩
  | 50 => ⟨S_, .f32⟩
  | 51 => ⟨S2x8192x3072, .f32⟩
  | 52 => ⟨S2x8192x3072, .f32⟩
  | 53 => ⟨S2x8192x3072, .f32⟩
  | 54 => ⟨S2x8192x2048, .f32⟩
  | 55 => ⟨S2x8192x512, .f32⟩
  | 56 => ⟨S2x8192x512, .f32⟩
  | 57 => ⟨S2x8192x32x64, .f32⟩
  | 58 => ⟨S2x8192x4x128, .f32⟩
  | 59 => ⟨S2x8192x4x128, .f32⟩
  | 60 => ⟨S1x1x32, .f32⟩
  | 61 => ⟨S2x8192x32, .f32⟩
  | 62 => ⟨S2x8192x32, .f32⟩
  | 63 => ⟨S_, .f32⟩
  | 64 => ⟨S2x8192x32, .f32⟩
  | 65 => ⟨S2x8192x32, .f32⟩
  | 66 => ⟨S2x8192x32, .f32⟩
  | 67 => ⟨S2x8192x32, .f32⟩
  | 68 => ⟨S2x8192x32, .i1⟩
  | 69 => ⟨S2x8192x32, .f32⟩
  | 70 => ⟨S2x8192x32, .f32⟩
  | 71 => ⟨S2x8192x32, .f32⟩
  | 72 => ⟨S2x8192x32, .f32⟩
  | 73 => ⟨S2x8192x32, .f32⟩
  | 74 => ⟨S2x8192x32, .f32⟩
  | 75 => ⟨S2x8192x32, .f32⟩
  | 76 => ⟨S2x8192x32, .f32⟩
  | 77 => ⟨S32, .f32⟩
  | 78 => ⟨S32, .f32⟩
  | 79 => ⟨S2x8192x32x1, .f32⟩
  | 80 => ⟨S2x8192x32x64, .f32⟩
  | 81 => ⟨S2x8192x32x64, .f32⟩
  | 82 => ⟨S2x64x128x4x8x64, .f32⟩
  | 83 => ⟨S1x1x32, .f32⟩
  | 84 => ⟨S2x8192x32, .f32⟩
  | 85 => ⟨S2x8192x32, .f32⟩
  | 86 => ⟨S2x64x128x4x8, .f32⟩
  | 87 => ⟨S2x64x128x4x128, .f32⟩
  | 88 => ⟨S2x64x128x4x128, .f32⟩
  | 89 => ⟨S_, .f32⟩
  | 90 => ⟨S_, .f32⟩
  | 91 => ⟨S2x64x128x4x8, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S2x64x128x1x4x8, .f32⟩
  | 104 => ⟨S2x64x1x128x4x8, .f32⟩
  | 105 => ⟨S2x64x128x128x4x8, .f32⟩
  | 106 => ⟨S2x64x128x128x4x8, .f32⟩
  | 107 => ⟨S2x64x128x128x4x8, .f32⟩
  | 108 => ⟨S1x1x128x128x1x1, .i1⟩
  | 109 => ⟨S_, .f32⟩
  | 110 => ⟨S_, .f32⟩
  | 111 => ⟨S2x64x128x128x4x8, .i1⟩
  | 112 => ⟨S2x64x128x128x4x8, .f32⟩
  | 113 => ⟨S2x64x128x128x4x8, .f32⟩
  | 114 => ⟨S2x64x128x128x4x8, .f32⟩
  | 115 => ⟨S2x64x4x128x128, .f32⟩
  | 116 => ⟨S2x64x128x128x4, .f32⟩
  | 117 => ⟨S2x64x128x128x4x1, .f32⟩
  | 118 => ⟨S2x64x128x128x4x8, .f32⟩
  | 119 => ⟨S2x64x128x128x4x8, .f32⟩
  | 120 => ⟨S2x64x4x8x64x128, .f32⟩
  | 121 => ⟨S2x64x128x4x8x64, .f32⟩
  | 122 => ⟨S2x64x1x4x8, .f32⟩
  | 123 => ⟨S2x64x128x4x8, .f32⟩
  | 124 => ⟨S2x64x128x4x8, .f32⟩
  | 125 => ⟨S2x64x128x4x8, .f32⟩
  | 126 => ⟨S2x64x128x4x8x1, .f32⟩
  | 127 => ⟨S2x64x128x4x8x64, .f32⟩
  | _ => ⟨S2x8192x2048, .f32⟩

abbrev hbmTy0_1 (i : Nat) : BufTy := match i % 128 with
  | 0 => ⟨S2x64x128x4x8x64, .f32⟩
  | 1 => ⟨S2x64x4x8x64x128, .f32⟩
  | 2 => ⟨S2x64x1x4x8, .f32⟩
  | 3 => ⟨S2x64x4x8, .f32⟩
  | 4 => ⟨S2x64x4x8, .f32⟩
  | 5 => ⟨S_, .f32⟩
  | 6 => ⟨S2x4x8x64x128, .f32⟩
  | 7 => ⟨S64x2x4x8x64x128, .f32⟩
  | 8 => ⟨S64x2x4x8, .f32⟩
  | 9 => ⟨S_, .f32⟩
  | 10 => ⟨S64x2x4x8x64x128, .f32⟩
  | 11 => ⟨S_, .i32⟩
  | 12 => ⟨S64x2x4x8x64x128, .f32⟩
  | 13 => ⟨S64x2x4x8, .f32⟩
  | 14 => ⟨S_, .i32⟩
  | 15 => ⟨S2x4x8x64x128, .f32⟩
  | 16 => ⟨S64x2x4x8x64x128, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S1x2x4x8x64x128, .f32⟩
  | 25 => ⟨S2x4x8x64x128, .f32⟩
  | 26 => ⟨S_, .i32⟩
  | 27 => ⟨S_, .i32⟩
  | 28 => ⟨S_, .i32⟩
  | 29 => ⟨S1x2x4x8, .f32⟩
  | 30 => ⟨S2x4x8, .f32⟩
  | 31 => ⟨S2x4x8x1x1, .f32⟩
  | 32 => ⟨S2x4x8x64x128, .f32⟩
  | 33 => ⟨S2x4x8x64x128, .f32⟩
  | 34 => ⟨S2x4x8x64x128, .f32⟩
  | 35 => ⟨S1x2x4x8x64x128, .f32⟩
  | 36 => ⟨S_, .i32⟩
  | 37 => ⟨S_, .i32⟩
  | 38 => ⟨S_, .i32⟩
  | 39 => ⟨S_, .i32⟩
  | 40 => ⟨S_, .i32⟩
  | 41 => ⟨S64x2x4x8x64x128, .f32⟩
  | 42 => ⟨S_, .i32⟩
  | 43 => ⟨S_, .i32⟩
  | 44 => ⟨S2x64x4x8x64x128, .f32⟩
  | 45 => ⟨S2x64x4x8x64x128, .f32⟩
  | 46 => ⟨S2x64x128x4x8x64, .f32⟩
  | 47 => ⟨S2x64x128x4x8, .f32⟩
  | 48 => ⟨S2x64x128x4x8x1, .f32⟩
  | 49 => ⟨S2x64x128x4x8x64, .f32⟩
  | 50 => ⟨S2x64x128x4x8x64, .f32⟩
  | 51 => ⟨S2x64x128x4x8x64, .f32⟩
  | 52 => ⟨S2x8192x32x64, .f32⟩
  | 53 => ⟨S32x1, .f32⟩
  | 54 => ⟨S1x1x32x1, .f32⟩
  | 55 => ⟨S2x8192x32x64, .f32⟩
  | 56 => ⟨S2x8192x32x64, .f32⟩
  | 57 => ⟨S2x8192x32x64, .f32⟩
  | 58 => ⟨S2x8192x2048, .f32⟩
  | 59 => ⟨S2x8192x2048, .f32⟩
  | 60 => ⟨S2x8192x2048, .f32⟩
  | 61 => ⟨S_, .f32⟩
  | 62 => ⟨S2x8192x2048, .f32⟩
  | 63 => ⟨S2x8192x2048, .f32⟩
  | 64 => ⟨S_, .f32⟩
  | 65 => ⟨S2x8192x2048, .f32⟩
  | 66 => ⟨S2x8192x2048, .f32⟩
  | 67 => ⟨S2x8192x2048, .f32⟩
  | 68 => ⟨S2x8192x2048, .f32⟩
  | 69 => ⟨S2x8192x2048, .f32⟩
  | 70 => ⟨S_, .f32⟩
  | 71 => ⟨S2x8192, .f32⟩
  | 72 => ⟨S2x8192x1, .f32⟩
  | 73 => ⟨S_, .f32⟩
  | 74 => ⟨S2x8192x1, .f32⟩
  | 75 => ⟨S2x8192x1, .f32⟩
  | 76 => ⟨S_, .f32⟩
  | 77 => ⟨S2x8192x1, .f32⟩
  | 78 => ⟨S2x8192x1, .f32⟩
  | 79 => ⟨S2x8192x1, .f32⟩
  | 80 => ⟨S2x8192x2048, .f32⟩
  | 81 => ⟨S2x8192x2048, .f32⟩
  | 82 => ⟨S1x1x2048, .f32⟩
  | 83 => ⟨S2x8192x2048, .f32⟩
  | 84 => ⟨S2x8192x2048, .f32⟩
  | 85 => ⟨S16384x2048, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_call3_call0_cst : Ref sig .tc := ⟨.hbm, 89, rfl⟩
abbrev main_call3_call0_v0 : Ref sig .tc := ⟨.hbm, 90, rfl⟩
abbrev main_v56 : Ref sig .tc := ⟨.hbm, 91, rfl⟩
abbrev main_c_0 : Ref sig .tc := ⟨.hbm, 92, rfl⟩
abbrev main_v57 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_c_0 : Ref sig .tc := ⟨.hbm, 100, rfl⟩
abbrev main_call4_v5 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_1 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_2 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_3 : Ref sig .tc := ⟨.hbm, 137, rfl⟩
abbrev main_v88 : Ref sig .tc := ⟨.hbm, 138, rfl⟩
abbrev main_c_4 : Ref sig .tc := ⟨.hbm, 139, rfl⟩
abbrev main_v89_0 : Ref sig .tc := ⟨.hbm, 140, rfl⟩
abbrev main_v89_1 : Ref sig .tc := ⟨.hbm, 141, rfl⟩
abbrev main_v89_2 : Ref sig .tc := ⟨.hbm, 142, rfl⟩
abbrev main_v89_3 : Ref sig .tc := ⟨.hbm, 143, rfl⟩
abbrev main_v89_4 : Ref sig .tc := ⟨.hbm, 144, rfl⟩
abbrev main_while0c_c_12 : Ref sig .tc := ⟨.hbm, 145, rfl⟩
abbrev main_while0c_v121 : Ref sig .tc := ⟨.hbm, 146, rfl⟩
abbrev main_while0b_call6_c : Ref sig .tc := ⟨.hbm, 147, rfl⟩
abbrev main_while0b_call6_c_0 : Ref sig .tc := ⟨.hbm, 148, rfl⟩
abbrev main_while0b_call6_c_1 : Ref sig .tc := ⟨.hbm, 149, rfl⟩
abbrev main_while0b_call6_c_2 : Ref sig .tc := ⟨.hbm, 150, rfl⟩
abbrev main_while0b_call6_c_3 : Ref sig .tc := ⟨.hbm, 151, rfl⟩
abbrev main_while0b_call6_v0 : Ref sig .tc := ⟨.hbm, 152, rfl⟩
abbrev main_while0b_v121 : Ref sig .tc := ⟨.hbm, 153, rfl⟩
abbrev main_while0b_call7_c : Ref sig .tc := ⟨.hbm, 154, rfl⟩
abbrev main_while0b_call7_c_0 : Ref sig .tc := ⟨.hbm, 155, rfl⟩
abbrev main_while0b_call7_c_1 : Ref sig .tc := ⟨.hbm, 156, rfl⟩
abbrev main_while0b_call7_v0 : Ref sig .tc := ⟨.hbm, 157, rfl⟩
abbrev main_while0b_v122 : Ref sig .tc := ⟨.hbm, 158, rfl⟩
abbrev main_while0b_v123 : Ref sig .tc := ⟨.hbm, 159, rfl⟩
abbrev main_while0b_v124 : Ref sig .tc := ⟨.hbm, 160, rfl⟩
abbrev main_while0b_v125 : Ref sig .tc := ⟨.hbm, 161, rfl⟩
abbrev main_while0b_v126 : Ref sig .tc := ⟨.hbm, 162, rfl⟩
abbrev main_while0b_call8_v0 : Ref sig .tc := ⟨.hbm, 163, rfl⟩
abbrev main_while0b_call8_c : Ref sig .tc := ⟨.hbm, 164, rfl⟩
abbrev main_while0b_call8_c_0 : Ref sig .tc := ⟨.hbm, 165, rfl⟩
abbrev main_while0b_call8_c_1 : Ref sig .tc := ⟨.hbm, 166, rfl⟩
abbrev main_while0b_call8_c_2 : Ref sig .tc := ⟨.hbm, 167, rfl⟩
abbrev main_while0b_call8_c_3 : Ref sig .tc := ⟨.hbm, 168, rfl⟩
abbrev main_while0b_v127 : Ref sig .tc := ⟨.hbm, 169, rfl⟩
abbrev main_while0b_c_12 : Ref sig .tc := ⟨.hbm, 170, rfl⟩
abbrev main_while0b_v128 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_call9_v0 : Ref sig .tc := ⟨.hbm, 187, rfl⟩
abbrev main_call9_v1 : Ref sig .tc := ⟨.hbm, 188, rfl⟩
abbrev main_call9_cst : Ref sig .tc := ⟨.hbm, 189, rfl⟩
abbrev main_call9_v2 : Ref sig .tc := ⟨.hbm, 190, rfl⟩
abbrev main_call9_v3 : Ref sig .tc := ⟨.hbm, 191, rfl⟩
abbrev main_call9_cst_0 : Ref sig .tc := ⟨.hbm, 192, rfl⟩
abbrev main_call9_v4 : Ref sig .tc := ⟨.hbm, 193, rfl⟩
abbrev main_call9_v5 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_cst_5 : Ref sig .tc := ⟨.hbm, 198, rfl⟩
abbrev main_v108 : Ref sig .tc := ⟨.hbm, 199, rfl⟩
abbrev main_v109 : Ref sig .tc := ⟨.hbm, 200, rfl⟩
abbrev main_cst_6 : Ref sig .tc := ⟨.hbm, 201, rfl⟩
abbrev main_v110 : Ref sig .tc := ⟨.hbm, 202, rfl⟩
abbrev main_v111 : Ref sig .tc := ⟨.hbm, 203, rfl⟩
abbrev main_cst_7 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S1024 : Shape := ⟨1, ![1024]⟩
abbrev S1024x9060 : Shape := ⟨2, ![1024, 9060]⟩
abbrev S1024x2048 : Shape := ⟨2, ![1024, 2048]⟩
abbrev S1024x3072 : Shape := ⟨2, ![1024, 3072]⟩
abbrev S1024x32 : Shape := ⟨2, ![1024, 32]⟩
abbrev S1024x1860 : Shape := ⟨2, ![1024, 1860]⟩
abbrev S16384x1024 : Shape := ⟨2, ![16384, 1024]⟩
abbrev S1x1024 : Shape := ⟨2, ![1, 1024]⟩
abbrev S_ : Shape := ⟨0, ![]⟩
abbrev S1024x128 : Shape := ⟨2, ![1024, 128]⟩
abbrev S1024x5248 : Shape := ⟨2, ![1024, 5248]⟩
abbrev S16384x2048 : Shape := ⟨2, ![16384, 2048]⟩
abbrev S16384x3072 : Shape := ⟨2, ![16384, 3072]⟩
abbrev S16384x128 : Shape := ⟨2, ![16384, 128]⟩
abbrev S512x1024 : Shape := ⟨2, ![512, 1024]⟩
abbrev S512x2048 : Shape := ⟨2, ![512, 2048]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9060, .f32⟩
  | .hbm, ⟨3, _⟩ => ⟨S1024x2048, .f32⟩
  | .hbm, ⟨4, _⟩ => ⟨S1024x3072, .f32⟩
  | .hbm, ⟨5, _⟩ => ⟨S1024x32, .f32⟩
  | .hbm, ⟨6, _⟩ => ⟨S1024x2048, .f32⟩
  | .hbm, ⟨7, _⟩ => ⟨S1024x1860, .f32⟩
  | .hbm, ⟨8, _⟩ => ⟨S16384x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x5248, .f32⟩
  | .hbm, ⟨14, _⟩ => ⟨S1024x5248, .bf16⟩
  | .hbm, ⟨15, _⟩ => ⟨S16384x2048, .f32⟩
  | .hbm, ⟨16, _⟩ => ⟨S16384x3072, .f32⟩
  | .hbm, ⟨17, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5248, .bf16⟩
  | .local _ .vmem, ⟨4, _⟩ => ⟨S512x2048, .f32⟩
  | .local _ .vmem, ⟨5, _⟩ => ⟨S512x2048, .f32⟩
  | .local _ .vmem, ⟨6, _⟩ => ⟨S512x3072, .f32⟩
  | .local _ .vmem, ⟨7, _⟩ => ⟨S512x3072, .f32⟩
  | .local _ .vmem, ⟨8, _⟩ => ⟨S512x128, .f32⟩
  | .local _ .vmem, ⟨9, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024 : Shape := ⟨1, ![1024]⟩
abbrev S1024x9060 : Shape := ⟨2, ![1024, 9060]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x9060 : Shape := ⟨3, ![2, 8192, 9060]⟩
abbrev S2x8192x1860 : Shape := ⟨3, ![2, 8192, 1860]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S2x8192x128 : Shape := ⟨3, ![2, 8192, 128]⟩
abbrev S16384x2048 : Shape := ⟨2, ![16384, 2048]⟩
abbrev S16384x3072 : Shape := ⟨2, ![16384, 3072]⟩
abbrev S16384x128 : Shape := ⟨2, ![16384, 128]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9060, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x9060, .f32⟩
  | .hbm, ⟨20, _⟩ => ⟨S2x8192x1860, .f32⟩
  | .hbm, ⟨21, _⟩ => ⟨S2x8192x2048, .f32⟩
  | .hbm, ⟨22, _⟩ => ⟨S2x8192x3072, .f32⟩
  | .hbm, ⟨23, _⟩ => ⟨S2x8192x32, .f32⟩
  | .hbm, ⟨24, _⟩ => ⟨S2x8192x2048, .f32⟩
  | .hbm, ⟨25, _⟩ => ⟨S_, .i32⟩
  | .hbm, ⟨26, _⟩ => ⟨S_, .f32⟩
  | .hbm, ⟨27, _⟩ => ⟨S2x8192x128, .f32⟩
  | .hbm, ⟨28, _⟩ => ⟨S16384x2048, .f32⟩
  | .hbm, ⟨29, _⟩ => ⟨S16384x3072, .f32⟩
  | .hbm, ⟨30, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x9060 : Shape := ⟨2, ![1024, 9060]⟩
abbrev S1024x2048 : Shape := ⟨2, ![1024, 2048]⟩
abbrev S1024x3072 : Shape := ⟨2, ![1024, 3072]⟩
abbrev S1024x32 : Shape := ⟨2, ![1024, 32]⟩
abbrev S1024x1860 : Shape := ⟨2, ![1024, 1860]⟩
abbrev S16384x1024 : Shape := ⟨2, ![16384, 1024]⟩
abbrev S1x1024 : Shape := ⟨2, ![1, 1024]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 6
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9060, .f32⟩
  | .hbm, ⟨3, _⟩ => ⟨S1024x2048, .f32⟩
  | .hbm, ⟨4, _⟩ => ⟨S1024x3072, .f32⟩
  | .hbm, ⟨5, _⟩ => ⟨S1024x32, .f32⟩
  | .hbm, ⟨6, _⟩ => ⟨S1024x2048, .f32⟩
  | .hbm, ⟨7, _⟩ => ⟨S1024x1860, .f32⟩
  | .hbm, ⟨8, _⟩ => ⟨S16384x1024, .f32⟩
  | .hbm, ⟨9, _⟩ => ⟨S1x1024, .f32⟩
  | .hbm, ⟨10, _⟩ => ⟨S1024x2048, .bf16⟩
  | .hbm, ⟨11, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x8192x1024 : Shape := ⟨3, ![2, 8192, 1024]⟩
abbrev S1024 : Shape := ⟨1, ![1024]⟩
abbrev S1024x9060 : Shape := ⟨2, ![1024, 9060]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x9060 : Shape := ⟨3, ![2, 8192, 9060]⟩
abbrev S2x8192x1860 : Shape := ⟨3, ![2, 8192, 1860]⟩
abbrev S2x8192x2048 : Shape := ⟨3, ![2, 8192, 2048]⟩
abbrev S2x8192x3072 : Shape := ⟨3, ![2, 8192, 3072]⟩
abbrev S2x8192x32 : Shape := ⟨3, ![2, 8192, 32]⟩
abbrev S16384x2048 : Shape := ⟨2, ![16384, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x9060, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x9060, .f32⟩
  | .hbm, ⟨20, _⟩ => ⟨S2x8192x1860, .f32⟩
  | .hbm, ⟨21, _⟩ => ⟨S2x8192x2048, .f32⟩
  | .hbm, ⟨22, _⟩ => ⟨S2x8192x3072, .f32⟩
  | .hbm, ⟨23, _⟩ => ⟨S2x8192x32, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192x2048, .f32⟩
  | .hbm, ⟨29, _⟩ => ⟨S2x8192x2048, .f32⟩
  | .hbm, ⟨30, _⟩ => ⟨S_, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x8192x2048 : Shape := ⟨3, ![2, 8192, 2048]⟩
abbrev S2x8192x2x1024 : Shape := ⟨4, ![2, 8192, 2, 1024]⟩
abbrev S2x256x2048 : Shape := ⟨3, ![2, 256, 2048]⟩
abbrev S1024x1024 : Shape := ⟨2, ![1024, 1024]⟩
abbrev S2048x1024 : Shape := ⟨2, ![2048, 1024]⟩
abbrev S1024 : Shape := ⟨1, ![1024]⟩
abbrev S16384x1024 : Shape := ⟨2, ![16384, 1024]⟩
abbrev S16384x2048 : Shape := ⟨2, ![16384, 2048]⟩
abbrev S1x1024 : Shape := ⟨2, ![1, 1024]⟩
abbrev S512x2048 : Shape := ⟨2, ![512, 2048]⟩
abbrev S1024x16384 : Shape := ⟨2, ![1024, 16384]⟩
abbrev S256x1024 : Shape := ⟨2, ![256, 1024]⟩
abbrev S256x2048 : Shape := ⟨2, ![256, 2048]⟩
abbrev S1024x256 : Shape := ⟨2, ![1024, 256]⟩
abbrev S256 : Shape := ⟨1, ![256]⟩
abbrev S256x1 : Shape := ⟨2, ![256, 1]⟩
abbrev S256x256 : Shape := ⟨2, ![256, 256]⟩

abbrev nBuf : Space → Nat
  | .hbm => 29
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x2048, .f32⟩
  | .hbm, ⟨3, _⟩ => ⟨S2x8192x2x1024, .f32⟩
  | .hbm, ⟨4, _⟩ => ⟨S2x256x2048, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x2048, .f32⟩
  | .hbm, ⟨16, _⟩ => ⟨S16384x2048, .f32⟩
  | .hbm, ⟨17, _⟩ => ⟨S1024x1024, .bf16⟩
  | .hbm, ⟨18, _⟩ => ⟨S2048x1024, .bf16⟩
  | .hbm, ⟨19, _⟩ => ⟨S1024x1024, .bf16⟩
  | .hbm, ⟨20, _⟩ => ⟨S1x1024, .f32⟩
  | .hbm, ⟨21, _⟩ => ⟨S1024x1024, .bf16⟩
  | .hbm, ⟨22, _⟩ => ⟨S512x2048, .f32⟩
  | .hbm, ⟨23, _⟩ => ⟨S512x2048, .bf16⟩
  | .hbm, ⟨24, _⟩ => ⟨S1024x1024, .bf16⟩
  | .hbm, ⟨25, _⟩ => ⟨S1x1024, .f32⟩
  | .hbm, ⟨26, _⟩ => ⟨S16384x1024, .f32⟩
  | .hbm, ⟨27, _⟩ => ⟨S16384x1024, .bf16⟩
  | .hbm, ⟨28, _⟩ => ⟨S1024x16384, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S256x2048, .bf16⟩
  | .local _ .vmem, ⟨14, _⟩ => ⟨S256x2048, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1024x256, .bf16⟩
  | .local _ .vmem, ⟨22, _⟩ => ⟨S1024x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S2x8192x1024 : Shape := ⟨3, ![2, 8192, 1024]⟩
abbrev S2x8192x2048 : Shape := ⟨3, ![2, 8192, 2048]⟩
abbrev S2x8192x2x1024 : Shape := ⟨4, ![2, 8192, 2, 1024]⟩
abbrev S2x256x2048 : Shape := ⟨3, ![2, 256, 2048]⟩
abbrev S1024x1024 : Shape := ⟨2, ![1024, 1024]⟩
abbrev S2048x1024 : Shape := ⟨2, ![2048, 1024]⟩
abbrev S1024 : Shape := ⟨1, ![1024]⟩
abbrev S2x8192x1x1024 : Shape := ⟨4, ![2, 8192, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S16384x1024 : Shape := ⟨2, ![16384, 1024]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x2048, .f32⟩
  | .hbm, ⟨3, _⟩ => ⟨S2x8192x2x1024, .f32⟩
  | .hbm, ⟨4, _⟩ => ⟨S2x256x2048, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S2x8192x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x1024, .f32⟩
  | .hbm, ⟨35, _⟩ => ⟨S2x8192x1024, .f32⟩
  | .hbm, ⟨36, _⟩ => ⟨S1x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x4x256, .f32⟩
  | .hbm, ⟨41, _⟩ => ⟨S2x256x1024, .f32⟩
  | .hbm, ⟨42, _⟩ => ⟨S2x256x1024, .f32⟩
  | .hbm, ⟨43, _⟩ => ⟨S2x256x4x256, .f32⟩
  | .hbm, ⟨44, _⟩ => ⟨S2x256x4x256, .f32⟩
  | .hbm, ⟨45, _⟩ => ⟨S2x4x8192x256, .f32⟩
  | .hbm, ⟨46, _⟩ => ⟨S_, .f32⟩
  | .hbm, ⟨47, _⟩ => ⟨S2x4x8192x256, .f32⟩
  | .hbm, ⟨48, _⟩ => ⟨S2x4x8192x256, .f32⟩
  | .hbm, ⟨49, _⟩ => ⟨S_, .f32⟩
  | .hbm, ⟨50, _⟩ => ⟨S2x4x8192, .f32⟩
  | .hbm, ⟨51, _⟩ => ⟨S_, .f32⟩
  | .hbm, ⟨52, _⟩ => ⟨S2x4x8192, .f32⟩
  | .hbm, ⟨53, _⟩ => ⟨S2x4x8192, .f32⟩
  | .hbm, ⟨54, _⟩ => ⟨S2x4x8192x1, .f32⟩
  | .hbm, ⟨55, _⟩ => ⟨S2x4x8192x256, .f32⟩
  | .hbm, ⟨56, _⟩ => ⟨S2x4x8192x256, .f32⟩
  | .hbm, ⟨57, _⟩ => ⟨S2x4x8192x256, .f32⟩
  | .hbm, ⟨58, _⟩ => ⟨S_, .f32⟩
  | .hbm, ⟨59, _⟩ => ⟨S2x4x8192, .f32⟩
  | .hbm, ⟨60, _⟩ => ⟨S2x4x8192x1, .f32⟩
  | .hbm, ⟨61, _⟩ => ⟨S2x4x8192x256, .f32⟩
  | .hbm, ⟨62, _⟩ => ⟨S2x4x8192x256, .f32⟩
  | .hbm, ⟨63, _⟩ => ⟨S2x4x256x8192, .f32⟩
  | .hbm, ⟨64, _⟩ => ⟨S2x8192x4x256, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S16384x1, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .bf16⟩
  | .hbm, ⟨86, _⟩ => ⟨S1024x16384, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel5.lean ====
abbrev S2x256x1024 : Shape := ⟨3, ![2, 256, 1024]⟩
abbrev S1024 : Shape := ⟨1, ![1024]⟩
abbrev S1024x2048 : Shape := ⟨2, ![1024, 2048]⟩
abbrev S512x1024 : Shape := ⟨2, ![512, 1024]⟩
abbrev S1x1024 : Shape := ⟨2, ![1, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S512x1024, .f32⟩
  | .hbm, ⟨4, _⟩ => ⟨S1x1024, .f32⟩
  | .hbm, ⟨5, _⟩ => ⟨S1024x2048, .bf16⟩
  | .hbm, ⟨6, _⟩ => ⟨S512x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .bf16⟩
  | .local _ .vmem, ⟨5, _⟩ => ⟨S256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2x256x1024 : Shape := ⟨3, ![2, 256, 1024]⟩
abbrev S1024 : Shape := ⟨1, ![1024]⟩
abbrev S1024x2048 : Shape := ⟨2, ![1024, 2048]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S512x2048 : Shape := ⟨2, ![512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .f32⟩
  | .hbm, ⟨3, _⟩ => ⟨S2x256x1024, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x1024, .f32⟩
  | .hbm, ⟨15, _⟩ => ⟨S2x256x1024, .f32⟩
  | .hbm, ⟨16, _⟩ => ⟨S1x1x1024, .f32⟩
  | .hbm, ⟨17, _⟩ => ⟨S2x256x1024, .f32⟩
  | .hbm, ⟨18, _⟩ => ⟨S2x256x1024, .f32⟩
  | .hbm, ⟨19, _⟩ => ⟨S2x256x2048, .f32⟩
  | .hbm, ⟨20, _⟩ => ⟨S512x2048, .f32⟩
  | .hbm, ⟨21, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x8192 : Shape := ⟨2, ![2, 8192]⟩
abbrev S1024 : Shape := ⟨1, ![1024]⟩
abbrev S1024x9060 : Shape := ⟨2, ![1024, 9060]⟩
abbrev S1024x2048 : Shape := ⟨2, ![1024, 2048]⟩
abbrev S1024x3072 : Shape := ⟨2, ![1024, 3072]⟩
abbrev S1024x32 : Shape := ⟨2, ![1024, 32]⟩
abbrev S1024x1860 : Shape := ⟨2, ![1024, 1860]⟩
abbrev S16384x1024 : Shape := ⟨2, ![16384, 1024]⟩
abbrev S1x1024 : Shape := ⟨2, ![1, 1024]⟩
abbrev S16384x1 : Shape := ⟨2, ![16384, 1]⟩
abbrev S1024x1024 : Shape := ⟨2, ![1024, 1024]⟩
abbrev S1024x256 : Shape := ⟨2, ![1024, 256]⟩
abbrev S1024x64 : Shape := ⟨2, ![1024, 64]⟩
abbrev S1024x4 : Shape := ⟨2, ![1024, 4]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S1024x128 : Shape := ⟨2, ![1024, 128]⟩
abbrev S1024x2304 : Shape := ⟨2, ![1024, 2304]⟩
abbrev S16 : Shape := ⟨1, ![16]⟩
abbrev S128 : Shape := ⟨1, ![128]⟩
abbrev S32 : Shape := ⟨1, ![32]⟩
abbrev S1 : Shape := ⟨1, ![1]⟩
abbrev S8 : Shape := ⟨1, ![8]⟩
abbrev S1x128 : Shape := ⟨2, ![1, 128]⟩
abbrev S4x128 : Shape := ⟨2, ![4, 128]⟩
abbrev S1024x16384 : Shape := ⟨2, ![1024, 16384]⟩
abbrev S16384x256 : Shape := ⟨2, ![16384, 256]⟩
abbrev S32x256x512 : Shape := ⟨3, ![32, 256, 512]⟩
abbrev S512x16384 : Shape := ⟨2, ![512, 16384]⟩
abbrev S16384x128 : Shape := ⟨2, ![16384, 128]⟩
abbrev S8x16384 : Shape := ⟨2, ![8, 16384]⟩
abbrev S512x1024 : Shape := ⟨2, ![512, 1024]⟩
abbrev S512x1 : Shape := ⟨2, ![512, 1]⟩
abbrev S512x256 : Shape := ⟨2, ![512, 256]⟩
abbrev S1x256x512 : Shape := ⟨3, ![1, 256, 512]⟩
abbrev S512x512 : Shape := ⟨2, ![512, 512]⟩
abbrev S512x128 : Shape := ⟨2, ![512, 128]⟩
abbrev S8x512 : Shape := ⟨2, ![8, 512]⟩
abbrev S512 : Shape := ⟨1, ![512]⟩
abbrev S512x2304 : Shape := ⟨2, ![512, 2304]⟩
abbrev S128x512 : Shape := ⟨2, ![128, 512]⟩
abbrev S1x128x512 : Shape := ⟨3, ![1, 128, 512]⟩

abbrev nBuf : Space → Nat
  | .hbm => 99
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x9060, .f32⟩
  | .hbm, ⟨4, _⟩ => ⟨S1024x2048, .f32⟩
  | .hbm, ⟨5, _⟩ => ⟨S1024x3072, .f32⟩
  | .hbm, ⟨6, _⟩ => ⟨S1024x32, .f32⟩
  | .hbm, ⟨7, _⟩ => ⟨S1024x2048, .f32⟩
  | .hbm, ⟨8, _⟩ => ⟨S1024x1860, .f32⟩
  | .hbm, ⟨9, _⟩ => ⟨S16384x1024, .f32⟩
  | .hbm, ⟨10, _⟩ => ⟨S1x1024, .f32⟩
  | .hbm, ⟨11, _⟩ => ⟨S16384x1, .i32⟩
  | .hbm, ⟨12, _⟩ => ⟨S16384x1, .f32⟩
  | .hbm, ⟨13, _⟩ => ⟨S1024x1024, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x64, .f32⟩
  | .hbm, ⟨18, _⟩ => ⟨S1024x4, .f32⟩
  | .hbm, ⟨19, _⟩ => ⟨S1024x4x64, .f32⟩
  | .hbm, ⟨20, _⟩ => ⟨S_, .i32⟩
  | .hbm, ⟨21, _⟩ => ⟨S_, .f32⟩
  | .hbm, ⟨22, _⟩ => ⟨S1024x4x128, .f32⟩
  | .hbm, ⟨23, _⟩ => ⟨S1024x512, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x2304, .f32⟩
  | .hbm, ⟨31, _⟩ => ⟨S1024x2304, .bf16⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S128, .f32⟩
  | .hbm, ⟨44, _⟩ => ⟨S32, .f32⟩
  | .hbm, ⟨45, _⟩ => ⟨S_, .i32⟩
  | .hbm, ⟨46, _⟩ => ⟨S1, .i32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S_, .i32⟩
  | .hbm, ⟨51, _⟩ => ⟨S1, .i32⟩
  | .hbm, ⟨52, _⟩ => ⟨S_, .f32⟩
  | .hbm, ⟨53, _⟩ => ⟨S16, .f32⟩
  | .hbm, ⟨54, _⟩ => ⟨S128, .f32⟩
  | .hbm, ⟨55, _⟩ => ⟨S_, .i32⟩
  | .hbm, ⟨56, _⟩ => ⟨S1, .i32⟩
  | .hbm, ⟨57, _⟩ => ⟨S_, .f32⟩
  | .hbm, ⟨58, _⟩ => ⟨S16, .f32⟩
  | .hbm, ⟨59, _⟩ => ⟨S128, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S128, .f32⟩
  | .hbm, ⟨72, _⟩ => ⟨S16, .f32⟩
  | .hbm, ⟨73, _⟩ => ⟨S_, .i32⟩
  | .hbm, ⟨74, _⟩ => ⟨S1, .i32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S_, .i32⟩
  | .hbm, ⟨79, _⟩ => ⟨S1, .i32⟩
  | .hbm, ⟨80, _⟩ => ⟨S_, .f32⟩
  | .hbm, ⟨81, _⟩ => ⟨S8, .f32⟩
  | .hbm, ⟨82, _⟩ => ⟨S128, .f32⟩
  | .hbm, ⟨83, _⟩ => ⟨S_, .i32⟩
  | .hbm, ⟨84, _⟩ => ⟨S1, .i32⟩
  | .hbm, ⟨85, _⟩ => ⟨S_, .f32⟩
  | .hbm, ⟨86, _⟩ => ⟨S8, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S4x128, .f32⟩
  | .hbm, ⟨93, _⟩ => ⟨S1024x16384, .bf16⟩
  | .hbm, ⟨94, _⟩ => ⟨S16384x256, .bf16⟩
  | .hbm, ⟨95, _⟩ => ⟨S32x256x512, .bf16⟩
  | .hbm, ⟨96, _⟩ => ⟨S512x16384, .bf16⟩
  | .hbm, ⟨97, _⟩ => ⟨S16384x128, .bf16⟩
  | .hbm, ⟨98, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x1, .f32⟩
  | .local _ .vmem, ⟨5, _⟩ => ⟨S512x1, .f32⟩
  | .local _ .vmem, ⟨6, _⟩ => ⟨S4x128, .f32⟩
  | .local _ .vmem, ⟨7, _⟩ => ⟨S1024x512, .bf16⟩
  | .local _ .vmem, ⟨8, _⟩ => ⟨S1024x512, .bf16⟩
  | .local _ .vmem, ⟨9, _⟩ => ⟨S512x256, .bf16⟩
  | .local _ .vmem, ⟨10, _⟩ => ⟨S512x256, .bf16⟩
  | .local _ .vmem, ⟨11, _⟩ => ⟨S1x256x512, .bf16⟩
  | .local _ .vmem, ⟨12, _⟩ => ⟨S1x256x512, .bf16⟩
  | .local _ .vmem, ⟨13, _⟩ => ⟨S512x512, .bf16⟩
  | .local _ .vmem, ⟨14, _⟩ => ⟨S512x512, .bf16⟩
  | .local _ .vmem, ⟨15, _⟩ => ⟨S512x128, .bf16⟩
  | .local _ .vmem, ⟨16, _⟩ => ⟨S512x128, .bf16⟩
  | .local _ .vmem, ⟨17, _⟩ => ⟨S8x512, .f32⟩
  | .local _ .vmem, ⟨18, _⟩ => ⟨S8x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_call0_v0 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_c_1 : Ref sig .tc := ⟨.hbm, 27, rfl⟩
abbrev main_call2_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_c_9 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_c_15 : Ref sig .tc := ⟨.hbm, 73, rfl⟩
abbrev main_v49 : Ref sig .tc := ⟨.hbm, 74, rfl⟩
abbrev main_v50 : Ref sig .tc := ⟨.hbm, 75, rfl⟩
abbrev main_cst_16 : Ref sig .tc := ⟨.hbm, 76, rfl⟩
abbrev main_v51 : Ref sig .tc := ⟨.hbm, 77, rfl⟩
abbrev main_c_17 : Ref sig .tc := ⟨.hbm, 78, rfl⟩
abbrev main_v52 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_c_19 : Ref sig .tc := ⟨.hbm, 83, rfl⟩
abbrev main_v55 : Ref sig .tc := ⟨.hbm, 84, rfl⟩
abbrev main_cst_20 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63_0 : Ref sig .tc := ⟨.hbm, 93, rfl⟩
abbrev main_v63_1 : Ref sig .tc := ⟨.hbm, 94, rfl⟩
abbrev main_v63_2 : Ref sig .tc := ⟨.hbm, 95, rfl⟩
abbrev main_v63_3 : Ref sig .tc := ⟨.hbm, 96, rfl⟩
abbrev main_v63_4 : Ref sig .tc := ⟨.hbm, 97, rfl⟩
abbrev main_v63_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S2x8192x1024 : Shape := ⟨3, ![2, 8192, 1024]⟩
abbrev S2x8192 : Shape := ⟨2, ![2, 8192]⟩
abbrev S1024 : Shape := ⟨1, ![1024]⟩
abbrev S1024x9060 : Shape := ⟨2, ![1024, 9060]⟩
abbrev S_ : Shape := ⟨0, ![]⟩
abbrev S2x8192x1 : Shape := ⟨3, ![2, 8192, 1]⟩
abbrev S1x1x1024 : Shape := ⟨3, ![1, 1, 1024]⟩
abbrev S2x8192x9060 : Shape := ⟨3, ![2, 8192, 9060]⟩
abbrev S2x8192x256 : Shape := ⟨3, ![2, 8192, 256]⟩
abbrev S2x8192x64 : Shape := ⟨3, ![2, 8192, 64]⟩
abbrev S2x8192x4 : Shape := ⟨3, ![2, 8192, 4]⟩
abbrev S2x8192x7200 : Shape := ⟨3, ![2, 8192, 7200]⟩
abbrev S2x8192x8x128 : Shape := ⟨4, ![2, 8192, 8, 128]⟩
abbrev S16 : Shape := ⟨1, ![16]⟩
abbrev S1x1x16 : Shape := ⟨3, ![1, 1, 16]⟩
abbrev S2x8192x16 : Shape := ⟨3, ![2, 8192, 16]⟩
abbrev S2x8192x1x16 : Shape := ⟨4, ![2, 8192, 1, 16]⟩
abbrev S2x8192x8x16 : Shape := ⟨4, ![2, 8192, 8, 16]⟩
abbrev S2x8192x8x96 : Shape := ⟨4, ![2, 8192, 8, 96]⟩
abbrev S2x8192x2x128 : Shape := ⟨4, ![2, 8192, 2, 128]⟩
abbrev S2x8192x2x16 : Shape := ⟨4, ![2, 8192, 2, 16]⟩
abbrev S2x8192x2x96 : Shape := ⟨4, ![2, 8192, 2, 96]⟩
abbrev S2x8192x4x64 : Shape := ⟨4, ![2, 8192, 4, 64]⟩
abbrev S8 : Shape := ⟨1, ![8]⟩
abbrev S1x1x8 : Shape := ⟨3, ![1, 1, 8]⟩
abbrev S2x8192x8 : Shape := ⟨3, ![2, 8192, 8]⟩
abbrev S2x8192x1x8 : Shape := ⟨4, ![2, 8192, 1, 8]⟩
abbrev S2x8192x4x8 : Shape := ⟨4, ![2, 8192, 4, 8]⟩
abbrev S2x8192x4x48 : Shape := ⟨4, ![2, 8192, 4, 48]⟩
abbrev S2x8192x1x64 : Shape := ⟨4, ![2, 8192, 1, 64]⟩
abbrev S2x8192x1x48 : Shape := ⟨4, ![2, 8192, 1, 48]⟩
abbrev S2x8192x4x128 : Shape := ⟨4, ![2, 8192, 4, 128]⟩
abbrev S2x8192x128 : Shape := ⟨3, ![2, 8192, 128]⟩
abbrev S32x512x256 : Shape := ⟨3, ![32, 512, 256]⟩
abbrev S16384x1024 : Shape := ⟨2, ![16384, 1024]⟩
abbrev S1024x16384 : Shape := ⟨2, ![1024, 16384]⟩
abbrev S16384x256 : Shape := ⟨2, ![16384, 256]⟩
abbrev S32x256x512 : Shape := ⟨3, ![32, 256, 512]⟩
abbrev S16384x512 : Shape := ⟨2, ![16384, 512]⟩
abbrev S512x16384 : Shape := ⟨2, ![512, 16384]⟩
abbrev S16384x128 : Shape := ⟨2, ![16384, 128]⟩
abbrev S16384x8 : Shape := ⟨2, ![16384, 8]⟩
abbrev S8x16384 : Shape := ⟨2, ![8, 16384]⟩

abbrev nBuf : Space → Nat
  | .hbm => 190
  | .vmem => 0
  | .smem => 0
  | _ => 0

abbrev hbmTy0_0 (i : Nat) : BufTy := match i % 128 with
  | 0 => ⟨S2x8192x1024, .f32⟩
  | 1 => ⟨S2x8192, .i32⟩
  | 2 => ⟨S1024, .f32⟩
  | 3 => ⟨S1024x9060, .f32⟩
  | 4 => ⟨S2x8192x1024, .f32⟩
  | 5 => ⟨S_, .f32⟩
  | 6 => ⟨S2x8192, .f32⟩
  | 7 => ⟨S2x8192x1, .f32⟩
  | 8 => ⟨S_, .f32⟩
  | 9 => ⟨S2x8192x1, .f32⟩
  | 10 => ⟨S2x8192x1, .f32⟩
  | 11 => ⟨S_, .f32⟩
  | 12 => ⟨S2x8192x1, .f32⟩
  | 13 => ⟨S2x8192x1, .f32⟩
  | 14 => ⟨S2x8192x1, .f32⟩
  | 15 => ⟨S2x8192x1024, .f32⟩
  | 16 => ⟨S2x8192x1024, .f32⟩
  | 17 => ⟨S1x1x1024, .f32⟩
  | 18 => ⟨S2x8192x1024, .f32⟩
  | 19 => ⟨S2x8192x1024, .f32⟩
  | 20 => ⟨S2x8192x9060, .f32⟩
  | 21 => ⟨S2x8192x1024, .f32⟩
  | 22 => ⟨S2x8192x256, .f32⟩
  | 23 => ⟨S2x8192x256, .f32⟩
  | 24 => ⟨S2x8192x256, .f32⟩
  | 25 => ⟨S2x8192x64, .f32⟩
  | 26 => ⟨S2x8192x4, .f32⟩
  | 27 => ⟨S2x8192x7200, .f32⟩
  | 28 => ⟨S2x8192x8x128, .f32⟩
  | 29 => ⟨S16, .f32⟩
  | 30 => ⟨S_, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2x8192, .f32⟩
  | 40 => ⟨S2x8192x1, .f32⟩
  | 41 => ⟨S1x1x16, .f32⟩
  | 42 => ⟨S2x8192x16, .f32⟩
  | 43 => ⟨S2x8192x16, .f32⟩
  | 44 => ⟨S2x8192x16, .f32⟩
  | 45 => ⟨S2x8192x16, .f32⟩
  | 46 => ⟨S2x8192x1x16, .f32⟩
  | 47 => ⟨S2x8192x16, .f32⟩
  | 48 => ⟨S2x8192x1x16, .f32⟩
  | 49 => ⟨S2x8192x8x16, .f32⟩
  | 50 => ⟨S2x8192x8x16, .f32⟩
  | 51 => ⟨S2x8192x8x16, .f32⟩
  | 52 => ⟨S2x8192x8x16, .f32⟩
  | 53 => ⟨S2x8192x8x16, .f32⟩
  | 54 => ⟨S2x8192x8x16, .f32⟩
  | 55 => ⟨S2x8192x8x16, .f32⟩
  | 56 => ⟨S2x8192x8x16, .f32⟩
  | 57 => ⟨S2x8192x8x16, .f32⟩
  | 58 => ⟨S2x8192x8x16, .f32⟩
  | 59 => ⟨S2x8192x8x16, .f32⟩
  | 60 => ⟨S2x8192x8x16, .f32⟩
  | 61 => ⟨S2x8192x8x96, .f32⟩
  | 62 => ⟨S2x8192x8x128, .f32⟩
  | 63 => ⟨S2x8192x2x128, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S2x8192, .f32⟩
  | 75 => ⟨S2x8192x1, .f32⟩
  | 76 => ⟨S1x1x16, .f32⟩
  | 77 => ⟨S2x8192x16, .f32⟩
  | 78 => ⟨S2x8192x16, .f32⟩
  | 79 => ⟨S2x8192x16, .f32⟩
  | 80 => ⟨S2x8192x16, .f32⟩
  | 81 => ⟨S2x8192x1x16, .f32⟩
  | 82 => ⟨S2x8192x16, .f32⟩
  | 83 => ⟨S2x8192x1x16, .f32⟩
  | 84 => ⟨S2x8192x2x16, .f32⟩
  | 85 => ⟨S2x8192x2x16, .f32⟩
  | 86 => ⟨S2x8192x2x16, .f32⟩
  | 87 => ⟨S2x8192x2x16, .f32⟩
  | 88 => ⟨S2x8192x2x16, .f32⟩
  | 89 => ⟨S2x8192x2x16, .f32⟩
  | 90 => ⟨S2x8192x2x16, .f32⟩
  | 91 => ⟨S2x8192x2x16, .f32⟩
  | 92 => ⟨S2x8192x2x16, .f32⟩
  | 93 => ⟨S2x8192x2x16, .f32⟩
  | 94 => ⟨S2x8192x2x16, .f32⟩
  | 95 => ⟨S2x8192x2x16, .f32⟩
  | 96 => ⟨S2x8192x2x96, .f32⟩
  | 97 => ⟨S2x8192x2x128, .f32⟩
  | 98 => ⟨S2x8192x2x128, .f32⟩
  | 99 => ⟨S2x8192x4x64, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S_, .f32⟩
  | 108 => ⟨S8, .f32⟩
  | 109 => ⟨S8, .f32⟩
  | 110 => ⟨S2x8192, .f32⟩
  | 111 => ⟨S2x8192x1, .f32⟩
  | 112 => ⟨S1x1x8, .f32⟩
  | 113 => ⟨S2x8192x8, .f32⟩
  | 114 => ⟨S2x8192x8, .f32⟩
  | 115 => ⟨S2x8192x8, .f32⟩
  | 116 => ⟨S2x8192x8, .f32⟩
  | 117 => ⟨S2x8192x1x8, .f32⟩
  | 118 => ⟨S2x8192x8, .f32⟩
  | 119 => ⟨S2x8192x1x8, .f32⟩
  | 120 => ⟨S2x8192x4x8, .f32⟩
  | 121 => ⟨S2x8192x4x8, .f32⟩
  | 122 => ⟨S2x8192x4x8, .f32⟩
  | 123 => ⟨S2x8192x4x8, .f32⟩
  | 124 => ⟨S2x8192x4x8, .f32⟩
  | 125 => ⟨S2x8192x4x8, .f32⟩
  | 126 => ⟨S2x8192x4x8, .f32⟩
  | 127 => ⟨S2x8192x4x8, .f32⟩
  | _ => ⟨S2x8192x1024, .f32⟩

abbrev hbmTy0_1 (i : Nat) : BufTy := match i % 128 with
  | 0 => ⟨S2x8192x4x8, .f32⟩
  | 1 => ⟨S2x8192x4x8, .f32⟩
  | 2 => ⟨S2x8192x4x8, .f32⟩
  | 3 => ⟨S2x8192x4x8, .f32⟩
  | 4 => ⟨S2x8192x4x48, .f32⟩
  | 5 => ⟨S2x8192x4x64, .f32⟩
  | 6 => ⟨S2x8192x1x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S2x8192, .f32⟩
  | 18 => ⟨S2x8192x1, .f32⟩
  | 19 => ⟨S1x1x8, .f32⟩
  | 20 => ⟨S2x8192x8, .f32⟩
  | 21 => ⟨S2x8192x8, .f32⟩
  | 22 => ⟨S2x8192x8, .f32⟩
  | 23 => ⟨S2x8192x8, .f32⟩
  | 24 => ⟨S2x8192x1x8, .f32⟩
  | 25 => ⟨S2x8192x8, .f32⟩
  | 26 => ⟨S2x8192x1x8, .f32⟩
  | 27 => ⟨S2x8192x1x8, .f32⟩
  | 28 => ⟨S2x8192x1x8, .f32⟩
  | 29 => ⟨S2x8192x1x8, .f32⟩
  | 30 => ⟨S2x8192x1x8, .f32⟩
  | 31 => ⟨S2x8192x1x8, .f32⟩
  | 32 => ⟨S2x8192x1x8, .f32⟩
  | 33 => ⟨S2x8192x1x8, .f32⟩
  | 34 => ⟨S2x8192x1x8, .f32⟩
  | 35 => ⟨S2x8192x1x48, .f32⟩
  | 36 => ⟨S2x8192x1x64, .f32⟩
  | 37 => ⟨S2x8192x64, .f32⟩
  | 38 => ⟨S_, .i32⟩
  | 39 => ⟨S_, .f32⟩
  | 40 => ⟨S2x8192x4x128, .f32⟩
  | 41 => ⟨S_, .i32⟩
  | 42 => ⟨S_, .f32⟩
  | 43 => ⟨S2x8192x128, .f32⟩
  | 44 => ⟨S_, .i32⟩
  | 45 => ⟨S_, .f32⟩
  | 46 => ⟨S2x8192x8, .f32⟩
  | 47 => ⟨S32x512x256, .f32⟩
  | 48 => ⟨S16384x1024, .f32⟩
  | 49 => ⟨S1024x16384, .f32⟩
  | 50 => ⟨S1024x16384, .bf16⟩
  | 51 => ⟨S16384x256, .f32⟩
  | 52 => ⟨S16384x256, .bf16⟩
  | 53 => ⟨S32x256x512, .f32⟩
  | 54 => ⟨S32x256x512, .bf16⟩
  | 55 => ⟨S16384x512, .f32⟩
  | 56 => ⟨S512x16384, .f32⟩
  | 57 => ⟨S512x16384, .bf16⟩
  | 58 => ⟨S16384x128, .f32⟩
  | 59 => ⟨S16384x128, .bf16⟩
  | 60 => ⟨S16384x8, .f32⟩
  | 61 => ⟨S8x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_cst_9 : Ref sig .tc := ⟨.hbm, 104, rfl⟩
abbrev main_v90 : Ref sig .tc := ⟨.hbm, 105, rfl⟩
abbrev main_v91 : Ref sig .tc := ⟨.hbm, 106, rfl⟩
abbrev main_cst_10 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_cst_11 : Ref sig .tc := ⟨.hbm, 136, rfl⟩
abbrev main_v120 : Ref sig .tc := ⟨.hbm, 137, rfl⟩
abbrev main_v121 : Ref sig .tc := ⟨.hbm, 138, rfl⟩
abbrev main_cst_12 : Ref sig .tc := ⟨.hbm, 139, rfl⟩
abbrev main_v122 : Ref sig .tc := ⟨.hbm, 140, rfl⟩
abbrev main_v123 : Ref sig .tc := ⟨.hbm, 141, rfl⟩
abbrev main_cst_13 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_c : Ref sig .tc := ⟨.hbm, 166, rfl⟩
abbrev main_call0_v0 : Ref sig .tc := ⟨.hbm, 167, rfl⟩
abbrev main_v147 : Ref sig .tc := ⟨.hbm, 168, rfl⟩
abbrev main_c_14 : Ref sig .tc := ⟨.hbm, 169, rfl⟩
abbrev main_call1_v0 : Ref sig .tc := ⟨.hbm, 170, rfl⟩
abbrev main_v148 : Ref sig .tc := ⟨.hbm, 171, rfl⟩
abbrev main_c_15 : Ref sig .tc := ⟨.hbm, 172, rfl⟩
abbrev main_call2_v0 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩

abbrev nD : Nat := 1
abbrev τ : Topo := Topo.v7x

variable {F : FTy → Type} [FloatOps F]
-- ==== Kernel7.lean ====
abbrev S2x8192x1024 : Shape := ⟨3, ![2, 8192, 1024]⟩
abbrev S16384x1024 : Shape := ⟨2, ![16384, 1024]⟩
abbrev S8x128x16384 : Shape := ⟨3, ![8, 128, 16384]⟩
abbrev S1024 : Shape := ⟨1, ![1024]⟩
abbrev S1024x16384 : Shape := ⟨2, ![1024, 16384]⟩
abbrev S1x1024 : Shape := ⟨2, ![1, 1024]⟩
abbrev S1024x512 : Shape := ⟨2, ![1024, 512]⟩
abbrev S2048x1024 : Shape := ⟨2, ![2048, 1024]⟩
abbrev S1024x2048 : Shape := ⟨2, ![1024, 2048]⟩
abbrev S8x128x512 : Shape := ⟨3, ![8, 128, 512]⟩
abbrev S512x1024 : Shape := ⟨2, ![512, 1024]⟩
abbrev S2x256x512 : Shape := ⟨3, ![2, 256, 512]⟩
abbrev S2x1024x512 : Shape := ⟨3, ![2, 1024, 512]⟩
abbrev S256x1024 : Shape := ⟨2, ![256, 1024]⟩
abbrev S256x512 : Shape := ⟨2, ![256, 512]⟩
abbrev S1x256x512 : Shape := ⟨3, ![1, 256, 512]⟩
abbrev S128x512 : Shape := ⟨2, ![128, 512]⟩
abbrev S1x1x512 : Shape := ⟨3, ![1, 1, 512]⟩
abbrev S1x512 : Shape := ⟨2, ![1, 512]⟩
abbrev S1x128x512 : Shape := ⟨3, ![1, 128, 512]⟩
abbrev S1024x1024 : Shape := ⟨2, ![1024, 1024]⟩
abbrev S1x1024x512 : Shape := ⟨3, ![1, 1024, 512]⟩
abbrev S512 : Shape := ⟨1, ![512]⟩
abbrev S512x1 : Shape := ⟨2, ![512, 1]⟩

abbrev nBuf : Space → Nat
  | .hbm => 20
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S16384x1024, .f32⟩
  | .hbm, ⟨3, _⟩ => ⟨S16384x1024, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S8x128x16384, .f32⟩
  | .hbm, ⟨8, _⟩ => ⟨S1024, .f32⟩
  | .hbm, ⟨9, _⟩ => ⟨S16384x1024, .f32⟩
  | .hbm, ⟨10, _⟩ => ⟨S1024x16384, .f32⟩
  | .hbm, ⟨11, _⟩ => ⟨S1024x16384, .bf16⟩
  | .hbm, ⟨12, _⟩ => ⟨S16384x1024, .bf16⟩
  | .hbm, ⟨13, _⟩ => ⟨S1024x16384, .f32⟩
  | .hbm, ⟨14, _⟩ => ⟨S1024x16384, .bf16⟩
  | .hbm, ⟨15, _⟩ => ⟨S8x128x16384, .bf16⟩
  | .hbm, ⟨16, _⟩ => ⟨S8x128x16384, .bf16⟩
  | .hbm, ⟨17, _⟩ => ⟨S16384x1024, .f32⟩
  | .hbm, ⟨18, _⟩ => ⟨S1x1024, .f32⟩
  | .hbm, ⟨19, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S8x128x512, .bf16⟩
  | .local _ .vmem, ⟨7, _⟩ => ⟨S8x128x512, .bf16⟩
  | .local _ .vmem, ⟨8, _⟩ => ⟨S8x128x512, .bf16⟩
  | .local _ .vmem, ⟨9, _⟩ => ⟨S8x128x512, .bf16⟩
  | .local _ .vmem, ⟨10, _⟩ => ⟨S8x128x512, .f32⟩
  | .local _ .vmem, ⟨11, _⟩ => ⟨S8x128x512, .f32⟩
  | .local _ .vmem, ⟨12, _⟩ => ⟨S8x128x512, .f32⟩
  | .local _ .vmem, ⟨13, _⟩ => ⟨S8x128x512, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1024x512, .f32⟩
  | .local _ .vmem, ⟨20, _⟩ => ⟨S2x256x512, .f32⟩
  | .local _ .vmem, ⟨21, _⟩ => ⟨S2x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 8], ![false, false]⟩

def k0_off1 (i : grid0.Coords) (c0_i32_16 : BitVec 32) (c0_i32_17 : BitVec 32) : Fin 3 → Nat :=
  let c0_19 : Index := 0#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v25 : Index := Scalar.indexCast v23
  let c0_20 : Index := 0#32
  ![0, v25.toNat, 0]
def k0_off2 (i : grid0.Coords) (c0_i32_16 : BitVec 32) (c0_i32_17 : BitVec 32) : Fin 3 → Nat :=
  let c1_30 : Index := 1#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v44 : Index := Scalar.indexCast v23
  let c0_31 : Index := 0#32
  ![1, v44.toNat, 0]
def k0_off3 (i : grid0.Coords) (c0_i32_16 : BitVec 32) (c0_i32_17 : BitVec 32) : Fin 3 → Nat :=
  let c2 : Index := 2#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v63 : Index := Scalar.indexCast v23
  let c0_41 : Index := 0#32
  ![2, v63.toNat, 0]
def k0_off4 (i : grid0.Coords) (c0_i32_16 : BitVec 32) (c0_i32_17 : BitVec 32) : Fin 3 → Nat :=
  let c3 : Index := 3#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v82 : Index := Scalar.indexCast v23
  let c0_51 : Index := 0#32
  ![3, v82.toNat, 0]
def k0_off5 (i : grid0.Coords) (c0_i32_16 : BitVec 32) (c0_i32_17 : BitVec 32) : Fin 3 → Nat :=
  let c4 : Index := 4#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v101 : Index := Scalar.indexCast v23
  let c0_61 : Index := 0#32
  ![4, v101.toNat, 0]
def k0_off6 (i : grid0.Coords) (c0_i32_16 : BitVec 32) (c0_i32_17 : BitVec 32) : Fin 3 → Nat :=
  let c5 : Index := 5#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v120 : Index := Scalar.indexCast v23
  let c0_71 : Index := 0#32
  ![5, v120.toNat, 0]
def k0_off7 (i : grid0.Coords) (c0_i32_16 : BitVec 32) (c0_i32_17 : BitVec 32) : Fin 3 → Nat :=
  let c6 : Index := 6#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v139 : Index := Scalar.indexCast v23
  let c0_81 : Index := 0#32
  ![6, v139.toNat, 0]
def k0_off8 (i : grid0.Coords) (c0_i32_16 : BitVec 32) (c0_i32_17 : BitVec 32) : Fin 3 → Nat :=
  let c7 : Index := 7#32
  let arg1 : BitVec 32 := BitVec.ofNat 32 (i 1).val
  let c16_i32 : BitVec 32 := 16#32
  let v21 : BitVec 32 := Scalar.muli arg1 c16_i32
  let v22 : BitVec 32 := Scalar.addi v21 c0_i32_16
  let v23 : BitVec 32 := Scalar.addi v22 c0_i32_17
  let v158 : Index := Scalar.indexCast v23
  let c0_91 : Index := 0#32
  ![7, v158.toNat, 0]
def k0_cond2 (i : grid0.Coords) : BitVec 1 :=
  let arg1 : BitVec 32 := BitVec.ofNat 32 (i 1).val
  let c7_i32 : BitVec 32 := 7#32
  let v2823 : BitVec 1 := Scalar.cmpi .eq arg1 c7_i32
  let v2824 : BitVec 32 := Scalar.extui v2823
  let c0_i32_1648 : BitVec 32 := 0#32
  let v2825 : BitVec 1 := Scalar.cmpi .ne v2824 c0_i32_1648
  v2825

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference7Ideal.lean ====
abbrev S2x8192x1024 : Shape := ⟨3, ![2, 8192, 1024]⟩
abbrev S16384x1024 : Shape := ⟨2, ![16384, 1024]⟩
abbrev S8x128x16384 : Shape := ⟨3, ![8, 128, 16384]⟩
abbrev S1024 : Shape := ⟨1, ![1024]⟩
abbrev S1024x16384 : Shape := ⟨2, ![1024, 16384]⟩
abbrev S16384x16384 : Shape := ⟨2, ![16384, 16384]⟩
abbrev S_ : Shape := ⟨0, ![]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S128x128x16384 : Shape := ⟨3, ![128, 128, 16384]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S16384x1024, .f32⟩
  | .hbm, ⟨3, _⟩ => ⟨S16384x1024, .f32⟩
  | .hbm, ⟨4, _⟩ => ⟨S8x128x16384, .f32⟩
  | .hbm, ⟨5, _⟩ => ⟨S8x128x16384, .f32⟩
  | .hbm, ⟨6, _⟩ => ⟨S8x128x16384, .f32⟩
  | .hbm, ⟨7, _⟩ => ⟨S8x128x16384, .f32⟩
  | .hbm, ⟨8, _⟩ => ⟨S1024, .f32⟩
  | .hbm, ⟨9, _⟩ => ⟨S16384x1024, .f32⟩
  | .hbm, ⟨10, _⟩ => ⟨S1024x16384, .f32⟩
  | .hbm, ⟨11, _⟩ => ⟨S16384x16384, .f32⟩
  | .hbm, ⟨12, _⟩ => ⟨S_, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S8x1x128x16384, .f32⟩
  | .hbm, ⟨22, _⟩ => ⟨S8x128x1x16384, .f32⟩
  | .hbm, ⟨23, _⟩ => ⟨S8x128x128x16384, .f32⟩
  | .hbm, ⟨24, _⟩ => ⟨S8x128x128x16384, .f32⟩
  | .hbm, ⟨25, _⟩ => ⟨S8x128x128x16384, .i1⟩
  | .hbm, ⟨26, _⟩ => ⟨S8x1x128x16384, .f32⟩
  | .hbm, ⟨27, _⟩ => ⟨S_, .f32⟩
  | .hbm, ⟨28, _⟩ => ⟨S_, .f32⟩
  | .hbm, ⟨29, _⟩ => ⟨S8x128x128x16384, .f32⟩
  | .hbm, ⟨30, _⟩ => ⟨S8x128x128x16384, .f32⟩
  | .hbm, ⟨31, _⟩ => ⟨S8x128x128x16384, .f32⟩
  | .hbm, ⟨32, _⟩ => ⟨S8x128x1x16384, .f32⟩
  | .hbm, ⟨33, _⟩ => ⟨S8x128x128x16384, .f32⟩
  | .hbm, ⟨34, _⟩ => ⟨S8x128x128x16384, .f32⟩
  | .hbm, ⟨35, _⟩ => ⟨S_, .f32⟩
  | .hbm, ⟨36, _⟩ => ⟨S128x128x16384, .f32⟩
  | .hbm, ⟨37, _⟩ => ⟨S16384x16384, .f32⟩
  | .hbm, ⟨38, _⟩ => ⟨S16384x16384, .f32⟩
  | .hbm, ⟨39, _⟩ => ⟨S16384x16384, .f32⟩
  | .hbm, ⟨40, _⟩ => ⟨S16384x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x1024, .f32⟩
  | .hbm, ⟨55, _⟩ => ⟨S2x8192x1024, .f32⟩
  | .hbm, ⟨56, _⟩ => ⟨S1x1x1024, .f32⟩
  | .hbm, ⟨57, _⟩ => ⟨S2x8192x1024, .f32⟩
  | .hbm, ⟨58, _⟩ => ⟨S2x8192x1024, .f32⟩
  | .hbm, ⟨59, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Proof.SsdSpec.lean ====
/-
  The mixer as a function of its arguments' entries, by natural-number indices: the causal convolution and its gate,
  the step sizes, the decays cumulated inside a chunk of 128 rows, the chunk's own part of the result, the state carried
  from chunk to chunk, and the gated root-mean-square norm.
-/
module

public import Idealize.ShloMosaic.Lib.Pointwise
public import Idealize.ShloMosaic.Lib.WordCmp

@[expose] public section

noncomputable section

namespace Cert.Ssd

open Idealize.ShloMosaic
open scoped BigOperators

/-! ## An array's entries by natural-number indices -/

def nat1 {a : ℕ} (f : (⟨1, ![a]⟩ : Shape).Idx → EReal) (i : ℕ) : EReal :=
  if h : i < a then f (ix1 ⟨i, h⟩) else 0

def nat2 {a b : ℕ} (f : (⟨2, ![a, b]⟩ : Shape).Idx → EReal) (i j : ℕ) : EReal :=
  if h : i < a ∧ j < b then f (ix2 ⟨i, h.1⟩ ⟨j, h.2⟩) else 0

def nat3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

theorem eq_nat1 {a : ℕ} (f : (⟨1, ![a]⟩ : Shape).Idx → EReal) (i : Fin a) : f (ix1 i) = nat1 f i := by
  rw [nat1, dif_pos i.isLt]

theorem eq_nat2 {a b : ℕ} (f : (⟨2, ![a, b]⟩ : Shape).Idx → EReal) (i : Fin a) (j : Fin b) : f (ix2 i j) = nat2 f i j := by
  rw [nat2, dif_pos ⟨i.isLt, j.isLt⟩]

theorem eq_nat3 {a b c : ℕ} (f : (⟨3, ![a, b, c]⟩ : Shape).Idx → EReal) (i : Fin a) (j : Fin b) (k : Fin c) :
    f (ix3 i j k) = nat3 f i j k := by
  rw [nat3, dif_pos ⟨i.isLt, j.isLt, k.isLt⟩]

/-! ## Scalars -/

/-- `v` times its logistic. -/
def silu (v : EReal) : EReal := v * Ideal.div 1 (1 + Ideal.exp (-v))

/-- `log (1 + exp v)`, written from the larger of `v` and zero. -/
def softplus (v : EReal) : EReal := max v 0 + Ideal.log1p (Ideal.exp (-(max v (-v))))

/-! ## Comparisons of small index words -/

theorem select_sge {α : Type} (a b : ℕ) (ha : a < 2147483648) (hb : b < 2147483648) (x y : α) :
    Scalar.select (IntOp.cmpi .sge (BitVec.ofNat 32 a) (BitVec.ofNat 32 b)) x y = if b ≤ a then x else y := by
  rw [WordCmp.cmpi_sge_ofNat (w := 32) ha hb]
  by_cases h : b ≤ a
  · rw [if_pos h, decide_eq_true h]; rfl
  · rw [if_neg h, decide_eq_false h]; rfl

theorem ofBits_ninf : Ideal.ofBits FTy.f32 4286578688#32 = ⊥ := by
  simp [Ideal.ofBits, Ideal.ieee]

/-! ## The arguments' entries -/

/-- The entries of the nine arguments. -/
structure Ent where
  z : ℕ → ℕ → ℕ → EReal
  x : ℕ → ℕ → ℕ → EReal
  d : ℕ → ℕ → ℕ → EReal
  w : ℕ → ℕ → EReal
  cb : ℕ → EReal
  db : ℕ → EReal
  al : ℕ → EReal
  sk : ℕ → EReal
  ng : ℕ → EReal

variable (E : Ent)

/-- Row `r - k` of the batch element's rows, zero before the first. -/
def lag (k b r q : ℕ) : EReal := if k ≤ r then E.x b (r - k) q else 0

/-- The convolved row. -/
def conv (b r q : ℕ) : EReal :=
  lag E 3 b r q * E.w 0 q + lag E 2 b r q * E.w 1 q + lag E 1 b r q * E.w 2 q + lag E 0 b r q * E.w 3 q + E.cb q

/-- The convolved and gated row. -/
def act (b r q : ℕ) : EReal := silu (conv E b r q)

/-- The step size of head `h`. -/
def step (b r h : ℕ) : EReal := softplus (E.d b r h + E.db h)

/-- The step's log decay. -/
def ldec (b r h : ℕ) : EReal := step E b r h * -Ideal.exp (E.al h)

/-- The log decays cumulated from the chunk's first row through row `l`. -/
def cum (b c l h : ℕ) : EReal := ∑ s : Fin 128, if (s : ℕ) ≤ l then ldec E b (128 * c + s) h else 0

/-- The step-scaled input. -/
def xdt (b r q : ℕ) : EReal := act E b r q * step E b r (q / 64)

/-- The products of C at row `l` and B at row `s` of a chunk, in group `g`. -/
def cbp (b c l s g : ℕ) : EReal :=
  ∑ n : Fin 128, act E b (128 * c + l) (2560 + (128 * g + n)) * act E b (128 * c + s) (2048 + (128 * g + n))

/-- Row `s`'s weight in row `l`, for head `h`. -/
def mix (b c l s h : ℕ) : EReal :=
  cbp E b c l s (h / 8) * Ideal.exp (if s ≤ l then cum E b c l h - cum E b c s h else ⊥)

/-- The chunk's own part of the result. -/
def diag (b c l q : ℕ) : EReal := ∑ s : Fin 128, mix E b c l s (q / 64) * xdt E b (128 * c + s) q

/-- The chunk's own part of the state. -/
def own (b c n q : ℕ) : EReal :=
  ∑ s : Fin 128, act E b (128 * c + s) (2048 + (128 * (q / 512) + n))
    * (xdt E b (128 * c + s) q * Ideal.exp (cum E b c 127 (q / 64) - cum E b c s (q / 64)))

/-- The state carried into chunk `c`. -/
def state (b : ℕ) : ℕ → ℕ → ℕ → EReal
  | 0, _, _ => 0
  | c + 1, n, q => state b c n q * Ideal.exp (cum E b c 127 (q / 64)) + own E b c n q

/-- The carried state's part of the result. -/
def carried (b c l q : ℕ) : EReal :=
  (∑ n : Fin 128, act E b (128 * c + l) (2560 + (128 * (q / 512) + n)) * state E b c n q) * Ideal.exp (cum E b c l (q / 64))

/-- The gated result before its norm. -/
def gated (b c l q : ℕ) : EReal :=
  (carried E b c l q + diag E b c l q + act E b (128 * c + l) q * E.sk (q / 64)) * silu (E.z b (128 * c + l) q)

/-- The mixer's result. -/
def out (b c l q : ℕ) : EReal :=
  gated E b c l q * Ideal.rsqrt (Ideal.div (∑ x : Fin 2048, gated E b c l x * gated E b c l x) (Ideal.ofBits FTy.f32 1157627904#32)
    + Ideal.ofBits FTy.f32 897988541#32) * E.ng q

/-! ## A sum over a window of 128 positions ending at row `l` -/

theorem sum_window (l : ℕ) (hl : l < 128) (f : ℕ → EReal) :
    (∑ s : Fin 128, if 127 ≤ l + (s : ℕ) then f (l + s - 127) else 0) = ∑ s : Fin 128, if (s : ℕ) ≤ l then f s else 0 := by
  rw [Fin.sum_univ_eq_sum_range (fun s => if 127 ≤ l + s then f (l + s - 127) else 0) 128,
    Fin.sum_univ_eq_sum_range (fun s => if s ≤ l then f s else 0) 128, ← Finset.sum_filter, ← Finset.sum_filter]
  refine Finset.sum_nbij' (fun s => l + s - 127) (fun s => s + 127 - l) ?_ ?_ ?_ ?_ ?_
  · intro s hs; simp only [Finset.mem_filter, Finset.mem_range] at hs ⊢; omega
  · intro s hs; simp only [Finset.mem_filter, Finset.mem_range] at hs ⊢; omega
  · intro s hs; simp only [Finset.mem_filter, Finset.mem_range] at hs ⊢; omega
  · intro s hs; simp only [Finset.mem_filter, Finset.mem_range] at hs ⊢; omega
  · intro s hs; rfl

end Cert.Ssd
-- ==== Proof.LayerSpec.lean ====
/-
  The layer's norm and projections as functions of the entries, at natural indices.
-/
module

public import proofs.«01_k».proof.Proof.SsdSpec

@[expose] public section

noncomputable section

namespace Cert.Ssd

open Idealize.ShloMosaic
open scoped BigOperators

/-- An entry of a row of 1024 after the root-mean-square norm. -/
def nrm (x g : ℕ → EReal) (k : ℕ) : EReal :=
  x k * Ideal.rsqrt (Ideal.div (∑ j : Fin 1024, x j * x j) (Ideal.ofBits FTy.f32 1149239296#32) + Ideal.ofBits FTy.f32 897988541#32) * g k

/-- The normed row against a column of weights. -/
def proj (x g w : ℕ → EReal) : EReal := ∑ k : Fin 1024, nrm x g k * w k

/-- Row `r` of the hidden states, the batch rows one after another. -/
def rowOf (a : (⟨3, ![2, 8192, 1024]⟩ : Shape).Idx → EReal) (r k : ℕ) : EReal := nat3 a (r / 8192) (r % 8192) k

theorem rowOf_at (a : (⟨3, ![2, 8192, 1024]⟩ : Shape).Idx → EReal) (b : Fin 2) (t : Fin 8192) (k : Fin 1024) :
    a (ix3 b t k) = rowOf a (8192 * b + t) k := by
  rw [eq_nat3 a b t k, rowOf, show (8192 * (b : ℕ) + t) / 8192 = b by omega, show (8192 * (b : ℕ) + t) % 8192 = t by omega]

end Cert.Ssd
-- ==== Proof.SsdParts.lean ====
/-
  The scan kernel's body in parts: the tile of the result at a lane offset and the state column group, each
  written once with its offsets as parameters. The body's sixteen tile stores and four state stores are instances.
-/
module

public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- The decay of one head between two rows of the chunk, zero above the diagonal, times the products of C and B. -/
def headMix (hd : ℕ) (h1 : S128x128.Slices ![0, hd] S128x1) (h2 : S128x128.Slices ![hd, 0] S1x128)
    (v86 v87 cb : FVec F S128x128 .f32) : FVec F S128x128 .bf16 :=
  truncf .bf16 (mulf cb (exp (select k0_pay30
    (subf (broadcastTo S128x128 (extractStridedSlice S128x1 ![0, hd] v86 h1) broadcasts_S128x1_S128x128)
      (broadcastTo S128x128 (extractStridedSlice S1x128 ![hd, 0] v87 h2) broadcasts_S1x128_S128x128))
    (broadcast S128x128 (Scalar.ofBits .f32 0xFF800000#32))))) bitsLt_bf16_f32

/-- The lanes from `lo` up to `hi`. -/
def laneBand (lo hi : BitVec 32) : IVec S128x128 1 :=
  andi (cmpi .sge (iota .tc S128x128 32 [1] iota_S128x128_d1_w32) (broadcast S128x128 lo))
    (cmpi .slt (iota .tc S128x128 32 [1] iota_S128x128_d1_w32) (broadcast S128x128 hi))

/-- One head's contribution to a tile of two heads: its lanes of the step-scaled input under the head's mix. -/
def headDot (lo hi : BitVec 32) (mix : FVec F S128x128 .bf16) (xd : FVec F S128x128 .bf16) : FVec F S128x128 .f32 :=
  matmul dot_S128x128_S128x128_S128x128_1_0_0_1_n_n none mix
    (select (laneBand lo hi) xd (broadcast S128x128 (Scalar.ofBits .bf16 0x0000#16))) (constant S128x128 .f32 0x00000000#32)

/-- The tile of the gated result at lane offset `o`: heads `hd` and `hd'`, the carried part at lane offset `oy` of its group. -/
def tileV (o oy hd hd' : ℕ) (h1 : S128x128.Slices ![0, hd] S128x1) (h2 : S128x128.Slices ![hd, 0] S1x128)
    (h1' : S128x128.Slices ![0, hd'] S128x1) (h2' : S128x128.Slices ![hd', 0] S1x128)
    (ho : S128x2048.Slices ![0, o] S128x128) (hoy : S128x512.Slices ![0, oy] S128x128)
    (v43 : FVec F S128x2048 .f32) (v86 v87 : FVec F S128x128 .f32) (v132 : FVec F S128x2048 .bf16)
    (cb : FVec F S128x128 .f32) (yo : FVec F S128x512 .f32) (d : FVec F S1x128 .f32) (z : FVec F S128x128 .f32) :
    FVec F S128x128 .f32 :=
  mulf (addf (addf (addf (extractStridedSlice S128x128 ![0, oy] yo hoy)
      (headDot 0#32 64#32 (headMix hd h1 h2 v86 v87 cb) (extractStridedSlice S128x128 ![0, o] v132 ho)))
      (headDot 64#32 128#32 (headMix hd' h1' h2' v86 v87 cb) (extractStridedSlice S128x128 ![0, o] v132 ho)))
      (mulf (extractStridedSlice S128x128 ![0, o] v43 ho)
        (broadcastTo S128x128 (shapeCast S1x128 d shapeCasts_S1x128_S1x128) broadcasts_S1x128_S128x128)))
    (mulf (shapeCast S128x128 z shapeCasts_S128x128_S128x128) (logistic (shapeCast S128x128 z shapeCasts_S128x128_S128x128)))

/-- The products of C and B of the group at lane offset `o`. -/
def grpCB (o : ℕ) (h : S128x512.Slices ![0, o] S128x128) (v44 v45 : FVec F S128x512 .f32) : FVec F S128x128 .f32 :=
  matmul dot_S128x128_S128x128_S128x128_1_1_0_0_n_n none
    (truncf .bf16 (extractStridedSlice S128x128 ![0, o] v45 h) bitsLt_bf16_f32)
    (truncf .bf16 (extractStridedSlice S128x128 ![0, o] v44 h) bitsLt_bf16_f32) (constant S128x128 .f32 0x00000000#32)

/-- The carried state's part of the group's result. -/
def grpOff (o os : ℕ) (h : S128x512.Slices ![0, o] S128x128) (hs : S128x2048.Slices ![0, os] S128x512)
    (v45 : FVec F S128x512 .f32) (v118 : FVec F S128x2048 .f32) (st : FVec F S128x512 .f32) : FVec F S128x512 .f32 :=
  mulf (matmul dot_S128x128_S128x512_S128x512_1_0_0_1_n_n none
      (truncf .bf16 (extractStridedSlice S128x128 ![0, o] v45 h) bitsLt_bf16_f32) (truncf .bf16 st bitsLt_bf16_f32)
      (constant S128x512 .f32 0x00000000#32))
    (extractStridedSlice S128x512 ![0, os] v118 hs)

/-- The group's next state: the carried one decayed over the chunk, and the chunk's own. -/
def grpState (o os : ℕ) (h : S128x512.Slices ![0, o] S128x128) (hs : S128x2048.Slices ![0, os] S128x512)
    (hl : S128x2048.Slices ![127, os] S1x512) (v44 : FVec F S128x512 .f32) (v118 : FVec F S128x2048 .f32)
    (v134 : FVec F S128x2048 .bf16) (st : FVec F S128x512 .f32) : FVec F S128x512 .f32 :=
  shapeCast S128x512 (addf (mulf st (broadcastTo S128x512 (extractStridedSlice S1x512 ![127, os] v118 hl) broadcasts_S1x512_S128x512))
    (matmul dot_S128x128_S128x512_S128x512_1_0_0_1_n_n none
      (truncf .bf16 (transpose S128x128 [1, 0] (extractStridedSlice S128x128 ![0, o] v44 h) transposes_S128x128_p1_0_S128x128) bitsLt_bf16_f32)
      (extractStridedSlice S128x512 ![0, os] v134 hs) (constant S128x512 .f32 0x00000000#32))) shapeCasts_S128x512_S128x512

/-! ## The body's values over its windows: `x0` the rows, `e5 e6 e7` the rows 3, 2, 1 before, and the small operands -/

section
variable (x0 e5 e6 e7 : FVec F S128x3072 .f32) (x3 : Vec F S4x3072 .f32) (x4 : Vec F S1x3072 .f32)
/-- The convolved and gated rows. -/
abbrev bConv30 : FVec F S128x3072 .f32 :=
  k0_pay5 x4 (View.ld x3 (Rect.unit ![0, 0] S1x3072.size inb_S4x3072_S1x3072_0_0)) e5
    (View.ld x3 (Rect.unit ![1, 0] S1x3072.size inb_S4x3072_S1x3072_1_0)) e6
    (View.ld x3 (Rect.unit ![2, 0] S1x3072.size inb_S4x3072_S1x3072_2_0)) e7
abbrev bConv32 : FVec F S1x3072 .f32 := k0_pay6 (View.ld x3 (Rect.unit ![3, 0] S1x3072.size inb_S4x3072_S1x3072_3_0))
def bXs : FVec F S128x2048 .f32 := k0_pay9 (bConv30 e5 e6 e7 x3 x4) (bConv32 x3) (k0_pay4 x0)
def bB : FVec F S128x512 .f32 := k0_pay10 (bConv30 e5 e6 e7 x3 x4) (bConv32 x3) (k0_pay4 x0)
def bC : FVec F S128x512 .f32 := k0_pay11 (bConv30 e5 e6 e7 x3 x4) (bConv32 x3) (k0_pay4 x0)
end

section
variable (x2 : Vec F S128x128 .f32) (x5 x6 : Vec F S1x128 .f32) (x9 : Vec F S128x128 .bf16) (x10 : Vec F S128x2048 .bf16)
/-- The cumulated decays. -/
def bAcs : FVec F S128x128 .f32 := k0_pay17 (k0_pay13 x9) (k0_pay14 x2 x5 x6) (k0_pay15 x2 x5 x6) (k0_pay16 x2 x5 x6)
def bAcsT : FVec F S128x128 .f32 := k0_pay18 (k0_pay13 x9) (k0_pay14 x2 x5 x6) (k0_pay15 x2 x5 x6) (k0_pay16 x2 x5 x6)
/-- The step sizes over the lanes. -/
def bDtX : FVec F S128x2048 .f32 := k0_pay21 (k0_pay12 x2 x5) x10
/-- The exponentials of the cumulated decays over the lanes. -/
def bEx : FVec F S128x2048 .f32 := k0_pay22 (k0_pay13 x9) (k0_pay14 x2 x5 x6) (k0_pay15 x2 x5 x6) (k0_pay16 x2 x5 x6) x10
/-- The step-scaled inputs decayed to the chunk's end. -/
def bXw (xs : FVec F S128x2048 .f32) : FVec F S128x2048 .bf16 :=
  k0_pay29 xs (k0_pay20 x10) (bDtX x2 x5 x10)
    (k0_pay23 (k0_pay13 x9) (k0_pay14 x2 x5 x6) (k0_pay15 x2 x5 x6) (k0_pay16 x2 x5 x6))
    (k0_pay25 (k0_pay13 x9) (k0_pay14 x2 x5 x6) (k0_pay15 x2 x5 x6) (k0_pay16 x2 x5 x6))
    (k0_pay26 (k0_pay13 x9) (k0_pay14 x2 x5 x6) (k0_pay15 x2 x5 x6) (k0_pay16 x2 x5 x6))
end

end Cert.KernelIdeal.Value
-- ==== Proof.SsdReal.lean ====
/-
  The step sizes, their log decays and the cumulated decays are real numbers where the step inputs, their biases and the
  decay logarithms are.
-/
module

public import proofs.«01_k».proof.Proof.SsdSpec

@[expose] public section

noncomputable section

namespace Cert.Ssd

open Idealize.ShloMosaic
open scoped BigOperators

/-- A real number. -/
def Re (v : EReal) : Prop := ∃ r : ℝ, v = r

theorem Re.sub_self {v : EReal} (h : Re v) : v - v = 0 := by
  obtain ⟨r, rfl⟩ := h
  rw [← EReal.coe_sub, _root_.sub_self, EReal.coe_zero]

theorem Re.zero : Re 0 := ⟨0, rfl⟩

theorem Re.add {v w : EReal} (hv : Re v) (hw : Re w) : Re (v + w) := by
  obtain ⟨r, rfl⟩ := hv; obtain ⟨s, rfl⟩ := hw; exact ⟨r + s, (EReal.coe_add r s).symm⟩

theorem Re.sub {v w : EReal} (hv : Re v) (hw : Re w) : Re (v - w) := by
  obtain ⟨r, rfl⟩ := hv; obtain ⟨s, rfl⟩ := hw; exact ⟨r - s, (EReal.coe_sub r s).symm⟩

theorem Re.mul {v w : EReal} (hv : Re v) (hw : Re w) : Re (v * w) := by
  obtain ⟨r, rfl⟩ := hv; obtain ⟨s, rfl⟩ := hw; exact ⟨r * s, (EReal.coe_mul r s).symm⟩

theorem Re.neg {v : EReal} (hv : Re v) : Re (-v) := by
  obtain ⟨r, rfl⟩ := hv; exact ⟨-r, (EReal.coe_neg r).symm⟩

theorem Re.max {v w : EReal} (hv : Re v) (hw : Re w) : Re (max v w) := by
  rcases max_choice v w with h | h <;> rw [h] <;> assumption

theorem Re.exp {v : EReal} (hv : Re v) : Re (Ideal.exp v) := by
  obtain ⟨r, rfl⟩ := hv; exact ⟨Real.exp r, rfl⟩

theorem Re.log1p_exp {v : EReal} (hv : Re v) : Re (Ideal.log1p (Ideal.exp v)) := by
  obtain ⟨r, rfl⟩ := hv
  refine ⟨Real.log (1 + Real.exp r), ?_⟩
  have h : (1 : EReal) + Ideal.exp (r : EReal) = ((1 + Real.exp r : ℝ) : EReal) := by
    rw [Ideal.exp_coe, ← EReal.coe_one, ← EReal.coe_add]
  have hp : ¬ (1 + Real.exp r ≤ 0) := not_le.2 (by positivity)
  rw [Ideal.log1p, h]
  show (if 1 + Real.exp r ≤ 0 then _ else _) = _
  rw [if_neg hp]

theorem Re.sum {ι : Type} (s : Finset ι) {f : ι → EReal} (h : ∀ i ∈ s, Re (f i)) : Re (∑ i ∈ s, f i) :=
  Finset.sum_induction f Re (fun _ _ => Re.add) Re.zero h

theorem Re.softplus {v : EReal} (hv : Re v) : Re (softplus v) :=
  (hv.max Re.zero).add (hv.max hv.neg).neg.log1p_exp

/-- The step inputs, their biases and the decay logarithms are real numbers. -/
structure Fine (E : Ent) : Prop where
  d : ∀ b r h, Re (E.d b r h)
  db : ∀ h, Re (E.db h)
  al : ∀ h, Re (E.al h)

variable {E : Ent} (hE : Fine E)
include hE

theorem Fine.step (b r h : ℕ) : Re (step E b r h) := ((hE.d b r h).add (hE.db h)).softplus

theorem Fine.ldec (b r h : ℕ) : Re (ldec E b r h) := (hE.step b r h).mul (hE.al h).exp.neg

theorem Fine.cum (b c l h : ℕ) : Re (cum E b c l h) :=
  Re.sum _ fun s _ => by split; exacts [hE.ldec _ _ _, Re.zero]

end Cert.Ssd
-- ==== Proof.SsdIdeal.lean ====
/-
  The scan kernel's values at a point, read at an index over the extended reals: the body's parts are the mixer's.
-/
module

public import proofs.«01_k».proof.Proof.SsdParts
public import proofs.«01_k».proof.Proof.SsdReal

@[expose] public section

set_option maxRecDepth 10000

noncomputable section

namespace Cert.KernelIdeal.Value

open Cert.KernelIdeal Cert.KernelIdeal.Gen Cert.Ssd
open Idealize.ShloMosaic Idealize.ShloMosaic.TcCoe Idealize.SL.Sem
open scoped BigOperators

/-! ## The convolved rows -/

/-- The convolution's sum in the other order. -/
theorem conv_order (v w0 w1 w2 w3 y3 y2 y1 y0 : EReal) :
    v + w0 * y3 + w1 * y2 + w2 * y1 + w3 * y0 = y3 * w0 + y2 * w1 + y1 * w2 + y0 * w3 + v := by
  rw [mul_comm w0, mul_comm w1, mul_comm w2, mul_comm w3]
  ac_rfl

section Conv
variable (x0 e5 e6 e7 : FVec Ideal S128x3072 .f32) (x3 : Vec Ideal S4x3072 .f32) (x4 : Vec Ideal S1x3072 .f32) (E : Ent) (b c : ℕ)
  (h0 : ∀ r q, x0 (ix2 r q) = E.x b (128 * c + r) q) (h5 : ∀ r q, e5 (ix2 r q) = lag E 3 b (128 * c + r) q)
  (h6 : ∀ r q, e6 (ix2 r q) = lag E 2 b (128 * c + r) q) (h7 : ∀ r q, e7 (ix2 r q) = lag E 1 b (128 * c + r) q)
  (h3 : ∀ k q, x3 (ix2 k q) = E.w k q) (h4 : ∀ q, x4 (ix2 0 q) = E.cb q)
include h0 h5 h6 h7 h3 h4

theorem pay8_at (l : Fin 128) (q : Fin 3072) :
    k0_pay8 (bConv30 e5 e6 e7 x3 x4) (bConv32 x3) (k0_pay4 (F := Ideal) x0) (ix2 l q) = act E b (128 * c + l) q := by
  have e : lag E 0 b (128 * c + l) q = E.x b (128 * c + l) q := if_pos (Nat.zero_le _)
  pointwise [bConv30, bConv32, k0_pay3, k0_pay4, k0_pay5, k0_pay6, k0_pay8, h0, h5, h6, h7, h3, h4, act, silu, conv, e]
  have hs := conv_order (E.cb q) (E.w 0 q) (E.w 1 q) (E.w 2 q) (E.w 3 q) (lag E 3 b (128 * c + l) q) (lag E 2 b (128 * c + l) q)
    (lag E 1 b (128 * c + l) q) (E.x b (128 * c + l) q)
  rw [hs]
  rfl

theorem bXs_at (l : Fin 128) (q : Fin 2048) : bXs x0 e5 e6 e7 x3 x4 (ix2 l q) = act E b (128 * c + l) q := by
  have h := pay8_at x0 e5 e6 e7 x3 x4 E b c h0 h5 h6 h7 h3 h4
  generalize hp : k0_pay8 (bConv30 e5 e6 e7 x3 x4) (bConv32 x3) (k0_pay4 (F := Ideal) x0) = p at h
  unfold bXs k0_pay9
  rw [hp]
  pointwise [h]

theorem bB_at (l : Fin 128) (q : Fin 512) : bB x0 e5 e6 e7 x3 x4 (ix2 l q) = act E b (128 * c + l) (2048 + q) := by
  have h := pay8_at x0 e5 e6 e7 x3 x4 E b c h0 h5 h6 h7 h3 h4
  generalize hp : k0_pay8 (bConv30 e5 e6 e7 x3 x4) (bConv32 x3) (k0_pay4 (F := Ideal) x0) = p at h
  unfold bB k0_pay10
  rw [hp]
  pointwise [h]

theorem bC_at (l : Fin 128) (q : Fin 512) : bC x0 e5 e6 e7 x3 x4 (ix2 l q) = act E b (128 * c + l) (2560 + q) := by
  have h := pay8_at x0 e5 e6 e7 x3 x4 E b c h0 h5 h6 h7 h3 h4
  generalize hp : k0_pay8 (bConv30 e5 e6 e7 x3 x4) (bConv32 x3) (k0_pay4 (F := Ideal) x0) = p at h
  unfold bC k0_pay11
  rw [hp]
  pointwise [h]

end Conv

/-! ## The decays -/

theorem sum_pick (f : Fin 128 → EReal) (k : Fin 128) : ∑ x : Fin 128, f x * (if (x : ℕ) = k then 1 else 0) = f k := by
  have e : ∀ x : Fin 128, f x * (if (x : ℕ) = k then (1 : EReal) else 0) = if x = k then f x else 0 := fun x => by
    by_cases h : x = k
    · rw [if_pos (congrArg _ h), if_pos h, mul_one]
    · rw [if_neg (fun h' => h (Fin.ext h')), if_neg h, mul_zero]
  rw [Finset.sum_congr rfl fun x _ => e x, Finset.sum_ite_eq' Finset.univ k f, if_pos (Finset.mem_univ k)]

/-- A value's three parts under the lane indicator: the value itself at its head, where it is a real number. -/
theorem split_pick (f : Fin 128 → EReal) (hf : ∀ x, Re (f x)) (w : Fin 128 → EReal) (k : Fin 128)
    (hw : ∀ x, w x = if (x : ℕ) = k then 1 else 0) :
    ∑ x, f x * w x + ∑ x, (f x - f x) * w x + ∑ x, (f x - f x - (f x - f x)) * w x = f k := by
  have e1 : ∀ x, f x - f x = 0 := fun x => (hf x).sub_self
  simp only [e1, Re.zero.sub_self, zero_mul, Finset.sum_const_zero, add_zero, hw]
  exact sum_pick f k

section Decay
variable (x2 : Vec Ideal S128x128 .f32) (x5 x6 : Vec Ideal S1x128 .f32) (x9 : Vec Ideal S128x128 .bf16) (x10 : Vec Ideal S128x2048 .bf16)
  (E : Ent) (b c : ℕ) (hE : Fine E)
  (h2 : ∀ r h, x2 (ix2 r h) = E.d b (128 * c + r) h) (h5 : ∀ h, x5 (ix2 0 h) = E.db h) (h6 : ∀ h, x6 (ix2 0 h) = E.al h)
  (h9 : ∀ l s, x9 (ix2 l s) = if (s : ℕ) ≤ l then 1 else 0) (h10 : ∀ h q, x10 (ix2 h q) = if (h : ℕ) = (q : ℕ) / 64 then 1 else 0)

include h2 h5 in
theorem pay12_at (l h : Fin 128) : k0_pay12 x2 x5 (ix2 l h) = step E b (128 * c + l) h := by
  pointwise [k0_pay12, h2, h5, ne_eq, not_true_eq_false, if_false, step, softplus]
  rw [zero_sub]
  rfl

include h2 h5 h6 in
theorem pay14_at (l h : Fin 128) : k0_pay14 x2 x5 x6 (ix2 l h) = ldec E b (128 * c + l) h := by
  have h := pay12_at x2 x5 E b c h2 h5
  unfold k0_pay14
  generalize k0_pay12 x2 x5 = p at h
  pointwise [h, h6, ldec]
  rw [zero_sub]

include hE h2 h5 h6 h9 in
theorem bAcs_at (l h : Fin 128) : bAcs x2 x5 x6 x9 (ix2 l h) = cum E b c l h := by
  have h := pay14_at x2 x5 x6 E b c h2 h5 h6
  unfold bAcs k0_pay16 k0_pay15
  generalize k0_pay14 x2 x5 x6 = p at h
  have e1 : ∀ s : Fin 128, ∀ h : Fin 128, ldec E b (128 * c + s) h - ldec E b (128 * c + s) h = 0 := fun s h => (hE.ldec _ _ _).sub_self
  pointwise [k0_pay17, k0_pay13, h, h9, dot_S128x128_S128x128_S128x128_1_0_0_1_n_n]
  simp only [e1, Re.zero.sub_self, mul_zero, Finset.sum_const_zero, add_zero, cum, ite_mul, one_mul, zero_mul]

include hE h2 h5 h6 h9 in
theorem bAcsT_at (h l : Fin 128) : bAcsT x2 x5 x6 x9 (ix2 h l) = cum E b c l h := by
  have hh := bAcs_at x2 x5 x6 x9 E b c hE h2 h5 h6 h9
  unfold bAcs at hh
  unfold bAcsT k0_pay18
  generalize k0_pay17 (k0_pay13 x9) (k0_pay14 x2 x5 x6) (k0_pay15 x2 x5 x6) (k0_pay16 x2 x5 x6) = p at hh
  pointwise [hh]

include hE h2 h5 h10 in
theorem bDtX_at (l : Fin 128) (q : Fin 2048) : bDtX x2 x5 x10 (ix2 l q) = step E b (128 * c + l) (q / 64) := by
  have h := pay12_at x2 x5 E b c h2 h5
  unfold bDtX
  generalize k0_pay12 x2 x5 = p at h
  have e := split_pick (fun x => step E b (128 * c + l) x) (fun x => hE.step _ _ _) (fun x => x10 (ix2 x q)) ⟨q / 64, by omega⟩ (fun x => h10 x q)
  pointwise [k0_pay21, k0_pay20, h, dot_S128x128_S128x2048_S128x2048_1_0_0_1_n_n]
  exact e

include hE h2 h5 h6 h9 h10 in
theorem bEx_at (l : Fin 128) (q : Fin 2048) : bEx x2 x5 x6 x9 x10 (ix2 l q) = Ideal.exp (cum E b c l (q / 64)) := by
  have h := bAcs_at x2 x5 x6 x9 E b c hE h2 h5 h6 h9
  unfold bAcs at h
  unfold bEx k0_pay22
  generalize k0_pay17 (k0_pay13 x9) (k0_pay14 x2 x5 x6) (k0_pay15 x2 x5 x6) (k0_pay16 x2 x5 x6) = p at h
  have e := split_pick (fun x => Ideal.exp (cum E b c l x)) (fun x => (hE.cum _ _ _ _).exp) (fun x => x10 (ix2 x q)) ⟨q / 64, by omega⟩ (fun x => h10 x q)
  pointwise [k0_pay20, h, dot_S128x128_S128x2048_S128x2048_1_0_0_1_n_n]
  exact e

include hE h2 h5 h6 h9 h10 in
theorem bXw_at (xs : FVec Ideal S128x2048 .f32) (hx : ∀ l q, xs (ix2 l q) = act E b (128 * c + l) q) (l : Fin 128) (q : Fin 2048) :
    bXw x2 x5 x6 x9 x10 xs (ix2 l q)
      = xdt E b (128 * c + l) q * Ideal.exp (cum E b c 127 (q / 64) - cum E b c l (q / 64)) := by
  have h := bAcs_at x2 x5 x6 x9 E b c hE h2 h5 h6 h9
  have hd := bDtX_at x2 x5 x10 E b c hE h2 h5 h10
  unfold bAcs at h
  unfold bXw k0_pay26 k0_pay25 k0_pay24 k0_pay23 k0_pay19
  generalize k0_pay17 (k0_pay13 x9) (k0_pay14 x2 x5 x6) (k0_pay15 x2 x5 x6) (k0_pay16 x2 x5 x6) = p at h
  generalize bDtX x2 x5 x10 = dx at hd
  have e := split_pick (fun x => Ideal.exp (cum E b c 127 x - cum E b c l x)) (fun x => ((hE.cum _ _ _ _).sub (hE.cum _ _ _ _)).exp)
    (fun x => x10 (ix2 x q)) ⟨q / 64, by omega⟩ (fun x => h10 x q)
  pointwise [k0_pay29, k0_pay27, k0_pay20, h, hd, hx, xdt, dot_S128x128_S128x2048_S128x2048_1_0_0_1_n_n]
  exact congrArg _ e

end Decay

theorem pay28_at (xs dx : FVec Ideal S128x2048 .f32) (E : Ent) (b c : ℕ) (hx : ∀ l q, xs (ix2 l q) = act E b (128 * c + l) q)
    (hd : ∀ l q, dx (ix2 l q) = step E b (128 * c + l) (q / 64)) (l : Fin 128) (q : Fin 2048) :
    k0_pay28 xs dx (ix2 l q) = xdt E b (128 * c + l) q := by
  pointwise [k0_pay28, k0_pay27, hx, hd, xdt]

/-! ## The groups -/

section Group
variable (vB vC : FVec Ideal S128x512 .f32) (ex : FVec Ideal S128x2048 .f32) (E : Ent) (b c g : ℕ) (hg : g < 4)
  (hB : ∀ l q, vB (ix2 l q) = act E b (128 * c + l) (2048 + q)) (hC : ∀ l q, vC (ix2 l q) = act E b (128 * c + l) (2560 + q))
  (hex : ∀ l q, ex (ix2 l q) = Ideal.exp (cum E b c l (q / 64)))

include hB hC in
theorem grpCB_at (o : ℕ) (ho : o = 128 * g) (h : S128x512.Slices ![0, o] S128x128) (l s : Fin 128) :
    grpCB o h vB vC (ix2 l s) = cbp E b c l s g := by
  subst ho
  pointwise [grpCB, hB, hC, cbp, dot_S128x128_S128x128_S128x128_1_1_0_0_n_n]

include hg hC hex in
theorem grpOff_at (o os : ℕ) (ho : o = 128 * g) (hos : os = 512 * g) (h : S128x512.Slices ![0, o] S128x128)
    (hs : S128x2048.Slices ![0, os] S128x512) (st : FVec Ideal S128x512 .f32)
    (hst : ∀ n j, st (ix2 n j) = state E b c n (512 * g + j)) (l : Fin 128) (j : Fin 512) :
    grpOff o os h hs vC ex st (ix2 l j) = carried E b c l (512 * g + j) := by
  subst ho hos
  have e : (512 * g + (j : ℕ)) / 512 = g := by omega
  pointwise [grpOff, hC, hex, hst, carried, e, dot_S128x128_S128x512_S128x512_1_0_0_1_n_n]

include hg hB hex in
theorem grpState_at (o os : ℕ) (ho : o = 128 * g) (hos : os = 512 * g) (h : S128x512.Slices ![0, o] S128x128)
    (hs : S128x2048.Slices ![0, os] S128x512) (hl : S128x2048.Slices ![127, os] S1x512) (st : FVec Ideal S128x512 .f32)
    (hst : ∀ n j, st (ix2 n j) = state E b c n (512 * g + j)) (xw : FVec Ideal S128x2048 .bf16)
    (hxw : ∀ l q, xw (ix2 l q) = xdt E b (128 * c + l) q * Ideal.exp (cum E b c 127 (q / 64) - cum E b c l (q / 64)))
    (n : Fin 128) (j : Fin 512) :
    grpState o os h hs hl vB ex xw st (ix2 n j) = state E b (c + 1) n (512 * g + j) := by
  subst ho hos
  have e : (512 * g + (j : ℕ)) / 512 = g := by omega
  pointwise [grpState, hB, hex, hst, hxw, state, own, e, dot_S128x128_S128x512_S128x512_1_0_0_1_n_n]

end Group

/-! ## The tiles -/

theorem select_band {α : Type} (s lo hi : ℕ) (hs : s < 2147483648) (hlo : lo < 2147483648) (hhi : hi < 2147483648) (x y : α) :
    Scalar.select (IntOp.andi (IntOp.cmpi .sge (BitVec.ofNat 32 s) (BitVec.ofNat 32 lo)) (IntOp.cmpi .slt (BitVec.ofNat 32 s) (BitVec.ofNat 32 hi))) x y
      = if lo ≤ s ∧ s < hi then x else y := by
  rw [WordCmp.cmpi_sge_ofNat (w := 32) hs hlo, WordCmp.cmpi_slt_ofNat (w := 32) hs hhi]
  by_cases h : lo ≤ s <;> by_cases h' : s < hi
  · rw [if_pos ⟨h, h'⟩, decide_eq_true h, decide_eq_true h']; rfl
  · rw [if_neg (fun k => h' k.2), decide_eq_true h, decide_eq_false h']; rfl
  · rw [if_neg (fun k => h k.1), decide_eq_false h, decide_eq_true h']; rfl
  · rw [if_neg (fun k => h k.1), decide_eq_false h, decide_eq_false h']; rfl

theorem headMix_at (hd : ℕ) (h1 : S128x128.Slices ![0, hd] S128x1) (h2 : S128x128.Slices ![hd, 0] S1x128)
    (v86 v87 cb : FVec Ideal S128x128 .f32) (E : Ent) (b c : ℕ) (h86 : ∀ l h, v86 (ix2 l h) = cum E b c l h)
    (h87 : ∀ h l, v87 (ix2 h l) = cum E b c l h) (hcb : ∀ l s, cb (ix2 l s) = cbp E b c l s (hd / 8)) (l s : Fin 128) :
    headMix hd h1 h2 v86 v87 cb (ix2 l s) = mix E b c l s hd := by
  pointwise [headMix, k0_pay30, h86, h87, hcb, mix]
  rw [select_sge _ _ (by omega) (by omega), ofBits_ninf]

theorem headDot_at (lo hi : ℕ) (hlo : lo < 2147483648) (hhi : hi < 2147483648) (mx xd : FVec Ideal S128x128 .bf16) (l s : Fin 128) :
    headDot (BitVec.ofNat 32 lo) (BitVec.ofNat 32 hi) mx xd (ix2 l s)
      = if lo ≤ (s : ℕ) ∧ (s : ℕ) < hi then ∑ x, mx (ix2 l x) * xd (ix2 x s) else 0 := by
  have e : ∀ x, Scalar.select (IntOp.andi (IntOp.cmpi .sge (BitVec.ofNat 32 s) (BitVec.ofNat 32 lo)) (IntOp.cmpi .slt (BitVec.ofNat 32 s) (BitVec.ofNat 32 hi)))
      (xd (ix2 x s)) (0 : EReal) = if lo ≤ (s : ℕ) ∧ (s : ℕ) < hi then xd (ix2 x s) else 0 := fun x => select_band s lo hi (by omega) hlo hhi _ _
  pointwise [headDot, laneBand, dot_S128x128_S128x128_S128x128_1_0_0_1_n_n, e]
  split <;> simp only [mul_zero, Finset.sum_const_zero]

theorem tileV_at (o oy hd hd' : ℕ) (h1 : S128x128.Slices ![0, hd] S128x1) (h2 : S128x128.Slices ![hd, 0] S1x128)
    (h1' : S128x128.Slices ![0, hd'] S128x1) (h2' : S128x128.Slices ![hd', 0] S1x128)
    (ho : S128x2048.Slices ![0, o] S128x128) (hoy : S128x512.Slices ![0, oy] S128x128)
    (v43 : FVec Ideal S128x2048 .f32) (v86 v87 : FVec Ideal S128x128 .f32) (v132 : FVec Ideal S128x2048 .bf16)
    (cb : FVec Ideal S128x128 .f32) (yo : FVec Ideal S128x512 .f32) (d : FVec Ideal S1x128 .f32) (z : FVec Ideal S128x128 .f32)
    (E : Ent) (b c k : ℕ) (hk : k < 16) (eo : o = 128 * k) (eoy : oy = 128 * (k % 4)) (ehd : hd = 2 * k) (ehd' : hd' = 2 * k + 1)
    (h43 : ∀ l q, v43 (ix2 l q) = act E b (128 * c + l) q) (h86 : ∀ l h, v86 (ix2 l h) = cum E b c l h)
    (h87 : ∀ h l, v87 (ix2 h l) = cum E b c l h) (h132 : ∀ l q, v132 (ix2 l q) = xdt E b (128 * c + l) q)
    (hcb : ∀ l s, cb (ix2 l s) = cbp E b c l s (k / 4)) (hyo : ∀ l j, yo (ix2 l j) = carried E b c l (512 * (k / 4) + j))
    (hd0 : ∀ s, d (ix2 0 s) = E.sk ((128 * k + s) / 64)) (hz : ∀ l s, z (ix2 l s) = E.z b (128 * c + l) (128 * k + s)) (l s : Fin 128) :
    tileV o oy hd hd' h1 h2 h1' h2' ho hoy v43 v86 v87 v132 cb yo d z (ix2 l s) = gated E b c l (128 * k + s) := by
  subst eo eoy ehd ehd'
  have m1 := headMix_at (2 * k) h1 h2 v86 v87 cb E b c h86 h87 (by rw [show 2 * k / 8 = k / 4 by omega]; exact hcb)
  have m2 := headMix_at (2 * k + 1) h1' h2' v86 v87 cb E b c h86 h87 (by rw [show (2 * k + 1) / 8 = k / 4 by omega]; exact hcb)
  unfold tileV
  generalize headMix (2 * k) h1 h2 v86 v87 cb = mx1 at m1
  generalize headMix (2 * k + 1) h1' h2' v86 v87 cb = mx2 at m2
  have hx : ∀ x : Fin 128, extractStridedSlice S128x128 ![0, 128 * k] v132 ho (ix2 x s) = xdt E b (128 * c + x) (128 * k + s) := by
    intro x
    pointwise [h132]
  generalize extractStridedSlice S128x128 ![0, 128 * k] v132 ho = xd at hx
  have d1 := headDot_at 0 64 (by omega) (by omega) mx1 xd l s
  have d2 := headDot_at 64 128 (by omega) (by omega) mx2 xd l s
  simp only [m1, m2, hx] at d1 d2
  generalize headDot (BitVec.ofNat 32 0) (BitVec.ofNat 32 64) mx1 xd = y1 at d1
  generalize headDot (BitVec.ofNat 32 64) (BitVec.ofNat 32 128) mx2 xd = y2 at d2
  have hdg : y1 (ix2 l s) + y2 (ix2 l s) = diag E b c l (128 * k + s) := by
    rw [d1, d2]
    have hs := s.isLt
    unfold diag
    by_cases h : (s : ℕ) < 64
    · rw [if_pos ⟨Nat.zero_le _, h⟩, if_neg (by omega), add_zero, show (128 * k + (s : ℕ)) / 64 = 2 * k by omega]
    · rw [if_neg (by omega), if_pos ⟨by omega, hs⟩, zero_add, show (128 * k + (s : ℕ)) / 64 = 2 * k + 1 by omega]
  have ey : 512 * (k / 4) + (128 * (k % 4) + (s : ℕ)) = 128 * k + s := by omega
  pointwise [h43, hyo, hd0, hz, ey, gated, silu]
  rw [add_assoc (carried E b c l _), hdg]
  rfl

theorem pay122_at (y : FVec Ideal S128x2048 .f32) (g : Vec Ideal S1x2048 .f32) (E : Ent) (b c : ℕ)
    (hy : ∀ l q, y (ix2 l q) = gated E b c l q) (hg : ∀ q, g (ix2 0 q) = E.ng q) (l : Fin 128) (q : Fin 2048) :
    k0_pay122 y g (ix2 l q) = out E b c l q := by
  pointwise [k0_pay122, hy, hg, out]

end Cert.KernelIdeal.Value
-- ==== Proof.SsdHost.lean ====
/-
  The scan kernel's windows at a point, read at an index off the arrays the host part leaves, and those arrays read
  back to the arguments.
-/
module

public import proofs.«01_k».proof.Proof.SsdIdeal

@[expose] public section

set_option maxRecDepth 10000

noncomputable section

namespace Cert.KernelIdeal.Value

open Cert.KernelIdeal Cert.KernelIdeal.Gen Cert.Ssd
open Idealize.ShloMosaic Idealize.ShloMosaic.TcCoe Idealize.ShloMosaic.Tactic Idealize.SL.Sem
open Idealize.ShloMosaic.StableHlo
open scoped BigOperators

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 128) (q : Fin 3072) (r' : Fin 16384) (hr : (r' : ℕ) = 128 * t + r) :
    (iblk m c 0 t : Vec F S128x3072 .f32) (ix2 r q) = (V m c main_v3 : Vec F S16384x3072 .f32) (ix2 r' q) := by
  obtain ⟨e0, e1⟩ := index0 t
  refine congrArg (V m c main_v3 : Vec F S16384x3072 .f32) (funext (Fin.forall_fin_two.mpr ⟨Fin.ext ?_, Fin.ext ?_⟩))
  · show win0_0.index t (0 : Fin 2) * 128 + 1 * (r : ℕ) = r'
    omega
  · show win0_0.index t (1 : Fin 2) * 3072 + 1 * (q : ℕ) = q
    omega
theorem index1 : ∀ t : Fin cfg0.N, win0_1.index t (0 : Fin 2) = t.val ∧ win0_1.index t (1 : Fin 2) = 0 :=
  (by decide +kernel : ∀ t : Fin grid0.N, _)
theorem iblk1_at (c : Dev nD) (t : Fin cfg0.N) (r : Fin 128) (q : Fin 2048) (r' : Fin 16384) (hr : (r' : ℕ) = 128 * t + r) :
    (iblk m c 1 t : Vec F S128x2048 .f32) (ix2 r q) = (V m c main_v2 : Vec F S16384x2048 .f32) (ix2 r' q) := by
  obtain ⟨e0, e1⟩ := index1 t
  refine congrArg (V m c main_v2 : Vec F S16384x2048 .f32) (funext (Fin.forall_fin_two.mpr ⟨Fin.ext ?_, Fin.ext ?_⟩))
  · show win0_1.index t (0 : Fin 2) * 128 + 1 * (r : ℕ) = r'
    omega
  · show win0_1.index t (1 : Fin 2) * 2048 + 1 * (q : ℕ) = q
    omega
theorem index2 : ∀ t : Fin cfg0.N, win0_2.index t (0 : Fin 2) = t.val ∧ win0_2.index t (1 : Fin 2) = 0 :=
  (by decide +kernel : ∀ t : Fin grid0.N, _)
theorem iblk2_at (c : Dev nD) (t : Fin cfg0.N) (r : Fin 128) (q : Fin 128) (r' : Fin 16384) (hr : (r' : ℕ) = 128 * t + r) :
    (iblk m c 2 t : Vec F S128x128 .f32) (ix2 r q) = (V m c main_v1 : Vec F S16384x128 .f32) (ix2 r' q) := by
  obtain ⟨e0, e1⟩ := index2 t
  refine congrArg (V m c main_v1 : Vec F S16384x128 .f32) (funext (Fin.forall_fin_two.mpr ⟨Fin.ext ?_, Fin.ext ?_⟩))
  · show win0_2.index t (0 : Fin 2) * 128 + 1 * (r : ℕ) = r'
    omega
  · show win0_2.index t (1 : Fin 2) * 128 + 1 * (q : ℕ) = q
    omega
theorem index3 : ∀ t : Fin cfg0.N, win0_3.index t (0 : Fin 2) = 0 ∧ win0_3.index t (1 : Fin 2) = 0 :=
  (by decide +kernel : ∀ t : Fin grid0.N, _)
theorem iblk3_at (c : Dev nD) (t : Fin cfg0.N) (r : Fin 4) (q : Fin 3072) (r' : Fin 4) (hr : (r' : ℕ) = r) :
    (iblk m c 3 t : Vec F S4x3072 .f32) (ix2 r q) = (V m c main_v21 : Vec F S4x3072 .f32) (ix2 r' q) := by
  obtain ⟨e0, e1⟩ := index3 t
  refine congrArg (V m c main_v21 : Vec F S4x3072 .f32) (funext (Fin.forall_fin_two.mpr ⟨Fin.ext ?_, Fin.ext ?_⟩))
  · show win0_3.index t (0 : Fin 2) * 4 + 1 * (r : ℕ) = r'
    omega
  · show win0_3.index t (1 : Fin 2) * 3072 + 1 * (q : ℕ) = q
    omega
theorem index4 : ∀ t : Fin cfg0.N, win0_4.index t (0 : Fin 2) = 0 ∧ win0_4.index t (1 : Fin 2) = 0 :=
  (by decide +kernel : ∀ t : Fin grid0.N, _)
theorem iblk4_at (c : Dev nD) (t : Fin cfg0.N) (r : Fin 1) (q : Fin 3072) (r' : Fin 1) (hr : (r' : ℕ) = r) :
    (iblk m c 4 t : Vec F S1x3072 .f32) (ix2 r q) = (V m c main_v22 : Vec F S1x3072 .f32) (ix2 r' q) := by
  obtain ⟨e0, e1⟩ := index4 t
  refine congrArg (V m c main_v22 : Vec F S1x3072 .f32) (funext (Fin.forall_fin_two.mpr ⟨Fin.ext ?_, Fin.ext ?_⟩))
  · show win0_4.index t (0 : Fin 2) * 1 + 1 * (r : ℕ) = r'
    omega
  · show win0_4.index t (1 : Fin 2) * 3072 + 1 * (q : ℕ) = q
    omega
theorem index5 : ∀ t : Fin cfg0.N, win0_5.index t (0 : Fin 2) = 0 ∧ win0_5.index t (1 : Fin 2) = 0 :=
  (by decide +kernel : ∀ t : Fin grid0.N, _)
theorem iblk5_at (c : Dev nD) (t : Fin cfg0.N) (r : Fin 1) (q : Fin 128) (r' : Fin 1) (hr : (r' : ℕ) = r) :
    (iblk m c 5 t : Vec F S1x128 .f32) (ix2 r q) = (V m c main_v24 : Vec F S1x128 .f32) (ix2 r' q) := by
  obtain ⟨e0, e1⟩ := index5 t
  refine congrArg (V m c main_v24 : Vec F S1x128 .f32) (funext (Fin.forall_fin_two.mpr ⟨Fin.ext ?_, Fin.ext ?_⟩))
  · show win0_5.index t (0 : Fin 2) * 1 + 1 * (r : ℕ) = r'
    omega
  · show win0_5.index t (1 : Fin 2) * 128 + 1 * (q : ℕ) = q
    omega
theorem index6 : ∀ t : Fin cfg0.N, win0_6.index t (0 : Fin 2) = 0 ∧ win0_6.index t (1 : Fin 2) = 0 :=
  (by decide +kernel : ∀ t : Fin grid0.N, _)
theorem iblk6_at (c : Dev nD) (t : Fin cfg0.N) (r : Fin 1) (q : Fin 128) (r' : Fin 1) (hr : (r' : ℕ) = r) :
    (iblk m c 6 t : Vec F S1x128 .f32) (ix2 r q) = (V m c main_v26 : Vec F S1x128 .f32) (ix2 r' q) := by
  obtain ⟨e0, e1⟩ := index6 t
  refine congrArg (V m c main_v26 : Vec F S1x128 .f32) (funext (Fin.forall_fin_two.mpr ⟨Fin.ext ?_, Fin.ext ?_⟩))
  · show win0_6.index t (0 : Fin 2) * 1 + 1 * (r : ℕ) = r'
    omega
  · show win0_6.index t (1 : Fin 2) * 128 + 1 * (q : ℕ) = q
    omega
theorem index7 : ∀ t : Fin cfg0.N, win0_7.index t (0 : Fin 2) = 0 ∧ win0_7.index t (1 : Fin 2) = 0 :=
  (by decide +kernel : ∀ t : Fin grid0.N, _)
theorem iblk7_at (c : Dev nD) (t : Fin cfg0.N) (r : Fin 1) (q : Fin 2048) (r' : Fin 1) (hr : (r' : ℕ) = r) :
    (iblk m c 7 t : Vec F S1x2048 .f32) (ix2 r q) = (V m c main_v29 : Vec F S1x2048 .f32) (ix2 r' q) := by
  obtain ⟨e0, e1⟩ := index7 t
  refine congrArg (V m c main_v29 : Vec F S1x2048 .f32) (funext (Fin.forall_fin_two.mpr ⟨Fin.ext ?_, Fin.ext ?_⟩))
  · show win0_7.index t (0 : Fin 2) * 1 + 1 * (r : ℕ) = r'
    omega
  · show win0_7.index t (1 : Fin 2) * 2048 + 1 * (q : ℕ) = q
    omega
theorem index8 : ∀ t : Fin cfg0.N, win0_8.index t (0 : Fin 2) = 0 ∧ win0_8.index t (1 : Fin 2) = 0 :=
  (by decide +kernel : ∀ t : Fin grid0.N, _)
theorem iblk8_at (c : Dev nD) (t : Fin cfg0.N) (r : Fin 1) (q : Fin 2048) (r' : Fin 1) (hr : (r' : ℕ) = r) :
    (iblk m c 8 t : Vec F S1x2048 .f32) (ix2 r q) = (V m c main_v30 : Vec F S1x2048 .f32) (ix2 r' q) := by
  obtain ⟨e0, e1⟩ := index8 t
  refine congrArg (V m c main_v30 : Vec F S1x2048 .f32) (funext (Fin.forall_fin_two.mpr ⟨Fin.ext ?_, Fin.ext ?_⟩))
  · show win0_8.index t (0 : Fin 2) * 1 + 1 * (r : ℕ) = r'
    omega
  · show win0_8.index t (1 : Fin 2) * 2048 + 1 * (q : ℕ) = q
    omega
theorem index9 : ∀ t : Fin cfg0.N, win0_9.index t (0 : Fin 2) = 0 ∧ win0_9.index t (1 : Fin 2) = 0 :=
  (by decide +kernel : ∀ t : Fin grid0.N, _)
theorem iblk9_at (c : Dev nD) (t : Fin cfg0.N) (r : Fin 128) (q : Fin 128) (r' : Fin 128) (hr : (r' : ℕ) = r) :
    (iblk m c 9 t : Vec F S128x128 .bf16) (ix2 r q) = (V m c main_v11 : Vec F S128x128 .bf16) (ix2 r' q) := by
  obtain ⟨e0, e1⟩ := index9 t
  refine congrArg (V m c main_v11 : Vec F S128x128 .bf16) (funext (Fin.forall_fin_two.mpr ⟨Fin.ext ?_, Fin.ext ?_⟩))
  · show win0_9.index t (0 : Fin 2) * 128 + 1 * (r : ℕ) = r'
    omega
  · show win0_9.index t (1 : Fin 2) * 128 + 1 * (q : ℕ) = q
    omega
theorem index10 : ∀ t : Fin cfg0.N, win0_10.index t (0 : Fin 2) = 0 ∧ win0_10.index t (1 : Fin 2) = 0 :=
  (by decide +kernel : ∀ t : Fin grid0.N, _)
theorem iblk10_at (c : Dev nD) (t : Fin cfg0.N) (r : Fin 128) (q : Fin 2048) (r' : Fin 128) (hr : (r' : ℕ) = r) :
    (iblk m c 10 t : Vec F S128x2048 .bf16) (ix2 r q) = (V m c main_v20 : Vec F S128x2048 .bf16) (ix2 r' q) := by
  obtain ⟨e0, e1⟩ := index10 t
  refine congrArg (V m c main_v20 : Vec F S128x2048 .bf16) (funext (Fin.forall_fin_two.mpr ⟨Fin.ext ?_, Fin.ext ?_⟩))
  · show win0_10.index t (0 : Fin 2) * 128 + 1 * (r : ℕ) = r'
    omega
  · show win0_10.index t (1 : Fin 2) * 2048 + 1 * (q : ℕ) = q
    omega
end Blocks

section Host
variable {F : FTy → Type} [FloatOps F]

/-- The rows and columns at or below the diagonal. -/
def hTri : FVec F S128x128 .bf16 :=
  uitofp .bf16 (cmpi .sge (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

/-- The whole quotient by a number, rounded down. -/
def hDiv (x : IVec S1x2048 32) (y : IVec S_ 32) : IVec S1x2048 32 :=
  select (andi (cmpi .ne (signi x) (broadcastInDim S1x2048 ![] bcast_S_S1x2048 (signi y)))
      (cmpi .ne (Host.remsi x (broadcastInDim S1x2048 ![] bcast_S_S1x2048 y)) (broadcastInDim S1x2048 ![] bcast_S_S1x2048 (constantI S_ 32 0#32))))
    (subi (Host.divsi x (broadcastInDim S1x2048 ![] bcast_S_S1x2048 y)) (broadcastInDim S1x2048 ![] bcast_S_S1x2048 (constantI S_ 32 1#32)))
    (Host.divsi x (broadcastInDim S1x2048 ![] bcast_S_S1x2048 y))

/-- The lane's head, one hot. -/
def hHot : FVec F S128x2048 .bf16 :=
  uitofp .bf16 (cmpi .eq (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (hDiv (broadcastInDim S1x2048 ![1] bcast_S2048_S1x2048_1 (iotaInDim S2048 32 0)) (constantI S_ 32 64#32))))

/-- The step sizes' columns padded to 128 with zeros. -/
def hPadD (a : Vec F S2x8192x32 .f32) : Vec F S16384x128 .f32 :=
  pad S16384x128 ![0, 0] ![0, 96] ![0, 0] (shapeCast S16384x32 a shapeCasts_S2x8192x32_S16384x32) (sitofp .f32 (constantI S_ 32 0#32) : FVec F S_ .f32) pads_S16384x32_S16384x128_000_0960 h_S_
/-- A row of 32 padded to 128 with zeros. -/
def hPadH (a : Vec F S32 .f32) : Vec F S1x128 .f32 :=
  pad S1x128 ![0, 0] ![0, 96] ![0, 0] (shapeCast S1x32 a shapeCasts_S32_S1x32) (sitofp .f32 (constantI S_ 32 0#32) : FVec F S_ .f32) pads_S1x32_S1x128_000_0960 h_S_
/-- A number per head over the head's lanes. -/
def hLanes (a : Vec F S32 .f32) : Vec F S1x2048 .f32 :=
  shapeCast S1x2048 (shapeCast S2048 (broadcastInDim S32x64 ![0] bcast_S32_S32x64_0 a) shapeCasts_S32x64_S2048) shapeCasts_S2048_S1x2048

variable (m : (ℓ : Loc nD τ sig) → Buf (Elt F) ℓ)

theorem V_v3 (c : Dev nD) : (V m c main_v3 : Vec F S16384x3072 .f32) = shapeCast S16384x3072 (m (c, Proc.devRef .tc main_arg1) : Vec F S2x8192x3072 .f32) shapeCasts_S2x8192x3072_S16384x3072 := by
  unfold V
  simp only [List.flatten_cons, List.flatten_nil, List.cons_append, List.nil_append]
  after_results
  rfl
theorem V_v2 (c : Dev nD) : (V m c main_v2 : Vec F S16384x2048 .f32) = shapeCast S16384x2048 (m (c, Proc.devRef .tc main_arg0) : Vec F S2x8192x2048 .f32) shapeCasts_S2x8192x2048_S16384x2048 := by
  unfold V
  simp only [List.flatten_cons, List.flatten_nil, List.cons_append, List.nil_append]
  after_results
  rfl
theorem V_v1 (c : Dev nD) : (V m c main_v1 : Vec F S16384x128 .f32) = hPadD (m (c, Proc.devRef .tc main_arg2) : Vec F S2x8192x32 .f32) := by
  unfold V
  simp only [List.flatten_cons, List.flatten_nil, List.cons_append, List.nil_append]
  after_results
  rfl
theorem V_v21 (c : Dev nD) : (V m c main_v21 : Vec F S4x3072 .f32) = shapeCast S4x3072 (m (c, Proc.devRef .tc main_arg3) : Vec F S4x1x3072 .f32) shapeCasts_S4x1x3072_S4x3072 := by
  unfold V
  simp only [List.flatten_cons, List.flatten_nil, List.cons_append, List.nil_append]
  after_results
  rfl
theorem V_v22 (c : Dev nD) : (V m c main_v22 : Vec F S1x3072 .f32) = shapeCast S1x3072 (m (c, Proc.devRef .tc main_arg4) : Vec F S3072 .f32) shapeCasts_S3072_S1x3072 := by
  unfold V
  simp only [List.flatten_cons, List.flatten_nil, List.cons_append, List.nil_append]
  after_results
  rfl
theorem V_v24 (c : Dev nD) : (V m c main_v24 : Vec F S1x128 .f32) = hPadH (m (c, Proc.devRef .tc main_arg5) : Vec F S32 .f32) := by
  unfold V
  simp only [List.flatten_cons, List.flatten_nil, List.cons_append, List.nil_append]
  after_results
  rfl
theorem V_v26 (c : Dev nD) : (V m c main_v26 : Vec F S1x128 .f32) = hPadH (m (c, Proc.devRef .tc main_arg6) : Vec F S32 .f32) := by
  unfold V
  simp only [List.flatten_cons, List.flatten_nil, List.cons_append, List.nil_append]
  after_results
  rfl
theorem V_v29 (c : Dev nD) : (V m c main_v29 : Vec F S1x2048 .f32) = hLanes (m (c, Proc.devRef .tc main_arg7) : Vec F S32 .f32) := by
  unfold V
  simp only [List.flatten_cons, List.flatten_nil, List.cons_append, List.nil_append]
  after_results
  rfl
theorem V_v30 (c : Dev nD) : (V m c main_v30 : Vec F S1x2048 .f32) = shapeCast S1x2048 (m (c, Proc.devRef .tc main_arg8) : Vec F S2048 .f32) shapeCasts_S2048_S1x2048 := by
  unfold V
  simp only [List.flatten_cons, List.flatten_nil, List.cons_append, List.nil_append]
  after_results
  rfl
theorem V_v11 (c : Dev nD) : (V m c main_v11 : Vec F S128x128 .bf16) = hTri := by
  unfold V
  simp only [List.flatten_cons, List.flatten_nil, List.cons_append, List.nil_append]
  after_results
  rfl
theorem V_v20 (c : Dev nD) : (V m c main_v20 : Vec F S128x2048 .bf16) = hHot := by
  unfold V
  simp only [List.flatten_cons, List.flatten_nil, List.cons_append, List.nil_append]
  after_results
  rfl
end Host
end Cert.KernelIdeal.Value
-- ==== Proof.SsdPointB.lean ====
/-
  What one grid point of the scan kernel leaves: the stores its run found, read as the parts of `SsdParts`.
-/
module

public import proofs.«01_k».proof.Proof.SsdParts

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- One store read back over what the buffer held before. -/
theorem read_writes_one {sig : RefSig} {κ : Kind} {sp : Space} {s : Shape} {e : EltTy} {Val : EltTy → Type}
    (v : View sig κ sp s e) (f : v.ty.Contents Val) (r : Rect s) (w : r.shape.Idx → Val e) :
    v.read Val (v.writes Val f [⟨r, w⟩]) = r.overlay (v.read Val f) w := by
  funext y
  by_cases hy : y ∈ r.set
  · obtain ⟨x, rfl⟩ := r.exists_idx_of_mem hy
    rw [show r.idx x = r.emb x from rfl, View.read_writes_cons_emb, r.overlay_emb]
  · rw [View.read_writes_cons_miss v f _ _ _ hy, r.overlay_of_not_mem _ _ hy]
    rfl

/-- The row buffer with the chunk's rows stored from row 8. -/
def extOf (xs0 : Vec F S136x3072 .f32) (x0 : Vec F S128x3072 .f32) : Vec F S136x3072 .f32 :=
  (Rect.unit (s := S136x3072) ![8, 0] S128x3072.size inb_S136x3072_S128x3072_8_0).overlay xs0 (k0_pay4 x0)
abbrev stCol0 (st : Vec F S128x2048 .f32) : Vec F S128x512 .f32 := View.ld st (Rect.unit (s := S128x2048) ![0, 0] S128x512.size inb_S128x2048_S128x512_0_0)
abbrev stCol512 (st : Vec F S128x2048 .f32) : Vec F S128x512 .f32 := View.ld st (Rect.unit (s := S128x2048) ![0, 512] S128x512.size inb_S128x2048_S128x512_0_512)
abbrev stCol1024 (st : Vec F S128x2048 .f32) : Vec F S128x512 .f32 := View.ld st (Rect.unit (s := S128x2048) ![0, 1024] S128x512.size inb_S128x2048_S128x512_0_1024)
abbrev stCol1536 (st : Vec F S128x2048 .f32) : Vec F S128x512 .f32 := View.ld st (Rect.unit (s := S128x2048) ![0, 1536] S128x512.size inb_S128x2048_S128x512_0_1536)
abbrev ext5 (E : Vec F S136x3072 .f32) : Vec F S128x3072 .f32 := View.ld E (Rect.unit ![5, 0] S128x3072.size inb_S136x3072_S128x3072_5_0)
abbrev ext6 (E : Vec F S136x3072 .f32) : Vec F S128x3072 .f32 := View.ld E (Rect.unit ![6, 0] S128x3072.size inb_S136x3072_S128x3072_6_0)
abbrev ext7 (E : Vec F S136x3072 .f32) : Vec F S128x3072 .f32 := View.ld E (Rect.unit ![7, 0] S128x3072.size inb_S136x3072_S128x3072_7_0)

theorem state_B  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : ¬cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) (xs0 : Vec F S136x3072 .f32) (xs1 : Vec F S128x2048 .f32) : sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 =
    View.canon [⟨Rect.unit (s := S128x2048) ![0, 1536] ![128, 512] inb_S128x2048_S128x512_0_1536, grpState 384 1536 slices_S128x512_o0_384_S128x128 slices_S128x2048_o0_1536_S128x512 slices_S128x2048_o127_1536_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol1536 xs1)⟩,
    ⟨Rect.unit (s := S128x2048) ![0, 1024] ![128, 512] inb_S128x2048_S128x512_0_1024, grpState 256 1024 slices_S128x512_o0_256_S128x128 slices_S128x2048_o0_1024_S128x512 slices_S128x2048_o127_1024_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol1024 xs1)⟩,
    ⟨Rect.unit (s := S128x2048) ![0, 512] ![128, 512] inb_S128x2048_S128x512_0_512, grpState 128 512 slices_S128x512_o0_128_S128x128 slices_S128x2048_o0_512_S128x512 slices_S128x2048_o127_512_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol512 xs1)⟩,
    ⟨Rect.unit (s := S128x2048) ![0, 0] ![128, 512] inb_S128x2048_S128x512_0_0, grpState 0 0 slices_S128x512_o0_0_S128x128 slices_S128x2048_o0_0_S128x512 slices_S128x2048_o127_0_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol0 xs1)⟩] := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  sl_unfold_words
  simp only [View.readAt_eq_ld, read_writes_one, harg2.read_unread, harg3.read_unread, harg4.read_unread, harg5.read_unread, harg6.read_unread, harg7.read_unread, harg8.read_unread, harg9.read_unread, harg10.read_unread, harg11.read_unread, harg12.read_unread, harg14.read_unread, harg15.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2]
  rfl

theorem out_B  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : ¬cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) (xs0 : Vec F S136x3072 .f32) (xs1 : Vec F S128x2048 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 =
    k0_pay122 (View.canon [⟨Rect.unit ![0, 1920] ![128, 128] inb_S128x2048_S128x128_0_1920, tileV 1920 384 30 31 slices_S128x128_o0_30_S128x1 slices_S128x128_o30_0_S1x128
      slices_S128x128_o0_31_S128x1 slices_S128x128_o31_0_S1x128 slices_S128x2048_o0_1920_S128x128 slices_S128x512_o0_384_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1920] ![1, 128] inb_S1x2048_S1x128_0_1920)) (View.ld x1 (Rect.unit ![0, 1920] ![128, 128] inb_S128x2048_S128x128_0_1920))⟩,
    ⟨Rect.unit ![0, 1792] ![128, 128] inb_S128x2048_S128x128_0_1792, tileV 1792 256 28 29 slices_S128x128_o0_28_S128x1 slices_S128x128_o28_0_S1x128
      slices_S128x128_o0_29_S128x1 slices_S128x128_o29_0_S1x128 slices_S128x2048_o0_1792_S128x128 slices_S128x512_o0_256_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1792] ![1, 128] inb_S1x2048_S1x128_0_1792)) (View.ld x1 (Rect.unit ![0, 1792] ![128, 128] inb_S128x2048_S128x128_0_1792))⟩,
    ⟨Rect.unit ![0, 1664] ![128, 128] inb_S128x2048_S128x128_0_1664, tileV 1664 128 26 27 slices_S128x128_o0_26_S128x1 slices_S128x128_o26_0_S1x128
      slices_S128x128_o0_27_S128x1 slices_S128x128_o27_0_S1x128 slices_S128x2048_o0_1664_S128x128 slices_S128x512_o0_128_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1664] ![1, 128] inb_S1x2048_S1x128_0_1664)) (View.ld x1 (Rect.unit ![0, 1664] ![128, 128] inb_S128x2048_S128x128_0_1664))⟩,
    ⟨Rect.unit ![0, 1536] ![128, 128] inb_S128x2048_S128x128_0_1536, tileV 1536 0 24 25 slices_S128x128_o0_24_S128x1 slices_S128x128_o24_0_S1x128
      slices_S128x128_o0_25_S128x1 slices_S128x128_o25_0_S1x128 slices_S128x2048_o0_1536_S128x128 slices_S128x512_o0_0_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1536] ![1, 128] inb_S1x2048_S1x128_0_1536)) (View.ld x1 (Rect.unit ![0, 1536] ![128, 128] inb_S128x2048_S128x128_0_1536))⟩,
    ⟨Rect.unit ![0, 1408] ![128, 128] inb_S128x2048_S128x128_0_1408, tileV 1408 384 22 23 slices_S128x128_o0_22_S128x1 slices_S128x128_o22_0_S1x128
      slices_S128x128_o0_23_S128x1 slices_S128x128_o23_0_S1x128 slices_S128x2048_o0_1408_S128x128 slices_S128x512_o0_384_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1408] ![1, 128] inb_S1x2048_S1x128_0_1408)) (View.ld x1 (Rect.unit ![0, 1408] ![128, 128] inb_S128x2048_S128x128_0_1408))⟩,
    ⟨Rect.unit ![0, 1280] ![128, 128] inb_S128x2048_S128x128_0_1280, tileV 1280 256 20 21 slices_S128x128_o0_20_S128x1 slices_S128x128_o20_0_S1x128
      slices_S128x128_o0_21_S128x1 slices_S128x128_o21_0_S1x128 slices_S128x2048_o0_1280_S128x128 slices_S128x512_o0_256_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1280] ![1, 128] inb_S1x2048_S1x128_0_1280)) (View.ld x1 (Rect.unit ![0, 1280] ![128, 128] inb_S128x2048_S128x128_0_1280))⟩,
    ⟨Rect.unit ![0, 1152] ![128, 128] inb_S128x2048_S128x128_0_1152, tileV 1152 128 18 19 slices_S128x128_o0_18_S128x1 slices_S128x128_o18_0_S1x128
      slices_S128x128_o0_19_S128x1 slices_S128x128_o19_0_S1x128 slices_S128x2048_o0_1152_S128x128 slices_S128x512_o0_128_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1152] ![1, 128] inb_S1x2048_S1x128_0_1152)) (View.ld x1 (Rect.unit ![0, 1152] ![128, 128] inb_S128x2048_S128x128_0_1152))⟩,
    ⟨Rect.unit ![0, 1024] ![128, 128] inb_S128x2048_S128x128_0_1024, tileV 1024 0 16 17 slices_S128x128_o0_16_S128x1 slices_S128x128_o16_0_S1x128
      slices_S128x128_o0_17_S128x1 slices_S128x128_o17_0_S1x128 slices_S128x2048_o0_1024_S128x128 slices_S128x512_o0_0_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1024] ![1, 128] inb_S1x2048_S1x128_0_1024)) (View.ld x1 (Rect.unit ![0, 1024] ![128, 128] inb_S128x2048_S128x128_0_1024))⟩,
    ⟨Rect.unit ![0, 896] ![128, 128] inb_S128x2048_S128x128_0_896, tileV 896 384 14 15 slices_S128x128_o0_14_S128x1 slices_S128x128_o14_0_S1x128
      slices_S128x128_o0_15_S128x1 slices_S128x128_o15_0_S1x128 slices_S128x2048_o0_896_S128x128 slices_S128x512_o0_384_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 896] ![1, 128] inb_S1x2048_S1x128_0_896)) (View.ld x1 (Rect.unit ![0, 896] ![128, 128] inb_S128x2048_S128x128_0_896))⟩,
    ⟨Rect.unit ![0, 768] ![128, 128] inb_S128x2048_S128x128_0_768, tileV 768 256 12 13 slices_S128x128_o0_12_S128x1 slices_S128x128_o12_0_S1x128
      slices_S128x128_o0_13_S128x1 slices_S128x128_o13_0_S1x128 slices_S128x2048_o0_768_S128x128 slices_S128x512_o0_256_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 768] ![1, 128] inb_S1x2048_S1x128_0_768)) (View.ld x1 (Rect.unit ![0, 768] ![128, 128] inb_S128x2048_S128x128_0_768))⟩,
    ⟨Rect.unit ![0, 640] ![128, 128] inb_S128x2048_S128x128_0_640, tileV 640 128 10 11 slices_S128x128_o0_10_S128x1 slices_S128x128_o10_0_S1x128
      slices_S128x128_o0_11_S128x1 slices_S128x128_o11_0_S1x128 slices_S128x2048_o0_640_S128x128 slices_S128x512_o0_128_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 640] ![1, 128] inb_S1x2048_S1x128_0_640)) (View.ld x1 (Rect.unit ![0, 640] ![128, 128] inb_S128x2048_S128x128_0_640))⟩,
    ⟨Rect.unit ![0, 512] ![128, 128] inb_S128x2048_S128x128_0_512, tileV 512 0 8 9 slices_S128x128_o0_8_S128x1 slices_S128x128_o8_0_S1x128
      slices_S128x128_o0_9_S128x1 slices_S128x128_o9_0_S1x128 slices_S128x2048_o0_512_S128x128 slices_S128x512_o0_0_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 512] ![1, 128] inb_S1x2048_S1x128_0_512)) (View.ld x1 (Rect.unit ![0, 512] ![128, 128] inb_S128x2048_S128x128_0_512))⟩,
    ⟨Rect.unit ![0, 384] ![128, 128] inb_S128x2048_S128x128_0_384, tileV 384 384 6 7 slices_S128x128_o0_6_S128x1 slices_S128x128_o6_0_S1x128
      slices_S128x128_o0_7_S128x1 slices_S128x128_o7_0_S1x128 slices_S128x2048_o0_384_S128x128 slices_S128x512_o0_384_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 384] ![1, 128] inb_S1x2048_S1x128_0_384)) (View.ld x1 (Rect.unit ![0, 384] ![128, 128] inb_S128x2048_S128x128_0_384))⟩,
    ⟨Rect.unit ![0, 256] ![128, 128] inb_S128x2048_S128x128_0_256, tileV 256 256 4 5 slices_S128x128_o0_4_S128x1 slices_S128x128_o4_0_S1x128
      slices_S128x128_o0_5_S128x1 slices_S128x128_o5_0_S1x128 slices_S128x2048_o0_256_S128x128 slices_S128x512_o0_256_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 256] ![1, 128] inb_S1x2048_S1x128_0_256)) (View.ld x1 (Rect.unit ![0, 256] ![128, 128] inb_S128x2048_S128x128_0_256))⟩,
    ⟨Rect.unit ![0, 128] ![128, 128] inb_S128x2048_S128x128_0_128, tileV 128 128 2 3 slices_S128x128_o0_2_S128x1 slices_S128x128_o2_0_S1x128
      slices_S128x128_o0_3_S128x1 slices_S128x128_o3_0_S1x128 slices_S128x2048_o0_128_S128x128 slices_S128x512_o0_128_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 128] ![1, 128] inb_S1x2048_S1x128_0_128)) (View.ld x1 (Rect.unit ![0, 128] ![128, 128] inb_S128x2048_S128x128_0_128))⟩,
    ⟨Rect.unit ![0, 0] ![128, 128] inb_S128x2048_S128x128_0_0, tileV 0 0 0 1 slices_S128x128_o0_0_S128x1 slices_S128x128_o0_0_S1x128
      slices_S128x128_o0_1_S128x1 slices_S128x128_o1_0_S1x128 slices_S128x2048_o0_0_S128x128 slices_S128x512_o0_0_S128x128
      (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10))
      (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4))
      (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 0] ![1, 128] inb_S1x2048_S1x128_0_0)) (View.ld x1 (Rect.unit ![0, 0] ![128, 128] inb_S128x2048_S128x128_0_0))⟩]) x8 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  sl_unfold_words
  rw [View.canon_cons_unit_zero (S := S128x2048) hz2]
  simp only [View.readAt_eq_ld, read_writes_one, harg2.read_unread, harg3.read_unread, harg4.read_unread, harg5.read_unread, harg6.read_unread, harg7.read_unread, harg8.read_unread, harg9.read_unread, harg10.read_unread, harg11.read_unread, harg12.read_unread, harg14.read_unread, harg15.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2]
  rw [View.readCov_eq_canon']
  refine congrFun (congrArg k0_pay122 ?_) x8
  refine (View.ld_unit_zero (S := S128x2048) hz2 _ _).trans ?_
  refine congrArg View.canon ?_
  iterate 16 refine congrArg₂ List.cons (congrArg (Sigma.mk _) ?_) ?_; · rfl
  rfl

theorem ext_B  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : ¬cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) (xs0 : Vec F S136x3072 .f32) (xs1 : Vec F S128x2048 .f32) : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 =
    View.canon [⟨Rect.unit (s := S136x3072) ![0, 0] S8x3072.size inb_S136x3072_S8x3072_0_0, k0_pay7 (k0_pay3 x0)⟩,
      ⟨Rect.unit (s := S136x3072) ![8, 0] S128x3072.size inb_S136x3072_S128x3072_8_0, k0_pay4 x0⟩] := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B
  dsimp only
  sl_unfold_words
  simp only [View.readAt_eq_ld, read_writes_one, harg2.read_unread, harg3.read_unread, harg4.read_unread, harg5.read_unread, harg6.read_unread, harg7.read_unread, harg8.read_unread, harg9.read_unread, harg10.read_unread, harg11.read_unread, harg12.read_unread, harg14.read_unread, harg15.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2]

end Cert.KernelIdeal.Value
-- ==== Proof.SsdPointA.lean ====
/-
  What one grid point of the scan kernel leaves: the stores its run found, read as the parts of `SsdParts`.
-/
module

public import proofs.«01_k».proof.Proof.SsdPointB
public import Idealize.ShloMosaic.Lib.Pipeline.ReadBack

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-- The row buffer at a sequence's first chunk: its first eight rows zero. -/
def zeroHead : Vec F S136x3072 .f32 := View.canon [⟨Rect.unit (s := S136x3072) ![0, 0] S8x3072.size inb_S136x3072_S8x3072_0_0, k0_pay1⟩]

theorem readCov_rows {sig : RefSig} {κ : Kind} {sp : Space} (v : View sig κ sp S136x3072 .f32)
    (p q : View.Piece (Elt F) S136x3072 .f32) (o : ℕ) (inb : ∀ a, (![o, 0] : Fin 2 → Nat) a + S128x3072.size a ≤ S136x3072.size a) (h : o < 8) :
    v.readCov [p, q] (Rect.unit (s := S136x3072) ![o, 0] (no_index S128x3072.size) inb).toLoadRect
      = View.ld (View.canon [p, q]) (Rect.unit (s := S136x3072) ![o, 0] S128x3072.size inb) := by
  rw [View.readCov_eq_canon']

theorem ext_A  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 =
    View.canon [⟨Rect.unit (s := S136x3072) ![0, 0] S8x3072.size inb_S136x3072_S8x3072_0_0, k0_pay7 (k0_pay3 x0)⟩,
      ⟨Rect.unit (s := S136x3072) ![8, 0] S128x3072.size inb_S136x3072_S128x3072_8_0, k0_pay4 x0⟩,
      ⟨Rect.unit (s := S136x3072) ![0, 0] S8x3072.size inb_S136x3072_S8x3072_0_0, k0_pay1⟩] := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp only [View.readAt_eq_ld, read_writes_one, harg2.read_unread, harg3.read_unread, harg4.read_unread, harg5.read_unread, harg6.read_unread, harg7.read_unread, harg8.read_unread, harg9.read_unread, harg10.read_unread, harg11.read_unread, harg12.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2]

theorem state_A  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) : sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 =
    View.canon ([⟨Rect.unit (s := S128x2048) ![0, 1536] ![128, 512] inb_S128x2048_S128x512_0_1536, grpState 384 1536 slices_S128x512_o0_384_S128x128 slices_S128x2048_o0_1536_S128x512 slices_S128x2048_o127_1536_S1x512
      (bB x0 (ext5 (extOf zeroHead x0)) (ext6 (extOf zeroHead x0)) (ext7 (extOf zeroHead x0)) x3 x4) (bEx x2 x5 x6 x9 x10) (bXw x2 x5 x6 x9 x10 (bXs x0 (ext5 (extOf zeroHead x0)) (ext6 (extOf zeroHead x0)) (ext7 (extOf zeroHead x0)) x3 x4)) (stCol1536 k0_pay2)⟩,
    ⟨Rect.unit (s := S128x2048) ![0, 1024] ![128, 512] inb_S128x2048_S128x512_0_1024, grpState 256 1024 slices_S128x512_o0_256_S128x128 slices_S128x2048_o0_1024_S128x512 slices_S128x2048_o127_1024_S1x512
      (bB x0 (ext5 (extOf zeroHead x0)) (ext6 (extOf zeroHead x0)) (ext7 (extOf zeroHead x0)) x3 x4) (bEx x2 x5 x6 x9 x10) (bXw x2 x5 x6 x9 x10 (bXs x0 (ext5 (extOf zeroHead x0)) (ext6 (extOf zeroHead x0)) (ext7 (extOf zeroHead x0)) x3 x4)) (stCol1024 k0_pay2)⟩,
    ⟨Rect.unit (s := S128x2048) ![0, 512] ![128, 512] inb_S128x2048_S128x512_0_512, grpState 128 512 slices_S128x512_o0_128_S128x128 slices_S128x2048_o0_512_S128x512 slices_S128x2048_o127_512_S1x512
      (bB x0 (ext5 (extOf zeroHead x0)) (ext6 (extOf zeroHead x0)) (ext7 (extOf zeroHead x0)) x3 x4) (bEx x2 x5 x6 x9 x10) (bXw x2 x5 x6 x9 x10 (bXs x0 (ext5 (extOf zeroHead x0)) (ext6 (extOf zeroHead x0)) (ext7 (extOf zeroHead x0)) x3 x4)) (stCol512 k0_pay2)⟩,
    ⟨Rect.unit (s := S128x2048) ![0, 0] ![128, 512] inb_S128x2048_S128x512_0_0, grpState 0 0 slices_S128x512_o0_0_S128x128 slices_S128x2048_o0_0_S128x512 slices_S128x2048_o127_0_S1x512
      (bB x0 (ext5 (extOf zeroHead x0)) (ext6 (extOf zeroHead x0)) (ext7 (extOf zeroHead x0)) x3 x4) (bEx x2 x5 x6 x9 x10) (bXw x2 x5 x6 x9 x10 (bXs x0 (ext5 (extOf zeroHead x0)) (ext6 (extOf zeroHead x0)) (ext7 (extOf zeroHead x0)) x3 x4)) (stCol0 k0_pay2)⟩] ++ [⟨Rect.unit (s := S128x2048) ![0, 0] S128x2048.size inb_S128x2048_S128x2048_0_0, k0_pay2⟩]) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp (disch := decide) only [View.readAt_eq_ld, read_writes_one, harg2.read_unread, harg3.read_unread, harg4.read_unread, harg5.read_unread, harg6.read_unread, harg7.read_unread, harg8.read_unread, harg9.read_unread, harg10.read_unread, harg11.read_unread, harg12.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2, ↓View.readCov_skip, View.readCov_fill, readCov_rows]
  refine congrArg View.canon ?_
  show List.cons _ _ = List.cons _ _
  iterate 4 refine congrArg₂ List.cons (congrArg (Sigma.mk _) ?_) ?_; · rfl
  rfl

theorem out_A  (c : Dev nD) (i : grid0.Coords) (arg2 : Memref sig .tc .vmem S128x3072 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x128 .bf16) (harg11 : arg11.IsWhole) (arg12 : Memref sig .tc .vmem S128x2048 .bf16) (harg12 : arg12.IsWhole) (arg13 : Memref sig .tc .vmem S128x2048 .f32) (harg13 : arg13.IsWhole) (arg14 : Memref sig .tc .vmem S136x3072 .f32) (harg14 : arg14.IsWhole) (arg15 : Memref sig .tc .vmem S128x2048 .f32) (harg15 : arg15.IsWhole) (hc0 : cond0_0 i)
    (x0 : Vec F S128x3072 .f32) (x1 : Vec F S128x2048 .f32) (x2 : Vec F S128x128 .f32) (x3 : Vec F S4x3072 .f32) (x4 : Vec F S1x3072 .f32) (x5 : Vec F S1x128 .f32) (x6 : Vec F S1x128 .f32) (x7 : Vec F S1x2048 .f32) (x8 : Vec F S1x2048 .f32) (x9 : Vec F S128x128 .bf16) (x10 : Vec F S128x2048 .bf16) : out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 =
    k0_pay122 (View.canon [⟨Rect.unit ![0, 1920] ![128, 128] inb_S128x2048_S128x128_0_1920, tileV 1920 384 30 31 slices_S128x128_o0_30_S128x1 slices_S128x128_o30_0_S1x128
      slices_S128x128_o0_31_S128x1 slices_S128x128_o31_0_S1x128 slices_S128x2048_o0_1920_S128x128 slices_S128x512_o0_384_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 384 slices_S128x512_o0_384_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 384 1536 slices_S128x512_o0_384_S128x128 slices_S128x2048_o0_1536_S128x512 (bC x0 (ext5 (extOf zeroHead x0)) (ext6 (extOf zeroHead x0)) (ext7 (extOf zeroHead x0)) x3 x4) (bEx x2 x5 x6 x9 x10) (stCol1536 k0_pay2))
      (View.ld x7 (Rect.unit ![0, 1920] ![1, 128] inb_S1x2048_S1x128_0_1920)) (View.ld x1 (Rect.unit ![0, 1920] ![128, 128] inb_S128x2048_S128x128_0_1920))⟩,
    ⟨Rect.unit ![0, 1792] ![128, 128] inb_S128x2048_S128x128_0_1792, tileV 1792 256 28 29 slices_S128x128_o0_28_S128x1 slices_S128x128_o28_0_S1x128
      slices_S128x128_o0_29_S128x1 slices_S128x128_o29_0_S1x128 slices_S128x2048_o0_1792_S128x128 slices_S128x512_o0_256_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 384 slices_S128x512_o0_384_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 384 1536 slices_S128x512_o0_384_S128x128 slices_S128x2048_o0_1536_S128x512 (bC x0 (ext5 (extOf zeroHead x0)) (ext6 (extOf zeroHead x0)) (ext7 (extOf zeroHead x0)) x3 x4) (bEx x2 x5 x6 x9 x10) (stCol1536 k0_pay2))
      (View.ld x7 (Rect.unit ![0, 1792] ![1, 128] inb_S1x2048_S1x128_0_1792)) (View.ld x1 (Rect.unit ![0, 1792] ![128, 128] inb_S128x2048_S128x128_0_1792))⟩,
    ⟨Rect.unit ![0, 1664] ![128, 128] inb_S128x2048_S128x128_0_1664, tileV 1664 128 26 27 slices_S128x128_o0_26_S128x1 slices_S128x128_o26_0_S1x128
      slices_S128x128_o0_27_S128x1 slices_S128x128_o27_0_S1x128 slices_S128x2048_o0_1664_S128x128 slices_S128x512_o0_128_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 384 slices_S128x512_o0_384_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 384 1536 slices_S128x512_o0_384_S128x128 slices_S128x2048_o0_1536_S128x512 (bC x0 (ext5 (extOf zeroHead x0)) (ext6 (extOf zeroHead x0)) (ext7 (extOf zeroHead x0)) x3 x4) (bEx x2 x5 x6 x9 x10) (stCol1536 k0_pay2))
      (View.ld x7 (Rect.unit ![0, 1664] ![1, 128] inb_S1x2048_S1x128_0_1664)) (View.ld x1 (Rect.unit ![0, 1664] ![128, 128] inb_S128x2048_S128x128_0_1664))⟩,
    ⟨Rect.unit ![0, 1536] ![128, 128] inb_S128x2048_S128x128_0_1536, tileV 1536 0 24 25 slices_S128x128_o0_24_S128x1 slices_S128x128_o24_0_S1x128
      slices_S128x128_o0_25_S128x1 slices_S128x128_o25_0_S1x128 slices_S128x2048_o0_1536_S128x128 slices_S128x512_o0_0_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 384 slices_S128x512_o0_384_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 384 1536 slices_S128x512_o0_384_S128x128 slices_S128x2048_o0_1536_S128x512 (bC x0 (ext5 (extOf zeroHead x0)) (ext6 (extOf zeroHead x0)) (ext7 (extOf zeroHead x0)) x3 x4) (bEx x2 x5 x6 x9 x10) (stCol1536 k0_pay2))
      (View.ld x7 (Rect.unit ![0, 1536] ![1, 128] inb_S1x2048_S1x128_0_1536)) (View.ld x1 (Rect.unit ![0, 1536] ![128, 128] inb_S128x2048_S128x128_0_1536))⟩,
    ⟨Rect.unit ![0, 1408] ![128, 128] inb_S128x2048_S128x128_0_1408, tileV 1408 384 22 23 slices_S128x128_o0_22_S128x1 slices_S128x128_o22_0_S1x128
      slices_S128x128_o0_23_S128x1 slices_S128x128_o23_0_S1x128 slices_S128x2048_o0_1408_S128x128 slices_S128x512_o0_384_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 256 slices_S128x512_o0_256_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 256 1024 slices_S128x512_o0_256_S128x128 slices_S128x2048_o0_1024_S128x512 (bC x0 (ext5 (extOf zeroHead x0)) (ext6 (extOf zeroHead x0)) (ext7 (extOf zeroHead x0)) x3 x4) (bEx x2 x5 x6 x9 x10) (stCol1024 k0_pay2))
      (View.ld x7 (Rect.unit ![0, 1408] ![1, 128] inb_S1x2048_S1x128_0_1408)) (View.ld x1 (Rect.unit ![0, 1408] ![128, 128] inb_S128x2048_S128x128_0_1408))⟩,
    ⟨Rect.unit ![0, 1280] ![128, 128] inb_S128x2048_S128x128_0_1280, tileV 1280 256 20 21 slices_S128x128_o0_20_S128x1 slices_S128x128_o20_0_S1x128
      slices_S128x128_o0_21_S128x1 slices_S128x128_o21_0_S1x128 slices_S128x2048_o0_1280_S128x128 slices_S128x512_o0_256_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 256 slices_S128x512_o0_256_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 256 1024 slices_S128x512_o0_256_S128x128 slices_S128x2048_o0_1024_S128x512 (bC x0 (ext5 (extOf zeroHead x0)) (ext6 (extOf zeroHead x0)) (ext7 (extOf zeroHead x0)) x3 x4) (bEx x2 x5 x6 x9 x10) (stCol1024 k0_pay2))
      (View.ld x7 (Rect.unit ![0, 1280] ![1, 128] inb_S1x2048_S1x128_0_1280)) (View.ld x1 (Rect.unit ![0, 1280] ![128, 128] inb_S128x2048_S128x128_0_1280))⟩,
    ⟨Rect.unit ![0, 1152] ![128, 128] inb_S128x2048_S128x128_0_1152, tileV 1152 128 18 19 slices_S128x128_o0_18_S128x1 slices_S128x128_o18_0_S1x128
      slices_S128x128_o0_19_S128x1 slices_S128x128_o19_0_S1x128 slices_S128x2048_o0_1152_S128x128 slices_S128x512_o0_128_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 256 slices_S128x512_o0_256_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 256 1024 slices_S128x512_o0_256_S128x128 slices_S128x2048_o0_1024_S128x512 (bC x0 (ext5 (extOf zeroHead x0)) (ext6 (extOf zeroHead x0)) (ext7 (extOf zeroHead x0)) x3 x4) (bEx x2 x5 x6 x9 x10) (stCol1024 k0_pay2))
      (View.ld x7 (Rect.unit ![0, 1152] ![1, 128] inb_S1x2048_S1x128_0_1152)) (View.ld x1 (Rect.unit ![0, 1152] ![128, 128] inb_S128x2048_S128x128_0_1152))⟩,
    ⟨Rect.unit ![0, 1024] ![128, 128] inb_S128x2048_S128x128_0_1024, tileV 1024 0 16 17 slices_S128x128_o0_16_S128x1 slices_S128x128_o16_0_S1x128
      slices_S128x128_o0_17_S128x1 slices_S128x128_o17_0_S1x128 slices_S128x2048_o0_1024_S128x128 slices_S128x512_o0_0_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 256 slices_S128x512_o0_256_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 256 1024 slices_S128x512_o0_256_S128x128 slices_S128x2048_o0_1024_S128x512 (bC x0 (ext5 (extOf zeroHead x0)) (ext6 (extOf zeroHead x0)) (ext7 (extOf zeroHead x0)) x3 x4) (bEx x2 x5 x6 x9 x10) (stCol1024 k0_pay2))
      (View.ld x7 (Rect.unit ![0, 1024] ![1, 128] inb_S1x2048_S1x128_0_1024)) (View.ld x1 (Rect.unit ![0, 1024] ![128, 128] inb_S128x2048_S128x128_0_1024))⟩,
    ⟨Rect.unit ![0, 896] ![128, 128] inb_S128x2048_S128x128_0_896, tileV 896 384 14 15 slices_S128x128_o0_14_S128x1 slices_S128x128_o14_0_S1x128
      slices_S128x128_o0_15_S128x1 slices_S128x128_o15_0_S1x128 slices_S128x2048_o0_896_S128x128 slices_S128x512_o0_384_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 128 slices_S128x512_o0_128_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 128 512 slices_S128x512_o0_128_S128x128 slices_S128x2048_o0_512_S128x512 (bC x0 (ext5 (extOf zeroHead x0)) (ext6 (extOf zeroHead x0)) (ext7 (extOf zeroHead x0)) x3 x4) (bEx x2 x5 x6 x9 x10) (stCol512 k0_pay2))
      (View.ld x7 (Rect.unit ![0, 896] ![1, 128] inb_S1x2048_S1x128_0_896)) (View.ld x1 (Rect.unit ![0, 896] ![128, 128] inb_S128x2048_S128x128_0_896))⟩,
    ⟨Rect.unit ![0, 768] ![128, 128] inb_S128x2048_S128x128_0_768, tileV 768 256 12 13 slices_S128x128_o0_12_S128x1 slices_S128x128_o12_0_S1x128
      slices_S128x128_o0_13_S128x1 slices_S128x128_o13_0_S1x128 slices_S128x2048_o0_768_S128x128 slices_S128x512_o0_256_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 128 slices_S128x512_o0_128_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 128 512 slices_S128x512_o0_128_S128x128 slices_S128x2048_o0_512_S128x512 (bC x0 (ext5 (extOf zeroHead x0)) (ext6 (extOf zeroHead x0)) (ext7 (extOf zeroHead x0)) x3 x4) (bEx x2 x5 x6 x9 x10) (stCol512 k0_pay2))
      (View.ld x7 (Rect.unit ![0, 768] ![1, 128] inb_S1x2048_S1x128_0_768)) (View.ld x1 (Rect.unit ![0, 768] ![128, 128] inb_S128x2048_S128x128_0_768))⟩,
    ⟨Rect.unit ![0, 640] ![128, 128] inb_S128x2048_S128x128_0_640, tileV 640 128 10 11 slices_S128x128_o0_10_S128x1 slices_S128x128_o10_0_S1x128
      slices_S128x128_o0_11_S128x1 slices_S128x128_o11_0_S1x128 slices_S128x2048_o0_640_S128x128 slices_S128x512_o0_128_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 128 slices_S128x512_o0_128_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 128 512 slices_S128x512_o0_128_S128x128 slices_S128x2048_o0_512_S128x512 (bC x0 (ext5 (extOf zeroHead x0)) (ext6 (extOf zeroHead x0)) (ext7 (extOf zeroHead x0)) x3 x4) (bEx x2 x5 x6 x9 x10) (stCol512 k0_pay2))
      (View.ld x7 (Rect.unit ![0, 640] ![1, 128] inb_S1x2048_S1x128_0_640)) (View.ld x1 (Rect.unit ![0, 640] ![128, 128] inb_S128x2048_S128x128_0_640))⟩,
    ⟨Rect.unit ![0, 512] ![128, 128] inb_S128x2048_S128x128_0_512, tileV 512 0 8 9 slices_S128x128_o0_8_S128x1 slices_S128x128_o8_0_S1x128
      slices_S128x128_o0_9_S128x1 slices_S128x128_o9_0_S1x128 slices_S128x2048_o0_512_S128x128 slices_S128x512_o0_0_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 128 slices_S128x512_o0_128_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 128 512 slices_S128x512_o0_128_S128x128 slices_S128x2048_o0_512_S128x512 (bC x0 (ext5 (extOf zeroHead x0)) (ext6 (extOf zeroHead x0)) (ext7 (extOf zeroHead x0)) x3 x4) (bEx x2 x5 x6 x9 x10) (stCol512 k0_pay2))
      (View.ld x7 (Rect.unit ![0, 512] ![1, 128] inb_S1x2048_S1x128_0_512)) (View.ld x1 (Rect.unit ![0, 512] ![128, 128] inb_S128x2048_S128x128_0_512))⟩,
    ⟨Rect.unit ![0, 384] ![128, 128] inb_S128x2048_S128x128_0_384, tileV 384 384 6 7 slices_S128x128_o0_6_S128x1 slices_S128x128_o6_0_S1x128
      slices_S128x128_o0_7_S128x1 slices_S128x128_o7_0_S1x128 slices_S128x2048_o0_384_S128x128 slices_S128x512_o0_384_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 0 slices_S128x512_o0_0_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 0 0 slices_S128x512_o0_0_S128x128 slices_S128x2048_o0_0_S128x512 (bC x0 (ext5 (extOf zeroHead x0)) (ext6 (extOf zeroHead x0)) (ext7 (extOf zeroHead x0)) x3 x4) (bEx x2 x5 x6 x9 x10) (stCol0 k0_pay2))
      (View.ld x7 (Rect.unit ![0, 384] ![1, 128] inb_S1x2048_S1x128_0_384)) (View.ld x1 (Rect.unit ![0, 384] ![128, 128] inb_S128x2048_S128x128_0_384))⟩,
    ⟨Rect.unit ![0, 256] ![128, 128] inb_S128x2048_S128x128_0_256, tileV 256 256 4 5 slices_S128x128_o0_4_S128x1 slices_S128x128_o4_0_S1x128
      slices_S128x128_o0_5_S128x1 slices_S128x128_o5_0_S1x128 slices_S128x2048_o0_256_S128x128 slices_S128x512_o0_256_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 0 slices_S128x512_o0_0_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 0 0 slices_S128x512_o0_0_S128x128 slices_S128x2048_o0_0_S128x512 (bC x0 (ext5 (extOf zeroHead x0)) (ext6 (extOf zeroHead x0)) (ext7 (extOf zeroHead x0)) x3 x4) (bEx x2 x5 x6 x9 x10) (stCol0 k0_pay2))
      (View.ld x7 (Rect.unit ![0, 256] ![1, 128] inb_S1x2048_S1x128_0_256)) (View.ld x1 (Rect.unit ![0, 256] ![128, 128] inb_S128x2048_S128x128_0_256))⟩,
    ⟨Rect.unit ![0, 128] ![128, 128] inb_S128x2048_S128x128_0_128, tileV 128 128 2 3 slices_S128x128_o0_2_S128x1 slices_S128x128_o2_0_S1x128
      slices_S128x128_o0_3_S128x1 slices_S128x128_o3_0_S1x128 slices_S128x2048_o0_128_S128x128 slices_S128x512_o0_128_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 0 slices_S128x512_o0_0_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 0 0 slices_S128x512_o0_0_S128x128 slices_S128x2048_o0_0_S128x512 (bC x0 (ext5 (extOf zeroHead x0)) (ext6 (extOf zeroHead x0)) (ext7 (extOf zeroHead x0)) x3 x4) (bEx x2 x5 x6 x9 x10) (stCol0 k0_pay2))
      (View.ld x7 (Rect.unit ![0, 128] ![1, 128] inb_S1x2048_S1x128_0_128)) (View.ld x1 (Rect.unit ![0, 128] ![128, 128] inb_S128x2048_S128x128_0_128))⟩,
    ⟨Rect.unit ![0, 0] ![128, 128] inb_S128x2048_S128x128_0_0, tileV 0 0 0 1 slices_S128x128_o0_0_S128x1 slices_S128x128_o0_0_S1x128
      slices_S128x128_o0_1_S128x1 slices_S128x128_o1_0_S1x128 slices_S128x2048_o0_0_S128x128 slices_S128x512_o0_0_S128x128
      (bXs x0 (ext5 (extOf zeroHead x0)) (ext6 (extOf zeroHead x0)) (ext7 (extOf zeroHead x0)) x3 x4) (bAcs x2 x5 x6 x9) (bAcsT x2 x5 x6 x9) (k0_pay28 (bXs x0 (ext5 (extOf zeroHead x0)) (ext6 (extOf zeroHead x0)) (ext7 (extOf zeroHead x0)) x3 x4) (bDtX x2 x5 x10))
      (grpCB 0 slices_S128x512_o0_0_S128x128 (bB x0 (ext5 (extOf zeroHead x0)) (ext6 (extOf zeroHead x0)) (ext7 (extOf zeroHead x0)) x3 x4) (bC x0 (ext5 (extOf zeroHead x0)) (ext6 (extOf zeroHead x0)) (ext7 (extOf zeroHead x0)) x3 x4))
      (grpOff 0 0 slices_S128x512_o0_0_S128x128 slices_S128x2048_o0_0_S128x512 (bC x0 (ext5 (extOf zeroHead x0)) (ext6 (extOf zeroHead x0)) (ext7 (extOf zeroHead x0)) x3 x4) (bEx x2 x5 x6 x9 x10) (stCol0 k0_pay2))
      (View.ld x7 (Rect.unit ![0, 0] ![1, 128] inb_S1x2048_S1x128_0_0)) (View.ld x1 (Rect.unit ![0, 0] ![128, 128] inb_S128x2048_S128x128_0_0))⟩]) x8 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  rw [View.canon_cons_unit_zero (S := S128x2048) hz2]
  simp (disch := decide) only [View.readAt_eq_ld, read_writes_one, harg2.read_unread, harg3.read_unread, harg4.read_unread, harg5.read_unread, harg6.read_unread, harg7.read_unread, harg8.read_unread, harg9.read_unread, harg10.read_unread, harg11.read_unread, harg12.read_unread, View.readCov_cons_toLoadRect, View.ld_unit_zero (S := S128x3072) hz2, View.ld_unit_zero (S := S1x3072) hz2, View.ld_unit_zero (S := S128x128) hz2, View.ld_unit_zero (S := S1x128) hz2, View.ld_unit_zero (S := S128x2048) hz2, View.ld_unit_zero (S := S1x2048) hz2, ↓View.readCov_skip, View.readCov_fill, readCov_rows]
  rw [View.readCov_eq_canon']
  refine congrFun (congrArg k0_pay122 ?_) x8
  refine (View.ld_unit_zero (S := S128x2048) hz2 _ _).trans ?_
  refine congrArg View.canon ?_
  iterate 16 refine congrArg₂ List.cons (congrArg (Sigma.mk _) ?_) ?_; · rfl
  rfl

end Cert.KernelIdeal.Value
-- ==== Proof.SsdPoint.lean ====
/-
  One point of the scan kernel, read at an index: from the blocks and what the point before left, the chunk's result,
  its next state and its next head rows are the mixer's.
-/
module

public import proofs.«01_k».proof.Proof.SsdIdeal
public import proofs.«01_k».proof.Proof.SsdPointA
public import Idealize.ShloMosaic.Lib.Pipeline.ValueKit.Tiles
public import Idealize.ShloMosaic.Lib.Pipeline.ValueKit.Geometry

@[expose] public section

set_option maxRecDepth 10000

noncomputable section

namespace Cert.KernelIdeal.Value

open Cert.KernelIdeal Cert.KernelIdeal.Gen Cert.Ssd
open Idealize.ShloMosaic Idealize.ShloMosaic.TcCoe Idealize.SL.Sem
open scoped BigOperators

/-- The blocks of chunk `c` of batch row `b`. -/
structure Blk (E : Ent) (b c : ℕ) (x0 : Vec Ideal S128x3072 .f32) (x1 : Vec Ideal S128x2048 .f32) (x2 : Vec Ideal S128x128 .f32)
    (x3 : Vec Ideal S4x3072 .f32) (x4 : Vec Ideal S1x3072 .f32) (x5 x6 : Vec Ideal S1x128 .f32) (x7 x8 : Vec Ideal S1x2048 .f32)
    (x9 : Vec Ideal S128x128 .bf16) (x10 : Vec Ideal S128x2048 .bf16) : Prop where
  fine : Fine E
  h0 : ∀ r q, x0 (ix2 r q) = E.x b (128 * c + r) q
  h1 : ∀ r q, x1 (ix2 r q) = E.z b (128 * c + r) q
  h2 : ∀ r h, x2 (ix2 r h) = E.d b (128 * c + r) h
  h3 : ∀ k q, x3 (ix2 k q) = E.w k q
  h4 : ∀ q, x4 (ix2 0 q) = E.cb q
  h5 : ∀ h, x5 (ix2 0 h) = E.db h
  h6 : ∀ h, x6 (ix2 0 h) = E.al h
  h7 : ∀ q, x7 (ix2 0 q) = E.sk (q / 64)
  h8 : ∀ q, x8 (ix2 0 q) = E.ng q
  h9 : ∀ l s, x9 (ix2 l s) = if (s : ℕ) ≤ l then 1 else 0
  h10 : ∀ h q, x10 (ix2 h q) = if (h : ℕ) = (q : ℕ) / 64 then 1 else 0

/-- The head rows before chunk `c`: the eight rows before it, zero before the first. -/
def Head (E : Ent) (b c : ℕ) (xs0 : Vec Ideal S136x3072 .f32) : Prop :=
  ∀ (r : Fin 136) (q : Fin 3072), (r : ℕ) < 8 → xs0 (ix2 r q) = if 8 ≤ 128 * c + r then E.x b (128 * c + r - 8) q else 0

/-- The state before chunk `c`. -/
def Carry (E : Ent) (b c : ℕ) (xs1 : Vec Ideal S128x2048 .f32) : Prop := ∀ n q, xs1 (ix2 n q) = state E b c n q

/-! ## Pieces of an array of 128 rows, by column offset -/

/-- A unit-stride load of an array of rank 2, at an index. -/
theorem ld2_at {n0 n1 m0 m1 : ℕ} {e : EltTy} (X : Vec Ideal ⟨2, ![n0, n1]⟩ e) (o0 o1 : ℕ)
    (inb : ∀ a, (![o0, o1] : Fin 2 → ℕ) a + (![m0, m1] : Fin 2 → ℕ) a ≤ (⟨2, ![n0, n1]⟩ : Shape).size a)
    (r : Fin m0) (q : Fin m1) (hr : o0 + r < n0) (hq : o1 + q < n1) :
    View.ld X (Rect.unit (s := ⟨2, ![n0, n1]⟩) ![o0, o1] ![m0, m1] inb) (ix2 r q : (⟨2, ![m0, m1]⟩ : Shape).Idx) = X (ix2 ⟨o0 + r, hr⟩ ⟨o1 + q, hq⟩) :=
  View.ld_unit_apply_of X _ _ inb _ _ (Fin.forall_fin_two.mpr ⟨rfl, rfl⟩)

/-- A column piece agrees with a function of the index where its payload does at the offset. -/
theorem piece2_at {n0 n1 m0 m1 : ℕ} {e : EltTy} (G : ℕ → ℕ → Elt Ideal e) (o0 o1 : ℕ)
    (inb : ∀ a, (![o0, o1] : Fin 2 → ℕ) a + (![m0, m1] : Fin 2 → ℕ) a ≤ (⟨2, ![n0, n1]⟩ : Shape).size a)
    (w : Vec Ideal ⟨2, ![m0, m1]⟩ e) (hw : ∀ r q, w (ix2 r q) = G (o0 + r) (o1 + q)) :
    ∀ x : (Rect.unit (s := ⟨2, ![n0, n1]⟩) ![o0, o1] ![m0, m1] inb).shape.Idx,
      w x = (fun y : (⟨2, ![n0, n1]⟩ : Shape).Idx => G (y 0) (y 1)) ((Rect.unit (s := ⟨2, ![n0, n1]⟩) ![o0, o1] ![m0, m1] inb).emb x) := by
  intro x
  dsimp only
  rw [ValueKit.rect_emb_unit_val, ValueKit.rect_emb_unit_val]
  exact (congrArg w (eq_ix2 (n0 := m0) (n1 := m1) x)).trans (hw _ _)

theorem emb2 {n0 n1 m0 m1 : ℕ} (o0 o1 : ℕ)
    (inb : ∀ a, (![o0, o1] : Fin 2 → ℕ) a + (![m0, m1] : Fin 2 → ℕ) a ≤ (⟨2, ![n0, n1]⟩ : Shape).size a)
    (r : Fin m0) (q : Fin m1) (hr : o0 + r < n0) (hq : o1 + q < n1) :
    (Rect.unit (s := ⟨2, ![n0, n1]⟩) ![o0, o1] ![m0, m1] inb).emb (ix2 r q : (⟨2, ![m0, m1]⟩ : Shape).Idx) = ix2 ⟨o0 + r, hr⟩ ⟨o1 + q, hq⟩ :=
  funext (Fin.forall_fin_two.mpr ⟨Fin.ext (ValueKit.rect_emb_unit_val ..), Fin.ext (ValueKit.rect_emb_unit_val ..)⟩)

theorem canon_first {n0 n1 m0 m1 : ℕ} {e : EltTy} (o0 o1 : ℕ)
    (inb : ∀ a, (![o0, o1] : Fin 2 → ℕ) a + (![m0, m1] : Fin 2 → ℕ) a ≤ (⟨2, ![n0, n1]⟩ : Shape).size a)
    (w : Vec Ideal ⟨2, ![m0, m1]⟩ e) (L : List (View.Piece (Elt Ideal) ⟨2, ![n0, n1]⟩ e)) (r : Fin n0) (q : Fin n1) (r' : Fin m0) (q' : Fin m1)
    (hr : (r : ℕ) = o0 + r') (hq : (q : ℕ) = o1 + q') :
    View.canon (Val := Elt Ideal) (⟨Rect.unit (s := ⟨2, ![n0, n1]⟩) ![o0, o1] ![m0, m1] inb, w⟩ :: L) (ix2 r q) = w (ix2 r' q') := by
  have h := View.canon_cons_emb (Val := Elt Ideal) (Rect.unit (s := ⟨2, ![n0, n1]⟩) ![o0, o1] ![m0, m1] inb) w L (ix2 r' q')
  rw [← h, emb2 o0 o1 inb r' q' (hr ▸ r.isLt) (hq ▸ q.isLt)]
  exact congrArg (View.canon _) (congrArg₂ ix2 (Fin.ext hr) (Fin.ext hq))

theorem mem_piece2 {n0 n1 m0 m1 : ℕ} (o0 o1 : ℕ)
    (inb : ∀ a, (![o0, o1] : Fin 2 → ℕ) a + (![m0, m1] : Fin 2 → ℕ) a ≤ (⟨2, ![n0, n1]⟩ : Shape).size a) (r : Fin n0) (q : Fin n1)
    (h : o0 ≤ (r : ℕ) ∧ (r : ℕ) < o0 + m0 ∧ o1 ≤ (q : ℕ) ∧ (q : ℕ) < o1 + m1) :
    (ix2 r q : (⟨2, ![n0, n1]⟩ : Shape).Idx) ∈ (Rect.unit (s := ⟨2, ![n0, n1]⟩) ![o0, o1] ![m0, m1] inb).set :=
  Rect.mem_set_unit.mpr (Fin.forall_fin_two.mpr ⟨⟨h.1, h.2.1⟩, h.2.2.1, h.2.2.2⟩)

/-! ## The head rows and the rows before -/

theorem extOf_lo (xs0 : Vec Ideal S136x3072 .f32) (x0 : Vec Ideal S128x3072 .f32) (r : Fin 136) (q : Fin 3072) (h : (r : ℕ) < 8) :
    extOf xs0 x0 (ix2 r q) = xs0 (ix2 r q) :=
  Rect.overlay_of_not_mem _ _ _ fun hm => absurd (Rect.mem_set_unit.mp hm 0).1 (not_le.mpr h)

theorem pay4_ix (x0 : Vec Ideal S128x3072 .f32) (r : Fin 128) (q : Fin 3072) : k0_pay4 (F := Ideal) x0 (ix2 r q) = x0 (ix2 r q) := by
  pointwise [k0_pay4, k0_pay3]

theorem extOf_hi (xs0 : Vec Ideal S136x3072 .f32) (x0 : Vec Ideal S128x3072 .f32) (r : Fin 128) (q : Fin 3072) :
    extOf xs0 x0 (ix2 ⟨8 + r, by omega⟩ q) = x0 (ix2 r q) := by
  have h := (Rect.unit (s := S136x3072) ![8, 0] S128x3072.size inb_S136x3072_S128x3072_8_0).overlay_emb xs0 (k0_pay4 (F := Ideal) x0) (ix2 r q)
  rw [pay4_ix] at h
  rw [← h]
  refine congrArg (extOf xs0 x0) ?_
  refine Eq.trans ?_ (emb2 (m0 := 128) (m1 := 3072) 8 0 inb_S136x3072_S128x3072_8_0 r q (by omega) (by omega)).symm
  exact congrArg (ix2 _) (Fin.ext (Nat.zero_add _).symm)

section Rows
variable {E : Ent} {b c : ℕ} {xs0 : Vec Ideal S136x3072 .f32} {x0 : Vec Ideal S128x3072 .f32} (hh : Head E b c xs0)
  (h0 : ∀ r q, x0 (ix2 r q) = E.x b (128 * c + r) q)
include hh h0

/-- Row `r` of the buffer is `8 - r` rows before the chunk. -/
theorem ext_row (k : ℕ) (hk : k < 8) (r : Fin 128) (q : Fin 3072) :
    extOf xs0 x0 (ix2 ⟨k + r, by omega⟩ q) = lag E (8 - k) b (128 * c + r) q := by
  unfold lag
  by_cases hr : k + (r : ℕ) < 8
  · rw [extOf_lo _ _ _ _ hr, hh _ _ hr]
    dsimp only
    by_cases h : 8 ≤ 128 * c + (k + (r : ℕ))
    · rw [if_pos h, if_pos (by omega)]; congr 1; omega
    · rw [if_neg h, if_neg (by omega)]
  · have e : (⟨k + r, by omega⟩ : Fin 136) = ⟨8 + ((⟨k + r - 8, by omega⟩ : Fin 128) : ℕ), by omega⟩ := Fin.ext (by dsimp only; omega)
    rw [e, extOf_hi, h0, if_pos (by omega)]
    dsimp only
    congr 1; omega

theorem ext5_at (r : Fin 128) (q : Fin 3072) : ext5 (extOf xs0 x0) (ix2 r q) = lag E 3 b (128 * c + r) q :=
  ((ld2_at _ 5 0 inb_S136x3072_S128x3072_5_0 r q (by omega) (by omega)).trans (congrArg (fun j => extOf xs0 x0 (ix2 _ j)) (Fin.ext (Nat.zero_add _)))).trans
    (ext_row hh h0 5 (by omega) r q)
theorem ext6_at (r : Fin 128) (q : Fin 3072) : ext6 (extOf xs0 x0) (ix2 r q) = lag E 2 b (128 * c + r) q :=
  ((ld2_at _ 6 0 inb_S136x3072_S128x3072_6_0 r q (by omega) (by omega)).trans (congrArg (fun j => extOf xs0 x0 (ix2 _ j)) (Fin.ext (Nat.zero_add _)))).trans
    (ext_row hh h0 6 (by omega) r q)
theorem ext7_at (r : Fin 128) (q : Fin 3072) : ext7 (extOf xs0 x0) (ix2 r q) = lag E 1 b (128 * c + r) q :=
  ((ld2_at _ 7 0 inb_S136x3072_S128x3072_7_0 r q (by omega) (by omega)).trans (congrArg (fun j => extOf xs0 x0 (ix2 _ j)) (Fin.ext (Nat.zero_add _)))).trans
    (ext_row hh h0 7 (by omega) r q)
end Rows

theorem zeroHead_head (E : Ent) (b : ℕ) : Head E b 0 zeroHead := by
  intro r q hr
  have h := canon_first (m0 := 8) (m1 := 3072) (e := .f32) 0 0 inb_S136x3072_S8x3072_0_0 (k0_pay1 (F := Ideal)) [] r q ⟨r, hr⟩ q (Nat.zero_add _).symm (Nat.zero_add _).symm
  have h1 : ∀ (r : Fin 8) (q : Fin 3072), k0_pay1 (F := Ideal) (ix2 r q) = 0 := fun r q => by pointwise [k0_pay1]
  rw [if_neg (by omega)]
  exact h.trans (h1 _ _)

theorem next_head (E : Ent) (b c : ℕ) (x0 : Vec Ideal S128x3072 .f32) (h0 : ∀ r q, x0 (ix2 r q) = E.x b (128 * c + r) q)
    (L : List (View.Piece (Elt Ideal) S136x3072 .f32)) :
    Head E b (c + 1) (View.canon (Val := Elt Ideal) (s := S136x3072) (e := .f32) (⟨Rect.unit (s := S136x3072) ![0, 0] S8x3072.size inb_S136x3072_S8x3072_0_0, k0_pay7 (F := Ideal) (k0_pay3 x0)⟩ :: L)) := by
  intro r q hr
  have h : ∀ (r : Fin 8) (q : Fin 3072), k0_pay7 (F := Ideal) (k0_pay3 x0) (ix2 r q) = x0 (ix2 ⟨120 + r, by omega⟩ q) := fun r q => by
    pointwise [k0_pay7, k0_pay3]
  refine (canon_first (m0 := 8) (m1 := 3072) (e := .f32) 0 0 inb_S136x3072_S8x3072_0_0 (k0_pay7 (F := Ideal) (k0_pay3 x0)) _ r q ⟨r, hr⟩ q
    (Nat.zero_add _).symm (Nat.zero_add _).symm).trans ?_
  rw [h, h0, if_pos (by omega)]
  dsimp only
  congr 1; omega

theorem zero_carry (E : Ent) (b : ℕ) : Carry E b 0 (k0_pay2 (F := Ideal)) := by
  intro n q
  unfold state
  pointwise [k0_pay2]

/-! ## The tiles -/

section Tiles
variable (E : Ent) (b c : ℕ) (v43 : FVec Ideal S128x2048 .f32) (v86 v87 : FVec Ideal S128x128 .f32) (v132 : FVec Ideal S128x2048 .bf16)
    (cb0 cb1 cb2 cb3 : FVec Ideal S128x128 .f32) (yo0 yo1 yo2 yo3 : FVec Ideal S128x512 .f32) (x7 : Vec Ideal S1x2048 .f32) (x1 : Vec Ideal S128x2048 .f32)
    (h43 : ∀ l q, v43 (ix2 l q) = act E b (128 * c + l) q) (h86 : ∀ l h, v86 (ix2 l h) = cum E b c l h)
    (h87 : ∀ h l, v87 (ix2 h l) = cum E b c l h) (h132 : ∀ l q, v132 (ix2 l q) = xdt E b (128 * c + l) q)
    (hc0 : ∀ l s, cb0 (ix2 l s) = cbp E b c l s 0) (hc1 : ∀ l s, cb1 (ix2 l s) = cbp E b c l s 1)
    (hc2 : ∀ l s, cb2 (ix2 l s) = cbp E b c l s 2) (hc3 : ∀ l s, cb3 (ix2 l s) = cbp E b c l s 3)
    (hy0 : ∀ l j, yo0 (ix2 l j) = carried E b c l (512 * 0 + j)) (hy1 : ∀ l j, yo1 (ix2 l j) = carried E b c l (512 * 1 + j))
    (hy2 : ∀ l j, yo2 (ix2 l j) = carried E b c l (512 * 2 + j)) (hy3 : ∀ l j, yo3 (ix2 l j) = carried E b c l (512 * 3 + j))
    (h7 : ∀ q, x7 (ix2 0 q) = E.sk (q / 64)) (h1 : ∀ r q, x1 (ix2 r q) = E.z b (128 * c + r) q)
include h43 h86 h87 h132 hc0 hc1 hc2 hc3 hy0 hy1 hy2 hy3 h7 h1

theorem tiles_at (l : Fin 128) (q : Fin 2048) : View.canon (Val := Elt Ideal) (s := S128x2048) (e := .f32) [⟨Rect.unit (s := S128x2048) ![0, 1920] ![128, 128] inb_S128x2048_S128x128_0_1920, tileV 1920 384 30 31 slices_S128x128_o0_30_S128x1 slices_S128x128_o30_0_S1x128
      slices_S128x128_o0_31_S128x1 slices_S128x128_o31_0_S1x128 slices_S128x2048_o0_1920_S128x128 slices_S128x512_o0_384_S128x128 v43 v86 v87 v132 cb3 yo3
      (View.ld x7 (Rect.unit ![0, 1920] ![1, 128] inb_S1x2048_S1x128_0_1920)) (View.ld x1 (Rect.unit ![0, 1920] ![128, 128] inb_S128x2048_S128x128_0_1920))⟩,
    ⟨Rect.unit (s := S128x2048) ![0, 1792] ![128, 128] inb_S128x2048_S128x128_0_1792, tileV 1792 256 28 29 slices_S128x128_o0_28_S128x1 slices_S128x128_o28_0_S1x128
      slices_S128x128_o0_29_S128x1 slices_S128x128_o29_0_S1x128 slices_S128x2048_o0_1792_S128x128 slices_S128x512_o0_256_S128x128 v43 v86 v87 v132 cb3 yo3
      (View.ld x7 (Rect.unit ![0, 1792] ![1, 128] inb_S1x2048_S1x128_0_1792)) (View.ld x1 (Rect.unit ![0, 1792] ![128, 128] inb_S128x2048_S128x128_0_1792))⟩,
    ⟨Rect.unit (s := S128x2048) ![0, 1664] ![128, 128] inb_S128x2048_S128x128_0_1664, tileV 1664 128 26 27 slices_S128x128_o0_26_S128x1 slices_S128x128_o26_0_S1x128
      slices_S128x128_o0_27_S128x1 slices_S128x128_o27_0_S1x128 slices_S128x2048_o0_1664_S128x128 slices_S128x512_o0_128_S128x128 v43 v86 v87 v132 cb3 yo3
      (View.ld x7 (Rect.unit ![0, 1664] ![1, 128] inb_S1x2048_S1x128_0_1664)) (View.ld x1 (Rect.unit ![0, 1664] ![128, 128] inb_S128x2048_S128x128_0_1664))⟩,
    ⟨Rect.unit (s := S128x2048) ![0, 1536] ![128, 128] inb_S128x2048_S128x128_0_1536, tileV 1536 0 24 25 slices_S128x128_o0_24_S128x1 slices_S128x128_o24_0_S1x128
      slices_S128x128_o0_25_S128x1 slices_S128x128_o25_0_S1x128 slices_S128x2048_o0_1536_S128x128 slices_S128x512_o0_0_S128x128 v43 v86 v87 v132 cb3 yo3
      (View.ld x7 (Rect.unit ![0, 1536] ![1, 128] inb_S1x2048_S1x128_0_1536)) (View.ld x1 (Rect.unit ![0, 1536] ![128, 128] inb_S128x2048_S128x128_0_1536))⟩,
    ⟨Rect.unit (s := S128x2048) ![0, 1408] ![128, 128] inb_S128x2048_S128x128_0_1408, tileV 1408 384 22 23 slices_S128x128_o0_22_S128x1 slices_S128x128_o22_0_S1x128
      slices_S128x128_o0_23_S128x1 slices_S128x128_o23_0_S1x128 slices_S128x2048_o0_1408_S128x128 slices_S128x512_o0_384_S128x128 v43 v86 v87 v132 cb2 yo2
      (View.ld x7 (Rect.unit ![0, 1408] ![1, 128] inb_S1x2048_S1x128_0_1408)) (View.ld x1 (Rect.unit ![0, 1408] ![128, 128] inb_S128x2048_S128x128_0_1408))⟩,
    ⟨Rect.unit (s := S128x2048) ![0, 1280] ![128, 128] inb_S128x2048_S128x128_0_1280, tileV 1280 256 20 21 slices_S128x128_o0_20_S128x1 slices_S128x128_o20_0_S1x128
      slices_S128x128_o0_21_S128x1 slices_S128x128_o21_0_S1x128 slices_S128x2048_o0_1280_S128x128 slices_S128x512_o0_256_S128x128 v43 v86 v87 v132 cb2 yo2
      (View.ld x7 (Rect.unit ![0, 1280] ![1, 128] inb_S1x2048_S1x128_0_1280)) (View.ld x1 (Rect.unit ![0, 1280] ![128, 128] inb_S128x2048_S128x128_0_1280))⟩,
    ⟨Rect.unit (s := S128x2048) ![0, 1152] ![128, 128] inb_S128x2048_S128x128_0_1152, tileV 1152 128 18 19 slices_S128x128_o0_18_S128x1 slices_S128x128_o18_0_S1x128
      slices_S128x128_o0_19_S128x1 slices_S128x128_o19_0_S1x128 slices_S128x2048_o0_1152_S128x128 slices_S128x512_o0_128_S128x128 v43 v86 v87 v132 cb2 yo2
      (View.ld x7 (Rect.unit ![0, 1152] ![1, 128] inb_S1x2048_S1x128_0_1152)) (View.ld x1 (Rect.unit ![0, 1152] ![128, 128] inb_S128x2048_S128x128_0_1152))⟩,
    ⟨Rect.unit (s := S128x2048) ![0, 1024] ![128, 128] inb_S128x2048_S128x128_0_1024, tileV 1024 0 16 17 slices_S128x128_o0_16_S128x1 slices_S128x128_o16_0_S1x128
      slices_S128x128_o0_17_S128x1 slices_S128x128_o17_0_S1x128 slices_S128x2048_o0_1024_S128x128 slices_S128x512_o0_0_S128x128 v43 v86 v87 v132 cb2 yo2
      (View.ld x7 (Rect.unit ![0, 1024] ![1, 128] inb_S1x2048_S1x128_0_1024)) (View.ld x1 (Rect.unit ![0, 1024] ![128, 128] inb_S128x2048_S128x128_0_1024))⟩,
    ⟨Rect.unit (s := S128x2048) ![0, 896] ![128, 128] inb_S128x2048_S128x128_0_896, tileV 896 384 14 15 slices_S128x128_o0_14_S128x1 slices_S128x128_o14_0_S1x128
      slices_S128x128_o0_15_S128x1 slices_S128x128_o15_0_S1x128 slices_S128x2048_o0_896_S128x128 slices_S128x512_o0_384_S128x128 v43 v86 v87 v132 cb1 yo1
      (View.ld x7 (Rect.unit ![0, 896] ![1, 128] inb_S1x2048_S1x128_0_896)) (View.ld x1 (Rect.unit ![0, 896] ![128, 128] inb_S128x2048_S128x128_0_896))⟩,
    ⟨Rect.unit (s := S128x2048) ![0, 768] ![128, 128] inb_S128x2048_S128x128_0_768, tileV 768 256 12 13 slices_S128x128_o0_12_S128x1 slices_S128x128_o12_0_S1x128
      slices_S128x128_o0_13_S128x1 slices_S128x128_o13_0_S1x128 slices_S128x2048_o0_768_S128x128 slices_S128x512_o0_256_S128x128 v43 v86 v87 v132 cb1 yo1
      (View.ld x7 (Rect.unit ![0, 768] ![1, 128] inb_S1x2048_S1x128_0_768)) (View.ld x1 (Rect.unit ![0, 768] ![128, 128] inb_S128x2048_S128x128_0_768))⟩,
    ⟨Rect.unit (s := S128x2048) ![0, 640] ![128, 128] inb_S128x2048_S128x128_0_640, tileV 640 128 10 11 slices_S128x128_o0_10_S128x1 slices_S128x128_o10_0_S1x128
      slices_S128x128_o0_11_S128x1 slices_S128x128_o11_0_S1x128 slices_S128x2048_o0_640_S128x128 slices_S128x512_o0_128_S128x128 v43 v86 v87 v132 cb1 yo1
      (View.ld x7 (Rect.unit ![0, 640] ![1, 128] inb_S1x2048_S1x128_0_640)) (View.ld x1 (Rect.unit ![0, 640] ![128, 128] inb_S128x2048_S128x128_0_640))⟩,
    ⟨Rect.unit (s := S128x2048) ![0, 512] ![128, 128] inb_S128x2048_S128x128_0_512, tileV 512 0 8 9 slices_S128x128_o0_8_S128x1 slices_S128x128_o8_0_S1x128
      slices_S128x128_o0_9_S128x1 slices_S128x128_o9_0_S1x128 slices_S128x2048_o0_512_S128x128 slices_S128x512_o0_0_S128x128 v43 v86 v87 v132 cb1 yo1
      (View.ld x7 (Rect.unit ![0, 512] ![1, 128] inb_S1x2048_S1x128_0_512)) (View.ld x1 (Rect.unit ![0, 512] ![128, 128] inb_S128x2048_S128x128_0_512))⟩,
    ⟨Rect.unit (s := S128x2048) ![0, 384] ![128, 128] inb_S128x2048_S128x128_0_384, tileV 384 384 6 7 slices_S128x128_o0_6_S128x1 slices_S128x128_o6_0_S1x128
      slices_S128x128_o0_7_S128x1 slices_S128x128_o7_0_S1x128 slices_S128x2048_o0_384_S128x128 slices_S128x512_o0_384_S128x128 v43 v86 v87 v132 cb0 yo0
      (View.ld x7 (Rect.unit ![0, 384] ![1, 128] inb_S1x2048_S1x128_0_384)) (View.ld x1 (Rect.unit ![0, 384] ![128, 128] inb_S128x2048_S128x128_0_384))⟩,
    ⟨Rect.unit (s := S128x2048) ![0, 256] ![128, 128] inb_S128x2048_S128x128_0_256, tileV 256 256 4 5 slices_S128x128_o0_4_S128x1 slices_S128x128_o4_0_S1x128
      slices_S128x128_o0_5_S128x1 slices_S128x128_o5_0_S1x128 slices_S128x2048_o0_256_S128x128 slices_S128x512_o0_256_S128x128 v43 v86 v87 v132 cb0 yo0
      (View.ld x7 (Rect.unit ![0, 256] ![1, 128] inb_S1x2048_S1x128_0_256)) (View.ld x1 (Rect.unit ![0, 256] ![128, 128] inb_S128x2048_S128x128_0_256))⟩,
    ⟨Rect.unit (s := S128x2048) ![0, 128] ![128, 128] inb_S128x2048_S128x128_0_128, tileV 128 128 2 3 slices_S128x128_o0_2_S128x1 slices_S128x128_o2_0_S1x128
      slices_S128x128_o0_3_S128x1 slices_S128x128_o3_0_S1x128 slices_S128x2048_o0_128_S128x128 slices_S128x512_o0_128_S128x128 v43 v86 v87 v132 cb0 yo0
      (View.ld x7 (Rect.unit ![0, 128] ![1, 128] inb_S1x2048_S1x128_0_128)) (View.ld x1 (Rect.unit ![0, 128] ![128, 128] inb_S128x2048_S128x128_0_128))⟩,
    ⟨Rect.unit (s := S128x2048) ![0, 0] ![128, 128] inb_S128x2048_S128x128_0_0, tileV 0 0 0 1 slices_S128x128_o0_0_S128x1 slices_S128x128_o0_0_S1x128
      slices_S128x128_o0_1_S128x1 slices_S128x128_o1_0_S1x128 slices_S128x2048_o0_0_S128x128 slices_S128x512_o0_0_S128x128 v43 v86 v87 v132 cb0 yo0
      (View.ld x7 (Rect.unit ![0, 0] ![1, 128] inb_S1x2048_S1x128_0_0)) (View.ld x1 (Rect.unit ![0, 0] ![128, 128] inb_S128x2048_S128x128_0_0))⟩] (ix2 l q) = gated E b c l q := by
  have hk : (q : ℕ) / 128 < 16 := by omega
  refine View.canon_apply_of_pieces (Val := Elt Ideal) (S := S128x2048) (e := .f32) (fun y : S128x2048.Idx => gated E b c (y 0 : ℕ) (y 1 : ℕ)) _ ?_ (ix2 l q) ?_
  · simp only [List.forall_mem_cons, List.not_mem_nil, false_implies, implies_true, and_true]
    refine ⟨?_, ?_, ?_, ?_, ?_, ?_, ?_, ?_, ?_, ?_, ?_, ?_, ?_, ?_, ?_, ?_⟩
    · refine piece2_at (e := .f32) (fun r q => gated E b c r q) 0 1920 inb_S128x2048_S128x128_0_1920 _ fun r s => ?_
      rw [Nat.zero_add]
      exact tileV_at 1920 384 30 31 _ _ _ _ _ _ v43 v86 v87 v132 cb3 yo3 _ _ E b c 15 (by omega) rfl rfl rfl rfl h43 h86 h87 h132 hc3 hy3
        (fun s => (ld2_at x7 0 1920 _ 0 s (by omega) (by omega)).trans (h7 _))
        (fun l s => (ld2_at x1 0 1920 _ l s (by omega) (by omega)).trans ((h1 _ _).trans (by rw [Fin.val_mk, Nat.zero_add]))) r s
    · refine piece2_at (e := .f32) (fun r q => gated E b c r q) 0 1792 inb_S128x2048_S128x128_0_1792 _ fun r s => ?_
      rw [Nat.zero_add]
      exact tileV_at 1792 256 28 29 _ _ _ _ _ _ v43 v86 v87 v132 cb3 yo3 _ _ E b c 14 (by omega) rfl rfl rfl rfl h43 h86 h87 h132 hc3 hy3
        (fun s => (ld2_at x7 0 1792 _ 0 s (by omega) (by omega)).trans (h7 _))
        (fun l s => (ld2_at x1 0 1792 _ l s (by omega) (by omega)).trans ((h1 _ _).trans (by rw [Fin.val_mk, Nat.zero_add]))) r s
    · refine piece2_at (e := .f32) (fun r q => gated E b c r q) 0 1664 inb_S128x2048_S128x128_0_1664 _ fun r s => ?_
      rw [Nat.zero_add]
      exact tileV_at 1664 128 26 27 _ _ _ _ _ _ v43 v86 v87 v132 cb3 yo3 _ _ E b c 13 (by omega) rfl rfl rfl rfl h43 h86 h87 h132 hc3 hy3
        (fun s => (ld2_at x7 0 1664 _ 0 s (by omega) (by omega)).trans (h7 _))
        (fun l s => (ld2_at x1 0 1664 _ l s (by omega) (by omega)).trans ((h1 _ _).trans (by rw [Fin.val_mk, Nat.zero_add]))) r s
    · refine piece2_at (e := .f32) (fun r q => gated E b c r q) 0 1536 inb_S128x2048_S128x128_0_1536 _ fun r s => ?_
      rw [Nat.zero_add]
      exact tileV_at 1536 0 24 25 _ _ _ _ _ _ v43 v86 v87 v132 cb3 yo3 _ _ E b c 12 (by omega) rfl rfl rfl rfl h43 h86 h87 h132 hc3 hy3
        (fun s => (ld2_at x7 0 1536 _ 0 s (by omega) (by omega)).trans (h7 _))
        (fun l s => (ld2_at x1 0 1536 _ l s (by omega) (by omega)).trans ((h1 _ _).trans (by rw [Fin.val_mk, Nat.zero_add]))) r s
    · refine piece2_at (e := .f32) (fun r q => gated E b c r q) 0 1408 inb_S128x2048_S128x128_0_1408 _ fun r s => ?_
      rw [Nat.zero_add]
      exact tileV_at 1408 384 22 23 _ _ _ _ _ _ v43 v86 v87 v132 cb2 yo2 _ _ E b c 11 (by omega) rfl rfl rfl rfl h43 h86 h87 h132 hc2 hy2
        (fun s => (ld2_at x7 0 1408 _ 0 s (by omega) (by omega)).trans (h7 _))
        (fun l s => (ld2_at x1 0 1408 _ l s (by omega) (by omega)).trans ((h1 _ _).trans (by rw [Fin.val_mk, Nat.zero_add]))) r s
    · refine piece2_at (e := .f32) (fun r q => gated E b c r q) 0 1280 inb_S128x2048_S128x128_0_1280 _ fun r s => ?_
      rw [Nat.zero_add]
      exact tileV_at 1280 256 20 21 _ _ _ _ _ _ v43 v86 v87 v132 cb2 yo2 _ _ E b c 10 (by omega) rfl rfl rfl rfl h43 h86 h87 h132 hc2 hy2
        (fun s => (ld2_at x7 0 1280 _ 0 s (by omega) (by omega)).trans (h7 _))
        (fun l s => (ld2_at x1 0 1280 _ l s (by omega) (by omega)).trans ((h1 _ _).trans (by rw [Fin.val_mk, Nat.zero_add]))) r s
    · refine piece2_at (e := .f32) (fun r q => gated E b c r q) 0 1152 inb_S128x2048_S128x128_0_1152 _ fun r s => ?_
      rw [Nat.zero_add]
      exact tileV_at 1152 128 18 19 _ _ _ _ _ _ v43 v86 v87 v132 cb2 yo2 _ _ E b c 9 (by omega) rfl rfl rfl rfl h43 h86 h87 h132 hc2 hy2
        (fun s => (ld2_at x7 0 1152 _ 0 s (by omega) (by omega)).trans (h7 _))
        (fun l s => (ld2_at x1 0 1152 _ l s (by omega) (by omega)).trans ((h1 _ _).trans (by rw [Fin.val_mk, Nat.zero_add]))) r s
    · refine piece2_at (e := .f32) (fun r q => gated E b c r q) 0 1024 inb_S128x2048_S128x128_0_1024 _ fun r s => ?_
      rw [Nat.zero_add]
      exact tileV_at 1024 0 16 17 _ _ _ _ _ _ v43 v86 v87 v132 cb2 yo2 _ _ E b c 8 (by omega) rfl rfl rfl rfl h43 h86 h87 h132 hc2 hy2
        (fun s => (ld2_at x7 0 1024 _ 0 s (by omega) (by omega)).trans (h7 _))
        (fun l s => (ld2_at x1 0 1024 _ l s (by omega) (by omega)).trans ((h1 _ _).trans (by rw [Fin.val_mk, Nat.zero_add]))) r s
    · refine piece2_at (e := .f32) (fun r q => gated E b c r q) 0 896 inb_S128x2048_S128x128_0_896 _ fun r s => ?_
      rw [Nat.zero_add]
      exact tileV_at 896 384 14 15 _ _ _ _ _ _ v43 v86 v87 v132 cb1 yo1 _ _ E b c 7 (by omega) rfl rfl rfl rfl h43 h86 h87 h132 hc1 hy1
        (fun s => (ld2_at x7 0 896 _ 0 s (by omega) (by omega)).trans (h7 _))
        (fun l s => (ld2_at x1 0 896 _ l s (by omega) (by omega)).trans ((h1 _ _).trans (by rw [Fin.val_mk, Nat.zero_add]))) r s
    · refine piece2_at (e := .f32) (fun r q => gated E b c r q) 0 768 inb_S128x2048_S128x128_0_768 _ fun r s => ?_
      rw [Nat.zero_add]
      exact tileV_at 768 256 12 13 _ _ _ _ _ _ v43 v86 v87 v132 cb1 yo1 _ _ E b c 6 (by omega) rfl rfl rfl rfl h43 h86 h87 h132 hc1 hy1
        (fun s => (ld2_at x7 0 768 _ 0 s (by omega) (by omega)).trans (h7 _))
        (fun l s => (ld2_at x1 0 768 _ l s (by omega) (by omega)).trans ((h1 _ _).trans (by rw [Fin.val_mk, Nat.zero_add]))) r s
    · refine piece2_at (e := .f32) (fun r q => gated E b c r q) 0 640 inb_S128x2048_S128x128_0_640 _ fun r s => ?_
      rw [Nat.zero_add]
      exact tileV_at 640 128 10 11 _ _ _ _ _ _ v43 v86 v87 v132 cb1 yo1 _ _ E b c 5 (by omega) rfl rfl rfl rfl h43 h86 h87 h132 hc1 hy1
        (fun s => (ld2_at x7 0 640 _ 0 s (by omega) (by omega)).trans (h7 _))
        (fun l s => (ld2_at x1 0 640 _ l s (by omega) (by omega)).trans ((h1 _ _).trans (by rw [Fin.val_mk, Nat.zero_add]))) r s
    · refine piece2_at (e := .f32) (fun r q => gated E b c r q) 0 512 inb_S128x2048_S128x128_0_512 _ fun r s => ?_
      rw [Nat.zero_add]
      exact tileV_at 512 0 8 9 _ _ _ _ _ _ v43 v86 v87 v132 cb1 yo1 _ _ E b c 4 (by omega) rfl rfl rfl rfl h43 h86 h87 h132 hc1 hy1
        (fun s => (ld2_at x7 0 512 _ 0 s (by omega) (by omega)).trans (h7 _))
        (fun l s => (ld2_at x1 0 512 _ l s (by omega) (by omega)).trans ((h1 _ _).trans (by rw [Fin.val_mk, Nat.zero_add]))) r s
    · refine piece2_at (e := .f32) (fun r q => gated E b c r q) 0 384 inb_S128x2048_S128x128_0_384 _ fun r s => ?_
      rw [Nat.zero_add]
      exact tileV_at 384 384 6 7 _ _ _ _ _ _ v43 v86 v87 v132 cb0 yo0 _ _ E b c 3 (by omega) rfl rfl rfl rfl h43 h86 h87 h132 hc0 hy0
        (fun s => (ld2_at x7 0 384 _ 0 s (by omega) (by omega)).trans (h7 _))
        (fun l s => (ld2_at x1 0 384 _ l s (by omega) (by omega)).trans ((h1 _ _).trans (by rw [Fin.val_mk, Nat.zero_add]))) r s
    · refine piece2_at (e := .f32) (fun r q => gated E b c r q) 0 256 inb_S128x2048_S128x128_0_256 _ fun r s => ?_
      rw [Nat.zero_add]
      exact tileV_at 256 256 4 5 _ _ _ _ _ _ v43 v86 v87 v132 cb0 yo0 _ _ E b c 2 (by omega) rfl rfl rfl rfl h43 h86 h87 h132 hc0 hy0
        (fun s => (ld2_at x7 0 256 _ 0 s (by omega) (by omega)).trans (h7 _))
        (fun l s => (ld2_at x1 0 256 _ l s (by omega) (by omega)).trans ((h1 _ _).trans (by rw [Fin.val_mk, Nat.zero_add]))) r s
    · refine piece2_at (e := .f32) (fun r q => gated E b c r q) 0 128 inb_S128x2048_S128x128_0_128 _ fun r s => ?_
      rw [Nat.zero_add]
      exact tileV_at 128 128 2 3 _ _ _ _ _ _ v43 v86 v87 v132 cb0 yo0 _ _ E b c 1 (by omega) rfl rfl rfl rfl h43 h86 h87 h132 hc0 hy0
        (fun s => (ld2_at x7 0 128 _ 0 s (by omega) (by omega)).trans (h7 _))
        (fun l s => (ld2_at x1 0 128 _ l s (by omega) (by omega)).trans ((h1 _ _).trans (by rw [Fin.val_mk, Nat.zero_add]))) r s
    · refine piece2_at (e := .f32) (fun r q => gated E b c r q) 0 0 inb_S128x2048_S128x128_0_0 _ fun r s => ?_
      rw [Nat.zero_add]
      exact tileV_at 0 0 0 1 _ _ _ _ _ _ v43 v86 v87 v132 cb0 yo0 _ _ E b c 0 (by omega) rfl rfl rfl rfl h43 h86 h87 h132 hc0 hy0
        (fun s => (ld2_at x7 0 0 _ 0 s (by omega) (by omega)).trans (h7 _))
        (fun l s => (ld2_at x1 0 0 _ l s (by omega) (by omega)).trans ((h1 _ _).trans (by rw [Fin.val_mk, Nat.zero_add]))) r s
  · simp only [List.exists_mem_cons_iff]
    generalize hq : (q : ℕ) / 128 = k at hk
    interval_cases k
    · exact Or.inr <| Or.inr <| Or.inr <| Or.inr <| Or.inr <| Or.inr <| Or.inr <| Or.inr <| Or.inr <| Or.inr <| Or.inr <| Or.inr <| Or.inr <| Or.inr <| Or.inr <| Or.inl (mem_piece2 (m0 := 128) (m1 := 128) 0 0 inb_S128x2048_S128x128_0_0 l q ⟨by omega, by omega, by omega, by omega⟩)
    · exact Or.inr <| Or.inr <| Or.inr <| Or.inr <| Or.inr <| Or.inr <| Or.inr <| Or.inr <| Or.inr <| Or.inr <| Or.inr <| Or.inr <| Or.inr <| Or.inr <| Or.inl (mem_piece2 (m0 := 128) (m1 := 128) 0 128 inb_S128x2048_S128x128_0_128 l q ⟨by omega, by omega, by omega, by omega⟩)
    · exact Or.inr <| Or.inr <| Or.inr <| Or.inr <| Or.inr <| Or.inr <| Or.inr <| Or.inr <| Or.inr <| Or.inr <| Or.inr <| Or.inr <| Or.inr <| Or.inl (mem_piece2 (m0 := 128) (m1 := 128) 0 256 inb_S128x2048_S128x128_0_256 l q ⟨by omega, by omega, by omega, by omega⟩)
    · exact Or.inr <| Or.inr <| Or.inr <| Or.inr <| Or.inr <| Or.inr <| Or.inr <| Or.inr <| Or.inr <| Or.inr <| Or.inr <| Or.inr <| Or.inl (mem_piece2 (m0 := 128) (m1 := 128) 0 384 inb_S128x2048_S128x128_0_384 l q ⟨by omega, by omega, by omega, by omega⟩)
    · exact Or.inr <| Or.inr <| Or.inr <| Or.inr <| Or.inr <| Or.inr <| Or.inr <| Or.inr <| Or.inr <| Or.inr <| Or.inr <| Or.inl (mem_piece2 (m0 := 128) (m1 := 128) 0 512 inb_S128x2048_S128x128_0_512 l q ⟨by omega, by omega, by omega, by omega⟩)
    · exact Or.inr <| Or.inr <| Or.inr <| Or.inr <| Or.inr <| Or.inr <| Or.inr <| Or.inr <| Or.inr <| Or.inr <| Or.inl (mem_piece2 (m0 := 128) (m1 := 128) 0 640 inb_S128x2048_S128x128_0_640 l q ⟨by omega, by omega, by omega, by omega⟩)
    · exact Or.inr <| Or.inr <| Or.inr <| Or.inr <| Or.inr <| Or.inr <| Or.inr <| Or.inr <| Or.inr <| Or.inl (mem_piece2 (m0 := 128) (m1 := 128) 0 768 inb_S128x2048_S128x128_0_768 l q ⟨by omega, by omega, by omega, by omega⟩)
    · exact Or.inr <| Or.inr <| Or.inr <| Or.inr <| Or.inr <| Or.inr <| Or.inr <| Or.inr <| Or.inl (mem_piece2 (m0 := 128) (m1 := 128) 0 896 inb_S128x2048_S128x128_0_896 l q ⟨by omega, by omega, by omega, by omega⟩)
    · exact Or.inr <| Or.inr <| Or.inr <| Or.inr <| Or.inr <| Or.inr <| Or.inr <| Or.inl (mem_piece2 (m0 := 128) (m1 := 128) 0 1024 inb_S128x2048_S128x128_0_1024 l q ⟨by omega, by omega, by omega, by omega⟩)
    · exact Or.inr <| Or.inr <| Or.inr <| Or.inr <| Or.inr <| Or.inr <| Or.inl (mem_piece2 (m0 := 128) (m1 := 128) 0 1152 inb_S128x2048_S128x128_0_1152 l q ⟨by omega, by omega, by omega, by omega⟩)
    · exact Or.inr <| Or.inr <| Or.inr <| Or.inr <| Or.inr <| Or.inl (mem_piece2 (m0 := 128) (m1 := 128) 0 1280 inb_S128x2048_S128x128_0_1280 l q ⟨by omega, by omega, by omega, by omega⟩)
    · exact Or.inr <| Or.inr <| Or.inr <| Or.inr <| Or.inl (mem_piece2 (m0 := 128) (m1 := 128) 0 1408 inb_S128x2048_S128x128_0_1408 l q ⟨by omega, by omega, by omega, by omega⟩)
    · exact Or.inr <| Or.inr <| Or.inr <| Or.inl (mem_piece2 (m0 := 128) (m1 := 128) 0 1536 inb_S128x2048_S128x128_0_1536 l q ⟨by omega, by omega, by omega, by omega⟩)
    · exact Or.inr <| Or.inr <| Or.inl (mem_piece2 (m0 := 128) (m1 := 128) 0 1664 inb_S128x2048_S128x128_0_1664 l q ⟨by omega, by omega, by omega, by omega⟩)
    · exact Or.inr <| Or.inl (mem_piece2 (m0 := 128) (m1 := 128) 0 1792 inb_S128x2048_S128x128_0_1792 l q ⟨by omega, by omega, by omega, by omega⟩)
    · exact Or.inl (mem_piece2 (m0 := 128) (m1 := 128) 0 1920 inb_S128x2048_S128x128_0_1920 l q ⟨by omega, by omega, by omega, by omega⟩)
end Tiles

/-! ## The point -/

section Point
variable {E : Ent} {b c : ℕ} {x0 : Vec Ideal S128x3072 .f32} {x1 : Vec Ideal S128x2048 .f32} {x2 : Vec Ideal S128x128 .f32}
  {x3 : Vec Ideal S4x3072 .f32} {x4 : Vec Ideal S1x3072 .f32} {x5 x6 : Vec Ideal S1x128 .f32} {x7 x8 : Vec Ideal S1x2048 .f32}
  {x9 : Vec Ideal S128x128 .bf16} {x10 : Vec Ideal S128x2048 .bf16} (H : Blk E b c x0 x1 x2 x3 x4 x5 x6 x7 x8 x9 x10)
  {xs0 : Vec Ideal S136x3072 .f32} {xs1 : Vec Ideal S128x2048 .f32} (hh : Head E b c xs0) (hs : Carry E b c xs1)
include H

theorem acs_at (l h : Fin 128) : bAcs x2 x5 x6 x9 (ix2 l h) = cum E b c l h := bAcs_at x2 x5 x6 x9 E b c H.fine H.h2 H.h5 H.h6 H.h9 l h
theorem acsT_at (h l : Fin 128) : bAcsT x2 x5 x6 x9 (ix2 h l) = cum E b c l h := bAcsT_at x2 x5 x6 x9 E b c H.fine H.h2 H.h5 H.h6 H.h9 h l
theorem ex_at (l : Fin 128) (q : Fin 2048) : bEx x2 x5 x6 x9 x10 (ix2 l q) = Ideal.exp (cum E b c l (q / 64)) :=
  bEx_at x2 x5 x6 x9 x10 E b c H.fine H.h2 H.h5 H.h6 H.h9 H.h10 l q
theorem dtX_at (l : Fin 128) (q : Fin 2048) : bDtX x2 x5 x10 (ix2 l q) = step E b (128 * c + l) (q / 64) :=
  bDtX_at x2 x5 x10 E b c H.fine H.h2 H.h5 H.h10 l q

include hh

theorem xs_at (l : Fin 128) (q : Fin 2048) : bXs x0 (ext5 (extOf xs0 x0)) (ext6 (extOf xs0 x0)) (ext7 (extOf xs0 x0)) x3 x4 (ix2 l q) = act E b (128 * c + l) q :=
  bXs_at x0 _ _ _ x3 x4 E b c H.h0 (ext5_at hh H.h0) (ext6_at hh H.h0) (ext7_at hh H.h0) H.h3 H.h4 l q
theorem vB_at (l : Fin 128) (q : Fin 512) : bB x0 (ext5 (extOf xs0 x0)) (ext6 (extOf xs0 x0)) (ext7 (extOf xs0 x0)) x3 x4 (ix2 l q) = act E b (128 * c + l) (2048 + q) :=
  bB_at x0 _ _ _ x3 x4 E b c H.h0 (ext5_at hh H.h0) (ext6_at hh H.h0) (ext7_at hh H.h0) H.h3 H.h4 l q
theorem vC_at (l : Fin 128) (q : Fin 512) : bC x0 (ext5 (extOf xs0 x0)) (ext6 (extOf xs0 x0)) (ext7 (extOf xs0 x0)) x3 x4 (ix2 l q) = act E b (128 * c + l) (2560 + q) :=
  bC_at x0 _ _ _ x3 x4 E b c H.h0 (ext5_at hh H.h0) (ext6_at hh H.h0) (ext7_at hh H.h0) H.h3 H.h4 l q
theorem xw_at (l : Fin 128) (q : Fin 2048) : bXw x2 x5 x6 x9 x10 (bXs x0 (ext5 (extOf xs0 x0)) (ext6 (extOf xs0 x0)) (ext7 (extOf xs0 x0)) x3 x4) (ix2 l q)
    = xdt E b (128 * c + l) q * Ideal.exp (cum E b c 127 (q / 64) - cum E b c l (q / 64)) :=
  bXw_at x2 x5 x6 x9 x10 E b c H.fine H.h2 H.h5 H.h6 H.h9 H.h10 _ (xs_at H hh) l q

include hs

theorem col0_at (n : Fin 128) (j : Fin 512) : stCol0 xs1 (ix2 n j) = state E b c n (512 * 0 + j) :=
  (ld2_at xs1 0 0 inb_S128x2048_S128x512_0_0 n j (by omega) (by omega)).trans ((hs _ _).trans (by rw [Fin.val_mk, Nat.zero_add]))
theorem col512_at (n : Fin 128) (j : Fin 512) : stCol512 xs1 (ix2 n j) = state E b c n (512 * 1 + j) :=
  (ld2_at xs1 0 512 inb_S128x2048_S128x512_0_512 n j (by omega) (by omega)).trans ((hs _ _).trans (by rw [Fin.val_mk, Nat.zero_add]))
theorem col1024_at (n : Fin 128) (j : Fin 512) : stCol1024 xs1 (ix2 n j) = state E b c n (512 * 2 + j) :=
  (ld2_at xs1 0 1024 inb_S128x2048_S128x512_0_1024 n j (by omega) (by omega)).trans ((hs _ _).trans (by rw [Fin.val_mk, Nat.zero_add]))
theorem col1536_at (n : Fin 128) (j : Fin 512) : stCol1536 xs1 (ix2 n j) = state E b c n (512 * 3 + j) :=
  (ld2_at xs1 0 1536 inb_S128x2048_S128x512_0_1536 n j (by omega) (by omega)).trans ((hs _ _).trans (by rw [Fin.val_mk, Nat.zero_add]))
theorem next_carry (L : List (View.Piece (Elt Ideal) S128x2048 .f32)) : Carry E b (c + 1) (View.canon (Val := Elt Ideal) (s := S128x2048) (e := .f32) ([⟨Rect.unit (s := S128x2048) ![0, 1536] ![128, 512] inb_S128x2048_S128x512_0_1536, grpState 384 1536 slices_S128x512_o0_384_S128x128 slices_S128x2048_o0_1536_S128x512 slices_S128x2048_o127_1536_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol1536 xs1)⟩, ⟨Rect.unit (s := S128x2048) ![0, 1024] ![128, 512] inb_S128x2048_S128x512_0_1024, grpState 256 1024 slices_S128x512_o0_256_S128x128 slices_S128x2048_o0_1024_S128x512 slices_S128x2048_o127_1024_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol1024 xs1)⟩, ⟨Rect.unit (s := S128x2048) ![0, 512] ![128, 512] inb_S128x2048_S128x512_0_512, grpState 128 512 slices_S128x512_o0_128_S128x128 slices_S128x2048_o0_512_S128x512 slices_S128x2048_o127_512_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol512 xs1)⟩, ⟨Rect.unit (s := S128x2048) ![0, 0] ![128, 512] inb_S128x2048_S128x512_0_0, grpState 0 0 slices_S128x512_o0_0_S128x128 slices_S128x2048_o0_0_S128x512 slices_S128x2048_o127_0_S1x512
      (bB x0 (ext5 (extOf xs0 x0)) (ext6 (extOf xs0 x0)) (ext7 (extOf xs0 x0)) x3 x4) (bEx x2 x5 x6 x9 x10) (bXw x2 x5 x6 x9 x10 (bXs x0 (ext5 (extOf xs0 x0)) (ext6 (extOf xs0 x0)) (ext7 (extOf xs0 x0)) x3 x4)) (stCol0 xs1)⟩] ++ L)) := by
  intro n q
  have hk : (q : ℕ) / 512 < 4 := by omega
  refine View.canon_append_of_pieces (Val := Elt Ideal) (S := S128x2048) (e := .f32) (fun y : S128x2048.Idx => state E b (c + 1) (y 0) (y 1)) L _ ?_ (ix2 n q) ?_
  · simp only [List.forall_mem_cons, List.not_mem_nil, false_implies, implies_true, and_true]
    refine ⟨?_, ?_, ?_, ?_⟩
    · refine piece2_at (e := .f32) (fun r q => state E b (c + 1) r q) 0 1536 inb_S128x2048_S128x512_0_1536 _ fun r j => ?_
      rw [Nat.zero_add]
      exact grpState_at _ _ E b c 3 (by omega) (vB_at H hh) (ex_at H) 384 1536 rfl rfl _ _ _ _ (col1536_at H hh hs) _ (xw_at H hh) r j
    · refine piece2_at (e := .f32) (fun r q => state E b (c + 1) r q) 0 1024 inb_S128x2048_S128x512_0_1024 _ fun r j => ?_
      rw [Nat.zero_add]
      exact grpState_at _ _ E b c 2 (by omega) (vB_at H hh) (ex_at H) 256 1024 rfl rfl _ _ _ _ (col1024_at H hh hs) _ (xw_at H hh) r j
    · refine piece2_at (e := .f32) (fun r q => state E b (c + 1) r q) 0 512 inb_S128x2048_S128x512_0_512 _ fun r j => ?_
      rw [Nat.zero_add]
      exact grpState_at _ _ E b c 1 (by omega) (vB_at H hh) (ex_at H) 128 512 rfl rfl _ _ _ _ (col512_at H hh hs) _ (xw_at H hh) r j
    · refine piece2_at (e := .f32) (fun r q => state E b (c + 1) r q) 0 0 inb_S128x2048_S128x512_0_0 _ fun r j => ?_
      rw [Nat.zero_add]
      exact grpState_at _ _ E b c 0 (by omega) (vB_at H hh) (ex_at H) 0 0 rfl rfl _ _ _ _ (col0_at H hh hs) _ (xw_at H hh) r j
  · simp only [List.exists_mem_cons_iff]
    generalize hq : (q : ℕ) / 512 = k at hk
    interval_cases k
    · exact Or.inr <| Or.inr <| Or.inr <| Or.inl (mem_piece2 (m0 := 128) (m1 := 512) 0 0 inb_S128x2048_S128x512_0_0 n q ⟨by omega, by omega, by omega, by omega⟩)
    · exact Or.inr <| Or.inr <| Or.inl (mem_piece2 (m0 := 128) (m1 := 512) 0 512 inb_S128x2048_S128x512_0_512 n q ⟨by omega, by omega, by omega, by omega⟩)
    · exact Or.inr <| Or.inl (mem_piece2 (m0 := 128) (m1 := 512) 0 1024 inb_S128x2048_S128x512_0_1024 n q ⟨by omega, by omega, by omega, by omega⟩)
    · exact Or.inl (mem_piece2 (m0 := 128) (m1 := 512) 0 1536 inb_S128x2048_S128x512_0_1536 n q ⟨by omega, by omega, by omega, by omega⟩)
theorem out_at (l : Fin 128) (q : Fin 2048) : k0_pay122 (View.canon (Val := Elt Ideal) (s := S128x2048) (e := .f32) [⟨Rect.unit (s := S128x2048) ![0, 1920] ![128, 128] inb_S128x2048_S128x128_0_1920, tileV 1920 384 30 31 slices_S128x128_o0_30_S128x1 slices_S128x128_o30_0_S1x128
      slices_S128x128_o0_31_S128x1 slices_S128x128_o31_0_S1x128 slices_S128x2048_o0_1920_S128x128 slices_S128x512_o0_384_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1920] ![1, 128] inb_S1x2048_S1x128_0_1920)) (View.ld x1 (Rect.unit ![0, 1920] ![128, 128] inb_S128x2048_S128x128_0_1920))⟩,
    ⟨Rect.unit (s := S128x2048) ![0, 1792] ![128, 128] inb_S128x2048_S128x128_0_1792, tileV 1792 256 28 29 slices_S128x128_o0_28_S128x1 slices_S128x128_o28_0_S1x128
      slices_S128x128_o0_29_S128x1 slices_S128x128_o29_0_S1x128 slices_S128x2048_o0_1792_S128x128 slices_S128x512_o0_256_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1792] ![1, 128] inb_S1x2048_S1x128_0_1792)) (View.ld x1 (Rect.unit ![0, 1792] ![128, 128] inb_S128x2048_S128x128_0_1792))⟩,
    ⟨Rect.unit (s := S128x2048) ![0, 1664] ![128, 128] inb_S128x2048_S128x128_0_1664, tileV 1664 128 26 27 slices_S128x128_o0_26_S128x1 slices_S128x128_o26_0_S1x128
      slices_S128x128_o0_27_S128x1 slices_S128x128_o27_0_S1x128 slices_S128x2048_o0_1664_S128x128 slices_S128x512_o0_128_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1664] ![1, 128] inb_S1x2048_S1x128_0_1664)) (View.ld x1 (Rect.unit ![0, 1664] ![128, 128] inb_S128x2048_S128x128_0_1664))⟩,
    ⟨Rect.unit (s := S128x2048) ![0, 1536] ![128, 128] inb_S128x2048_S128x128_0_1536, tileV 1536 0 24 25 slices_S128x128_o0_24_S128x1 slices_S128x128_o24_0_S1x128
      slices_S128x128_o0_25_S128x1 slices_S128x128_o25_0_S1x128 slices_S128x2048_o0_1536_S128x128 slices_S128x512_o0_0_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 384 slices_S128x512_o0_384_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 384 1536 slices_S128x512_o0_384_S128x128 slices_S128x2048_o0_1536_S128x512 (bC x0 (ext5 (extOf xs0 x0)) (ext6 (extOf xs0 x0)) (ext7 (extOf xs0 x0)) x3 x4) (bEx x2 x5 x6 x9 x10) (stCol1536 xs1))
      (View.ld x7 (Rect.unit ![0, 1536] ![1, 128] inb_S1x2048_S1x128_0_1536)) (View.ld x1 (Rect.unit ![0, 1536] ![128, 128] inb_S128x2048_S128x128_0_1536))⟩,
    ⟨Rect.unit (s := S128x2048) ![0, 1408] ![128, 128] inb_S128x2048_S128x128_0_1408, tileV 1408 384 22 23 slices_S128x128_o0_22_S128x1 slices_S128x128_o22_0_S1x128
      slices_S128x128_o0_23_S128x1 slices_S128x128_o23_0_S1x128 slices_S128x2048_o0_1408_S128x128 slices_S128x512_o0_384_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1408] ![1, 128] inb_S1x2048_S1x128_0_1408)) (View.ld x1 (Rect.unit ![0, 1408] ![128, 128] inb_S128x2048_S128x128_0_1408))⟩,
    ⟨Rect.unit (s := S128x2048) ![0, 1280] ![128, 128] inb_S128x2048_S128x128_0_1280, tileV 1280 256 20 21 slices_S128x128_o0_20_S128x1 slices_S128x128_o20_0_S1x128
      slices_S128x128_o0_21_S128x1 slices_S128x128_o21_0_S1x128 slices_S128x2048_o0_1280_S128x128 slices_S128x512_o0_256_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1280] ![1, 128] inb_S1x2048_S1x128_0_1280)) (View.ld x1 (Rect.unit ![0, 1280] ![128, 128] inb_S128x2048_S128x128_0_1280))⟩,
    ⟨Rect.unit (s := S128x2048) ![0, 1152] ![128, 128] inb_S128x2048_S128x128_0_1152, tileV 1152 128 18 19 slices_S128x128_o0_18_S128x1 slices_S128x128_o18_0_S1x128
      slices_S128x128_o0_19_S128x1 slices_S128x128_o19_0_S1x128 slices_S128x2048_o0_1152_S128x128 slices_S128x512_o0_128_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1152] ![1, 128] inb_S1x2048_S1x128_0_1152)) (View.ld x1 (Rect.unit ![0, 1152] ![128, 128] inb_S128x2048_S128x128_0_1152))⟩,
    ⟨Rect.unit (s := S128x2048) ![0, 1024] ![128, 128] inb_S128x2048_S128x128_0_1024, tileV 1024 0 16 17 slices_S128x128_o0_16_S128x1 slices_S128x128_o16_0_S1x128
      slices_S128x128_o0_17_S128x1 slices_S128x128_o17_0_S1x128 slices_S128x2048_o0_1024_S128x128 slices_S128x512_o0_0_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 256 slices_S128x512_o0_256_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 256 1024 slices_S128x512_o0_256_S128x128 slices_S128x2048_o0_1024_S128x512 (bC x0 (ext5 (extOf xs0 x0)) (ext6 (extOf xs0 x0)) (ext7 (extOf xs0 x0)) x3 x4) (bEx x2 x5 x6 x9 x10) (stCol1024 xs1))
      (View.ld x7 (Rect.unit ![0, 1024] ![1, 128] inb_S1x2048_S1x128_0_1024)) (View.ld x1 (Rect.unit ![0, 1024] ![128, 128] inb_S128x2048_S128x128_0_1024))⟩,
    ⟨Rect.unit (s := S128x2048) ![0, 896] ![128, 128] inb_S128x2048_S128x128_0_896, tileV 896 384 14 15 slices_S128x128_o0_14_S128x1 slices_S128x128_o14_0_S1x128
      slices_S128x128_o0_15_S128x1 slices_S128x128_o15_0_S1x128 slices_S128x2048_o0_896_S128x128 slices_S128x512_o0_384_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 896] ![1, 128] inb_S1x2048_S1x128_0_896)) (View.ld x1 (Rect.unit ![0, 896] ![128, 128] inb_S128x2048_S128x128_0_896))⟩,
    ⟨Rect.unit (s := S128x2048) ![0, 768] ![128, 128] inb_S128x2048_S128x128_0_768, tileV 768 256 12 13 slices_S128x128_o0_12_S128x1 slices_S128x128_o12_0_S1x128
      slices_S128x128_o0_13_S128x1 slices_S128x128_o13_0_S1x128 slices_S128x2048_o0_768_S128x128 slices_S128x512_o0_256_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 768] ![1, 128] inb_S1x2048_S1x128_0_768)) (View.ld x1 (Rect.unit ![0, 768] ![128, 128] inb_S128x2048_S128x128_0_768))⟩,
    ⟨Rect.unit (s := S128x2048) ![0, 640] ![128, 128] inb_S128x2048_S128x128_0_640, tileV 640 128 10 11 slices_S128x128_o0_10_S128x1 slices_S128x128_o10_0_S1x128
      slices_S128x128_o0_11_S128x1 slices_S128x128_o11_0_S1x128 slices_S128x2048_o0_640_S128x128 slices_S128x512_o0_128_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 640] ![1, 128] inb_S1x2048_S1x128_0_640)) (View.ld x1 (Rect.unit ![0, 640] ![128, 128] inb_S128x2048_S128x128_0_640))⟩,
    ⟨Rect.unit (s := S128x2048) ![0, 512] ![128, 128] inb_S128x2048_S128x128_0_512, tileV 512 0 8 9 slices_S128x128_o0_8_S128x1 slices_S128x128_o8_0_S1x128
      slices_S128x128_o0_9_S128x1 slices_S128x128_o9_0_S1x128 slices_S128x2048_o0_512_S128x128 slices_S128x512_o0_0_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 128 slices_S128x512_o0_128_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 128 512 slices_S128x512_o0_128_S128x128 slices_S128x2048_o0_512_S128x512 (bC x0 (ext5 (extOf xs0 x0)) (ext6 (extOf xs0 x0)) (ext7 (extOf xs0 x0)) x3 x4) (bEx x2 x5 x6 x9 x10) (stCol512 xs1))
      (View.ld x7 (Rect.unit ![0, 512] ![1, 128] inb_S1x2048_S1x128_0_512)) (View.ld x1 (Rect.unit ![0, 512] ![128, 128] inb_S128x2048_S128x128_0_512))⟩,
    ⟨Rect.unit (s := S128x2048) ![0, 384] ![128, 128] inb_S128x2048_S128x128_0_384, tileV 384 384 6 7 slices_S128x128_o0_6_S128x1 slices_S128x128_o6_0_S1x128
      slices_S128x128_o0_7_S128x1 slices_S128x128_o7_0_S1x128 slices_S128x2048_o0_384_S128x128 slices_S128x512_o0_384_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 384] ![1, 128] inb_S1x2048_S1x128_0_384)) (View.ld x1 (Rect.unit ![0, 384] ![128, 128] inb_S128x2048_S128x128_0_384))⟩,
    ⟨Rect.unit (s := S128x2048) ![0, 256] ![128, 128] inb_S128x2048_S128x128_0_256, tileV 256 256 4 5 slices_S128x128_o0_4_S128x1 slices_S128x128_o4_0_S1x128
      slices_S128x128_o0_5_S128x1 slices_S128x128_o5_0_S1x128 slices_S128x2048_o0_256_S128x128 slices_S128x512_o0_256_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 256] ![1, 128] inb_S1x2048_S1x128_0_256)) (View.ld x1 (Rect.unit ![0, 256] ![128, 128] inb_S128x2048_S128x128_0_256))⟩,
    ⟨Rect.unit (s := S128x2048) ![0, 128] ![128, 128] inb_S128x2048_S128x128_0_128, tileV 128 128 2 3 slices_S128x128_o0_2_S128x1 slices_S128x128_o2_0_S1x128
      slices_S128x128_o0_3_S128x1 slices_S128x128_o3_0_S1x128 slices_S128x2048_o0_128_S128x128 slices_S128x512_o0_128_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 128] ![1, 128] inb_S1x2048_S1x128_0_128)) (View.ld x1 (Rect.unit ![0, 128] ![128, 128] inb_S128x2048_S128x128_0_128))⟩,
    ⟨Rect.unit (s := S128x2048) ![0, 0] ![128, 128] inb_S128x2048_S128x128_0_0, tileV 0 0 0 1 slices_S128x128_o0_0_S128x1 slices_S128x128_o0_0_S1x128
      slices_S128x128_o0_1_S128x1 slices_S128x128_o1_0_S1x128 slices_S128x2048_o0_0_S128x128 slices_S128x512_o0_0_S128x128 (bXs x0 (ext5 (extOf xs0 x0)) (ext6 (extOf xs0 x0)) (ext7 (extOf xs0 x0)) x3 x4) (bAcs x2 x5 x6 x9) (bAcsT x2 x5 x6 x9) (k0_pay28 (bXs x0 (ext5 (extOf xs0 x0)) (ext6 (extOf xs0 x0)) (ext7 (extOf xs0 x0)) x3 x4) (bDtX x2 x5 x10)) (grpCB 0 slices_S128x512_o0_0_S128x128 (bB x0 (ext5 (extOf xs0 x0)) (ext6 (extOf xs0 x0)) (ext7 (extOf xs0 x0)) x3 x4) (bC x0 (ext5 (extOf xs0 x0)) (ext6 (extOf xs0 x0)) (ext7 (extOf xs0 x0)) x3 x4)) (grpOff 0 0 slices_S128x512_o0_0_S128x128 slices_S128x2048_o0_0_S128x512 (bC x0 (ext5 (extOf xs0 x0)) (ext6 (extOf xs0 x0)) (ext7 (extOf xs0 x0)) x3 x4) (bEx x2 x5 x6 x9 x10) (stCol0 xs1))
      (View.ld x7 (Rect.unit ![0, 0] ![1, 128] inb_S1x2048_S1x128_0_0)) (View.ld x1 (Rect.unit ![0, 0] ![128, 128] inb_S128x2048_S128x128_0_0))⟩]) x8 (ix2 l q) = out E b c l q := by
  refine pay122_at _ _ E b c (fun l q => ?_) H.h8 l q
  exact tiles_at E b c _ _ _ _ _ _ _ _ _ _ _ _ _ _ (xs_at H hh) (acs_at H) (acsT_at H) (pay28_at _ _ E b c (xs_at H hh) (dtX_at H))
    (grpCB_at _ _ E b c 0 (vB_at H hh) (vC_at H hh) 0 rfl _)
    (grpCB_at _ _ E b c 1 (vB_at H hh) (vC_at H hh) 128 rfl _)
    (grpCB_at _ _ E b c 2 (vB_at H hh) (vC_at H hh) 256 rfl _)
    (grpCB_at _ _ E b c 3 (vB_at H hh) (vC_at H hh) 384 rfl _)
    (grpOff_at _ _ E b c 0 (by omega) (vC_at H hh) (ex_at H) 0 0 rfl rfl _ _ _ (col0_at H hh hs))
    (grpOff_at _ _ E b c 1 (by omega) (vC_at H hh) (ex_at H) 128 512 rfl rfl _ _ _ (col512_at H hh hs))
    (grpOff_at _ _ E b c 2 (by omega) (vC_at H hh) (ex_at H) 256 1024 rfl rfl _ _ _ (col1024_at H hh hs))
    (grpOff_at _ _ E b c 3 (by omega) (vC_at H hh) (ex_at H) 384 1536 rfl rfl _ _ _ (col1536_at H hh hs))
    H.h7 H.h1 l q

end Point

end Cert.KernelIdeal.Value
-- ==== Proof.SsdEntry.lean ====
/-
  The scan kernel's arrays at the region's entry, at an index: the arguments' entries.
-/
module

public import proofs.«01_k».proof.Proof.SsdHost
public import proofs.«01_k».proof.Proof.SsdPoint
public import Idealize.ShloMosaic.Lib.WordCmp

@[expose] public section

set_option maxRecDepth 10000

noncomputable section

namespace Cert.KernelIdeal.Value

open Cert.KernelIdeal Cert.KernelIdeal.Gen Cert.Ssd
open Idealize.ShloMosaic Idealize.ShloMosaic.TcCoe Idealize.SL.Sem
open scoped BigOperators

/-- The entries of the nine arguments. -/
def entOf (a0 : Vec Ideal S2x8192x2048 .f32) (a1 : Vec Ideal S2x8192x3072 .f32) (a2 : Vec Ideal S2x8192x32 .f32) (a3 : Vec Ideal S4x1x3072 .f32)
    (a4 : Vec Ideal S3072 .f32) (a5 a6 a7 : Vec Ideal S32 .f32) (a8 : Vec Ideal S2048 .f32) : Ent where
  z := nat3 (a := 2) (b := 8192) (c := 2048) a0
  x := nat3 (a := 2) (b := 8192) (c := 3072) a1
  d := nat3 (a := 2) (b := 8192) (c := 32) a2
  w := fun k q => nat3 (a := 4) (b := 1) (c := 3072) a3 k 0 q
  cb := nat1 (a := 3072) a4
  db := nat1 (a := 32) a5
  al := nat1 (a := 32) a6
  sk := nat1 (a := 32) a7
  ng := nat1 (a := 2048) a8

/-- The padding value is zero. -/
theorem zero_word : (FloatOps.sitofp FTy.f32 0#32 : Ideal .f32) = 0 := by
  show (((0#32 : BitVec 32).toInt : ℝ) : EReal) = 0
  simp

/-- A test's bit as a number. -/
theorem bit_value (p : Prop) [Decidable p] : (FloatOps.uitofp FTy.bf16 (BitVec.ofBool (decide p)) : Ideal .bf16) = if p then 1 else 0 := by
  show (((BitVec.ofBool (decide p)).toNat : ℝ) : EReal) = _
  by_cases h : p <;> simp [h]

/-- The floor of a lane's number over the head's width, as the host computes it. -/
theorem quot_word : ∀ s : Fin 2048, (Scalar.select
          (IntOp.andi
            (IntOp.cmpi CmpIPredicate.ne
              (if BitVec.ofNat 32 s.val = 0 then 0 else if (BitVec.ofNat 32 s.val).msb = true then -1 else (1 : BitVec 32))
              (if 64#32 = 0 then 0 else if (64#32).msb = true then -1 else 1))
            (IntOp.cmpi CmpIPredicate.ne (IntOp.remsi ArithUnit.host (BitVec.ofNat 32 s.val) 64#32) 0#32))
          (IntOp.subi (IntOp.divsi ArithUnit.host (BitVec.ofNat 32 s.val) 64#32) 1#32)
          (IntOp.divsi ArithUnit.host (BitVec.ofNat 32 s.val) 64#32)) = BitVec.ofNat 32 (s.val / 64) := by
  decide +kernel

theorem v3_at (a : Vec Ideal S2x8192x3072 .f32) (r : Fin 16384) (q : Fin 3072) :
    shapeCast S16384x3072 a shapeCasts_S2x8192x3072_S16384x3072 (ix2 r q) = nat3 a (r / 8192) (r % 8192) q := by
  have h := fun a' b' c' => eq_nat3 (a := 2) (b := 8192) (c := 3072) a a' b' c'
  pointwise [h]

theorem v2_at (a : Vec Ideal S2x8192x2048 .f32) (r : Fin 16384) (q : Fin 2048) :
    shapeCast S16384x2048 a shapeCasts_S2x8192x2048_S16384x2048 (ix2 r q) = nat3 a (r / 8192) (r % 8192) q := by
  have h := fun a' b' c' => eq_nat3 (a := 2) (b := 8192) (c := 2048) a a' b' c'
  pointwise [h]

theorem v1_at (a : Vec Ideal S2x8192x32 .f32) (r : Fin 16384) (q : Fin 128) :
    hPadD a (ix2 r q) = nat3 a (r / 8192) (r % 8192) q := by
  have h := fun a' b' c' => eq_nat3 (a := 2) (b := 8192) (c := 32) a a' b' c'
  pointwise [h, hPadD]
  by_cases hq : (q : ℕ) < 32
  · rw [dif_pos hq]
  · rw [dif_neg hq, zero_word, nat3, dif_neg (fun hc => hq hc.2.2)]

theorem pad1_at (a : Vec Ideal S32 .f32) (q : Fin 128) : hPadH a (ix2 0 q) = nat1 a q := by
  have h := fun a' => eq_nat1 (a := 32) a a'
  pointwise [h, hPadH]
  by_cases hq : (q : ℕ) < 32
  · rw [dif_pos hq]
  · rw [dif_neg hq, zero_word, nat1, dif_neg hq]

theorem v21_at (a : Vec Ideal S4x1x3072 .f32) (r : Fin 4) (q : Fin 3072) :
    shapeCast S4x3072 a shapeCasts_S4x1x3072_S4x3072 (ix2 r q) = nat3 a r 0 q := by
  have h := fun a' b' c' => eq_nat3 (a := 4) (b := 1) (c := 3072) a a' b' c'
  pointwise [h]

theorem v22_at (a : Vec Ideal S3072 .f32) (q : Fin 3072) : shapeCast S1x3072 a shapeCasts_S3072_S1x3072 (ix2 0 q) = nat1 a q := by
  have h := fun a' => eq_nat1 (a := 3072) a a'
  pointwise [h]

theorem v30_at (a : Vec Ideal S2048 .f32) (q : Fin 2048) : shapeCast S1x2048 a shapeCasts_S2048_S1x2048 (ix2 0 q) = nat1 a q := by
  have h := fun a' => eq_nat1 (a := 2048) a a'
  pointwise [h]

theorem v29_at (a : Vec Ideal S32 .f32) (q : Fin 2048) : hLanes a (ix2 0 q) = nat1 a (q / 64) := by
  have h := fun a' => eq_nat1 (a := 32) a a'
  pointwise [h, hLanes]

theorem tri_at (l s : Fin 128) : hTri (F := Ideal) (ix2 l s) = if (s : ℕ) ≤ l then 1 else 0 := by
  pointwise [hTri]
  rw [WordCmp.cmpi_sge_ofNat (w := 32) (by omega) (by omega), bit_value]

theorem hot_at (l : Fin 128) (s : Fin 2048) : hHot (F := Ideal) (ix2 l s) = if (l : ℕ) = (s : ℕ) / 64 then 1 else 0 := by
  pointwise [hHot, hDiv]
  refine (congrArg (fun w => (FloatOps.uitofp FTy.bf16 (IntOp.cmpi .eq (BitVec.ofNat 32 l.val) w) : Ideal .bf16)) (quot_word s)).trans ?_
  rw [WordCmp.cmpi_eq_eq, bit_value]
  have hs : (s : ℕ) / 64 < 2 ^ 32 := by omega
  exact if_congr (WordCmp.ofNat_eq_ofNat_iff (by omega) hs) rfl rfl

end Cert.KernelIdeal.Value
-- ==== Proof.SsdProj.lean ====
/-
  The mixer's projections: the three arrays the kernel leaves and the reference's, at an index.
-/
module

public import proofs.«01_k».proof.Proof.LayerSpec
public import proofs.«01_k».proof.Proof.SsdEntry
public import proofs.«01_k».proof.Proof.Gen.Kernel2Ideal.Value
public import proofs.«01_k».proof.Proof.Gen.Reference2Ideal.Run
public import Idealize.ShloMosaic.Lib.Pointwise

@[expose] public section

set_option maxRecDepth 10000

noncomputable section

open Idealize.ShloMosaic Idealize.ShloMosaic.TcCoe Idealize.ShloMosaic.Tactic Idealize.SL.Sem
open Idealize.ShloMosaic.StableHlo
open scoped BigOperators

/-- Row `r` of the hidden states, normed, against column `j` of the input projection's weights. -/
def Cert.Ssd.projAt (a0 : (⟨3, ![2, 8192, 1024]⟩ : Shape).Idx → EReal) (a1 : (⟨1, ![1024]⟩ : Shape).Idx → EReal)
    (a2 : (⟨2, ![1024, 9060]⟩ : Shape).Idx → EReal) (r j : ℕ) : EReal :=
  Cert.Ssd.proj (Cert.Ssd.rowOf a0 r) (Cert.Ssd.nat1 a1) fun k => Cert.Ssd.nat2 a2 k j

/-- The step sizes' projection in 128 lanes: zero past lane 32. -/
def Cert.Ssd.stepAt (a0 : (⟨3, ![2, 8192, 1024]⟩ : Shape).Idx → EReal) (a1 : (⟨1, ![1024]⟩ : Shape).Idx → EReal)
    (a2 : (⟨2, ![1024, 9060]⟩ : Shape).Idx → EReal) (r j : ℕ) : EReal :=
  if j < 32 then Cert.Ssd.projAt a0 a1 a2 r (6980 + j) else 0

namespace Cert.Kernel2Ideal.Value

open Cert.Kernel2Ideal Cert.Kernel2Ideal.Gen Cert.Ssd
open Cert.KernelIdeal.Value (ld2_at hz2 zero_word)

theorem pay2_at (x0 : Vec Ideal S512x1024 .f32) (x1 : Vec Ideal S1x1024 .f32) (x2 : Vec Ideal S1024x2048 .bf16)
    (x g : ℕ → EReal) (w : ℕ → ℕ → EReal) (r : Fin 512) (h0 : ∀ k : Fin 1024, x0 (ix2 r k) = x k) (h1 : ∀ k : Fin 1024, x1 (ix2 0 k) = g k)
    (h2 : ∀ (k : Fin 1024) (q : Fin 2048), x2 (ix2 k q) = w k q) (q : Fin 2048) :
    k0_pay2 x0 x1 x2 (ix2 r q) = proj x g fun k => w k q := by
  pointwise [k0_pay1, k0_pay2, h0, h1, h2, proj, nrm]
theorem pay3_at (x0 : Vec Ideal S512x1024 .f32) (x1 : Vec Ideal S1x1024 .f32) (x2 : Vec Ideal S1024x3072 .bf16)
    (x g : ℕ → EReal) (w : ℕ → ℕ → EReal) (r : Fin 512) (h0 : ∀ k : Fin 1024, x0 (ix2 r k) = x k) (h1 : ∀ k : Fin 1024, x1 (ix2 0 k) = g k)
    (h2 : ∀ (k : Fin 1024) (q : Fin 3072), x2 (ix2 k q) = w k q) (q : Fin 3072) :
    k0_pay3 x0 x1 x2 (ix2 r q) = proj x g fun k => w k q := by
  pointwise [k0_pay1, k0_pay3, h0, h1, h2, proj, nrm]
theorem pay4_at (x0 : Vec Ideal S512x1024 .f32) (x1 : Vec Ideal S1x1024 .f32) (x2 : Vec Ideal S1024x128 .bf16)
    (x g : ℕ → EReal) (w : ℕ → ℕ → EReal) (r : Fin 512) (h0 : ∀ k : Fin 1024, x0 (ix2 r k) = x k) (h1 : ∀ k : Fin 1024, x1 (ix2 0 k) = g k)
    (h2 : ∀ (k : Fin 1024) (q : Fin 128), x2 (ix2 k q) = w k q) (q : Fin 128) :
    k0_pay4 x0 x1 x2 (ix2 r q) = proj x g fun k => w k q := by
  pointwise [k0_pay1, k0_pay4, h0, h1, h2, proj, nrm]

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 512) (q : Fin 1024) (r' : Fin 16384) (hr : (r' : ℕ) = 512 * t + r) :
    (iblk m c 0 t : Vec F S512x1024 .f32) (ix2 r q) = (V m c main_v5 : Vec F S16384x1024 .f32) (ix2 r' q) := by
  obtain ⟨e0, e1⟩ := index0 t
  refine congrArg (V m c main_v5 : Vec F S16384x1024 .f32) (funext (Fin.forall_fin_two.mpr ⟨Fin.ext ?_, Fin.ext ?_⟩))
  · show win0_0.index t (0 : Fin 2) * 512 + 1 * (r : ℕ) = r'
    omega
  · show win0_0.index t (1 : Fin 2) * 1024 + 1 * (q : ℕ) = q
    omega
theorem index1 : ∀ t : Fin cfg0.N, win0_1.index t (0 : Fin 2) = 0 ∧ win0_1.index t (1 : Fin 2) = 0 :=
  (by decide +kernel : ∀ t : Fin grid0.N, _)
theorem iblk1_at (c : Dev nD) (t : Fin cfg0.N) (r : Fin 1) (q : Fin 1024) :
    (iblk m c 1 t : Vec F S1x1024 .f32) (ix2 r q) = (V m c main_v6 : Vec F S1x1024 .f32) (ix2 r q) := by
  obtain ⟨e0, e1⟩ := index1 t
  refine congrArg (V m c main_v6 : Vec F S1x1024 .f32) (funext (Fin.forall_fin_two.mpr ⟨Fin.ext ?_, Fin.ext ?_⟩))
  · show win0_1.index t (0 : Fin 2) * 1 + 1 * (r : ℕ) = r
    omega
  · show win0_1.index t (1 : Fin 2) * 1024 + 1 * (q : ℕ) = q
    omega
theorem index2 : ∀ t : Fin cfg0.N, win0_2.index t (0 : Fin 2) = 0 ∧ win0_2.index t (1 : Fin 2) = 0 :=
  (by decide +kernel : ∀ t : Fin grid0.N, _)
theorem iblk2_at (c : Dev nD) (t : Fin cfg0.N) (r : Fin 1024) (q : Fin 5248) :
    (iblk m c 2 t : Vec F S1024x5248 .bf16) (ix2 r q) = (V m c main_v9 : Vec F S1024x5248 .bf16) (ix2 r q) := by
  obtain ⟨e0, e1⟩ := index2 t
  refine congrArg (V m c main_v9 : Vec F S1024x5248 .bf16) (funext (Fin.forall_fin_two.mpr ⟨Fin.ext ?_, Fin.ext ?_⟩))
  · show win0_2.index t (0 : Fin 2) * 1024 + 1 * (r : ℕ) = r
    omega
  · show win0_2.index t (1 : Fin 2) * 5248 + 1 * (q : ℕ) = q
    omega
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The weights of the three projections side by side, the step sizes' padded to 128 columns. -/
def wCat (a : FVec F S1024x9060 .f32) : FVec F S1024x5248 .bf16 :=
  truncf .bf16 (concatenate S1024x5248 1 [⟨S1024x2048, extractStridedSlice S1024x2048 ![0, 1860] a slices_S1024x9060_S1024x2048_0_1860⟩,
    ⟨S1024x3072, extractStridedSlice S1024x3072 ![0, 3908] a slices_S1024x9060_S1024x3072_0_3908⟩,
    ⟨S1024x128, pad S1024x128 ![0, 0] ![0, 96] ![0, 0] (extractStridedSlice S1024x32 ![0, 6980] a slices_S1024x9060_S1024x32_0_6980)
      (sitofp .f32 (constantI S_ 32 0#32) : FVec F S_ .f32) pads_S1024x32_S1024x128_000_0960 h_S_⟩]
    concatenates_S1024x2048_S1024x3072_S1024x128_S1024x5248_d1) bitsLt_bf16_f32

theorem V_v5 (c : Dev nD) : (V m c main_v5 : Vec F S16384x1024 .f32) =
    shapeCast S16384x1024 (m (c, Proc.devRef .tc main_arg0) : Vec F S2x8192x1024 .f32) shapeCasts_S2x8192x1024_S16384x1024 := by
  unfold V
  simp only [List.flatten_cons, List.flatten_nil, List.cons_append, List.nil_append]
  after_results
  rfl
theorem V_v6 (c : Dev nD) : (V m c main_v6 : Vec F S1x1024 .f32) =
    shapeCast S1x1024 (m (c, Proc.devRef .tc main_arg1) : Vec F S1024 .f32) shapeCasts_S1024_S1x1024 := by
  unfold V
  simp only [List.flatten_cons, List.flatten_nil, List.cons_append, List.nil_append]
  after_results
  rfl
theorem V_v9 (c : Dev nD) : (V m c main_v9 : Vec F S1024x5248 .bf16) = wCat (m (c, Proc.devRef .tc main_arg2) : Vec F S1024x9060 .f32) := by
  unfold V
  simp only [List.flatten_cons, List.flatten_nil, List.cons_append, List.nil_append]
  after_results
  rfl
end Blocks

theorem v5_at (a : Vec Ideal S2x8192x1024 .f32) (r : Fin 16384) (q : Fin 1024) :
    shapeCast S16384x1024 a shapeCasts_S2x8192x1024_S16384x1024 (ix2 r q) = rowOf a r q := by
  have h := fun a' b' c' => eq_nat3 (a := 2) (b := 8192) (c := 1024) a a' b' c'
  pointwise [h, rowOf]
theorem v6_at (a : Vec Ideal S1024 .f32) (q : Fin 1024) : shapeCast S1x1024 a shapeCasts_S1024_S1x1024 (ix2 0 q) = nat1 a q := by
  have h := fun a' => eq_nat1 (a := 1024) a a'
  pointwise [h]

theorem wz_at (a : FVec Ideal S1024x9060 .f32) (k : Fin 1024) (q : Fin 2048) : wCat a (ix2 k ⟨0 + q, by omega⟩) = nat2 a k (1860 + q) := by
  have h := fun a' b' => eq_nat2 (a := 1024) (b := 9060) a a' b'
  pointwise [wCat, h]
theorem wx_at (a : FVec Ideal S1024x9060 .f32) (k : Fin 1024) (q : Fin 3072) : wCat a (ix2 k ⟨2048 + q, by omega⟩) = nat2 a k (3908 + q) := by
  have h := fun a' b' => eq_nat2 (a := 1024) (b := 9060) a a' b'
  pointwise [wCat, h]
theorem wd_at (a : FVec Ideal S1024x9060 .f32) (k : Fin 1024) (q : Fin 128) :
    wCat a (ix2 k ⟨5120 + q, by omega⟩) = if (q : ℕ) < 32 then nat2 a k (6980 + q) else 0 := by
  have h := fun a' b' => eq_nat2 (a := 1024) (b := 9060) a a' b'
  pointwise [wCat, h]
  rw [dif_neg (by omega), dif_neg (by omega), show 5120 + (q : ℕ) - 2048 - 3072 = q by omega, zero_word]
  exact dite_eq_ite

variable (m : (ℓ : Loc nD τ sig) → Buf (Elt Ideal) ℓ) (c : Dev nD)

theorem out3_at (r : Fin 16384) (q : Fin 2048) :
    ((dats m 0 c).arrAt 3 cfg0.N : Vec Ideal S16384x2048 .f32) (ix2 r q) = projAt (m (c, Proc.devRef .tc main_arg0)) (m (c, Proc.devRef .tc main_arg1)) (m (c, Proc.devRef .tc main_arg2)) r (1860 + q) := by
  have hr : (r : ℕ) / 512 < cfg0.N := lt_of_lt_of_eq (by omega) (show 32 = cfg0.N from N_0.symm)
  obtain ⟨e0, e1⟩ := index3 ⟨(r : ℕ) / 512, hr⟩
  have h := congrFun ((blocks3 m c ⟨(r : ℕ) / 512, hr⟩ (flush0_3 _)).trans (flushed3 m c _)) (ix2 (⟨(r : ℕ) % 512, by omega⟩ : Fin 512) q)
  refine (congrArg ((dats m 0 c).arrAt 3 cfg0.N : Vec Ideal S16384x2048 .f32) (funext (Fin.forall_fin_two.mpr ⟨Fin.ext ?_, Fin.ext ?_⟩))).trans (h.trans ?_)
  · show (r : ℕ) = win0_3.index ⟨(r : ℕ) / 512, hr⟩ (0 : Fin 2) * 512 + 1 * ((r : ℕ) % 512)
    dsimp only at e0
    omega
  · show (q : ℕ) = win0_3.index ⟨(r : ℕ) / 512, hr⟩ (1 : Fin 2) * 2048 + 1 * (q : ℕ)
    omega
  show out0_3 _ _ _ (ix2 (⟨(r : ℕ) % 512, by omega⟩ : Fin 512) q) = _
  unfold out0_3
  rw [View.canon_unit_zero hz2, View.ld_unit_zero hz2, View.ld_unit_zero hz2]
  refine (pay2_at _ _ _ (rowOf (m (c, Proc.devRef .tc main_arg0)) r) (nat1 (m (c, Proc.devRef .tc main_arg1)))
    (fun k q => nat2 (m (c, Proc.devRef .tc main_arg2)) k (1860 + q)) _ (fun k => ?_) (fun k => ?_) (fun k q => ?_) q).trans ?_
  · exact (iblk0_at m c _ _ k r (by show (r : ℕ) = 512 * ((r : ℕ) / 512) + (r : ℕ) % 512; omega)).trans ((congrFun (V_v5 m c) _).trans (v5_at _ r k))
  · exact (iblk1_at m c _ 0 k).trans ((congrFun (V_v6 m c) _).trans (v6_at _ k))
  · refine (ld2_at _ 0 0 _ k q (by omega) (by omega)).trans ((iblk2_at m c _ _ _).trans ((congrFun (V_v9 m c) _).trans ?_))
    refine Eq.trans ?_ (wz_at _ k q)
    congr 2
    exact Fin.ext (Nat.zero_add _)
  · rfl

theorem out4_at (r : Fin 16384) (q : Fin 3072) :
    ((dats m 0 c).arrAt 4 cfg0.N : Vec Ideal S16384x3072 .f32) (ix2 r q) = projAt (m (c, Proc.devRef .tc main_arg0)) (m (c, Proc.devRef .tc main_arg1)) (m (c, Proc.devRef .tc main_arg2)) r (3908 + q) := by
  have hr : (r : ℕ) / 512 < cfg0.N := lt_of_lt_of_eq (by omega) (show 32 = cfg0.N from N_0.symm)
  obtain ⟨e0, e1⟩ := index4 ⟨(r : ℕ) / 512, hr⟩
  have h := congrFun ((blocks4 m c ⟨(r : ℕ) / 512, hr⟩ (flush0_4 _)).trans (flushed4 m c _)) (ix2 (⟨(r : ℕ) % 512, by omega⟩ : Fin 512) q)
  refine (congrArg ((dats m 0 c).arrAt 4 cfg0.N : Vec Ideal S16384x3072 .f32) (funext (Fin.forall_fin_two.mpr ⟨Fin.ext ?_, Fin.ext ?_⟩))).trans (h.trans ?_)
  · show (r : ℕ) = win0_4.index ⟨(r : ℕ) / 512, hr⟩ (0 : Fin 2) * 512 + 1 * ((r : ℕ) % 512)
    dsimp only at e0
    omega
  · show (q : ℕ) = win0_4.index ⟨(r : ℕ) / 512, hr⟩ (1 : Fin 2) * 3072 + 1 * (q : ℕ)
    omega
  show out0_4 _ _ _ (ix2 (⟨(r : ℕ) % 512, by omega⟩ : Fin 512) q) = _
  unfold out0_4
  rw [View.canon_unit_zero hz2, View.ld_unit_zero hz2, View.ld_unit_zero hz2]
  refine (pay3_at _ _ _ (rowOf (m (c, Proc.devRef .tc main_arg0)) r) (nat1 (m (c, Proc.devRef .tc main_arg1)))
    (fun k q => nat2 (m (c, Proc.devRef .tc main_arg2)) k (3908 + q)) _ (fun k => ?_) (fun k => ?_) (fun k q => ?_) q).trans ?_
  · exact (iblk0_at m c _ _ k r (by show (r : ℕ) = 512 * ((r : ℕ) / 512) + (r : ℕ) % 512; omega)).trans ((congrFun (V_v5 m c) _).trans (v5_at _ r k))
  · exact (iblk1_at m c _ 0 k).trans ((congrFun (V_v6 m c) _).trans (v6_at _ k))
  · refine (ld2_at _ 0 2048 _ k q (by omega) (by omega)).trans ((iblk2_at m c _ _ _).trans ((congrFun (V_v9 m c) _).trans ?_))
    refine Eq.trans ?_ (wx_at _ k q)
    congr 2
    exact Fin.ext (Nat.zero_add _)
  · rfl

theorem out5_at (r : Fin 16384) (q : Fin 128) :
    ((dats m 0 c).arrAt 5 cfg0.N : Vec Ideal S16384x128 .f32) (ix2 r q) = stepAt (m (c, Proc.devRef .tc main_arg0)) (m (c, Proc.devRef .tc main_arg1)) (m (c, Proc.devRef .tc main_arg2)) r q := by
  have hr : (r : ℕ) / 512 < cfg0.N := lt_of_lt_of_eq (by omega) (show 32 = cfg0.N from N_0.symm)
  obtain ⟨e0, e1⟩ := index5 ⟨(r : ℕ) / 512, hr⟩
  have h := congrFun ((blocks5 m c ⟨(r : ℕ) / 512, hr⟩ (flush0_5 _)).trans (flushed5 m c _)) (ix2 (⟨(r : ℕ) % 512, by omega⟩ : Fin 512) q)
  refine (congrArg ((dats m 0 c).arrAt 5 cfg0.N : Vec Ideal S16384x128 .f32) (funext (Fin.forall_fin_two.mpr ⟨Fin.ext ?_, Fin.ext ?_⟩))).trans (h.trans ?_)
  · show (r : ℕ) = win0_5.index ⟨(r : ℕ) / 512, hr⟩ (0 : Fin 2) * 512 + 1 * ((r : ℕ) % 512)
    dsimp only at e0
    omega
  · show (q : ℕ) = win0_5.index ⟨(r : ℕ) / 512, hr⟩ (1 : Fin 2) * 128 + 1 * (q : ℕ)
    omega
  show out0_5 _ _ _ (ix2 (⟨(r : ℕ) % 512, by omega⟩ : Fin 512) q) = _
  unfold out0_5
  rw [View.canon_unit_zero hz2, View.ld_unit_zero hz2, View.ld_unit_zero hz2]
  refine (pay4_at _ _ _ (rowOf (m (c, Proc.devRef .tc main_arg0)) r) (nat1 (m (c, Proc.devRef .tc main_arg1)))
    (fun k q => if q < 32 then nat2 (m (c, Proc.devRef .tc main_arg2)) k (6980 + q) else 0) _ (fun k => ?_) (fun k => ?_) (fun k q => ?_) q).trans ?_
  · exact (iblk0_at m c _ _ k r (by show (r : ℕ) = 512 * ((r : ℕ) / 512) + (r : ℕ) % 512; omega)).trans ((congrFun (V_v5 m c) _).trans (v5_at _ r k))
  · exact (iblk1_at m c _ 0 k).trans ((congrFun (V_v6 m c) _).trans (v6_at _ k))
  · refine (ld2_at _ 0 5120 _ k q (by omega) (by omega)).trans ((iblk2_at m c _ _ _).trans ((congrFun (V_v9 m c) _).trans ?_))
    refine Eq.trans ?_ (wd_at _ k q)
    congr 2
    exact Fin.ext (Nat.zero_add _)
  · unfold stepAt projAt proj
    by_cases hq : (q : ℕ) < 32
    · simp only [if_pos hq]
    · simp only [if_neg hq, mul_zero, Finset.sum_const_zero]

end Cert.Kernel2Ideal.Value

namespace Cert.Reference2Ideal.Value

open Cert.Reference2Ideal Cert.Reference2Ideal.Gen Cert.Ssd
open Cert.KernelIdeal.Value (zero_word)

theorem main_v20_at (a0 : FVec Ideal S2x8192x1024 .f32) (a1 : FVec Ideal S1024 .f32) (a2 : FVec Ideal S1024x9060 .f32) (r : Fin 16384) (q : Fin 2048) :
    shapeCast S16384x2048 (extractStridedSlice S2x8192x2048 ![0, 0, 1860] (Host.dotGeneral dot_S2x8192x1024_S1024x9060_S2x8192x9060_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2) slices_S2x8192x9060_S2x8192x2048_0_0_1860) shapeCasts_S2x8192x2048_S16384x2048 (ix2 r q)
      = projAt a0 a1 a2 r (1860 + q) := by
  have h0 := fun a' b' c' => eq_nat3 (a := 2) (b := 8192) (c := 1024) a0 a' b' c'
  have h1 := fun a' => eq_nat1 (a := 1024) a1 a'
  have h2 := fun a' b' => eq_nat2 (a := 1024) (b := 9060) a2 a' b'
  pointwise [h0, h1, h2, stepAt, projAt, proj, nrm, rowOf]
theorem main_v21_at (a0 : FVec Ideal S2x8192x1024 .f32) (a1 : FVec Ideal S1024 .f32) (a2 : FVec Ideal S1024x9060 .f32) (r : Fin 16384) (q : Fin 3072) :
    shapeCast S16384x3072 (extractStridedSlice S2x8192x3072 ![0, 0, 3908] (Host.dotGeneral dot_S2x8192x1024_S1024x9060_S2x8192x9060_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2) slices_S2x8192x9060_S2x8192x3072_0_0_3908) shapeCasts_S2x8192x3072_S16384x3072 (ix2 r q)
      = projAt a0 a1 a2 r (3908 + q) := by
  have h0 := fun a' b' c' => eq_nat3 (a := 2) (b := 8192) (c := 1024) a0 a' b' c'
  have h1 := fun a' => eq_nat1 (a := 1024) a1 a'
  have h2 := fun a' b' => eq_nat2 (a := 1024) (b := 9060) a2 a' b'
  pointwise [h0, h1, h2, stepAt, projAt, proj, nrm, rowOf]
theorem main_v22_at (a0 : FVec Ideal S2x8192x1024 .f32) (a1 : FVec Ideal S1024 .f32) (a2 : FVec Ideal S1024x9060 .f32) (r : Fin 16384) (q : Fin 128) :
    shapeCast S16384x128 (pad S2x8192x128 ![0, 0, 0] ![0, 0, 96] ![0, 0, 0] (extractStridedSlice S2x8192x32 ![0, 0, 6980] (Host.dotGeneral dot_S2x8192x1024_S1024x9060_S2x8192x9060_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2) slices_S2x8192x9060_S2x8192x32_0_0_6980) (sitofp .f32 (constantI S_ 32 0#32)) pads_S2x8192x32_S2x8192x128_000_000_0960 h_S_) shapeCasts_S2x8192x128_S16384x128 (ix2 r q)
      = stepAt a0 a1 a2 r q := by
  have h0 := fun a' b' c' => eq_nat3 (a := 2) (b := 8192) (c := 1024) a0 a' b' c'
  have h1 := fun a' => eq_nat1 (a := 1024) a1 a'
  have h2 := fun a' b' => eq_nat2 (a := 1024) (b := 9060) a2 a' b'
  pointwise [h0, h1, h2, stepAt, projAt, proj, nrm, rowOf]
  by_cases hq : (q : ℕ) < 32
  · rw [dif_pos ⟨by omega, by omega, hq⟩, if_pos hq]
  · rw [dif_neg (fun hc => hq hc.2.2), if_neg hq, zero_word]

end Cert.Reference2Ideal.Value
-- ==== Proof.GateProj.lean ====
/-
  The gates' projection: the array the kernel leaves and the reference's, both at an index.
-/
module

public import proofs.«01_k».proof.Proof.LayerSpec
public import proofs.«01_k».proof.Proof.Gen.Kernel3Ideal.Value
public import proofs.«01_k».proof.Proof.Gen.Reference3Ideal.Run
public import Idealize.ShloMosaic.Lib.Pointwise

@[expose] public section

set_option maxRecDepth 10000

noncomputable section

open Idealize.ShloMosaic Idealize.ShloMosaic.TcCoe Idealize.ShloMosaic.Tactic Idealize.SL.Sem
open Idealize.ShloMosaic.StableHlo
open scoped BigOperators

/-- Row `r`, lane `q` of the gates: the sigmoid of the projection. -/
def Cert.Ssd.gateAt (a0 : (⟨3, ![2, 8192, 1024]⟩ : Shape).Idx → EReal) (a1 : (⟨1, ![1024]⟩ : Shape).Idx → EReal)
    (a2 : (⟨2, ![1024, 9060]⟩ : Shape).Idx → EReal) (r q : ℕ) : EReal :=
  Ideal.logistic (Cert.Ssd.proj (Cert.Ssd.rowOf a0 r) (Cert.Ssd.nat1 a1) fun k => Cert.Ssd.nat2 a2 k (7012 + q))

namespace Cert.Kernel3Ideal.Value

open Cert.Kernel3Ideal Cert.Kernel3Ideal.Gen Cert.Ssd

theorem pay_at (x0 : Vec Ideal S512x1024 .f32) (x1 : Vec Ideal S1x1024 .f32) (x2 : Vec Ideal S1024x2048 .bf16)
    (x g : ℕ → EReal) (w : ℕ → ℕ → EReal) (r : Fin 512) (h0 : ∀ k : Fin 1024, x0 (ix2 r k) = x k) (h1 : ∀ k : Fin 1024, x1 (ix2 0 k) = g k)
    (h2 : ∀ (k : Fin 1024) (q : Fin 2048), x2 (ix2 k q) = w k q) (q : Fin 2048) :
    k0_pay1 x0 x1 x2 (ix2 r q) = Ideal.logistic (proj x g fun k => w k q) := by
  pointwise [k0_pay1, h0, h1, h2, proj, nrm]

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 512) (q : Fin 1024) (r' : Fin 16384) (hr : (r' : ℕ) = 512 * t + r) :
    (iblk m c 0 t : Vec F S512x1024 .f32) (ix2 r q) = (V m c main_v5 : Vec F S16384x1024 .f32) (ix2 r' q) := by
  obtain ⟨e0, e1⟩ := index0 t
  refine congrArg (V m c main_v5 : Vec F S16384x1024 .f32) (funext (Fin.forall_fin_two.mpr ⟨Fin.ext ?_, Fin.ext ?_⟩))
  · show win0_0.index t (0 : Fin 2) * 512 + 1 * (r : ℕ) = r'
    omega
  · show win0_0.index t (1 : Fin 2) * 1024 + 1 * (q : ℕ) = q
    omega
theorem index1 : ∀ t : Fin cfg0.N, win0_1.index t (0 : Fin 2) = 0 ∧ win0_1.index t (1 : Fin 2) = 0 :=
  (by decide +kernel : ∀ t : Fin grid0.N, _)
theorem iblk1_at (c : Dev nD) (t : Fin cfg0.N) (q : Fin 1024) :
    (iblk m c 1 t : Vec F S1x1024 .f32) (ix2 0 q) = (V m c main_v6 : Vec F S1x1024 .f32) (ix2 0 q) := by
  obtain ⟨e0, e1⟩ := index1 t
  refine congrArg (V m c main_v6 : Vec F S1x1024 .f32) (funext (Fin.forall_fin_two.mpr ⟨Fin.ext ?_, Fin.ext ?_⟩))
  · show win0_1.index t (0 : Fin 2) * 1 + 1 * 0 = 0
    omega
  · show win0_1.index t (1 : Fin 2) * 1024 + 1 * (q : ℕ) = q
    omega
theorem index2 : ∀ t : Fin cfg0.N, win0_2.index t (0 : Fin 2) = 0 ∧ win0_2.index t (1 : Fin 2) = 0 :=
  (by decide +kernel : ∀ t : Fin grid0.N, _)
theorem iblk2_at (c : Dev nD) (t : Fin cfg0.N) (r : Fin 1024) (q : Fin 2048) :
    (iblk m c 2 t : Vec F S1024x2048 .bf16) (ix2 r q) = (V m c main_v7 : Vec F S1024x2048 .bf16) (ix2 r q) := by
  obtain ⟨e0, e1⟩ := index2 t
  refine congrArg (V m c main_v7 : Vec F S1024x2048 .bf16) (funext (Fin.forall_fin_two.mpr ⟨Fin.ext ?_, Fin.ext ?_⟩))
  · show win0_2.index t (0 : Fin 2) * 1024 + 1 * (r : ℕ) = r
    omega
  · show win0_2.index t (1 : Fin 2) * 2048 + 1 * (q : ℕ) = q
    omega
theorem index3 : ∀ t : Fin cfg0.N, win0_3.index t (0 : Fin 2) = t.val ∧ win0_3.index t (1 : Fin 2) = 0 :=
  (by decide +kernel : ∀ t : Fin grid0.N, _)

theorem V_v5 (c : Dev nD) : (V m c main_v5 : Vec F S16384x1024 .f32) =
    shapeCast S16384x1024 (m (c, Proc.devRef .tc main_arg0) : Vec F S2x8192x1024 .f32) shapeCasts_S2x8192x1024_S16384x1024 := by
  unfold V
  after_results
  rfl
theorem V_v6 (c : Dev nD) : (V m c main_v6 : Vec F S1x1024 .f32) =
    shapeCast S1x1024 (m (c, Proc.devRef .tc main_arg1) : Vec F S1024 .f32) shapeCasts_S1024_S1x1024 := by
  unfold V
  after_results
  rfl
theorem V_v7 (c : Dev nD) : (V m c main_v7 : Vec F S1024x2048 .bf16) =
    truncf .bf16 (extractStridedSlice S1024x2048 ![0, 7012] (m (c, Proc.devRef .tc main_arg2) : Vec F S1024x9060 .f32) slices_S1024x9060_S1024x2048_0_7012) bitsLt_bf16_f32 := by
  unfold V
  after_results
end Blocks

theorem v5_at (a : Vec Ideal S2x8192x1024 .f32) (r : Fin 16384) (q : Fin 1024) :
    shapeCast S16384x1024 a shapeCasts_S2x8192x1024_S16384x1024 (ix2 r q) = rowOf a r q := by
  have h := fun a' b' c' => eq_nat3 (a := 2) (b := 8192) (c := 1024) a a' b' c'
  pointwise [h, rowOf]
theorem v6_at (a : Vec Ideal S1024 .f32) (q : Fin 1024) : shapeCast S1x1024 a shapeCasts_S1024_S1x1024 (ix2 0 q) = nat1 a q := by
  have h := fun a' => eq_nat1 (a := 1024) a a'
  pointwise [h]
theorem v7_at (a : Vec Ideal S1024x9060 .f32) (r : Fin 1024) (q : Fin 2048) :
    truncf (F := Ideal) .bf16 (extractStridedSlice S1024x2048 ![0, 7012] (a : FVec Ideal S1024x9060 .f32) slices_S1024x9060_S1024x2048_0_7012) bitsLt_bf16_f32 (ix2 r q) = nat2 a r (7012 + q) := by
  have h := fun a' b' => eq_nat2 (a := 1024) (b := 9060) a a' b'
  pointwise [h]

variable (m : (ℓ : Loc nD τ sig) → Buf (Elt Ideal) ℓ) (c : Dev nD)

theorem hz2 : (![0, 0] : Fin 2 → Nat) = fun _ => 0 := funext fun a => by fin_cases a <;> rfl

/-- The array after the run, at a row and a lane. -/
theorem out_at (r : Fin 16384) (q : Fin 2048) :
    ((dats m 0 c).arrAt 3 cfg0.N : Vec Ideal S16384x2048 .f32) (ix2 r q) =
      gateAt (m (c, Proc.devRef .tc main_arg0)) (m (c, Proc.devRef .tc main_arg1)) (m (c, Proc.devRef .tc main_arg2)) r q := by
  have hr : (r : ℕ) / 512 < cfg0.N := lt_of_lt_of_eq (by omega) (show 32 = cfg0.N from N_0.symm)
  obtain ⟨e0, e1⟩ := index3 ⟨(r : ℕ) / 512, hr⟩
  have h := congrFun ((blocks3 m c ⟨(r : ℕ) / 512, hr⟩ (flush0_3 _)).trans (flushed3 m c _)) (ix2 (⟨(r : ℕ) % 512, by omega⟩ : Fin 512) q)
  refine (congrArg ((dats m 0 c).arrAt 3 cfg0.N : Vec Ideal S16384x2048 .f32) (funext (Fin.forall_fin_two.mpr ⟨Fin.ext ?_, Fin.ext ?_⟩))).trans (h.trans ?_)
  · show (r : ℕ) = win0_3.index ⟨(r : ℕ) / 512, hr⟩ (0 : Fin 2) * 512 + 1 * ((r : ℕ) % 512)
    dsimp only at e0
    omega
  · show (q : ℕ) = win0_3.index ⟨(r : ℕ) / 512, hr⟩ (1 : Fin 2) * 2048 + 1 * (q : ℕ)
    omega
  show out0_3 _ _ _ (ix2 (⟨(r : ℕ) % 512, by omega⟩ : Fin 512) q) = _
  unfold out0_3
  rw [View.canon_unit_zero hz2, View.ld_unit_zero hz2, View.ld_unit_zero hz2, View.ld_unit_zero hz2]
  refine pay_at _ _ _ _ _ (fun k q => nat2 (m (c, Proc.devRef .tc main_arg2)) k (7012 + q)) _ (fun k => ?_) (fun k => ?_) (fun k q => ?_) q
  · exact (iblk0_at m c _ _ k r (by show (r : ℕ) = 512 * ((r : ℕ) / 512) + (r : ℕ) % 512; omega)).trans ((congrFun (V_v5 m c) _).trans (v5_at _ r k))
  · exact (iblk1_at m c _ k).trans ((congrFun (V_v6 m c) _).trans (v6_at _ k))
  · exact (iblk2_at m c _ k q).trans ((congrFun (V_v7 m c) _).trans (v7_at _ k q))

end Cert.Kernel3Ideal.Value

namespace Cert.Reference3Ideal.Value

open Cert.Reference3Ideal Cert.Reference3Ideal.Gen Cert.Ssd

theorem ref_at (a0 : FVec Ideal S2x8192x1024 .f32) (a1 : FVec Ideal S1024 .f32) (a2 : FVec Ideal S1024x9060 .f32) (r : Fin 16384) (q : Fin 2048) :
    shapeCast S16384x2048 (Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (extractStridedSlice S2x8192x2048 ![0, 0, 7012] (Host.dotGeneral dot_S2x8192x1024_S1024x9060_S2x8192x9060_2_0_01_1_n_n none (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a1))) a2) slices_S2x8192x9060_S2x8192x2048_0_0_7012))))) shapeCasts_S2x8192x2048_S16384x2048 (ix2 r q)
      = gateAt a0 a1 a2 r q := by
  have h0 := fun a' b' c' => eq_nat3 (a := 2) (b := 8192) (c := 1024) a0 a' b' c'
  have h1 := fun a' => eq_nat1 (a := 1024) a1 a'
  have h2 := fun a' b' => eq_nat2 (a := 1024) (b := 9060) a2 a' b'
  pointwise [h0, h1, h2, gateAt, proj, nrm, rowOf, Ideal.logistic]

end Cert.Reference3Ideal.Value
-- ==== Proof.MergeSpec.lean ====
/-
  The merge of the two branches and the attention to the memory, as functions of the entries.
-/
module

public import proofs.«01_k».proof.Proof.LayerSpec

@[expose] public section

noncomputable section

namespace Cert.Ssd

open Idealize.ShloMosaic
open scoped BigOperators

/-- The merge's arrays by row and column: the hidden rows, the two branches, their gates, the memory's keys and values
    by batch row, the weights and the two norms' weights. -/
structure Mrg where
  x : ℕ → ℕ → EReal
  at' : ℕ → ℕ → EReal
  sd : ℕ → ℕ → EReal
  ga : ℕ → ℕ → EReal
  gb : ℕ → ℕ → EReal
  kv : ℕ → ℕ → ℕ → EReal
  wab : ℕ → ℕ → EReal
  wsb : ℕ → ℕ → EReal
  wout : ℕ → ℕ → EReal
  gc : ℕ → EReal
  wq : ℕ → ℕ → EReal
  wo : ℕ → ℕ → EReal
  gf : ℕ → EReal

/-- An array of four axes read at numbers, zero outside. -/
def nat4 {a b c d : ℕ} (f : (⟨4, ![a, b, c, d]⟩ : Shape).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

theorem eq_nat4 {a b c d : ℕ} (f : (⟨4, ![a, b, c, d]⟩ : Shape).Idx → EReal) (i : Fin a) (j : Fin b) (k : Fin c) (l : Fin d) :
    f (ix4 i j k l) = nat4 f i j k l := by
  rw [nat4, dif_pos ⟨i.isLt, j.isLt, k.isLt, l.isLt⟩]

/-- The merge's arrays, from the arguments both programs take. -/
def mrgOf (a0 a1 : (⟨3, ![2, 8192, 1024]⟩ : Shape).Idx → EReal) (a2 : (⟨3, ![2, 8192, 2048]⟩ : Shape).Idx → EReal)
    (a3 : (⟨4, ![2, 8192, 2, 1024]⟩ : Shape).Idx → EReal) (a4 : (⟨3, ![2, 256, 2048]⟩ : Shape).Idx → EReal)
    (a5 : (⟨2, ![1024, 1024]⟩ : Shape).Idx → EReal) (a6 : (⟨2, ![2048, 1024]⟩ : Shape).Idx → EReal)
    (a7 : (⟨2, ![1024, 1024]⟩ : Shape).Idx → EReal) (a8 : (⟨1, ![1024]⟩ : Shape).Idx → EReal)
    (a9 a10 : (⟨2, ![1024, 1024]⟩ : Shape).Idx → EReal) (a11 : (⟨1, ![1024]⟩ : Shape).Idx → EReal) : Mrg where
  x := rowOf a0
  at' := rowOf a1
  sd r k := nat3 a2 (r / 8192) (r % 8192) k
  ga r k := nat4 a3 (r / 8192) (r % 8192) 0 k
  gb r k := nat4 a3 (r / 8192) (r % 8192) 1 k
  kv := nat3 a4
  wab := nat2 a5
  wsb := nat2 a6
  wout := nat2 a7
  gc := nat1 a8
  wq := nat2 a9
  wo := nat2 a10
  gf := nat1 a11

/-- The gated branches of a row, summed. -/
def gatedAt (E : Mrg) (r k : ℕ) : EReal :=
  E.ga r k * (∑ j : Fin 1024, E.at' r j * E.wab j k) + E.gb r k * (∑ j : Fin 2048, E.sd r j * E.wsb j k)

/-- The hidden row after the branches. -/
def mid (E : Mrg) (r q : ℕ) : EReal := E.x r q + ∑ k : Fin 1024, gatedAt E r k * E.wout k q

/-- The row's query to the memory. -/
def qry (E : Mrg) (r j : ℕ) : EReal := proj (mid E r) E.gc fun k => E.wq k j

/-- The logit of memory token `s` in head `h`. -/
def lgt (E : Mrg) (r h s : ℕ) : EReal :=
  (∑ d : Fin 256, qry E r (256 * h + d) * E.kv (r / 8192) s (256 * h + d)) * Ideal.ofBits FTy.f32 1031798784#32

/-- The largest logit of a head. -/
def top (E : Mrg) (r h : ℕ) : EReal :=
  (Finset.univ : Finset (Fin 256)).fold max (Ideal.ofBits FTy.f32 4286578688#32) fun s : Fin 256 => lgt E r h s

/-- The unnormalised weight of a memory token. -/
def wgt (E : Mrg) (r h s : ℕ) : EReal := Ideal.exp (lgt E r h s - top E r h)

/-- Lane `d` of head `h`: the values weighed. -/
def headAt (E : Mrg) (r h d : ℕ) : EReal :=
  ∑ s : Fin 256, Ideal.div (wgt E r h s) (∑ s : Fin 256, wgt E r h s) * E.kv (r / 8192) s (1024 + 256 * h + d)

/-- The hidden row after the attention to the memory. -/
def res (E : Mrg) (r q : ℕ) : EReal := mid E r q + ∑ k : Fin 1024, headAt E r (k / 256) (k % 256) * E.wo k q

/-- That row normed, for what follows. -/
def nxt (E : Mrg) (r q : ℕ) : EReal := nrm (res E r) E.gf q

end Cert.Ssd
-- ==== Proof.MergePoint.lean ====
/-
  The merge's kernel: the values of one block at an index.
-/
module

public import proofs.«01_k».proof.Proof.MergeSpec
public import proofs.«01_k».proof.Proof.Gen.Kernel4Ideal.Value
public import Idealize.ShloMosaic.Lib.Pointwise

@[expose] public section

set_option maxRecDepth 10000

noncomputable section

open Idealize.ShloMosaic Idealize.ShloMosaic.TcCoe Idealize.ShloMosaic.Tactic Idealize.SL.Sem
open scoped BigOperators

namespace Cert.Kernel4Ideal.Value

open Cert.Kernel4Ideal Cert.Kernel4Ideal.Gen Cert.Ssd

variable (E : Mrg) (R : ℕ) (r : Fin 256)

theorem pay5_at (v0 : FVec Ideal S256x1024 .bf16) (v2 : FVec Ideal S1024x1024 .bf16) (v5 : FVec Ideal S256x2048 .f32) (v8 : FVec Ideal S2048x1024 .bf16)
    (v11 v14 v18 : FVec Ideal S256x1024 .f32) (v21 : FVec Ideal S1024x1024 .bf16)
    (h0 : ∀ k : Fin 1024, v0 (ix2 r k) = E.at' R k) (h2 : ∀ k q : Fin 1024, v2 (ix2 k q) = E.wab k q) (h5 : ∀ k : Fin 2048, v5 (ix2 r k) = E.sd R k)
    (h8 : ∀ (k : Fin 2048) (q : Fin 1024), v8 (ix2 k q) = E.wsb k q) (h11 : ∀ k : Fin 1024, v11 (ix2 r k) = E.ga R k)
    (h14 : ∀ k : Fin 1024, v14 (ix2 r k) = E.gb R k) (h18 : ∀ k : Fin 1024, v18 (ix2 r k) = E.x R k)
    (h21 : ∀ k q : Fin 1024, v21 (ix2 k q) = E.wout k q) (q : Fin 1024) :
    k0_pay5 (F := Ideal) v0 v2 v5 v8 v11 v14 v18 v21 (ix2 r q) = mid E R q := by
  pointwise [k0_pay5, h0, h2, h5, h8, h11, h14, h18, h21, mid, gatedAt]

/-- The factor a row of the branches' result is normed by. -/
def fac (E : Mrg) (R : ℕ) : EReal :=
  Ideal.rsqrt (Ideal.div (∑ k : Fin 1024, mid E R k * mid E R k) (Ideal.ofBits FTy.f32 1149239296#32) + Ideal.ofBits FTy.f32 897988541#32)

theorem pay7_at (v0 : FVec Ideal S256x1024 .bf16) (v2 : FVec Ideal S1024x1024 .bf16) (v5 : FVec Ideal S256x2048 .f32) (v8 : FVec Ideal S2048x1024 .bf16)
    (v11 v14 v18 : FVec Ideal S256x1024 .f32) (v21 : FVec Ideal S1024x1024 .bf16)
    (h : ∀ q : Fin 1024, k0_pay5 (F := Ideal) v0 v2 v5 v8 v11 v14 v18 v21 (ix2 r q) = mid E R q) :
    k0_pay7 (F := Ideal) v0 v2 v5 v8 v11 v14 v18 v21 (ix2 r 0) = fac E R := by
  pointwise [k0_pay7, h, fac]

theorem pay6_at (v25 : FVec Ideal S1x1024 .f32) (k : Fin 1024) : k0_pay6 v25 (ix2 0 k) = v25 (ix2 0 k) := by
  pointwise [k0_pay6]

theorem pay14_at (v103 : FVec Ideal S256x256 .bf16) (s d : Fin 256) : k0_pay14 v103 (ix2 s d) = v103 (ix2 s d) := by
  pointwise [k0_pay14]

theorem pay8_at (v24 : FVec Ideal S256x1024 .f32) (v26 : FVec Ideal S1x1024 .f32) (v34 : FVec Ideal S256x1 .f32) (v40 : FVec Ideal S1024x1024 .bf16)
    (h24 : ∀ k : Fin 1024, v24 (ix2 r k) = mid E R k) (h26 : ∀ k : Fin 1024, v26 (ix2 0 k) = E.gc k) (h34 : v34 (ix2 r 0) = fac E R)
    (h40 : ∀ k q : Fin 1024, v40 (ix2 k q) = E.wq k q) (q : Fin 1024) : k0_pay8 v24 v26 v34 v40 (ix2 r q) = qry E R q := by
  pointwise [k0_pay8, h24, h26, h34, h40, qry, proj, nrm, fac]

section Heads
variable (v24 : FVec Ideal S256x1024 .f32) (v26 : FVec Ideal S1x1024 .f32) (v34 : FVec Ideal S256x1 .f32) (v40 : FVec Ideal S1024x1024 .bf16)

theorem pay9_at (v44 v46 : FVec Ideal S256x256 .bf16) (h : ∀ q : Fin 1024, k0_pay8 v24 v26 v34 v40 (ix2 r q) = qry E R q)
    (hk : ∀ s d : Fin 256, v44 (ix2 s d) = E.kv (R / 8192) s d) (hv : ∀ s d : Fin 256, v46 (ix2 s d) = E.kv (R / 8192) s (1024 + d)) (d : Fin 256) :
    k0_pay9 v24 v26 v34 v40 v44 v46 (ix2 r d) = headAt E R 0 d := by
  pointwise [k0_pay9, h, hk, hv, headAt, wgt, top, lgt]

theorem pay11_at (v63 : FVec Ideal S256x256 .bf16) (h : ∀ q : Fin 1024, k0_pay8 v24 v26 v34 v40 (ix2 r q) = qry E R q)
    (hk : ∀ s d : Fin 256, v63 (ix2 s d) = E.kv (R / 8192) s (256 + d)) (s : Fin 256) :
    k0_pay11 v24 v26 v34 v40 v63 (ix2 r s) = wgt E R 1 s := by
  pointwise [k0_pay11, h, hk, wgt, top, lgt]

theorem pay12_at (v65 : FVec Ideal S256x256 .bf16) (v75 : FVec Ideal S256x256 .f32) (h : ∀ s : Fin 256, v75 (ix2 r s) = wgt E R 1 s)
    (hv : ∀ s d : Fin 256, v65 (ix2 s d) = E.kv (R / 8192) s (1280 + d)) (d : Fin 256) :
    k0_pay12 (k0_pay10 v65) v75 (ix2 r d) = headAt E R 1 d := by
  pointwise [k0_pay12, k0_pay10, h, hv, headAt]

variable (v43 : FVec Ideal S256x1024 .bf16) (h : ∀ q : Fin 1024, v43 (ix2 r q) = qry E R q)
include h

theorem pay13_at (v82 v84 : FVec Ideal S256x256 .bf16)
    (hk : ∀ s d : Fin 256, v82 (ix2 s d) = E.kv (R / 8192) s (512 + d)) (hv : ∀ s d : Fin 256, v84 (ix2 s d) = E.kv (R / 8192) s (1536 + d)) (d : Fin 256) :
    k0_pay13 v43 v82 v84 (ix2 r d) = headAt E R 2 d := by
  pointwise [k0_pay13, h, hk, hv, headAt, wgt, top, lgt]

theorem pay15_at (v101 : FVec Ideal S256x256 .bf16) (hk : ∀ s d : Fin 256, v101 (ix2 s d) = E.kv (R / 8192) s (768 + d)) (s : Fin 256) :
    k0_pay15 v43 v101 (ix2 r s) = wgt E R 3 s := by
  pointwise [k0_pay15, h, hk, wgt, top, lgt]

theorem pay16_at (v101 : FVec Ideal S256x256 .bf16) (hk : ∀ s d : Fin 256, v101 (ix2 s d) = E.kv (R / 8192) s (768 + d)) (s : Fin 256) :
    k0_pay16 v43 v101 (ix2 r s) = ∑ s : Fin 256, wgt E R 3 s := by
  have h' := pay15_at E R r v43 h v101 hk
  pointwise [k0_pay16, h']
end Heads

theorem pay1_at (v24 : FVec Ideal S256x1024 .f32) (v62 v81 v100 : FVec Ideal S256x256 .f32) (v104 : FVec Ideal S256x256 .bf16) (v113 v116 : FVec Ideal S256x256 .f32)
    (v122 : FVec Ideal S1024x1024 .bf16) (h24 : ∀ k : Fin 1024, v24 (ix2 r k) = mid E R k) (h62 : ∀ d : Fin 256, v62 (ix2 r d) = headAt E R 0 d)
    (h81 : ∀ d : Fin 256, v81 (ix2 r d) = headAt E R 1 d) (h100 : ∀ d : Fin 256, v100 (ix2 r d) = headAt E R 2 d)
    (h104 : ∀ s d : Fin 256, v104 (ix2 s d) = E.kv (R / 8192) s (1792 + d)) (h113 : ∀ s : Fin 256, v113 (ix2 r s) = wgt E R 3 s)
    (h116 : ∀ s : Fin 256, v116 (ix2 r s) = ∑ s : Fin 256, wgt E R 3 s) (h122 : ∀ k q : Fin 1024, v122 (ix2 k q) = E.wo k q) (q : Fin 1024) :
    k0_pay1 v24 v62 v81 v100 v104 v113 v116 v122 (ix2 r q) = res E R q := by
  have h3 : ∀ d : ℕ, (∑ s : Fin 256, Ideal.div (wgt E R 3 s) (∑ s : Fin 256, wgt E R 3 s) * E.kv (R / 8192) s (1792 + d)) = headAt E R 3 d := fun d => by
    simp only [headAt]
  pointwise [k0_pay1, h24, h62, h81, h100, h104, h113, h116, h122, res, h3]
  refine congrArg (mid E R q + ·) (Finset.sum_congr rfl fun k _ => congrArg (· * E.wo k q) ?_)
  split_ifs with c0 c1 c2
  · rw [show (k : ℕ) / 256 = 0 by omega, show (k : ℕ) % 256 = k by omega]
  · rw [show (k : ℕ) / 256 = 1 by omega, show (k : ℕ) % 256 = k - 256 by omega]
  · rw [show (k : ℕ) / 256 = 2 by omega, show (k : ℕ) % 256 = k - 256 - 256 by omega]
  · rw [show (k : ℕ) / 256 = 3 by omega, show (k : ℕ) % 256 = k - 256 - 256 - 256 by omega]

section Normed
variable (v24 : FVec Ideal S256x1024 .f32) (v62 v81 v100 : FVec Ideal S256x256 .f32) (v104 : FVec Ideal S256x256 .bf16) (v113 v116 : FVec Ideal S256x256 .f32)
  (v122 : FVec Ideal S1024x1024 .bf16) (v127 : FVec Ideal S1x1024 .f32)
  (h : ∀ q : Fin 1024, k0_pay1 v24 v62 v81 v100 v104 v113 v116 v122 (ix2 r q) = res E R q) (h127 : ∀ k : Fin 1024, v127 (ix2 0 k) = E.gf k)
include h h127

theorem pay2_at (q : Fin 1024) : k0_pay2 v24 v62 v81 v100 v104 v113 v116 v122 v127 (ix2 r q) = nxt E R q := by
  pointwise [k0_pay2, h, h127, nxt, nrm]

theorem pay3_at (q : Fin 1024) : k0_pay3 v24 v62 v81 v100 v104 v113 v116 v122 v127 (ix2 r q) = nxt E R q := by
  have h' := pay2_at E R r v24 v62 v81 v100 v104 v113 v116 v122 v127 h h127
  pointwise [k0_pay3, h']

theorem pay4_at (q : Fin 1024) : k0_pay4 v24 v62 v81 v100 v104 v113 v116 v122 v127 (ix2 q r) = nxt E R q := by
  have h' := pay2_at E R r v24 v62 v81 v100 v104 v113 v116 v122 v127 h h127
  pointwise [k0_pay4, h']
end Normed

end Cert.Kernel4Ideal.Value
-- ==== Proof.MergeProj.lean ====
/-
  The merge: the arrays the kernel leaves, at an index.
-/
module

public import proofs.«01_k».proof.Proof.MergePoint
public import proofs.«01_k».proof.Proof.SsdPoint

@[expose] public section

set_option maxRecDepth 10000

noncomputable section

open Idealize.ShloMosaic Idealize.ShloMosaic.TcCoe Idealize.ShloMosaic.Tactic Idealize.SL.Sem
open Idealize.ShloMosaic.StableHlo
open scoped BigOperators

namespace Cert.Kernel4Ideal.Value

open Cert.Kernel4Ideal Cert.Kernel4Ideal.Gen Cert.Ssd
open Cert.KernelIdeal.Value (ld2_at hz2)

/-- A load of all rows at a column offset, read at an index. -/
theorem ldc_at {n0 n1 m1 : ℕ} {e : EltTy} (X : Vec Ideal ⟨2, ![n0, n1]⟩ e) (o1 : ℕ)
    (inb : ∀ a, (![0, o1] : Fin 2 → ℕ) a + (![n0, m1] : Fin 2 → ℕ) a ≤ (⟨2, ![n0, n1]⟩ : Shape).size a) (r : Fin n0) (q : Fin m1) (hq : o1 + q < n1) :
    View.ld X (Rect.unit (s := ⟨2, ![n0, n1]⟩) ![0, o1] ![n0, m1] inb) (ix2 r q : (⟨2, ![n0, m1]⟩ : Shape).Idx) = X (ix2 r ⟨o1 + q, hq⟩) :=
  (ld2_at X 0 o1 inb r q (by omega) hq).trans (congrArg X (funext (Fin.forall_fin_two.mpr ⟨Fin.ext (Nat.zero_add _), rfl⟩)))

/-- The blocks a grid point reads are the merge's arrays, for one row of its block. -/
structure Reads (E : Mrg) (R : ℕ) (r : Fin 256) (x0 : Vec Ideal S256x1024 .f32) (x1 : Vec Ideal S256x1024 .bf16) (x2 : Vec Ideal S256x2048 .f32) (x3 : Vec Ideal S256x2048 .f32) (x4 : Vec Ideal S1024x1024 .bf16) (x5 : Vec Ideal S2048x1024 .bf16) (x6 : Vec Ideal S1024x1024 .bf16) (x7 : Vec Ideal S1x1024 .f32) (x8 : Vec Ideal S1024x1024 .bf16) (x9 : Vec Ideal S256x2048 .bf16) (x10 : Vec Ideal S1024x1024 .bf16) (x11 : Vec Ideal S1x1024 .f32) : Prop where
  h0 : ∀ k : Fin 1024, x0 (ix2 r k) = E.x R k
  h1 : ∀ k : Fin 1024, x1 (ix2 r k) = E.at' R k
  h2 : ∀ k : Fin 2048, x2 (ix2 r k) = E.sd R k
  hA : ∀ k : Fin 1024, x3 (ix2 r ⟨0 + k, by omega⟩) = E.ga R k
  hB : ∀ k : Fin 1024, x3 (ix2 r ⟨1024 + k, by omega⟩) = E.gb R k
  h4 : ∀ k q : Fin 1024, x4 (ix2 k q) = E.wab k q
  h5 : ∀ (k : Fin 2048) (q : Fin 1024), x5 (ix2 k q) = E.wsb k q
  h6 : ∀ k q : Fin 1024, x6 (ix2 k q) = E.wout k q
  h7 : ∀ k : Fin 1024, x7 (ix2 0 k) = E.gc k
  h8 : ∀ k q : Fin 1024, x8 (ix2 k q) = E.wq k q
  h9 : ∀ (s : Fin 256) (k : Fin 2048), x9 (ix2 s k) = E.kv (R / 8192) s k
  h10 : ∀ k q : Fin 1024, x10 (ix2 k q) = E.wo k q
  h11 : ∀ k : Fin 1024, x11 (ix2 0 k) = E.gf k

section Point
variable {E : Mrg} {R : ℕ} {r : Fin 256} {x0 : Vec Ideal S256x1024 .f32} {x1 : Vec Ideal S256x1024 .bf16} {x2 : Vec Ideal S256x2048 .f32} {x3 : Vec Ideal S256x2048 .f32} {x4 : Vec Ideal S1024x1024 .bf16} {x5 : Vec Ideal S2048x1024 .bf16} {x6 : Vec Ideal S1024x1024 .bf16} {x7 : Vec Ideal S1x1024 .f32} {x8 : Vec Ideal S1024x1024 .bf16} {x9 : Vec Ideal S256x2048 .bf16} {x10 : Vec Ideal S1024x1024 .bf16} {x11 : Vec Ideal S1x1024 .f32}
variable (H : Reads E R r x0 x1 x2 x3 x4 x5 x6 x7 x8 x9 x10 x11)
include H

theorem kvs_at (o : ℕ) (inb : ∀ a, (![0, o] : Fin 2 → ℕ) a + (![256, 256] : Fin 2 → ℕ) a ≤ (⟨2, ![256, 2048]⟩ : Shape).size a) (ho : o + 256 ≤ 2048) (s d : Fin 256) :
    View.ld x9 (Rect.unit (s := ⟨2, ![256, 2048]⟩) ![0, o] ![256, 256] inb) (ix2 s d : (⟨2, ![256, 256]⟩ : Shape).Idx) = E.kv (R / 8192) s (o + d) :=
  (ldc_at x9 o inb s d (by omega)).trans (H.h9 s ⟨o + d, by omega⟩)

theorem pay17_at (q : Fin 1024) : k0_pay17 x0 x1 x2 x3 x4 x5 x6 x7 x8 x9 x10 x11 (ix2 r q) = mid E R q := by
  unfold k0_pay17
  rw [View.ld_unit_zero hz2, View.ld_unit_zero hz2, View.ld_unit_zero hz2, View.ld_unit_zero hz2, View.ld_unit_zero hz2, View.ld_unit_zero hz2]
  exact pay5_at E R r _ _ _ _ _ _ _ _ H.h1 H.h4 H.h2 H.h5 (fun k => (ldc_at x3 0 _ r k (by omega)).trans (H.hA k))
    (fun k => (ldc_at x3 1024 _ r k (by omega)).trans (H.hB k)) H.h0 H.h6 q

theorem pay19_at : k0_pay19 x0 x1 x2 x3 x4 x5 x6 x7 x8 x9 x10 x11 (ix2 r 0) = fac E R := by
  unfold k0_pay19
  exact pay7_at E R r _ _ _ _ _ _ _ _ (fun q => pay17_at H q)

theorem pay18_at (k : Fin 1024) : k0_pay18 x0 x1 x2 x3 x4 x5 x6 x7 x8 x9 x10 x11 (ix2 0 k) = E.gc k := by
  unfold k0_pay18
  rw [View.ld_unit_zero hz2]
  exact (pay6_at x7 k).trans (H.h7 k)

theorem query_at (q : Fin 1024) : k0_pay8 (k0_pay17 x0 x1 x2 x3 x4 x5 x6 x7 x8 x9 x10 x11) (k0_pay18 x0 x1 x2 x3 x4 x5 x6 x7 x8 x9 x10 x11) (k0_pay19 x0 x1 x2 x3 x4 x5 x6 x7 x8 x9 x10 x11) (View.ld x8 r0_1) (ix2 r q) = qry E R q := by
  rw [View.ld_unit_zero hz2]
  exact pay8_at E R r _ _ _ _ (pay17_at H) (pay18_at H) (pay19_at H) H.h8 q

theorem pay20_at (q : Fin 1024) : k0_pay20 x0 x1 x2 x3 x4 x5 x6 x7 x8 x9 x10 x11 (ix2 r q) = qry E R q := by
  unfold k0_pay20
  exact query_at H q

theorem pay21_at (d : Fin 256) : k0_pay21 x0 x1 x2 x3 x4 x5 x6 x7 x8 x9 x10 x11 (ix2 r d) = headAt E R 0 d := by
  unfold k0_pay21
  exact pay9_at E R r _ _ _ _ _ _ (query_at H) (fun s d => (kvs_at H 0 _ (by omega) s d).trans (by rw [Nat.zero_add])) (kvs_at H 1024 _ (by omega)) d

theorem pay22_at (d : Fin 256) : k0_pay22 x0 x1 x2 x3 x4 x5 x6 x7 x8 x9 x10 x11 (ix2 r d) = headAt E R 1 d := by
  unfold k0_pay22
  exact pay12_at E R r _ _ (pay11_at E R r _ _ _ _ _ (query_at H) (kvs_at H 256 _ (by omega))) (kvs_at H 1280 _ (by omega)) d

theorem pay23_at (d : Fin 256) : k0_pay23 x0 x1 x2 x3 x4 x5 x6 x7 x8 x9 x10 x11 (ix2 r d) = headAt E R 2 d := by
  unfold k0_pay23
  exact pay13_at E R r _ (pay20_at H) _ _ (kvs_at H 512 _ (by omega)) (kvs_at H 1536 _ (by omega)) d

theorem pay24_at (s d : Fin 256) : k0_pay24 x0 x1 x2 x3 x4 x5 x6 x7 x8 x9 x10 x11 (ix2 s d) = E.kv (R / 8192) s (1792 + d) := by
  unfold k0_pay24
  exact (pay14_at _ s d).trans (kvs_at H 1792 _ (by omega) s d)

theorem pay25_at (s : Fin 256) : k0_pay25 x0 x1 x2 x3 x4 x5 x6 x7 x8 x9 x10 x11 (ix2 r s) = wgt E R 3 s := by
  unfold k0_pay25
  exact pay15_at E R r _ (pay20_at H) _ (kvs_at H 768 _ (by omega)) s

theorem pay26_at (s : Fin 256) : k0_pay26 x0 x1 x2 x3 x4 x5 x6 x7 x8 x9 x10 x11 (ix2 r s) = ∑ s : Fin 256, wgt E R 3 s := by
  unfold k0_pay26
  exact pay16_at E R r _ (pay20_at H) _ (kvs_at H 768 _ (by omega)) s

theorem res_at (q : Fin 1024) : k0_pay1 (k0_pay17 x0 x1 x2 x3 x4 x5 x6 x7 x8 x9 x10 x11) (k0_pay21 x0 x1 x2 x3 x4 x5 x6 x7 x8 x9 x10 x11) (k0_pay22 x0 x1 x2 x3 x4 x5 x6 x7 x8 x9 x10 x11) (k0_pay23 x0 x1 x2 x3 x4 x5 x6 x7 x8 x9 x10 x11) (k0_pay24 x0 x1 x2 x3 x4 x5 x6 x7 x8 x9 x10 x11) (k0_pay25 x0 x1 x2 x3 x4 x5 x6 x7 x8 x9 x10 x11) (k0_pay26 x0 x1 x2 x3 x4 x5 x6 x7 x8 x9 x10 x11) x10 (ix2 r q) = res E R q :=
  pay1_at E R r _ _ _ _ _ _ _ _ (pay17_at H) (pay21_at H) (pay22_at H) (pay23_at H) (pay24_at H) (pay25_at H) (pay26_at H) H.h10 q

theorem o12_at (q : Fin 1024) : out0_12 x0 x1 x2 x3 x4 x5 x6 x7 x8 x9 x10 x11 (ix2 r q) = res E R q := by
  unfold out0_12
  rw [View.canon_unit_zero hz2, View.ld_unit_zero hz2]
  exact res_at H q
theorem o13_at (q : Fin 1024) : out0_13 x0 x1 x2 x3 x4 x5 x6 x7 x8 x9 x10 x11 (ix2 r q) = nxt E R q := by
  unfold out0_13
  rw [View.canon_unit_zero hz2, View.ld_unit_zero hz2, View.ld_unit_zero hz2]
  exact pay3_at E R r _ _ _ _ _ _ _ _ _ (res_at H) H.h11 q
theorem o14_at (q : Fin 1024) : out0_14 x0 x1 x2 x3 x4 x5 x6 x7 x8 x9 x10 x11 (ix2 q r) = nxt E R q := by
  unfold out0_14
  rw [View.canon_unit_zero hz2, View.ld_unit_zero hz2, View.ld_unit_zero hz2]
  exact pay4_at E R r _ _ _ _ _ _ _ _ _ (res_at H) H.h11 q
end Point

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 256) (q : Fin 1024) (r' : Fin 16384) (hr : (r' : ℕ) = 256 * t + r) :
    (iblk m c 0 t : Vec F S256x1024 .f32) (ix2 r q) = (V m c main_v0 : Vec F S16384x1024 .f32) (ix2 r' q) := by
  obtain ⟨e0, e1⟩ := index0 t
  refine congrArg (V m c main_v0 : Vec F S16384x1024 .f32) (funext (Fin.forall_fin_two.mpr ⟨Fin.ext ?_, Fin.ext ?_⟩))
  · show win0_0.index t (0 : Fin 2) * 256 + 1 * (r : ℕ) = r'
    omega
  · show win0_0.index t (1 : Fin 2) * 1024 + 1 * (q : ℕ) = q
    omega
theorem index1 : ∀ t : Fin cfg0.N, win0_1.index t (0 : Fin 2) = t.val ∧ win0_1.index t (1 : Fin 2) = 0 :=
  (by decide +kernel : ∀ t : Fin grid0.N, _)
theorem iblk1_at (c : Dev nD) (t : Fin cfg0.N) (r : Fin 256) (q : Fin 1024) (r' : Fin 16384) (hr : (r' : ℕ) = 256 * t + r) :
    (iblk m c 1 t : Vec F S256x1024 .bf16) (ix2 r q) = (V m c main_v2 : Vec F S16384x1024 .bf16) (ix2 r' q) := by
  obtain ⟨e0, e1⟩ := index1 t
  refine congrArg (V m c main_v2 : Vec F S16384x1024 .bf16) (funext (Fin.forall_fin_two.mpr ⟨Fin.ext ?_, Fin.ext ?_⟩))
  · show win0_1.index t (0 : Fin 2) * 256 + 1 * (r : ℕ) = r'
    omega
  · show win0_1.index t (1 : Fin 2) * 1024 + 1 * (q : ℕ) = q
    omega
theorem index2 : ∀ t : Fin cfg0.N, win0_2.index t (0 : Fin 2) = t.val ∧ win0_2.index t (1 : Fin 2) = 0 :=
  (by decide +kernel : ∀ t : Fin grid0.N, _)
theorem iblk2_at (c : Dev nD) (t : Fin cfg0.N) (r : Fin 256) (q : Fin 2048) (r' : Fin 16384) (hr : (r' : ℕ) = 256 * t + r) :
    (iblk m c 2 t : Vec F S256x2048 .f32) (ix2 r q) = (V m c main_v3 : Vec F S16384x2048 .f32) (ix2 r' q) := by
  obtain ⟨e0, e1⟩ := index2 t
  refine congrArg (V m c main_v3 : Vec F S16384x2048 .f32) (funext (Fin.forall_fin_two.mpr ⟨Fin.ext ?_, Fin.ext ?_⟩))
  · show win0_2.index t (0 : Fin 2) * 256 + 1 * (r : ℕ) = r'
    omega
  · show win0_2.index t (1 : Fin 2) * 2048 + 1 * (q : ℕ) = q
    omega
theorem index3 : ∀ t : Fin cfg0.N, win0_3.index t (0 : Fin 2) = t.val ∧ win0_3.index t (1 : Fin 2) = 0 :=
  (by decide +kernel : ∀ t : Fin grid0.N, _)
theorem iblk3_at (c : Dev nD) (t : Fin cfg0.N) (r : Fin 256) (q : Fin 2048) (r' : Fin 16384) (hr : (r' : ℕ) = 256 * t + r) :
    (iblk m c 3 t : Vec F S256x2048 .f32) (ix2 r q) = (V m c main_v4 : Vec F S16384x2048 .f32) (ix2 r' q) := by
  obtain ⟨e0, e1⟩ := index3 t
  refine congrArg (V m c main_v4 : Vec F S16384x2048 .f32) (funext (Fin.forall_fin_two.mpr ⟨Fin.ext ?_, Fin.ext ?_⟩))
  · show win0_3.index t (0 : Fin 2) * 256 + 1 * (r : ℕ) = r'
    omega
  · show win0_3.index t (1 : Fin 2) * 2048 + 1 * (q : ℕ) = q
    omega
theorem index4 : ∀ t : Fin cfg0.N, win0_4.index t (0 : Fin 2) = 0 ∧ win0_4.index t (1 : Fin 2) = 0 :=
  (by decide +kernel : ∀ t : Fin grid0.N, _)
theorem iblk4_at (c : Dev nD) (t : Fin cfg0.N) (r : Fin 1024) (q : Fin 1024) :
    (iblk m c 4 t : Vec F S1024x1024 .bf16) (ix2 r q) = (V m c main_v5 : Vec F S1024x1024 .bf16) (ix2 r q) := by
  obtain ⟨e0, e1⟩ := index4 t
  refine congrArg (V m c main_v5 : Vec F S1024x1024 .bf16) (funext (Fin.forall_fin_two.mpr ⟨Fin.ext ?_, Fin.ext ?_⟩))
  · show win0_4.index t (0 : Fin 2) * 1024 + 1 * (r : ℕ) = r
    omega
  · show win0_4.index t (1 : Fin 2) * 1024 + 1 * (q : ℕ) = q
    omega
theorem index5 : ∀ t : Fin cfg0.N, win0_5.index t (0 : Fin 2) = 0 ∧ win0_5.index t (1 : Fin 2) = 0 :=
  (by decide +kernel : ∀ t : Fin grid0.N, _)
theorem iblk5_at (c : Dev nD) (t : Fin cfg0.N) (r : Fin 2048) (q : Fin 1024) :
    (iblk m c 5 t : Vec F S2048x1024 .bf16) (ix2 r q) = (V m c main_v6 : Vec F S2048x1024 .bf16) (ix2 r q) := by
  obtain ⟨e0, e1⟩ := index5 t
  refine congrArg (V m c main_v6 : Vec F S2048x1024 .bf16) (funext (Fin.forall_fin_two.mpr ⟨Fin.ext ?_, Fin.ext ?_⟩))
  · show win0_5.index t (0 : Fin 2) * 2048 + 1 * (r : ℕ) = r
    omega
  · show win0_5.index t (1 : Fin 2) * 1024 + 1 * (q : ℕ) = q
    omega
theorem index6 : ∀ t : Fin cfg0.N, win0_6.index t (0 : Fin 2) = 0 ∧ win0_6.index t (1 : Fin 2) = 0 :=
  (by decide +kernel : ∀ t : Fin grid0.N, _)
theorem iblk6_at (c : Dev nD) (t : Fin cfg0.N) (r : Fin 1024) (q : Fin 1024) :
    (iblk m c 6 t : Vec F S1024x1024 .bf16) (ix2 r q) = (V m c main_v7 : Vec F S1024x1024 .bf16) (ix2 r q) := by
  obtain ⟨e0, e1⟩ := index6 t
  refine congrArg (V m c main_v7 : Vec F S1024x1024 .bf16) (funext (Fin.forall_fin_two.mpr ⟨Fin.ext ?_, Fin.ext ?_⟩))
  · show win0_6.index t (0 : Fin 2) * 1024 + 1 * (r : ℕ) = r
    omega
  · show win0_6.index t (1 : Fin 2) * 1024 + 1 * (q : ℕ) = q
    omega
theorem index7 : ∀ t : Fin cfg0.N, win0_7.index t (0 : Fin 2) = 0 ∧ win0_7.index t (1 : Fin 2) = 0 :=
  (by decide +kernel : ∀ t : Fin grid0.N, _)
theorem iblk7_at (c : Dev nD) (t : Fin cfg0.N) (q : Fin 1024) :
    (iblk m c 7 t : Vec F S1x1024 .f32) (ix2 0 q) = (V m c main_v8 : Vec F S1x1024 .f32) (ix2 0 q) := by
  obtain ⟨e0, e1⟩ := index7 t
  refine congrArg (V m c main_v8 : Vec F S1x1024 .f32) (funext (Fin.forall_fin_two.mpr ⟨Fin.ext ?_, Fin.ext ?_⟩))
  · show win0_7.index t (0 : Fin 2) * 1 + 1 * 0 = 0
    omega
  · show win0_7.index t (1 : Fin 2) * 1024 + 1 * (q : ℕ) = q
    omega
theorem index8 : ∀ t : Fin cfg0.N, win0_8.index t (0 : Fin 2) = 0 ∧ win0_8.index t (1 : Fin 2) = 0 :=
  (by decide +kernel : ∀ t : Fin grid0.N, _)
theorem iblk8_at (c : Dev nD) (t : Fin cfg0.N) (r : Fin 1024) (q : Fin 1024) :
    (iblk m c 8 t : Vec F S1024x1024 .bf16) (ix2 r q) = (V m c main_v9 : Vec F S1024x1024 .bf16) (ix2 r q) := by
  obtain ⟨e0, e1⟩ := index8 t
  refine congrArg (V m c main_v9 : Vec F S1024x1024 .bf16) (funext (Fin.forall_fin_two.mpr ⟨Fin.ext ?_, Fin.ext ?_⟩))
  · show win0_8.index t (0 : Fin 2) * 1024 + 1 * (r : ℕ) = r
    omega
  · show win0_8.index t (1 : Fin 2) * 1024 + 1 * (q : ℕ) = q
    omega
theorem index9 : ∀ t : Fin cfg0.N, win0_9.index t (0 : Fin 2) = t.val / 32 ∧ win0_9.index t (1 : Fin 2) = 0 :=
  (by decide +kernel : ∀ t : Fin grid0.N, _)
theorem iblk9_at (c : Dev nD) (t : Fin cfg0.N) (r : Fin 256) (q : Fin 2048) (r' : Fin 512) (hr : (r' : ℕ) = 256 * (t / 32) + r) :
    (iblk m c 9 t : Vec F S256x2048 .bf16) (ix2 r q) = (V m c main_v11 : Vec F S512x2048 .bf16) (ix2 r' q) := by
  obtain ⟨e0, e1⟩ := index9 t
  refine congrArg (V m c main_v11 : Vec F S512x2048 .bf16) (funext (Fin.forall_fin_two.mpr ⟨Fin.ext ?_, Fin.ext ?_⟩))
  · show win0_9.index t (0 : Fin 2) * 256 + 1 * (r : ℕ) = r'
    omega
  · show win0_9.index t (1 : Fin 2) * 2048 + 1 * (q : ℕ) = q
    omega
theorem index10 : ∀ t : Fin cfg0.N, win0_10.index t (0 : Fin 2) = 0 ∧ win0_10.index t (1 : Fin 2) = 0 :=
  (by decide +kernel : ∀ t : Fin grid0.N, _)
theorem iblk10_at (c : Dev nD) (t : Fin cfg0.N) (r : Fin 1024) (q : Fin 1024) :
    (iblk m c 10 t : Vec F S1024x1024 .bf16) (ix2 r q) = (V m c main_v12 : Vec F S1024x1024 .bf16) (ix2 r q) := by
  obtain ⟨e0, e1⟩ := index10 t
  refine congrArg (V m c main_v12 : Vec F S1024x1024 .bf16) (funext (Fin.forall_fin_two.mpr ⟨Fin.ext ?_, Fin.ext ?_⟩))
  · show win0_10.index t (0 : Fin 2) * 1024 + 1 * (r : ℕ) = r
    omega
  · show win0_10.index t (1 : Fin 2) * 1024 + 1 * (q : ℕ) = q
    omega
theorem index11 : ∀ t : Fin cfg0.N, win0_11.index t (0 : Fin 2) = 0 ∧ win0_11.index t (1 : Fin 2) = 0 :=
  (by decide +kernel : ∀ t : Fin grid0.N, _)
theorem iblk11_at (c : Dev nD) (t : Fin cfg0.N) (q : Fin 1024) :
    (iblk m c 11 t : Vec F S1x1024 .f32) (ix2 0 q) = (V m c main_v13 : Vec F S1x1024 .f32) (ix2 0 q) := by
  obtain ⟨e0, e1⟩ := index11 t
  refine congrArg (V m c main_v13 : Vec F S1x1024 .f32) (funext (Fin.forall_fin_two.mpr ⟨Fin.ext ?_, Fin.ext ?_⟩))
  · show win0_11.index t (0 : Fin 2) * 1 + 1 * 0 = 0
    omega
  · show win0_11.index t (1 : Fin 2) * 1024 + 1 * (q : ℕ) = q
    omega
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = 0 ∧ win0_14.index t (1 : Fin 2) = t.val :=
  (by decide +kernel : ∀ t : Fin grid0.N, _)

theorem V_v0 (c : Dev nD) : (V m c main_v0 : Vec F S16384x1024 .f32) = shapeCast S16384x1024 (m (c, Proc.devRef .tc main_arg0) : Vec F S2x8192x1024 .f32) shapeCasts_S2x8192x1024_S16384x1024 := by
  unfold V
  after_results
  rfl
theorem V_v2 (c : Dev nD) : (V m c main_v2 : Vec F S16384x1024 .bf16) = truncf .bf16 (shapeCast S16384x1024 (m (c, Proc.devRef .tc main_arg1) : Vec F S2x8192x1024 .f32) shapeCasts_S2x8192x1024_S16384x1024 : FVec F S16384x1024 .f32) bitsLt_bf16_f32 := by
  unfold V
  after_results
  rfl
theorem V_v3 (c : Dev nD) : (V m c main_v3 : Vec F S16384x2048 .f32) = shapeCast S16384x2048 (m (c, Proc.devRef .tc main_arg2) : Vec F S2x8192x2048 .f32) shapeCasts_S2x8192x2048_S16384x2048 := by
  unfold V
  after_results
  rfl
theorem V_v4 (c : Dev nD) : (V m c main_v4 : Vec F S16384x2048 .f32) = shapeCast S16384x2048 (m (c, Proc.devRef .tc main_arg3) : Vec F S2x8192x2x1024 .f32) shapeCasts_S2x8192x2x1024_S16384x2048 := by
  unfold V
  after_results
  rfl
theorem V_v5 (c : Dev nD) : (V m c main_v5 : Vec F S1024x1024 .bf16) = truncf .bf16 (m (c, Proc.devRef .tc main_arg5) : Vec F S1024x1024 .f32) bitsLt_bf16_f32 := by
  unfold V
  after_results
theorem V_v6 (c : Dev nD) : (V m c main_v6 : Vec F S2048x1024 .bf16) = truncf .bf16 (m (c, Proc.devRef .tc main_arg6) : Vec F S2048x1024 .f32) bitsLt_bf16_f32 := by
  unfold V
  after_results
theorem V_v7 (c : Dev nD) : (V m c main_v7 : Vec F S1024x1024 .bf16) = truncf .bf16 (m (c, Proc.devRef .tc main_arg7) : Vec F S1024x1024 .f32) bitsLt_bf16_f32 := by
  unfold V
  after_results
theorem V_v8 (c : Dev nD) : (V m c main_v8 : Vec F S1x1024 .f32) = shapeCast S1x1024 (m (c, Proc.devRef .tc main_arg8) : Vec F S1024 .f32) shapeCasts_S1024_S1x1024 := by
  unfold V
  after_results
  rfl
theorem V_v9 (c : Dev nD) : (V m c main_v9 : Vec F S1024x1024 .bf16) = truncf .bf16 (m (c, Proc.devRef .tc main_arg9) : Vec F S1024x1024 .f32) bitsLt_bf16_f32 := by
  unfold V
  after_results
theorem V_v11 (c : Dev nD) : (V m c main_v11 : Vec F S512x2048 .bf16) = truncf .bf16 (shapeCast S512x2048 (m (c, Proc.devRef .tc main_arg4) : Vec F S2x256x2048 .f32) shapeCasts_S2x256x2048_S512x2048 : FVec F S512x2048 .f32) bitsLt_bf16_f32 := by
  unfold V
  after_results
  rfl
theorem V_v12 (c : Dev nD) : (V m c main_v12 : Vec F S1024x1024 .bf16) = truncf .bf16 (m (c, Proc.devRef .tc main_arg10) : Vec F S1024x1024 .f32) bitsLt_bf16_f32 := by
  unfold V
  after_results
theorem V_v13 (c : Dev nD) : (V m c main_v13 : Vec F S1x1024 .f32) = shapeCast S1x1024 (m (c, Proc.devRef .tc main_arg11) : Vec F S1024 .f32) shapeCasts_S1024_S1x1024 := by
  unfold V
  after_results
  rfl
end Blocks

theorem v0_at (a : FVec Ideal S2x8192x1024 .f32) (r : Fin 16384) (q : Fin 1024) :
    shapeCast S16384x1024 a shapeCasts_S2x8192x1024_S16384x1024 (ix2 r q) = rowOf a r q := by
  have h := fun a' b' c' => eq_nat3 (a := 2) (b := 8192) (c := 1024) a a' b' c'
  pointwise [h, rowOf]
theorem v3_at (a : FVec Ideal S2x8192x2048 .f32) (r : Fin 16384) (q : Fin 2048) :
    shapeCast S16384x2048 a shapeCasts_S2x8192x2048_S16384x2048 (ix2 r q) = nat3 a (r / 8192) (r % 8192) q := by
  have h := fun a' b' c' => eq_nat3 (a := 2) (b := 8192) (c := 2048) a a' b' c'
  pointwise [h]
theorem v4_at (a : FVec Ideal S2x8192x2x1024 .f32) (r : Fin 16384) (q : Fin 2048) :
    shapeCast S16384x2048 a shapeCasts_S2x8192x2x1024_S16384x2048 (ix2 r q) = nat4 a (r / 8192) (r % 8192) (q / 1024) (q % 1024) := by
  have h := fun a' b' c' d' => eq_nat4 (a := 2) (b := 8192) (c := 2) (d := 1024) a a' b' c' d'
  pointwise [h]
theorem v8_at (a : FVec Ideal S1024 .f32) (q : Fin 1024) : shapeCast S1x1024 a shapeCasts_S1024_S1x1024 (ix2 0 q) = nat1 a q := by
  have h := fun a' => eq_nat1 (a := 1024) a a'
  pointwise [h]
theorem v11_at (a : FVec Ideal S2x256x2048 .f32) (r : Fin 512) (q : Fin 2048) :
    shapeCast S512x2048 a shapeCasts_S2x256x2048_S512x2048 (ix2 r q) = nat3 a (r / 256) (r % 256) q := by
  have h := fun a' b' c' => eq_nat3 (a := 2) (b := 256) (c := 2048) a a' b' c'
  pointwise [h]

variable (m : (ℓ : Loc nD τ sig) → Buf (Elt Ideal) ℓ) (c : Dev nD)

/-- The arguments as the merge's arrays. -/
abbrev argsOf : Mrg :=
  mrgOf (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8)) (m (c, Proc.devRef .tc main_arg9)) (m (c, Proc.devRef .tc main_arg10)) (m (c, Proc.devRef .tc main_arg11))

theorem reads (t : Fin cfg0.N) (r : Fin 256) (R : Fin 16384) (hR : (R : ℕ) = 256 * t + r) :
    Reads (argsOf m c) R r (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) where
  h0 k := (iblk0_at m c t r k R hR).trans ((congrFun (V_v0 m c) _).trans (v0_at _ R k))
  h1 k := (iblk1_at m c t r k R hR).trans ((congrFun (V_v2 m c) _).trans (v0_at _ R k))
  h2 k := (iblk2_at m c t r k R hR).trans ((congrFun (V_v3 m c) _).trans (v3_at _ R k))
  hA k := (iblk3_at m c t r _ R hR).trans ((congrFun (V_v4 m c) _).trans ((v4_at _ R _).trans (by
    show nat4 _ _ _ ((0 + (k : ℕ)) / 1024) ((0 + (k : ℕ)) % 1024) = nat4 _ _ _ 0 k
    rw [show (0 + (k : ℕ)) / 1024 = 0 by omega, show (0 + (k : ℕ)) % 1024 = k by omega])))
  hB k := (iblk3_at m c t r _ R hR).trans ((congrFun (V_v4 m c) _).trans ((v4_at _ R _).trans (by
    show nat4 _ _ _ ((1024 + (k : ℕ)) / 1024) ((1024 + (k : ℕ)) % 1024) = nat4 _ _ _ 1 k
    rw [show (1024 + (k : ℕ)) / 1024 = 1 by omega, show (1024 + (k : ℕ)) % 1024 = k by omega])))
  h4 k q := (iblk4_at m c t k q).trans ((congrFun (V_v5 m c) _).trans (eq_nat2 (a := 1024) (b := 1024) _ k q))
  h5 k q := (iblk5_at m c t k q).trans ((congrFun (V_v6 m c) _).trans (eq_nat2 (a := 2048) (b := 1024) _ k q))
  h6 k q := (iblk6_at m c t k q).trans ((congrFun (V_v7 m c) _).trans (eq_nat2 (a := 1024) (b := 1024) _ k q))
  h7 k := (iblk7_at m c t k).trans ((congrFun (V_v8 m c) _).trans (v8_at _ k))
  h8 k q := (iblk8_at m c t k q).trans ((congrFun (V_v9 m c) _).trans (eq_nat2 (a := 1024) (b := 1024) _ k q))
  h9 s k := by
    have ht : (t : ℕ) < 64 := lt_of_lt_of_eq t.isLt N_0
    refine (iblk9_at m c t s k ⟨256 * (t / 32) + s, by omega⟩ rfl).trans ((congrFun (V_v11 m c) _).trans ((v11_at _ _ k).trans ?_))
    show nat3 _ ((256 * ((t : ℕ) / 32) + s) / 256) ((256 * ((t : ℕ) / 32) + s) % 256) k = nat3 _ ((R : ℕ) / 8192) s k
    rw [show (256 * ((t : ℕ) / 32) + s) / 256 = (R : ℕ) / 8192 by omega, show (256 * ((t : ℕ) / 32) + s) % 256 = s by omega]
  h10 k q := (iblk10_at m c t k q).trans ((congrFun (V_v12 m c) _).trans (eq_nat2 (a := 1024) (b := 1024) _ k q))
  h11 k := (iblk11_at m c t k).trans ((congrFun (V_v13 m c) _).trans (v8_at _ k))

theorem out12_at (r : Fin 16384) (q : Fin 1024) : ((dats m 0 c).arrAt 12 cfg0.N : Vec Ideal S16384x1024 .f32) (ix2 r q) = res (argsOf m c) r q := by
  have hr : (r : ℕ) / 256 < cfg0.N := lt_of_lt_of_eq (by omega) (show 64 = cfg0.N from N_0.symm)
  obtain ⟨e0, e1⟩ := index12 ⟨(r : ℕ) / 256, hr⟩
  have h := congrFun ((blocks12 m c ⟨(r : ℕ) / 256, hr⟩ (flush0_12 _)).trans (flushed12 m c _)) (ix2 (⟨(r : ℕ) % 256, by omega⟩ : Fin 256) q)
  refine (congrArg ((dats m 0 c).arrAt 12 cfg0.N : Vec Ideal S16384x1024 .f32) (funext (Fin.forall_fin_two.mpr ⟨Fin.ext ?_, Fin.ext ?_⟩))).trans (h.trans ?_)
  · show (r : ℕ) = win0_12.index ⟨(r : ℕ) / 256, hr⟩ (0 : Fin 2) * 256 + 1 * ((r : ℕ) % 256)
    dsimp only at e0
    omega
  · show (q : ℕ) = win0_12.index ⟨(r : ℕ) / 256, hr⟩ (1 : Fin 2) * 1024 + 1 * (q : ℕ)
    omega
  exact o12_at (reads m c _ ⟨(r : ℕ) % 256, by omega⟩ r (by show (r : ℕ) = 256 * ((r : ℕ) / 256) + (r : ℕ) % 256; omega)) q

theorem out13_at (r : Fin 16384) (q : Fin 1024) : ((dats m 0 c).arrAt 13 cfg0.N : Vec Ideal S16384x1024 .bf16) (ix2 r q) = nxt (argsOf m c) r q := by
  have hr : (r : ℕ) / 256 < cfg0.N := lt_of_lt_of_eq (by omega) (show 64 = cfg0.N from N_0.symm)
  obtain ⟨e0, e1⟩ := index13 ⟨(r : ℕ) / 256, hr⟩
  have h := congrFun ((blocks13 m c ⟨(r : ℕ) / 256, hr⟩ (flush0_13 _)).trans (flushed13 m c _)) (ix2 (⟨(r : ℕ) % 256, by omega⟩ : Fin 256) q)
  refine (congrArg ((dats m 0 c).arrAt 13 cfg0.N : Vec Ideal S16384x1024 .bf16) (funext (Fin.forall_fin_two.mpr ⟨Fin.ext ?_, Fin.ext ?_⟩))).trans (h.trans ?_)
  · show (r : ℕ) = win0_13.index ⟨(r : ℕ) / 256, hr⟩ (0 : Fin 2) * 256 + 1 * ((r : ℕ) % 256)
    dsimp only at e0
    omega
  · show (q : ℕ) = win0_13.index ⟨(r : ℕ) / 256, hr⟩ (1 : Fin 2) * 1024 + 1 * (q : ℕ)
    omega
  exact o13_at (reads m c _ ⟨(r : ℕ) % 256, by omega⟩ r (by show (r : ℕ) = 256 * ((r : ℕ) / 256) + (r : ℕ) % 256; omega)) q

theorem out14_at (q : Fin 1024) (r : Fin 16384) : ((dats m 0 c).arrAt 14 cfg0.N : Vec Ideal S1024x16384 .bf16) (ix2 q r) = nxt (argsOf m c) r q := by
  have hr : (r : ℕ) / 256 < cfg0.N := lt_of_lt_of_eq (by omega) (show 64 = cfg0.N from N_0.symm)
  obtain ⟨e0, e1⟩ := index14 ⟨(r : ℕ) / 256, hr⟩
  have h := congrFun ((blocks14 m c ⟨(r : ℕ) / 256, hr⟩ (flush0_14 _)).trans (flushed14 m c _)) (ix2 q (⟨(r : ℕ) % 256, by omega⟩ : Fin 256))
  refine (congrArg ((dats m 0 c).arrAt 14 cfg0.N : Vec Ideal S1024x16384 .bf16) (funext (Fin.forall_fin_two.mpr ⟨Fin.ext ?_, Fin.ext ?_⟩))).trans (h.trans ?_)
  · show (q : ℕ) = win0_14.index ⟨(r : ℕ) / 256, hr⟩ (0 : Fin 2) * 1024 + 1 * (q : ℕ)
    omega
  · show (r : ℕ) = win0_14.index ⟨(r : ℕ) / 256, hr⟩ (1 : Fin 2) * 256 + 1 * ((r : ℕ) % 256)
    dsimp only at e1
    omega
  exact o14_at (reads m c _ ⟨(r : ℕ) % 256, by omega⟩ r (by show (r : ℕ) = 256 * ((r : ℕ) / 256) + (r : ℕ) % 256; omega)) q

end Cert.Kernel4Ideal.Value
-- ==== Proof.MergeRef.lean ====
/-
  The merge's reference, stage by stage at an index.
-/
module

public import proofs.«01_k».proof.Proof.MergeSpec
public import proofs.«01_k».proof.Proof.Gen.Reference4Ideal.Run
public import Idealize.ShloMosaic.Lib.Pointwise

@[expose] public section

set_option maxRecDepth 10000

noncomputable section

open Idealize.ShloMosaic Idealize.ShloMosaic.TcCoe Idealize.SL.Sem
open scoped BigOperators

namespace Cert.Reference4Ideal.Value

open Cert.Reference4Ideal Cert.Reference4Ideal.Gen Cert.Ssd

section Stages
variable {F : FTy → Type} [FloatOps F]

def g10 (a0 a1 : FVec F S2x8192x1024 .f32) (a2 : FVec F S2x8192x2048 .f32) (a3 : FVec F S2x8192x2x1024 .f32) (a5 : FVec F S1024x1024 .f32)
    (a6 : FVec F S2048x1024 .f32) (a7 : FVec F S1024x1024 .f32) : FVec F S2x8192x1024 .f32 :=
  addf a0 (Host.dotGeneral dot_S2x8192x1024_S1024x1024_S2x8192x1024_2_0_01_1_n_n none
    (addf (mulf (shapeCast S2x8192x1024 (extractStridedSlice S2x8192x1x1024 ![0, 0, 0, 0] a3 slices_S2x8192x2x1024_S2x8192x1x1024_0_0_0_0) shapeCasts_S2x8192x1x1024_S2x8192x1024)
        (Host.dotGeneral dot_S2x8192x1024_S1024x1024_S2x8192x1024_2_0_01_1_n_n none a1 a5))
      (mulf (shapeCast S2x8192x1024 (extractStridedSlice S2x8192x1x1024 ![0, 0, 1, 0] a3 slices_S2x8192x2x1024_S2x8192x1x1024_0_0_1_0) shapeCasts_S2x8192x1x1024_S2x8192x1024)
        (Host.dotGeneral dot_S2x8192x2048_S2048x1024_S2x8192x1024_2_0_01_1_n_n none a2 a6))) a7)

def g24 (h : FVec F S2x8192x1024 .f32) (a8 : FVec F S1024 .f32) (a9 : FVec F S1024x1024 .f32) : FVec F S2x8192x1024 .f32 :=
  Host.dotGeneral dot_S2x8192x1024_S1024x1024_S2x8192x1024_2_0_01_1_n_n none
    (mulf (mulf h (broadcastInDim S2x8192x1024 ![0, 1, 2] bcast_S2x8192x1_S2x8192x1024_0_1_2 (Host.rsqrt (addf
        (Host.divf (broadcastInDim S2x8192x1 ![0, 1] bcast_S2x8192_S2x8192x1_0_1 (Host.reduceAdd (mulf h h) (constant S_ .f32 0x00000000#32) reducesTo_S2x8192x1024_S2x8192_d2 h_S_))
          (broadcastInDim S2x8192x1 ![] bcast_S_S2x8192x1 (constant S_ .f32 0x44800000#32)))
        (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2 a8))) a9

def g32 (v : FVec F S2x8192x1024 .f32) (a4 : FVec F S2x256x2048 .f32) : FVec F S2x4x8192x256 .f32 :=
  mulf (Host.dotGeneral dot_S2x8192x4x256_S2x256x4x256_S2x4x8192x256_3_3_1_1_02_02 none
      (shapeCast S2x8192x4x256 v shapeCasts_S2x8192x1024_S2x8192x4x256)
      (shapeCast S2x256x4x256 (extractStridedSlice S2x256x1024 ![0, 0, 0] a4 slices_S2x256x2048_S2x256x1024_0_0_0) shapeCasts_S2x256x1024_S2x256x4x256))
    (broadcastInDim S2x4x8192x256 ![] bcast_S_S2x4x8192x256 (constant S_ .f32 0x3D800000#32))

def g35 (v : FVec F S2x4x8192x256 .f32) : FVec F S2x4x8192 .f32 :=
  maximumf (broadcastInDim S2x4x8192 ![] bcast_S_S2x4x8192 (constant S_ .f32 0xFF800000#32))
    (Host.reduce FloatOps.maximumf v (constant S_ .f32 0xFF800000#32) reducesTo_S2x4x8192x256_S2x4x8192_d3 h_S_)

def g39 (v : FVec F S2x4x8192x256 .f32) (t : FVec F S2x4x8192 .f32) : FVec F S2x4x8192x256 .f32 :=
  Host.exp (subf v (broadcastInDim S2x4x8192x256 ![0, 1, 2, 3] bcast_S2x4x8192x1_S2x4x8192x256_0_1_2_3
    (broadcastInDim S2x4x8192x1 ![0, 1, 2] bcast_S2x4x8192_S2x4x8192x1_0_1_2 t)))

def g43 (v : FVec F S2x4x8192x256 .f32) : FVec F S2x4x8192x256 .f32 :=
  Host.divf v (broadcastInDim S2x4x8192x256 ![0, 1, 2, 3] bcast_S2x4x8192x1_S2x4x8192x256_0_1_2_3
    (broadcastInDim S2x4x8192x1 ![0, 1, 2] bcast_S2x4x8192_S2x4x8192x1_0_1_2
      (Host.reduceAdd v (constant S_ .f32 0x00000000#32) reducesTo_S2x4x8192x256_S2x4x8192_d3 h_S_)))

def g46 (v : FVec F S2x4x8192x256 .f32) (a4 : FVec F S2x256x2048 .f32) : FVec F S2x8192x1024 .f32 :=
  shapeCast S2x8192x1024 (transpose S2x8192x4x256 [0, 3, 1, 2] (Host.dotGeneral dot_S2x256x4x256_S2x4x8192x256_S2x4x256x8192_1_3_3_2_02_01 none
    (shapeCast S2x256x4x256 (extractStridedSlice S2x256x1024 ![0, 0, 1024] a4 slices_S2x256x2048_S2x256x1024_0_0_1024) shapeCasts_S2x256x1024_S2x256x4x256) v)
    transposes_S2x4x256x8192_S2x8192x4x256_0_3_1_2) shapeCasts_S2x8192x4x256_S2x8192x1024

def g49 (h v : FVec F S2x8192x1024 .f32) (a10 : FVec F S1024x1024 .f32) : FVec F S16384x1024 .f32 :=
  shapeCast S16384x1024 (addf h (Host.dotGeneral dot_S2x8192x1024_S1024x1024_S2x8192x1024_2_0_01_1_n_n none v a10)) shapeCasts_S2x8192x1024_S16384x1024

def g63 (h : FVec F S16384x1024 .f32) (a11 : FVec F S1024 .f32) : FVec F S16384x1024 .bf16 :=
  truncf .bf16 (mulf (mulf h (broadcastInDim S16384x1024 ![0, 1] bcast_S16384x1_S16384x1024_0_1 (Host.rsqrt (addf
      (Host.divf (broadcastInDim S16384x1 ![0] bcast_S16384_S16384x1_0 (Host.reduceAdd (mulf h h) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 a11))) bitsLt_bf16_f32

def g64 (v : FVec F S16384x1024 .bf16) : FVec F S1024x16384 .bf16 :=
  transpose S1024x16384 [1, 0] v transposes_S16384x1024_S1024x16384_1_0

/-- The hidden rows after the attention to the memory, from the arguments. -/
def gAll (a0 a1 : FVec F S2x8192x1024 .f32) (a2 : FVec F S2x8192x2048 .f32) (a3 : FVec F S2x8192x2x1024 .f32) (a4 : FVec F S2x256x2048 .f32)
    (a5 : FVec F S1024x1024 .f32) (a6 : FVec F S2048x1024 .f32) (a7 : FVec F S1024x1024 .f32) (a8 : FVec F S1024 .f32) (a9 a10 : FVec F S1024x1024 .f32) :
    FVec F S16384x1024 .f32 :=
  g49 (g10 a0 a1 a2 a3 a5 a6 a7)
    (g46 (g43 (g39 (g32 (g24 (g10 a0 a1 a2 a3 a5 a6 a7) a8 a9) a4) (g35 (g32 (g24 (g10 a0 a1 a2 a3 a5 a6 a7) a8 a9) a4)))) a4) a10

variable (m : (ℓ : Loc nD τ sig) → Buf (Elt F) ℓ) (c : Dev nD)
abbrev gAt : FVec F S16384x1024 .f32 := gAll (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9)) (m ((c.tc : Thread nD τ).loc main_arg10))

theorem res49 : res_main_v49 m c = gAt m c := by unfold res_main_v49; rfl
theorem res63 : res_main_v63 m c = g63 (gAt m c) (m ((c.tc : Thread nD τ).loc main_arg11)) := by unfold res_main_v63; rfl
theorem res64 : res_main_v64 m c = g64 (g63 (gAt m c) (m ((c.tc : Thread nD τ).loc main_arg11))) := by unfold res_main_v64; rfl
end Stages

/-- A host maximum over the last of four axes. -/
theorem hostMax_at {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (i : Fin n0) (j : Fin n1) (k : Fin n2) :
    Host.reduce FloatOps.maximumf x init h hu (ix3 i j k) =
      (Finset.univ : Finset (Fin n3)).fold max (init (Shape.Idx.first hu) : EReal) fun l => x (ix4 i j k l) :=
  (Host.reduce_eq_fold (α := EReal) max x init h hu (ix3 i j k)).trans (h.fold_fiber_r4_a3 (ix3 i j k) max _ x)

variable (E : Mrg)

theorem g10_at (a0 a1 : FVec Ideal S2x8192x1024 .f32) (a2 : FVec Ideal S2x8192x2048 .f32) (a3 : FVec Ideal S2x8192x2x1024 .f32) (a5 : FVec Ideal S1024x1024 .f32)
    (a6 : FVec Ideal S2048x1024 .f32) (a7 : FVec Ideal S1024x1024 .f32)
    (h0 : ∀ (b : Fin 2) (t : Fin 8192) (k : Fin 1024), a0 (ix3 b t k) = E.x (8192 * b + t) k)
    (h1 : ∀ (b : Fin 2) (t : Fin 8192) (k : Fin 1024), a1 (ix3 b t k) = E.at' (8192 * b + t) k)
    (h2 : ∀ (b : Fin 2) (t : Fin 8192) (k : Fin 2048), a2 (ix3 b t k) = E.sd (8192 * b + t) k)
    (hA : ∀ (b : Fin 2) (t : Fin 8192) (k : Fin 1024), a3 (ix4 b t 0 k) = E.ga (8192 * b + t) k)
    (hB : ∀ (b : Fin 2) (t : Fin 8192) (k : Fin 1024), a3 (ix4 b t 1 k) = E.gb (8192 * b + t) k)
    (h5 : ∀ k q : Fin 1024, a5 (ix2 k q) = E.wab k q) (h6 : ∀ (k : Fin 2048) (q : Fin 1024), a6 (ix2 k q) = E.wsb k q)
    (h7 : ∀ k q : Fin 1024, a7 (ix2 k q) = E.wout k q) (b : Fin 2) (t : Fin 8192) (q : Fin 1024) :
    g10 a0 a1 a2 a3 a5 a6 a7 (ix3 b t q) = mid E (8192 * b + t) q := by
  pointwise [g10, h0, h1, h2, hA, hB, h5, h6, h7, mid, gatedAt]

theorem g24_at (h : FVec Ideal S2x8192x1024 .f32) (a8 : FVec Ideal S1024 .f32) (a9 : FVec Ideal S1024x1024 .f32)
    (hh : ∀ (b : Fin 2) (t : Fin 8192) (k : Fin 1024), h (ix3 b t k) = mid E (8192 * b + t) k)
    (h8 : ∀ k : Fin 1024, a8 (ix1 k) = E.gc k) (h9 : ∀ k q : Fin 1024, a9 (ix2 k q) = E.wq k q) (b : Fin 2) (t : Fin 8192) (q : Fin 1024) :
    g24 h a8 a9 (ix3 b t q) = qry E (8192 * b + t) q := by
  pointwise [g24, hh, h8, h9, qry, proj, nrm]

theorem g32_at (v : FVec Ideal S2x8192x1024 .f32) (a4 : FVec Ideal S2x256x2048 .f32)
    (hv : ∀ (b : Fin 2) (t : Fin 8192) (k : Fin 1024), v (ix3 b t k) = qry E (8192 * b + t) k)
    (h4 : ∀ (b : Fin 2) (s : Fin 256) (k : Fin 2048), a4 (ix3 b s k) = E.kv b s k) (b : Fin 2) (h : Fin 4) (t : Fin 8192) (s : Fin 256) :
    g32 v a4 (ix4 b h t s) = lgt E (8192 * b + t) h s := by
  pointwise [g32, hv, h4, lgt, show (8192 * (b : ℕ) + t) / 8192 = b by omega, dot_S2x8192x4x256_S2x256x4x256_S2x4x8192x256_3_3_1_1_02_02, mul_comm (h : ℕ) 256]

theorem hostTop_at (v : FVec Ideal S2x4x8192x256 .f32) (b : Fin 2) (h : Fin 4) (t : Fin 8192) :
    Host.reduce FloatOps.maximumf v (constant S_ .f32 0xFF800000#32) reducesTo_S2x4x8192x256_S2x4x8192_d3 h_S_ (ix3 b h t) =
      (Finset.univ : Finset (Fin 256)).fold max (constant (F := Ideal) S_ .f32 0xFF800000#32 (Shape.Idx.first h_S_) : EReal) fun l => v (ix4 b h t l) :=
  hostMax_at (n0 := 2) (n1 := 4) (n2 := 8192) (n3 := 256) v (constant S_ .f32 0xFF800000#32) reducesTo_S2x4x8192x256_S2x4x8192_d3 h_S_ b h t

theorem larger_at {S : Shape} (a b : FVec Ideal S .f32) (i : S.Idx) : maximumf a b i = max (a i : EReal) (b i) := rfl

theorem g35_at (v : FVec Ideal S2x4x8192x256 .f32)
    (hv : ∀ (b : Fin 2) (h : Fin 4) (t : Fin 8192) (s : Fin 256), v (ix4 b h t s) = lgt E (8192 * b + t) h s) (b : Fin 2) (h : Fin 4) (t : Fin 8192) :
    g35 v (ix3 b h t) = top E (8192 * b + t) h := by
  unfold g35
  rw [larger_at, hostTop_at]
  simp only [hv]
  rw [show (constant (F := Ideal) S_ FTy.f32 0xFF800000#32 (Shape.Idx.first h_S_) : EReal) = ⊥ from ofBits_ninf]
  rw [top, ofBits_ninf]
  refine max_eq_right ?_
  pointwise []
  rw [ofBits_ninf]
  exact bot_le

theorem g39_at (v : FVec Ideal S2x4x8192x256 .f32) (x : FVec Ideal S2x4x8192 .f32)
    (hv : ∀ (b : Fin 2) (h : Fin 4) (t : Fin 8192) (s : Fin 256), v (ix4 b h t s) = lgt E (8192 * b + t) h s)
    (hx : ∀ (b : Fin 2) (h : Fin 4) (t : Fin 8192), x (ix3 b h t) = top E (8192 * b + t) h) (b : Fin 2) (h : Fin 4) (t : Fin 8192) (s : Fin 256) :
    g39 v x (ix4 b h t s) = wgt E (8192 * b + t) h s := by
  pointwise [g39, hv, hx, wgt]

theorem g43_at (v : FVec Ideal S2x4x8192x256 .f32)
    (hv : ∀ (b : Fin 2) (h : Fin 4) (t : Fin 8192) (s : Fin 256), v (ix4 b h t s) = wgt E (8192 * b + t) h s) (b : Fin 2) (h : Fin 4) (t : Fin 8192) (s : Fin 256) :
    g43 v (ix4 b h t s) = Ideal.div (wgt E (8192 * b + t) h s) (∑ s : Fin 256, wgt E (8192 * b + t) h s) := by
  pointwise [g43, hv]

theorem g46_at (v : FVec Ideal S2x4x8192x256 .f32) (a4 : FVec Ideal S2x256x2048 .f32)
    (hv : ∀ (b : Fin 2) (h : Fin 4) (t : Fin 8192) (s : Fin 256), v (ix4 b h t s) = Ideal.div (wgt E (8192 * b + t) h s) (∑ s : Fin 256, wgt E (8192 * b + t) h s))
    (h4 : ∀ (b : Fin 2) (s : Fin 256) (k : Fin 2048), a4 (ix3 b s k) = E.kv b s k) (b : Fin 2) (t : Fin 8192) (q : Fin 1024) :
    g46 v a4 (ix3 b t q) = headAt E (8192 * b + t) (q / 256) (q % 256) := by
  pointwise [g46, hv, h4, headAt, show (8192 * (b : ℕ) + t) / 8192 = b by omega, dot_S2x256x4x256_S2x4x8192x256_S2x4x256x8192_1_3_3_2_02_01]
  refine Finset.sum_congr rfl fun s _ => ?_
  rw [mul_comm, show 1024 + 256 * ((q : ℕ) / 256) + (q : ℕ) % 256 = 1024 + q by omega]

theorem g49_at (h v : FVec Ideal S2x8192x1024 .f32) (a10 : FVec Ideal S1024x1024 .f32)
    (hh : ∀ (b : Fin 2) (t : Fin 8192) (k : Fin 1024), h (ix3 b t k) = mid E (8192 * b + t) k)
    (hv : ∀ (b : Fin 2) (t : Fin 8192) (k : Fin 1024), v (ix3 b t k) = headAt E (8192 * b + t) (k / 256) (k % 256))
    (h10 : ∀ k q : Fin 1024, a10 (ix2 k q) = E.wo k q) (r : Fin 16384) (q : Fin 1024) : g49 h v a10 (ix2 r q) = res E r q := by
  pointwise [g49, hh, hv, h10, res, show 8192 * ((r : ℕ) / 8192) + (r : ℕ) % 8192 = r by omega]

theorem g63_at (h : FVec Ideal S16384x1024 .f32) (a11 : FVec Ideal S1024 .f32) (hh : ∀ (r : Fin 16384) (k : Fin 1024), h (ix2 r k) = res E r k)
    (h11 : ∀ k : Fin 1024, a11 (ix1 k) = E.gf k) (r : Fin 16384) (q : Fin 1024) : g63 h a11 (ix2 r q) = nxt E r q := by
  pointwise [g63, hh, h11, nxt, nrm]

theorem g64_at (v : FVec Ideal S16384x1024 .bf16) (hv : ∀ (r : Fin 16384) (k : Fin 1024), v (ix2 r k) = nxt E r k) (q : Fin 1024) (r : Fin 16384) :
    g64 v (ix2 q r) = nxt E r q := by
  pointwise [g64, hv]

section All
variable (a0 a1 : FVec Ideal S2x8192x1024 .f32) (a2 : FVec Ideal S2x8192x2048 .f32) (a3 : FVec Ideal S2x8192x2x1024 .f32) (a4 : FVec Ideal S2x256x2048 .f32)
    (a5 : FVec Ideal S1024x1024 .f32) (a6 : FVec Ideal S2048x1024 .f32) (a7 : FVec Ideal S1024x1024 .f32) (a8 : FVec Ideal S1024 .f32) (a9 a10 : FVec Ideal S1024x1024 .f32)
    (a11 : FVec Ideal S1024 .f32)

theorem mid_at (b : Fin 2) (t : Fin 8192) (q : Fin 1024) :
    g10 a0 a1 a2 a3 a5 a6 a7 (ix3 b t q) = mid (mrgOf a0 a1 a2 a3 a4 a5 a6 a7 a8 a9 a10 a11) (8192 * b + t) q :=
  g10_at _ a0 a1 a2 a3 a5 a6 a7 (rowOf_at a0) (rowOf_at a1)
    (fun b t k => (eq_nat3 a2 b t k).trans (by
      show _ = nat3 a2 ((8192 * (b : ℕ) + t) / 8192) ((8192 * (b : ℕ) + t) % 8192) k
      rw [show (8192 * (b : ℕ) + t) / 8192 = b by omega, show (8192 * (b : ℕ) + t) % 8192 = t by omega]))
    (fun b t k => (eq_nat4 a3 b t 0 k).trans (by
      show _ = nat4 a3 ((8192 * (b : ℕ) + t) / 8192) ((8192 * (b : ℕ) + t) % 8192) 0 k
      rw [show (8192 * (b : ℕ) + t) / 8192 = b by omega, show (8192 * (b : ℕ) + t) % 8192 = t by omega]
      rfl))
    (fun b t k => (eq_nat4 a3 b t 1 k).trans (by
      show _ = nat4 a3 ((8192 * (b : ℕ) + t) / 8192) ((8192 * (b : ℕ) + t) % 8192) 1 k
      rw [show (8192 * (b : ℕ) + t) / 8192 = b by omega, show (8192 * (b : ℕ) + t) % 8192 = t by omega]
      rfl))
    (eq_nat2 a5) (eq_nat2 a6) (eq_nat2 a7) b t q

theorem gAll_at (r : Fin 16384) (q : Fin 1024) : gAll a0 a1 a2 a3 a4 a5 a6 a7 a8 a9 a10 (ix2 r q) = res (mrgOf a0 a1 a2 a3 a4 a5 a6 a7 a8 a9 a10 a11) r q := by
  have hm := mid_at a0 a1 a2 a3 a4 a5 a6 a7 a8 a9 a10 a11
  have hl := g32_at (mrgOf a0 a1 a2 a3 a4 a5 a6 a7 a8 a9 a10 a11) _ a4 (g24_at (mrgOf a0 a1 a2 a3 a4 a5 a6 a7 a8 a9 a10 a11) _ a8 a9 hm (eq_nat1 a8) (eq_nat2 a9)) (eq_nat3 a4)
  have hw := g39_at (mrgOf a0 a1 a2 a3 a4 a5 a6 a7 a8 a9 a10 a11) _ _ hl (g35_at (mrgOf a0 a1 a2 a3 a4 a5 a6 a7 a8 a9 a10 a11) _ hl)
  exact g49_at (mrgOf a0 a1 a2 a3 a4 a5 a6 a7 a8 a9 a10 a11) _ _ a10 hm (g46_at (mrgOf a0 a1 a2 a3 a4 a5 a6 a7 a8 a9 a10 a11) _ a4 (g43_at (mrgOf a0 a1 a2 a3 a4 a5 a6 a7 a8 a9 a10 a11) _ hw) (eq_nat3 a4)) (eq_nat2 a10) r q
end All

end Cert.Reference4Ideal.Value
-- ==== Proof.MemProj.lean ====
/-
  The memory's keys and values: the array the kernel leaves and the reference's, both at an index.
-/
module

public import proofs.«01_k».proof.Proof.LayerSpec
public import proofs.«01_k».proof.Proof.Gen.Kernel5Ideal.Value
public import proofs.«01_k».proof.Proof.Gen.Reference5Ideal.Run
public import Idealize.ShloMosaic.Lib.Pointwise

@[expose] public section

set_option maxRecDepth 10000

noncomputable section

open Idealize.ShloMosaic Idealize.ShloMosaic.TcCoe Idealize.ShloMosaic.Tactic Idealize.SL.Sem
open Idealize.ShloMosaic.StableHlo
open scoped BigOperators

/-- Row `r` of the memory's two pages of 256 rows laid end to end. -/
def Cert.Ssd.memRow (x : (⟨3, ![2, 256, 1024]⟩ : Shape).Idx → EReal) (r k : ℕ) : EReal := Cert.Ssd.nat3 x (r / 256) (r % 256) k

/-- Row `r`, lane `q` of the memory's keys and values. -/
def Cert.Ssd.memAt (a0 : (⟨3, ![2, 256, 1024]⟩ : Shape).Idx → EReal) (a1 : (⟨1, ![1024]⟩ : Shape).Idx → EReal)
    (a2 : (⟨2, ![1024, 2048]⟩ : Shape).Idx → EReal) (r q : ℕ) : EReal :=
  Cert.Ssd.proj (Cert.Ssd.memRow a0 r) (Cert.Ssd.nat1 a1) fun k => Cert.Ssd.nat2 a2 k q

namespace Cert.Kernel5Ideal.Value

open Cert.Kernel5Ideal Cert.Kernel5Ideal.Gen Cert.Ssd

theorem pay_at (x0 : Vec Ideal S256x1024 .f32) (x1 : Vec Ideal S1x1024 .f32) (x2 : Vec Ideal S1024x2048 .bf16)
    (x g : ℕ → EReal) (w : ℕ → ℕ → EReal) (r : Fin 256) (h0 : ∀ k : Fin 1024, x0 (ix2 r k) = x k) (h1 : ∀ k : Fin 1024, x1 (ix2 0 k) = g k)
    (h2 : ∀ (k : Fin 1024) (q : Fin 2048), x2 (ix2 k q) = w k q) (q : Fin 2048) :
    k0_pay1 x0 x1 x2 (ix2 r q) = proj x g fun k => w k q := by
  pointwise [k0_pay1, h0, h1, h2, proj, nrm]

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 256) (q : Fin 1024) (r' : Fin 512) (hr : (r' : ℕ) = 256 * t + r) :
    (iblk m c 0 t : Vec F S256x1024 .f32) (ix2 r q) = (V m c main_v0 : Vec F S512x1024 .f32) (ix2 r' q) := by
  obtain ⟨e0, e1⟩ := index0 t
  refine congrArg (V m c main_v0 : Vec F S512x1024 .f32) (funext (Fin.forall_fin_two.mpr ⟨Fin.ext ?_, Fin.ext ?_⟩))
  · show win0_0.index t (0 : Fin 2) * 256 + 1 * (r : ℕ) = r'
    omega
  · show win0_0.index t (1 : Fin 2) * 1024 + 1 * (q : ℕ) = q
    omega
theorem index1 : ∀ t : Fin cfg0.N, win0_1.index t (0 : Fin 2) = 0 ∧ win0_1.index t (1 : Fin 2) = 0 :=
  (by decide +kernel : ∀ t : Fin grid0.N, _)
theorem iblk1_at (c : Dev nD) (t : Fin cfg0.N) (q : Fin 1024) :
    (iblk m c 1 t : Vec F S1x1024 .f32) (ix2 0 q) = (V m c main_v1 : Vec F S1x1024 .f32) (ix2 0 q) := by
  obtain ⟨e0, e1⟩ := index1 t
  refine congrArg (V m c main_v1 : Vec F S1x1024 .f32) (funext (Fin.forall_fin_two.mpr ⟨Fin.ext ?_, Fin.ext ?_⟩))
  · show win0_1.index t (0 : Fin 2) * 1 + 1 * 0 = 0
    omega
  · show win0_1.index t (1 : Fin 2) * 1024 + 1 * (q : ℕ) = q
    omega
theorem index2 : ∀ t : Fin cfg0.N, win0_2.index t (0 : Fin 2) = 0 ∧ win0_2.index t (1 : Fin 2) = 0 :=
  (by decide +kernel : ∀ t : Fin grid0.N, _)
theorem iblk2_at (c : Dev nD) (t : Fin cfg0.N) (r : Fin 1024) (q : Fin 2048) :
    (iblk m c 2 t : Vec F S1024x2048 .bf16) (ix2 r q) = (V m c main_v2 : Vec F S1024x2048 .bf16) (ix2 r q) := by
  obtain ⟨e0, e1⟩ := index2 t
  refine congrArg (V m c main_v2 : Vec F S1024x2048 .bf16) (funext (Fin.forall_fin_two.mpr ⟨Fin.ext ?_, Fin.ext ?_⟩))
  · show win0_2.index t (0 : Fin 2) * 1024 + 1 * (r : ℕ) = r
    omega
  · show win0_2.index t (1 : Fin 2) * 2048 + 1 * (q : ℕ) = q
    omega
theorem index3 : ∀ t : Fin cfg0.N, win0_3.index t (0 : Fin 2) = t.val ∧ win0_3.index t (1 : Fin 2) = 0 :=
  (by decide +kernel : ∀ t : Fin grid0.N, _)

theorem V_v0 (c : Dev nD) : (V m c main_v0 : Vec F S512x1024 .f32) =
    shapeCast S512x1024 (m (c, Proc.devRef .tc main_arg0) : Vec F S2x256x1024 .f32) shapeCasts_S2x256x1024_S512x1024 := by
  unfold V
  after_results
  rfl
theorem V_v1 (c : Dev nD) : (V m c main_v1 : Vec F S1x1024 .f32) =
    shapeCast S1x1024 (m (c, Proc.devRef .tc main_arg1) : Vec F S1024 .f32) shapeCasts_S1024_S1x1024 := by
  unfold V
  after_results
  rfl
theorem V_v2 (c : Dev nD) : (V m c main_v2 : Vec F S1024x2048 .bf16) =
    truncf .bf16 (m (c, Proc.devRef .tc main_arg2) : Vec F S1024x2048 .f32) bitsLt_bf16_f32 := by
  unfold V
  after_results
end Blocks

theorem v0_at (a : Vec Ideal S2x256x1024 .f32) (r : Fin 512) (q : Fin 1024) :
    shapeCast S512x1024 a shapeCasts_S2x256x1024_S512x1024 (ix2 r q) = memRow a r q := by
  have h := fun a' b' c' => eq_nat3 (a := 2) (b := 256) (c := 1024) a a' b' c'
  pointwise [h, memRow]
theorem v1_at (a : Vec Ideal S1024 .f32) (q : Fin 1024) : shapeCast S1x1024 a shapeCasts_S1024_S1x1024 (ix2 0 q) = nat1 a q := by
  have h := fun a' => eq_nat1 (a := 1024) a a'
  pointwise [h]
theorem v2_at (a : Vec Ideal S1024x2048 .f32) (r : Fin 1024) (q : Fin 2048) :
    truncf (F := Ideal) .bf16 (a : FVec Ideal S1024x2048 .f32) bitsLt_bf16_f32 (ix2 r q) = nat2 a r q := by
  have h := fun a' b' => eq_nat2 (a := 1024) (b := 2048) a a' b'
  pointwise [h]

variable (m : (ℓ : Loc nD τ sig) → Buf (Elt Ideal) ℓ) (c : Dev nD)

theorem hz2 : (![0, 0] : Fin 2 → Nat) = fun _ => 0 := funext fun a => by fin_cases a <;> rfl

/-- The array after the run, at a row and a lane. -/
theorem out_at (r : Fin 512) (q : Fin 2048) :
    ((dats m 0 c).arrAt 3 cfg0.N : Vec Ideal S512x2048 .bf16) (ix2 r q) =
      memAt (m (c, Proc.devRef .tc main_arg0)) (m (c, Proc.devRef .tc main_arg1)) (m (c, Proc.devRef .tc main_arg2)) r q := by
  have hr : (r : ℕ) / 256 < cfg0.N := lt_of_lt_of_eq (by omega) (show 2 = cfg0.N from N_0.symm)
  obtain ⟨e0, e1⟩ := index3 ⟨(r : ℕ) / 256, hr⟩
  have h := congrFun ((blocks3 m c ⟨(r : ℕ) / 256, hr⟩ (flush0_3 _)).trans (flushed3 m c _)) (ix2 (⟨(r : ℕ) % 256, by omega⟩ : Fin 256) q)
  refine (congrArg ((dats m 0 c).arrAt 3 cfg0.N : Vec Ideal S512x2048 .bf16) (funext (Fin.forall_fin_two.mpr ⟨Fin.ext ?_, Fin.ext ?_⟩))).trans (h.trans ?_)
  · show (r : ℕ) = win0_3.index ⟨(r : ℕ) / 256, hr⟩ (0 : Fin 2) * 256 + 1 * ((r : ℕ) % 256)
    dsimp only at e0
    omega
  · show (q : ℕ) = win0_3.index ⟨(r : ℕ) / 256, hr⟩ (1 : Fin 2) * 2048 + 1 * (q : ℕ)
    omega
  show out0_3 _ _ _ (ix2 (⟨(r : ℕ) % 256, by omega⟩ : Fin 256) q) = _
  unfold out0_3
  rw [View.canon_unit_zero hz2, View.ld_unit_zero hz2, View.ld_unit_zero hz2, View.ld_unit_zero hz2]
  refine pay_at _ _ _ _ _ (fun k q => nat2 (m (c, Proc.devRef .tc main_arg2)) k q) _ (fun k => ?_) (fun k => ?_) (fun k q => ?_) q
  · exact (iblk0_at m c _ _ k r (by show (r : ℕ) = 256 * ((r : ℕ) / 256) + (r : ℕ) % 256; omega)).trans ((congrFun (V_v0 m c) _).trans (v0_at _ r k))
  · exact (iblk1_at m c _ k).trans ((congrFun (V_v1 m c) _).trans (v1_at _ k))
  · exact (iblk2_at m c _ k q).trans ((congrFun (V_v2 m c) _).trans (v2_at _ k q))

end Cert.Kernel5Ideal.Value

namespace Cert.Reference5Ideal.Value

open Cert.Reference5Ideal Cert.Reference5Ideal.Gen Cert.Ssd

theorem ref_at (a0 : FVec Ideal S2x256x1024 .f32) (a1 : FVec Ideal S1024 .f32) (a2 : FVec Ideal S1024x2048 .f32) (r : Fin 512) (q : Fin 2048) :
    truncf (F := Ideal) .bf16 (shapeCast S512x2048 (Host.dotGeneral dot_S2x256x1024_S1024x2048_S2x256x2048_2_0_01_1_n_n none (mulf (mulf a0 (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf a0 a0) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 a1))) a2) shapeCasts_S2x256x2048_S512x2048) bitsLt_bf16_f32 (ix2 r q)
      = memAt a0 a1 a2 r q := by
  have h0 := fun a' b' c' => eq_nat3 (a := 2) (b := 256) (c := 1024) a0 a' b' c'
  have h1 := fun a' => eq_nat1 (a := 1024) a1 a'
  have h2 := fun a' b' => eq_nat2 (a := 1024) (b := 2048) a2 a' b'
  pointwise [h0, h1, h2, memAt, proj, nrm, memRow]

end Cert.Reference5Ideal.Value
-- ==== Proof.AttnSpec.lean ====
/-
  The attention's projections as functions of the entries, at natural indices: each head's lanes turned by the
  token's position, and the lanes' rates.
-/
module

public import proofs.«01_k».proof.Proof.LayerSpec
public import Idealize.ShloMosaic.Lib.Routing.OpsSet

@[expose] public section

noncomputable section

namespace Cert.Ssd

open Idealize.ShloMosaic Idealize.ShloMosaic.TcCoe
open scoped BigOperators

/-- Row `r`, column `c` of the normed rows' projection. -/
def prj (a0 : (⟨3, ![2, 8192, 1024]⟩ : Shape).Idx → EReal) (a2 : (⟨1, ![1024]⟩ : Shape).Idx → EReal)
    (a3 : (⟨2, ![1024, 9060]⟩ : Shape).Idx → EReal) (r c : ℕ) : EReal :=
  proj (rowOf a0 r) (nat1 a2) fun k => nat2 a3 k c

/-- The position of row `r`, as a number. -/
def posOf (a1 : (⟨2, ![2, 8192]⟩ : Shape).Idx → BitVec 32) (r : ℕ) : EReal :=
  nat2 (fun i => FloatOps.sitofp (F := Ideal) FTy.f32 (a1 i)) (r / 8192) (r % 8192)

/-- Lane `i`'s rate, among lanes whose exponents step by two over the extent with the bits `D`. -/
def rate (D : BitVec 32) (i : ℕ) : EReal :=
  Ideal.pow (Ideal.ofBits FTy.f32 1223959552#32)
    (Ideal.div (Ideal.ofBits FTy.f32 3221225472#32 * FloatOps.sitofp (F := Ideal) FTy.f32 (BitVec.ofNat 32 i)) (Ideal.ofBits FTy.f32 D))

/-- A head's lanes `X` with the first `2 w` turned in pairs `w` apart, by the angles `A`. -/
def turn (A : ℕ → EReal) (w : ℕ) (X : ℕ → EReal) (j : ℕ) : EReal :=
  if j < w then X j * Ideal.cos (A j) - X (j + w) * Ideal.sin (A j)
  else if j < 2 * w then X j * Ideal.cos (A (j - w)) + X (j - w) * Ideal.sin (A (j - w))
  else X j

/-- The angles of the attention's own heads. -/
def ang (p : EReal) (i : ℕ) : EReal := p * rate 1107296256#32 i

/-- The angles of the indexing heads. -/
def angI (p : EReal) (i : ℕ) : EReal := p * rate 1098907648#32 i

/-- The projections of one call: its columns, and the positions. -/
structure Att where
  pr : ℕ → ℕ → EReal
  po : ℕ → EReal

/-- The call's columns and positions, from the arguments both programs take. -/
def attOf (a0 : (⟨3, ![2, 8192, 1024]⟩ : Shape).Idx → EReal) (a1 : (⟨2, ![2, 8192]⟩ : Shape).Idx → BitVec 32)
    (a2 : (⟨1, ![1024]⟩ : Shape).Idx → EReal) (a3 : (⟨2, ![1024, 9060]⟩ : Shape).Idx → EReal) : Att :=
  ⟨prj a0 a2 a3, posOf a1⟩

variable (E : Att)

/-- A query's lane. -/
def qAt (r c : ℕ) : EReal := turn (ang (E.po r)) 16 (fun d => E.pr r (128 * (c / 128) + d)) (c % 128)

/-- A key's lane. -/
def kAt (r c : ℕ) : EReal := turn (ang (E.po r)) 16 (fun d => E.pr r (1024 + 128 * (c / 128) + d)) (c % 128)

/-- A value's lane. -/
def vAt (r c : ℕ) : EReal := E.pr r (1280 + c)

/-- An indexing query's lane: 64 lanes, then zeros. -/
def iqAt (r c : ℕ) : EReal :=
  if c % 128 < 64 then turn (angI (E.po r)) 8 (fun d => E.pr r (1536 + 64 * (c / 128) + d)) (c % 128) else 0

/-- The indexing key's lane: 64 lanes, then zeros. -/
def ikAt (r c : ℕ) : EReal := if c < 64 then turn (angI (E.po r)) 8 (fun d => E.pr r (1792 + d)) c else 0

/-- An indexing head's weight: 4, then zeros. -/
def iwAt (r c : ℕ) : EReal := if c < 4 then E.pr r (1856 + c) else 0

/-! ## A head as the kernel turns it -/

/-- The kernel's lane `j`: the lane by the cosine, and its partner, `w` on or back, by the signed sine. -/
def kturn (C S : ℕ → EReal) (neg : ℕ → BitVec 1) (w : ℕ) (X : ℕ → EReal) (j : ℕ) : EReal :=
  X j * C j + Scalar.select (neg j) (X ((j + 128 - (128 - w)) % 128)) (X ((j + 128 - w) % 128)) * S j

/-- The rate and sign rows over 128 lanes. -/
def rateRow (D : BitVec 32) (w j : ℕ) : EReal := if j < w then rate D j else if j < 2 * w then rate D (j - w) else 0
def signRow (w j : ℕ) : EReal := if j < w then -1 else if j < 2 * w then 1 else 0

theorem kturn_eq (C S : ℕ → EReal) (neg : ℕ → BitVec 1) (w : ℕ) (D : BitVec 32) (p : EReal) (X : ℕ → EReal) (j : ℕ) (hw : 2 * w ≤ 128) (hj : j < 128)
    (hC : C j = Ideal.cos (p * rateRow D w j)) (hS : S j = Ideal.sin (p * rateRow D w j) * signRow w j)
    (hn : neg j = BitVec.ofBool (decide (signRow w j < 0))) :
    kturn C S neg w X j = turn (fun i => p * rate D i) w X j := by
  rw [kturn, hC, hS, hn, turn, rateRow, signRow]
  by_cases h1 : j < w
  · rw [if_pos h1, if_pos h1, if_pos h1, show (j + 128 - (128 - w)) % 128 = j + w by omega]
    have : decide ((-1 : EReal) < 0) = true := by simp
    rw [this, sub_eq_add_neg]
    simp [Scalar.select]
  · rw [if_neg h1, if_neg h1, if_neg h1]
    by_cases h2 : j < 2 * w
    · rw [if_pos h2, if_pos h2, if_pos h2, show (j + 128 - w) % 128 = j - w by omega]
      have : decide ((1 : EReal) < 0) = false := by simp
      rw [this]
      simp [Scalar.select]
    · rw [if_neg h2, if_neg h2, if_neg h2]
      have : Ideal.cos 0 = 1 := (congrArg (fun x : ℝ => (x : EReal)) Real.cos_zero).trans EReal.coe_one
      rw [mul_zero, mul_zero, mul_zero, this, mul_one, add_zero]

/-- A head whose lanes beyond the 64th are zero. -/
theorem turn_pad (A X Y : ℕ → EReal) (j : ℕ) (hX : ∀ d, X d = if d < 64 then Y d else 0) :
    turn A 8 X j = if j < 64 then turn A 8 Y j else 0 := by
  unfold turn
  simp only [hX]
  split_ifs <;> first | rfl | omega

/-- Two turns of heads that agree. -/
theorem turn_congr (A A' X Y : ℕ → EReal) (w j : ℕ) (hA : ∀ i, A i = A' i) (hX : ∀ d, d < 128 → X d = Y d) (hw : 2 * w ≤ 128) (hj : j < 128) :
    turn A w X j = turn A' w Y j := by
  obtain rfl : A = A' := funext hA
  unfold turn
  split_ifs
  · rw [hX _ hj, hX _ (by omega)]
  · rw [hX _ hj, hX _ (by omega)]
  · exact hX _ hj

/-- A head laid from its turned halves and the lanes left as they are. -/
theorem turn_cat (A : ℕ → EReal) (w v : ℕ) (X : ℕ → EReal) (j : ℕ) (hv : v = 2 * w) :
    (if h : j < w then X j * Ideal.cos (A j) - X (w + j) * Ideal.sin (A j)
      else if h : j - w < w then X (w + (j - w)) * Ideal.cos (A (j - w)) + X (j - w) * Ideal.sin (A (j - w))
      else X (v + (j - w - w))) = turn A w X j := by
  unfold turn
  by_cases h1 : j < w
  · rw [dif_pos h1, if_pos h1, Nat.add_comm w j]
  · rw [dif_neg h1, if_neg h1]
    by_cases h2 : j < 2 * w
    · rw [dif_pos (by omega), if_pos h2, show w + (j - w) = j by omega]
    · rw [dif_neg (by omega), if_neg h2, show v + (j - w - w) = j by omega]

/-- A padded entry: zero where the condition fails. -/
theorem pad_if {c d : Prop} [Decidable c] [Decidable d] (h : c ↔ d) (a : EReal) :
    (if _ : c then a else (FloatOps.sitofp (F := Ideal) FTy.f32 0#32 : EReal)) = if d then a else 0 := by
  have z : (FloatOps.sitofp (F := Ideal) FTy.f32 0#32 : EReal) = 0 := by simp [FloatOps.sitofp]
  rw [z]
  by_cases hd : d
  · rw [dif_pos (h.2 hd), if_pos hd]
  · rw [dif_neg (fun hc => hd (h.1 hc)), if_neg hd]

/-! ## Setting a stretch of a vector -/

section Stretch
variable {α : Type} {N U : ℕ} (d : ScatterDims (⟨1, ![N]⟩ : Shape) ⟨1, ![1]⟩ ⟨1, ![U]⟩) (x : (⟨1, ![N]⟩ : Shape).Idx → α)
  (i : IVec (⟨1, ![1]⟩ : Shape) 32) (u : (⟨1, ![U]⟩ : Shape).Idx → α) (o : ℕ)

/-- The vector after the stretch of `U` entries from `o` is set. -/
theorem stretch_at (hd : ∀ k : Fin U, d.start (ix1 k) i 0 + (d.window (ix1 k) 0 : ℤ) = ((o + k : ℕ) : ℤ)) (j : Fin N) :
    Host.scatter d (fun _ b => b) x i u (ix1 j) = if h : o ≤ j ∧ (j : ℕ) < o + U then u (ix1 ⟨(j : ℕ) - o, by omega⟩) else x (ix1 j) := by
  have key : ∀ k : Fin U, d.resultIdx? (ix1 k) i = some (ix1 j) ↔ o + (k : ℕ) = j := fun k => by
    rw [Routing.resultIdx?_eq_some]
    constructor
    · intro q
      have := q 0
      rw [hd k] at this
      exact_mod_cast this
    · intro q a
      obtain rfl : a = 0 := Subsingleton.elim _ _
      rw [hd k, q]
      rfl
  split
  · next h =>
    refine Routing.scatter_set_hit d x i u _ _ (fun k hk => ?_) (ix1 ⟨(j : ℕ) - o, by omega⟩) ((key _).2 (by show o + ((j : ℕ) - o) = j; omega))
    obtain ⟨k, rfl⟩ : ∃ k' : Fin U, k = ix1 k' := ⟨k 0, funext fun a => by obtain rfl : a = 0 := Subsingleton.elim _ _; rfl⟩
    have := (key k).1 hk
    exact congrArg u (congrArg ix1 (Fin.ext (by show (k : ℕ) = (j : ℕ) - o; omega)))
  · next h =>
    refine Routing.scatter_set_miss d x i u _ (fun k hk => h ?_)
    obtain ⟨k, rfl⟩ : ∃ k' : Fin U, k = ix1 k' := ⟨k 0, funext fun a => by obtain rfl : a = 0 := Subsingleton.elim _ _; rfl⟩
    have := (key k).1 hk
    omega

end Stretch

end Cert.Ssd
-- ==== Proof.AttnPoint.lean ====
/-
  The attention's projections at a block: each head's lanes turned, at an index.
-/
module

public import proofs.«01_k».proof.Proof.AttnSpec
public import proofs.«01_k».proof.Proof.SsdPoint
public import proofs.«01_k».proof.Proof.Gen.Kernel6Ideal.Value
public import Idealize.ShloMosaic.Lib.Pointwise

@[expose] public section

set_option maxRecDepth 10000

noncomputable section

namespace Cert.Kernel6Ideal.Value

open Idealize.ShloMosaic Idealize.ShloMosaic.TcCoe Idealize.ShloMosaic.Tactic Idealize.SL.Sem
open Idealize.ShloMosaic.StableHlo
open Cert.Kernel6Ideal Cert.Kernel6Ideal.Gen Cert.Ssd
open Cert.KernelIdeal.Value (ld2_at piece2_at)
open scoped BigOperators

section Heads
variable (P : FVec Ideal S512x2304 .f32) (C S : FVec Ideal S512x128 .f32) (N : IVec S1x128 1)
  (p c s : ℕ → ℕ → EReal) (n : ℕ → BitVec 1)
  (hp : ∀ (r : Fin 512) (q : Fin 2304), P (ix2 r q) = p r q)
  (hc : ∀ (r : Fin 512) (j : Fin 128), C (ix2 r j) = c r j) (hs : ∀ (r : Fin 512) (j : Fin 128), S (ix2 r j) = s r j)
  (hn : ∀ j : Fin 128, N (ix2 0 j) = n j) (r : Fin 512) (j : Fin 128)
include hp hc hs hn

theorem pay17_at : k0_pay17 (F := Ideal) P C S N (ix2 j r) = kturn (c r) (s r) n 16 (fun d => p r (0 + d)) j := by
  pointwise [k0_pay17, hp, hc, hs, hn, kturn]
theorem pay18_at : k0_pay18 (F := Ideal) P C S N (ix2 j r) = kturn (c r) (s r) n 16 (fun d => p r (128 + d)) j := by
  pointwise [k0_pay18, hp, hc, hs, hn, kturn]
theorem pay19_at : k0_pay19 (F := Ideal) P C S N (ix2 j r) = kturn (c r) (s r) n 16 (fun d => p r (256 + d)) j := by
  pointwise [k0_pay19, hp, hc, hs, hn, kturn]
theorem pay20_at : k0_pay20 (F := Ideal) P C S N (ix2 j r) = kturn (c r) (s r) n 16 (fun d => p r (384 + d)) j := by
  pointwise [k0_pay20, hp, hc, hs, hn, kturn]
theorem pay21_at : k0_pay21 (F := Ideal) P C S N (ix2 j r) = kturn (c r) (s r) n 16 (fun d => p r (512 + d)) j := by
  pointwise [k0_pay21, hp, hc, hs, hn, kturn]
theorem pay22_at : k0_pay22 (F := Ideal) P C S N (ix2 j r) = kturn (c r) (s r) n 16 (fun d => p r (640 + d)) j := by
  pointwise [k0_pay22, hp, hc, hs, hn, kturn]
theorem pay27_at : k0_pay27 (F := Ideal) C S (k0_pay23 P) (k0_pay24 P) (k0_pay25 P) (k0_pay26 N) (ix2 j r) = kturn (c r) (s r) n 16 (fun d => p r (768 + d)) j := by
  pointwise [k0_pay27, k0_pay23, k0_pay24, k0_pay25, k0_pay26, hp, hc, hs, hn, kturn]
theorem pay28_at : k0_pay28 (F := Ideal) P C S N (ix2 j r) = kturn (c r) (s r) n 16 (fun d => p r (896 + d)) j := by
  pointwise [k0_pay28, hp, hc, hs, hn, kturn]
theorem pay29_at : k0_pay29 (F := Ideal) P C S N (ix2 r j) = kturn (c r) (s r) n 16 (fun d => p r (1024 + d)) j := by
  pointwise [k0_pay29, hp, hc, hs, hn, kturn]
theorem pay30_at : k0_pay30 (F := Ideal) P C S N (ix2 r j) = kturn (c r) (s r) n 16 (fun d => p r (1152 + d)) j := by
  pointwise [k0_pay30, hp, hc, hs, hn, kturn]
theorem pay34_at : k0_pay34 (F := Ideal) P C S N (ix2 j r) = kturn (c r) (s r) n 8 (fun d => p r (1536 + d)) j := by
  pointwise [k0_pay34, hp, hc, hs, hn, kturn]
theorem pay35_at : k0_pay35 (F := Ideal) P C S N (ix2 j r) = kturn (c r) (s r) n 8 (fun d => p r (1664 + d)) j := by
  pointwise [k0_pay35, hp, hc, hs, hn, kturn]
theorem pay1_at : k0_pay1 (F := Ideal) C S (k0_pay36 P) (k0_pay37 P) (k0_pay38 P) (k0_pay39 N) (ix2 j r) = kturn (c r) (s r) n 8 (fun d => p r (1792 + d)) j := by
  pointwise [k0_pay1, k0_pay36, k0_pay37, k0_pay38, k0_pay39, hp, hc, hs, hn, kturn]
theorem pay2_at : k0_pay2 (F := Ideal) P C S N (ix2 j r) = kturn (c r) (s r) n 8 (fun d => p r (1920 + d)) j := by
  pointwise [k0_pay2, hp, hc, hs, hn, kturn]
theorem pay3_at : k0_pay3 (F := Ideal) P C S N (ix2 r j) = kturn (c r) (s r) n 8 (fun d => p r (2048 + d)) j := by
  pointwise [k0_pay3, hp, hc, hs, hn, kturn]

end Heads

/-! ## The angles' cosines and signed sines -/

theorem pay5_at (x0 : Vec Ideal S512x1024 .f32) (x1 : Vec Ideal S1x1024 .f32) (x2 : Vec Ideal S1024x2304 .bf16)
    (x g : ℕ → EReal) (w : ℕ → ℕ → EReal) (r : Fin 512) (h0 : ∀ k : Fin 1024, x0 (ix2 r k) = x k) (h1 : ∀ k : Fin 1024, x1 (ix2 0 k) = g k)
    (h2 : ∀ (k : Fin 1024) (q : Fin 2304), x2 (ix2 k q) = w k q) (q : Fin 2304) :
    k0_pay5 x0 x1 x2 (ix2 r q) = proj x g fun k => w k q := by
  pointwise [k0_pay5, h0, h1, h2, proj, nrm]

section Angles
variable (x3 : FVec Ideal S512x1 .f32) (t u : FVec Ideal S1x128 .f32) (po ra si : ℕ → EReal)
  (h3 : ∀ r : Fin 512, x3 (ix2 r 0) = po r) (ht : ∀ j : Fin 128, t (ix2 0 j) = ra j) (hu : ∀ j : Fin 128, u (ix2 0 j) = si j)
  (r : Fin 512) (j : Fin 128)
include h3 ht hu

theorem pay9_at : k0_pay9 (F := Ideal) x3 t (ix2 r j) = Ideal.cos (po r * ra j) := by
  pointwise [k0_pay9, k0_pay7, k0_pay6, h3, ht]
theorem pay10_at : k0_pay10 (F := Ideal) x3 t u (ix2 r j) = Ideal.sin (po r * ra j) * si j := by
  pointwise [k0_pay10, k0_pay8, k0_pay7, k0_pay6, h3, ht, hu]
theorem pay14_at : k0_pay14 (F := Ideal) (k0_pay12 x3 t) (ix2 r j) = Ideal.cos (po r * ra j) := by
  pointwise [k0_pay14, k0_pay12, k0_pay6, h3, ht]
theorem pay15_at : k0_pay15 (F := Ideal) (k0_pay12 x3 t) u (ix2 r j) = Ideal.sin (po r * ra j) * si j := by
  pointwise [k0_pay15, k0_pay13, k0_pay12, k0_pay6, h3, ht, hu]
end Angles

theorem pay11_at (u : FVec Ideal S1x128 .f32) (si : ℕ → EReal) (hu : ∀ j : Fin 128, u (ix2 0 j) = si j) (j : Fin 128) :
    k0_pay11 (F := Ideal) u (ix2 0 j) = BitVec.ofBool (decide (si j < 0)) := by
  pointwise [k0_pay11, k0_pay8, hu]
theorem pay16_at (u : FVec Ideal S1x128 .f32) (si : ℕ → EReal) (hu : ∀ j : Fin 128, u (ix2 0 j) = si j) (j : Fin 128) :
    k0_pay16 (F := Ideal) u (ix2 0 j) = BitVec.ofBool (decide (si j < 0)) := by
  pointwise [k0_pay16, k0_pay13, hu]

/-! ## What a grid point leaves -/

/-- Lane `c` of row `r` among heads of 128 lanes from column `b`. -/
def headAt (D : BitVec 32) (w : ℕ) (po : ℕ → EReal) (p : ℕ → ℕ → EReal) (b r c : ℕ) : EReal :=
  turn (fun i => po r * rate D i) w (fun d => p r (b + 128 * (c / 128) + d)) (c % 128)

def cosAt (D : BitVec 32) (w : ℕ) (po : ℕ → EReal) (r j : ℕ) : EReal := Ideal.cos (po r * rateRow D w j)
def sinAt (D : BitVec 32) (w : ℕ) (po : ℕ → EReal) (r j : ℕ) : EReal := Ideal.sin (po r * rateRow D w j) * signRow w j
def negAt (w j : ℕ) : BitVec 1 := BitVec.ofBool (decide (signRow w j < 0))

theorem head_at (D : BitVec 32) (w : ℕ) (po : ℕ → EReal) (p : ℕ → ℕ → EReal) (b o o' r j : ℕ) (hw : 2 * w ≤ 128) (hj : j < 128)
    (ho : o % 128 = 0) (ho' : o' = b + o) :
    kturn (cosAt D w po r) (sinAt D w po r) (negAt w) w (fun d => p r (o' + d)) j = headAt D w po p b r (o + j) := by
  rw [kturn_eq _ _ _ w D (po r) _ j hw hj rfl rfl rfl, headAt, ho', show (o + j) % 128 = j by omega, show 128 * ((o + j) / 128) = o by omega]

section Out
variable (x0 : Vec Ideal S512x1024 .f32) (x1 : Vec Ideal S1x1024 .f32) (x2 : Vec Ideal S1024x2304 .bf16) (x3 : Vec Ideal S512x1 .f32) (x4 : Vec Ideal S4x128 .f32)
  (p : ℕ → ℕ → EReal) (po : ℕ → EReal)
  (hp : ∀ (r : Fin 512) (q : Fin 2304), k0_pay40 x0 x1 x2 x3 x4 (ix2 r q) = p r q)
  (h3 : ∀ r : Fin 512, x3 (ix2 r 0) = po r)
  (t0 : ∀ j : Fin 128, x4 (ix2 0 j) = rateRow 1107296256#32 16 j) (t1 : ∀ j : Fin 128, x4 (ix2 1 j) = signRow 16 j)
  (t2 : ∀ j : Fin 128, x4 (ix2 2 j) = rateRow 1098907648#32 8 j) (t3 : ∀ j : Fin 128, x4 (ix2 3 j) = signRow 8 j)

theorem hz2 : (![0, 0] : Fin 2 → Nat) = fun _ => 0 := funext fun a => by fin_cases a <;> rfl

theorem row0_at (j : Fin 128) : View.ld x4 r0_4 (ix2 0 j : S1x128.Idx) = x4 (ix2 0 j) :=
  (ld2_at (m0 := 1) (m1 := 128) x4 0 0 _ 0 j (by omega) (by omega)).trans (congrArg x4 (congrArg₂ ix2 rfl (Fin.ext (Nat.zero_add _))))
theorem row1_at (j : Fin 128) : View.ld x4 r0_5 (ix2 0 j : S1x128.Idx) = x4 (ix2 1 j) :=
  (ld2_at (m0 := 1) (m1 := 128) x4 1 0 _ 0 j (by omega) (by omega)).trans (congrArg x4 (congrArg₂ ix2 rfl (Fin.ext (Nat.zero_add _))))
theorem row2_at (j : Fin 128) : View.ld x4 r0_6 (ix2 0 j : S1x128.Idx) = x4 (ix2 2 j) :=
  (ld2_at (m0 := 1) (m1 := 128) x4 2 0 _ 0 j (by omega) (by omega)).trans (congrArg x4 (congrArg₂ ix2 rfl (Fin.ext (Nat.zero_add _))))
theorem row3_at (j : Fin 128) : View.ld x4 r0_7 (ix2 0 j : S1x128.Idx) = x4 (ix2 3 j) :=
  (ld2_at (m0 := 1) (m1 := 128) x4 3 0 _ 0 j (by omega) (by omega)).trans (congrArg x4 (congrArg₂ ix2 rfl (Fin.ext (Nat.zero_add _))))
include h3 t0 t1 in
theorem pay41_at (r : Fin 512) (j : Fin 128) : k0_pay41 x0 x1 x2 x3 x4 (ix2 r j) = cosAt 1107296256#32 16 po r j := by
  unfold k0_pay41
  rw [View.ld_unit_zero hz2]
  exact pay9_at x3 (View.ld x4 r0_4) (View.ld x4 r0_5) po _ _ h3 (fun j => (row0_at x4 j).trans (t0 j)) (fun j => (row1_at x4 j).trans (t1 j)) r j
include h3 t0 t1 in
theorem pay42_at (r : Fin 512) (j : Fin 128) : k0_pay42 x0 x1 x2 x3 x4 (ix2 r j) = sinAt 1107296256#32 16 po r j := by
  unfold k0_pay42
  rw [View.ld_unit_zero hz2]
  exact pay10_at x3 (View.ld x4 r0_4) (View.ld x4 r0_5) po _ _ h3 (fun j => (row0_at x4 j).trans (t0 j)) (fun j => (row1_at x4 j).trans (t1 j)) r j
include h3 t2 t3 in
theorem pay45_at (r : Fin 512) (j : Fin 128) : k0_pay45 x0 x1 x2 x3 x4 (ix2 r j) = cosAt 1098907648#32 8 po r j := by
  unfold k0_pay45 k0_pay44
  rw [View.ld_unit_zero hz2]
  exact pay14_at x3 (View.ld x4 r0_6) (View.ld x4 r0_7) po _ _ h3 (fun j => (row2_at x4 j).trans (t2 j)) (fun j => (row3_at x4 j).trans (t3 j)) r j
include h3 t2 t3 in
theorem pay46_at (r : Fin 512) (j : Fin 128) : k0_pay46 x0 x1 x2 x3 x4 (ix2 r j) = sinAt 1098907648#32 8 po r j := by
  unfold k0_pay46 k0_pay44
  rw [View.ld_unit_zero hz2]
  exact pay15_at x3 (View.ld x4 r0_6) (View.ld x4 r0_7) po _ _ h3 (fun j => (row2_at x4 j).trans (t2 j)) (fun j => (row3_at x4 j).trans (t3 j)) r j
include t1 in
theorem pay43_at (j : Fin 128) : k0_pay43 x0 x1 x2 x3 x4 (ix2 0 j) = negAt 16 j := by
  unfold k0_pay43
  exact pay11_at (View.ld x4 r0_5) _ (fun j => (row1_at x4 j).trans (t1 j)) j
include t3 in
theorem pay47_at (j : Fin 128) : k0_pay47 x0 x1 x2 x3 x4 (ix2 0 j) = negAt 8 j := by
  unfold k0_pay47
  exact pay16_at (View.ld x4 r0_7) _ (fun j => (row3_at x4 j).trans (t3 j)) j

include hp h3 t0 t1 in
theorem out5_at (q : Fin 1024) (r : Fin 512) : out0_5 x0 x1 x2 x3 x4 (ix2 q r) = headAt 1107296256#32 16 po p 0 r q := by
  unfold out0_5
  refine View.canon_apply_of_pieces (Val := Elt Ideal) (S := S1024x512) (e := .bf16) (fun y : S1024x512.Idx => (fun a b => headAt 1107296256#32 16 po p 0 b a) (y 0 : ℕ) (y 1 : ℕ)) _ ?_ (ix2 q r) (cover0_5 _ _ _ _ _ _ _ _ _)
  simp only [List.forall_mem_cons, List.not_mem_nil, false_implies, implies_true, and_true]
  refine ⟨?_, ?_, ?_, ?_, ?_, ?_, ?_, ?_⟩
  · refine piece2_at (e := .bf16) (fun a b => headAt 1107296256#32 16 po p 0 b a) 896 0 _ _ fun j r => ?_
    rw [Nat.zero_add]
    exact (pay28_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 896 896 r j (by omega) j.isLt (by omega) (by omega))
  · refine piece2_at (e := .bf16) (fun a b => headAt 1107296256#32 16 po p 0 b a) 768 0 _ _ fun j r => ?_
    rw [Nat.zero_add]
    exact (pay27_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 768 768 r j (by omega) j.isLt (by omega) (by omega))
  · refine piece2_at (e := .bf16) (fun a b => headAt 1107296256#32 16 po p 0 b a) 640 0 _ _ fun j r => ?_
    rw [Nat.zero_add]
    exact (pay22_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 640 640 r j (by omega) j.isLt (by omega) (by omega))
  · refine piece2_at (e := .bf16) (fun a b => headAt 1107296256#32 16 po p 0 b a) 512 0 _ _ fun j r => ?_
    rw [Nat.zero_add]
    exact (pay21_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 512 512 r j (by omega) j.isLt (by omega) (by omega))
  · refine piece2_at (e := .bf16) (fun a b => headAt 1107296256#32 16 po p 0 b a) 384 0 _ _ fun j r => ?_
    rw [Nat.zero_add]
    exact (pay20_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 384 384 r j (by omega) j.isLt (by omega) (by omega))
  · refine piece2_at (e := .bf16) (fun a b => headAt 1107296256#32 16 po p 0 b a) 256 0 _ _ fun j r => ?_
    rw [Nat.zero_add]
    exact (pay19_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 256 256 r j (by omega) j.isLt (by omega) (by omega))
  · refine piece2_at (e := .bf16) (fun a b => headAt 1107296256#32 16 po p 0 b a) 128 0 _ _ fun j r => ?_
    rw [Nat.zero_add]
    exact (pay18_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 128 128 r j (by omega) j.isLt (by omega) (by omega))
  · refine piece2_at (e := .bf16) (fun a b => headAt 1107296256#32 16 po p 0 b a) 0 0 _ _ fun j r => ?_
    rw [Nat.zero_add]
    exact (pay17_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 0 0 0 r j (by omega) j.isLt (by omega) (by omega))

include hp h3 t0 t1 in
theorem out6_at (r : Fin 512) (q : Fin 256) : out0_6 x0 x1 x2 x3 x4 (ix2 r q) = headAt 1107296256#32 16 po p 1024 r q := by
  unfold out0_6
  refine View.canon_apply_of_pieces (Val := Elt Ideal) (S := S512x256) (e := .bf16) (fun y : S512x256.Idx => (fun a b => headAt 1107296256#32 16 po p 1024 a b) (y 0 : ℕ) (y 1 : ℕ)) _ ?_ (ix2 r q) (cover0_6 _ _ _)
  simp only [List.forall_mem_cons, List.not_mem_nil, false_implies, implies_true, and_true]
  refine ⟨?_, ?_⟩
  · refine piece2_at (e := .bf16) (fun a b => headAt 1107296256#32 16 po p 1024 a b) 0 128 _ _ fun r j => ?_
    rw [Nat.zero_add]
    exact (pay30_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 1024 128 1152 r j (by omega) j.isLt (by omega) (by omega))
  · refine piece2_at (e := .bf16) (fun a b => headAt 1107296256#32 16 po p 1024 a b) 0 0 _ _ fun r j => ?_
    rw [Nat.zero_add]
    exact (pay29_at _ _ _ _ p (cosAt 1107296256#32 16 po) (sinAt 1107296256#32 16 po) (negAt 16) hp (pay41_at x0 x1 x2 x3 x4 po h3 t0 t1) (pay42_at x0 x1 x2 x3 x4 po h3 t0 t1) (pay43_at x0 x1 x2 x3 x4 t1) r j).trans (head_at _ _ po p 1024 0 1024 r j (by omega) j.isLt (by omega) (by omega))

include hp h3 t2 t3 in
theorem out8_at (q : Fin 512) (r : Fin 512) : out0_8 x0 x1 x2 x3 x4 (ix2 q r) = headAt 1098907648#32 8 po p 1536 r q := by
  unfold out0_8
  refine View.canon_apply_of_pieces (Val := Elt Ideal) (S := S512x512) (e := .bf16) (fun y : S512x512.Idx => (fun a b => headAt 1098907648#32 8 po p 1536 b a) (y 0 : ℕ) (y 1 : ℕ)) _ ?_ (ix2 q r) (cover0_8 _ _ _ _ _)
  simp only [List.forall_mem_cons, List.not_mem_nil, false_implies, implies_true, and_true]
  refine ⟨?_, ?_, ?_, ?_⟩
  · refine piece2_at (e := .bf16) (fun a b => headAt 1098907648#32 8 po p 1536 b a) 384 0 _ _ fun j r => ?_
    rw [Nat.zero_add]
    exact (pay2_at _ _ _ _ p (cosAt 1098907648#32 8 po) (sinAt 1098907648#32 8 po) (negAt 8) hp (pay45_at x0 x1 x2 x3 x4 po h3 t2 t3) (pay46_at x0 x1 x2 x3 x4 po h3 t2 t3) (pay47_at x0 x1 x2 x3 x4 t3) r j).trans (head_at _ _ po p 1536 384 1920 r j (by omega) j.isLt (by omega) (by omega))
  · refine piece2_at (e := .bf16) (fun a b => headAt 1098907648#32 8 po p 1536 b a) 256 0 _ _ fun j r => ?_
    rw [Nat.zero_add]
    exact (pay1_at _ _ _ _ p (cosAt 1098907648#32 8 po) (sinAt 1098907648#32 8 po) (negAt 8) hp (pay45_at x0 x1 x2 x3 x4 po h3 t2 t3) (pay46_at x0 x1 x2 x3 x4 po h3 t2 t3) (pay47_at x0 x1 x2 x3 x4 t3) r j).trans (head_at _ _ po p 1536 256 1792 r j (by omega) j.isLt (by omega) (by omega))
  · refine piece2_at (e := .bf16) (fun a b => headAt 1098907648#32 8 po p 1536 b a) 128 0 _ _ fun j r => ?_
    rw [Nat.zero_add]
    exact (pay35_at _ _ _ _ p (cosAt 1098907648#32 8 po) (sinAt 1098907648#32 8 po) (negAt 8) hp (pay45_at x0 x1 x2 x3 x4 po h3 t2 t3) (pay46_at x0 x1 x2 x3 x4 po h3 t2 t3) (pay47_at x0 x1 x2 x3 x4 t3) r j).trans (head_at _ _ po p 1536 128 1664 r j (by omega) j.isLt (by omega) (by omega))
  · refine piece2_at (e := .bf16) (fun a b => headAt 1098907648#32 8 po p 1536 b a) 0 0 _ _ fun j r => ?_
    rw [Nat.zero_add]
    exact (pay34_at _ _ _ _ p (cosAt 1098907648#32 8 po) (sinAt 1098907648#32 8 po) (negAt 8) hp (pay45_at x0 x1 x2 x3 x4 po h3 t2 t3) (pay46_at x0 x1 x2 x3 x4 po h3 t2 t3) (pay47_at x0 x1 x2 x3 x4 t3) r j).trans (head_at _ _ po p 1536 0 1536 r j (by omega) j.isLt (by omega) (by omega))

include hp h3 t2 t3 in
theorem out9_at (r : Fin 512) (q : Fin 128) : out0_9 x0 x1 x2 x3 x4 (ix2 r q) = headAt 1098907648#32 8 po p 2048 r q := by
  unfold out0_9
  refine View.canon_apply_of_pieces (Val := Elt Ideal) (S := S512x128) (e := .bf16) (fun y : S512x128.Idx => (fun a b => headAt 1098907648#32 8 po p 2048 a b) (y 0 : ℕ) (y 1 : ℕ)) _ ?_ (ix2 r q) (cover0_9 _ _)
  simp only [List.forall_mem_cons, List.not_mem_nil, false_implies, implies_true, and_true]
  · refine piece2_at (e := .bf16) (fun a b => headAt 1098907648#32 8 po p 2048 a b) 0 0 _ _ fun r j => ?_
    rw [Nat.zero_add]
    exact (pay3_at _ _ _ _ p (cosAt 1098907648#32 8 po) (sinAt 1098907648#32 8 po) (negAt 8) hp (pay45_at x0 x1 x2 x3 x4 po h3 t2 t3) (pay46_at x0 x1 x2 x3 x4 po h3 t2 t3) (pay47_at x0 x1 x2 x3 x4 t3) r j).trans (head_at _ _ po p 2048 0 2048 r j (by omega) j.isLt (by omega) (by omega))

include hp in
theorem out7_at (q : Fin 256) (r : Fin 512) : out0_7 x0 x1 x2 x3 x4 (ix3 0 q r) = p r (1280 + q) := by
  unfold out0_7
  refine (canon7_eq (F := Ideal) _ _ _ _).trans ?_
  have e : ix7_0 (ix3 0 q r) = ix2 r (⟨1280 + q, by omega⟩ : Fin 2304) := funext (Fin.forall_fin_two.mpr ⟨rfl, Fin.ext (Nat.add_comm (q : ℕ) 1280)⟩)
  show k0_pay40 x0 x1 x2 x3 x4 (ix7_0 (ix3 0 q r)) = _
  rw [e, hp]
include hp in
theorem out10_at (q : Fin 8) (r : Fin 512) : out0_10 x0 x1 x2 x3 x4 (ix2 q r) = p r (2176 + q) := by
  unfold out0_10
  refine (canon10_eq (F := Ideal) _ _ _ _).trans ?_
  have e : ix10_0 (ix2 q r) = ix2 r (⟨2176 + q, by omega⟩ : Fin 2304) := funext (Fin.forall_fin_two.mpr ⟨rfl, Fin.ext (Nat.add_comm (q : ℕ) 2176)⟩)
  show k0_pay40 x0 x1 x2 x3 x4 (ix10_0 (ix2 q r)) = _
  rw [e, hp]
end Out

end Cert.Kernel6Ideal.Value
-- ==== Proof.AttnTable.lean ====
/-
  The attention's projections: the arrays the launch reads, at an index.
-/
module

public import proofs.«01_k».proof.Proof.AttnPoint

@[expose] public section

set_option maxRecDepth 10000

noncomputable section

namespace Cert.Kernel6Ideal.Value

open Idealize.ShloMosaic Idealize.ShloMosaic.TcCoe Idealize.ShloMosaic.Tactic Idealize.SL.Sem
open Idealize.ShloMosaic.StableHlo
open Cert.Kernel6Ideal Cert.Kernel6Ideal.Gen Cert.Ssd
open scoped BigOperators

section Arrays
variable {F : FTy → Type} [FloatOps F]

/-- A vector of one word throughout. -/
def fill128 (b : BitVec 32) : FVec F S128 .f32 := broadcastInDim S128 ![] bcast_S_S128 (constant S_ .f32 b)
def fill16 (b : BitVec 32) : FVec F S16 .f32 := broadcastInDim S16 ![] bcast_S_S16 (constant S_ .f32 b)
def fill8 (b : BitVec 32) : FVec F S8 .f32 := broadcastInDim S8 ![] bcast_S_S8 (constant S_ .f32 b)
/-- An offset as a vector of one entry. -/
def off (k : BitVec 32) : IVec S1 32 := broadcastInDim S1 ![] bcast_S_S1 (constantI S_ 32 k)

def rates16 : FVec F S16 .f32 :=
  Host.powf (fill16 0x48F42400#32) (Host.divf (mulf (fill16 0xC0000000#32) (sitofp .f32 (iotaInDim S16 32 0))) (fill16 0x42000000#32))
def rates8 : FVec F S8 .f32 :=
  Host.powf (fill8 0x48F42400#32) (Host.divf (mulf (fill8 0xC0000000#32) (sitofp .f32 (iotaInDim S8 32 0))) (fill8 0x41800000#32))

def tab0 : FVec F S128 .f32 := Host.scatter scatter_S128_S1_S32_0_n_0_0 (fun _ b => b) (fill128 0x00000000#32) (off 0#32)
  (concatenate S32 0 [⟨S16, (rates16 : FVec F S16 .f32)⟩, ⟨S16, (rates16 : FVec F S16 .f32)⟩] concatenates_S16_S16_S32_d0)
def tab1 : FVec F S128 .f32 := Host.scatter scatter_S128_S1_S16_0_n_0_0 (fun _ b => b)
  (Host.scatter scatter_S128_S1_S16_0_n_0_0 (fun _ b => b) (fill128 0x00000000#32) (off 0#32) (fill16 0xBF800000#32)) (off 16#32) (fill16 0x3F800000#32)
def tab2 : FVec F S128 .f32 := Host.scatter scatter_S128_S1_S16_0_n_0_0 (fun _ b => b) (fill128 0x00000000#32) (off 0#32)
  (concatenate S16 0 [⟨S8, (rates8 : FVec F S8 .f32)⟩, ⟨S8, (rates8 : FVec F S8 .f32)⟩] concatenates_S8_S8_S16_d0)
def tab3 : FVec F S128 .f32 := Host.scatter scatter_S128_S1_S8_0_n_0_0 (fun _ b => b)
  (Host.scatter scatter_S128_S1_S8_0_n_0_0 (fun _ b => b) (fill128 0x00000000#32) (off 0#32) (fill8 0xBF800000#32)) (off 8#32) (fill8 0x3F800000#32)

/-- The table of rates and signs. -/
def table : FVec F S4x128 .f32 := concatenate S4x128 0 [⟨S1x128, (broadcastInDim S1x128 ![1] bcast_S128_S1x128_1 (tab0 : FVec F S128 .f32) : FVec F S1x128 .f32)⟩,
  ⟨S1x128, (broadcastInDim S1x128 ![1] bcast_S128_S1x128_1 (tab1 : FVec F S128 .f32) : FVec F S1x128 .f32)⟩,
  ⟨S1x128, (broadcastInDim S1x128 ![1] bcast_S128_S1x128_1 (tab2 : FVec F S128 .f32) : FVec F S1x128 .f32)⟩,
  ⟨S1x128, (broadcastInDim S1x128 ![1] bcast_S128_S1x128_1 (tab3 : FVec F S128 .f32) : FVec F S1x128 .f32)⟩] concatenates_S1x128_S1x128_S1x128_S1x128_S4x128_d0

/-- The attention's columns of the weights. -/
def cols (a3 : FVec F S1024x9060 .f32) : FVec F S1024x1860 .f32 := extractStridedSlice S1024x1860 ![0, 0] a3 slices_S1024x9060_S1024x1860_0_0
def padIq (a3 : FVec F S1024x9060 .f32) : FVec F S1024x512 .f32 :=
  shapeCast S1024x512 (pad S1024x4x128 ![0, 0, 0] ![0, 0, 64] ![0, 0, 0]
    (shapeCast S1024x4x64 (extractStridedSlice S1024x256 ![0, 1536] (cols a3) slices_S1024x1860_S1024x256_0_1536) shapeCasts_S1024x256_S1024x4x64)
    (sitofp .f32 (constantI S_ 32 0#32)) pads_S1024x4x64_S1024x4x128_000_000_0640 h_S_) shapeCasts_S1024x4x128_S1024x512
def padIk (a3 : FVec F S1024x9060 .f32) : FVec F S1024x128 .f32 :=
  pad S1024x128 ![0, 0] ![0, 64] ![0, 0] (extractStridedSlice S1024x64 ![0, 1792] (cols a3) slices_S1024x1860_S1024x64_0_1792)
    (sitofp .f32 (constantI S_ 32 0#32)) pads_S1024x64_S1024x128_000_0640 h_S_
def padIw (a3 : FVec F S1024x9060 .f32) : FVec F S1024x128 .f32 :=
  pad S1024x128 ![0, 0] ![0, 124] ![0, 0] (extractStridedSlice S1024x4 ![0, 1856] (cols a3) slices_S1024x1860_S1024x4_0_1856)
    (sitofp .f32 (constantI S_ 32 0#32)) pads_S1024x4_S1024x128_000_01240 h_S_
def weights (a3 : FVec F S1024x9060 .f32) : FVec F S1024x2304 .bf16 :=
  truncf .bf16 (concatenate S1024x2304 1 [⟨S1024x1024, (extractStridedSlice S1024x1024 ![0, 0] (cols a3) slices_S1024x1860_S1024x1024_0_0 : FVec F S1024x1024 .f32)⟩,
    ⟨S1024x256, (extractStridedSlice S1024x256 ![0, 1024] (cols a3) slices_S1024x1860_S1024x256_0_1024 : FVec F S1024x256 .f32)⟩,
    ⟨S1024x256, (extractStridedSlice S1024x256 ![0, 1280] (cols a3) slices_S1024x1860_S1024x256_0_1280 : FVec F S1024x256 .f32)⟩,
    ⟨S1024x512, padIq a3⟩, ⟨S1024x128, padIk a3⟩, ⟨S1024x128, padIw a3⟩] concatenates_S1024x1024_S1024x256_S1024x256_S1024x512_S1024x128_S1024x128_S1024x2304_d1 : FVec F S1024x2304 .f32) bitsLt_bf16_f32

variable (m : (ℓ : Loc nD τ sig) → Buf (Elt F) ℓ) (c : Dev nD)

set_option maxHeartbeats 4000000 in
theorem V_v62 : (V m c main_v62 : Vec F S4x128 .f32) = table := by
  unfold V
  simp only [List.flatten_cons, List.flatten_nil, List.cons_append, List.nil_append]
  after_results
  rfl
set_option maxHeartbeats 4000000 in
theorem V_v21 : (V m c main_v21 : Vec F S1024x2304 .bf16) = weights (m (c, Proc.devRef .tc main_arg3) : Vec F S1024x9060 .f32) := by
  unfold V
  simp only [List.flatten_cons, List.flatten_nil, List.cons_append, List.nil_append]
  after_results
  rfl
set_option maxHeartbeats 4000000 in
theorem V_v5 : (V m c main_v5 : Vec F S16384x1024 .f32) = shapeCast S16384x1024 (m (c, Proc.devRef .tc main_arg0) : Vec F S2x8192x1024 .f32) shapeCasts_S2x8192x1024_S16384x1024 := by
  unfold V
  simp only [List.flatten_cons, List.flatten_nil, List.cons_append, List.nil_append]
  after_results
  rfl
set_option maxHeartbeats 4000000 in
theorem V_v6 : (V m c main_v6 : Vec F S1x1024 .f32) = shapeCast S1x1024 (m (c, Proc.devRef .tc main_arg2) : Vec F S1024 .f32) shapeCasts_S1024_S1x1024 := by
  unfold V
  simp only [List.flatten_cons, List.flatten_nil, List.cons_append, List.nil_append]
  after_results
  rfl
set_option maxHeartbeats 4000000 in
theorem V_v8 : (V m c main_v8 : Vec F S16384x1 .f32) = sitofp .f32 (shapeCast S16384x1 (m (c, Proc.devRef .tc main_arg1) : Vec F S2x8192 .i32) shapeCasts_S2x8192_S16384x1) := by
  unfold V
  simp only [List.flatten_cons, List.flatten_nil, List.cons_append, List.nil_append]
  after_results
  rfl
end Arrays

end Cert.Kernel6Ideal.Value
-- ==== Proof.AttnRows.lean ====
/-
  The attention's projections: the table and the weights at an index.
-/
module

public import proofs.«01_k».proof.Proof.AttnTable

@[expose] public section

set_option maxRecDepth 10000

noncomputable section

namespace Cert.Kernel6Ideal.Value

open Idealize.ShloMosaic Idealize.ShloMosaic.TcCoe Idealize.ShloMosaic.Tactic Idealize.SL.Sem
open Idealize.ShloMosaic.StableHlo
open Cert.Kernel6Ideal Cert.Kernel6Ideal.Gen Cert.Ssd
open scoped BigOperators

theorem ofBits_neg_one_f32 : Ideal.ofBits .f32 0xBF800000#32 = -1 := by
  have : Ideal.ofBits .f32 0xBF800000#32 = ((-(1 : ℝ)) : EReal) := by
    simp [Ideal.ofBits, Ideal.ieee, -EReal.coe_mul, -EReal.coe_neg]; norm_num
  rw [this]
  norm_num

theorem rates16_at (i : Fin 16) : rates16 (F := Ideal) (ix1 i) = rate 1107296256#32 i := by
  pointwise [rates16, fill16, rate]
theorem rates8_at (i : Fin 8) : rates8 (F := Ideal) (ix1 i) = rate 1098907648#32 i := by
  pointwise [rates8, fill8, rate]
theorem fill128_at (b : BitVec 32) (j : Fin 128) : fill128 (F := Ideal) b (ix1 j) = Ideal.ofBits .f32 b := by
  pointwise [fill128]
theorem fill16_at (b : BitVec 32) (j : Fin 16) : fill16 (F := Ideal) b (ix1 j) = Ideal.ofBits .f32 b := by
  pointwise [fill16]
theorem fill8_at (b : BitVec 32) (j : Fin 8) : fill8 (F := Ideal) b (ix1 j) = Ideal.ofBits .f32 b := by
  pointwise [fill8]

theorem hd32_0 (k : Fin 32) : scatter_S128_S1_S32_0_n_0_0.start (ix1 k) (off 0#32) 0 + (scatter_S128_S1_S32_0_n_0_0.window (ix1 k) 0 : ℤ) = ((0 + k : ℕ) : ℤ) := by
  rw [Nat.cast_add]
  rfl
theorem hd16_0 (k : Fin 16) : scatter_S128_S1_S16_0_n_0_0.start (ix1 k) (off 0#32) 0 + (scatter_S128_S1_S16_0_n_0_0.window (ix1 k) 0 : ℤ) = ((0 + k : ℕ) : ℤ) := by
  rw [Nat.cast_add]
  rfl
theorem hd16_16 (k : Fin 16) : scatter_S128_S1_S16_0_n_0_0.start (ix1 k) (off 16#32) 0 + (scatter_S128_S1_S16_0_n_0_0.window (ix1 k) 0 : ℤ) = ((16 + k : ℕ) : ℤ) := by
  rw [Nat.cast_add]
  rfl
theorem hd8_0 (k : Fin 8) : scatter_S128_S1_S8_0_n_0_0.start (ix1 k) (off 0#32) 0 + (scatter_S128_S1_S8_0_n_0_0.window (ix1 k) 0 : ℤ) = ((0 + k : ℕ) : ℤ) := by
  rw [Nat.cast_add]
  rfl
theorem hd8_8 (k : Fin 8) : scatter_S128_S1_S8_0_n_0_0.start (ix1 k) (off 8#32) 0 + (scatter_S128_S1_S8_0_n_0_0.window (ix1 k) 0 : ℤ) = ((8 + k : ℕ) : ℤ) := by
  rw [Nat.cast_add]
  rfl
theorem cat32_at (j : Fin 32) : concatenate S32 0 [⟨S16, (rates16 : FVec Ideal S16 .f32)⟩, ⟨S16, (rates16 : FVec Ideal S16 .f32)⟩] concatenates_S16_S16_S32_d0 (ix1 j) =
    if h : (j : ℕ) < 16 then rate 1107296256#32 j else rate 1107296256#32 (j - 16) := by
  pointwise [rates16_at]

theorem tab0_at (j : Fin 128) : tab0 (F := Ideal) (ix1 j) = rateRow 1107296256#32 16 j := by
  unfold tab0
  rw [stretch_at _ _ _ _ 0 hd32_0 j, rateRow]
  by_cases h1 : (j : ℕ) < 16
  · rw [dif_pos ⟨Nat.zero_le _, by omega⟩, cat32_at, dif_pos (show (j : ℕ) - 0 < 16 by omega), if_pos h1]
    rfl
  · rw [if_neg h1]
    by_cases h2 : (j : ℕ) < 32
    · rw [dif_pos ⟨Nat.zero_le _, by omega⟩, cat32_at, dif_neg (show ¬ (j : ℕ) - 0 < 16 by omega), if_pos (show (j : ℕ) < 2 * 16 by omega)]
      rfl
    · rw [dif_neg (by omega), if_neg (show ¬ (j : ℕ) < 2 * 16 by omega), fill128_at]
      exact Ideal.ofBits_zero_f32

theorem tab1_at (j : Fin 128) : tab1 (F := Ideal) (ix1 j) = signRow 16 j := by
  unfold tab1
  rw [stretch_at _ _ _ _ 16 hd16_16 j, stretch_at _ _ _ _ 0 hd16_0 j, signRow]
  by_cases h1 : (j : ℕ) < 16
  · rw [dif_neg (by omega), dif_pos ⟨Nat.zero_le _, by omega⟩, if_pos h1, fill16_at]
    exact ofBits_neg_one_f32
  · rw [if_neg h1]
    by_cases h2 : (j : ℕ) < 32
    · rw [dif_pos (by omega), if_pos (show (j : ℕ) < 2 * 16 by omega), fill16_at]
      exact Ideal.ofBits_one_f32
    · rw [dif_neg (by omega), dif_neg (by omega), if_neg (show ¬ (j : ℕ) < 2 * 16 by omega), fill128_at]
      exact Ideal.ofBits_zero_f32

theorem cat16_at (j : Fin 16) : concatenate S16 0 [⟨S8, (rates8 : FVec Ideal S8 .f32)⟩, ⟨S8, (rates8 : FVec Ideal S8 .f32)⟩] concatenates_S8_S8_S16_d0 (ix1 j) =
    if h : (j : ℕ) < 8 then rate 1098907648#32 j else rate 1098907648#32 (j - 8) := by
  pointwise [rates8_at]

theorem tab2_at (j : Fin 128) : tab2 (F := Ideal) (ix1 j) = rateRow 1098907648#32 8 j := by
  unfold tab2
  rw [stretch_at _ _ _ _ 0 hd16_0 j, rateRow]
  by_cases h1 : (j : ℕ) < 8
  · rw [dif_pos ⟨Nat.zero_le _, by omega⟩, cat16_at, dif_pos (show (j : ℕ) - 0 < 8 by omega), if_pos h1]
    rfl
  · rw [if_neg h1]
    by_cases h2 : (j : ℕ) < 16
    · rw [dif_pos ⟨Nat.zero_le _, by omega⟩, cat16_at, dif_neg (show ¬ (j : ℕ) - 0 < 8 by omega), if_pos (show (j : ℕ) < 2 * 8 by omega)]
      rfl
    · rw [dif_neg (by omega), if_neg (show ¬ (j : ℕ) < 2 * 8 by omega), fill128_at]
      exact Ideal.ofBits_zero_f32

theorem tab3_at (j : Fin 128) : tab3 (F := Ideal) (ix1 j) = signRow 8 j := by
  unfold tab3
  rw [stretch_at _ _ _ _ 8 hd8_8 j, stretch_at _ _ _ _ 0 hd8_0 j, signRow]
  by_cases h1 : (j : ℕ) < 8
  · rw [dif_neg (by omega), dif_pos ⟨Nat.zero_le _, by omega⟩, if_pos h1, fill8_at]
    exact ofBits_neg_one_f32
  · rw [if_neg h1]
    by_cases h2 : (j : ℕ) < 16
    · rw [dif_pos (by omega), if_pos (show (j : ℕ) < 2 * 8 by omega), fill8_at]
      exact Ideal.ofBits_one_f32
    · rw [dif_neg (by omega), dif_neg (by omega), if_neg (show ¬ (j : ℕ) < 2 * 8 by omega), fill128_at]
      exact Ideal.ofBits_zero_f32

theorem table0_at (j : Fin 128) : table (F := Ideal) (ix2 0 j) = rateRow 1107296256#32 16 j := by
  pointwise [table, tab0_at, tab1_at, tab2_at, tab3_at]
theorem table1_at (j : Fin 128) : table (F := Ideal) (ix2 1 j) = signRow 16 j := by
  pointwise [table, tab0_at, tab1_at, tab2_at, tab3_at]
theorem table2_at (j : Fin 128) : table (F := Ideal) (ix2 2 j) = rateRow 1098907648#32 8 j := by
  pointwise [table, tab0_at, tab1_at, tab2_at, tab3_at]
theorem table3_at (j : Fin 128) : table (F := Ideal) (ix2 3 j) = signRow 8 j := by
  pointwise [table, tab0_at, tab1_at, tab2_at, tab3_at]

/-! ## The weights -/

/-- Column `c` of the weights as the kernel lays them: the heads' columns, the indexing heads' each to 128 lanes with zeros. -/
def wcol (a3 : FVec Ideal S1024x9060 .f32) (k c : ℕ) : EReal :=
  if c < 1536 then nat2 a3 k c
  else if c < 2048 then (if (c - 1536) % 128 < 64 then nat2 a3 k (1536 + 64 * ((c - 1536) / 128) + (c - 1536) % 128) else 0)
  else if c < 2176 then (if c - 2048 < 64 then nat2 a3 k (1792 + (c - 2048)) else 0)
  else (if c - 2176 < 4 then nat2 a3 k (1856 + (c - 2176)) else 0)

theorem padIq_at (a3 : FVec Ideal S1024x9060 .f32) (k : Fin 1024) (c : Fin 512) :
    padIq a3 (ix2 k c) = if (c : ℕ) % 128 < 64 then nat2 a3 k (1536 + 64 * (c / 128) + c % 128) else 0 := by
  have h := fun a' b' => eq_nat2 (a := 1024) (b := 9060) a3 a' b'
  pointwise [padIq, cols, h]
  rw [show 1536 + ((c : ℕ) / 128 * 64 + (c : ℕ) % 128) = 1536 + 64 * ((c : ℕ) / 128) + (c : ℕ) % 128 by omega]
  exact pad_if (by omega) _
theorem padIk_at (a3 : FVec Ideal S1024x9060 .f32) (k : Fin 1024) (c : Fin 128) :
    padIk a3 (ix2 k c) = if (c : ℕ) < 64 then nat2 a3 k (1792 + c) else 0 := by
  have h := fun a' b' => eq_nat2 (a := 1024) (b := 9060) a3 a' b'
  pointwise [padIk, cols, h]
  exact pad_if Iff.rfl _
theorem padIw_at (a3 : FVec Ideal S1024x9060 .f32) (k : Fin 1024) (c : Fin 128) :
    padIw a3 (ix2 k c) = if (c : ℕ) < 4 then nat2 a3 k (1856 + c) else 0 := by
  have h := fun a' b' => eq_nat2 (a := 1024) (b := 9060) a3 a' b'
  pointwise [padIw, cols, h]
  exact pad_if Iff.rfl _
theorem weights_at (a3 : FVec Ideal S1024x9060 .f32) (k : Fin 1024) (c : Fin 2304) : weights a3 (ix2 k c) = wcol a3 k c := by
  have h := fun a' b' => eq_nat2 (a := 1024) (b := 9060) a3 a' b'
  have p0 := padIq_at a3
  have p1 := padIk_at a3
  have p2 := padIw_at a3
  pointwise [weights, cols, h, p0, p1, p2]
  rw [wcol, show (c : ℕ) - 1024 - 256 - 256 - 512 - 128 = c - 2176 by omega, show (c : ℕ) - 1024 - 256 - 256 - 512 = c - 2048 by omega,
    show (c : ℕ) - 1024 - 256 - 256 = c - 1536 by omega]
  by_cases h1 : (c : ℕ) < 1536
  · rw [if_pos h1]
    by_cases h2 : (c : ℕ) < 1024
    · rw [dif_pos h2]
    · rw [dif_neg h2]
      by_cases h3 : (c : ℕ) - 1024 < 256
      · rw [dif_pos h3, show 1024 + ((c : ℕ) - 1024) = c by omega]
      · rw [dif_neg h3, dif_pos (by omega), show 1280 + ((c : ℕ) - 1024 - 256) = c by omega]
  · rw [if_neg h1, dif_neg (by omega), dif_neg (by omega), dif_neg (by omega)]
    by_cases h2 : (c : ℕ) < 2048
    · rw [if_pos h2, dif_pos (by omega)]
    · rw [if_neg h2, dif_neg (by omega)]
      by_cases h3 : (c : ℕ) < 2176
      · rw [if_pos h3, dif_pos (by omega)]
      · rw [if_neg h3, dif_neg (by omega)]

/-! ## The rows and the positions -/

theorem v5_at (a : FVec Ideal S2x8192x1024 .f32) (r : Fin 16384) (q : Fin 1024) :
    shapeCast S16384x1024 a shapeCasts_S2x8192x1024_S16384x1024 (ix2 r q) = rowOf a r q := by
  have h := fun a' b' c' => eq_nat3 (a := 2) (b := 8192) (c := 1024) a a' b' c'
  pointwise [h, rowOf]
theorem v6_at (a : FVec Ideal S1024 .f32) (q : Fin 1024) : shapeCast S1x1024 a shapeCasts_S1024_S1x1024 (ix2 0 q) = nat1 a q := by
  have h := fun a' => eq_nat1 (a := 1024) a a'
  pointwise [h]
theorem v8_at (a : IVec S2x8192 32) (r : Fin 16384) : sitofp (F := Ideal) .f32 (shapeCast S16384x1 a shapeCasts_S2x8192_S16384x1) (ix2 r 0) = posOf a r := by
  have h : ∀ (b : Fin 2) (t : Fin 8192), (FloatOps.sitofp (F := Ideal) FTy.f32 (a (ix2 b t)) : EReal) = nat2 (fun i => FloatOps.sitofp (F := Ideal) FTy.f32 (a i)) b t :=
    fun b t => eq_nat2 (fun i => FloatOps.sitofp (F := Ideal) FTy.f32 (a i)) b t
  pointwise [h, posOf]

end Cert.Kernel6Ideal.Value
-- ==== Proof.AttnProj.lean ====
/-
  The attention's projections: the arrays the kernel leaves, at an index.
-/
module

public import proofs.«01_k».proof.Proof.AttnRows

@[expose] public section

set_option maxRecDepth 10000

noncomputable section

namespace Cert.Kernel6Ideal.Value

open Idealize.ShloMosaic Idealize.ShloMosaic.TcCoe Idealize.ShloMosaic.Tactic Idealize.SL.Sem
open Idealize.ShloMosaic.StableHlo
open Cert.Kernel6Ideal Cert.Kernel6Ideal.Gen Cert.Ssd
open scoped BigOperators

section Blocks
variable {F : FTy → Type} [FloatOps F]
variable (m : (ℓ : Loc nD τ sig) → Buf (Elt F) ℓ)

theorem index0 : ∀ t : Fin cfg0.N, win0_0.index t (0 : Fin 2) = t.val ∧ win0_0.index t (1 : Fin 2) = 0 :=
  (by decide +kernel : ∀ t : Fin grid0.N, _)
theorem iblk0_at (c : Dev nD) (t : Fin cfg0.N) (r : Fin 512) (q : Fin 1024) (r' : Fin 16384) (hr : (r' : ℕ) = 512 * t + r) :
    (iblk m c 0 t : Vec F S512x1024 .f32) (ix2 r q) = (V m c main_v5 : Vec F S16384x1024 .f32) (ix2 r' q) := by
  obtain ⟨e0, e1⟩ := index0 t
  refine congrArg (V m c main_v5 : Vec F S16384x1024 .f32) (funext (Fin.forall_fin_two.mpr ⟨Fin.ext ?_, Fin.ext ?_⟩))
  · show win0_0.index t (0 : Fin 2) * 512 + 1 * (r : ℕ) = r'
    omega
  · show win0_0.index t (1 : Fin 2) * 1024 + 1 * (q : ℕ) = q
    omega
theorem index1 : ∀ t : Fin cfg0.N, win0_1.index t (0 : Fin 2) = 0 ∧ win0_1.index t (1 : Fin 2) = 0 :=
  (by decide +kernel : ∀ t : Fin grid0.N, _)
theorem iblk1_at (c : Dev nD) (t : Fin cfg0.N) (q : Fin 1024) :
    (iblk m c 1 t : Vec F S1x1024 .f32) (ix2 0 q) = (V m c main_v6 : Vec F S1x1024 .f32) (ix2 0 q) := by
  obtain ⟨e0, e1⟩ := index1 t
  refine congrArg (V m c main_v6 : Vec F S1x1024 .f32) (funext (Fin.forall_fin_two.mpr ⟨Fin.ext ?_, Fin.ext ?_⟩))
  · show win0_1.index t (0 : Fin 2) * 1 + 1 * 0 = 0
    omega
  · show win0_1.index t (1 : Fin 2) * 1024 + 1 * (q : ℕ) = q
    omega
theorem index2 : ∀ t : Fin cfg0.N, win0_2.index t (0 : Fin 2) = 0 ∧ win0_2.index t (1 : Fin 2) = 0 :=
  (by decide +kernel : ∀ t : Fin grid0.N, _)
theorem iblk2_at (c : Dev nD) (t : Fin cfg0.N) (r : Fin 1024) (q : Fin 2304) :
    (iblk m c 2 t : Vec F S1024x2304 .bf16) (ix2 r q) = (V m c main_v21 : Vec F S1024x2304 .bf16) (ix2 r q) := by
  obtain ⟨e0, e1⟩ := index2 t
  refine congrArg (V m c main_v21 : Vec F S1024x2304 .bf16) (funext (Fin.forall_fin_two.mpr ⟨Fin.ext ?_, Fin.ext ?_⟩))
  · show win0_2.index t (0 : Fin 2) * 1024 + 1 * (r : ℕ) = r
    omega
  · show win0_2.index t (1 : Fin 2) * 2304 + 1 * (q : ℕ) = q
    omega
theorem index3 : ∀ t : Fin cfg0.N, win0_3.index t (0 : Fin 2) = t.val ∧ win0_3.index t (1 : Fin 2) = 0 :=
  (by decide +kernel : ∀ t : Fin grid0.N, _)
theorem iblk3_at (c : Dev nD) (t : Fin cfg0.N) (r : Fin 512) (q : Fin 1) (r' : Fin 16384) (hr : (r' : ℕ) = 512 * t + r) :
    (iblk m c 3 t : Vec F S512x1 .f32) (ix2 r q) = (V m c main_v8 : Vec F S16384x1 .f32) (ix2 r' q) := by
  obtain ⟨e0, e1⟩ := index3 t
  refine congrArg (V m c main_v8 : Vec F S16384x1 .f32) (funext (Fin.forall_fin_two.mpr ⟨Fin.ext ?_, Fin.ext ?_⟩))
  · show win0_3.index t (0 : Fin 2) * 512 + 1 * (r : ℕ) = r'
    omega
  · show win0_3.index t (1 : Fin 2) * 1 + 1 * (q : ℕ) = q
    omega
theorem index4 : ∀ t : Fin cfg0.N, win0_4.index t (0 : Fin 2) = 0 ∧ win0_4.index t (1 : Fin 2) = 0 :=
  (by decide +kernel : ∀ t : Fin grid0.N, _)
theorem iblk4_at (c : Dev nD) (t : Fin cfg0.N) (r : Fin 4) (q : Fin 128) :
    (iblk m c 4 t : Vec F S4x128 .f32) (ix2 r q) = (V m c main_v62 : Vec F S4x128 .f32) (ix2 r q) := by
  obtain ⟨e0, e1⟩ := index4 t
  refine congrArg (V m c main_v62 : Vec F S4x128 .f32) (funext (Fin.forall_fin_two.mpr ⟨Fin.ext ?_, Fin.ext ?_⟩))
  · show win0_4.index t (0 : Fin 2) * 4 + 1 * (r : ℕ) = r
    omega
  · show win0_4.index t (1 : Fin 2) * 128 + 1 * (q : ℕ) = q
    omega
theorem index6 : ∀ t : Fin cfg0.N, win0_6.index t (0 : Fin 2) = t.val ∧ win0_6.index t (1 : Fin 2) = 0 :=
  (by decide +kernel : ∀ t : Fin grid0.N, _)
theorem index9 : ∀ t : Fin cfg0.N, win0_9.index t (0 : Fin 2) = t.val ∧ win0_9.index t (1 : Fin 2) = 0 :=
  (by decide +kernel : ∀ t : Fin grid0.N, _)
theorem index5 : ∀ t : Fin cfg0.N, win0_5.index t (0 : Fin 2) = 0 ∧ win0_5.index t (1 : Fin 2) = t.val :=
  (by decide +kernel : ∀ t : Fin grid0.N, _)
theorem index8 : ∀ t : Fin cfg0.N, win0_8.index t (0 : Fin 2) = 0 ∧ win0_8.index t (1 : Fin 2) = t.val :=
  (by decide +kernel : ∀ t : Fin grid0.N, _)
theorem index10 : ∀ t : Fin cfg0.N, win0_10.index t (0 : Fin 2) = 0 ∧ win0_10.index t (1 : Fin 2) = t.val :=
  (by decide +kernel : ∀ t : Fin grid0.N, _)
theorem index7 : ∀ t : Fin cfg0.N, win0_7.index t (0 : Fin 3) = t.val ∧ win0_7.index t (1 : Fin 3) = 0 ∧ win0_7.index t (2 : Fin 3) = 0 :=
  (by decide +kernel : ∀ t : Fin grid0.N, _)
end Blocks

section Columns
variable (a0 : FVec Ideal S2x8192x1024 .f32) (a1 : IVec S2x8192 32) (a2 : FVec Ideal S1024 .f32) (a3 : FVec Ideal S1024x9060 .f32)

/-- Column `c` of the projection through the weights as the kernel lays them. -/
def pk (R c : ℕ) : EReal := proj (rowOf a0 R) (nat1 a2) fun k => wcol a3 k c

theorem pk_if (R c c' : ℕ) (d : Prop) [Decidable d] (h : ∀ k, wcol a3 k c = if d then nat2 a3 k c' else 0) :
    pk a0 a2 a3 R c = if d then prj a0 a2 a3 R c' else 0 := by
  unfold pk prj
  simp only [h]
  by_cases hd : d
  · simp only [if_pos hd]
  · simp only [if_neg hd]
    exact Finset.sum_eq_zero fun k _ => mul_zero _

theorem pk_lo (R c : ℕ) (h : c < 1536) : pk a0 a2 a3 R c = prj a0 a2 a3 R c := by
  unfold pk prj wcol
  simp only [if_pos h]

theorem pk_iq (R h d : ℕ) (hh : h < 4) (hd : d < 128) :
    pk a0 a2 a3 R (1536 + 128 * h + d) = if d < 64 then prj a0 a2 a3 R (1536 + 64 * h + d) else 0 :=
  pk_if a0 a2 a3 R _ _ _ fun k => by
    rw [wcol, if_neg (by omega), if_pos (by omega), show (1536 + 128 * h + d - 1536) % 128 = d by omega, show (1536 + 128 * h + d - 1536) / 128 = h by omega]

theorem pk_ik (R d : ℕ) (hd : d < 128) : pk a0 a2 a3 R (2048 + d) = if d < 64 then prj a0 a2 a3 R (1792 + d) else 0 :=
  pk_if a0 a2 a3 R _ _ _ fun k => by
    rw [wcol, if_neg (by omega), if_neg (by omega), if_pos (by omega), show 2048 + d - 2048 = d by omega]

theorem pk_iw (R d : ℕ) : pk a0 a2 a3 R (2176 + d) = if d < 4 then prj a0 a2 a3 R (1856 + d) else 0 :=
  pk_if a0 a2 a3 R _ _ _ fun k => by
    rw [wcol, if_neg (by omega), if_neg (by omega), if_neg (by omega), show 2176 + d - 2176 = d by omega]

theorem q_head (o r q : ℕ) (hq : q < 1024) :
    headAt 1107296256#32 16 (fun r => posOf a1 (o + r)) (fun r c => pk a0 a2 a3 (o + r) c) 0 r q = qAt (attOf a0 a1 a2 a3) (o + r) q :=
  turn_congr _ _ _ _ 16 _ (fun _ => rfl) (fun d hd => by
    dsimp only
    rw [Nat.zero_add, pk_lo a0 a2 a3 _ _ (by omega)]
    rfl) (by omega) (Nat.mod_lt _ (by omega))
theorem k_head (o r q : ℕ) (hq : q < 256) :
    headAt 1107296256#32 16 (fun r => posOf a1 (o + r)) (fun r c => pk a0 a2 a3 (o + r) c) 1024 r q = kAt (attOf a0 a1 a2 a3) (o + r) q :=
  turn_congr _ _ _ _ 16 _ (fun _ => rfl) (fun d hd => by
    dsimp only
    rw [pk_lo a0 a2 a3 _ _ (by omega)]
    rfl) (by omega) (Nat.mod_lt _ (by omega))
theorem iq_head (o r q : ℕ) (hq : q < 512) :
    headAt 1098907648#32 8 (fun r => posOf a1 (o + r)) (fun r c => pk a0 a2 a3 (o + r) c) 1536 r q = iqAt (attOf a0 a1 a2 a3) (o + r) q :=
  (turn_congr _ (angI (posOf a1 (o + r))) _ (fun d => if d < 64 then prj a0 a2 a3 (o + r) (1536 + 64 * (q / 128) + d) else 0) 8 _ (fun _ => rfl)
    (fun d hd => pk_iq a0 a2 a3 _ _ _ (by omega) hd) (by omega) (Nat.mod_lt _ (by omega))).trans (turn_pad _ _ _ _ fun _ => rfl)
theorem ik_head (o r q : ℕ) (hq : q < 128) :
    headAt 1098907648#32 8 (fun r => posOf a1 (o + r)) (fun r c => pk a0 a2 a3 (o + r) c) 2048 r q = ikAt (attOf a0 a1 a2 a3) (o + r) q := by
  unfold headAt
  rw [show q / 128 = 0 by omega, show q % 128 = q by omega]
  exact (turn_congr _ (angI (posOf a1 (o + r))) _ (fun d => if d < 64 then prj a0 a2 a3 (o + r) (1792 + d) else 0) 8 _ (fun _ => rfl)
    (fun d hd => pk_ik a0 a2 a3 _ _ hd) (by omega) hq).trans (turn_pad _ _ _ _ fun _ => rfl)
end Columns

variable (m : (ℓ : Loc nD τ sig) → Buf (Elt Ideal) ℓ) (c : Dev nD)

/-- The arrays the kernel starts from, as the attention reads them. -/
abbrev argsOf : Att := attOf (m (c, Proc.devRef .tc main_arg0)) (m (c, Proc.devRef .tc main_arg1)) (m (c, Proc.devRef .tc main_arg2)) (m (c, Proc.devRef .tc main_arg3))

/-- The projected rows from row `o` on. -/
abbrev rowsOf (o : ℕ) : ℕ → ℕ → EReal := fun r q => pk (m (c, Proc.devRef .tc main_arg0)) (m (c, Proc.devRef .tc main_arg2)) (m (c, Proc.devRef .tc main_arg3)) (o + r) q
/-- The positions from row `o` on. -/
abbrev posAt (o : ℕ) : ℕ → EReal := fun r => posOf (m (c, Proc.devRef .tc main_arg1)) (o + r)
theorem fin3 {P : Fin 3 → Prop} (h0 : P 0) (h1 : P 1) (h2 : P 2) : ∀ a, P a := by
  intro a
  fin_cases a
  exacts [h0, h1, h2]

section Point
variable (t : Fin cfg0.N)
theorem lt_rows (r : Fin 512) : 512 * (t : ℕ) + r < 16384 := by
  have h : (t : ℕ) < 32 := lt_of_lt_of_eq t.isLt N_0
  omega
theorem in_p (r : Fin 512) (q : Fin 2304) : k0_pay40 (F := Ideal) (iblk m c 0 t) (iblk m c 1 t) (iblk m c 2 t) (iblk m c 3 t) (iblk m c 4 t) (ix2 r q) =
    pk (m (c, Proc.devRef .tc main_arg0)) (m (c, Proc.devRef .tc main_arg2)) (m (c, Proc.devRef .tc main_arg3)) (512 * t + r) q := by
  unfold k0_pay40
  rw [View.ld_unit_zero hz2, View.ld_unit_zero hz2, View.ld_unit_zero hz2]
  refine pay5_at _ _ _ _ _ (fun k q => wcol (m (c, Proc.devRef .tc main_arg3)) k q) _ (fun k => ?_) (fun k => ?_) (fun k q => ?_) q
  · exact (iblk0_at m c t r k ⟨512 * t + r, lt_rows t r⟩ rfl).trans ((congrFun (V_v5 m c) _).trans (v5_at _ _ k))
  · exact (iblk1_at m c t k).trans ((congrFun (V_v6 m c) _).trans (v6_at _ k))
  · exact (iblk2_at m c t k q).trans ((congrFun (V_v21 m c) _).trans (weights_at _ k q))
theorem in_po (r : Fin 512) : (iblk m c 3 t : Vec Ideal S512x1 .f32) (ix2 r 0) = posOf (m (c, Proc.devRef .tc main_arg1)) (512 * t + r) :=
  (iblk3_at m c t r 0 ⟨512 * t + r, lt_rows t r⟩ rfl).trans ((congrFun (V_v8 m c) _).trans (v8_at _ _))
theorem in_t0 (j : Fin 128) : (iblk m c 4 t : Vec Ideal S4x128 .f32) (ix2 0 j) = rateRow 1107296256#32 16 j :=
  (iblk4_at m c t 0 j).trans ((congrFun (V_v62 m c) _).trans (table0_at j))
theorem in_t1 (j : Fin 128) : (iblk m c 4 t : Vec Ideal S4x128 .f32) (ix2 1 j) = signRow 16 j :=
  (iblk4_at m c t 1 j).trans ((congrFun (V_v62 m c) _).trans (table1_at j))
theorem in_t2 (j : Fin 128) : (iblk m c 4 t : Vec Ideal S4x128 .f32) (ix2 2 j) = rateRow 1098907648#32 8 j :=
  (iblk4_at m c t 2 j).trans ((congrFun (V_v62 m c) _).trans (table2_at j))
theorem in_t3 (j : Fin 128) : (iblk m c 4 t : Vec Ideal S4x128 .f32) (ix2 3 j) = signRow 8 j :=
  (iblk4_at m c t 3 j).trans ((congrFun (V_v62 m c) _).trans (table3_at j))
end Point

/-- The queries after the run. -/
theorem arr5_at (q : Fin 1024) (r : Fin 16384) : ((dats m 0 c).arrAt 5 cfg0.N : Vec Ideal S1024x16384 .bf16) (ix2 q r) = qAt (argsOf m c) r q := by
  have hr : (r : ℕ) / 512 < cfg0.N := lt_of_lt_of_eq (by omega) (show 32 = cfg0.N from N_0.symm)
  obtain ⟨e0, e1⟩ := index5 ⟨(r : ℕ) / 512, hr⟩
  have h := congrFun ((blocks5 m c ⟨(r : ℕ) / 512, hr⟩ (flush0_5 _)).trans (flushed5 m c _)) (ix2 q (⟨(r : ℕ) % 512, by omega⟩ : Fin 512))
  refine (congrArg ((dats m 0 c).arrAt 5 cfg0.N : Vec Ideal S1024x16384 .bf16) (funext (Fin.forall_fin_two.mpr ⟨Fin.ext ?_, Fin.ext ?_⟩))).trans (h.trans ?_)
  · show (q : ℕ) = win0_5.index ⟨(r : ℕ) / 512, hr⟩ (0 : Fin 2) * 1024 + 1 * (q : ℕ)
    omega
  · show (r : ℕ) = win0_5.index ⟨(r : ℕ) / 512, hr⟩ (1 : Fin 2) * 512 + 1 * ((r : ℕ) % 512)
    dsimp only at e1
    omega
  show out0_5 _ _ _ _ _ (ix2 q (⟨(r : ℕ) % 512, by omega⟩ : Fin 512)) = _
  refine (out5_at _ _ _ _ _ (rowsOf m c (512 * ((r : ℕ) / 512))) (posAt m c (512 * ((r : ℕ) / 512))) (in_p m c ⟨(r : ℕ) / 512, hr⟩) (in_po m c ⟨(r : ℕ) / 512, hr⟩) (in_t0 m c ⟨(r : ℕ) / 512, hr⟩) (in_t1 m c ⟨(r : ℕ) / 512, hr⟩) q _).trans ?_
  refine (q_head (m (c, Proc.devRef .tc main_arg0)) (m (c, Proc.devRef .tc main_arg1)) (m (c, Proc.devRef .tc main_arg2)) (m (c, Proc.devRef .tc main_arg3)) (512 * ((r : ℕ) / 512)) ((r : ℕ) % 512) q q.isLt).trans ?_
  rw [show 512 * ((r : ℕ) / 512) + (r : ℕ) % 512 = r by omega]

/-- The keys after the run. -/
theorem arr6_at (r : Fin 16384) (q : Fin 256) : ((dats m 0 c).arrAt 6 cfg0.N : Vec Ideal S16384x256 .bf16) (ix2 r q) = kAt (argsOf m c) r q := by
  have hr : (r : ℕ) / 512 < cfg0.N := lt_of_lt_of_eq (by omega) (show 32 = cfg0.N from N_0.symm)
  obtain ⟨e0, e1⟩ := index6 ⟨(r : ℕ) / 512, hr⟩
  have h := congrFun ((blocks6 m c ⟨(r : ℕ) / 512, hr⟩ (flush0_6 _)).trans (flushed6 m c _)) (ix2 (⟨(r : ℕ) % 512, by omega⟩ : Fin 512) q)
  refine (congrArg ((dats m 0 c).arrAt 6 cfg0.N : Vec Ideal S16384x256 .bf16) (funext (Fin.forall_fin_two.mpr ⟨Fin.ext ?_, Fin.ext ?_⟩))).trans (h.trans ?_)
  · show (r : ℕ) = win0_6.index ⟨(r : ℕ) / 512, hr⟩ (0 : Fin 2) * 512 + 1 * ((r : ℕ) % 512)
    dsimp only at e0
    omega
  · show (q : ℕ) = win0_6.index ⟨(r : ℕ) / 512, hr⟩ (1 : Fin 2) * 256 + 1 * (q : ℕ)
    omega
  show out0_6 _ _ _ _ _ (ix2 (⟨(r : ℕ) % 512, by omega⟩ : Fin 512) q) = _
  refine (out6_at _ _ _ _ _ (rowsOf m c (512 * ((r : ℕ) / 512))) (posAt m c (512 * ((r : ℕ) / 512))) (in_p m c ⟨(r : ℕ) / 512, hr⟩) (in_po m c ⟨(r : ℕ) / 512, hr⟩) (in_t0 m c ⟨(r : ℕ) / 512, hr⟩) (in_t1 m c ⟨(r : ℕ) / 512, hr⟩) _ q).trans ?_
  refine (k_head (m (c, Proc.devRef .tc main_arg0)) (m (c, Proc.devRef .tc main_arg1)) (m (c, Proc.devRef .tc main_arg2)) (m (c, Proc.devRef .tc main_arg3)) (512 * ((r : ℕ) / 512)) ((r : ℕ) % 512) q q.isLt).trans ?_
  rw [show 512 * ((r : ℕ) / 512) + (r : ℕ) % 512 = r by omega]

/-- The indexing queries after the run. -/
theorem arr8_at (q : Fin 512) (r : Fin 16384) : ((dats m 0 c).arrAt 8 cfg0.N : Vec Ideal S512x16384 .bf16) (ix2 q r) = iqAt (argsOf m c) r q := by
  have hr : (r : ℕ) / 512 < cfg0.N := lt_of_lt_of_eq (by omega) (show 32 = cfg0.N from N_0.symm)
  obtain ⟨e0, e1⟩ := index8 ⟨(r : ℕ) / 512, hr⟩
  have h := congrFun ((blocks8 m c ⟨(r : ℕ) / 512, hr⟩ (flush0_8 _)).trans (flushed8 m c _)) (ix2 q (⟨(r : ℕ) % 512, by omega⟩ : Fin 512))
  refine (congrArg ((dats m 0 c).arrAt 8 cfg0.N : Vec Ideal S512x16384 .bf16) (funext (Fin.forall_fin_two.mpr ⟨Fin.ext ?_, Fin.ext ?_⟩))).trans (h.trans ?_)
  · show (q : ℕ) = win0_8.index ⟨(r : ℕ) / 512, hr⟩ (0 : Fin 2) * 512 + 1 * (q : ℕ)
    omega
  · show (r : ℕ) = win0_8.index ⟨(r : ℕ) / 512, hr⟩ (1 : Fin 2) * 512 + 1 * ((r : ℕ) % 512)
    dsimp only at e1
    omega
  show out0_8 _ _ _ _ _ (ix2 q (⟨(r : ℕ) % 512, by omega⟩ : Fin 512)) = _
  refine (out8_at _ _ _ _ _ (rowsOf m c (512 * ((r : ℕ) / 512))) (posAt m c (512 * ((r : ℕ) / 512))) (in_p m c ⟨(r : ℕ) / 512, hr⟩) (in_po m c ⟨(r : ℕ) / 512, hr⟩) (in_t2 m c ⟨(r : ℕ) / 512, hr⟩) (in_t3 m c ⟨(r : ℕ) / 512, hr⟩) q _).trans ?_
  refine (iq_head (m (c, Proc.devRef .tc main_arg0)) (m (c, Proc.devRef .tc main_arg1)) (m (c, Proc.devRef .tc main_arg2)) (m (c, Proc.devRef .tc main_arg3)) (512 * ((r : ℕ) / 512)) ((r : ℕ) % 512) q q.isLt).trans ?_
  rw [show 512 * ((r : ℕ) / 512) + (r : ℕ) % 512 = r by omega]

/-- The indexing keys after the run. -/
theorem arr9_at (r : Fin 16384) (q : Fin 128) : ((dats m 0 c).arrAt 9 cfg0.N : Vec Ideal S16384x128 .bf16) (ix2 r q) = ikAt (argsOf m c) r q := by
  have hr : (r : ℕ) / 512 < cfg0.N := lt_of_lt_of_eq (by omega) (show 32 = cfg0.N from N_0.symm)
  obtain ⟨e0, e1⟩ := index9 ⟨(r : ℕ) / 512, hr⟩
  have h := congrFun ((blocks9 m c ⟨(r : ℕ) / 512, hr⟩ (flush0_9 _)).trans (flushed9 m c _)) (ix2 (⟨(r : ℕ) % 512, by omega⟩ : Fin 512) q)
  refine (congrArg ((dats m 0 c).arrAt 9 cfg0.N : Vec Ideal S16384x128 .bf16) (funext (Fin.forall_fin_two.mpr ⟨Fin.ext ?_, Fin.ext ?_⟩))).trans (h.trans ?_)
  · show (r : ℕ) = win0_9.index ⟨(r : ℕ) / 512, hr⟩ (0 : Fin 2) * 512 + 1 * ((r : ℕ) % 512)
    dsimp only at e0
    omega
  · show (q : ℕ) = win0_9.index ⟨(r : ℕ) / 512, hr⟩ (1 : Fin 2) * 128 + 1 * (q : ℕ)
    omega
  show out0_9 _ _ _ _ _ (ix2 (⟨(r : ℕ) % 512, by omega⟩ : Fin 512) q) = _
  refine (out9_at _ _ _ _ _ (rowsOf m c (512 * ((r : ℕ) / 512))) (posAt m c (512 * ((r : ℕ) / 512))) (in_p m c ⟨(r : ℕ) / 512, hr⟩) (in_po m c ⟨(r : ℕ) / 512, hr⟩) (in_t2 m c ⟨(r : ℕ) / 512, hr⟩) (in_t3 m c ⟨(r : ℕ) / 512, hr⟩) _ q).trans ?_
  refine (ik_head (m (c, Proc.devRef .tc main_arg0)) (m (c, Proc.devRef .tc main_arg1)) (m (c, Proc.devRef .tc main_arg2)) (m (c, Proc.devRef .tc main_arg3)) (512 * ((r : ℕ) / 512)) ((r : ℕ) % 512) q q.isLt).trans ?_
  rw [show 512 * ((r : ℕ) / 512) + (r : ℕ) % 512 = r by omega]

/-- The indexing weights after the run. -/
theorem arr10_at (q : Fin 8) (r : Fin 16384) : ((dats m 0 c).arrAt 10 cfg0.N : Vec Ideal S8x16384 .f32) (ix2 q r) = iwAt (argsOf m c) r q := by
  have hr : (r : ℕ) / 512 < cfg0.N := lt_of_lt_of_eq (by omega) (show 32 = cfg0.N from N_0.symm)
  obtain ⟨e0, e1⟩ := index10 ⟨(r : ℕ) / 512, hr⟩
  have h := congrFun ((blocks10 m c ⟨(r : ℕ) / 512, hr⟩ (flush0_10 _)).trans (flushed10 m c _)) (ix2 q (⟨(r : ℕ) % 512, by omega⟩ : Fin 512))
  refine (congrArg ((dats m 0 c).arrAt 10 cfg0.N : Vec Ideal S8x16384 .f32) (funext (Fin.forall_fin_two.mpr ⟨Fin.ext ?_, Fin.ext ?_⟩))).trans (h.trans ?_)
  · show (q : ℕ) = win0_10.index ⟨(r : ℕ) / 512, hr⟩ (0 : Fin 2) * 8 + 1 * (q : ℕ)
    omega
  · show (r : ℕ) = win0_10.index ⟨(r : ℕ) / 512, hr⟩ (1 : Fin 2) * 512 + 1 * ((r : ℕ) % 512)
    dsimp only at e1
    omega
  show out0_10 _ _ _ _ _ (ix2 q (⟨(r : ℕ) % 512, by omega⟩ : Fin 512)) = _
  refine (out10_at _ _ _ _ _ (rowsOf m c (512 * ((r : ℕ) / 512))) (in_p m c ⟨(r : ℕ) / 512, hr⟩) q _).trans ?_
  refine (pk_iw _ _ _ _ q).trans ?_
  show (if (q : ℕ) < 4 then prj _ _ _ (512 * ((r : ℕ) / 512) + (r : ℕ) % 512) (1856 + q) else 0) = _
  rw [show 512 * ((r : ℕ) / 512) + (r : ℕ) % 512 = r by omega]
  rfl

/-- The values after the run. -/
theorem arr7_at (k : Fin 32) (q : Fin 256) (r : Fin 512) : ((dats m 0 c).arrAt 7 cfg0.N : Vec Ideal S32x256x512 .bf16) (ix3 k q r) = vAt (argsOf m c) (512 * k + r) q := by
  have hk : (k : ℕ) < cfg0.N := lt_of_lt_of_eq k.isLt (show 32 = cfg0.N from N_0.symm)
  obtain ⟨e0, e1, e2⟩ := index7 ⟨(k : ℕ), hk⟩
  have h := congrFun ((blocks7 m c ⟨(k : ℕ), hk⟩ (flush0_7 _)).trans (flushed7 m c _)) (ix3 (0 : Fin 1) q r)
  refine (congrArg ((dats m 0 c).arrAt 7 cfg0.N : Vec Ideal S32x256x512 .bf16) (funext (fin3 (Fin.ext ?_) (Fin.ext ?_) (Fin.ext ?_)))).trans (h.trans ?_)
  · show (k : ℕ) = win0_7.index ⟨(k : ℕ), hk⟩ (0 : Fin 3) * 1 + 1 * 0
    dsimp only at e0
    omega
  · show (q : ℕ) = win0_7.index ⟨(k : ℕ), hk⟩ (1 : Fin 3) * 256 + 1 * (q : ℕ)
    omega
  · show (r : ℕ) = win0_7.index ⟨(k : ℕ), hk⟩ (2 : Fin 3) * 512 + 1 * (r : ℕ)
    omega
  show out0_7 _ _ _ _ _ (ix3 (0 : Fin 1) q r) = _
  refine (out7_at _ _ _ _ _ (rowsOf m c (512 * (k : ℕ))) (in_p m c ⟨(k : ℕ), hk⟩) q r).trans ?_
  exact pk_lo _ _ _ _ _ (by omega)

end Cert.Kernel6Ideal.Value
-- ==== Proof.AttnRef.lean ====
/-
  The attention's projections: the reference's arrays at an index.
-/
module

public import proofs.«01_k».proof.Proof.AttnSpec
public import proofs.«01_k».proof.Proof.Gen.Reference6Ideal.Run
public import Idealize.ShloMosaic.Lib.Pointwise

@[expose] public section

set_option maxRecDepth 10000

noncomputable section

open Idealize.ShloMosaic Idealize.ShloMosaic.TcCoe Idealize.SL.Sem
open scoped BigOperators

namespace Cert.Reference6Ideal.Value

open Cert.Reference6Ideal Cert.Reference6Ideal.Gen Cert.Ssd

section Stages
variable {F : FTy → Type} [FloatOps F]

def g13 (a0 : FVec F S2x8192x1024 .f32) (a2 : FVec F S1024 .f32) (a3 : FVec F S1024x9060 .f32) : FVec F S2x8192x9060 .f32 :=
  Host.dotGeneral dot_S2x8192x1024_S1024x9060_S2x8192x9060_2_0_01_1_n_n none (mulf (mulf a0 (broadcastInDim S2x8192x1024 ![0, 1, 2] bcast_S2x8192x1_S2x8192x1024_0_1_2
      (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_))
        (broadcastInDim S2x8192x1 ![] bcast_S_S2x8192x1 (constant S_ .f32 0x44800000#32))) (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 a2))) a3

def g34 (a1 : IVec S2x8192 32) : FVec F S2x8192x16 .f32 :=
  mulf (broadcastInDim S2x8192x16 ![0, 1, 2] bcast_S2x8192x1_S2x8192x16_0_1_2 (broadcastInDim S2x8192x1 ![0, 1] bcast_S2x8192_S2x8192x1_0_1 (sitofp .f32 a1)))
    (broadcastInDim S2x8192x16 ![0, 1, 2] bcast_S1x1x16_S2x8192x16_0_1_2 (broadcastInDim S1x1x16 ![2] bcast_S16_S1x1x16_2
      (Host.powf (broadcastInDim S16 ![] bcast_S_S16 (constant S_ .f32 0x48F42400#32)) (Host.divf (mulf (broadcastInDim S16 ![] bcast_S_S16 (constant S_ .f32 0xC0000000#32))
        (sitofp .f32 (iotaInDim S16 32 0))) (broadcastInDim S16 ![] bcast_S_S16 (constant S_ .f32 0x42000000#32))))))

def g99 (a1 : IVec S2x8192 32) : FVec F S2x8192x8 .f32 :=
  mulf (broadcastInDim S2x8192x8 ![0, 1, 2] bcast_S2x8192x1_S2x8192x8_0_1_2 (broadcastInDim S2x8192x1 ![0, 1] bcast_S2x8192_S2x8192x1_0_1 (sitofp .f32 a1)))
    (broadcastInDim S2x8192x8 ![0, 1, 2] bcast_S1x1x8_S2x8192x8_0_1_2 (broadcastInDim S1x1x8 ![2] bcast_S8_S1x1x8_2
      (Host.powf (broadcastInDim S8 ![] bcast_S_S8 (constant S_ .f32 0x48F42400#32)) (Host.divf (mulf (broadcastInDim S8 ![] bcast_S_S8 (constant S_ .f32 0xC0000000#32))
        (sitofp .f32 (iotaInDim S8 32 0))) (broadcastInDim S8 ![] bcast_S_S8 (constant S_ .f32 0x41800000#32))))))

def qH (P : FVec F S2x8192x9060 .f32) : FVec F S2x8192x8x128 .f32 :=
  shapeCast S2x8192x8x128 (extractStridedSlice S2x8192x1024 ![0, 0, 0] P slices_S2x8192x9060_S2x8192x1024_0_0_0) shapeCasts_S2x8192x1024_S2x8192x8x128
def qR (X : FVec F S2x8192x8x128 .f32) (A : FVec F S2x8192x16 .f32) : FVec F S2x8192x8x128 .f32 :=
  concatenate S2x8192x8x128 3 [⟨S2x8192x8x16, (subf (mulf (extractStridedSlice S2x8192x8x16 ![0, 0, 0, 0] X slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 (Host.cos A)))) (mulf (extractStridedSlice S2x8192x8x16 ![0, 0, 0, 16] X slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 (Host.sin A)))) : FVec F S2x8192x8x16 .f32)⟩,
    ⟨S2x8192x8x16, (addf (mulf (extractStridedSlice S2x8192x8x16 ![0, 0, 0, 16] X slices_S2x8192x8x128_S2x8192x8x16_0_0_0_16) (broadcastInDim S2x8192x8x16 ![0, 1, 2, 3] bcast_S2x8192x1x16_S2x8192x8x16_0_1_2_3 (broadcastInDim S2x8192x1x16 ![0, 1, 3] bcast_S2x8192x16_S2x8192x1x16_0_1_3 (Host.cos A)))) (mulf (extractStridedSlice S2x8192x8x16 ![0, 0, 0, 0] X slices_S2x8192x8x128_S2x8192x8x16_0_0_0_0) (broadcastInDim S2x8192x8x16 ![0, 1, 2, 3] bcast_S2x8192x1x16_S2x8192x8x16_0_1_2_3 (broadcastInDim S2x8192x1x16 ![0, 1, 3] bcast_S2x8192x16_S2x8192x1x16_0_1_3 (Host.sin A)))) : FVec F S2x8192x8x16 .f32)⟩,
    ⟨S2x8192x8x96, (extractStridedSlice S2x8192x8x96 ![0, 0, 0, 32] X slices_S2x8192x8x128_S2x8192x8x96_0_0_0_32 : FVec F S2x8192x8x96 .f32)⟩]
    concatenates_S2x8192x8x16_S2x8192x8x16_S2x8192x8x96_S2x8192x8x128_d3

def kH (P : FVec F S2x8192x9060 .f32) : FVec F S2x8192x2x128 .f32 :=
  shapeCast S2x8192x2x128 (extractStridedSlice S2x8192x256 ![0, 0, 1024] P slices_S2x8192x9060_S2x8192x256_0_0_1024) shapeCasts_S2x8192x256_S2x8192x2x128
def kR (X : FVec F S2x8192x2x128 .f32) (A : FVec F S2x8192x16 .f32) : FVec F S2x8192x2x128 .f32 :=
  concatenate S2x8192x2x128 3 [⟨S2x8192x2x16, (subf (mulf (extractStridedSlice S2x8192x2x16 ![0, 0, 0, 0] X slices_S2x8192x2x128_S2x8192x2x16_0_0_0_0) (broadcastInDim S2x8192x2x16 ![0, 1, 2, 3] bcast_S2x8192x1x16_S2x8192x2x16_0_1_2_3 (broadcastInDim S2x8192x1x16 ![0, 1, 3] bcast_S2x8192x16_S2x8192x1x16_0_1_3 (Host.cos A)))) (mulf (extractStridedSlice S2x8192x2x16 ![0, 0, 0, 16] X slices_S2x8192x2x128_S2x8192x2x16_0_0_0_16) (broadcastInDim S2x8192x2x16 ![0, 1, 2, 3] bcast_S2x8192x1x16_S2x8192x2x16_0_1_2_3 (broadcastInDim S2x8192x1x16 ![0, 1, 3] bcast_S2x8192x16_S2x8192x1x16_0_1_3 (Host.sin A)))) : FVec F S2x8192x2x16 .f32)⟩,
    ⟨S2x8192x2x16, (addf (mulf (extractStridedSlice S2x8192x2x16 ![0, 0, 0, 16] X slices_S2x8192x2x128_S2x8192x2x16_0_0_0_16) (broadcastInDim S2x8192x2x16 ![0, 1, 2, 3] bcast_S2x8192x1x16_S2x8192x2x16_0_1_2_3 (broadcastInDim S2x8192x1x16 ![0, 1, 3] bcast_S2x8192x16_S2x8192x1x16_0_1_3 (Host.cos A)))) (mulf (extractStridedSlice S2x8192x2x16 ![0, 0, 0, 0] X slices_S2x8192x2x128_S2x8192x2x16_0_0_0_0) (broadcastInDim S2x8192x2x16 ![0, 1, 2, 3] bcast_S2x8192x1x16_S2x8192x2x16_0_1_2_3 (broadcastInDim S2x8192x1x16 ![0, 1, 3] bcast_S2x8192x16_S2x8192x1x16_0_1_3 (Host.sin A)))) : FVec F S2x8192x2x16 .f32)⟩,
    ⟨S2x8192x2x96, (extractStridedSlice S2x8192x2x96 ![0, 0, 0, 32] X slices_S2x8192x2x128_S2x8192x2x96_0_0_0_32 : FVec F S2x8192x2x96 .f32)⟩]
    concatenates_S2x8192x2x16_S2x8192x2x16_S2x8192x2x96_S2x8192x2x128_d3

def iqH (P : FVec F S2x8192x9060 .f32) : FVec F S2x8192x4x64 .f32 :=
  shapeCast S2x8192x4x64 (extractStridedSlice S2x8192x256 ![0, 0, 1536] P slices_S2x8192x9060_S2x8192x256_0_0_1536) shapeCasts_S2x8192x256_S2x8192x4x64
def iqR (X : FVec F S2x8192x4x64 .f32) (A : FVec F S2x8192x8 .f32) : FVec F S2x8192x4x64 .f32 :=
  concatenate S2x8192x4x64 3 [⟨S2x8192x4x8, (subf (mulf (extractStridedSlice S2x8192x4x8 ![0, 0, 0, 0] X slices_S2x8192x4x64_S2x8192x4x8_0_0_0_0) (broadcastInDim S2x8192x4x8 ![0, 1, 2, 3] bcast_S2x8192x1x8_S2x8192x4x8_0_1_2_3 (broadcastInDim S2x8192x1x8 ![0, 1, 3] bcast_S2x8192x8_S2x8192x1x8_0_1_3 (Host.cos A)))) (mulf (extractStridedSlice S2x8192x4x8 ![0, 0, 0, 8] X slices_S2x8192x4x64_S2x8192x4x8_0_0_0_8) (broadcastInDim S2x8192x4x8 ![0, 1, 2, 3] bcast_S2x8192x1x8_S2x8192x4x8_0_1_2_3 (broadcastInDim S2x8192x1x8 ![0, 1, 3] bcast_S2x8192x8_S2x8192x1x8_0_1_3 (Host.sin A)))) : FVec F S2x8192x4x8 .f32)⟩,
    ⟨S2x8192x4x8, (addf (mulf (extractStridedSlice S2x8192x4x8 ![0, 0, 0, 8] X slices_S2x8192x4x64_S2x8192x4x8_0_0_0_8) (broadcastInDim S2x8192x4x8 ![0, 1, 2, 3] bcast_S2x8192x1x8_S2x8192x4x8_0_1_2_3 (broadcastInDim S2x8192x1x8 ![0, 1, 3] bcast_S2x8192x8_S2x8192x1x8_0_1_3 (Host.cos A)))) (mulf (extractStridedSlice S2x8192x4x8 ![0, 0, 0, 0] X slices_S2x8192x4x64_S2x8192x4x8_0_0_0_0) (broadcastInDim S2x8192x4x8 ![0, 1, 2, 3] bcast_S2x8192x1x8_S2x8192x4x8_0_1_2_3 (broadcastInDim S2x8192x1x8 ![0, 1, 3] bcast_S2x8192x8_S2x8192x1x8_0_1_3 (Host.sin A)))) : FVec F S2x8192x4x8 .f32)⟩,
    ⟨S2x8192x4x48, (extractStridedSlice S2x8192x4x48 ![0, 0, 0, 16] X slices_S2x8192x4x64_S2x8192x4x48_0_0_0_16 : FVec F S2x8192x4x48 .f32)⟩]
    concatenates_S2x8192x4x8_S2x8192x4x8_S2x8192x4x48_S2x8192x4x64_d3

def ikH (P : FVec F S2x8192x9060 .f32) : FVec F S2x8192x1x64 .f32 :=
  shapeCast S2x8192x1x64 (extractStridedSlice S2x8192x64 ![0, 0, 1792] P slices_S2x8192x9060_S2x8192x64_0_0_1792) shapeCasts_S2x8192x64_S2x8192x1x64
def ikR (X : FVec F S2x8192x1x64 .f32) (A : FVec F S2x8192x8 .f32) : FVec F S2x8192x1x64 .f32 :=
  concatenate S2x8192x1x64 3 [⟨S2x8192x1x8, (subf (mulf (extractStridedSlice S2x8192x1x8 ![0, 0, 0, 0] X slices_S2x8192x1x64_S2x8192x1x8_0_0_0_0) (broadcastInDim S2x8192x1x8 ![0, 1, 3] bcast_S2x8192x8_S2x8192x1x8_0_1_3 (Host.cos A))) (mulf (extractStridedSlice S2x8192x1x8 ![0, 0, 0, 8] X slices_S2x8192x1x64_S2x8192x1x8_0_0_0_8) (broadcastInDim S2x8192x1x8 ![0, 1, 3] bcast_S2x8192x8_S2x8192x1x8_0_1_3 (Host.sin A))) : FVec F S2x8192x1x8 .f32)⟩,
    ⟨S2x8192x1x8, (addf (mulf (extractStridedSlice S2x8192x1x8 ![0, 0, 0, 8] X slices_S2x8192x1x64_S2x8192x1x8_0_0_0_8) (broadcastInDim S2x8192x1x8 ![0, 1, 3] bcast_S2x8192x8_S2x8192x1x8_0_1_3 (Host.cos A))) (mulf (extractStridedSlice S2x8192x1x8 ![0, 0, 0, 0] X slices_S2x8192x1x64_S2x8192x1x8_0_0_0_0) (broadcastInDim S2x8192x1x8 ![0, 1, 3] bcast_S2x8192x8_S2x8192x1x8_0_1_3 (Host.sin A))) : FVec F S2x8192x1x8 .f32)⟩,
    ⟨S2x8192x1x48, (extractStridedSlice S2x8192x1x48 ![0, 0, 0, 16] X slices_S2x8192x1x64_S2x8192x1x48_0_0_0_16 : FVec F S2x8192x1x48 .f32)⟩]
    concatenates_S2x8192x1x8_S2x8192x1x8_S2x8192x1x48_S2x8192x1x64_d3

def q1 (Y : FVec F S2x8192x8x128 .f32) : FVec F S1024x16384 .bf16 :=
  truncf .bf16 (transpose S1024x16384 [1, 0] (shapeCast S16384x1024 Y shapeCasts_S2x8192x8x128_S16384x1024) transposes_S16384x1024_S1024x16384_1_0) bitsLt_bf16_f32
def k1 (Y : FVec F S2x8192x2x128 .f32) : FVec F S16384x256 .bf16 := truncf .bf16 (shapeCast S16384x256 Y shapeCasts_S2x8192x2x128_S16384x256) bitsLt_bf16_f32
def v1 (P : FVec F S2x8192x9060 .f32) : FVec F S32x256x512 .bf16 :=
  truncf .bf16 (transpose S32x256x512 [0, 2, 1] (shapeCast S32x512x256 (shapeCast S2x8192x2x128 (extractStridedSlice S2x8192x256 ![0, 0, 1280] P slices_S2x8192x9060_S2x8192x256_0_0_1280)
    shapeCasts_S2x8192x256_S2x8192x2x128) shapeCasts_S2x8192x2x128_S32x512x256) transposes_S32x512x256_S32x256x512_0_2_1) bitsLt_bf16_f32
def iq1 (Y : FVec F S2x8192x4x64 .f32) : FVec F S512x16384 .bf16 :=
  truncf .bf16 (transpose S512x16384 [1, 0] (shapeCast S16384x512 (pad S2x8192x4x128 ![0, 0, 0, 0] ![0, 0, 0, 64] ![0, 0, 0, 0] Y (sitofp .f32 (constantI S_ 32 0#32))
    pads_S2x8192x4x64_S2x8192x4x128_000_000_000_0640 h_S_) shapeCasts_S2x8192x4x128_S16384x512) transposes_S16384x512_S512x16384_1_0) bitsLt_bf16_f32
def ik1 (Y : FVec F S2x8192x1x64 .f32) : FVec F S16384x128 .bf16 :=
  truncf .bf16 (shapeCast S16384x128 (pad S2x8192x128 ![0, 0, 0] ![0, 0, 64] ![0, 0, 0] (shapeCast S2x8192x64 Y shapeCasts_S2x8192x1x64_S2x8192x64) (sitofp .f32 (constantI S_ 32 0#32))
    pads_S2x8192x64_S2x8192x128_000_000_0640 h_S_) shapeCasts_S2x8192x128_S16384x128) bitsLt_bf16_f32
def iw1 (P : FVec F S2x8192x9060 .f32) : FVec F S8x16384 .f32 :=
  transpose S8x16384 [1, 0] (shapeCast S16384x8 (pad S2x8192x8 ![0, 0, 0] ![0, 0, 4] ![0, 0, 0] (extractStridedSlice S2x8192x4 ![0, 0, 1856] P slices_S2x8192x9060_S2x8192x4_0_0_1856) (sitofp .f32 (constantI S_ 32 0#32))
    pads_S2x8192x4_S2x8192x8_000_000_040 h_S_) shapeCasts_S2x8192x8_S16384x8) transposes_S16384x8_S8x16384_1_0

/-- The reference's results, from the arguments. -/
def qOut (a0 : FVec F S2x8192x1024 .f32) (a1 : IVec S2x8192 32) (a2 : FVec F S1024 .f32) (a3 : FVec F S1024x9060 .f32) : FVec F S1024x16384 .bf16 := q1 (qR (qH (g13 a0 a2 a3)) (g34 a1))
def kOut (a0 : FVec F S2x8192x1024 .f32) (a1 : IVec S2x8192 32) (a2 : FVec F S1024 .f32) (a3 : FVec F S1024x9060 .f32) : FVec F S16384x256 .bf16 := k1 (kR (kH (g13 a0 a2 a3)) (g34 a1))
def vOut (a0 : FVec F S2x8192x1024 .f32) (a1 : IVec S2x8192 32) (a2 : FVec F S1024 .f32) (a3 : FVec F S1024x9060 .f32) : FVec F S32x256x512 .bf16 := v1 (g13 a0 a2 a3)
def iqOut (a0 : FVec F S2x8192x1024 .f32) (a1 : IVec S2x8192 32) (a2 : FVec F S1024 .f32) (a3 : FVec F S1024x9060 .f32) : FVec F S512x16384 .bf16 := iq1 (iqR (iqH (g13 a0 a2 a3)) (g99 a1))
def ikOut (a0 : FVec F S2x8192x1024 .f32) (a1 : IVec S2x8192 32) (a2 : FVec F S1024 .f32) (a3 : FVec F S1024x9060 .f32) : FVec F S16384x128 .bf16 := ik1 (ikR (ikH (g13 a0 a2 a3)) (g99 a1))
def iwOut (a0 : FVec F S2x8192x1024 .f32) (a1 : IVec S2x8192 32) (a2 : FVec F S1024 .f32) (a3 : FVec F S1024x9060 .f32) : FVec F S8x16384 .f32 := iw1 (g13 a0 a2 a3)

theorem q_eq (V : Valuation τ sig (Elt F)) : (truncf .bf16 (transpose S1024x16384 [1, 0] (shapeCast _ ((concatenate S2x8192x8x128 3 [⟨S2x8192x8x16, ((subf (mulf (res_main_v39 V) (broadcastInDim S2x8192x8x16 ![0, 1, 2, 3] bcast_S2x8192x1x16_S2x8192x8x16_0_1_2_3 (res_main_v36 V))) (mulf (res_main_v40 V) (broadcastInDim S2x8192x8x16 ![0, 1, 2, 3] bcast_S2x8192x1x16_S2x8192x8x16_0_1_2_3 (res_main_v38 V)))) : (⟨S2x8192x8x16, .f32⟩ : BufTy).Contents (Elt F))⟩, ⟨S2x8192x8x16, ((addf (mulf (res_main_v40 V) (broadcastInDim S2x8192x8x16 ![0, 1, 2, 3] bcast_S2x8192x1x16_S2x8192x8x16_0_1_2_3 (res_main_v36 V))) (mulf (res_main_v39 V) (broadcastInDim S2x8192x8x16 ![0, 1, 2, 3] bcast_S2x8192x1x16_S2x8192x8x16_0_1_2_3 (res_main_v38 V)))) : (⟨S2x8192x8x16, .f32⟩ : BufTy).Contents (Elt F))⟩, ⟨S2x8192x8x96, ((extractStridedSlice S2x8192x8x96 ![0, 0, 0, 32] (res_main_v21 V) slices_S2x8192x8x128_S2x8192x8x96_0_0_0_32) : (⟨S2x8192x8x96, .f32⟩ : BufTy).Contents (Elt F))⟩] concatenates_S2x8192x8x16_S2x8192x8x16_S2x8192x8x96_S2x8192x8x128_d3 : (⟨S2x8192x8x128, .f32⟩ : BufTy).Contents (Elt F))) shapeCasts_S2x8192x8x128_S16384x1024) transposes_S16384x1024_S1024x16384_1_0) bitsLt_bf16_f32 : Vec F S1024x16384 .bf16) =
    qOut (V (Proc.devRef .tc main_arg0)) (V (Proc.devRef .tc main_arg1)) (V (Proc.devRef .tc main_arg2)) (V (Proc.devRef .tc main_arg3)) := rfl

theorem k_eq (V : Valuation τ sig (Elt F)) : (truncf .bf16 (shapeCast _ ((concatenate S2x8192x2x128 3 [⟨S2x8192x2x16, ((subf (mulf (res_main_v71 V) (broadcastInDim S2x8192x2x16 ![0, 1, 2, 3] bcast_S2x8192x1x16_S2x8192x2x16_0_1_2_3 (res_main_v68 V))) (mulf (res_main_v72 V) (broadcastInDim S2x8192x2x16 ![0, 1, 2, 3] bcast_S2x8192x1x16_S2x8192x2x16_0_1_2_3 (res_main_v70 V)))) : (⟨S2x8192x2x16, .f32⟩ : BufTy).Contents (Elt F))⟩, ⟨S2x8192x2x16, ((addf (mulf (res_main_v72 V) (broadcastInDim S2x8192x2x16 ![0, 1, 2, 3] bcast_S2x8192x1x16_S2x8192x2x16_0_1_2_3 (res_main_v68 V))) (mulf (res_main_v71 V) (broadcastInDim S2x8192x2x16 ![0, 1, 2, 3] bcast_S2x8192x1x16_S2x8192x2x16_0_1_2_3 (res_main_v70 V)))) : (⟨S2x8192x2x16, .f32⟩ : BufTy).Contents (Elt F))⟩, ⟨S2x8192x2x96, ((extractStridedSlice S2x8192x2x96 ![0, 0, 0, 32] (res_main_v53 V) slices_S2x8192x2x128_S2x8192x2x96_0_0_0_32) : (⟨S2x8192x2x96, .f32⟩ : BufTy).Contents (Elt F))⟩] concatenates_S2x8192x2x16_S2x8192x2x16_S2x8192x2x96_S2x8192x2x128_d3 : (⟨S2x8192x2x128, .f32⟩ : BufTy).Contents (Elt F))) shapeCasts_S2x8192x2x128_S16384x256) bitsLt_bf16_f32 : Vec F S16384x256 .bf16) =
    kOut (V (Proc.devRef .tc main_arg0)) (V (Proc.devRef .tc main_arg1)) (V (Proc.devRef .tc main_arg2)) (V (Proc.devRef .tc main_arg3)) := rfl

theorem v_eq (V : Valuation τ sig (Elt F)) : (truncf .bf16 (transpose S32x256x512 [0, 2, 1] (shapeCast _ (shapeCast _ (extractStridedSlice S2x8192x256 ![0, 0, 1280] (res_main_v13 V) slices_S2x8192x9060_S2x8192x256_0_0_1280) shapeCasts_S2x8192x256_S2x8192x2x128) shapeCasts_S2x8192x2x128_S32x512x256) transposes_S32x512x256_S32x256x512_0_2_1) bitsLt_bf16_f32 : Vec F S32x256x512 .bf16) =
    vOut (V (Proc.devRef .tc main_arg0)) (V (Proc.devRef .tc main_arg1)) (V (Proc.devRef .tc main_arg2)) (V (Proc.devRef .tc main_arg3)) := rfl

theorem iq_eq (V : Valuation τ sig (Elt F)) : (truncf .bf16 (transpose S512x16384 [1, 0] (shapeCast _ (pad S2x8192x4x128 ![0, 0, 0, 0] ![0, 0, 0, 64] ![0, 0, 0, 0] ((concatenate S2x8192x4x64 3 [⟨S2x8192x4x8, ((subf (mulf (res_main_v104 V) (broadcastInDim S2x8192x4x8 ![0, 1, 2, 3] bcast_S2x8192x1x8_S2x8192x4x8_0_1_2_3 (res_main_v101 V))) (mulf (res_main_v105 V) (broadcastInDim S2x8192x4x8 ![0, 1, 2, 3] bcast_S2x8192x1x8_S2x8192x4x8_0_1_2_3 (res_main_v103 V)))) : (⟨S2x8192x4x8, .f32⟩ : BufTy).Contents (Elt F))⟩, ⟨S2x8192x4x8, ((addf (mulf (res_main_v105 V) (broadcastInDim S2x8192x4x8 ![0, 1, 2, 3] bcast_S2x8192x1x8_S2x8192x4x8_0_1_2_3 (res_main_v101 V))) (mulf (res_main_v104 V) (broadcastInDim S2x8192x4x8 ![0, 1, 2, 3] bcast_S2x8192x1x8_S2x8192x4x8_0_1_2_3 (res_main_v103 V)))) : (⟨S2x8192x4x8, .f32⟩ : BufTy).Contents (Elt F))⟩, ⟨S2x8192x4x48, ((extractStridedSlice S2x8192x4x48 ![0, 0, 0, 16] (res_main_v86 V) slices_S2x8192x4x64_S2x8192x4x48_0_0_0_16) : (⟨S2x8192x4x48, .f32⟩ : BufTy).Contents (Elt F))⟩] concatenates_S2x8192x4x8_S2x8192x4x8_S2x8192x4x48_S2x8192x4x64_d3 : (⟨S2x8192x4x64, .f32⟩ : BufTy).Contents (Elt F))) (sitofp .f32 (constantI S_ 32 0#32)) pads_S2x8192x4x64_S2x8192x4x128_000_000_000_0640 h_S_) shapeCasts_S2x8192x4x128_S16384x512) transposes_S16384x512_S512x16384_1_0) bitsLt_bf16_f32 : Vec F S512x16384 .bf16) =
    iqOut (V (Proc.devRef .tc main_arg0)) (V (Proc.devRef .tc main_arg1)) (V (Proc.devRef .tc main_arg2)) (V (Proc.devRef .tc main_arg3)) := rfl

theorem ik_eq (V : Valuation τ sig (Elt F)) : (truncf .bf16 (shapeCast _ (pad S2x8192x128 ![0, 0, 0] ![0, 0, 64] ![0, 0, 0] (shapeCast _ ((concatenate S2x8192x1x64 3 [⟨S2x8192x1x8, ((subf (mulf (res_main_v136 V) (res_main_v133 V)) (mulf (res_main_v137 V) (res_main_v135 V))) : (⟨S2x8192x1x8, .f32⟩ : BufTy).Contents (Elt F))⟩, ⟨S2x8192x1x8, ((addf (mulf (res_main_v137 V) (res_main_v133 V)) (mulf (res_main_v136 V) (res_main_v135 V))) : (⟨S2x8192x1x8, .f32⟩ : BufTy).Contents (Elt F))⟩, ⟨S2x8192x1x48, ((extractStridedSlice S2x8192x1x48 ![0, 0, 0, 16] (res_main_v118 V) slices_S2x8192x1x64_S2x8192x1x48_0_0_0_16) : (⟨S2x8192x1x48, .f32⟩ : BufTy).Contents (Elt F))⟩] concatenates_S2x8192x1x8_S2x8192x1x8_S2x8192x1x48_S2x8192x1x64_d3 : (⟨S2x8192x1x64, .f32⟩ : BufTy).Contents (Elt F))) shapeCasts_S2x8192x1x64_S2x8192x64) (sitofp .f32 (constantI S_ 32 0#32)) pads_S2x8192x64_S2x8192x128_000_000_0640 h_S_) shapeCasts_S2x8192x128_S16384x128) bitsLt_bf16_f32 : Vec F S16384x128 .bf16) =
    ikOut (V (Proc.devRef .tc main_arg0)) (V (Proc.devRef .tc main_arg1)) (V (Proc.devRef .tc main_arg2)) (V (Proc.devRef .tc main_arg3)) := rfl

theorem iw_eq (V : Valuation τ sig (Elt F)) : (transpose S8x16384 [1, 0] (shapeCast _ (pad S2x8192x8 ![0, 0, 0] ![0, 0, 4] ![0, 0, 0] (extractStridedSlice S2x8192x4 ![0, 0, 1856] (res_main_v13 V) slices_S2x8192x9060_S2x8192x4_0_0_1856) (sitofp .f32 (constantI S_ 32 0#32)) pads_S2x8192x4_S2x8192x8_000_000_040 h_S_) shapeCasts_S2x8192x8_S16384x8) transposes_S16384x8_S8x16384_1_0 : Vec F S8x16384 .f32) =
    iwOut (V (Proc.devRef .tc main_arg0)) (V (Proc.devRef .tc main_arg1)) (V (Proc.devRef .tc main_arg2)) (V (Proc.devRef .tc main_arg3)) := rfl

end Stages

variable (E : Att)

theorem g13_at (a0 : FVec Ideal S2x8192x1024 .f32) (a2 : FVec Ideal S1024 .f32) (a3 : FVec Ideal S1024x9060 .f32) (b : Fin 2) (t : Fin 8192) (q : Fin 9060) :
    g13 a0 a2 a3 (ix3 b t q) = prj a0 a2 a3 (8192 * b + t) q := by
  have h0 := rowOf_at a0
  have h2 := fun a' => eq_nat1 (a := 1024) a2 a'
  have h3 := fun a' b' => eq_nat2 (a := 1024) (b := 9060) a3 a' b'
  pointwise [g13, h0, h2, h3, prj, proj, nrm]

theorem g34_at (a1 : IVec S2x8192 32) (b : Fin 2) (t : Fin 8192) (i : Fin 16) : g34 (F := Ideal) a1 (ix3 b t i) = ang (posOf a1 (8192 * b + t)) i := by
  have h1 : ∀ (b : Fin 2) (t : Fin 8192), (FloatOps.sitofp (F := Ideal) FTy.f32 (a1 (ix2 b t)) : EReal) = posOf a1 (8192 * b + t) := fun b t =>
    (eq_nat2 (fun i => FloatOps.sitofp (F := Ideal) FTy.f32 (a1 i)) b t).trans (by
      rw [posOf, show (8192 * (b : ℕ) + t) / 8192 = b by omega, show (8192 * (b : ℕ) + t) % 8192 = t by omega])
  pointwise [g34, h1, ang, rate]

theorem g99_at (a1 : IVec S2x8192 32) (b : Fin 2) (t : Fin 8192) (i : Fin 8) : g99 (F := Ideal) a1 (ix3 b t i) = angI (posOf a1 (8192 * b + t)) i := by
  have h1 : ∀ (b : Fin 2) (t : Fin 8192), (FloatOps.sitofp (F := Ideal) FTy.f32 (a1 (ix2 b t)) : EReal) = posOf a1 (8192 * b + t) := fun b t =>
    (eq_nat2 (fun i => FloatOps.sitofp (F := Ideal) FTy.f32 (a1 i)) b t).trans (by
      rw [posOf, show (8192 * (b : ℕ) + t) / 8192 = b by omega, show (8192 * (b : ℕ) + t) % 8192 = t by omega])
  pointwise [g99, h1, angI, rate]

theorem qH_at (P : FVec Ideal S2x8192x9060 .f32) (hP : ∀ (b : Fin 2) (t : Fin 8192) (q : Fin 9060), P (ix3 b t q) = E.pr (8192 * b + t) q)
    (b : Fin 2) (t : Fin 8192) (h : Fin 8) (j : Fin 128) : qH P (ix4 b t h j) = E.pr (8192 * b + t) (0 + 128 * h + j) := by
  pointwise [qH, hP] <;> exact congrArg _ (by omega)

theorem qR_at (X : FVec Ideal S2x8192x8x128 .f32) (A : FVec Ideal S2x8192x16 .f32) (x : ℕ → ℕ → ℕ → EReal)
    (hX : ∀ (b : Fin 2) (t : Fin 8192) (h : Fin 8) (j : Fin 128), X (ix4 b t h j) = x (8192 * b + t) h j)
    (hA : ∀ (b : Fin 2) (t : Fin 8192) (i : Fin 16), A (ix3 b t i) = ang (E.po (8192 * b + t)) i)
    (b : Fin 2) (t : Fin 8192) (h : Fin 8) (j : Fin 128) : qR X A (ix4 b t h j) = turn (ang (E.po (8192 * b + t))) 16 (x (8192 * b + t) h) j := by
  refine Eq.trans ?_ (turn_cat (ang (E.po (8192 * b + t))) 16 32 (x (8192 * b + t) h) j rfl)
  pointwise [qR, hX, hA]

theorem kH_at (P : FVec Ideal S2x8192x9060 .f32) (hP : ∀ (b : Fin 2) (t : Fin 8192) (q : Fin 9060), P (ix3 b t q) = E.pr (8192 * b + t) q)
    (b : Fin 2) (t : Fin 8192) (h : Fin 2) (j : Fin 128) : kH P (ix4 b t h j) = E.pr (8192 * b + t) (1024 + 128 * h + j) := by
  pointwise [kH, hP] <;> exact congrArg _ (by omega)

theorem kR_at (X : FVec Ideal S2x8192x2x128 .f32) (A : FVec Ideal S2x8192x16 .f32) (x : ℕ → ℕ → ℕ → EReal)
    (hX : ∀ (b : Fin 2) (t : Fin 8192) (h : Fin 2) (j : Fin 128), X (ix4 b t h j) = x (8192 * b + t) h j)
    (hA : ∀ (b : Fin 2) (t : Fin 8192) (i : Fin 16), A (ix3 b t i) = ang (E.po (8192 * b + t)) i)
    (b : Fin 2) (t : Fin 8192) (h : Fin 2) (j : Fin 128) : kR X A (ix4 b t h j) = turn (ang (E.po (8192 * b + t))) 16 (x (8192 * b + t) h) j := by
  refine Eq.trans ?_ (turn_cat (ang (E.po (8192 * b + t))) 16 32 (x (8192 * b + t) h) j rfl)
  pointwise [kR, hX, hA]

theorem iqH_at (P : FVec Ideal S2x8192x9060 .f32) (hP : ∀ (b : Fin 2) (t : Fin 8192) (q : Fin 9060), P (ix3 b t q) = E.pr (8192 * b + t) q)
    (b : Fin 2) (t : Fin 8192) (h : Fin 4) (j : Fin 64) : iqH P (ix4 b t h j) = E.pr (8192 * b + t) (1536 + 64 * h + j) := by
  pointwise [iqH, hP] <;> exact congrArg _ (by omega)

theorem iqR_at (X : FVec Ideal S2x8192x4x64 .f32) (A : FVec Ideal S2x8192x8 .f32) (x : ℕ → ℕ → ℕ → EReal)
    (hX : ∀ (b : Fin 2) (t : Fin 8192) (h : Fin 4) (j : Fin 64), X (ix4 b t h j) = x (8192 * b + t) h j)
    (hA : ∀ (b : Fin 2) (t : Fin 8192) (i : Fin 8), A (ix3 b t i) = angI (E.po (8192 * b + t)) i)
    (b : Fin 2) (t : Fin 8192) (h : Fin 4) (j : Fin 64) : iqR X A (ix4 b t h j) = turn (angI (E.po (8192 * b + t))) 8 (x (8192 * b + t) h) j := by
  refine Eq.trans ?_ (turn_cat (angI (E.po (8192 * b + t))) 8 16 (x (8192 * b + t) h) j rfl)
  pointwise [iqR, hX, hA]

theorem ikH_at (P : FVec Ideal S2x8192x9060 .f32) (hP : ∀ (b : Fin 2) (t : Fin 8192) (q : Fin 9060), P (ix3 b t q) = E.pr (8192 * b + t) q)
    (b : Fin 2) (t : Fin 8192) (h : Fin 1) (j : Fin 64) : ikH P (ix4 b t h j) = E.pr (8192 * b + t) (1792 + 64 * h + j) := by
  pointwise [ikH, hP] <;> exact congrArg _ (by omega)

theorem ikR_at (X : FVec Ideal S2x8192x1x64 .f32) (A : FVec Ideal S2x8192x8 .f32) (x : ℕ → ℕ → ℕ → EReal)
    (hX : ∀ (b : Fin 2) (t : Fin 8192) (h : Fin 1) (j : Fin 64), X (ix4 b t h j) = x (8192 * b + t) h j)
    (hA : ∀ (b : Fin 2) (t : Fin 8192) (i : Fin 8), A (ix3 b t i) = angI (E.po (8192 * b + t)) i)
    (b : Fin 2) (t : Fin 8192) (h : Fin 1) (j : Fin 64) : ikR X A (ix4 b t h j) = turn (angI (E.po (8192 * b + t))) 8 (x (8192 * b + t) h) j := by
  refine Eq.trans ?_ (turn_cat (angI (E.po (8192 * b + t))) 8 16 (x (8192 * b + t) h) j rfl)
  pointwise [ikR, hX, hA]

theorem q1_at (Y : FVec Ideal S2x8192x8x128 .f32) (y : ℕ → ℕ → ℕ → EReal)
    (hY : ∀ (b : Fin 2) (t : Fin 8192) (h : Fin 8) (j : Fin 128), Y (ix4 b t h j) = y (8192 * b + t) h j)
    (q : Fin 1024) (r : Fin 16384) : q1 Y (ix2 q r) = y r (q / 128) (q % 128) := by
  pointwise [q1, hY, show 8192 * ((r : ℕ) / 8192) + (r : ℕ) % 8192 = r by omega]

theorem k1_at (Y : FVec Ideal S2x8192x2x128 .f32) (y : ℕ → ℕ → ℕ → EReal)
    (hY : ∀ (b : Fin 2) (t : Fin 8192) (h : Fin 2) (j : Fin 128), Y (ix4 b t h j) = y (8192 * b + t) h j)
    (r : Fin 16384) (q : Fin 256) : k1 Y (ix2 r q) = y r (q / 128) (q % 128) := by
  pointwise [k1, hY, show 8192 * ((r : ℕ) / 8192) + (r : ℕ) % 8192 = r by omega]

theorem iq1_at (Y : FVec Ideal S2x8192x4x64 .f32) (y : ℕ → ℕ → ℕ → EReal)
    (hY : ∀ (b : Fin 2) (t : Fin 8192) (h : Fin 4) (j : Fin 64), Y (ix4 b t h j) = y (8192 * b + t) h j)
    (q : Fin 512) (r : Fin 16384) : iq1 Y (ix2 q r) = if (q : ℕ) % 128 < 64 then y r (q / 128) (q % 128) else 0 := by
  pointwise [iq1, hY, show 8192 * ((r : ℕ) / 8192) + (r : ℕ) % 8192 = r by omega]
  exact pad_if (by omega) _

theorem ik1_at (Y : FVec Ideal S2x8192x1x64 .f32) (y : ℕ → ℕ → ℕ → EReal)
    (hY : ∀ (b : Fin 2) (t : Fin 8192) (h : Fin 1) (j : Fin 64), Y (ix4 b t h j) = y (8192 * b + t) h j)
    (r : Fin 16384) (q : Fin 128) : ik1 Y (ix2 r q) = if (q : ℕ) < 64 then y r 0 q else 0 := by
  pointwise [ik1, hY, show 8192 * ((r : ℕ) / 8192) + (r : ℕ) % 8192 = r by omega]
  exact pad_if (by omega) _

theorem v1_at (P : FVec Ideal S2x8192x9060 .f32) (hP : ∀ (b : Fin 2) (t : Fin 8192) (q : Fin 9060), P (ix3 b t q) = E.pr (8192 * b + t) q)
    (k : Fin 32) (q : Fin 256) (r : Fin 512) : v1 P (ix3 k q r) = vAt E (512 * k + r) q := by
  pointwise [v1, hP, vAt]
  exact congrArg (fun x => E.pr x (1280 + q)) (by omega)

theorem iw1_at (P : FVec Ideal S2x8192x9060 .f32) (hP : ∀ (b : Fin 2) (t : Fin 8192) (q : Fin 9060), P (ix3 b t q) = E.pr (8192 * b + t) q)
    (q : Fin 8) (r : Fin 16384) : iw1 P (ix2 q r) = iwAt E r q := by
  pointwise [iw1, hP, iwAt, show 8192 * ((r : ℕ) / 8192) + (r : ℕ) % 8192 = r by omega]
  exact pad_if (by omega) _

section All
variable (a0 : FVec Ideal S2x8192x1024 .f32) (a1 : IVec S2x8192 32) (a2 : FVec Ideal S1024 .f32) (a3 : FVec Ideal S1024x9060 .f32)

theorem qOut_at (q : Fin 1024) (r : Fin 16384) : qOut a0 a1 a2 a3 (ix2 q r) = qAt (attOf a0 a1 a2 a3) r q := by
  refine (q1_at _ (fun r h j => turn (ang (posOf a1 r)) 16 (fun d => prj a0 a2 a3 r (0 + 128 * h + d)) j)
    (fun b t h j => qR_at (attOf a0 a1 a2 a3) _ _ (fun r h d => prj a0 a2 a3 r (0 + 128 * h + d)) (fun b t h j => qH_at (attOf a0 a1 a2 a3) _ (g13_at a0 a2 a3) b t h j) (fun b t i => g34_at a1 b t i) b t h j) q r).trans ?_
  simp only [Nat.zero_add]
  rfl
theorem kOut_at (r : Fin 16384) (q : Fin 256) : kOut a0 a1 a2 a3 (ix2 r q) = kAt (attOf a0 a1 a2 a3) r q :=
  k1_at _ (fun r h j => turn (ang (posOf a1 r)) 16 (fun d => prj a0 a2 a3 r (1024 + 128 * h + d)) j)
    (fun b t h j => kR_at (attOf a0 a1 a2 a3) _ _ (fun r h d => prj a0 a2 a3 r (1024 + 128 * h + d)) (fun b t h j => kH_at (attOf a0 a1 a2 a3) _ (g13_at a0 a2 a3) b t h j) (fun b t i => g34_at a1 b t i) b t h j) r q
theorem vOut_at (k : Fin 32) (q : Fin 256) (r : Fin 512) : vOut a0 a1 a2 a3 (ix3 k q r) = vAt (attOf a0 a1 a2 a3) (512 * k + r) q :=
  v1_at (attOf a0 a1 a2 a3) _ (g13_at a0 a2 a3) k q r
theorem iqOut_at (q : Fin 512) (r : Fin 16384) : iqOut a0 a1 a2 a3 (ix2 q r) = iqAt (attOf a0 a1 a2 a3) r q :=
  iq1_at _ (fun r h j => turn (angI (posOf a1 r)) 8 (fun d => prj a0 a2 a3 r (1536 + 64 * h + d)) j)
    (fun b t h j => iqR_at (attOf a0 a1 a2 a3) _ _ (fun r h d => prj a0 a2 a3 r (1536 + 64 * h + d)) (fun b t h j => iqH_at (attOf a0 a1 a2 a3) _ (g13_at a0 a2 a3) b t h j) (fun b t i => g99_at a1 b t i) b t h j) q r
theorem ikOut_at (r : Fin 16384) (q : Fin 128) : ikOut a0 a1 a2 a3 (ix2 r q) = ikAt (attOf a0 a1 a2 a3) r q :=
  ik1_at _ (fun r h j => turn (angI (posOf a1 r)) 8 (fun d => prj a0 a2 a3 r (1792 + 64 * h + d)) j)
    (fun b t h j => ikR_at (attOf a0 a1 a2 a3) _ _ (fun r h d => prj a0 a2 a3 r (1792 + 64 * h + d)) (fun b t h j => ikH_at (attOf a0 a1 a2 a3) _ (g13_at a0 a2 a3) b t h j) (fun b t i => g99_at a1 b t i) b t h j) r q
theorem iwOut_at (q : Fin 8) (r : Fin 16384) : iwOut a0 a1 a2 a3 (ix2 q r) = iwAt (attOf a0 a1 a2 a3) r q :=
  iw1_at (attOf a0 a1 a2 a3) _ (g13_at a0 a2 a3) q r
end All

open Idealize.SL.Sem Idealize.ShloMosaic.StableHlo in
/-- The reference's run, its results named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v153) = qOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v155) = kOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v157) = vOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v160) = iqOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v162) = ikOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v164) = iwOut (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => by
    obtain ⟨h0, h1, h2, h3, h4, h5, hk⟩ := h c
    exact ⟨h0.trans (q_eq (launchContents m c)), h1.trans (k_eq (launchContents m c)), h2.trans (v_eq (launchContents m c)), h3.trans (iq_eq (launchContents m c)),
      h4.trans (ik_eq (launchContents m c)), h5.trans (iw_eq (launchContents m c)), hk⟩) (run m ρ)

end Cert.Reference6Ideal.Value
-- ==== Proof.PeerSpec.lean ====
/-
  The sum over the experts and the final norm, as formulas of the arguments' entries.
-/
module

public import proofs.«01_k».proof.Proof.LayerSpec

@[expose] public section

noncomputable section

namespace Cert.Peer

open Idealize.ShloMosaic Cert.Ssd
open scoped BigOperators

/-- The entries the experts are computed from: normed rows `a`, hidden rows `h`, the experts' tables `u` and `v`, the routing's
    tables by head, key and row, and the final gains. -/
structure Exps where
  a : ℕ → ℕ → EReal
  h : ℕ → ℕ → EReal
  u : ℕ → ℕ → EReal
  v : ℕ → ℕ → EReal
  rk : ℕ → ℕ → ℕ → EReal
  g2 : ℕ → ℕ → ℕ → EReal
  lm : ℕ → ℕ → ℕ → EReal
  g1 : ℕ → ℕ → ℕ → EReal
  g : ℕ → EReal

/-- One head's share of the weight: the second key's gate where its rank is below the first key's limit, times the first key's gate. -/
def share (rk lm g2 g1 : EReal) : EReal := Scalar.select (Ideal.cmp .olt rk lm) g2 0 * g1

/-- The weight of expert `e` at row `n`. -/
def wt (E : Exps) (n e : ℕ) : EReal :=
  ∑ h : Fin 8, share (E.rk h (e % 128) n) (E.lm h (e / 128) n) (E.g2 h (e % 128) n) (E.g1 h (e / 128) n)

/-- The activation: half the argument times one plus the error function. -/
def gel (z : EReal) : EReal := Ideal.ofBits FTy.f32 0x3F000000#32 * z * (1 + Ideal.erf (z * Ideal.ofBits FTy.f32 0x3F3504F3#32))

/-- The weighted activation of expert `e` at row `n`. -/
def wgel (E : Exps) (n e : ℕ) : EReal := wt E n e * gel (∑ d : Fin 1024, E.u e d * E.a n d)

/-- The first `k` experts' sum at row `n` and lane `d`. -/
def mix (E : Exps) (n d k : ℕ) : EReal := ∑ e ∈ Finset.range k, E.v e d * wgel E n e

/-- The final row. -/
def fin (E : Exps) (n q : ℕ) : EReal := nrm (fun d => E.h n d + mix E n d 16384) E.g q

/-- The entries of the argument arrays. -/
def expsOf (a0 a1 : (⟨3, ![2, 8192, 1024]⟩ : Shape).Idx → EReal) (a2 a3 : (⟨2, ![16384, 1024]⟩ : Shape).Idx → EReal)
    (a4 a5 a6 a7 : (⟨3, ![8, 128, 16384]⟩ : Shape).Idx → EReal) (a8 : (⟨1, ![1024]⟩ : Shape).Idx → EReal) : Exps where
  a := rowOf a0
  h := rowOf a1
  u := nat2 a2
  v := nat2 a3
  rk := nat3 a4
  g2 := nat3 a5
  lm := nat3 a6
  g1 := nat3 a7
  g := nat1 a8

/-- The sum over the first `k` experts and the next `l`. -/
theorem mix_add (E : Exps) (n d k l : ℕ) : mix E n d (k + l) = mix E n d k + ∑ e ∈ Finset.range l, E.v (k + e) d * wgel E n (k + e) :=
  Finset.sum_range_add _ _ _

end Cert.Peer
-- ==== Proof.PeerParts.lean ====
/-
  The parts of one grid point of the expert kernel: a strip of weights, its activations, and a group of experts.
-/
module

public import proofs.«01_k».proof.Proof.Gen.Kernel7Ideal.Frame

@[expose] public section

noncomputable section

namespace Cert.Kernel7Ideal.Value

open Cert.Kernel7Ideal Cert.Kernel7Ideal.Gen Idealize.ShloMosaic Idealize.ShloMosaic.TcCoe Idealize.SL.Sem

variable {F : FTy → Type} [FloatOps F]

/-- One routing head's share, added to the weights of a strip of experts. -/
def headAdd (w : FVec F S128x512 .bf16) (lm g1 : Vec F S1x1x512 .f32) (rk g2 : Vec F S1x128x512 .bf16) : FVec F S128x512 .bf16 :=
  addf w (mulf (select (cmpf .olt (shapeCast S128x512 rk shapeCasts_S1x128x512_S128x512)
        (broadcastTo S128x512 (truncf .bf16 (shapeCast S1x512 lm shapeCasts_S1x1x512_S1x512) bitsLt_bf16_f32) broadcasts_S1x512_S128x512))
      (shapeCast S128x512 g2 shapeCasts_S1x128x512_S128x512) (broadcast S128x512 (Scalar.ofBits .bf16 0x0000#16)))
    (broadcastTo S128x512 (truncf .bf16 (shapeCast S1x512 g1 shapeCasts_S1x1x512_S1x512) bitsLt_bf16_f32) broadcasts_S1x512_S128x512))

/-- The weights of strip `(s, a)`: the eight heads' shares added to zero. -/
def strip (i : grid0.Coords) (s : Fin 8) (a : Fin 2) (x3 x4 : Vec F S8x128x512 .bf16) (x5 x6 : Vec F S8x128x512 .f32) : FVec F S128x512 .bf16 :=
  headAdd (headAdd (headAdd (headAdd (headAdd (headAdd (headAdd (headAdd (broadcast S128x512 (Scalar.ofBits .bf16 0x0000#16))
    (View.ld x5 (Rect.unit (s := S8x128x512) (k0_off1 i (BitVec.ofNat 32 (2 * s.val)) (BitVec.ofNat 32 a.val)) S1x1x512.size (k0_off1_inb i s a))) (View.ld x6 (Rect.unit (s := S8x128x512) (k0_off1 i (BitVec.ofNat 32 (2 * s.val)) (BitVec.ofNat 32 a.val)) S1x1x512.size (k0_off1_inb i s a)))
    (View.ld x3 (Rect.unit (s := S8x128x512) ![0, 0, 0] S1x128x512.size inb_S8x128x512_S1x128x512_0_0_0)) (View.ld x4 (Rect.unit (s := S8x128x512) ![0, 0, 0] S1x128x512.size inb_S8x128x512_S1x128x512_0_0_0)))
    (View.ld x5 (Rect.unit (s := S8x128x512) (k0_off2 i (BitVec.ofNat 32 (2 * s.val)) (BitVec.ofNat 32 a.val)) S1x1x512.size (k0_off2_inb i s a))) (View.ld x6 (Rect.unit (s := S8x128x512) (k0_off2 i (BitVec.ofNat 32 (2 * s.val)) (BitVec.ofNat 32 a.val)) S1x1x512.size (k0_off2_inb i s a)))
    (View.ld x3 (Rect.unit (s := S8x128x512) ![1, 0, 0] S1x128x512.size inb_S8x128x512_S1x128x512_1_0_0)) (View.ld x4 (Rect.unit (s := S8x128x512) ![1, 0, 0] S1x128x512.size inb_S8x128x512_S1x128x512_1_0_0)))
    (View.ld x5 (Rect.unit (s := S8x128x512) (k0_off3 i (BitVec.ofNat 32 (2 * s.val)) (BitVec.ofNat 32 a.val)) S1x1x512.size (k0_off3_inb i s a))) (View.ld x6 (Rect.unit (s := S8x128x512) (k0_off3 i (BitVec.ofNat 32 (2 * s.val)) (BitVec.ofNat 32 a.val)) S1x1x512.size (k0_off3_inb i s a)))
    (View.ld x3 (Rect.unit (s := S8x128x512) ![2, 0, 0] S1x128x512.size inb_S8x128x512_S1x128x512_2_0_0)) (View.ld x4 (Rect.unit (s := S8x128x512) ![2, 0, 0] S1x128x512.size inb_S8x128x512_S1x128x512_2_0_0)))
    (View.ld x5 (Rect.unit (s := S8x128x512) (k0_off4 i (BitVec.ofNat 32 (2 * s.val)) (BitVec.ofNat 32 a.val)) S1x1x512.size (k0_off4_inb i s a))) (View.ld x6 (Rect.unit (s := S8x128x512) (k0_off4 i (BitVec.ofNat 32 (2 * s.val)) (BitVec.ofNat 32 a.val)) S1x1x512.size (k0_off4_inb i s a)))
    (View.ld x3 (Rect.unit (s := S8x128x512) ![3, 0, 0] S1x128x512.size inb_S8x128x512_S1x128x512_3_0_0)) (View.ld x4 (Rect.unit (s := S8x128x512) ![3, 0, 0] S1x128x512.size inb_S8x128x512_S1x128x512_3_0_0)))
    (View.ld x5 (Rect.unit (s := S8x128x512) (k0_off5 i (BitVec.ofNat 32 (2 * s.val)) (BitVec.ofNat 32 a.val)) S1x1x512.size (k0_off5_inb i s a))) (View.ld x6 (Rect.unit (s := S8x128x512) (k0_off5 i (BitVec.ofNat 32 (2 * s.val)) (BitVec.ofNat 32 a.val)) S1x1x512.size (k0_off5_inb i s a)))
    (View.ld x3 (Rect.unit (s := S8x128x512) ![4, 0, 0] S1x128x512.size inb_S8x128x512_S1x128x512_4_0_0)) (View.ld x4 (Rect.unit (s := S8x128x512) ![4, 0, 0] S1x128x512.size inb_S8x128x512_S1x128x512_4_0_0)))
    (View.ld x5 (Rect.unit (s := S8x128x512) (k0_off6 i (BitVec.ofNat 32 (2 * s.val)) (BitVec.ofNat 32 a.val)) S1x1x512.size (k0_off6_inb i s a))) (View.ld x6 (Rect.unit (s := S8x128x512) (k0_off6 i (BitVec.ofNat 32 (2 * s.val)) (BitVec.ofNat 32 a.val)) S1x1x512.size (k0_off6_inb i s a)))
    (View.ld x3 (Rect.unit (s := S8x128x512) ![5, 0, 0] S1x128x512.size inb_S8x128x512_S1x128x512_5_0_0)) (View.ld x4 (Rect.unit (s := S8x128x512) ![5, 0, 0] S1x128x512.size inb_S8x128x512_S1x128x512_5_0_0)))
    (View.ld x5 (Rect.unit (s := S8x128x512) (k0_off7 i (BitVec.ofNat 32 (2 * s.val)) (BitVec.ofNat 32 a.val)) S1x1x512.size (k0_off7_inb i s a))) (View.ld x6 (Rect.unit (s := S8x128x512) (k0_off7 i (BitVec.ofNat 32 (2 * s.val)) (BitVec.ofNat 32 a.val)) S1x1x512.size (k0_off7_inb i s a)))
    (View.ld x3 (Rect.unit (s := S8x128x512) ![6, 0, 0] S1x128x512.size inb_S8x128x512_S1x128x512_6_0_0)) (View.ld x4 (Rect.unit (s := S8x128x512) ![6, 0, 0] S1x128x512.size inb_S8x128x512_S1x128x512_6_0_0)))
    (View.ld x5 (Rect.unit (s := S8x128x512) (k0_off8 i (BitVec.ofNat 32 (2 * s.val)) (BitVec.ofNat 32 a.val)) S1x1x512.size (k0_off8_inb i s a))) (View.ld x6 (Rect.unit (s := S8x128x512) (k0_off8 i (BitVec.ofNat 32 (2 * s.val)) (BitVec.ofNat 32 a.val)) S1x1x512.size (k0_off8_inb i s a)))
    (View.ld x3 (Rect.unit (s := S8x128x512) ![7, 0, 0] S1x128x512.size inb_S8x128x512_S1x128x512_7_0_0)) (View.ld x4 (Rect.unit (s := S8x128x512) ![7, 0, 0] S1x128x512.size inb_S8x128x512_S1x128x512_7_0_0))

/-- The activations of a strip. -/
def actv (z : FVec F S128x512 .f32) : FVec F S128x512 .f32 :=
  mulf (mulf (broadcast S128x512 (Scalar.ofBits .f32 0x3F000000#32)) z)
    (addf (broadcast S128x512 (Scalar.ofBits .f32 0x3F800000#32)) (erf (mulf z (broadcast S128x512 (Scalar.ofBits .f32 0x3F3504F3#32)))))

/-- The weighted activations of a strip, as stored. -/
def wact (w : FVec F S128x512 .bf16) (z : FVec F S128x512 .f32) : FVec F S1x128x512 .bf16 :=
  shapeCast S1x128x512 (mulf w (truncf .bf16 (actv z) bitsLt_bf16_f32)) shapeCasts_S128x512_S1x128x512

/-- The upper half of a slab of products. -/
def zTop (z : FVec F S1x256x512 .f32) : FVec F S128x512 .f32 :=
  extractStridedSlice S128x512 ![0, 0] (shapeCast S256x512 z shapeCasts_S1x256x512_S256x512) slices_S256x512_o0_0_S128x512

/-- The lower half of a slab of products. -/
def zLow (z : FVec F S1x256x512 .f32) : FVec F S128x512 .f32 :=
  extractStridedSlice S128x512 ![128, 0] (shapeCast S256x512 z shapeCasts_S1x256x512_S256x512) slices_S256x512_o128_0_S128x512

/-- The stores of the first group's strips, last first. -/
def pieces0 (i : grid0.Coords) (x0 : Vec F S1024x512 .bf16) (x1 : Vec F S2048x1024 .bf16) (x3 x4 : Vec F S8x128x512 .bf16) (x5 x6 : Vec F S8x128x512 .f32) : List (View.Piece (Elt F) S2x1024x512 .bf16) :=
  [⟨Rect.unit (s := S2x1024x512) ![0, 896, 0] S1x128x512.size inb_S2x1024x512_S1x128x512_0_896_0, wact (strip i 3 1 x3 x4 x5 x6) (zLow (k0_pay5 (View.ld x1 (Rect.unit (s := S2048x1024) ![768, 0] S256x1024.size inb_S2048x1024_S256x1024_768_0)) x0))⟩,
   ⟨Rect.unit (s := S2x1024x512) ![0, 768, 0] S1x128x512.size inb_S2x1024x512_S1x128x512_0_768_0, wact (strip i 3 0 x3 x4 x5 x6) (zTop (k0_pay5 (View.ld x1 (Rect.unit (s := S2048x1024) ![768, 0] S256x1024.size inb_S2048x1024_S256x1024_768_0)) x0))⟩,
   ⟨Rect.unit (s := S2x1024x512) ![0, 640, 0] S1x128x512.size inb_S2x1024x512_S1x128x512_0_640_0, wact (strip i 2 1 x3 x4 x5 x6) (zLow (k0_pay5 (View.ld x1 (Rect.unit (s := S2048x1024) ![512, 0] S256x1024.size inb_S2048x1024_S256x1024_512_0)) x0))⟩,
   ⟨Rect.unit (s := S2x1024x512) ![0, 512, 0] S1x128x512.size inb_S2x1024x512_S1x128x512_0_512_0, wact (strip i 2 0 x3 x4 x5 x6) (zTop (k0_pay5 (View.ld x1 (Rect.unit (s := S2048x1024) ![512, 0] S256x1024.size inb_S2048x1024_S256x1024_512_0)) x0))⟩,
   ⟨Rect.unit (s := S2x1024x512) ![0, 384, 0] S1x128x512.size inb_S2x1024x512_S1x128x512_0_384_0, wact (strip i 1 1 x3 x4 x5 x6) (zLow (k0_pay5 (View.ld x1 (Rect.unit (s := S2048x1024) ![256, 0] S256x1024.size inb_S2048x1024_S256x1024_256_0)) x0))⟩,
   ⟨Rect.unit (s := S2x1024x512) ![0, 256, 0] S1x128x512.size inb_S2x1024x512_S1x128x512_0_256_0, wact (strip i 1 0 x3 x4 x5 x6) (zTop (k0_pay5 (View.ld x1 (Rect.unit (s := S2048x1024) ![256, 0] S256x1024.size inb_S2048x1024_S256x1024_256_0)) x0))⟩,
   ⟨Rect.unit (s := S2x1024x512) ![0, 128, 0] S1x128x512.size inb_S2x1024x512_S1x128x512_0_128_0, wact (strip i 0 1 x3 x4 x5 x6) (zLow (k0_pay5 (View.ld x1 (Rect.unit (s := S2048x1024) ![0, 0] S256x1024.size inb_S2048x1024_S256x1024_0_0)) x0))⟩,
   ⟨Rect.unit (s := S2x1024x512) ![0, 0, 0] S1x128x512.size inb_S2x1024x512_S1x128x512_0_0_0, wact (strip i 0 0 x3 x4 x5 x6) (zTop (k0_pay5 (View.ld x1 (Rect.unit (s := S2048x1024) ![0, 0] S256x1024.size inb_S2048x1024_S256x1024_0_0)) x0))⟩]

/-- The stores of both groups' strips, last first. -/
def pieces1 (i : grid0.Coords) (x0 : Vec F S1024x512 .bf16) (x1 : Vec F S2048x1024 .bf16) (x3 x4 : Vec F S8x128x512 .bf16) (x5 x6 : Vec F S8x128x512 .f32) : List (View.Piece (Elt F) S2x1024x512 .bf16) :=
  [⟨Rect.unit (s := S2x1024x512) ![1, 896, 0] S1x128x512.size inb_S2x1024x512_S1x128x512_1_896_0, wact (strip i 7 1 x3 x4 x5 x6) (zLow (k0_pay5 (View.ld x1 (Rect.unit (s := S2048x1024) ![1792, 0] S256x1024.size inb_S2048x1024_S256x1024_1792_0)) x0))⟩,
   ⟨Rect.unit (s := S2x1024x512) ![1, 768, 0] S1x128x512.size inb_S2x1024x512_S1x128x512_1_768_0, wact (strip i 7 0 x3 x4 x5 x6) (zTop (k0_pay5 (View.ld x1 (Rect.unit (s := S2048x1024) ![1792, 0] S256x1024.size inb_S2048x1024_S256x1024_1792_0)) x0))⟩,
   ⟨Rect.unit (s := S2x1024x512) ![1, 640, 0] S1x128x512.size inb_S2x1024x512_S1x128x512_1_640_0, wact (strip i 6 1 x3 x4 x5 x6) (zLow (k0_pay5 (View.ld x1 (Rect.unit (s := S2048x1024) ![1536, 0] S256x1024.size inb_S2048x1024_S256x1024_1536_0)) x0))⟩,
   ⟨Rect.unit (s := S2x1024x512) ![1, 512, 0] S1x128x512.size inb_S2x1024x512_S1x128x512_1_512_0, wact (strip i 6 0 x3 x4 x5 x6) (zTop (k0_pay5 (View.ld x1 (Rect.unit (s := S2048x1024) ![1536, 0] S256x1024.size inb_S2048x1024_S256x1024_1536_0)) x0))⟩,
   ⟨Rect.unit (s := S2x1024x512) ![1, 384, 0] S1x128x512.size inb_S2x1024x512_S1x128x512_1_384_0, wact (strip i 5 1 x3 x4 x5 x6) (zLow (k0_pay5 (View.ld x1 (Rect.unit (s := S2048x1024) ![1280, 0] S256x1024.size inb_S2048x1024_S256x1024_1280_0)) x0))⟩,
   ⟨Rect.unit (s := S2x1024x512) ![1, 256, 0] S1x128x512.size inb_S2x1024x512_S1x128x512_1_256_0, wact (strip i 5 0 x3 x4 x5 x6) (zTop (k0_pay5 (View.ld x1 (Rect.unit (s := S2048x1024) ![1280, 0] S256x1024.size inb_S2048x1024_S256x1024_1280_0)) x0))⟩,
   ⟨Rect.unit (s := S2x1024x512) ![1, 128, 0] S1x128x512.size inb_S2x1024x512_S1x128x512_1_128_0, wact (strip i 4 1 x3 x4 x5 x6) (zLow (k0_pay5 (View.ld x1 (Rect.unit (s := S2048x1024) ![1024, 0] S256x1024.size inb_S2048x1024_S256x1024_1024_0)) x0))⟩,
   ⟨Rect.unit (s := S2x1024x512) ![1, 0, 0] S1x128x512.size inb_S2x1024x512_S1x128x512_1_0_0, wact (strip i 4 0 x3 x4 x5 x6) (zTop (k0_pay5 (View.ld x1 (Rect.unit (s := S2048x1024) ![1024, 0] S256x1024.size inb_S2048x1024_S256x1024_1024_0)) x0))⟩] ++ pieces0 i x0 x1 x3 x4 x5 x6

/-- The weighted activations of the first group. -/
def grp0 (i : grid0.Coords) (x0 : Vec F S1024x512 .bf16) (x1 : Vec F S2048x1024 .bf16) (x3 x4 : Vec F S8x128x512 .bf16) (x5 x6 : Vec F S8x128x512 .f32) : Vec F S1x1024x512 .bf16 :=
  View.ld (View.canon (pieces0 i x0 x1 x3 x4 x5 x6)) (Rect.unit (s := S2x1024x512) ![0, 0, 0] S1x1024x512.size inb_S2x1024x512_S1x1024x512_0_0_0)

/-- The weighted activations of the second group. -/
def grp1 (i : grid0.Coords) (x0 : Vec F S1024x512 .bf16) (x1 : Vec F S2048x1024 .bf16) (x3 x4 : Vec F S8x128x512 .bf16) (x5 x6 : Vec F S8x128x512 .f32) : Vec F S1x1024x512 .bf16 :=
  View.ld (View.canon (pieces1 i x0 x1 x3 x4 x5 x6)) (Rect.unit (s := S2x1024x512) ![1, 0, 0] S1x1024x512.size inb_S2x1024x512_S1x1024x512_1_0_0)

/-- The running sums after a point, from those before it. -/
def sums (y : Vec F S1024x512 .f32) (x2 : Vec F S1024x2048 .bf16) (i : grid0.Coords) (x0 : Vec F S1024x512 .bf16) (x1 : Vec F S2048x1024 .bf16) (x3 x4 : Vec F S8x128x512 .bf16) (x5 x6 : Vec F S8x128x512 .f32) : Vec F S1024x512 .f32 :=
  k0_pay2 (k0_pay2 y (View.ld x2 (Rect.unit (s := S1024x2048) ![0, 0] S1024x1024.size inb_S1024x2048_S1024x1024_0_0)) (grp0 i x0 x1 x3 x4 x5 x6))
    (View.ld x2 (Rect.unit (s := S1024x2048) ![0, 1024] S1024x1024.size inb_S1024x2048_S1024x1024_0_1024)) (grp1 i x0 x1 x3 x4 x5 x6)

end Cert.Kernel7Ideal.Value
-- ==== Proof.PeerStrip.lean ====
/-
  A strip of experts at an index: its weights and its weighted activations.
-/
module

public import proofs.«01_k».proof.Proof.PeerSpec
public import proofs.«01_k».proof.Proof.PeerParts
public import Idealize.ShloMosaic.Lib.Pointwise
public import Idealize.ShloMosaic.Lib.Pipeline.ValueKit.Tiles
public import Idealize.ShloMosaic.Lib.Pipeline.ValueKit.Geometry

@[expose] public section

set_option maxRecDepth 10000

noncomputable section

namespace Cert.Kernel7Ideal.Value

open Cert.Kernel7Ideal Cert.Kernel7Ideal.Gen Cert.Ssd Cert.Peer
open Idealize.ShloMosaic Idealize.ShloMosaic.TcCoe Idealize.ShloMosaic.Tactic Idealize.SL.Sem
open scoped BigOperators

theorem headAdd_at (w : FVec Ideal S128x512 .bf16) (lm g1 : FVec Ideal S1x1x512 .f32) (rk g2 : FVec Ideal S1x128x512 .bf16) (b : Fin 128) (r : Fin 512) :
    headAdd (F := Ideal) w lm g1 rk g2 (ix2 b r) = w (ix2 b r) + share (rk (ix3 0 b r)) (lm (ix3 0 0 r)) (g2 (ix3 0 b r)) (g1 (ix3 0 0 r)) := by
  pointwise [headAdd, share]

theorem wact_at (w : FVec Ideal S128x512 .bf16) (z : FVec Ideal S128x512 .f32) (b : Fin 128) (r : Fin 512) :
    wact (F := Ideal) w z (ix3 0 b r) = w (ix2 b r) * gel (z (ix2 b r)) := by
  pointwise [wact, actv, gel]
  rfl

theorem zTop_at (u : FVec Ideal S256x1024 .bf16) (x : FVec Ideal S1024x512 .bf16) (b : Fin 128) (r : Fin 512) :
    zTop (F := Ideal) (k0_pay5 u x) (ix2 b r) = ∑ d : Fin 1024, u (ix2 ⟨b, by omega⟩ d) * x (ix2 d r) := by
  pointwise [zTop, k0_pay5]

theorem zLow_at (u : FVec Ideal S256x1024 .bf16) (x : FVec Ideal S1024x512 .bf16) (b : Fin 128) (r : Fin 512) :
    zLow (F := Ideal) (k0_pay5 u x) (ix2 b r) = ∑ d : Fin 1024, u (ix2 ⟨128 + b, by omega⟩ d) * x (ix2 d r) := by
  pointwise [zLow, k0_pay5]

theorem pay2_at (y : FVec Ideal S1024x512 .f32) (v : FVec Ideal S1024x1024 .bf16) (p : FVec Ideal S1x1024x512 .bf16) (d : Fin 1024) (r : Fin 512) :
    k0_pay2 (F := Ideal) y v p (ix2 d r) = y (ix2 d r) + ∑ k : Fin 1024, v (ix2 d k) * p (ix3 0 k r) := by
  pointwise [k0_pay2]

theorem pay4_at (d : Fin 1024) (r : Fin 512) : k0_pay4 (F := Ideal) (ix2 d r) = 0 := by
  pointwise [k0_pay4]

theorem pay3_at (h : FVec Ideal S512x1024 .f32) (y : FVec Ideal S1024x512 .f32) (g : FVec Ideal S1x1024 .f32) (x : ℕ → EReal) (gg : ℕ → EReal) (r : Fin 512)
    (hx : ∀ q : Fin 1024, h (ix2 r q) + y (ix2 q r) = x q) (hg : ∀ q : Fin 1024, g (ix2 0 q) = gg q) (q : Fin 1024) :
    k0_pay3 (F := Ideal) h y g (ix2 r q) = nrm x gg q := by
  pointwise [k0_pay3, nrm, hx, hg]

/-- A unit-stride load of an array of rank 3, at an index. -/
theorem ld3_at {n0 n1 n2 m0 m1 m2 : ℕ} {e : EltTy} (X : Vec Ideal ⟨3, ![n0, n1, n2]⟩ e) (off : Fin 3 → ℕ)
    (inb : ∀ a, off a + (![m0, m1, m2] : Fin 3 → ℕ) a ≤ (⟨3, ![n0, n1, n2]⟩ : Shape).size a)
    (i : Fin m0) (j : Fin m1) (k : Fin m2) (i' : Fin n0) (j' : Fin n1) (k' : Fin n2) (hi : (i' : ℕ) = off 0 + i) (hj : (j' : ℕ) = off 1 + j) (hk : (k' : ℕ) = off 2 + k) :
    View.ld X (Rect.unit (s := ⟨3, ![n0, n1, n2]⟩) off ![m0, m1, m2] inb) (ix3 i j k : (⟨3, ![m0, m1, m2]⟩ : Shape).Idx) = X (ix3 i' j' k') :=
  View.ld_unit_apply_of X _ _ inb _ _ (fun a => match a with | ⟨0, _⟩ => hi | ⟨1, _⟩ => hj | ⟨2, _⟩ => hk)

/-- The row of the first keys' tables that strip `(s, a)` of a point reads. -/
theorem key_row : ∀ (j s : Fin 8) (a : Fin 2),
    (Scalar.indexCast (Scalar.addi (Scalar.addi (Scalar.muli (BitVec.ofNat 32 j.val) 16#32) (BitVec.ofNat 32 (2 * s.val))) (BitVec.ofNat 32 a.val))).toNat
      = 16 * j.val + 2 * s.val + a.val := by
  decide +kernel

/-- What the blocks of a point hold: rows `512 I …` and experts `2048 J …`. -/
structure Blk (E : Exps) (I : ℕ) (i : grid0.Coords) (x0 : Vec Ideal S1024x512 .bf16) (x1 : Vec Ideal S2048x1024 .bf16) (x2 : Vec Ideal S1024x2048 .bf16)
    (x3 x4 : Vec Ideal S8x128x512 .bf16) (x5 x6 : Vec Ideal S8x128x512 .f32) : Prop where
  h0 : ∀ (d : Fin 1024) (r : Fin 512), x0 (ix2 d r) = E.a (512 * I + r) d
  h1 : ∀ (p : Fin 2048) (d : Fin 1024), x1 (ix2 p d) = E.u (2048 * (i 1).val + p) d
  h2 : ∀ (d : Fin 1024) (k : Fin 2048), x2 (ix2 d k) = E.v (2048 * (i 1).val + k) d
  h3 : ∀ (h : Fin 8) (b : Fin 128) (r : Fin 512), x3 (ix3 h b r) = E.rk h b (512 * I + r)
  h4 : ∀ (h : Fin 8) (b : Fin 128) (r : Fin 512), x4 (ix3 h b r) = E.g2 h b (512 * I + r)
  h5 : ∀ (h : Fin 8) (b : Fin 128) (r : Fin 512), x5 (ix3 h b r) = E.lm h b (512 * I + r)
  h6 : ∀ (h : Fin 8) (b : Fin 128) (r : Fin 512), x6 (ix3 h b r) = E.g1 h b (512 * I + r)

section Point
variable {E : Exps} {I : ℕ} {i : grid0.Coords} {x0 : Vec Ideal S1024x512 .bf16} {x1 : Vec Ideal S2048x1024 .bf16} {x2 : Vec Ideal S1024x2048 .bf16}
  {x3 x4 : Vec Ideal S8x128x512 .bf16} {x5 x6 : Vec Ideal S8x128x512 .f32} (H : Blk E I i x0 x1 x2 x3 x4 x5 x6)
include H

/-- A head's share, read through its four loads. -/
theorem share_at (s : Fin 8) (a : Fin 2) (h : Fin 8) (off : Fin 3 → ℕ) (inb : ∀ a, off a + S1x1x512.size a ≤ S8x128x512.size a)
    (inb' : ∀ a, (![h.val, 0, 0] : Fin 3 → ℕ) a + S1x128x512.size a ≤ S8x128x512.size a)
    (h0 : off 0 = h.val) (h1 : off 1 = 16 * (i 1).val + 2 * s.val + a.val) (h2 : off 2 = 0) (w : FVec Ideal S128x512 .bf16) (b : Fin 128) (r : Fin 512) :
    headAdd (F := Ideal) w (View.ld x5 (Rect.unit (s := S8x128x512) off S1x1x512.size inb)) (View.ld x6 (Rect.unit (s := S8x128x512) off S1x1x512.size inb))
      (View.ld x3 (Rect.unit (s := S8x128x512) ![h.val, 0, 0] S1x128x512.size inb')) (View.ld x4 (Rect.unit (s := S8x128x512) ![h.val, 0, 0] S1x128x512.size inb')) (ix2 b r)
      = w (ix2 b r) + share (E.rk h ((2048 * (i 1).val + (256 * s.val + 128 * a.val + b)) % 128) (512 * I + r)) (E.lm h ((2048 * (i 1).val + (256 * s.val + 128 * a.val + b)) / 128) (512 * I + r))
          (E.g2 h ((2048 * (i 1).val + (256 * s.val + 128 * a.val + b)) % 128) (512 * I + r)) (E.g1 h ((2048 * (i 1).val + (256 * s.val + 128 * a.val + b)) / 128) (512 * I + r)) := by
  have hj : (i 1).val < 8 := (i 1).isLt
  have e1 : (2048 * (i 1).val + (256 * s.val + 128 * a.val + b)) % 128 = b := by omega
  have e2 : (2048 * (i 1).val + (256 * s.val + 128 * a.val + b)) / 128 = 16 * (i 1).val + 2 * s.val + a.val := by omega
  refine (headAdd_at w _ _ _ _ b r).trans ?_
  rw [e1, e2]
  have hd : ∀ X : Vec Ideal S8x128x512 .f32, View.ld X (Rect.unit (s := S8x128x512) off S1x1x512.size inb) (ix3 0 0 r : S1x1x512.Idx)
      = X (ix3 h ⟨16 * (i 1).val + 2 * s.val + a.val, by omega⟩ r) := fun X =>
    ld3_at X off inb 0 0 r _ _ _ (by rw [h0]; rfl) (by rw [h1]; rfl) (by rw [h2]; omega)
  have hk : ∀ X : Vec Ideal S8x128x512 .bf16, View.ld X (Rect.unit (s := S8x128x512) ![h.val, 0, 0] S1x128x512.size inb') (ix3 0 b r : S1x128x512.Idx)
      = X (ix3 h b r) := fun X =>
    ld3_at X _ inb' 0 b r _ _ _ rfl (Nat.zero_add _).symm (Nat.zero_add _).symm
  rw [hd, hd, hk, hk, H.h3, H.h4, H.h5, H.h6]

/-- The weights of a strip. -/
theorem strip_at (s : Fin 8) (a : Fin 2) (b : Fin 128) (r : Fin 512) :
    strip (F := Ideal) i s a x3 x4 x5 x6 (ix2 b r) = wt E (512 * I + r) (2048 * (i 1).val + (256 * s.val + 128 * a.val + b)) := by
  unfold strip wt
  refine ((share_at H s a 7 _ _ _ rfl (key_row (i 1) s a) rfl _ b r).trans (congrArg (fun z : EReal => z + _)
    ((share_at H s a 6 _ _ _ rfl (key_row (i 1) s a) rfl _ b r).trans (congrArg (fun z : EReal => z + _)
    ((share_at H s a 5 _ _ _ rfl (key_row (i 1) s a) rfl _ b r).trans (congrArg (fun z : EReal => z + _)
    ((share_at H s a 4 _ _ _ rfl (key_row (i 1) s a) rfl _ b r).trans (congrArg (fun z : EReal => z + _)
    ((share_at H s a 3 _ _ _ rfl (key_row (i 1) s a) rfl _ b r).trans (congrArg (fun z : EReal => z + _)
    ((share_at H s a 2 _ _ _ rfl (key_row (i 1) s a) rfl _ b r).trans (congrArg (fun z : EReal => z + _)
    ((share_at H s a 1 _ _ _ rfl (key_row (i 1) s a) rfl _ b r).trans (congrArg (fun z : EReal => z + _)
    (share_at H s a 0 _ _ _ rfl (key_row (i 1) s a) rfl _ b r))))))))))))))).trans ?_
  rw [Fin.sum_univ_eight]
  refine congrArg (fun z : EReal => z + _ + _ + _ + _ + _ + _ + _) ?_
  exact (congrArg (fun z : EReal => z + _) (Ideal.ofBits_zero FTy.bf16)).trans (zero_add _)

/-- The weighted activation at a place of the buffer of strips. -/
def actAt (E : Exps) (I : ℕ) (i : grid0.Coords) (y : S2x1024x512.Idx) : Elt Ideal .bf16 :=
  wgel E (512 * I + (y 2).val) (2048 * (i 1).val + (1024 * (y 0).val + (y 1).val))

omit H in
/-- A strip's store agrees with the weighted activations where its weights and products do. -/
theorem piece_at (g o n : ℕ) (hn : 1024 * g + o = n) (inb : ∀ a, (![g, o, 0] : Fin 3 → ℕ) a + S1x128x512.size a ≤ S2x1024x512.size a)
    (w : FVec Ideal S128x512 .bf16) (z : FVec Ideal S128x512 .f32)
    (hw : ∀ (b : Fin 128) (r : Fin 512), w (ix2 b r) = wt E (512 * I + r) (2048 * (i 1).val + (n + b)))
    (hz : ∀ (b : Fin 128) (r : Fin 512), z (ix2 b r) = ∑ d : Fin 1024, E.u (2048 * (i 1).val + (n + b)) d * E.a (512 * I + r) d) :
    ∀ x : (Rect.unit (s := S2x1024x512) ![g, o, 0] S1x128x512.size inb).shape.Idx,
      wact (F := Ideal) w z x = actAt E I i ((Rect.unit (s := S2x1024x512) ![g, o, 0] S1x128x512.size inb).emb x) := by
  intro x
  unfold actAt
  rw [ValueKit.rect_emb_unit_val, ValueKit.rect_emb_unit_val, ValueKit.rect_emb_unit_val]
  have hx : x = (ix3 0 (x 1) (x 2) : S1x128x512.Idx) := (eq_ix3 (n0 := 1) (n1 := 128) (n2 := 512) x).trans (congrArg (fun k => ix3 k (x 1) (x 2)) (Subsingleton.elim _ _))
  have h0 : (x 0).val = 0 := congrArg Fin.val (congrFun hx 0)
  refine ((congrArg (wact (F := Ideal) w z) hx).trans ((wact_at w z (x 1) (x 2)).trans (congrArg₂ (fun p q : EReal => p * gel q) (hw (x 1) (x 2)) (hz (x 1) (x 2))))).trans ?_
  rw [wgel, h0]
  show _ = wt E (512 * I + (0 + (x 2).val)) (2048 * (i 1).val + (1024 * (g + 0) + (o + (x 1).val))) * gel (∑ d : Fin 1024, E.u (2048 * (i 1).val + (1024 * (g + 0) + (o + (x 1).val))) d * E.a (512 * I + (0 + (x 2).val)) d)
  rw [show 1024 * (g + 0) + (o + (x 1).val) = n + (x 1).val by omega, Nat.zero_add]

theorem uld_at (s : ℕ) (hs : s + 256 ≤ 2048) (inb : ∀ a, (![s, 0] : Fin 2 → ℕ) a + S256x1024.size a ≤ S2048x1024.size a) (p : Fin 256) (d : Fin 1024) :
    View.ld x1 (Rect.unit (s := S2048x1024) ![s, 0] S256x1024.size inb) (ix2 p d : S256x1024.Idx) = E.u (2048 * (i 1).val + (s + p)) d :=
  (View.ld_unit_apply_of x1 _ _ inb _ (ix2 ⟨s + p, by omega⟩ d) (Fin.forall_fin_two.mpr ⟨rfl, (Nat.zero_add _).symm⟩)).trans (H.h1 _ _)

theorem top_at (s : ℕ) (hs : s + 256 ≤ 2048) (inb : ∀ a, (![s, 0] : Fin 2 → ℕ) a + S256x1024.size a ≤ S2048x1024.size a) (b : Fin 128) (r : Fin 512) :
    zTop (F := Ideal) (k0_pay5 (View.ld x1 (Rect.unit (s := S2048x1024) ![s, 0] S256x1024.size inb)) x0) (ix2 b r)
      = ∑ d : Fin 1024, E.u (2048 * (i 1).val + (s + b)) d * E.a (512 * I + r) d :=
  (zTop_at _ _ b r).trans (Finset.sum_congr rfl fun d _ => by rw [uld_at H s hs, H.h0])

theorem low_at (s n : ℕ) (hs : s + 256 ≤ 2048) (hn : s + 128 = n) (inb : ∀ a, (![s, 0] : Fin 2 → ℕ) a + S256x1024.size a ≤ S2048x1024.size a) (b : Fin 128) (r : Fin 512) :
    zLow (F := Ideal) (k0_pay5 (View.ld x1 (Rect.unit (s := S2048x1024) ![s, 0] S256x1024.size inb)) x0) (ix2 b r)
      = ∑ d : Fin 1024, E.u (2048 * (i 1).val + (n + b)) d * E.a (512 * I + r) d :=
  (zLow_at _ _ b r).trans (Finset.sum_congr rfl fun d _ => by
    rw [uld_at H s hs, H.h0]
    show E.u (2048 * (i 1).val + (s + (128 + b))) d * _ = _
    rw [← Nat.add_assoc s, hn])

theorem pieces0_all : ∀ p ∈ pieces0 (F := Ideal) i x0 x1 x3 x4 x5 x6, ∀ x, p.2 x = actAt E I i (p.1.emb x) := by
  unfold pieces0
  simp only [List.forall_mem_cons]
  exact ⟨piece_at 0 896 896 rfl _ _ _ (strip_at H 3 1) (low_at H 768 896 (by omega) rfl _),
    piece_at 0 768 768 rfl _ _ _ (strip_at H 3 0) (top_at H 768 (by omega) _),
    piece_at 0 640 640 rfl _ _ _ (strip_at H 2 1) (low_at H 512 640 (by omega) rfl _),
    piece_at 0 512 512 rfl _ _ _ (strip_at H 2 0) (top_at H 512 (by omega) _),
    piece_at 0 384 384 rfl _ _ _ (strip_at H 1 1) (low_at H 256 384 (by omega) rfl _),
    piece_at 0 256 256 rfl _ _ _ (strip_at H 1 0) (top_at H 256 (by omega) _),
    piece_at 0 128 128 rfl _ _ _ (strip_at H 0 1) (low_at H 0 128 (by omega) rfl _),
    piece_at 0 0 0 rfl _ _ _ (strip_at H 0 0) (top_at H 0 (by omega) _), fun p hp => absurd hp List.not_mem_nil⟩

theorem pieces1_all : ∀ p ∈ pieces1 (F := Ideal) i x0 x1 x3 x4 x5 x6, ∀ x, p.2 x = actAt E I i (p.1.emb x) := by
  unfold pieces1
  simp only [List.cons_append, List.nil_append, List.forall_mem_cons]
  exact ⟨piece_at 1 896 1920 rfl _ _ _ (strip_at H 7 1) (low_at H 1792 1920 (by omega) rfl _),
    piece_at 1 768 1792 rfl _ _ _ (strip_at H 7 0) (top_at H 1792 (by omega) _),
    piece_at 1 640 1664 rfl _ _ _ (strip_at H 6 1) (low_at H 1536 1664 (by omega) rfl _),
    piece_at 1 512 1536 rfl _ _ _ (strip_at H 6 0) (top_at H 1536 (by omega) _),
    piece_at 1 384 1408 rfl _ _ _ (strip_at H 5 1) (low_at H 1280 1408 (by omega) rfl _),
    piece_at 1 256 1280 rfl _ _ _ (strip_at H 5 0) (top_at H 1280 (by omega) _),
    piece_at 1 128 1152 rfl _ _ _ (strip_at H 4 1) (low_at H 1024 1152 (by omega) rfl _),
    piece_at 1 0 1024 rfl _ _ _ (strip_at H 4 0) (top_at H 1024 (by omega) _), pieces0_all H⟩

end Point

end Cert.Kernel7Ideal.Value
-- ==== Proof.PeerSums.lean ====
/-
  A point's sums at an index: the experts of its two groups, added to the sums before.
-/
module

public import proofs.«01_k».proof.Proof.PeerStrip

@[expose] public section

set_option maxRecDepth 10000

noncomputable section

namespace Cert.Kernel7Ideal.Value

open Cert.Kernel7Ideal Cert.Kernel7Ideal.Gen Cert.Ssd Cert.Peer
open Idealize.ShloMosaic Idealize.ShloMosaic.TcCoe Idealize.ShloMosaic.Tactic Idealize.SL.Sem
open scoped BigOperators

theorem mem_strip0 (o : ℕ) (inb : ∀ a, (![0, o, 0] : Fin 3 → ℕ) a + S1x128x512.size a ≤ S2x1024x512.size a) (k : Fin 1024) (r : Fin 512)
    (h : o ≤ k.val ∧ k.val < o + 128) : (ix3 0 k r : S2x1024x512.Idx) ∈ (Rect.unit (s := S2x1024x512) ![0, o, 0] S1x128x512.size inb).set :=
  Rect.mem_set_unit.mpr fun a => match a with
    | ⟨0, _⟩ => ⟨le_refl _, Nat.lt_succ_self _⟩
    | ⟨1, _⟩ => h
    | ⟨2, _⟩ => ⟨Nat.zero_le _, lt_of_lt_of_eq r.isLt (Nat.zero_add _).symm⟩

theorem mem_strip1 (o : ℕ) (inb : ∀ a, (![1, o, 0] : Fin 3 → ℕ) a + S1x128x512.size a ≤ S2x1024x512.size a) (k : Fin 1024) (r : Fin 512)
    (h : o ≤ k.val ∧ k.val < o + 128) : (ix3 1 k r : S2x1024x512.Idx) ∈ (Rect.unit (s := S2x1024x512) ![1, o, 0] S1x128x512.size inb).set :=
  Rect.mem_set_unit.mpr fun a => match a with
    | ⟨0, _⟩ => ⟨le_refl _, Nat.lt_succ_self _⟩
    | ⟨1, _⟩ => h
    | ⟨2, _⟩ => ⟨Nat.zero_le _, lt_of_lt_of_eq r.isLt (Nat.zero_add _).symm⟩

theorem ldg0_at (X : Vec Ideal S2x1024x512 .bf16) (k : Fin 1024) (r : Fin 512) :
    View.ld X (Rect.unit (s := S2x1024x512) ![0, 0, 0] S1x1024x512.size inb_S2x1024x512_S1x1024x512_0_0_0) (ix3 0 k r) = X (ix3 0 k r) :=
  ld3_at X _ _ 0 k r 0 k r rfl (Nat.zero_add _).symm (Nat.zero_add _).symm

theorem actAt_0 (E : Exps) (I : ℕ) (i : grid0.Coords) (k : Fin 1024) (r : Fin 512) :
    actAt E I i (ix3 0 k r : S2x1024x512.Idx) = wgel E (512 * I + r) (2048 * (i 1).val + (0 + k)) := rfl

theorem ldg1_at (X : Vec Ideal S2x1024x512 .bf16) (k : Fin 1024) (r : Fin 512) :
    View.ld X (Rect.unit (s := S2x1024x512) ![1, 0, 0] S1x1024x512.size inb_S2x1024x512_S1x1024x512_1_0_0) (ix3 0 k r) = X (ix3 1 k r) :=
  ld3_at X _ _ 0 k r 1 k r rfl (Nat.zero_add _).symm (Nat.zero_add _).symm

theorem actAt_1 (E : Exps) (I : ℕ) (i : grid0.Coords) (k : Fin 1024) (r : Fin 512) :
    actAt E I i (ix3 1 k r : S2x1024x512.Idx) = wgel E (512 * I + r) (2048 * (i 1).val + (1024 + k)) := rfl

section Point
variable {E : Exps} {I : ℕ} {i : grid0.Coords} {x0 : Vec Ideal S1024x512 .bf16} {x1 : Vec Ideal S2048x1024 .bf16} {x2 : Vec Ideal S1024x2048 .bf16}
  {x3 x4 : Vec Ideal S8x128x512 .bf16} {x5 x6 : Vec Ideal S8x128x512 .f32} (H : Blk E I i x0 x1 x2 x3 x4 x5 x6)
include H

omit H in
theorem cover0 (k : Fin 1024) (r : Fin 512) : ∃ p ∈ pieces0 (F := Ideal) i x0 x1 x3 x4 x5 x6, (ix3 0 k r : S2x1024x512.Idx) ∈ p.1.set := by
  have hk := k.isLt
  unfold pieces0
  obtain h | h | h | h | h | h | h | h : 0 ≤ k.val ∧ k.val < 128 ∨ 128 ≤ k.val ∧ k.val < 256 ∨ 256 ≤ k.val ∧ k.val < 384 ∨ 384 ≤ k.val ∧ k.val < 512 ∨ 512 ≤ k.val ∧ k.val < 640 ∨ 640 ≤ k.val ∧ k.val < 768 ∨ 768 ≤ k.val ∧ k.val < 896 ∨ 896 ≤ k.val ∧ k.val < 1024 := by omega
  · exact ⟨_, (.tail _ (.tail _ (.tail _ (.tail _ (.tail _ (.tail _ (.tail _ (.head _)))))))), mem_strip0 0 inb_S2x1024x512_S1x128x512_0_0_0 k r h⟩
  · exact ⟨_, (.tail _ (.tail _ (.tail _ (.tail _ (.tail _ (.tail _ (.head _))))))), mem_strip0 128 inb_S2x1024x512_S1x128x512_0_128_0 k r h⟩
  · exact ⟨_, (.tail _ (.tail _ (.tail _ (.tail _ (.tail _ (.head _)))))), mem_strip0 256 inb_S2x1024x512_S1x128x512_0_256_0 k r h⟩
  · exact ⟨_, (.tail _ (.tail _ (.tail _ (.tail _ (.head _))))), mem_strip0 384 inb_S2x1024x512_S1x128x512_0_384_0 k r h⟩
  · exact ⟨_, (.tail _ (.tail _ (.tail _ (.head _)))), mem_strip0 512 inb_S2x1024x512_S1x128x512_0_512_0 k r h⟩
  · exact ⟨_, (.tail _ (.tail _ (.head _))), mem_strip0 640 inb_S2x1024x512_S1x128x512_0_640_0 k r h⟩
  · exact ⟨_, (.tail _ (.head _)), mem_strip0 768 inb_S2x1024x512_S1x128x512_0_768_0 k r h⟩
  · exact ⟨_, (.head _), mem_strip0 896 inb_S2x1024x512_S1x128x512_0_896_0 k r h⟩

theorem canon0_at (k : Fin 1024) (r : Fin 512) : View.canon (pieces0 (F := Ideal) i x0 x1 x3 x4 x5 x6) (ix3 0 k r : S2x1024x512.Idx) = actAt E I i (ix3 0 k r) :=
  View.canon_apply_of_pieces (actAt E I i) _ (pieces0_all H) _ (cover0 k r)

theorem grp0_at (k : Fin 1024) (r : Fin 512) :
    grp0 (F := Ideal) i x0 x1 x3 x4 x5 x6 (ix3 0 k r) = wgel E (512 * I + r) (2048 * (i 1).val + (0 + k)) := by
  unfold grp0
  refine (ldg0_at (View.canon (pieces0 (F := Ideal) i x0 x1 x3 x4 x5 x6)) k r).trans ((canon0_at H k r).trans ?_)
  exact actAt_0 E I i k r

omit H in
theorem cover1 (k : Fin 1024) (r : Fin 512) : ∃ p ∈ pieces1 (F := Ideal) i x0 x1 x3 x4 x5 x6, (ix3 1 k r : S2x1024x512.Idx) ∈ p.1.set := by
  have hk := k.isLt
  unfold pieces1
  obtain h | h | h | h | h | h | h | h : 0 ≤ k.val ∧ k.val < 128 ∨ 128 ≤ k.val ∧ k.val < 256 ∨ 256 ≤ k.val ∧ k.val < 384 ∨ 384 ≤ k.val ∧ k.val < 512 ∨ 512 ≤ k.val ∧ k.val < 640 ∨ 640 ≤ k.val ∧ k.val < 768 ∨ 768 ≤ k.val ∧ k.val < 896 ∨ 896 ≤ k.val ∧ k.val < 1024 := by omega
  · exact ⟨_, (.tail _ (.tail _ (.tail _ (.tail _ (.tail _ (.tail _ (.tail _ (.head _)))))))), mem_strip1 0 inb_S2x1024x512_S1x128x512_1_0_0 k r h⟩
  · exact ⟨_, (.tail _ (.tail _ (.tail _ (.tail _ (.tail _ (.tail _ (.head _))))))), mem_strip1 128 inb_S2x1024x512_S1x128x512_1_128_0 k r h⟩
  · exact ⟨_, (.tail _ (.tail _ (.tail _ (.tail _ (.tail _ (.head _)))))), mem_strip1 256 inb_S2x1024x512_S1x128x512_1_256_0 k r h⟩
  · exact ⟨_, (.tail _ (.tail _ (.tail _ (.tail _ (.head _))))), mem_strip1 384 inb_S2x1024x512_S1x128x512_1_384_0 k r h⟩
  · exact ⟨_, (.tail _ (.tail _ (.tail _ (.head _)))), mem_strip1 512 inb_S2x1024x512_S1x128x512_1_512_0 k r h⟩
  · exact ⟨_, (.tail _ (.tail _ (.head _))), mem_strip1 640 inb_S2x1024x512_S1x128x512_1_640_0 k r h⟩
  · exact ⟨_, (.tail _ (.head _)), mem_strip1 768 inb_S2x1024x512_S1x128x512_1_768_0 k r h⟩
  · exact ⟨_, (.head _), mem_strip1 896 inb_S2x1024x512_S1x128x512_1_896_0 k r h⟩

theorem canon1_at (k : Fin 1024) (r : Fin 512) : View.canon (pieces1 (F := Ideal) i x0 x1 x3 x4 x5 x6) (ix3 1 k r : S2x1024x512.Idx) = actAt E I i (ix3 1 k r) :=
  View.canon_apply_of_pieces (actAt E I i) _ (pieces1_all H) _ (cover1 k r)

theorem grp1_at (k : Fin 1024) (r : Fin 512) :
    grp1 (F := Ideal) i x0 x1 x3 x4 x5 x6 (ix3 0 k r) = wgel E (512 * I + r) (2048 * (i 1).val + (1024 + k)) := by
  unfold grp1
  refine (ldg1_at (View.canon (pieces1 (F := Ideal) i x0 x1 x3 x4 x5 x6)) k r).trans ((canon1_at H k r).trans ?_)
  exact actAt_1 E I i k r

theorem vld_at (s : ℕ) (hs : s + 1024 ≤ 2048) (inb : ∀ a, (![0, s] : Fin 2 → ℕ) a + S1024x1024.size a ≤ S1024x2048.size a) (d k : Fin 1024) :
    View.ld x2 (Rect.unit (s := S1024x2048) ![0, s] S1024x1024.size inb) (ix2 d k : S1024x1024.Idx) = E.v (2048 * (i 1).val + (s + k)) d :=
  (View.ld_unit_apply_of x2 _ _ inb _ (ix2 d ⟨s + k, by omega⟩) (Fin.forall_fin_two.mpr ⟨(Nat.zero_add _).symm, rfl⟩)).trans (H.h2 _ _)

/-- The sums after a point are those of its experts and all before, if the sums before it are. -/
theorem sums_at (y : Vec Ideal S1024x512 .f32) (d : Fin 1024) (r : Fin 512) (hy : y (ix2 d r) = mix E (512 * I + r) d (2048 * (i 1).val)) :
    sums (F := Ideal) y x2 i x0 x1 x3 x4 x5 x6 (ix2 d r) = mix E (512 * I + r) d (2048 * ((i 1).val + 1)) := by
  unfold sums
  refine (pay2_at _ _ _ d r).trans ?_
  refine (congrArg₂ (fun p q : EReal => p + q) ((pay2_at y _ _ d r).trans (congrArg₂ (fun p q : EReal => p + q) hy (Finset.sum_congr rfl fun k _ => by
    rw [vld_at H 0 (by omega), grp0_at H]))) (Finset.sum_congr rfl fun k _ => by rw [vld_at H 1024 (by omega), grp1_at H])).trans ?_
  rw [show 2048 * ((i 1).val + 1) = 2048 * (i 1).val + (1024 + 1024) by omega, mix_add, Finset.sum_range_add, Finset.sum_range, Finset.sum_range, add_assoc]
  simp only [Nat.zero_add]

end Point

end Cert.Kernel7Ideal.Value
-- ==== Proof.PeerBlocks.lean ====
/-
  The expert call: the blocks of a grid point as entries of the argument arrays.
-/
module

public import proofs.«01_k».proof.Proof.PeerStrip
public import proofs.«01_k».proof.Proof.Gen.Kernel7Ideal.Frame

@[expose] public section

set_option maxRecDepth 10000

noncomputable section

open Idealize.ShloMosaic Idealize.ShloMosaic.TcCoe Idealize.ShloMosaic.Tactic Idealize.SL.Sem
open Idealize.ShloMosaic.StableHlo
open scoped BigOperators

namespace Cert.Kernel7Ideal.Value

open Cert.Kernel7Ideal Cert.Kernel7Ideal.Gen Cert.Ssd Cert.Peer

section Blocks
variable {F : FTy → Type} [FloatOps F]
variable (m : (ℓ : Loc nD τ sig) → Buf (Elt F) ℓ)

theorem index0 : ∀ t : Fin cfg0.N, win0_0.index t (0 : Fin 2) = 0 ∧ win0_0.index t (1 : Fin 2) = t.val / 8 :=
  (by decide +kernel : ∀ t : Fin grid0.N, _)
theorem iblk0_at (c : Dev nD) (t : Fin cfg0.N) (r : Fin 1024) (q : Fin 512) (r' : Fin 1024) (q' : Fin 16384) (hr : (r' : ℕ) = r) (hq : (q' : ℕ) = 512 * (t / 8) + q) :
    (iblk m c 0 t : Vec F S1024x512 .bf16) (ix2 r q) = (V m c main_v2 : Vec F S1024x16384 .bf16) (ix2 r' q') := by
  obtain ⟨e0, e1⟩ := index0 t
  refine congrArg (V m c main_v2 : Vec F S1024x16384 .bf16) (funext (Fin.forall_fin_two.mpr ⟨Fin.ext ?_, Fin.ext ?_⟩))
  · show win0_0.index t (0 : Fin 2) * 1024 + 1 * (r : ℕ) = r'
    omega
  · show win0_0.index t (1 : Fin 2) * 512 + 1 * (q : ℕ) = q'
    omega

theorem index1 : ∀ t : Fin cfg0.N, win0_1.index t (0 : Fin 2) = t.val % 8 ∧ win0_1.index t (1 : Fin 2) = 0 :=
  (by decide +kernel : ∀ t : Fin grid0.N, _)
theorem iblk1_at (c : Dev nD) (t : Fin cfg0.N) (r : Fin 2048) (q : Fin 1024) (r' : Fin 16384) (q' : Fin 1024) (hr : (r' : ℕ) = 2048 * (t % 8) + r) (hq : (q' : ℕ) = q) :
    (iblk m c 1 t : Vec F S2048x1024 .bf16) (ix2 r q) = (V m c main_v3 : Vec F S16384x1024 .bf16) (ix2 r' q') := by
  obtain ⟨e0, e1⟩ := index1 t
  refine congrArg (V m c main_v3 : Vec F S16384x1024 .bf16) (funext (Fin.forall_fin_two.mpr ⟨Fin.ext ?_, Fin.ext ?_⟩))
  · show win0_1.index t (0 : Fin 2) * 2048 + 1 * (r : ℕ) = r'
    omega
  · show win0_1.index t (1 : Fin 2) * 1024 + 1 * (q : ℕ) = q'
    omega

theorem index2 : ∀ t : Fin cfg0.N, win0_2.index t (0 : Fin 2) = 0 ∧ win0_2.index t (1 : Fin 2) = t.val % 8 :=
  (by decide +kernel : ∀ t : Fin grid0.N, _)
theorem iblk2_at (c : Dev nD) (t : Fin cfg0.N) (r : Fin 1024) (q : Fin 2048) (r' : Fin 1024) (q' : Fin 16384) (hr : (r' : ℕ) = r) (hq : (q' : ℕ) = 2048 * (t % 8) + q) :
    (iblk m c 2 t : Vec F S1024x2048 .bf16) (ix2 r q) = (V m c main_v5 : Vec F S1024x16384 .bf16) (ix2 r' q') := by
  obtain ⟨e0, e1⟩ := index2 t
  refine congrArg (V m c main_v5 : Vec F S1024x16384 .bf16) (funext (Fin.forall_fin_two.mpr ⟨Fin.ext ?_, Fin.ext ?_⟩))
  · show win0_2.index t (0 : Fin 2) * 1024 + 1 * (r : ℕ) = r'
    omega
  · show win0_2.index t (1 : Fin 2) * 2048 + 1 * (q : ℕ) = q'
    omega

theorem index3 : ∀ t : Fin cfg0.N, win0_3.index t (0 : Fin 3) = 0 ∧ win0_3.index t (1 : Fin 3) = 0 ∧ win0_3.index t (2 : Fin 3) = t.val / 8 :=
  (by decide +kernel : ∀ t : Fin grid0.N, _)
theorem iblk3_at (c : Dev nD) (t : Fin cfg0.N) (a : Fin 8) (b : Fin 128) (r : Fin 512) (r' : Fin 16384) (hr : (r' : ℕ) = 512 * (t / 8) + r) :
    (iblk m c 3 t : Vec F S8x128x512 .bf16) (ix3 a b r) = (V m c main_v6 : Vec F S8x128x16384 .bf16) (ix3 a b r') := by
  obtain ⟨e0, e1, e2⟩ := index3 t
  have h0 : win0_3.index t (0 : Fin 3) * 8 + 1 * (a : ℕ) = a := by omega
  have h1 : win0_3.index t (1 : Fin 3) * 128 + 1 * (b : ℕ) = b := by omega
  have h2 : win0_3.index t (2 : Fin 3) * 512 + 1 * (r : ℕ) = r' := by omega
  exact congrArg (V m c main_v6 : Vec F S8x128x16384 .bf16) (funext fun x => Fin.ext (match x with | ⟨0, _⟩ => h0 | ⟨1, _⟩ => h1 | ⟨2, _⟩ => h2))

theorem index4 : ∀ t : Fin cfg0.N, win0_4.index t (0 : Fin 3) = 0 ∧ win0_4.index t (1 : Fin 3) = 0 ∧ win0_4.index t (2 : Fin 3) = t.val / 8 :=
  (by decide +kernel : ∀ t : Fin grid0.N, _)
theorem iblk4_at (c : Dev nD) (t : Fin cfg0.N) (a : Fin 8) (b : Fin 128) (r : Fin 512) (r' : Fin 16384) (hr : (r' : ℕ) = 512 * (t / 8) + r) :
    (iblk m c 4 t : Vec F S8x128x512 .bf16) (ix3 a b r) = (V m c main_v7 : Vec F S8x128x16384 .bf16) (ix3 a b r') := by
  obtain ⟨e0, e1, e2⟩ := index4 t
  have h0 : win0_4.index t (0 : Fin 3) * 8 + 1 * (a : ℕ) = a := by omega
  have h1 : win0_4.index t (1 : Fin 3) * 128 + 1 * (b : ℕ) = b := by omega
  have h2 : win0_4.index t (2 : Fin 3) * 512 + 1 * (r : ℕ) = r' := by omega
  exact congrArg (V m c main_v7 : Vec F S8x128x16384 .bf16) (funext fun x => Fin.ext (match x with | ⟨0, _⟩ => h0 | ⟨1, _⟩ => h1 | ⟨2, _⟩ => h2))

theorem index5 : ∀ t : Fin cfg0.N, win0_5.index t (0 : Fin 3) = 0 ∧ win0_5.index t (1 : Fin 3) = 0 ∧ win0_5.index t (2 : Fin 3) = t.val / 8 :=
  (by decide +kernel : ∀ t : Fin grid0.N, _)
theorem iblk5_at (c : Dev nD) (t : Fin cfg0.N) (a : Fin 8) (b : Fin 128) (r : Fin 512) (r' : Fin 16384) (hr : (r' : ℕ) = 512 * (t / 8) + r) :
    (iblk m c 5 t : Vec F S8x128x512 .f32) (ix3 a b r) = (V m c main_arg6 : Vec F S8x128x16384 .f32) (ix3 a b r') := by
  obtain ⟨e0, e1, e2⟩ := index5 t
  have h0 : win0_5.index t (0 : Fin 3) * 8 + 1 * (a : ℕ) = a := by omega
  have h1 : win0_5.index t (1 : Fin 3) * 128 + 1 * (b : ℕ) = b := by omega
  have h2 : win0_5.index t (2 : Fin 3) * 512 + 1 * (r : ℕ) = r' := by omega
  exact congrArg (V m c main_arg6 : Vec F S8x128x16384 .f32) (funext fun x => Fin.ext (match x with | ⟨0, _⟩ => h0 | ⟨1, _⟩ => h1 | ⟨2, _⟩ => h2))

theorem index6 : ∀ t : Fin cfg0.N, win0_6.index t (0 : Fin 3) = 0 ∧ win0_6.index t (1 : Fin 3) = 0 ∧ win0_6.index t (2 : Fin 3) = t.val / 8 :=
  (by decide +kernel : ∀ t : Fin grid0.N, _)
theorem iblk6_at (c : Dev nD) (t : Fin cfg0.N) (a : Fin 8) (b : Fin 128) (r : Fin 512) (r' : Fin 16384) (hr : (r' : ℕ) = 512 * (t / 8) + r) :
    (iblk m c 6 t : Vec F S8x128x512 .f32) (ix3 a b r) = (V m c main_arg7 : Vec F S8x128x16384 .f32) (ix3 a b r') := by
  obtain ⟨e0, e1, e2⟩ := index6 t
  have h0 : win0_6.index t (0 : Fin 3) * 8 + 1 * (a : ℕ) = a := by omega
  have h1 : win0_6.index t (1 : Fin 3) * 128 + 1 * (b : ℕ) = b := by omega
  have h2 : win0_6.index t (2 : Fin 3) * 512 + 1 * (r : ℕ) = r' := by omega
  exact congrArg (V m c main_arg7 : Vec F S8x128x16384 .f32) (funext fun x => Fin.ext (match x with | ⟨0, _⟩ => h0 | ⟨1, _⟩ => h1 | ⟨2, _⟩ => h2))

theorem index7 : ∀ t : Fin cfg0.N, win0_7.index t (0 : Fin 2) = t.val / 8 ∧ win0_7.index t (1 : Fin 2) = 0 :=
  (by decide +kernel : ∀ t : Fin grid0.N, _)
theorem iblk7_at (c : Dev nD) (t : Fin cfg0.N) (r : Fin 512) (q : Fin 1024) (r' : Fin 16384) (q' : Fin 1024) (hr : (r' : ℕ) = 512 * (t / 8) + r) (hq : (q' : ℕ) = q) :
    (iblk m c 7 t : Vec F S512x1024 .f32) (ix2 r q) = (V m c main_v8 : Vec F S16384x1024 .f32) (ix2 r' q') := by
  obtain ⟨e0, e1⟩ := index7 t
  refine congrArg (V m c main_v8 : Vec F S16384x1024 .f32) (funext (Fin.forall_fin_two.mpr ⟨Fin.ext ?_, Fin.ext ?_⟩))
  · show win0_7.index t (0 : Fin 2) * 512 + 1 * (r : ℕ) = r'
    omega
  · show win0_7.index t (1 : Fin 2) * 1024 + 1 * (q : ℕ) = q'
    omega

theorem index8 : ∀ t : Fin cfg0.N, win0_8.index t (0 : Fin 2) = 0 ∧ win0_8.index t (1 : Fin 2) = 0 :=
  (by decide +kernel : ∀ t : Fin grid0.N, _)
theorem iblk8_at (c : Dev nD) (t : Fin cfg0.N) (r : Fin 1) (q : Fin 1024) (r' : Fin 1) (q' : Fin 1024) (hr : (r' : ℕ) = r) (hq : (q' : ℕ) = q) :
    (iblk m c 8 t : Vec F S1x1024 .f32) (ix2 r q) = (V m c main_v9 : Vec F S1x1024 .f32) (ix2 r' q') := by
  obtain ⟨e0, e1⟩ := index8 t
  refine congrArg (V m c main_v9 : Vec F S1x1024 .f32) (funext (Fin.forall_fin_two.mpr ⟨Fin.ext ?_, Fin.ext ?_⟩))
  · show win0_8.index t (0 : Fin 2) * 1 + 1 * (r : ℕ) = r'
    omega
  · show win0_8.index t (1 : Fin 2) * 1024 + 1 * (q : ℕ) = q'
    omega

theorem V_v2 (c : Dev nD) : (V m c main_v2 : Vec F S1024x16384 .bf16) = truncf .bf16 (transpose S1024x16384 [1, 0] (shapeCast S16384x1024 (m (c, Proc.devRef .tc main_arg0) : Vec F S2x8192x1024 .f32) shapeCasts_S2x8192x1024_S16384x1024 : FVec F S16384x1024 .f32) transposes_S16384x1024_S1024x16384_1_0 : FVec F S1024x16384 .f32) bitsLt_bf16_f32 := by
  unfold V
  after_results
  rfl
theorem V_v3 (c : Dev nD) : (V m c main_v3 : Vec F S16384x1024 .bf16) = truncf .bf16 (m (c, Proc.devRef .tc main_arg2) : Vec F S16384x1024 .f32) bitsLt_bf16_f32 := by
  unfold V
  after_results
theorem V_v5 (c : Dev nD) : (V m c main_v5 : Vec F S1024x16384 .bf16) = truncf .bf16 (transpose S1024x16384 [1, 0] (m (c, Proc.devRef .tc main_arg3) : Vec F S16384x1024 .f32) transposes_S16384x1024_S1024x16384_1_0 : FVec F S1024x16384 .f32) bitsLt_bf16_f32 := by
  unfold V
  after_results
theorem V_v6 (c : Dev nD) : (V m c main_v6 : Vec F S8x128x16384 .bf16) = truncf .bf16 (m (c, Proc.devRef .tc main_arg4) : Vec F S8x128x16384 .f32) bitsLt_bf16_f32 := by
  unfold V
  after_results
theorem V_v7 (c : Dev nD) : (V m c main_v7 : Vec F S8x128x16384 .bf16) = truncf .bf16 (m (c, Proc.devRef .tc main_arg5) : Vec F S8x128x16384 .f32) bitsLt_bf16_f32 := by
  unfold V
  after_results
theorem V_v8 (c : Dev nD) : (V m c main_v8 : Vec F S16384x1024 .f32) = shapeCast S16384x1024 (m (c, Proc.devRef .tc main_arg1) : Vec F S2x8192x1024 .f32) shapeCasts_S2x8192x1024_S16384x1024 := by
  unfold V
  after_results
  rfl
theorem V_v9 (c : Dev nD) : (V m c main_v9 : Vec F S1x1024 .f32) = shapeCast S1x1024 (m (c, Proc.devRef .tc main_arg8) : Vec F S1024 .f32) shapeCasts_S1024_S1x1024 := by
  unfold V
  after_results
  rfl
end Blocks

theorem coord1 : ∀ t : Fin cfg0.N, (grid0.coords t 1).val = t.val % 8 := (by decide +kernel : ∀ t : Fin grid0.N, _)

theorem v2_at (a : FVec Ideal S2x8192x1024 .f32) (d : Fin 1024) (r : Fin 16384) :
    truncf (F := Ideal) .bf16 (transpose S1024x16384 [1, 0] (shapeCast S16384x1024 a shapeCasts_S2x8192x1024_S16384x1024 : FVec Ideal S16384x1024 .f32) transposes_S16384x1024_S1024x16384_1_0 : FVec Ideal S1024x16384 .f32) bitsLt_bf16_f32 (ix2 d r) = rowOf a r d := by
  have h := fun a' b' c' => eq_nat3 (a := 2) (b := 8192) (c := 1024) a a' b' c'
  pointwise [h, rowOf]
theorem v5_at (a : FVec Ideal S16384x1024 .f32) (d : Fin 1024) (r : Fin 16384) :
    truncf (F := Ideal) .bf16 (transpose S1024x16384 [1, 0] a transposes_S16384x1024_S1024x16384_1_0 : FVec Ideal S1024x16384 .f32) bitsLt_bf16_f32 (ix2 d r) = nat2 a r d := by
  have h := fun a' b' => eq_nat2 (a := 16384) (b := 1024) a a' b'
  pointwise [h]
theorem v8_at (a : FVec Ideal S2x8192x1024 .f32) (r : Fin 16384) (d : Fin 1024) :
    shapeCast S16384x1024 a shapeCasts_S2x8192x1024_S16384x1024 (ix2 r d) = rowOf a r d := by
  have h := fun a' b' c' => eq_nat3 (a := 2) (b := 8192) (c := 1024) a a' b' c'
  pointwise [h, rowOf]
theorem v9_at (a : FVec Ideal S1024 .f32) (q : Fin 1024) : shapeCast S1x1024 a shapeCasts_S1024_S1x1024 (ix2 0 q) = nat1 a q := by
  have h := fun a' => eq_nat1 (a := 1024) a a'
  pointwise [h]

variable (m : (ℓ : Loc nD τ sig) → Buf (Elt Ideal) ℓ) (c : Dev nD)

/-- The entries of the call's arguments. -/
abbrev argsOf : Exps :=
  expsOf (m (c, Proc.devRef .tc main_arg0)) (m (c, Proc.devRef .tc main_arg1)) (m (c, Proc.devRef .tc main_arg2)) (m (c, Proc.devRef .tc main_arg3))
    (m (c, Proc.devRef .tc main_arg4)) (m (c, Proc.devRef .tc main_arg5)) (m (c, Proc.devRef .tc main_arg6)) (m (c, Proc.devRef .tc main_arg7))
    (m (c, Proc.devRef .tc main_arg8))

theorem row_lt (t : Fin cfg0.N) (r : Fin 512) : 512 * (t.val / 8) + r.val < 16384 := by
  have := lt_of_lt_of_eq t.isLt (show cfg0.N = 256 from N_0)
  omega

theorem blk_at (t : Fin cfg0.N) :
    Blk (argsOf m c) (t.val / 8) (grid0.coords t) (iblk m c 0 t) (iblk m c 1 t) (iblk m c 2 t) (iblk m c 3 t) (iblk m c 4 t) (iblk m c 5 t) (iblk m c 6 t) where
  h0 d r := (iblk0_at m c t d r d ⟨_, row_lt t r⟩ rfl rfl).trans ((congrFun (V_v2 m c) _).trans (v2_at _ _ _))
  h1 p d := by
    rw [coord1]
    exact (iblk1_at m c t p d ⟨2048 * (t.val % 8) + p.val, by omega⟩ d rfl rfl).trans ((congrFun (V_v3 m c) _).trans (eq_nat2 (a := 16384) (b := 1024) _ _ d))
  h2 d k := by
    rw [coord1]
    exact (iblk2_at m c t d k d ⟨2048 * (t.val % 8) + k.val, by omega⟩ rfl rfl).trans ((congrFun (V_v5 m c) _).trans (v5_at _ d _))
  h3 a b r := (iblk3_at m c t a b r ⟨_, row_lt t r⟩ rfl).trans ((congrFun (V_v6 m c) _).trans (eq_nat3 (a := 8) (b := 128) (c := 16384) _ a b _))
  h4 a b r := (iblk4_at m c t a b r ⟨_, row_lt t r⟩ rfl).trans ((congrFun (V_v7 m c) _).trans (eq_nat3 (a := 8) (b := 128) (c := 16384) _ a b _))
  h5 a b r := (iblk5_at m c t a b r ⟨_, row_lt t r⟩ rfl).trans ((congrFun (V_main_arg6 m c) _).trans (eq_nat3 (a := 8) (b := 128) (c := 16384) _ a b _))
  h6 a b r := (iblk6_at m c t a b r ⟨_, row_lt t r⟩ rfl).trans ((congrFun (V_main_arg7 m c) _).trans (eq_nat3 (a := 8) (b := 128) (c := 16384) _ a b _))

end Cert.Kernel7Ideal.Value
-- ==== Proof.PeerPoint.lean ====
/-
  What one grid point of the expert kernel leaves: the stores its run found, read as the parts of `PeerParts` (a point in the middle of a block row, and the first).
-/
module

public import proofs.«01_k».proof.Proof.PeerParts
public import Idealize.ShloMosaic.Lib.Pipeline.ReadBack

@[expose] public section

noncomputable section

namespace Cert.Kernel7Ideal.Value

open Cert.Kernel7Ideal Cert.Kernel7Ideal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

set_option maxHeartbeats 4000000 in
set_option maxRecDepth 100000 in
theorem sums_B (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2x256x512 .f32) (harg13 : arg13.IsWhole) (arg14 : Memref sig .tc .vmem S2x1024x512 .bf16) (harg14 : arg14.IsWhole) (hc0 : ¬cond0_0 i) (hc1 : ¬cond0_1 i)
    (x0 : Vec F S1024x512 .bf16) (x1 : Vec F S2048x1024 .bf16) (x2 : Vec F S1024x2048 .bf16) (x3 : Vec F S8x128x512 .bf16) (x4 : Vec F S8x128x512 .bf16) (x5 : Vec F S8x128x512 .f32) (x6 : Vec F S8x128x512 .f32) (x7 : Vec F S512x1024 .f32) (x8 : Vec F S1x1024 .f32) (xs0 : Vec F S1024x512 .f32) : sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 = sums xs0 x2 i x0 x1 x3 x4 x5 x6 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0)]
  unfold kernelRun0_B
  dsimp only
  sl_unfold_words
  simp (disch := decide) only [View.canon_cons_unit_zero (S := S1024x512) hz2, View.canon_cons_unit_zero (S := S512x1024) hz2, ↓View.readCov_skip, View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1024x512) hz2, View.ld_unit_zero (S := S512x1024) hz2, View.ld_unit_zero (S := S1x1024) hz2]
  rw [View.readCov_eq_canon', View.readCov_eq_canon']
  refine congrArg₂ (fun (p q : Vec F S1x1024x512 .bf16) => k0_pay2 (k0_pay2 xs0 (View.ld x2 (Rect.unit (s := S1024x2048) ![0, 0] S1024x1024.size inb_S1024x2048_S1024x1024_0_0)) p) (View.ld x2 (Rect.unit (s := S1024x2048) ![0, 1024] S1024x1024.size inb_S1024x2048_S1024x1024_0_1024)) q) ?_ ?_
  · refine congrArg (fun L => View.ld (View.canon L) (Rect.unit (s := S2x1024x512) ![0, 0, 0] S1x1024x512.size inb_S2x1024x512_S1x1024x512_0_0_0)) (?_ : _ = pieces0 i x0 x1 x3 x4 x5 x6)
    unfold pieces0
    iterate 8 refine congrArg₂ List.cons (congrArg (Sigma.mk _) ?_) ?_; · rfl
    rfl
  · refine congrArg (fun L => View.ld (View.canon L) (Rect.unit (s := S2x1024x512) ![1, 0, 0] S1x1024x512.size inb_S2x1024x512_S1x1024x512_1_0_0)) (?_ : _ = pieces1 i x0 x1 x3 x4 x5 x6)
    unfold pieces1 pieces0
    show List.cons _ _ = List.cons _ _
    iterate 16 refine congrArg₂ List.cons (congrArg (Sigma.mk _) ?_) ?_; · rfl
    rfl

set_option maxHeartbeats 4000000 in
set_option maxRecDepth 100000 in
theorem sums_A (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2x256x512 .f32) (harg13 : arg13.IsWhole) (arg14 : Memref sig .tc .vmem S2x1024x512 .bf16) (harg14 : arg14.IsWhole) (hc0 : cond0_0 i) (hc1 : ¬cond0_1 i)
    (x0 : Vec F S1024x512 .bf16) (x1 : Vec F S2048x1024 .bf16) (x2 : Vec F S1024x2048 .bf16) (x3 : Vec F S8x128x512 .bf16) (x4 : Vec F S8x128x512 .bf16) (x5 : Vec F S8x128x512 .f32) (x6 : Vec F S8x128x512 .f32) (x7 : Vec F S512x1024 .f32) (x8 : Vec F S1x1024 .f32) : sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = sums k0_pay4 x2 i x0 x1 x3 x4 x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  simp (disch := decide) only [View.canon_cons_unit_zero (S := S1024x512) hz2, View.canon_cons_unit_zero (S := S512x1024) hz2, ↓View.readCov_skip, View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1024x512) hz2, View.ld_unit_zero (S := S512x1024) hz2, View.ld_unit_zero (S := S1x1024) hz2]
  rw [View.readCov_eq_canon', View.readCov_eq_canon']
  refine congrArg₂ (fun (p q : Vec F S1x1024x512 .bf16) => k0_pay2 (k0_pay2 k0_pay4 (View.ld x2 (Rect.unit (s := S1024x2048) ![0, 0] S1024x1024.size inb_S1024x2048_S1024x1024_0_0)) p) (View.ld x2 (Rect.unit (s := S1024x2048) ![0, 1024] S1024x1024.size inb_S1024x2048_S1024x1024_0_1024)) q) ?_ ?_
  · refine congrArg (fun L => View.ld (View.canon L) (Rect.unit (s := S2x1024x512) ![0, 0, 0] S1x1024x512.size inb_S2x1024x512_S1x1024x512_0_0_0)) (?_ : _ = pieces0 i x0 x1 x3 x4 x5 x6)
    unfold pieces0
    iterate 8 refine congrArg₂ List.cons (congrArg (Sigma.mk _) ?_) ?_; · rfl
    rfl
  · refine congrArg (fun L => View.ld (View.canon L) (Rect.unit (s := S2x1024x512) ![1, 0, 0] S1x1024x512.size inb_S2x1024x512_S1x1024x512_1_0_0)) (?_ : _ = pieces1 i x0 x1 x3 x4 x5 x6)
    unfold pieces1 pieces0
    show List.cons _ _ = List.cons _ _
    iterate 16 refine congrArg₂ List.cons (congrArg (Sigma.mk _) ?_) ?_; · rfl
    rfl

end Cert.Kernel7Ideal.Value
-- ==== Proof.PeerLast.lean ====
/-
  What one grid point of the expert kernel leaves: the stores its run found, read as the parts of `PeerParts` (the last point of a block row).
-/
module

public import proofs.«01_k».proof.Proof.PeerPoint
public import Idealize.ShloMosaic.Lib.Pipeline.ReadBack

@[expose] public section

noncomputable section

namespace Cert.Kernel7Ideal.Value

open Cert.Kernel7Ideal Cert.Kernel7Ideal.Gen Idealize.ShloMosaic Idealize.ShloMosaic.TcCoe Idealize.SL.Sem

variable {F : FTy → Type} [FloatOps F]

set_option maxHeartbeats 4000000 in
set_option maxRecDepth 100000 in
theorem out_C (c : Dev nD) (i : grid0.Coords) (arg2 : Memref sig .tc .vmem S1024x512 .bf16) (harg2 : arg2.IsWhole) (arg3 : Memref sig .tc .vmem S2048x1024 .bf16) (harg3 : arg3.IsWhole) (arg4 : Memref sig .tc .vmem S1024x2048 .bf16) (harg4 : arg4.IsWhole) (arg5 : Memref sig .tc .vmem S8x128x512 .bf16) (harg5 : arg5.IsWhole) (arg6 : Memref sig .tc .vmem S8x128x512 .bf16) (harg6 : arg6.IsWhole) (arg7 : Memref sig .tc .vmem S8x128x512 .f32) (harg7 : arg7.IsWhole) (arg8 : Memref sig .tc .vmem S8x128x512 .f32) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1024x512 .f32) (harg12 : arg12.IsWhole) (arg13 : Memref sig .tc .vmem S2x256x512 .f32) (harg13 : arg13.IsWhole) (arg14 : Memref sig .tc .vmem S2x1024x512 .bf16) (harg14 : arg14.IsWhole) (hc0 : ¬cond0_0 i) (hc1 : cond0_1 i)
    (x0 : Vec F S1024x512 .bf16) (x1 : Vec F S2048x1024 .bf16) (x2 : Vec F S1024x2048 .bf16) (x3 : Vec F S8x128x512 .bf16) (x4 : Vec F S8x128x512 .bf16) (x5 : Vec F S8x128x512 .f32) (x6 : Vec F S8x128x512 .f32) (x7 : Vec F S512x1024 .f32) (x8 : Vec F S1x1024 .f32) (xs0 : Vec F S1024x512 .f32) : out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 = k0_pay3 x7 (sums xs0 x2 i x0 x1 x3 x4 x5 x6) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0)]
  unfold kernelRun0_C
  dsimp only
  sl_unfold_words
  simp (disch := decide) only [View.canon_cons_unit_zero (S := S1024x512) hz2, View.canon_cons_unit_zero (S := S512x1024) hz2, ↓View.readCov_skip, View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1024x512) hz2, View.ld_unit_zero (S := S512x1024) hz2, View.ld_unit_zero (S := S1x1024) hz2]
  refine congrArg (fun s => k0_pay3 x7 s x8) (?_ : _ = sums xs0 x2 i x0 x1 x3 x4 x5 x6)
  rw [View.readCov_eq_canon', View.readCov_eq_canon']
  refine congrArg₂ (fun (p q : Vec F S1x1024x512 .bf16) => k0_pay2 (k0_pay2 xs0 (View.ld x2 (Rect.unit (s := S1024x2048) ![0, 0] S1024x1024.size inb_S1024x2048_S1024x1024_0_0)) p) (View.ld x2 (Rect.unit (s := S1024x2048) ![0, 1024] S1024x1024.size inb_S1024x2048_S1024x1024_0_1024)) q) ?_ ?_
  · refine congrArg (fun L => View.ld (View.canon L) (Rect.unit (s := S2x1024x512) ![0, 0, 0] S1x1024x512.size inb_S2x1024x512_S1x1024x512_0_0_0)) (?_ : _ = pieces0 i x0 x1 x3 x4 x5 x6)
    unfold pieces0
    iterate 8 refine congrArg₂ List.cons (congrArg (Sigma.mk _) ?_) ?_; · rfl
    rfl
  · refine congrArg (fun L => View.ld (View.canon L) (Rect.unit (s := S2x1024x512) ![1, 0, 0] S1x1024x512.size inb_S2x1024x512_S1x1024x512_1_0_0)) (?_ : _ = pieces1 i x0 x1 x3 x4 x5 x6)
    unfold pieces1 pieces0
    show List.cons _ _ = List.cons _ _
    iterate 16 refine congrArg₂ List.cons (congrArg (Sigma.mk _) ?_) ?_; · rfl
    rfl

end Cert.Kernel7Ideal.Value
-- ==== Proof.PeerRun.lean ====
/-
  The expert call: the array it leaves, at an index.
-/
module

public import proofs.«01_k».proof.Proof.PeerSums
public import proofs.«01_k».proof.Proof.PeerBlocks
public import proofs.«01_k».proof.Proof.PeerLast
public import proofs.«01_k».proof.Proof.Gen.Kernel7Ideal.Value

@[expose] public section

set_option maxRecDepth 10000

noncomputable section

open Idealize.ShloMosaic Idealize.ShloMosaic.TcCoe Idealize.ShloMosaic.Tactic Idealize.SL.Sem
open scoped BigOperators

namespace Cert.Kernel7Ideal.Value

open Cert.Kernel7Ideal Cert.Kernel7Ideal.Gen Cert.Ssd Cert.Peer

variable (m : (ℓ : Loc nD τ sig) → Buf (Elt Ideal) ℓ) (c : Dev nD)

/-- The carried sums after a point: the experts up to and including its block of them. -/
def Swept (E : Exps) (I J : ℕ) (y : Vec Ideal S1024x512 .f32) : Prop := ∀ (d : Fin 1024) (r : Fin 512), y (ix2 d r) = mix E (512 * I + r) d (2048 * J)

theorem swept_next (t : Fin cfg0.N) (y : Vec Ideal S1024x512 .f32) (hy : Swept (argsOf m c) (t.val / 8) (t.val % 8) y) :
    Swept (argsOf m c) (t.val / 8) (t.val % 8 + 1)
      (sums (F := Ideal) y (iblk m c 2 t) (grid0.coords t) (iblk m c 0 t) (iblk m c 1 t) (iblk m c 3 t) (iblk m c 4 t) (iblk m c 5 t) (iblk m c 6 t)) := fun d r => by
  have h := sums_at (blk_at m c t) y d r (by rw [coord1]; exact hy d r)
  rw [coord1] at h
  exact h

theorem swept_zero (E : Exps) (I : ℕ) : Swept E I 0 (k0_pay4 (F := Ideal)) := fun d r => (pay4_at d r).trans rfl

theorem swept_at : ∀ (n : ℕ) (hn : n < cfg0.N), ¬n % 8 = 7 → Swept (argsOf m c) (n / 8) (n % 8 + 1) (outsAt0 m c n hn).2
  | 0, hn, h7 => by
    rw [outsAt0_A m c ⟨0, hn⟩ rfl h7]
    dsimp only
    rw [sums_A]
    exact swept_next m c ⟨0, hn⟩ _ (swept_zero _ _)
  | n + 1, hn, h7 => by
    by_cases h0 : (n + 1) % 8 = 0
    · rw [outsAt0_A m c ⟨n + 1, hn⟩ h0 h7]
      dsimp only
      rw [sums_A]
      exact swept_next m c ⟨n + 1, hn⟩ _ (by dsimp only; rw [h0]; exact swept_zero _ _)
    · have ih := swept_at n (Nat.lt_of_succ_lt hn) (by omega)
      rw [show n / 8 = (n + 1) / 8 by omega, show n % 8 + 1 = (n + 1) % 8 by omega] at ih
      rw [outsAt0_B m c ⟨n + 1, hn⟩ h0 h7]
      dsimp only
      rw [sums_B]
      exact swept_next m c ⟨n + 1, hn⟩ _ ih

theorem last_at (n : ℕ) (hn : n + 1 < cfg0.N) (h7 : (n + 1) % 8 = 7) (r : Fin 512) (q : Fin 1024) :
    (outsAt0 m c (n + 1) hn).1 (ix2 r q) = fin (argsOf m c) (512 * ((n + 1) / 8) + r) q := by
  have ih := swept_at m c n (Nat.lt_of_succ_lt hn) (by omega)
  rw [show n / 8 = (n + 1) / 8 by omega, show n % 8 + 1 = (n + 1) % 8 by omega] at ih
  have hs := swept_next m c ⟨n + 1, hn⟩ _ ih
  rw [outsAt0_C m c ⟨n + 1, hn⟩ (by dsimp only; omega) h7]
  dsimp only
  rw [out_C]
  unfold fin
  refine pay3_at _ _ _ _ _ r (fun d => ?_) (fun d => ?_) q
  · refine congrArg₂ (fun u v : EReal => u + v) ((iblk7_at m c ⟨n + 1, hn⟩ r d ⟨_, row_lt ⟨n + 1, hn⟩ r⟩ d rfl rfl).trans ((congrFun (V_v8 m c) _).trans (v8_at _ _ _))) ((hs d r).trans ?_)
    dsimp only
    rw [h7]
  · exact (iblk8_at m c ⟨n + 1, hn⟩ 0 d 0 d rfl rfl).trans ((congrFun (V_v9 m c) _).trans (v9_at _ _))

/-- The array after the run, at a row and a lane. -/
theorem G9_at (r : Fin 16384) (q : Fin 1024) : (G9 m c : Vec Ideal S16384x1024 .f32) (ix2 r q) = fin (argsOf m c) r q := by
  have hr : 8 * ((r : ℕ) / 512) + 6 + 1 < cfg0.N := lt_of_lt_of_eq (by omega) (show 256 = cfg0.N from N_0.symm)
  have hp : pt9Of (ix2 r q) = 8 * ((r : ℕ) / 512) + 6 + 1 := by
    show 8 * (1 * ((r : ℕ) / 512 - 0) + 1 * ((q : ℕ) / 1024 - 0)) + 7 = _
    omega
  have hl : loc9Of (ix2 r q) = ix2 (⟨(r : ℕ) % 512, by omega⟩ : Fin 512) (⟨(q : ℕ) % 1024, by omega⟩ : Fin 1024) := by
    funext a
    match a with
    | ⟨0, _⟩ => rfl
    | ⟨1, _⟩ => rfl
  have h := last_at m c _ hr (by omega) ⟨(r : ℕ) % 512, by omega⟩ ⟨(q : ℕ) % 1024, by omega⟩
  rw [outsAt0_sweep] at h
  unfold G9
  rw [dif_pos (by rw [hp]; exact hr), hl, fold0_congr m c _ _ _ _ hp]
  refine h.trans ?_
  show fin _ (512 * ((8 * ((r : ℕ) / 512) + 6 + 1) / 8) + (r : ℕ) % 512) ((q : ℕ) % 1024) = _
  rw [show 512 * ((8 * ((r : ℕ) / 512) + 6 + 1) / 8) + (r : ℕ) % 512 = r by omega, show (q : ℕ) % 1024 = q by omega]

end Cert.Kernel7Ideal.Value
-- ==== Proof.PeerRef.lean ====
/-
  The expert call's reference, stage by stage at an index.
-/
module

public import proofs.«01_k».proof.Proof.PeerSpec
public import proofs.«01_k».proof.Proof.Gen.Reference7Ideal.Run
public import Idealize.ShloMosaic.Lib.Pointwise

@[expose] public section

set_option maxRecDepth 10000

noncomputable section

open Idealize.ShloMosaic Idealize.ShloMosaic.TcCoe Idealize.SL.Sem
open scoped BigOperators

namespace Cert.Reference7Ideal.Value

open Cert.Reference7Ideal Cert.Reference7Ideal.Gen Cert.Ssd Cert.Peer

section Stages
variable {F : FTy → Type} [FloatOps F]

/-- The rows against the experts' keys. -/
def g2 (a0 : FVec F S2x8192x1024 .f32) (a2 : FVec F S16384x1024 .f32) : FVec F S16384x16384 .f32 :=
  Host.dotGeneral dot_S16384x1024_S1024x16384_S16384x16384_1_0_0_1_n_n none (shapeCast S16384x1024 a0 shapeCasts_S2x8192x1024_S16384x1024)
    (transpose S1024x16384 [1, 0] a2 transposes_S16384x1024_S1024x16384_1_0)

/-- The activation. -/
def g9 (z : FVec F S16384x16384 .f32) : FVec F S16384x16384 .f32 :=
  mulf (mulf (broadcastInDim S16384x16384 ![] bcast_S_S16384x16384 (constant S_ .f32 0x3F000000#32)) z)
    (Host.erfc (mulf (Host.negf z) (broadcastInDim S16384x16384 ![] bcast_S_S16384x16384 (constant S_ .f32 0x3F3504F3#32))))

/-- A head's share in an expert's weight. -/
def g19 (a4 a5 a6 a7 : FVec F S8x128x16384 .f32) : FVec F S8x128x128x16384 .f32 :=
  mulf (select (cmpf .olt (broadcastInDim S8x128x128x16384 ![0, 1, 2, 3] bcast_S8x1x128x16384_S8x128x128x16384_0_1_2_3 (broadcastInDim S8x1x128x16384 ![0, 2, 3] bcast_S8x128x16384_S8x1x128x16384_0_2_3 a4))
      (broadcastInDim S8x128x128x16384 ![0, 1, 2, 3] bcast_S8x128x1x16384_S8x128x128x16384_0_1_2_3 (broadcastInDim S8x128x1x16384 ![0, 1, 3] bcast_S8x128x16384_S8x128x1x16384_0_1_3 a6)))
    (broadcastInDim S8x128x128x16384 ![0, 1, 2, 3] bcast_S8x1x128x16384_S8x128x128x16384_0_1_2_3 (broadcastInDim S8x1x128x16384 ![0, 2, 3] bcast_S8x128x16384_S8x1x128x16384_0_2_3 a5))
    (broadcastInDim S8x128x128x16384 ![] bcast_S_S8x128x128x16384 (id (constant S_ .f32 0x00000000#32))))
  (broadcastInDim S8x128x128x16384 ![0, 1, 2, 3] bcast_S8x128x1x16384_S8x128x128x16384_0_1_2_3 (broadcastInDim S8x128x1x16384 ![0, 1, 3] bcast_S8x128x16384_S8x128x1x16384_0_1_3 a7))

/-- An expert's weight: the heads' shares summed. -/
def g20 (s : FVec F S8x128x128x16384 .f32) : FVec F S128x128x16384 .f32 :=
  Host.reduceAdd s (constant S_ .f32 0x00000000#32) reducesTo_S8x128x128x16384_S128x128x16384_d0 h_S_

/-- The experts' values under their weights and activations. -/
def g24 (w : FVec F S128x128x16384 .f32) (z : FVec F S16384x16384 .f32) (a3 : FVec F S16384x1024 .f32) : FVec F S16384x1024 .f32 :=
  Host.dotGeneral dot_S16384x16384_S16384x1024_S16384x1024_1_0_0_1_n_n none
    (mulf (transpose S16384x16384 [1, 0] (shapeCast S16384x16384 w shapeCasts_S128x128x16384_S16384x16384) transposes_S16384x16384_S16384x16384_1_0) z) a3

/-- The hidden rows after the experts. -/
def g26 (a1 : FVec F S2x8192x1024 .f32) (y : FVec F S16384x1024 .f32) : FVec F S2x8192x1024 .f32 :=
  addf a1 (shapeCast S2x8192x1024 y shapeCasts_S16384x1024_S2x8192x1024)

/-- The last norm. -/
def g40 (h : FVec F S2x8192x1024 .f32) (a8 : FVec F S1024 .f32) : FVec F S16384x1024 .f32 :=
  shapeCast S16384x1024 (mulf (mulf h (broadcastInDim S2x8192x1024 ![0, 1, 2] bcast_S2x8192x1_S2x8192x1024_0_1_2 (Host.rsqrt (addf
      (Host.divf (broadcastInDim S2x8192x1 ![0, 1] bcast_S2x8192_S2x8192x1_0_1 (Host.reduceAdd (mulf h h) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 a8))) shapeCasts_S2x8192x1024_S16384x1024

def ref (a0 a1 : FVec F S2x8192x1024 .f32) (a2 a3 : FVec F S16384x1024 .f32) (a4 a5 a6 a7 : FVec F S8x128x16384 .f32) (a8 : FVec F S1024 .f32) : FVec F S16384x1024 .f32 :=
  g40 (g26 a1 (g24 (g20 (g19 a4 a5 a6 a7)) (g9 (g2 a0 a2)) a3)) a8

end Stages

theorem res_v40 {F : FTy → Type} [FloatOps F] (m : (ℓ : Loc nD τ sig) → Buf (Elt F) ℓ) (c : Dev nD) : (res_main_v40 m c : FVec F S16384x1024 .f32) =
    ref (m (c, Proc.devRef .tc main_arg0)) (m (c, Proc.devRef .tc main_arg1)) (m (c, Proc.devRef .tc main_arg2)) (m (c, Proc.devRef .tc main_arg3))
      (m (c, Proc.devRef .tc main_arg4)) (m (c, Proc.devRef .tc main_arg5)) (m (c, Proc.devRef .tc main_arg6)) (m (c, Proc.devRef .tc main_arg7)) (m (c, Proc.devRef .tc main_arg8)) := by
  unfold res_main_v40
  rfl

theorem g2_at (a0 : FVec Ideal S2x8192x1024 .f32) (a2 : FVec Ideal S16384x1024 .f32) (n e : Fin 16384) :
    g2 a0 a2 (ix2 n e) = ∑ d : Fin 1024, rowOf a0 n d * nat2 a2 e d := by
  have h := fun a' b' c' => eq_nat3 (a := 2) (b := 8192) (c := 1024) a0 a' b' c'
  have h2 := fun a' b' => eq_nat2 (a := 16384) (b := 1024) a2 a' b'
  pointwise [g2, h, h2, rowOf]

theorem g9_at (z : FVec Ideal S16384x16384 .f32) (n e : Fin 16384) (x : EReal) (h : z (ix2 n e) = x) : g9 z (ix2 n e) = gel x := by
  pointwise [g9, gel, h, Ideal.hostNegf_def, Ideal.negf_def, Ideal.hostUnary_erfc_def, neg_mul, Ideal.erfc_neg]

theorem g19_at (a4 a5 a6 a7 : FVec Ideal S8x128x16384 .f32) (h : Fin 8) (i j : Fin 128) (n : Fin 16384) :
    g19 a4 a5 a6 a7 (ix4 h i j n) = share (nat3 a4 h j n) (nat3 a6 h i n) (nat3 a5 h j n) (nat3 a7 h i n) := by
  have h4 := fun a' b' c' => eq_nat3 (a := 8) (b := 128) (c := 16384) a4 a' b' c'
  have h5 := fun a' b' c' => eq_nat3 (a := 8) (b := 128) (c := 16384) a5 a' b' c'
  have h6 := fun a' b' c' => eq_nat3 (a := 8) (b := 128) (c := 16384) a6 a' b' c'
  have h7 := fun a' b' c' => eq_nat3 (a := 8) (b := 128) (c := 16384) a7 a' b' c'
  pointwise [g19, share, h4, h5, h6, h7]
  rw [show id (constant (F := Ideal) S_ FTy.f32 0#32) ix0 = (0 : EReal) from Ideal.ofBits_zero FTy.f32]

theorem g20_at (s : FVec Ideal S8x128x128x16384 .f32) (i j : Fin 128) (n : Fin 16384) : g20 s (ix3 i j n) = ∑ h : Fin 8, s (ix4 h i j n) := by
  pointwise [g20]

theorem g24_at (w : FVec Ideal S128x128x16384 .f32) (z : FVec Ideal S16384x16384 .f32) (a3 : FVec Ideal S16384x1024 .f32) (n : Fin 16384) (d : Fin 1024) :
    g24 w z a3 (ix2 n d) = ∑ e : Fin 16384, w (ix3 ⟨e / 128, by omega⟩ ⟨e % 128, by omega⟩ n) * z (ix2 n e) * nat2 a3 e d := by
  have h := fun a' b' => eq_nat2 (a := 16384) (b := 1024) a3 a' b'
  pointwise [g24, h]

theorem g26_at (a1 : FVec Ideal S2x8192x1024 .f32) (y : FVec Ideal S16384x1024 .f32) (b : Fin 2) (t : Fin 8192) (d : Fin 1024) :
    g26 a1 y (ix3 b t d) = rowOf a1 (8192 * b + t) d + nat2 y (8192 * b + t) d := by
  have h2 := fun a' b' => eq_nat2 (a := 16384) (b := 1024) y a' b'
  have h1 := rowOf_at a1
  pointwise [g26, h1, h2]
  rw [Nat.mul_comm b.val 8192]

theorem g40_at (h : FVec Ideal S2x8192x1024 .f32) (a8 : FVec Ideal S1024 .f32) (n : Fin 16384) (q : Fin 1024) :
    g40 h a8 (ix2 n q) = nrm (rowOf h n) (nat1 a8) q := by
  have hh := fun a' b' c' => eq_nat3 (a := 2) (b := 8192) (c := 1024) h a' b' c'
  have h8 := fun a' => eq_nat1 (a := 1024) a8 a'
  pointwise [g40, nrm, rowOf, hh, h8]

/-- The reference's result at a row and a lane. -/
theorem ref_at (a0 a1 : FVec Ideal S2x8192x1024 .f32) (a2 a3 : FVec Ideal S16384x1024 .f32) (a4 a5 a6 a7 : FVec Ideal S8x128x16384 .f32) (a8 : FVec Ideal S1024 .f32)
    (n : Fin 16384) (q : Fin 1024) : ref a0 a1 a2 a3 a4 a5 a6 a7 a8 (ix2 n q) = fin (expsOf a0 a1 a2 a3 a4 a5 a6 a7 a8) n q := by
  have hx : ∀ d : Fin 1024, rowOf (g26 a1 (g24 (g20 (g19 a4 a5 a6 a7)) (g9 (g2 a0 a2)) a3)) n d =
      rowOf a1 n d + Cert.Peer.mix (expsOf a0 a1 a2 a3 a4 a5 a6 a7 a8) n d 16384 := fun d => by
    have h := (eq_nat3 (a := 2) (b := 8192) (c := 1024) (g26 a1 (g24 (g20 (g19 a4 a5 a6 a7)) (g9 (g2 a0 a2)) a3)) ⟨n / 8192, by omega⟩ ⟨n % 8192, by omega⟩ d).symm.trans (g26_at _ _ _ _ d)
    rw [show 8192 * ((⟨n / 8192, by omega⟩ : Fin 2) : ℕ) + ((⟨n % 8192, by omega⟩ : Fin 8192) : ℕ) = n from Nat.div_add_mod _ _,
      ← eq_nat2 (a := 16384) (b := 1024) _ n d, g24_at] at h
    refine h.trans (congrArg (fun z : EReal => rowOf a1 n d + z) ?_)
    unfold Cert.Peer.mix
    rw [Finset.sum_range]
    refine Finset.sum_congr rfl fun e _ => ?_
    rw [mul_comm, g20_at, g9_at _ n e _ (g2_at a0 a2 n e)]
    refine congrArg (fun z : EReal => nat2 a3 e d * z) (congrArg₂ (fun u v : EReal => u * gel v) (Finset.sum_congr rfl fun k _ => g19_at a4 a5 a6 a7 k _ _ n) (Finset.sum_congr rfl fun k _ => mul_comm _ _))
  unfold ref
  refine (g40_at _ _ n q).trans ?_
  unfold fin nrm
  simp only [hx]
  rfl

end Cert.Reference7Ideal.Value
-- ==== Proof.Calls.lean ====
/-
  The layer's other calls: each reference's frame, and each kernel's arrays equal to its reference's.
-/
module

public import proofs.«01_k».proof.Defs
public import proofs.«01_k».proof.Proof.SsdProj
public import proofs.«01_k».proof.Proof.GateProj
public import proofs.«01_k».proof.Proof.MergeProj
public import proofs.«01_k».proof.Proof.MergeRef
public import proofs.«01_k».proof.Proof.MemProj
public import proofs.«01_k».proof.Proof.AttnProj
public import proofs.«01_k».proof.Proof.AttnRef
public import proofs.«01_k».proof.Proof.PeerRun
public import proofs.«01_k».proof.Proof.PeerRef
public import Idealize.ShloMosaic.Lib.Quiescent

@[expose] public section

set_option maxRecDepth 10000

noncomputable section

open Idealize.ShloMosaic Idealize.ShloMosaic.TcCoe Idealize.SL.Sem

namespace Cert.Proof

/-- Arrays of two axes that agree at every row and column are equal. -/
theorem ext2 {n0 n1 : ℕ} {α : Type} {f g : (⟨2, ![n0, n1]⟩ : Shape).Idx → α} (h : ∀ (r : Fin n0) (q : Fin n1), f (ix2 r q) = g (ix2 r q)) : f = g :=
  funext fun i => by
    have e : i = ix2 (i 0) (i 1) := funext (Fin.forall_fin_two.mpr ⟨rfl, rfl⟩)
    rw [e]
    exact h _ _

/-- Arrays of three axes that agree everywhere are equal. -/
theorem ext3 {n0 n1 n2 : ℕ} {α : Type} {f g : (⟨3, ![n0, n1, n2]⟩ : Shape).Idx → α} (h : ∀ (k : Fin n0) (r : Fin n1) (q : Fin n2), f (ix3 k r q) = g (ix3 k r q)) : f = g :=
  funext fun i => by
    have e : i = ix3 (i 0) (i 1) (i 2) := funext (Cert.Kernel6Ideal.Value.fin3 rfl rfl rfl)
    rw [e]
    exact h _ _ _

theorem reference2_frame : Cert.quiescent_Reference2Ideal := fun m g _ =>
  (θ_run _ _ _).mono (fun _ h => ⟨fun c => (h c).2.2.2, sem_eq_zero_of_no_sems rfl _⟩) (Cert.Reference2Ideal.Value.run m g)

theorem reference3_frame : Cert.quiescent_Reference3Ideal := fun m g _ =>
  (θ_run _ _ _).mono (fun _ h => ⟨fun c => (h c).2, sem_eq_zero_of_no_sems rfl _⟩) (Cert.Reference3Ideal.Value.run m g)

theorem reference4_frame : Cert.quiescent_Reference4Ideal := fun m g _ =>
  (θ_run _ _ _).mono (fun _ h => ⟨fun c => (h c).2.2.2, sem_eq_zero_of_no_sems rfl _⟩) (Cert.Reference4Ideal.Value.run m g)

theorem reference5_frame : Cert.quiescent_Reference5Ideal := fun m g _ =>
  (θ_run _ _ _).mono (fun _ h => ⟨fun c => (h c).2, sem_eq_zero_of_no_sems rfl _⟩) (Cert.Reference5Ideal.Value.run m g)

theorem reference6_frame : Cert.quiescent_Reference6Ideal := fun m g _ =>
  (θ_run _ _ _).mono (fun _ h => ⟨fun c => (h c).2.2.2.2.2.2, sem_eq_zero_of_no_sems rfl _⟩) (Cert.Reference6Ideal.Value.run_out m g)

theorem reference7_frame : Cert.quiescent_Reference7Ideal := fun m g _ =>
  (θ_run _ _ _).mono (fun _ h => ⟨fun c => (h c).2, sem_eq_zero_of_no_sems rfl _⟩) (Cert.Reference7Ideal.Value.run m g)

theorem algebraic2 : Cert.algebraic_Kernel2Ideal_Reference2Ideal := by
  intro m g m' g' _ ha
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g, ?_⟩
  refine (θ_run _ _ _).mono (fun r h c => ?_) (Cert.Reference2Ideal.Value.run m' g')
  obtain ⟨a0, a1, a2⟩ := ha c
  have e := congr (congr (congrArg Cert.Ssd.projAt a0) a1) a2
  have e' := congr (congr (congrArg Cert.Ssd.stepAt a0) a1) a2
  obtain ⟨h0, h1, h2, hk⟩ := h c
  refine ⟨h0.trans (ext2 fun i j => ?_), h1.trans (ext2 fun i j => ?_), h2.trans (ext2 fun i j => ?_), hk⟩
  · exact (Cert.Reference2Ideal.Value.main_v20_at _ _ _ i j).trans ((congrFun (congrFun e _) _).trans (Cert.Kernel2Ideal.Value.out3_at m c i j).symm)
  · exact (Cert.Reference2Ideal.Value.main_v21_at _ _ _ i j).trans ((congrFun (congrFun e _) _).trans (Cert.Kernel2Ideal.Value.out4_at m c i j).symm)
  · exact (Cert.Reference2Ideal.Value.main_v22_at _ _ _ i j).trans ((congrFun (congrFun e' _) _).trans (Cert.Kernel2Ideal.Value.out5_at m c i j).symm)

theorem algebraic3 : Cert.algebraic_Kernel3Ideal_Reference3Ideal := by
  intro m g m' g' _ ha
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run m' g')
  obtain ⟨a0, a1, a2⟩ := ha c
  have e := congr (congr (congrArg Cert.Ssd.gateAt a0) a1) a2
  obtain ⟨h0, hk⟩ := h c
  refine ⟨h0.trans (ext2 fun i j => ?_), hk⟩
  exact (Cert.Reference3Ideal.Value.ref_at _ _ _ i j).trans ((congrFun (congrFun e _) _).trans (Cert.Kernel3Ideal.Value.out_at m c i j).symm)

theorem algebraic4 : Cert.algebraic_Kernel4Ideal_Reference4Ideal := by
  intro m g m' g' _ ha
  refine ⟨fun c => (Cert.Kernel4Ideal.Gen.dats m 0 c).arrAt 12 Cert.Kernel4Ideal.cfg0.N, fun c => (Cert.Kernel4Ideal.Gen.dats m 0 c).arrAt 13 Cert.Kernel4Ideal.cfg0.N,
    fun c => (Cert.Kernel4Ideal.Gen.dats m 0 c).arrAt 14 Cert.Kernel4Ideal.cfg0.N, Cert.Kernel4Ideal.Value.run_blocks m g, ?_⟩
  refine (θ_run _ _ _).mono (fun r h c => ?_) (Cert.Reference4Ideal.Value.run m' g')
  obtain ⟨a0, a1, a2, a3, a4, a5, a6, a7, a8, a9, a10, a11⟩ := ha c
  have e := congr (congr (congr (congr (congr (congr (congr (congr (congr (congr (congr (congrArg Cert.Ssd.mrgOf a0) a1) a2) a3) a4) a5) a6) a7) a8) a9) a10) a11
  obtain ⟨h0, h1, h2, hk⟩ := h c
  refine ⟨h0.trans ((Cert.Reference4Ideal.Value.res49 m' c).trans (ext2 fun i j => ?_)), h1.trans ((Cert.Reference4Ideal.Value.res63 m' c).trans (ext2 fun i j => ?_)),
    h2.trans ((Cert.Reference4Ideal.Value.res64 m' c).trans (ext2 fun i j => ?_)), hk⟩
  · exact (Cert.Reference4Ideal.Value.gAll_at _ _ _ _ _ _ _ _ _ _ _ _ i j).trans
      ((congrArg (fun E => Cert.Ssd.res E i j) e).trans (Cert.Kernel4Ideal.Value.out12_at m c i j).symm)
  · exact (Cert.Reference4Ideal.Value.g63_at _ _ _ (Cert.Reference4Ideal.Value.gAll_at _ _ _ _ _ _ _ _ _ _ _ _) (Cert.Ssd.eq_nat1 _) i j).trans
      ((congrArg (fun E => Cert.Ssd.nxt E i j) e).trans (Cert.Kernel4Ideal.Value.out13_at m c i j).symm)
  · exact (Cert.Reference4Ideal.Value.g64_at _ _ (Cert.Reference4Ideal.Value.g63_at _ _ _ (Cert.Reference4Ideal.Value.gAll_at _ _ _ _ _ _ _ _ _ _ _ _) (Cert.Ssd.eq_nat1 _)) i j).trans
      ((congrArg (fun E => Cert.Ssd.nxt E j i) e).trans (Cert.Kernel4Ideal.Value.out14_at m c i j).symm)

theorem algebraic5 : Cert.algebraic_Kernel5Ideal_Reference5Ideal := by
  intro m g m' g' _ ha
  refine ⟨fun c => (Cert.Kernel5Ideal.Gen.dats m 0 c).arrAt 3 Cert.Kernel5Ideal.cfg0.N, Cert.Kernel5Ideal.Value.run_blocks m g, ?_⟩
  refine (θ_run _ _ _).mono (fun r h c => ?_) (Cert.Reference5Ideal.Value.run m' g')
  obtain ⟨a0, a1, a2⟩ := ha c
  have e := congr (congr (congrArg Cert.Ssd.memAt a0) a1) a2
  obtain ⟨h0, hk⟩ := h c
  refine ⟨h0.trans (ext2 fun i j => ?_), hk⟩
  exact (Cert.Reference5Ideal.Value.ref_at _ _ _ i j).trans ((congrFun (congrFun e _) _).trans (Cert.Kernel5Ideal.Value.out_at m c i j).symm)

set_option maxHeartbeats 4000000 in
theorem algebraic6 : Cert.algebraic_Kernel6Ideal_Reference6Ideal := by
  intro m g m' g' _ ha
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks m g, ?_⟩
  refine (θ_run _ _ _).mono (fun r h c => ?_) (Cert.Reference6Ideal.Value.run_out m' g')
  obtain ⟨a0, a1, a2, a3⟩ := ha c
  have e : Cert.Ssd.attOf (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3)) = Cert.Kernel6Ideal.Value.argsOf m c :=
    congr (congr (congr (congrArg Cert.Ssd.attOf a0) a1) a2) a3
  obtain ⟨h0, h1, h2, h3, h4, h5, hk⟩ := h c
  refine ⟨h0.trans (ext2 fun i j => ?_),
    h1.trans (ext2 fun i j => ?_),
    h2.trans (ext3 fun k i j => ?_),
    h3.trans (ext2 fun i j => ?_),
    h4.trans (ext2 fun i j => ?_),
    h5.trans (ext2 fun i j => ?_), hk⟩
  · refine (Cert.Reference6Ideal.Value.qOut_at _ _ _ _ i j).trans (Eq.trans ?_ (Cert.Kernel6Ideal.Value.arr5_at m c i j).symm)
    exact congrArg (fun E => Cert.Ssd.qAt E j i) e
  · refine (Cert.Reference6Ideal.Value.kOut_at _ _ _ _ i j).trans (Eq.trans ?_ (Cert.Kernel6Ideal.Value.arr6_at m c i j).symm)
    exact congrArg (fun E => Cert.Ssd.kAt E i j) e
  · refine (Cert.Reference6Ideal.Value.vOut_at _ _ _ _ k i j).trans (Eq.trans ?_ (Cert.Kernel6Ideal.Value.arr7_at m c k i j).symm)
    exact congrArg (fun E => Cert.Ssd.vAt E (512 * k + j) i) e
  · refine (Cert.Reference6Ideal.Value.iqOut_at _ _ _ _ i j).trans (Eq.trans ?_ (Cert.Kernel6Ideal.Value.arr8_at m c i j).symm)
    exact congrArg (fun E => Cert.Ssd.iqAt E j i) e
  · refine (Cert.Reference6Ideal.Value.ikOut_at _ _ _ _ i j).trans (Eq.trans ?_ (Cert.Kernel6Ideal.Value.arr9_at m c i j).symm)
    exact congrArg (fun E => Cert.Ssd.ikAt E i j) e
  · refine (Cert.Reference6Ideal.Value.iwOut_at _ _ _ _ i j).trans (Eq.trans ?_ (Cert.Kernel6Ideal.Value.arr10_at m c i j).symm)
    exact congrArg (fun E => Cert.Ssd.iwAt E j i) e

set_option maxHeartbeats 4000000 in
theorem algebraic7 : Cert.algebraic_Kernel7Ideal_Reference7Ideal := by
  intro m g m' g' _ ha
  refine ⟨fun c => Cert.Kernel7Ideal.Value.G9 m c, Cert.Kernel7Ideal.Value.run m g, ?_⟩
  refine (θ_run _ _ _).mono (fun r h c => ?_) (Cert.Reference7Ideal.Value.run m' g')
  obtain ⟨a0, a1, a2, a3, a4, a5, a6, a7, a8⟩ := ha c
  have e := congr (congr (congr (congr (congr (congr (congr (congr (congrArg Cert.Peer.expsOf a0) a1) a2) a3) a4) a5) a6) a7) a8
  obtain ⟨h0, hk⟩ := h c
  refine ⟨h0.trans ((Cert.Reference7Ideal.Value.res_v40 m' c).trans (ext2 fun i j => ?_)), hk⟩
  exact (Cert.Reference7Ideal.Value.ref_at _ _ _ _ _ _ _ _ _ i j).trans ((congrArg (fun E => Cert.Peer.fin E i j) e).trans (Cert.Kernel7Ideal.Value.G9_at m c i j).symm)

end Cert.Proof
-- ==== Proof.SsdRun.lean ====
/-
  The scan kernel's array after the run: the scan's output at every row and lane.
-/
module

public import proofs.«01_k».proof.Proof.SsdEntry
public import proofs.«01_k».proof.Proof.SsdPointB
public import proofs.«01_k».proof.Proof.SsdPointA
public import proofs.«01_k».proof.Proof.Gen.KernelIdeal.Value

@[expose] public section

set_option maxRecDepth 10000

noncomputable section

namespace Cert.KernelIdeal.Value

open Cert.KernelIdeal Cert.KernelIdeal.Gen Cert.Ssd
open Idealize.ShloMosaic Idealize.ShloMosaic.TcCoe Idealize.SL.Sem
open scoped BigOperators

variable (m : (ℓ : Loc nD τ sig) → Buf (Elt Ideal) ℓ) (c : Dev nD)

/-- The entries of the arguments in the memory before the run. -/
abbrev entAt : Ent := entOf (m (c, Proc.devRef .tc main_arg0)) (m (c, Proc.devRef .tc main_arg1)) (m (c, Proc.devRef .tc main_arg2))
  (m (c, Proc.devRef .tc main_arg3)) (m (c, Proc.devRef .tc main_arg4)) (m (c, Proc.devRef .tc main_arg5))
  (m (c, Proc.devRef .tc main_arg6)) (m (c, Proc.devRef .tc main_arg7)) (m (c, Proc.devRef .tc main_arg8))

/-- The blocks of point `t` are the arguments' rows of its batch and chunk. -/
theorem blk_at (hE : Fine (entAt m c)) (t : Fin cfg0.N) :
    Blk (entAt m c) (t.val / 64) (t.val % 64) (iblk m c 0 t) (iblk m c 1 t) (iblk m c 2 t) (iblk m c 3 t) (iblk m c 4 t)
      (iblk m c 5 t) (iblk m c 6 t) (iblk m c 7 t) (iblk m c 8 t) (iblk m c 9 t) (iblk m c 10 t) := by
  have hN : t.val < 128 := lt_of_lt_of_eq t.isLt (show cfg0.N = 128 from N_0)
  have hd : ∀ r : Fin 128, (128 * t.val + r.val) / 8192 = t.val / 64 := fun r => by omega
  have hm : ∀ r : Fin 128, (128 * t.val + r.val) % 8192 = 128 * (t.val % 64) + r.val := fun r => by omega
  refine ⟨hE, fun r q => ?_, fun r q => ?_, fun r q => ?_, fun r q => ?_, fun q => ?_, fun q => ?_, fun q => ?_, fun q => ?_, fun q => ?_,
    fun r q => ?_, fun r q => ?_⟩
  · refine (iblk0_at m c t r q ⟨128 * t.val + r.val, by omega⟩ rfl).trans ((congrFun (V_v3 m c) _).trans ((v3_at _ _ _).trans ?_))
    rw [Fin.val_mk, hd, hm]; rfl
  · refine (iblk1_at m c t r q ⟨128 * t.val + r.val, by omega⟩ rfl).trans ((congrFun (V_v2 m c) _).trans ((v2_at _ _ _).trans ?_))
    rw [Fin.val_mk, hd, hm]; rfl
  · refine (iblk2_at m c t r q ⟨128 * t.val + r.val, by omega⟩ rfl).trans ((congrFun (V_v1 m c) _).trans ((v1_at _ _ _).trans ?_))
    rw [Fin.val_mk, hd, hm]; rfl
  · exact (iblk3_at m c t r q r rfl).trans ((congrFun (V_v21 m c) _).trans (v21_at _ _ _))
  · exact (iblk4_at m c t 0 q 0 rfl).trans ((congrFun (V_v22 m c) _).trans (v22_at _ _))
  · exact (iblk5_at m c t 0 q 0 rfl).trans ((congrFun (V_v24 m c) _).trans (pad1_at _ _))
  · exact (iblk6_at m c t 0 q 0 rfl).trans ((congrFun (V_v26 m c) _).trans (pad1_at _ _))
  · exact (iblk7_at m c t 0 q 0 rfl).trans ((congrFun (V_v29 m c) _).trans (v29_at _ _))
  · exact (iblk8_at m c t 0 q 0 rfl).trans ((congrFun (V_v30 m c) _).trans (v30_at _ _))
  · exact (iblk9_at m c t r q r rfl).trans ((congrFun (V_v11 m c) _).trans (tri_at _ _))
  · exact (iblk10_at m c t r q r rfl).trans ((congrFun (V_v20 m c) _).trans (hot_at _ _))

/-- What a point's output block and the carried scratch hold. -/
structure After (E : Ent) (b k : ℕ) (o : Vec Ideal S128x2048 .f32) (s0 : Vec Ideal S136x3072 .f32) (s1 : Vec Ideal S128x2048 .f32) : Prop where
  out : ∀ l q, o (ix2 l q) = out E b k l q
  head : Head E b (k + 1) s0
  carry : Carry E b (k + 1) s1

theorem after_A (hE : Fine (entAt m c)) (t : Fin cfg0.N) (h0 : t.val % 64 = 0) :
    After (entAt m c) (t.val / 64) (t.val % 64) (outsAt0 m c t.val t.isLt).1 (outsAt0 m c t.val t.isLt).2.1 (outsAt0 m c t.val t.isLt).2.2 := by
  have H := blk_at m c hE t
  have hh : Head (entAt m c) (t.val / 64) (t.val % 64) zeroHead := by rw [h0]; exact zeroHead_head _ _
  have hs : Carry (entAt m c) (t.val / 64) (t.val % 64) (k0_pay2 (F := Ideal)) := by rw [h0]; exact zero_carry _ _
  rw [outsAt0_A m c t h0]
  refine ⟨fun l q => ?_, ?_, ?_⟩
  · dsimp only
    rw [out_A]
    exact out_at H hh hs l q
  · dsimp only
    rw [ext_A]
    exact next_head _ _ _ _ H.h0 _
  · dsimp only
    rw [state_A]
    exact next_carry H hh hs _

theorem after_B (hE : Fine (entAt m c)) (t : Fin cfg0.N) (h0 : ¬t.val % 64 = 0) (o s0 s1)
    (hp : outsAt0 m c (t.val - 1) (Nat.lt_of_le_of_lt (Nat.sub_le _ _) t.isLt) = (o, s0, s1))
    (hA : After (entAt m c) ((t.val - 1) / 64) ((t.val - 1) % 64) o s0 s1) :
    After (entAt m c) (t.val / 64) (t.val % 64) (outsAt0 m c t.val t.isLt).1 (outsAt0 m c t.val t.isLt).2.1 (outsAt0 m c t.val t.isLt).2.2 := by
  have H := blk_at m c hE t
  have e1 : (t.val - 1) / 64 = t.val / 64 := by omega
  have e2 : (t.val - 1) % 64 + 1 = t.val % 64 := by omega
  have hh := hA.head
  have hs := hA.carry
  rw [e1, e2] at hh hs
  rw [outsAt0_B m c t h0, hp]
  refine ⟨fun l q => ?_, ?_, ?_⟩
  · dsimp only
    rw [out_B]
    exact out_at H hh hs l q
  · dsimp only
    rw [ext_B]
    exact next_head _ _ _ _ H.h0 _
  · dsimp only
    rw [state_B]
    exact next_carry H hh hs []

theorem after_at (hE : Fine (entAt m c)) : ∀ (n : ℕ) (hn : n < cfg0.N),
    After (entAt m c) (n / 64) (n % 64) (outsAt0 m c n hn).1 (outsAt0 m c n hn).2.1 (outsAt0 m c n hn).2.2
  | 0, hn => after_A m c hE ⟨0, hn⟩ rfl
  | n + 1, hn => by
    by_cases h0 : (n + 1) % 64 = 0
    · exact after_A m c hE ⟨n + 1, hn⟩ h0
    · exact after_B m c hE ⟨n + 1, hn⟩ h0 _ _ _ rfl (after_at hE n (Nat.lt_of_succ_lt hn))

/-- The array after the run, at a row and a lane. -/
theorem G11_at (hE : Fine (entAt m c)) (r : Fin 16384) (q : Fin 2048) :
    (G11 m c : Vec Ideal S16384x2048 .f32) (ix2 r q) = out (entAt m c) (r / 8192) (r % 8192 / 128) (r % 128) q := by
  have hr : (r : ℕ) / 128 < cfg0.N := lt_of_lt_of_eq (by omega) (show 128 = cfg0.N from N_0.symm)
  have hp : pt11Of (ix2 r q) = (r : ℕ) / 128 := by
    show 1 * ((r : ℕ) / 128 - 0) + 1 * ((q : ℕ) / 2048 - 0) = _
    omega
  have hl : loc11Of (ix2 r q) = ix2 (⟨(r : ℕ) % 128, by omega⟩ : Fin 128) (⟨(q : ℕ) % 2048, by omega⟩ : Fin 2048) := by
    funext a
    match a with
    | ⟨0, _⟩ => rfl
    | ⟨1, _⟩ => rfl
  have h := (after_at m c hE _ hr).out ⟨(r : ℕ) % 128, by omega⟩ ⟨(q : ℕ) % 2048, by omega⟩
  rw [outsAt0_sweep] at h
  have e1 : (r : ℕ) / 128 / 64 = r / 8192 := by omega
  have e2 : (r : ℕ) / 128 % 64 = r % 8192 / 128 := by omega
  have e3 : (q : ℕ) % 2048 = q := by omega
  unfold G11
  rw [dif_pos (by rw [hp]; exact hr), hl, fold0_congr m c _ _ _ _ hp]
  refine h.trans ?_
  rw [e1, e2]
  show out _ _ _ ((r : ℕ) % 128) ((q : ℕ) % 2048) = _
  rw [e3]

end Cert.KernelIdeal.Value
-- ==== Proof.RefWindows.lean ====
/-
  The reference computation before its loop, one stretch at a time: each value that a later stretch reads,
  as a function of the values the stretch reads.
-/
module

public import proofs.«01_k».proof.Proof.Gen.ReferenceIdeal.Run

@[expose] public section

set_option maxRecDepth 10000

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

def h0_c  :
    (⟨S_, .i32⟩ : BufTy).Contents (Elt F) :=
  let c : (⟨S_, .i32⟩ : BufTy).Contents (Elt F) := (constantI S_ 32 0#32)
  c

theorem w0_c (V : Valuation τ sig (Elt F)) : after hostOps0 V (Proc.devRef .tc main_c)
    = h0_c  := by
  after_results
  rfl

def h1_v0 (arg1 : (⟨S2x8192x3072, .f32⟩ : BufTy).Contents (Elt F)) (c : (⟨S_, .i32⟩ : BufTy).Contents (Elt F)) :
    (⟨S2x8195x3072, .f32⟩ : BufTy).Contents (Elt F) :=
  let call0_v0 : (⟨S_, .f32⟩ : BufTy).Contents (Elt F) := (sitofp .f32) c
  let v0 : (⟨S2x8195x3072, .f32⟩ : BufTy).Contents (Elt F) := (fun x v => pad S2x8195x3072 ![0, 3, 0] ![0, 0, 0] ![0, 0, 0] x v pads_S2x8192x3072_S2x8195x3072_000_300_000 h_S_) arg1 call0_v0
  v0

theorem w1_v0 (V : Valuation τ sig (Elt F)) : after hostOps0_1 V (Proc.devRef .tc main_v0)
    = h1_v0 (V (Proc.devRef .tc main_arg1)) (V (Proc.devRef .tc main_c)) := by
  after_results
  rfl

def h2_v32 (v0 : (⟨S2x8195x3072, .f32⟩ : BufTy).Contents (Elt F)) (arg3 : (⟨S4x1x3072, .f32⟩ : BufTy).Contents (Elt F)) (arg4 : (⟨S3072, .f32⟩ : BufTy).Contents (Elt F)) :
    (⟨S2x8192x3072, .f32⟩ : BufTy).Contents (Elt F) :=
  let v1 : (⟨S2x8192x3072, .f32⟩ : BufTy).Contents (Elt F) := ((extractStridedSlice S2x8192x3072 ![0, 0, 0] · slices_S2x8195x3072_S2x8192x3072_0_0_0) : (⟨S2x8195x3072, .f32⟩ : BufTy).Contents (Elt F) → (⟨S2x8192x3072, .f32⟩ : BufTy).Contents (Elt F)) v0
  let v2 : (⟨S1x1x3072, .f32⟩ : BufTy).Contents (Elt F) := ((extractStridedSlice S1x1x3072 ![0, 0, 0] · slices_S4x1x3072_S1x1x3072_0_0_0) : (⟨S4x1x3072, .f32⟩ : BufTy).Contents (Elt F) → (⟨S1x1x3072, .f32⟩ : BufTy).Contents (Elt F)) arg3
  let v3 : (⟨S3072, .f32⟩ : BufTy).Contents (Elt F) := (shapeCast S3072 · shapeCasts_S1x1x3072_S3072) v2
  let v4 : (⟨S1x1x3072, .f32⟩ : BufTy).Contents (Elt F) := (broadcastInDim S1x1x3072 ![2] bcast_S3072_S1x1x3072_2 : (⟨S3072, .f32⟩ : BufTy).Contents (Elt F) → (⟨S1x1x3072, .f32⟩ : BufTy).Contents (Elt F)) v3
  let v5 : (⟨S2x8192x3072, .f32⟩ : BufTy).Contents (Elt F) := (broadcastInDim S2x8192x3072 ![0, 1, 2] bcast_S1x1x3072_S2x8192x3072_0_1_2 : (⟨S1x1x3072, .f32⟩ : BufTy).Contents (Elt F) → (⟨S2x8192x3072, .f32⟩ : BufTy).Contents (Elt F)) v4
  let v6 : (⟨S2x8192x3072, .f32⟩ : BufTy).Contents (Elt F) := (mulf : (⟨S2x8192x3072, .f32⟩ : BufTy).Contents (Elt F) → (⟨S2x8192x3072, .f32⟩ : BufTy).Contents (Elt F) → (⟨S2x8192x3072, .f32⟩ : BufTy).Contents (Elt F)) v1 v5
  let cst : (⟨S_, .f32⟩ : BufTy).Contents (Elt F) := (constant S_ .f32 0x00000000#32)
  let v7 : (⟨S2x8192x3072, .f32⟩ : BufTy).Contents (Elt F) := (broadcastInDim S2x8192x3072 ![] bcast_S_S2x8192x3072 : (⟨S_, .f32⟩ : BufTy).Contents (Elt F) → (⟨S2x8192x3072, .f32⟩ : BufTy).Contents (Elt F)) cst
  let v8 : (⟨S2x8192x3072, .f32⟩ : BufTy).Contents (Elt F) := (addf : (⟨S2x8192x3072, .f32⟩ : BufTy).Contents (Elt F) → (⟨S2x8192x3072, .f32⟩ : BufTy).Contents (Elt F) → (⟨S2x8192x3072, .f32⟩ : BufTy).Contents (Elt F)) v7 v6
  let v9 : (⟨S2x8192x3072, .f32⟩ : BufTy).Contents (Elt F) := ((extractStridedSlice S2x8192x3072 ![0, 1, 0] · slices_S2x8195x3072_S2x8192x3072_0_1_0) : (⟨S2x8195x3072, .f32⟩ : BufTy).Contents (Elt F) → (⟨S2x8192x3072, .f32⟩ : BufTy).Contents (Elt F)) v0
  let v10 : (⟨S1x1x3072, .f32⟩ : BufTy).Contents (Elt F) := ((extractStridedSlice S1x1x3072 ![1, 0, 0] · slices_S4x1x3072_S1x1x3072_1_0_0) : (⟨S4x1x3072, .f32⟩ : BufTy).Contents (Elt F) → (⟨S1x1x3072, .f32⟩ : BufTy).Contents (Elt F)) arg3
  let v11 : (⟨S3072, .f32⟩ : BufTy).Contents (Elt F) := (shapeCast S3072 · shapeCasts_S1x1x3072_S3072) v10
  let v12 : (⟨S1x1x3072, .f32⟩ : BufTy).Contents (Elt F) := (broadcastInDim S1x1x3072 ![2] bcast_S3072_S1x1x3072_2 : (⟨S3072, .f32⟩ : BufTy).Contents (Elt F) → (⟨S1x1x3072, .f32⟩ : BufTy).Contents (Elt F)) v11
  let v13 : (⟨S2x8192x3072, .f32⟩ : BufTy).Contents (Elt F) := (broadcastInDim S2x8192x3072 ![0, 1, 2] bcast_S1x1x3072_S2x8192x3072_0_1_2 : (⟨S1x1x3072, .f32⟩ : BufTy).Contents (Elt F) → (⟨S2x8192x3072, .f32⟩ : BufTy).Contents (Elt F)) v12
  let v14 : (⟨S2x8192x3072, .f32⟩ : BufTy).Contents (Elt F) := (mulf : (⟨S2x8192x3072, .f32⟩ : BufTy).Contents (Elt F) → (⟨S2x8192x3072, .f32⟩ : BufTy).Contents (Elt F) → (⟨S2x8192x3072, .f32⟩ : BufTy).Contents (Elt F)) v9 v13
  let v15 : (⟨S2x8192x3072, .f32⟩ : BufTy).Contents (Elt F) := (addf : (⟨S2x8192x3072, .f32⟩ : BufTy).Contents (Elt F) → (⟨S2x8192x3072, .f32⟩ : BufTy).Contents (Elt F) → (⟨S2x8192x3072, .f32⟩ : BufTy).Contents (Elt F)) v8 v14
  let v16 : (⟨S2x8192x3072, .f32⟩ : BufTy).Contents (Elt F) := ((extractStridedSlice S2x8192x3072 ![0, 2, 0] · slices_S2x8195x3072_S2x8192x3072_0_2_0) : (⟨S2x8195x3072, .f32⟩ : BufTy).Contents (Elt F) → (⟨S2x8192x3072, .f32⟩ : BufTy).Contents (Elt F)) v0
  let v17 : (⟨S1x1x3072, .f32⟩ : BufTy).Contents (Elt F) := ((extractStridedSlice S1x1x3072 ![2, 0, 0] · slices_S4x1x3072_S1x1x3072_2_0_0) : (⟨S4x1x3072, .f32⟩ : BufTy).Contents (Elt F) → (⟨S1x1x3072, .f32⟩ : BufTy).Contents (Elt F)) arg3
  let v18 : (⟨S3072, .f32⟩ : BufTy).Contents (Elt F) := (shapeCast S3072 · shapeCasts_S1x1x3072_S3072) v17
  let v19 : (⟨S1x1x3072, .f32⟩ : BufTy).Contents (Elt F) := (broadcastInDim S1x1x3072 ![2] bcast_S3072_S1x1x3072_2 : (⟨S3072, .f32⟩ : BufTy).Contents (Elt F) → (⟨S1x1x3072, .f32⟩ : BufTy).Contents (Elt F)) v18
  let v20 : (⟨S2x8192x3072, .f32⟩ : BufTy).Contents (Elt F) := (broadcastInDim S2x8192x3072 ![0, 1, 2] bcast_S1x1x3072_S2x8192x3072_0_1_2 : (⟨S1x1x3072, .f32⟩ : BufTy).Contents (Elt F) → (⟨S2x8192x3072, .f32⟩ : BufTy).Contents (Elt F)) v19
  let v21 : (⟨S2x8192x3072, .f32⟩ : BufTy).Contents (Elt F) := (mulf : (⟨S2x8192x3072, .f32⟩ : BufTy).Contents (Elt F) → (⟨S2x8192x3072, .f32⟩ : BufTy).Contents (Elt F) → (⟨S2x8192x3072, .f32⟩ : BufTy).Contents (Elt F)) v16 v20
  let v22 : (⟨S2x8192x3072, .f32⟩ : BufTy).Contents (Elt F) := (addf : (⟨S2x8192x3072, .f32⟩ : BufTy).Contents (Elt F) → (⟨S2x8192x3072, .f32⟩ : BufTy).Contents (Elt F) → (⟨S2x8192x3072, .f32⟩ : BufTy).Contents (Elt F)) v15 v21
  let v23 : (⟨S2x8192x3072, .f32⟩ : BufTy).Contents (Elt F) := ((extractStridedSlice S2x8192x3072 ![0, 3, 0] · slices_S2x8195x3072_S2x8192x3072_0_3_0) : (⟨S2x8195x3072, .f32⟩ : BufTy).Contents (Elt F) → (⟨S2x8192x3072, .f32⟩ : BufTy).Contents (Elt F)) v0
  let v24 : (⟨S1x1x3072, .f32⟩ : BufTy).Contents (Elt F) := ((extractStridedSlice S1x1x3072 ![3, 0, 0] · slices_S4x1x3072_S1x1x3072_3_0_0) : (⟨S4x1x3072, .f32⟩ : BufTy).Contents (Elt F) → (⟨S1x1x3072, .f32⟩ : BufTy).Contents (Elt F)) arg3
  let v25 : (⟨S3072, .f32⟩ : BufTy).Contents (Elt F) := (shapeCast S3072 · shapeCasts_S1x1x3072_S3072) v24
  let v26 : (⟨S1x1x3072, .f32⟩ : BufTy).Contents (Elt F) := (broadcastInDim S1x1x3072 ![2] bcast_S3072_S1x1x3072_2 : (⟨S3072, .f32⟩ : BufTy).Contents (Elt F) → (⟨S1x1x3072, .f32⟩ : BufTy).Contents (Elt F)) v25
  let v27 : (⟨S2x8192x3072, .f32⟩ : BufTy).Contents (Elt F) := (broadcastInDim S2x8192x3072 ![0, 1, 2] bcast_S1x1x3072_S2x8192x3072_0_1_2 : (⟨S1x1x3072, .f32⟩ : BufTy).Contents (Elt F) → (⟨S2x8192x3072, .f32⟩ : BufTy).Contents (Elt F)) v26
  let v28 : (⟨S2x8192x3072, .f32⟩ : BufTy).Contents (Elt F) := (mulf : (⟨S2x8192x3072, .f32⟩ : BufTy).Contents (Elt F) → (⟨S2x8192x3072, .f32⟩ : BufTy).Contents (Elt F) → (⟨S2x8192x3072, .f32⟩ : BufTy).Contents (Elt F)) v23 v27
  let v29 : (⟨S2x8192x3072, .f32⟩ : BufTy).Contents (Elt F) := (addf : (⟨S2x8192x3072, .f32⟩ : BufTy).Contents (Elt F) → (⟨S2x8192x3072, .f32⟩ : BufTy).Contents (Elt F) → (⟨S2x8192x3072, .f32⟩ : BufTy).Contents (Elt F)) v22 v28
  let v30 : (⟨S1x1x3072, .f32⟩ : BufTy).Contents (Elt F) := (broadcastInDim S1x1x3072 ![2] bcast_S3072_S1x1x3072_2 : (⟨S3072, .f32⟩ : BufTy).Contents (Elt F) → (⟨S1x1x3072, .f32⟩ : BufTy).Contents (Elt F)) arg4
  let v31 : (⟨S2x8192x3072, .f32⟩ : BufTy).Contents (Elt F) := (broadcastInDim S2x8192x3072 ![0, 1, 2] bcast_S1x1x3072_S2x8192x3072_0_1_2 : (⟨S1x1x3072, .f32⟩ : BufTy).Contents (Elt F) → (⟨S2x8192x3072, .f32⟩ : BufTy).Contents (Elt F)) v30
  let v32 : (⟨S2x8192x3072, .f32⟩ : BufTy).Contents (Elt F) := (addf : (⟨S2x8192x3072, .f32⟩ : BufTy).Contents (Elt F) → (⟨S2x8192x3072, .f32⟩ : BufTy).Contents (Elt F) → (⟨S2x8192x3072, .f32⟩ : BufTy).Contents (Elt F)) v29 v31
  v32

theorem w2_v32 (V : Valuation τ sig (Elt F)) : after hostOps0_2 V (Proc.devRef .tc main_v32)
    = h2_v32 (V (Proc.devRef .tc main_v0)) (V (Proc.devRef .tc main_arg3)) (V (Proc.devRef .tc main_arg4)) := by
  after_results
  rfl

def h3_v33 (v32 : (⟨S2x8192x3072, .f32⟩ : BufTy).Contents (Elt F)) :
    (⟨S2x8192x3072, .f32⟩ : BufTy).Contents (Elt F) :=
  let call1_v0 : (⟨S2x8192x3072, .f32⟩ : BufTy).Contents (Elt F) := Host.negf v32
  let call1_v1 : (⟨S2x8192x3072, .f32⟩ : BufTy).Contents (Elt F) := Host.exp call1_v0
  let call1_cst : (⟨S_, .f32⟩ : BufTy).Contents (Elt F) := (constant S_ .f32 0x3F800000#32)
  let call1_v2 : (⟨S2x8192x3072, .f32⟩ : BufTy).Contents (Elt F) := (broadcastInDim S2x8192x3072 ![] bcast_S_S2x8192x3072) call1_cst
  let call1_v3 : (⟨S2x8192x3072, .f32⟩ : BufTy).Contents (Elt F) := addf call1_v2 call1_v1
  let call1_cst_0 : (⟨S_, .f32⟩ : BufTy).Contents (Elt F) := (constant S_ .f32 0x3F800000#32)
  let call1_v4 : (⟨S2x8192x3072, .f32⟩ : BufTy).Contents (Elt F) := (broadcastInDim S2x8192x3072 ![] bcast_S_S2x8192x3072) call1_cst_0
  let call1_v5 : (⟨S2x8192x3072, .f32⟩ : BufTy).Contents (Elt F) := Host.divf call1_v4 call1_v3
  let v33 : (⟨S2x8192x3072, .f32⟩ : BufTy).Contents (Elt F) := mulf v32 call1_v5
  v33

theorem w3_v33 (V : Valuation τ sig (Elt F)) : after hostOps0_3 V (Proc.devRef .tc main_v33)
    = h3_v33 (V (Proc.devRef .tc main_v32)) := by
  after_results
  rfl

def h4_v37 (v33 : (⟨S2x8192x3072, .f32⟩ : BufTy).Contents (Elt F)) :
    (⟨S2x8192x32x64, .f32⟩ : BufTy).Contents (Elt F) :=
  let v34 : (⟨S2x8192x2048, .f32⟩ : BufTy).Contents (Elt F) := ((extractStridedSlice S2x8192x2048 ![0, 0, 0] · slices_S2x8192x3072_S2x8192x2048_0_0_0) : (⟨S2x8192x3072, .f32⟩ : BufTy).Contents (Elt F) → (⟨S2x8192x2048, .f32⟩ : BufTy).Contents (Elt F)) v33
  let v37 : (⟨S2x8192x32x64, .f32⟩ : BufTy).Contents (Elt F) := (shapeCast S2x8192x32x64 · shapeCasts_S2x8192x2048_S2x8192x32x64) v34
  v37

theorem w4_v37 (V : Valuation τ sig (Elt F)) : after hostOps0_4 V (Proc.devRef .tc main_v37)
    = h4_v37 (V (Proc.devRef .tc main_v33)) := by
  after_results
  rfl

def h4_v38 (v33 : (⟨S2x8192x3072, .f32⟩ : BufTy).Contents (Elt F)) :
    (⟨S2x8192x4x128, .f32⟩ : BufTy).Contents (Elt F) :=
  let v35 : (⟨S2x8192x512, .f32⟩ : BufTy).Contents (Elt F) := ((extractStridedSlice S2x8192x512 ![0, 0, 2048] · slices_S2x8192x3072_S2x8192x512_0_0_2048) : (⟨S2x8192x3072, .f32⟩ : BufTy).Contents (Elt F) → (⟨S2x8192x512, .f32⟩ : BufTy).Contents (Elt F)) v33
  let v38 : (⟨S2x8192x4x128, .f32⟩ : BufTy).Contents (Elt F) := (shapeCast S2x8192x4x128 · shapeCasts_S2x8192x512_S2x8192x4x128) v35
  v38

theorem w4_v38 (V : Valuation τ sig (Elt F)) : after hostOps0_4 V (Proc.devRef .tc main_v38)
    = h4_v38 (V (Proc.devRef .tc main_v33)) := by
  after_results
  rfl

def h4_v39 (v33 : (⟨S2x8192x3072, .f32⟩ : BufTy).Contents (Elt F)) :
    (⟨S2x8192x4x128, .f32⟩ : BufTy).Contents (Elt F) :=
  let v36 : (⟨S2x8192x512, .f32⟩ : BufTy).Contents (Elt F) := ((extractStridedSlice S2x8192x512 ![0, 0, 2560] · slices_S2x8192x3072_S2x8192x512_0_0_2560) : (⟨S2x8192x3072, .f32⟩ : BufTy).Contents (Elt F) → (⟨S2x8192x512, .f32⟩ : BufTy).Contents (Elt F)) v33
  let v39 : (⟨S2x8192x4x128, .f32⟩ : BufTy).Contents (Elt F) := (shapeCast S2x8192x4x128 · shapeCasts_S2x8192x512_S2x8192x4x128) v36
  v39

theorem w4_v39 (V : Valuation τ sig (Elt F)) : after hostOps0_4 V (Proc.devRef .tc main_v39)
    = h4_v39 (V (Proc.devRef .tc main_v33)) := by
  after_results
  rfl

def h4_v42 (arg2 : (⟨S2x8192x32, .f32⟩ : BufTy).Contents (Elt F)) (arg5 : (⟨S32, .f32⟩ : BufTy).Contents (Elt F)) :
    (⟨S2x8192x32, .f32⟩ : BufTy).Contents (Elt F) :=
  let v40 : (⟨S1x1x32, .f32⟩ : BufTy).Contents (Elt F) := (broadcastInDim S1x1x32 ![2] bcast_S32_S1x1x32_2 : (⟨S32, .f32⟩ : BufTy).Contents (Elt F) → (⟨S1x1x32, .f32⟩ : BufTy).Contents (Elt F)) arg5
  let v41 : (⟨S2x8192x32, .f32⟩ : BufTy).Contents (Elt F) := (broadcastInDim S2x8192x32 ![0, 1, 2] bcast_S1x1x32_S2x8192x32_0_1_2 : (⟨S1x1x32, .f32⟩ : BufTy).Contents (Elt F) → (⟨S2x8192x32, .f32⟩ : BufTy).Contents (Elt F)) v40
  let v42 : (⟨S2x8192x32, .f32⟩ : BufTy).Contents (Elt F) := (addf : (⟨S2x8192x32, .f32⟩ : BufTy).Contents (Elt F) → (⟨S2x8192x32, .f32⟩ : BufTy).Contents (Elt F) → (⟨S2x8192x32, .f32⟩ : BufTy).Contents (Elt F)) arg2 v41
  v42

theorem w4_v42 (V : Valuation τ sig (Elt F)) : after hostOps0_4 V (Proc.devRef .tc main_v42)
    = h4_v42 (V (Proc.devRef .tc main_arg2)) (V (Proc.devRef .tc main_arg5)) := by
  after_results
  rfl

def h5_v43 (v42 : (⟨S2x8192x32, .f32⟩ : BufTy).Contents (Elt F)) :
    (⟨S2x8192x32, .f32⟩ : BufTy).Contents (Elt F) :=
  let call2_cst : (⟨S_, .f32⟩ : BufTy).Contents (Elt F) := (constant S_ .f32 0x00000000#32)
  let call2_v0 : (⟨S2x8192x32, .f32⟩ : BufTy).Contents (Elt F) := (broadcastInDim S2x8192x32 ![] bcast_S_S2x8192x32) call2_cst
  let call2_v1 : (⟨S2x8192x32, .f32⟩ : BufTy).Contents (Elt F) := maximumf v42 call2_v0
  let call2_v2 : (⟨S2x8192x32, .f32⟩ : BufTy).Contents (Elt F) := (broadcastInDim S2x8192x32 ![] bcast_S_S2x8192x32) call2_cst
  let call2_v3 : (⟨S2x8192x32, .f32⟩ : BufTy).Contents (Elt F) := subf v42 call2_v2
  let call2_v4 : (⟨S2x8192x32, .i1⟩ : BufTy).Contents (Elt F) := (cmpf .une) call2_v3 call2_v3
  let call2_v5 : (⟨S2x8192x32, .f32⟩ : BufTy).Contents (Elt F) := (broadcastInDim S2x8192x32 ![] bcast_S_S2x8192x32) call2_cst
  let call2_v6 : (⟨S2x8192x32, .f32⟩ : BufTy).Contents (Elt F) := addf v42 call2_v5
  let call2_v7 : (⟨S2x8192x32, .f32⟩ : BufTy).Contents (Elt F) := Host.absf call2_v3
  let call2_v8 : (⟨S2x8192x32, .f32⟩ : BufTy).Contents (Elt F) := Host.negf call2_v7
  let call2_v9 : (⟨S2x8192x32, .f32⟩ : BufTy).Contents (Elt F) := Host.exp call2_v8
  let call2_v10 : (⟨S2x8192x32, .f32⟩ : BufTy).Contents (Elt F) := Host.log1p call2_v9
  let call2_v11 : (⟨S2x8192x32, .f32⟩ : BufTy).Contents (Elt F) := addf call2_v1 call2_v10
  let v43 : (⟨S2x8192x32, .f32⟩ : BufTy).Contents (Elt F) := select call2_v4 call2_v6 call2_v11
  v43

theorem w5_v43 (V : Valuation τ sig (Elt F)) : after hostOps0_5 V (Proc.devRef .tc main_v43)
    = h5_v43 (V (Proc.devRef .tc main_v42)) := by
  after_results
  rfl

def h6_v49 (v37 : (⟨S2x8192x32x64, .f32⟩ : BufTy).Contents (Elt F)) (v43 : (⟨S2x8192x32, .f32⟩ : BufTy).Contents (Elt F)) :
    (⟨S2x64x128x4x8x64, .f32⟩ : BufTy).Contents (Elt F) :=
  let v46 : (⟨S2x8192x32x1, .f32⟩ : BufTy).Contents (Elt F) := (broadcastInDim S2x8192x32x1 ![0, 1, 2] bcast_S2x8192x32_S2x8192x32x1_0_1_2 : (⟨S2x8192x32, .f32⟩ : BufTy).Contents (Elt F) → (⟨S2x8192x32x1, .f32⟩ : BufTy).Contents (Elt F)) v43
  let v47 : (⟨S2x8192x32x64, .f32⟩ : BufTy).Contents (Elt F) := (broadcastInDim S2x8192x32x64 ![0, 1, 2, 3] bcast_S2x8192x32x1_S2x8192x32x64_0_1_2_3 : (⟨S2x8192x32x1, .f32⟩ : BufTy).Contents (Elt F) → (⟨S2x8192x32x64, .f32⟩ : BufTy).Contents (Elt F)) v46
  let v48 : (⟨S2x8192x32x64, .f32⟩ : BufTy).Contents (Elt F) := (mulf : (⟨S2x8192x32x64, .f32⟩ : BufTy).Contents (Elt F) → (⟨S2x8192x32x64, .f32⟩ : BufTy).Contents (Elt F) → (⟨S2x8192x32x64, .f32⟩ : BufTy).Contents (Elt F)) v37 v47
  let v49 : (⟨S2x64x128x4x8x64, .f32⟩ : BufTy).Contents (Elt F) := (shapeCast S2x64x128x4x8x64 · shapeCasts_S2x8192x32x64_S2x64x128x4x8x64) v48
  v49

theorem w6_v49 (V : Valuation τ sig (Elt F)) : after hostOps0_6 V (Proc.devRef .tc main_v49)
    = h6_v49 (V (Proc.devRef .tc main_v37)) (V (Proc.devRef .tc main_v43)) := by
  after_results
  rfl

def h6_v53 (v43 : (⟨S2x8192x32, .f32⟩ : BufTy).Contents (Elt F)) (arg6 : (⟨S32, .f32⟩ : BufTy).Contents (Elt F)) :
    (⟨S2x64x128x4x8, .f32⟩ : BufTy).Contents (Elt F) :=
  let v44 : (⟨S32, .f32⟩ : BufTy).Contents (Elt F) := (Host.exp : (⟨S32, .f32⟩ : BufTy).Contents (Elt F) → (⟨S32, .f32⟩ : BufTy).Contents (Elt F)) arg6
  let v45 : (⟨S32, .f32⟩ : BufTy).Contents (Elt F) := (Host.negf : (⟨S32, .f32⟩ : BufTy).Contents (Elt F) → (⟨S32, .f32⟩ : BufTy).Contents (Elt F)) v44
  let v50 : (⟨S1x1x32, .f32⟩ : BufTy).Contents (Elt F) := (broadcastInDim S1x1x32 ![2] bcast_S32_S1x1x32_2 : (⟨S32, .f32⟩ : BufTy).Contents (Elt F) → (⟨S1x1x32, .f32⟩ : BufTy).Contents (Elt F)) v45
  let v51 : (⟨S2x8192x32, .f32⟩ : BufTy).Contents (Elt F) := (broadcastInDim S2x8192x32 ![0, 1, 2] bcast_S1x1x32_S2x8192x32_0_1_2 : (⟨S1x1x32, .f32⟩ : BufTy).Contents (Elt F) → (⟨S2x8192x32, .f32⟩ : BufTy).Contents (Elt F)) v50
  let v52 : (⟨S2x8192x32, .f32⟩ : BufTy).Contents (Elt F) := (mulf : (⟨S2x8192x32, .f32⟩ : BufTy).Contents (Elt F) → (⟨S2x8192x32, .f32⟩ : BufTy).Contents (Elt F) → (⟨S2x8192x32, .f32⟩ : BufTy).Contents (Elt F)) v43 v51
  let v53 : (⟨S2x64x128x4x8, .f32⟩ : BufTy).Contents (Elt F) := (shapeCast S2x64x128x4x8 · shapeCasts_S2x8192x32_S2x64x128x4x8) v52
  v53

theorem w6_v53 (V : Valuation τ sig (Elt F)) : after hostOps0_6 V (Proc.devRef .tc main_v53)
    = h6_v53 (V (Proc.devRef .tc main_v43)) (V (Proc.devRef .tc main_arg6)) := by
  after_results
  rfl

def h6_v54 (v38 : (⟨S2x8192x4x128, .f32⟩ : BufTy).Contents (Elt F)) :
    (⟨S2x64x128x4x128, .f32⟩ : BufTy).Contents (Elt F) :=
  let v54 : (⟨S2x64x128x4x128, .f32⟩ : BufTy).Contents (Elt F) := (shapeCast S2x64x128x4x128 · shapeCasts_S2x8192x4x128_S2x64x128x4x128) v38
  v54

theorem w6_v54 (V : Valuation τ sig (Elt F)) : after hostOps0_6 V (Proc.devRef .tc main_v54)
    = h6_v54 (V (Proc.devRef .tc main_v38)) := by
  after_results
  rfl

def h6_v55 (v39 : (⟨S2x8192x4x128, .f32⟩ : BufTy).Contents (Elt F)) :
    (⟨S2x64x128x4x128, .f32⟩ : BufTy).Contents (Elt F) :=
  let v55 : (⟨S2x64x128x4x128, .f32⟩ : BufTy).Contents (Elt F) := (shapeCast S2x64x128x4x128 · shapeCasts_S2x8192x4x128_S2x64x128x4x128) v39
  v55

theorem w6_v55 (V : Valuation τ sig (Elt F)) : after hostOps0_6 V (Proc.devRef .tc main_v55)
    = h6_v55 (V (Proc.devRef .tc main_v39)) := by
  after_results
  rfl

def h7_v56 (v53 : (⟨S2x64x128x4x8, .f32⟩ : BufTy).Contents (Elt F)) :
    (⟨S2x64x128x4x8, .f32⟩ : BufTy).Contents (Elt F) :=
  let call3_call0_cst : (⟨S_, .f32⟩ : BufTy).Contents (Elt F) := (constant S_ .f32 0x00000000#32)
  let call3_call0_v0 : (⟨S_, .f32⟩ : BufTy).Contents (Elt F) := (broadcastInDim S_ ![] bcast_S_S_) call3_call0_cst
  let v56 : (⟨S2x64x128x4x8, .f32⟩ : BufTy).Contents (Elt F) := (fun x v => Host.reduceWindowAdd ![1, 1, 128, 1, 1] ![1, 1, 1, 1, 1] ![0, 0, 127, 0, 0] ![0, 0, 0, 0, 0] x v reduceWindows_S2x64x128x4x8_S2x64x128x4x8_w1s1p0_0_w1s1p0_0_w128s1p127_0_w1s1p0_0_w1s1p0_0 h_S_) v53 call3_call0_v0
  v56

theorem w7_v56 (V : Valuation τ sig (Elt F)) : after hostOps0_7 V (Proc.devRef .tc main_v56)
    = h7_v56 (V (Proc.devRef .tc main_v53)) := by
  after_results
  rfl

def h8_v57  :
    (⟨S128x128, .i1⟩ : BufTy).Contents (Elt F) :=
  let c_0 : (⟨S_, .i1⟩ : BufTy).Contents (Elt F) := (constantI S_ 1 1#1)
  let v57 : (⟨S128x128, .i1⟩ : BufTy).Contents (Elt F) := (broadcastInDim S128x128 ![] bcast_S_S128x128 : (⟨S_, .i1⟩ : BufTy).Contents (Elt F) → (⟨S128x128, .i1⟩ : BufTy).Contents (Elt F)) c_0
  v57

theorem w8_v57 (V : Valuation τ sig (Elt F)) : after hostOps0_8 V (Proc.devRef .tc main_v57)
    = h8_v57  := by
  after_results
  rfl

def h9_v58 (v57 : (⟨S128x128, .i1⟩ : BufTy).Contents (Elt F)) :
    (⟨S128x128, .i1⟩ : BufTy).Contents (Elt F) :=
  let call4_v0 : (⟨S128x128, .i32⟩ : BufTy).Contents (Elt F) := (iotaInDim S128x128 32 0)
  let call4_c : (⟨S_, .i32⟩ : BufTy).Contents (Elt F) := (constantI S_ 32 0#32)
  let call4_v1 : (⟨S128x128, .i32⟩ : BufTy).Contents (Elt F) := (broadcastInDim S128x128 ![] bcast_S_S128x128) call4_c
  let call4_v2 : (⟨S128x128, .i32⟩ : BufTy).Contents (Elt F) := addi call4_v0 call4_v1
  let call4_v3 : (⟨S128x128, .i32⟩ : BufTy).Contents (Elt F) := (iotaInDim S128x128 32 1)
  let call4_v4 : (⟨S128x128, .i1⟩ : BufTy).Contents (Elt F) := (cmpi .sge) call4_v2 call4_v3
  let call4_c_0 : (⟨S_, .i1⟩ : BufTy).Contents (Elt F) := (constantI S_ 1 0#1)
  let call4_v5 : (⟨S128x128, .i1⟩ : BufTy).Contents (Elt F) := (broadcastInDim S128x128 ![] bcast_S_S128x128) call4_c_0
  let v58 : (⟨S128x128, .i1⟩ : BufTy).Contents (Elt F) := select call4_v4 v57 call4_v5
  v58

theorem w9_v58 (V : Valuation τ sig (Elt F)) : after hostOps0_9 V (Proc.devRef .tc main_v58)
    = h9_v58 (V (Proc.devRef .tc main_v57)) := by
  after_results
  rfl

def h10_v63 (v56 : (⟨S2x64x128x4x8, .f32⟩ : BufTy).Contents (Elt F)) :
    (⟨S2x64x128x128x4x8, .f32⟩ : BufTy).Contents (Elt F) :=
  let v59 : (⟨S2x64x128x1x4x8, .f32⟩ : BufTy).Contents (Elt F) := (broadcastInDim S2x64x128x1x4x8 ![0, 1, 2, 4, 5] bcast_S2x64x128x4x8_S2x64x128x1x4x8_0_1_2_4_5 : (⟨S2x64x128x4x8, .f32⟩ : BufTy).Contents (Elt F) → (⟨S2x64x128x1x4x8, .f32⟩ : BufTy).Contents (Elt F)) v56
  let v60 : (⟨S2x64x1x128x4x8, .f32⟩ : BufTy).Contents (Elt F) := (broadcastInDim S2x64x1x128x4x8 ![0, 1, 3, 4, 5] bcast_S2x64x128x4x8_S2x64x1x128x4x8_0_1_3_4_5 : (⟨S2x64x128x4x8, .f32⟩ : BufTy).Contents (Elt F) → (⟨S2x64x1x128x4x8, .f32⟩ : BufTy).Contents (Elt F)) v56
  let v61 : (⟨S2x64x128x128x4x8, .f32⟩ : BufTy).Contents (Elt F) := (broadcastInDim S2x64x128x128x4x8 ![0, 1, 2, 3, 4, 5] bcast_S2x64x128x1x4x8_S2x64x128x128x4x8_0_1_2_3_4_5 : (⟨S2x64x128x1x4x8, .f32⟩ : BufTy).Contents (Elt F) → (⟨S2x64x128x128x4x8, .f32⟩ : BufTy).Contents (Elt F)) v59
  let v62 : (⟨S2x64x128x128x4x8, .f32⟩ : BufTy).Contents (Elt F) := (broadcastInDim S2x64x128x128x4x8 ![0, 1, 2, 3, 4, 5] bcast_S2x64x1x128x4x8_S2x64x128x128x4x8_0_1_2_3_4_5 : (⟨S2x64x1x128x4x8, .f32⟩ : BufTy).Contents (Elt F) → (⟨S2x64x128x128x4x8, .f32⟩ : BufTy).Contents (Elt F)) v60
  let v63 : (⟨S2x64x128x128x4x8, .f32⟩ : BufTy).Contents (Elt F) := (subf : (⟨S2x64x128x128x4x8, .f32⟩ : BufTy).Contents (Elt F) → (⟨S2x64x128x128x4x8, .f32⟩ : BufTy).Contents (Elt F) → (⟨S2x64x128x128x4x8, .f32⟩ : BufTy).Contents (Elt F)) v61 v62
  v63

theorem w10_v63 (V : Valuation τ sig (Elt F)) : after hostOps0_10 V (Proc.devRef .tc main_v63)
    = h10_v63 (V (Proc.devRef .tc main_v56)) := by
  after_results
  rfl

def h10_v64 (v58 : (⟨S128x128, .i1⟩ : BufTy).Contents (Elt F)) :
    (⟨S1x1x128x128x1x1, .i1⟩ : BufTy).Contents (Elt F) :=
  let v64 : (⟨S1x1x128x128x1x1, .i1⟩ : BufTy).Contents (Elt F) := (broadcastInDim S1x1x128x128x1x1 ![2, 3] bcast_S128x128_S1x1x128x128x1x1_2_3 : (⟨S128x128, .i1⟩ : BufTy).Contents (Elt F) → (⟨S1x1x128x128x1x1, .i1⟩ : BufTy).Contents (Elt F)) v58
  v64

theorem w10_v64 (V : Valuation τ sig (Elt F)) : after hostOps0_10 V (Proc.devRef .tc main_v64)
    = h10_v64 (V (Proc.devRef .tc main_v58)) := by
  after_results
  rfl

def h10_cst_1  :
    (⟨S_, .f32⟩ : BufTy).Contents (Elt F) :=
  let cst_1 : (⟨S_, .f32⟩ : BufTy).Contents (Elt F) := (constant S_ .f32 0xFF800000#32)
  cst_1

theorem w10_cst_1 (V : Valuation τ sig (Elt F)) : after hostOps0_10 V (Proc.devRef .tc main_cst_1)
    = h10_cst_1  := by
  after_results
  rfl

def h11_v65 (v64 : (⟨S1x1x128x128x1x1, .i1⟩ : BufTy).Contents (Elt F)) (v63 : (⟨S2x64x128x128x4x8, .f32⟩ : BufTy).Contents (Elt F)) (cst_1 : (⟨S_, .f32⟩ : BufTy).Contents (Elt F)) :
    (⟨S2x64x128x128x4x8, .f32⟩ : BufTy).Contents (Elt F) :=
  let call5_v0 : (⟨S_, .f32⟩ : BufTy).Contents (Elt F) := id cst_1
  let call5_v1 : (⟨S2x64x128x128x4x8, .i1⟩ : BufTy).Contents (Elt F) := (broadcastInDim S2x64x128x128x4x8 ![0, 1, 2, 3, 4, 5] bcast_S1x1x128x128x1x1_S2x64x128x128x4x8_0_1_2_3_4_5) v64
  let call5_v2 : (⟨S2x64x128x128x4x8, .f32⟩ : BufTy).Contents (Elt F) := (broadcastInDim S2x64x128x128x4x8 ![] bcast_S_S2x64x128x128x4x8) call5_v0
  let v65 : (⟨S2x64x128x128x4x8, .f32⟩ : BufTy).Contents (Elt F) := select call5_v1 v63 call5_v2
  v65

theorem w11_v65 (V : Valuation τ sig (Elt F)) : after hostOps0_11 V (Proc.devRef .tc main_v65)
    = h11_v65 (V (Proc.devRef .tc main_v64)) (V (Proc.devRef .tc main_v63)) (V (Proc.devRef .tc main_cst_1)) := by
  after_results
  rfl

def h12_v73 (v49 : (⟨S2x64x128x4x8x64, .f32⟩ : BufTy).Contents (Elt F)) (v54 : (⟨S2x64x128x4x128, .f32⟩ : BufTy).Contents (Elt F)) (v55 : (⟨S2x64x128x4x128, .f32⟩ : BufTy).Contents (Elt F)) (v65 : (⟨S2x64x128x128x4x8, .f32⟩ : BufTy).Contents (Elt F)) :
    (⟨S2x64x128x4x8x64, .f32⟩ : BufTy).Contents (Elt F) :=
  let v66 : (⟨S2x64x128x128x4x8, .f32⟩ : BufTy).Contents (Elt F) := (Host.exp : (⟨S2x64x128x128x4x8, .f32⟩ : BufTy).Contents (Elt F) → (⟨S2x64x128x128x4x8, .f32⟩ : BufTy).Contents (Elt F)) v65
  let v67 : (⟨S2x64x4x128x128, .f32⟩ : BufTy).Contents (Elt F) := ((fun l r => Host.dotGeneral dot_S2x64x128x4x128_S2x64x128x4x128_S2x64x4x128x128_4_4_2_2_013_013 none l r) : (⟨S2x64x128x4x128, .f32⟩ : BufTy).Contents (Elt F) → (⟨S2x64x128x4x128, .f32⟩ : BufTy).Contents (Elt F) → (⟨S2x64x4x128x128, .f32⟩ : BufTy).Contents (Elt F)) v54 v55
  let v68 : (⟨S2x64x128x128x4, .f32⟩ : BufTy).Contents (Elt F) := ((transpose S2x64x128x128x4 [0, 1, 4, 3, 2] · transposes_S2x64x4x128x128_S2x64x128x128x4_0_1_4_3_2) : (⟨S2x64x4x128x128, .f32⟩ : BufTy).Contents (Elt F) → (⟨S2x64x128x128x4, .f32⟩ : BufTy).Contents (Elt F)) v67
  let v69 : (⟨S2x64x128x128x4x1, .f32⟩ : BufTy).Contents (Elt F) := (broadcastInDim S2x64x128x128x4x1 ![0, 1, 2, 3, 4] bcast_S2x64x128x128x4_S2x64x128x128x4x1_0_1_2_3_4 : (⟨S2x64x128x128x4, .f32⟩ : BufTy).Contents (Elt F) → (⟨S2x64x128x128x4x1, .f32⟩ : BufTy).Contents (Elt F)) v68
  let v70 : (⟨S2x64x128x128x4x8, .f32⟩ : BufTy).Contents (Elt F) := (broadcastInDim S2x64x128x128x4x8 ![0, 1, 2, 3, 4, 5] bcast_S2x64x128x128x4x1_S2x64x128x128x4x8_0_1_2_3_4_5 : (⟨S2x64x128x128x4x1, .f32⟩ : BufTy).Contents (Elt F) → (⟨S2x64x128x128x4x8, .f32⟩ : BufTy).Contents (Elt F)) v69
  let v71 : (⟨S2x64x128x128x4x8, .f32⟩ : BufTy).Contents (Elt F) := (mulf : (⟨S2x64x128x128x4x8, .f32⟩ : BufTy).Contents (Elt F) → (⟨S2x64x128x128x4x8, .f32⟩ : BufTy).Contents (Elt F) → (⟨S2x64x128x128x4x8, .f32⟩ : BufTy).Contents (Elt F)) v70 v66
  let v72 : (⟨S2x64x4x8x64x128, .f32⟩ : BufTy).Contents (Elt F) := ((fun l r => Host.dotGeneral dot_S2x64x128x4x8x64_S2x64x128x128x4x8_S2x64x4x8x64x128_2_3_5_2_0134_0145 none l r) : (⟨S2x64x128x4x8x64, .f32⟩ : BufTy).Contents (Elt F) → (⟨S2x64x128x128x4x8, .f32⟩ : BufTy).Contents (Elt F) → (⟨S2x64x4x8x64x128, .f32⟩ : BufTy).Contents (Elt F)) v49 v71
  let v73 : (⟨S2x64x128x4x8x64, .f32⟩ : BufTy).Contents (Elt F) := ((transpose S2x64x128x4x8x64 [0, 1, 5, 2, 3, 4] · transposes_S2x64x4x8x64x128_S2x64x128x4x8x64_0_1_5_2_3_4) : (⟨S2x64x4x8x64x128, .f32⟩ : BufTy).Contents (Elt F) → (⟨S2x64x128x4x8x64, .f32⟩ : BufTy).Contents (Elt F)) v72
  v73

theorem w12_v73 (V : Valuation τ sig (Elt F)) : after hostOps0_12 V (Proc.devRef .tc main_v73)
    = h12_v73 (V (Proc.devRef .tc main_v49)) (V (Proc.devRef .tc main_v54)) (V (Proc.devRef .tc main_v55)) (V (Proc.devRef .tc main_v65)) := by
  after_results
  rfl

def h12_v89_0 (v56 : (⟨S2x64x128x4x8, .f32⟩ : BufTy).Contents (Elt F)) (v49 : (⟨S2x64x128x4x8x64, .f32⟩ : BufTy).Contents (Elt F)) (v54 : (⟨S2x64x128x4x128, .f32⟩ : BufTy).Contents (Elt F)) :
    (⟨S64x2x4x8x64x128, .f32⟩ : BufTy).Contents (Elt F) :=
  let v74 : (⟨S2x64x1x4x8, .f32⟩ : BufTy).Contents (Elt F) := ((extractStridedSlice S2x64x1x4x8 ![0, 0, 127, 0, 0] · slices_S2x64x128x4x8_S2x64x1x4x8_0_0_127_0_0) : (⟨S2x64x128x4x8, .f32⟩ : BufTy).Contents (Elt F) → (⟨S2x64x1x4x8, .f32⟩ : BufTy).Contents (Elt F)) v56
  let v75 : (⟨S2x64x128x4x8, .f32⟩ : BufTy).Contents (Elt F) := (broadcastInDim S2x64x128x4x8 ![0, 1, 2, 3, 4] bcast_S2x64x1x4x8_S2x64x128x4x8_0_1_2_3_4 : (⟨S2x64x1x4x8, .f32⟩ : BufTy).Contents (Elt F) → (⟨S2x64x128x4x8, .f32⟩ : BufTy).Contents (Elt F)) v74
  let v76 : (⟨S2x64x128x4x8, .f32⟩ : BufTy).Contents (Elt F) := (subf : (⟨S2x64x128x4x8, .f32⟩ : BufTy).Contents (Elt F) → (⟨S2x64x128x4x8, .f32⟩ : BufTy).Contents (Elt F) → (⟨S2x64x128x4x8, .f32⟩ : BufTy).Contents (Elt F)) v75 v56
  let v77 : (⟨S2x64x128x4x8, .f32⟩ : BufTy).Contents (Elt F) := (Host.exp : (⟨S2x64x128x4x8, .f32⟩ : BufTy).Contents (Elt F) → (⟨S2x64x128x4x8, .f32⟩ : BufTy).Contents (Elt F)) v76
  let v78 : (⟨S2x64x128x4x8x1, .f32⟩ : BufTy).Contents (Elt F) := (broadcastInDim S2x64x128x4x8x1 ![0, 1, 2, 3, 4] bcast_S2x64x128x4x8_S2x64x128x4x8x1_0_1_2_3_4 : (⟨S2x64x128x4x8, .f32⟩ : BufTy).Contents (Elt F) → (⟨S2x64x128x4x8x1, .f32⟩ : BufTy).Contents (Elt F)) v77
  let v79 : (⟨S2x64x128x4x8x64, .f32⟩ : BufTy).Contents (Elt F) := (broadcastInDim S2x64x128x4x8x64 ![0, 1, 2, 3, 4, 5] bcast_S2x64x128x4x8x1_S2x64x128x4x8x64_0_1_2_3_4_5 : (⟨S2x64x128x4x8x1, .f32⟩ : BufTy).Contents (Elt F) → (⟨S2x64x128x4x8x64, .f32⟩ : BufTy).Contents (Elt F)) v78
  let v80 : (⟨S2x64x128x4x8x64, .f32⟩ : BufTy).Contents (Elt F) := (mulf : (⟨S2x64x128x4x8x64, .f32⟩ : BufTy).Contents (Elt F) → (⟨S2x64x128x4x8x64, .f32⟩ : BufTy).Contents (Elt F) → (⟨S2x64x128x4x8x64, .f32⟩ : BufTy).Contents (Elt F)) v79 v49
  let v81 : (⟨S2x64x4x8x64x128, .f32⟩ : BufTy).Contents (Elt F) := ((fun l r => Host.dotGeneral dot_S2x64x128x4x8x64_S2x64x128x4x128_S2x64x4x8x64x128_2_2_45_4_013_013 none l r) : (⟨S2x64x128x4x8x64, .f32⟩ : BufTy).Contents (Elt F) → (⟨S2x64x128x4x128, .f32⟩ : BufTy).Contents (Elt F) → (⟨S2x64x4x8x64x128, .f32⟩ : BufTy).Contents (Elt F)) v80 v54
  let v86 : (⟨S64x2x4x8x64x128, .f32⟩ : BufTy).Contents (Elt F) := ((transpose S64x2x4x8x64x128 [1, 0, 2, 3, 4, 5] · transposes_S2x64x4x8x64x128_S64x2x4x8x64x128_1_0_2_3_4_5) : (⟨S2x64x4x8x64x128, .f32⟩ : BufTy).Contents (Elt F) → (⟨S64x2x4x8x64x128, .f32⟩ : BufTy).Contents (Elt F)) v81
  let v89_0 : (⟨S64x2x4x8x64x128, .f32⟩ : BufTy).Contents (Elt F) := id v86
  v89_0

theorem w12_v89_0 (V : Valuation τ sig (Elt F)) : after hostOps0_12 V (Proc.devRef .tc main_v89_0)
    = h12_v89_0 (V (Proc.devRef .tc main_v56)) (V (Proc.devRef .tc main_v49)) (V (Proc.devRef .tc main_v54)) := by
  after_results
  rfl

def h12_v89_1 (v56 : (⟨S2x64x128x4x8, .f32⟩ : BufTy).Contents (Elt F)) :
    (⟨S64x2x4x8, .f32⟩ : BufTy).Contents (Elt F) :=
  let v82 : (⟨S2x64x1x4x8, .f32⟩ : BufTy).Contents (Elt F) := ((extractStridedSlice S2x64x1x4x8 ![0, 0, 127, 0, 0] · slices_S2x64x128x4x8_S2x64x1x4x8_0_0_127_0_0) : (⟨S2x64x128x4x8, .f32⟩ : BufTy).Contents (Elt F) → (⟨S2x64x1x4x8, .f32⟩ : BufTy).Contents (Elt F)) v56
  let v83 : (⟨S2x64x4x8, .f32⟩ : BufTy).Contents (Elt F) := (shapeCast S2x64x4x8 · shapeCasts_S2x64x1x4x8_S2x64x4x8) v82
  let v84 : (⟨S2x64x4x8, .f32⟩ : BufTy).Contents (Elt F) := (Host.exp : (⟨S2x64x4x8, .f32⟩ : BufTy).Contents (Elt F) → (⟨S2x64x4x8, .f32⟩ : BufTy).Contents (Elt F)) v83
  let v87 : (⟨S64x2x4x8, .f32⟩ : BufTy).Contents (Elt F) := ((transpose S64x2x4x8 [1, 0, 2, 3] · transposes_S2x64x4x8_S64x2x4x8_1_0_2_3) : (⟨S2x64x4x8, .f32⟩ : BufTy).Contents (Elt F) → (⟨S64x2x4x8, .f32⟩ : BufTy).Contents (Elt F)) v84
  let v89_1 : (⟨S64x2x4x8, .f32⟩ : BufTy).Contents (Elt F) := id v87
  v89_1

theorem w12_v89_1 (V : Valuation τ sig (Elt F)) : after hostOps0_12 V (Proc.devRef .tc main_v89_1)
    = h12_v89_1 (V (Proc.devRef .tc main_v56)) := by
  after_results
  rfl

def h12_v89_2  :
    (⟨S_, .i32⟩ : BufTy).Contents (Elt F) :=
  let c_4 : (⟨S_, .i32⟩ : BufTy).Contents (Elt F) := (constantI S_ 32 0#32)
  let v89_2 : (⟨S_, .i32⟩ : BufTy).Contents (Elt F) := id c_4
  v89_2

theorem w12_v89_2 (V : Valuation τ sig (Elt F)) : after hostOps0_12 V (Proc.devRef .tc main_v89_2)
    = h12_v89_2  := by
  after_results
  rfl

def h12_v89_3  :
    (⟨S2x4x8x64x128, .f32⟩ : BufTy).Contents (Elt F) :=
  let cst_2 : (⟨S_, .f32⟩ : BufTy).Contents (Elt F) := (constant S_ .f32 0x00000000#32)
  let v85 : (⟨S2x4x8x64x128, .f32⟩ : BufTy).Contents (Elt F) := (broadcastInDim S2x4x8x64x128 ![] bcast_S_S2x4x8x64x128 : (⟨S_, .f32⟩ : BufTy).Contents (Elt F) → (⟨S2x4x8x64x128, .f32⟩ : BufTy).Contents (Elt F)) cst_2
  let v89_3 : (⟨S2x4x8x64x128, .f32⟩ : BufTy).Contents (Elt F) := id v85
  v89_3

theorem w12_v89_3 (V : Valuation τ sig (Elt F)) : after hostOps0_12 V (Proc.devRef .tc main_v89_3)
    = h12_v89_3  := by
  after_results
  rfl

def h12_v89_4  :
    (⟨S64x2x4x8x64x128, .f32⟩ : BufTy).Contents (Elt F) :=
  let cst_3 : (⟨S_, .f32⟩ : BufTy).Contents (Elt F) := (constant S_ .f32 0x00000000#32)
  let v88 : (⟨S64x2x4x8x64x128, .f32⟩ : BufTy).Contents (Elt F) := (broadcastInDim S64x2x4x8x64x128 ![] bcast_S_S64x2x4x8x64x128 : (⟨S_, .f32⟩ : BufTy).Contents (Elt F) → (⟨S64x2x4x8x64x128, .f32⟩ : BufTy).Contents (Elt F)) cst_3
  let v89_4 : (⟨S64x2x4x8x64x128, .f32⟩ : BufTy).Contents (Elt F) := id v88
  v89_4

theorem w12_v89_4 (V : Valuation τ sig (Elt F)) : after hostOps0_12 V (Proc.devRef .tc main_v89_4)
    = h12_v89_4  := by
  after_results
  rfl

def h13_v104 (v73 : (⟨S2x64x128x4x8x64, .f32⟩ : BufTy).Contents (Elt F)) (v89_4 : (⟨S64x2x4x8x64x128, .f32⟩ : BufTy).Contents (Elt F)) (v55 : (⟨S2x64x128x4x128, .f32⟩ : BufTy).Contents (Elt F)) (v56 : (⟨S2x64x128x4x8, .f32⟩ : BufTy).Contents (Elt F)) (v37 : (⟨S2x8192x32x64, .f32⟩ : BufTy).Contents (Elt F)) (arg7 : (⟨S32, .f32⟩ : BufTy).Contents (Elt F)) :
    (⟨S2x8192x2048, .f32⟩ : BufTy).Contents (Elt F) :=
  let v90 : (⟨S2x64x4x8x64x128, .f32⟩ : BufTy).Contents (Elt F) := ((transpose S2x64x4x8x64x128 [1, 0, 2, 3, 4, 5] · transposes_S64x2x4x8x64x128_S2x64x4x8x64x128_1_0_2_3_4_5) : (⟨S64x2x4x8x64x128, .f32⟩ : BufTy).Contents (Elt F) → (⟨S2x64x4x8x64x128, .f32⟩ : BufTy).Contents (Elt F)) v89_4
  let v91 : (⟨S2x64x4x8x64x128, .f32⟩ : BufTy).Contents (Elt F) := ((fun l r => Host.dotGeneral dot_S2x64x4x8x64x128_S2x64x128x4x128_S2x64x4x8x64x128_5_4_34_2_012_013 none l r) : (⟨S2x64x4x8x64x128, .f32⟩ : BufTy).Contents (Elt F) → (⟨S2x64x128x4x128, .f32⟩ : BufTy).Contents (Elt F) → (⟨S2x64x4x8x64x128, .f32⟩ : BufTy).Contents (Elt F)) v90 v55
  let v92 : (⟨S2x64x128x4x8x64, .f32⟩ : BufTy).Contents (Elt F) := ((transpose S2x64x128x4x8x64 [0, 1, 5, 2, 3, 4] · transposes_S2x64x4x8x64x128_S2x64x128x4x8x64_0_1_5_2_3_4) : (⟨S2x64x4x8x64x128, .f32⟩ : BufTy).Contents (Elt F) → (⟨S2x64x128x4x8x64, .f32⟩ : BufTy).Contents (Elt F)) v91
  let v93 : (⟨S2x64x128x4x8, .f32⟩ : BufTy).Contents (Elt F) := (Host.exp : (⟨S2x64x128x4x8, .f32⟩ : BufTy).Contents (Elt F) → (⟨S2x64x128x4x8, .f32⟩ : BufTy).Contents (Elt F)) v56
  let v94 : (⟨S2x64x128x4x8x1, .f32⟩ : BufTy).Contents (Elt F) := (broadcastInDim S2x64x128x4x8x1 ![0, 1, 2, 3, 4] bcast_S2x64x128x4x8_S2x64x128x4x8x1_0_1_2_3_4 : (⟨S2x64x128x4x8, .f32⟩ : BufTy).Contents (Elt F) → (⟨S2x64x128x4x8x1, .f32⟩ : BufTy).Contents (Elt F)) v93
  let v95 : (⟨S2x64x128x4x8x64, .f32⟩ : BufTy).Contents (Elt F) := (broadcastInDim S2x64x128x4x8x64 ![0, 1, 2, 3, 4, 5] bcast_S2x64x128x4x8x1_S2x64x128x4x8x64_0_1_2_3_4_5 : (⟨S2x64x128x4x8x1, .f32⟩ : BufTy).Contents (Elt F) → (⟨S2x64x128x4x8x64, .f32⟩ : BufTy).Contents (Elt F)) v94
  let v96 : (⟨S2x64x128x4x8x64, .f32⟩ : BufTy).Contents (Elt F) := (mulf : (⟨S2x64x128x4x8x64, .f32⟩ : BufTy).Contents (Elt F) → (⟨S2x64x128x4x8x64, .f32⟩ : BufTy).Contents (Elt F) → (⟨S2x64x128x4x8x64, .f32⟩ : BufTy).Contents (Elt F)) v92 v95
  let v97 : (⟨S2x64x128x4x8x64, .f32⟩ : BufTy).Contents (Elt F) := (addf : (⟨S2x64x128x4x8x64, .f32⟩ : BufTy).Contents (Elt F) → (⟨S2x64x128x4x8x64, .f32⟩ : BufTy).Contents (Elt F) → (⟨S2x64x128x4x8x64, .f32⟩ : BufTy).Contents (Elt F)) v73 v96
  let v98 : (⟨S2x8192x32x64, .f32⟩ : BufTy).Contents (Elt F) := (shapeCast S2x8192x32x64 · shapeCasts_S2x64x128x4x8x64_S2x8192x32x64) v97
  let v99 : (⟨S32x1, .f32⟩ : BufTy).Contents (Elt F) := (broadcastInDim S32x1 ![0] bcast_S32_S32x1_0 : (⟨S32, .f32⟩ : BufTy).Contents (Elt F) → (⟨S32x1, .f32⟩ : BufTy).Contents (Elt F)) arg7
  let v100 : (⟨S1x1x32x1, .f32⟩ : BufTy).Contents (Elt F) := (broadcastInDim S1x1x32x1 ![2, 3] bcast_S32x1_S1x1x32x1_2_3 : (⟨S32x1, .f32⟩ : BufTy).Contents (Elt F) → (⟨S1x1x32x1, .f32⟩ : BufTy).Contents (Elt F)) v99
  let v101 : (⟨S2x8192x32x64, .f32⟩ : BufTy).Contents (Elt F) := (broadcastInDim S2x8192x32x64 ![0, 1, 2, 3] bcast_S1x1x32x1_S2x8192x32x64_0_1_2_3 : (⟨S1x1x32x1, .f32⟩ : BufTy).Contents (Elt F) → (⟨S2x8192x32x64, .f32⟩ : BufTy).Contents (Elt F)) v100
  let v102 : (⟨S2x8192x32x64, .f32⟩ : BufTy).Contents (Elt F) := (mulf : (⟨S2x8192x32x64, .f32⟩ : BufTy).Contents (Elt F) → (⟨S2x8192x32x64, .f32⟩ : BufTy).Contents (Elt F) → (⟨S2x8192x32x64, .f32⟩ : BufTy).Contents (Elt F)) v37 v101
  let v103 : (⟨S2x8192x32x64, .f32⟩ : BufTy).Contents (Elt F) := (addf : (⟨S2x8192x32x64, .f32⟩ : BufTy).Contents (Elt F) → (⟨S2x8192x32x64, .f32⟩ : BufTy).Contents (Elt F) → (⟨S2x8192x32x64, .f32⟩ : BufTy).Contents (Elt F)) v98 v102
  let v104 : (⟨S2x8192x2048, .f32⟩ : BufTy).Contents (Elt F) := (shapeCast S2x8192x2048 · shapeCasts_S2x8192x32x64_S2x8192x2048) v103
  v104

theorem w13_v104 (V : Valuation τ sig (Elt F)) : after hostOps0_13 V (Proc.devRef .tc main_v104)
    = h13_v104 (V (Proc.devRef .tc main_v73)) (V (Proc.devRef .tc main_v89_4)) (V (Proc.devRef .tc main_v55)) (V (Proc.devRef .tc main_v56)) (V (Proc.devRef .tc main_v37)) (V (Proc.devRef .tc main_arg7)) := by
  after_results
  rfl

def h14_v105 (arg0 : (⟨S2x8192x2048, .f32⟩ : BufTy).Contents (Elt F)) :
    (⟨S2x8192x2048, .f32⟩ : BufTy).Contents (Elt F) :=
  let call9_v0 : (⟨S2x8192x2048, .f32⟩ : BufTy).Contents (Elt F) := Host.negf arg0
  let call9_v1 : (⟨S2x8192x2048, .f32⟩ : BufTy).Contents (Elt F) := Host.exp call9_v0
  let call9_cst : (⟨S_, .f32⟩ : BufTy).Contents (Elt F) := (constant S_ .f32 0x3F800000#32)
  let call9_v2 : (⟨S2x8192x2048, .f32⟩ : BufTy).Contents (Elt F) := (broadcastInDim S2x8192x2048 ![] bcast_S_S2x8192x2048) call9_cst
  let call9_v3 : (⟨S2x8192x2048, .f32⟩ : BufTy).Contents (Elt F) := addf call9_v2 call9_v1
  let call9_cst_0 : (⟨S_, .f32⟩ : BufTy).Contents (Elt F) := (constant S_ .f32 0x3F800000#32)
  let call9_v4 : (⟨S2x8192x2048, .f32⟩ : BufTy).Contents (Elt F) := (broadcastInDim S2x8192x2048 ![] bcast_S_S2x8192x2048) call9_cst_0
  let call9_v5 : (⟨S2x8192x2048, .f32⟩ : BufTy).Contents (Elt F) := Host.divf call9_v4 call9_v3
  let v105 : (⟨S2x8192x2048, .f32⟩ : BufTy).Contents (Elt F) := mulf arg0 call9_v5
  v105

theorem w14_v105 (V : Valuation τ sig (Elt F)) : after hostOps0_14 V (Proc.devRef .tc main_v105)
    = h14_v105 (V (Proc.devRef .tc main_arg0)) := by
  after_results
  rfl

def h15_v120 (v104 : (⟨S2x8192x2048, .f32⟩ : BufTy).Contents (Elt F)) (v105 : (⟨S2x8192x2048, .f32⟩ : BufTy).Contents (Elt F)) (arg8 : (⟨S2048, .f32⟩ : BufTy).Contents (Elt F)) :
    (⟨S16384x2048, .f32⟩ : BufTy).Contents (Elt F) :=
  let v106 : (⟨S2x8192x2048, .f32⟩ : BufTy).Contents (Elt F) := (mulf : (⟨S2x8192x2048, .f32⟩ : BufTy).Contents (Elt F) → (⟨S2x8192x2048, .f32⟩ : BufTy).Contents (Elt F) → (⟨S2x8192x2048, .f32⟩ : BufTy).Contents (Elt F)) v104 v105
  let v107 : (⟨S2x8192x2048, .f32⟩ : BufTy).Contents (Elt F) := (mulf : (⟨S2x8192x2048, .f32⟩ : BufTy).Contents (Elt F) → (⟨S2x8192x2048, .f32⟩ : BufTy).Contents (Elt F) → (⟨S2x8192x2048, .f32⟩ : BufTy).Contents (Elt F)) v106 v106
  let cst_5 : (⟨S_, .f32⟩ : BufTy).Contents (Elt F) := (constant S_ .f32 0x00000000#32)
  let v108 : (⟨S2x8192, .f32⟩ : BufTy).Contents (Elt F) := ((fun x v => Host.reduceAdd x v reducesTo_S2x8192x2048_S2x8192_d2 h_S_) : (⟨S2x8192x2048, .f32⟩ : BufTy).Contents (Elt F) → (⟨S_, .f32⟩ : BufTy).Contents (Elt F) → (⟨S2x8192, .f32⟩ : BufTy).Contents (Elt F)) v107 cst_5
  let v109 : (⟨S2x8192x1, .f32⟩ : BufTy).Contents (Elt F) := (broadcastInDim S2x8192x1 ![0, 1] bcast_S2x8192_S2x8192x1_0_1 : (⟨S2x8192, .f32⟩ : BufTy).Contents (Elt F) → (⟨S2x8192x1, .f32⟩ : BufTy).Contents (Elt F)) v108
  let cst_6 : (⟨S_, .f32⟩ : BufTy).Contents (Elt F) := (constant S_ .f32 0x45000000#32)
  let v110 : (⟨S2x8192x1, .f32⟩ : BufTy).Contents (Elt F) := (broadcastInDim S2x8192x1 ![] bcast_S_S2x8192x1 : (⟨S_, .f32⟩ : BufTy).Contents (Elt F) → (⟨S2x8192x1, .f32⟩ : BufTy).Contents (Elt F)) cst_6
  let v111 : (⟨S2x8192x1, .f32⟩ : BufTy).Contents (Elt F) := (Host.divf : (⟨S2x8192x1, .f32⟩ : BufTy).Contents (Elt F) → (⟨S2x8192x1, .f32⟩ : BufTy).Contents (Elt F) → (⟨S2x8192x1, .f32⟩ : BufTy).Contents (Elt F)) v109 v110
  let cst_7 : (⟨S_, .f32⟩ : BufTy).Contents (Elt F) := (constant S_ .f32 0x358637BD#32)
  let v112 : (⟨S2x8192x1, .f32⟩ : BufTy).Contents (Elt F) := (broadcastInDim S2x8192x1 ![] bcast_S_S2x8192x1 : (⟨S_, .f32⟩ : BufTy).Contents (Elt F) → (⟨S2x8192x1, .f32⟩ : BufTy).Contents (Elt F)) cst_7
  let v113 : (⟨S2x8192x1, .f32⟩ : BufTy).Contents (Elt F) := (addf : (⟨S2x8192x1, .f32⟩ : BufTy).Contents (Elt F) → (⟨S2x8192x1, .f32⟩ : BufTy).Contents (Elt F) → (⟨S2x8192x1, .f32⟩ : BufTy).Contents (Elt F)) v111 v112
  let v114 : (⟨S2x8192x1, .f32⟩ : BufTy).Contents (Elt F) := (Host.rsqrt : (⟨S2x8192x1, .f32⟩ : BufTy).Contents (Elt F) → (⟨S2x8192x1, .f32⟩ : BufTy).Contents (Elt F)) v113
  let v115 : (⟨S2x8192x2048, .f32⟩ : BufTy).Contents (Elt F) := (broadcastInDim S2x8192x2048 ![0, 1, 2] bcast_S2x8192x1_S2x8192x2048_0_1_2 : (⟨S2x8192x1, .f32⟩ : BufTy).Contents (Elt F) → (⟨S2x8192x2048, .f32⟩ : BufTy).Contents (Elt F)) v114
  let v116 : (⟨S2x8192x2048, .f32⟩ : BufTy).Contents (Elt F) := (mulf : (⟨S2x8192x2048, .f32⟩ : BufTy).Contents (Elt F) → (⟨S2x8192x2048, .f32⟩ : BufTy).Contents (Elt F) → (⟨S2x8192x2048, .f32⟩ : BufTy).Contents (Elt F)) v106 v115
  let v117 : (⟨S1x1x2048, .f32⟩ : BufTy).Contents (Elt F) := (broadcastInDim S1x1x2048 ![2] bcast_S2048_S1x1x2048_2 : (⟨S2048, .f32⟩ : BufTy).Contents (Elt F) → (⟨S1x1x2048, .f32⟩ : BufTy).Contents (Elt F)) arg8
  let v118 : (⟨S2x8192x2048, .f32⟩ : BufTy).Contents (Elt F) := (broadcastInDim S2x8192x2048 ![0, 1, 2] bcast_S1x1x2048_S2x8192x2048_0_1_2 : (⟨S1x1x2048, .f32⟩ : BufTy).Contents (Elt F) → (⟨S2x8192x2048, .f32⟩ : BufTy).Contents (Elt F)) v117
  let v119 : (⟨S2x8192x2048, .f32⟩ : BufTy).Contents (Elt F) := (mulf : (⟨S2x8192x2048, .f32⟩ : BufTy).Contents (Elt F) → (⟨S2x8192x2048, .f32⟩ : BufTy).Contents (Elt F) → (⟨S2x8192x2048, .f32⟩ : BufTy).Contents (Elt F)) v116 v118
  let v120 : (⟨S16384x2048, .f32⟩ : BufTy).Contents (Elt F) := (shapeCast S16384x2048 · shapeCasts_S2x8192x2048_S16384x2048) v119
  v120

theorem w15_v120 (V : Valuation τ sig (Elt F)) : after hostOps0_15 V (Proc.devRef .tc main_v120)
    = h15_v120 (V (Proc.devRef .tc main_v104)) (V (Proc.devRef .tc main_v105)) (V (Proc.devRef .tc main_arg8)) := by
  after_results
  rfl

end Cert.ReferenceIdeal.Value
-- ==== Proof.RefEntry.lean ====
/-
  The contents at the loop's entry, read back to the arguments through the stretches.
-/
module

public import proofs.«01_k».proof.Proof.Gen.ReferenceIdeal.Run
public import proofs.«01_k».proof.Proof.RefWindows

@[expose] public section

set_option maxRecDepth 10000

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

variable {F : FTy → Type} [FloatOps F]

/-- The contents after the first stretches. -/
def E0 (V : Valuation τ sig (Elt F)) : Valuation τ sig (Elt F) := V
def E1 (V : Valuation τ sig (Elt F)) : Valuation τ sig (Elt F) := after hostOps0 (E0 V)
def E2 (V : Valuation τ sig (Elt F)) : Valuation τ sig (Elt F) := after hostOps0_1 (E1 V)
def E3 (V : Valuation τ sig (Elt F)) : Valuation τ sig (Elt F) := after hostOps0_2 (E2 V)
def E4 (V : Valuation τ sig (Elt F)) : Valuation τ sig (Elt F) := after hostOps0_3 (E3 V)
def E5 (V : Valuation τ sig (Elt F)) : Valuation τ sig (Elt F) := after hostOps0_4 (E4 V)
def E6 (V : Valuation τ sig (Elt F)) : Valuation τ sig (Elt F) := after hostOps0_5 (E5 V)
def E7 (V : Valuation τ sig (Elt F)) : Valuation τ sig (Elt F) := after hostOps0_6 (E6 V)
def E8 (V : Valuation τ sig (Elt F)) : Valuation τ sig (Elt F) := after hostOps0_7 (E7 V)
def E9 (V : Valuation τ sig (Elt F)) : Valuation τ sig (Elt F) := after hostOps0_8 (E8 V)
def E10 (V : Valuation τ sig (Elt F)) : Valuation τ sig (Elt F) := after hostOps0_9 (E9 V)
def E11 (V : Valuation τ sig (Elt F)) : Valuation τ sig (Elt F) := after hostOps0_10 (E10 V)
def E12 (V : Valuation τ sig (Elt F)) : Valuation τ sig (Elt F) := after hostOps0_11 (E11 V)
def E13 (V : Valuation τ sig (Elt F)) : Valuation τ sig (Elt F) := after hostOps0_12 (E12 V)
theorem E13_eq (V : Valuation τ sig (Elt F)) : afterL preI V = E13 V := rfl

theorem E1_keep (V : Valuation τ sig (Elt F)) (r : Ref sig .tc) (h : r ∉ hostOps0_W) : E1 V (Proc.devRef .tc r) = E0 V (Proc.devRef .tc r) :=
  after_of_writes_sub hostOps0 _ hostOps0_writes h
theorem E2_keep (V : Valuation τ sig (Elt F)) (r : Ref sig .tc) (h : r ∉ hostOps0_1_W) : E2 V (Proc.devRef .tc r) = E1 V (Proc.devRef .tc r) :=
  after_of_writes_sub hostOps0_1 _ hostOps0_1_writes h
theorem E3_keep (V : Valuation τ sig (Elt F)) (r : Ref sig .tc) (h : r ∉ hostOps0_2_W) : E3 V (Proc.devRef .tc r) = E2 V (Proc.devRef .tc r) :=
  after_of_writes_sub hostOps0_2 _ hostOps0_2_writes h
theorem E4_keep (V : Valuation τ sig (Elt F)) (r : Ref sig .tc) (h : r ∉ hostOps0_3_W) : E4 V (Proc.devRef .tc r) = E3 V (Proc.devRef .tc r) :=
  after_of_writes_sub hostOps0_3 _ hostOps0_3_writes h
theorem E5_keep (V : Valuation τ sig (Elt F)) (r : Ref sig .tc) (h : r ∉ hostOps0_4_W) : E5 V (Proc.devRef .tc r) = E4 V (Proc.devRef .tc r) :=
  after_of_writes_sub hostOps0_4 _ hostOps0_4_writes h
theorem E6_keep (V : Valuation τ sig (Elt F)) (r : Ref sig .tc) (h : r ∉ hostOps0_5_W) : E6 V (Proc.devRef .tc r) = E5 V (Proc.devRef .tc r) :=
  after_of_writes_sub hostOps0_5 _ hostOps0_5_writes h
theorem E7_keep (V : Valuation τ sig (Elt F)) (r : Ref sig .tc) (h : r ∉ hostOps0_6_W) : E7 V (Proc.devRef .tc r) = E6 V (Proc.devRef .tc r) :=
  after_of_writes_sub hostOps0_6 _ hostOps0_6_writes h
theorem E8_keep (V : Valuation τ sig (Elt F)) (r : Ref sig .tc) (h : r ∉ hostOps0_7_W) : E8 V (Proc.devRef .tc r) = E7 V (Proc.devRef .tc r) :=
  after_of_writes_sub hostOps0_7 _ hostOps0_7_writes h
theorem E9_keep (V : Valuation τ sig (Elt F)) (r : Ref sig .tc) (h : r ∉ hostOps0_8_W) : E9 V (Proc.devRef .tc r) = E8 V (Proc.devRef .tc r) :=
  after_of_writes_sub hostOps0_8 _ hostOps0_8_writes h
theorem E10_keep (V : Valuation τ sig (Elt F)) (r : Ref sig .tc) (h : r ∉ hostOps0_9_W) : E10 V (Proc.devRef .tc r) = E9 V (Proc.devRef .tc r) :=
  after_of_writes_sub hostOps0_9 _ hostOps0_9_writes h
theorem E11_keep (V : Valuation τ sig (Elt F)) (r : Ref sig .tc) (h : r ∉ hostOps0_10_W) : E11 V (Proc.devRef .tc r) = E10 V (Proc.devRef .tc r) :=
  after_of_writes_sub hostOps0_10 _ hostOps0_10_writes h
theorem E12_keep (V : Valuation τ sig (Elt F)) (r : Ref sig .tc) (h : r ∉ hostOps0_11_W) : E12 V (Proc.devRef .tc r) = E11 V (Proc.devRef .tc r) :=
  after_of_writes_sub hostOps0_11 _ hostOps0_11_writes h
theorem E13_keep (V : Valuation τ sig (Elt F)) (r : Ref sig .tc) (h : r ∉ hostOps0_12_W) : E13 V (Proc.devRef .tc r) = E12 V (Proc.devRef .tc r) :=
  after_of_writes_sub hostOps0_12 _ hostOps0_12_writes h
theorem E0_arg1 (V : Valuation τ sig (Elt F)) : E0 V (Proc.devRef .tc main_arg1) = V (Proc.devRef .tc main_arg1) := rfl
theorem E1_arg1 (V : Valuation τ sig (Elt F)) : E1 V (Proc.devRef .tc main_arg1) = V (Proc.devRef .tc main_arg1) := (E1_keep V main_arg1 (by decide)).trans (E0_arg1 V)
theorem E0_arg3 (V : Valuation τ sig (Elt F)) : E0 V (Proc.devRef .tc main_arg3) = V (Proc.devRef .tc main_arg3) := rfl
theorem E1_arg3 (V : Valuation τ sig (Elt F)) : E1 V (Proc.devRef .tc main_arg3) = V (Proc.devRef .tc main_arg3) := (E1_keep V main_arg3 (by decide)).trans (E0_arg3 V)
theorem E2_arg3 (V : Valuation τ sig (Elt F)) : E2 V (Proc.devRef .tc main_arg3) = V (Proc.devRef .tc main_arg3) := (E2_keep V main_arg3 (by decide)).trans (E1_arg3 V)
theorem E0_arg4 (V : Valuation τ sig (Elt F)) : E0 V (Proc.devRef .tc main_arg4) = V (Proc.devRef .tc main_arg4) := rfl
theorem E1_arg4 (V : Valuation τ sig (Elt F)) : E1 V (Proc.devRef .tc main_arg4) = V (Proc.devRef .tc main_arg4) := (E1_keep V main_arg4 (by decide)).trans (E0_arg4 V)
theorem E2_arg4 (V : Valuation τ sig (Elt F)) : E2 V (Proc.devRef .tc main_arg4) = V (Proc.devRef .tc main_arg4) := (E2_keep V main_arg4 (by decide)).trans (E1_arg4 V)
theorem E0_arg2 (V : Valuation τ sig (Elt F)) : E0 V (Proc.devRef .tc main_arg2) = V (Proc.devRef .tc main_arg2) := rfl
theorem E1_arg2 (V : Valuation τ sig (Elt F)) : E1 V (Proc.devRef .tc main_arg2) = V (Proc.devRef .tc main_arg2) := (E1_keep V main_arg2 (by decide)).trans (E0_arg2 V)
theorem E2_arg2 (V : Valuation τ sig (Elt F)) : E2 V (Proc.devRef .tc main_arg2) = V (Proc.devRef .tc main_arg2) := (E2_keep V main_arg2 (by decide)).trans (E1_arg2 V)
theorem E3_arg2 (V : Valuation τ sig (Elt F)) : E3 V (Proc.devRef .tc main_arg2) = V (Proc.devRef .tc main_arg2) := (E3_keep V main_arg2 (by decide)).trans (E2_arg2 V)
theorem E4_arg2 (V : Valuation τ sig (Elt F)) : E4 V (Proc.devRef .tc main_arg2) = V (Proc.devRef .tc main_arg2) := (E4_keep V main_arg2 (by decide)).trans (E3_arg2 V)
theorem E0_arg5 (V : Valuation τ sig (Elt F)) : E0 V (Proc.devRef .tc main_arg5) = V (Proc.devRef .tc main_arg5) := rfl
theorem E1_arg5 (V : Valuation τ sig (Elt F)) : E1 V (Proc.devRef .tc main_arg5) = V (Proc.devRef .tc main_arg5) := (E1_keep V main_arg5 (by decide)).trans (E0_arg5 V)
theorem E2_arg5 (V : Valuation τ sig (Elt F)) : E2 V (Proc.devRef .tc main_arg5) = V (Proc.devRef .tc main_arg5) := (E2_keep V main_arg5 (by decide)).trans (E1_arg5 V)
theorem E3_arg5 (V : Valuation τ sig (Elt F)) : E3 V (Proc.devRef .tc main_arg5) = V (Proc.devRef .tc main_arg5) := (E3_keep V main_arg5 (by decide)).trans (E2_arg5 V)
theorem E4_arg5 (V : Valuation τ sig (Elt F)) : E4 V (Proc.devRef .tc main_arg5) = V (Proc.devRef .tc main_arg5) := (E4_keep V main_arg5 (by decide)).trans (E3_arg5 V)
theorem E0_arg6 (V : Valuation τ sig (Elt F)) : E0 V (Proc.devRef .tc main_arg6) = V (Proc.devRef .tc main_arg6) := rfl
theorem E1_arg6 (V : Valuation τ sig (Elt F)) : E1 V (Proc.devRef .tc main_arg6) = V (Proc.devRef .tc main_arg6) := (E1_keep V main_arg6 (by decide)).trans (E0_arg6 V)
theorem E2_arg6 (V : Valuation τ sig (Elt F)) : E2 V (Proc.devRef .tc main_arg6) = V (Proc.devRef .tc main_arg6) := (E2_keep V main_arg6 (by decide)).trans (E1_arg6 V)
theorem E3_arg6 (V : Valuation τ sig (Elt F)) : E3 V (Proc.devRef .tc main_arg6) = V (Proc.devRef .tc main_arg6) := (E3_keep V main_arg6 (by decide)).trans (E2_arg6 V)
theorem E4_arg6 (V : Valuation τ sig (Elt F)) : E4 V (Proc.devRef .tc main_arg6) = V (Proc.devRef .tc main_arg6) := (E4_keep V main_arg6 (by decide)).trans (E3_arg6 V)
theorem E5_arg6 (V : Valuation τ sig (Elt F)) : E5 V (Proc.devRef .tc main_arg6) = V (Proc.devRef .tc main_arg6) := (E5_keep V main_arg6 (by decide)).trans (E4_arg6 V)
theorem E6_arg6 (V : Valuation τ sig (Elt F)) : E6 V (Proc.devRef .tc main_arg6) = V (Proc.devRef .tc main_arg6) := (E6_keep V main_arg6 (by decide)).trans (E5_arg6 V)
theorem E0_arg7 (V : Valuation τ sig (Elt F)) : E0 V (Proc.devRef .tc main_arg7) = V (Proc.devRef .tc main_arg7) := rfl
theorem E1_arg7 (V : Valuation τ sig (Elt F)) : E1 V (Proc.devRef .tc main_arg7) = V (Proc.devRef .tc main_arg7) := (E1_keep V main_arg7 (by decide)).trans (E0_arg7 V)
theorem E2_arg7 (V : Valuation τ sig (Elt F)) : E2 V (Proc.devRef .tc main_arg7) = V (Proc.devRef .tc main_arg7) := (E2_keep V main_arg7 (by decide)).trans (E1_arg7 V)
theorem E3_arg7 (V : Valuation τ sig (Elt F)) : E3 V (Proc.devRef .tc main_arg7) = V (Proc.devRef .tc main_arg7) := (E3_keep V main_arg7 (by decide)).trans (E2_arg7 V)
theorem E4_arg7 (V : Valuation τ sig (Elt F)) : E4 V (Proc.devRef .tc main_arg7) = V (Proc.devRef .tc main_arg7) := (E4_keep V main_arg7 (by decide)).trans (E3_arg7 V)
theorem E5_arg7 (V : Valuation τ sig (Elt F)) : E5 V (Proc.devRef .tc main_arg7) = V (Proc.devRef .tc main_arg7) := (E5_keep V main_arg7 (by decide)).trans (E4_arg7 V)
theorem E6_arg7 (V : Valuation τ sig (Elt F)) : E6 V (Proc.devRef .tc main_arg7) = V (Proc.devRef .tc main_arg7) := (E6_keep V main_arg7 (by decide)).trans (E5_arg7 V)
theorem E7_arg7 (V : Valuation τ sig (Elt F)) : E7 V (Proc.devRef .tc main_arg7) = V (Proc.devRef .tc main_arg7) := (E7_keep V main_arg7 (by decide)).trans (E6_arg7 V)
theorem E8_arg7 (V : Valuation τ sig (Elt F)) : E8 V (Proc.devRef .tc main_arg7) = V (Proc.devRef .tc main_arg7) := (E8_keep V main_arg7 (by decide)).trans (E7_arg7 V)
theorem E9_arg7 (V : Valuation τ sig (Elt F)) : E9 V (Proc.devRef .tc main_arg7) = V (Proc.devRef .tc main_arg7) := (E9_keep V main_arg7 (by decide)).trans (E8_arg7 V)
theorem E10_arg7 (V : Valuation τ sig (Elt F)) : E10 V (Proc.devRef .tc main_arg7) = V (Proc.devRef .tc main_arg7) := (E10_keep V main_arg7 (by decide)).trans (E9_arg7 V)
theorem E11_arg7 (V : Valuation τ sig (Elt F)) : E11 V (Proc.devRef .tc main_arg7) = V (Proc.devRef .tc main_arg7) := (E11_keep V main_arg7 (by decide)).trans (E10_arg7 V)
theorem E12_arg7 (V : Valuation τ sig (Elt F)) : E12 V (Proc.devRef .tc main_arg7) = V (Proc.devRef .tc main_arg7) := (E12_keep V main_arg7 (by decide)).trans (E11_arg7 V)
theorem E13_arg7 (V : Valuation τ sig (Elt F)) : E13 V (Proc.devRef .tc main_arg7) = V (Proc.devRef .tc main_arg7) := (E13_keep V main_arg7 (by decide)).trans (E12_arg7 V)
theorem E0_arg0 (V : Valuation τ sig (Elt F)) : E0 V (Proc.devRef .tc main_arg0) = V (Proc.devRef .tc main_arg0) := rfl
theorem E1_arg0 (V : Valuation τ sig (Elt F)) : E1 V (Proc.devRef .tc main_arg0) = V (Proc.devRef .tc main_arg0) := (E1_keep V main_arg0 (by decide)).trans (E0_arg0 V)
theorem E2_arg0 (V : Valuation τ sig (Elt F)) : E2 V (Proc.devRef .tc main_arg0) = V (Proc.devRef .tc main_arg0) := (E2_keep V main_arg0 (by decide)).trans (E1_arg0 V)
theorem E3_arg0 (V : Valuation τ sig (Elt F)) : E3 V (Proc.devRef .tc main_arg0) = V (Proc.devRef .tc main_arg0) := (E3_keep V main_arg0 (by decide)).trans (E2_arg0 V)
theorem E4_arg0 (V : Valuation τ sig (Elt F)) : E4 V (Proc.devRef .tc main_arg0) = V (Proc.devRef .tc main_arg0) := (E4_keep V main_arg0 (by decide)).trans (E3_arg0 V)
theorem E5_arg0 (V : Valuation τ sig (Elt F)) : E5 V (Proc.devRef .tc main_arg0) = V (Proc.devRef .tc main_arg0) := (E5_keep V main_arg0 (by decide)).trans (E4_arg0 V)
theorem E6_arg0 (V : Valuation τ sig (Elt F)) : E6 V (Proc.devRef .tc main_arg0) = V (Proc.devRef .tc main_arg0) := (E6_keep V main_arg0 (by decide)).trans (E5_arg0 V)
theorem E7_arg0 (V : Valuation τ sig (Elt F)) : E7 V (Proc.devRef .tc main_arg0) = V (Proc.devRef .tc main_arg0) := (E7_keep V main_arg0 (by decide)).trans (E6_arg0 V)
theorem E8_arg0 (V : Valuation τ sig (Elt F)) : E8 V (Proc.devRef .tc main_arg0) = V (Proc.devRef .tc main_arg0) := (E8_keep V main_arg0 (by decide)).trans (E7_arg0 V)
theorem E9_arg0 (V : Valuation τ sig (Elt F)) : E9 V (Proc.devRef .tc main_arg0) = V (Proc.devRef .tc main_arg0) := (E9_keep V main_arg0 (by decide)).trans (E8_arg0 V)
theorem E10_arg0 (V : Valuation τ sig (Elt F)) : E10 V (Proc.devRef .tc main_arg0) = V (Proc.devRef .tc main_arg0) := (E10_keep V main_arg0 (by decide)).trans (E9_arg0 V)
theorem E11_arg0 (V : Valuation τ sig (Elt F)) : E11 V (Proc.devRef .tc main_arg0) = V (Proc.devRef .tc main_arg0) := (E11_keep V main_arg0 (by decide)).trans (E10_arg0 V)
theorem E12_arg0 (V : Valuation τ sig (Elt F)) : E12 V (Proc.devRef .tc main_arg0) = V (Proc.devRef .tc main_arg0) := (E12_keep V main_arg0 (by decide)).trans (E11_arg0 V)
theorem E13_arg0 (V : Valuation τ sig (Elt F)) : E13 V (Proc.devRef .tc main_arg0) = V (Proc.devRef .tc main_arg0) := (E13_keep V main_arg0 (by decide)).trans (E12_arg0 V)
theorem E0_arg8 (V : Valuation τ sig (Elt F)) : E0 V (Proc.devRef .tc main_arg8) = V (Proc.devRef .tc main_arg8) := rfl
theorem E1_arg8 (V : Valuation τ sig (Elt F)) : E1 V (Proc.devRef .tc main_arg8) = V (Proc.devRef .tc main_arg8) := (E1_keep V main_arg8 (by decide)).trans (E0_arg8 V)
theorem E2_arg8 (V : Valuation τ sig (Elt F)) : E2 V (Proc.devRef .tc main_arg8) = V (Proc.devRef .tc main_arg8) := (E2_keep V main_arg8 (by decide)).trans (E1_arg8 V)
theorem E3_arg8 (V : Valuation τ sig (Elt F)) : E3 V (Proc.devRef .tc main_arg8) = V (Proc.devRef .tc main_arg8) := (E3_keep V main_arg8 (by decide)).trans (E2_arg8 V)
theorem E4_arg8 (V : Valuation τ sig (Elt F)) : E4 V (Proc.devRef .tc main_arg8) = V (Proc.devRef .tc main_arg8) := (E4_keep V main_arg8 (by decide)).trans (E3_arg8 V)
theorem E5_arg8 (V : Valuation τ sig (Elt F)) : E5 V (Proc.devRef .tc main_arg8) = V (Proc.devRef .tc main_arg8) := (E5_keep V main_arg8 (by decide)).trans (E4_arg8 V)
theorem E6_arg8 (V : Valuation τ sig (Elt F)) : E6 V (Proc.devRef .tc main_arg8) = V (Proc.devRef .tc main_arg8) := (E6_keep V main_arg8 (by decide)).trans (E5_arg8 V)
theorem E7_arg8 (V : Valuation τ sig (Elt F)) : E7 V (Proc.devRef .tc main_arg8) = V (Proc.devRef .tc main_arg8) := (E7_keep V main_arg8 (by decide)).trans (E6_arg8 V)
theorem E8_arg8 (V : Valuation τ sig (Elt F)) : E8 V (Proc.devRef .tc main_arg8) = V (Proc.devRef .tc main_arg8) := (E8_keep V main_arg8 (by decide)).trans (E7_arg8 V)
theorem E9_arg8 (V : Valuation τ sig (Elt F)) : E9 V (Proc.devRef .tc main_arg8) = V (Proc.devRef .tc main_arg8) := (E9_keep V main_arg8 (by decide)).trans (E8_arg8 V)
theorem E10_arg8 (V : Valuation τ sig (Elt F)) : E10 V (Proc.devRef .tc main_arg8) = V (Proc.devRef .tc main_arg8) := (E10_keep V main_arg8 (by decide)).trans (E9_arg8 V)
theorem E11_arg8 (V : Valuation τ sig (Elt F)) : E11 V (Proc.devRef .tc main_arg8) = V (Proc.devRef .tc main_arg8) := (E11_keep V main_arg8 (by decide)).trans (E10_arg8 V)
theorem E12_arg8 (V : Valuation τ sig (Elt F)) : E12 V (Proc.devRef .tc main_arg8) = V (Proc.devRef .tc main_arg8) := (E12_keep V main_arg8 (by decide)).trans (E11_arg8 V)
theorem E13_arg8 (V : Valuation τ sig (Elt F)) : E13 V (Proc.devRef .tc main_arg8) = V (Proc.devRef .tc main_arg8) := (E13_keep V main_arg8 (by decide)).trans (E12_arg8 V)
def R_c (V : Valuation τ sig (Elt F)) : (⟨S_, .i32⟩ : BufTy).Contents (Elt F) := h0_c
theorem E1_c (V : Valuation τ sig (Elt F)) : E1 V (Proc.devRef .tc main_c) = R_c V := by
  rw [E1, w0_c]; rfl
def R_v0 (V : Valuation τ sig (Elt F)) : (⟨S2x8195x3072, .f32⟩ : BufTy).Contents (Elt F) := h1_v0 (V (Proc.devRef .tc main_arg1)) (R_c V)
theorem E2_v0 (V : Valuation τ sig (Elt F)) : E2 V (Proc.devRef .tc main_v0) = R_v0 V := by
  rw [E2, w1_v0, E1_arg1, E1_c]; rfl
def R_v32 (V : Valuation τ sig (Elt F)) : (⟨S2x8192x3072, .f32⟩ : BufTy).Contents (Elt F) := h2_v32 (R_v0 V) (V (Proc.devRef .tc main_arg3)) (V (Proc.devRef .tc main_arg4))
theorem E3_v32 (V : Valuation τ sig (Elt F)) : E3 V (Proc.devRef .tc main_v32) = R_v32 V := by
  rw [E3, w2_v32, E2_v0, E2_arg3, E2_arg4]; rfl
def R_v33 (V : Valuation τ sig (Elt F)) : (⟨S2x8192x3072, .f32⟩ : BufTy).Contents (Elt F) := h3_v33 (R_v32 V)
theorem E4_v33 (V : Valuation τ sig (Elt F)) : E4 V (Proc.devRef .tc main_v33) = R_v33 V := by
  rw [E4, w3_v33, E3_v32]; rfl
def R_v37 (V : Valuation τ sig (Elt F)) : (⟨S2x8192x32x64, .f32⟩ : BufTy).Contents (Elt F) := h4_v37 (R_v33 V)
theorem E5_v37 (V : Valuation τ sig (Elt F)) : E5 V (Proc.devRef .tc main_v37) = R_v37 V := by
  rw [E5, w4_v37, E4_v33]; rfl
theorem E6_v37 (V : Valuation τ sig (Elt F)) : E6 V (Proc.devRef .tc main_v37) = R_v37 V := (E6_keep V main_v37 (by decide)).trans (E5_v37 V)
theorem E7_v37 (V : Valuation τ sig (Elt F)) : E7 V (Proc.devRef .tc main_v37) = R_v37 V := (E7_keep V main_v37 (by decide)).trans (E6_v37 V)
theorem E8_v37 (V : Valuation τ sig (Elt F)) : E8 V (Proc.devRef .tc main_v37) = R_v37 V := (E8_keep V main_v37 (by decide)).trans (E7_v37 V)
theorem E9_v37 (V : Valuation τ sig (Elt F)) : E9 V (Proc.devRef .tc main_v37) = R_v37 V := (E9_keep V main_v37 (by decide)).trans (E8_v37 V)
theorem E10_v37 (V : Valuation τ sig (Elt F)) : E10 V (Proc.devRef .tc main_v37) = R_v37 V := (E10_keep V main_v37 (by decide)).trans (E9_v37 V)
theorem E11_v37 (V : Valuation τ sig (Elt F)) : E11 V (Proc.devRef .tc main_v37) = R_v37 V := (E11_keep V main_v37 (by decide)).trans (E10_v37 V)
theorem E12_v37 (V : Valuation τ sig (Elt F)) : E12 V (Proc.devRef .tc main_v37) = R_v37 V := (E12_keep V main_v37 (by decide)).trans (E11_v37 V)
theorem E13_v37 (V : Valuation τ sig (Elt F)) : E13 V (Proc.devRef .tc main_v37) = R_v37 V := (E13_keep V main_v37 (by decide)).trans (E12_v37 V)
def R_v38 (V : Valuation τ sig (Elt F)) : (⟨S2x8192x4x128, .f32⟩ : BufTy).Contents (Elt F) := h4_v38 (R_v33 V)
theorem E5_v38 (V : Valuation τ sig (Elt F)) : E5 V (Proc.devRef .tc main_v38) = R_v38 V := by
  rw [E5, w4_v38, E4_v33]; rfl
theorem E6_v38 (V : Valuation τ sig (Elt F)) : E6 V (Proc.devRef .tc main_v38) = R_v38 V := (E6_keep V main_v38 (by decide)).trans (E5_v38 V)
def R_v39 (V : Valuation τ sig (Elt F)) : (⟨S2x8192x4x128, .f32⟩ : BufTy).Contents (Elt F) := h4_v39 (R_v33 V)
theorem E5_v39 (V : Valuation τ sig (Elt F)) : E5 V (Proc.devRef .tc main_v39) = R_v39 V := by
  rw [E5, w4_v39, E4_v33]; rfl
theorem E6_v39 (V : Valuation τ sig (Elt F)) : E6 V (Proc.devRef .tc main_v39) = R_v39 V := (E6_keep V main_v39 (by decide)).trans (E5_v39 V)
def R_v42 (V : Valuation τ sig (Elt F)) : (⟨S2x8192x32, .f32⟩ : BufTy).Contents (Elt F) := h4_v42 (V (Proc.devRef .tc main_arg2)) (V (Proc.devRef .tc main_arg5))
theorem E5_v42 (V : Valuation τ sig (Elt F)) : E5 V (Proc.devRef .tc main_v42) = R_v42 V := by
  rw [E5, w4_v42, E4_arg2, E4_arg5]; rfl
def R_v43 (V : Valuation τ sig (Elt F)) : (⟨S2x8192x32, .f32⟩ : BufTy).Contents (Elt F) := h5_v43 (R_v42 V)
theorem E6_v43 (V : Valuation τ sig (Elt F)) : E6 V (Proc.devRef .tc main_v43) = R_v43 V := by
  rw [E6, w5_v43, E5_v42]; rfl
def R_v49 (V : Valuation τ sig (Elt F)) : (⟨S2x64x128x4x8x64, .f32⟩ : BufTy).Contents (Elt F) := h6_v49 (R_v37 V) (R_v43 V)
theorem E7_v49 (V : Valuation τ sig (Elt F)) : E7 V (Proc.devRef .tc main_v49) = R_v49 V := by
  rw [E7, w6_v49, E6_v37, E6_v43]; rfl
theorem E8_v49 (V : Valuation τ sig (Elt F)) : E8 V (Proc.devRef .tc main_v49) = R_v49 V := (E8_keep V main_v49 (by decide)).trans (E7_v49 V)
theorem E9_v49 (V : Valuation τ sig (Elt F)) : E9 V (Proc.devRef .tc main_v49) = R_v49 V := (E9_keep V main_v49 (by decide)).trans (E8_v49 V)
theorem E10_v49 (V : Valuation τ sig (Elt F)) : E10 V (Proc.devRef .tc main_v49) = R_v49 V := (E10_keep V main_v49 (by decide)).trans (E9_v49 V)
theorem E11_v49 (V : Valuation τ sig (Elt F)) : E11 V (Proc.devRef .tc main_v49) = R_v49 V := (E11_keep V main_v49 (by decide)).trans (E10_v49 V)
theorem E12_v49 (V : Valuation τ sig (Elt F)) : E12 V (Proc.devRef .tc main_v49) = R_v49 V := (E12_keep V main_v49 (by decide)).trans (E11_v49 V)
def R_v53 (V : Valuation τ sig (Elt F)) : (⟨S2x64x128x4x8, .f32⟩ : BufTy).Contents (Elt F) := h6_v53 (R_v43 V) (V (Proc.devRef .tc main_arg6))
theorem E7_v53 (V : Valuation τ sig (Elt F)) : E7 V (Proc.devRef .tc main_v53) = R_v53 V := by
  rw [E7, w6_v53, E6_v43, E6_arg6]; rfl
def R_v54 (V : Valuation τ sig (Elt F)) : (⟨S2x64x128x4x128, .f32⟩ : BufTy).Contents (Elt F) := h6_v54 (R_v38 V)
theorem E7_v54 (V : Valuation τ sig (Elt F)) : E7 V (Proc.devRef .tc main_v54) = R_v54 V := by
  rw [E7, w6_v54, E6_v38]; rfl
theorem E8_v54 (V : Valuation τ sig (Elt F)) : E8 V (Proc.devRef .tc main_v54) = R_v54 V := (E8_keep V main_v54 (by decide)).trans (E7_v54 V)
theorem E9_v54 (V : Valuation τ sig (Elt F)) : E9 V (Proc.devRef .tc main_v54) = R_v54 V := (E9_keep V main_v54 (by decide)).trans (E8_v54 V)
theorem E10_v54 (V : Valuation τ sig (Elt F)) : E10 V (Proc.devRef .tc main_v54) = R_v54 V := (E10_keep V main_v54 (by decide)).trans (E9_v54 V)
theorem E11_v54 (V : Valuation τ sig (Elt F)) : E11 V (Proc.devRef .tc main_v54) = R_v54 V := (E11_keep V main_v54 (by decide)).trans (E10_v54 V)
theorem E12_v54 (V : Valuation τ sig (Elt F)) : E12 V (Proc.devRef .tc main_v54) = R_v54 V := (E12_keep V main_v54 (by decide)).trans (E11_v54 V)
def R_v55 (V : Valuation τ sig (Elt F)) : (⟨S2x64x128x4x128, .f32⟩ : BufTy).Contents (Elt F) := h6_v55 (R_v39 V)
theorem E7_v55 (V : Valuation τ sig (Elt F)) : E7 V (Proc.devRef .tc main_v55) = R_v55 V := by
  rw [E7, w6_v55, E6_v39]; rfl
theorem E8_v55 (V : Valuation τ sig (Elt F)) : E8 V (Proc.devRef .tc main_v55) = R_v55 V := (E8_keep V main_v55 (by decide)).trans (E7_v55 V)
theorem E9_v55 (V : Valuation τ sig (Elt F)) : E9 V (Proc.devRef .tc main_v55) = R_v55 V := (E9_keep V main_v55 (by decide)).trans (E8_v55 V)
theorem E10_v55 (V : Valuation τ sig (Elt F)) : E10 V (Proc.devRef .tc main_v55) = R_v55 V := (E10_keep V main_v55 (by decide)).trans (E9_v55 V)
theorem E11_v55 (V : Valuation τ sig (Elt F)) : E11 V (Proc.devRef .tc main_v55) = R_v55 V := (E11_keep V main_v55 (by decide)).trans (E10_v55 V)
theorem E12_v55 (V : Valuation τ sig (Elt F)) : E12 V (Proc.devRef .tc main_v55) = R_v55 V := (E12_keep V main_v55 (by decide)).trans (E11_v55 V)
theorem E13_v55 (V : Valuation τ sig (Elt F)) : E13 V (Proc.devRef .tc main_v55) = R_v55 V := (E13_keep V main_v55 (by decide)).trans (E12_v55 V)
def R_v56 (V : Valuation τ sig (Elt F)) : (⟨S2x64x128x4x8, .f32⟩ : BufTy).Contents (Elt F) := h7_v56 (R_v53 V)
theorem E8_v56 (V : Valuation τ sig (Elt F)) : E8 V (Proc.devRef .tc main_v56) = R_v56 V := by
  rw [E8, w7_v56, E7_v53]; rfl
theorem E9_v56 (V : Valuation τ sig (Elt F)) : E9 V (Proc.devRef .tc main_v56) = R_v56 V := (E9_keep V main_v56 (by decide)).trans (E8_v56 V)
theorem E10_v56 (V : Valuation τ sig (Elt F)) : E10 V (Proc.devRef .tc main_v56) = R_v56 V := (E10_keep V main_v56 (by decide)).trans (E9_v56 V)
theorem E11_v56 (V : Valuation τ sig (Elt F)) : E11 V (Proc.devRef .tc main_v56) = R_v56 V := (E11_keep V main_v56 (by decide)).trans (E10_v56 V)
theorem E12_v56 (V : Valuation τ sig (Elt F)) : E12 V (Proc.devRef .tc main_v56) = R_v56 V := (E12_keep V main_v56 (by decide)).trans (E11_v56 V)
theorem E13_v56 (V : Valuation τ sig (Elt F)) : E13 V (Proc.devRef .tc main_v56) = R_v56 V := (E13_keep V main_v56 (by decide)).trans (E12_v56 V)
def R_v57 (V : Valuation τ sig (Elt F)) : (⟨S128x128, .i1⟩ : BufTy).Contents (Elt F) := h8_v57
theorem E9_v57 (V : Valuation τ sig (Elt F)) : E9 V (Proc.devRef .tc main_v57) = R_v57 V := by
  rw [E9, w8_v57]; rfl
def R_v58 (V : Valuation τ sig (Elt F)) : (⟨S128x128, .i1⟩ : BufTy).Contents (Elt F) := h9_v58 (R_v57 V)
theorem E10_v58 (V : Valuation τ sig (Elt F)) : E10 V (Proc.devRef .tc main_v58) = R_v58 V := by
  rw [E10, w9_v58, E9_v57]; rfl
def R_v63 (V : Valuation τ sig (Elt F)) : (⟨S2x64x128x128x4x8, .f32⟩ : BufTy).Contents (Elt F) := h10_v63 (R_v56 V)
theorem E11_v63 (V : Valuation τ sig (Elt F)) : E11 V (Proc.devRef .tc main_v63) = R_v63 V := by
  rw [E11, w10_v63, E10_v56]; rfl
def R_v64 (V : Valuation τ sig (Elt F)) : (⟨S1x1x128x128x1x1, .i1⟩ : BufTy).Contents (Elt F) := h10_v64 (R_v58 V)
theorem E11_v64 (V : Valuation τ sig (Elt F)) : E11 V (Proc.devRef .tc main_v64) = R_v64 V := by
  rw [E11, w10_v64, E10_v58]; rfl
def R_cst_1 (V : Valuation τ sig (Elt F)) : (⟨S_, .f32⟩ : BufTy).Contents (Elt F) := h10_cst_1
theorem E11_cst_1 (V : Valuation τ sig (Elt F)) : E11 V (Proc.devRef .tc main_cst_1) = R_cst_1 V := by
  rw [E11, w10_cst_1]; rfl
def R_v65 (V : Valuation τ sig (Elt F)) : (⟨S2x64x128x128x4x8, .f32⟩ : BufTy).Contents (Elt F) := h11_v65 (R_v64 V) (R_v63 V) (R_cst_1 V)
theorem E12_v65 (V : Valuation τ sig (Elt F)) : E12 V (Proc.devRef .tc main_v65) = R_v65 V := by
  rw [E12, w11_v65, E11_v64, E11_v63, E11_cst_1]; rfl
def R_v73 (V : Valuation τ sig (Elt F)) : (⟨S2x64x128x4x8x64, .f32⟩ : BufTy).Contents (Elt F) := h12_v73 (R_v49 V) (R_v54 V) (R_v55 V) (R_v65 V)
theorem E13_v73 (V : Valuation τ sig (Elt F)) : E13 V (Proc.devRef .tc main_v73) = R_v73 V := by
  rw [E13, w12_v73, E12_v49, E12_v54, E12_v55, E12_v65]; rfl
def R_v89_0 (V : Valuation τ sig (Elt F)) : (⟨S64x2x4x8x64x128, .f32⟩ : BufTy).Contents (Elt F) := h12_v89_0 (R_v56 V) (R_v49 V) (R_v54 V)
theorem E13_v89_0 (V : Valuation τ sig (Elt F)) : E13 V (Proc.devRef .tc main_v89_0) = R_v89_0 V := by
  rw [E13, w12_v89_0, E12_v56, E12_v49, E12_v54]; rfl
def R_v89_1 (V : Valuation τ sig (Elt F)) : (⟨S64x2x4x8, .f32⟩ : BufTy).Contents (Elt F) := h12_v89_1 (R_v56 V)
theorem E13_v89_1 (V : Valuation τ sig (Elt F)) : E13 V (Proc.devRef .tc main_v89_1) = R_v89_1 V := by
  rw [E13, w12_v89_1, E12_v56]; rfl
def R_v89_2 (V : Valuation τ sig (Elt F)) : (⟨S_, .i32⟩ : BufTy).Contents (Elt F) := h12_v89_2
theorem E13_v89_2 (V : Valuation τ sig (Elt F)) : E13 V (Proc.devRef .tc main_v89_2) = R_v89_2 V := by
  rw [E13, w12_v89_2]; rfl
def R_v89_3 (V : Valuation τ sig (Elt F)) : (⟨S2x4x8x64x128, .f32⟩ : BufTy).Contents (Elt F) := h12_v89_3
theorem E13_v89_3 (V : Valuation τ sig (Elt F)) : E13 V (Proc.devRef .tc main_v89_3) = R_v89_3 V := by
  rw [E13, w12_v89_3]; rfl
def R_v89_4 (V : Valuation τ sig (Elt F)) : (⟨S64x2x4x8x64x128, .f32⟩ : BufTy).Contents (Elt F) := h12_v89_4
theorem E13_v89_4 (V : Valuation τ sig (Elt F)) : E13 V (Proc.devRef .tc main_v89_4) = R_v89_4 V := by
  rw [E13, w12_v89_4]; rfl

end Cert.ReferenceIdeal.Value
-- ==== Proof.RefIndex.lean ====
/-
  The reference's values before its loop, read at an index.
-/
module

public import proofs.«01_k».proof.Proof.RefEntry
public import proofs.«01_k».proof.Proof.SsdSpec

@[expose] public section

set_option maxRecDepth 10000

noncomputable section

namespace Cert.ReferenceIdeal.Value

open Cert.ReferenceIdeal Cert.ReferenceIdeal.Gen Cert.Ssd
open Idealize.ShloMosaic Idealize.ShloMosaic.TcCoe
open scoped BigOperators

variable (V : Valuation τ sig (Elt Ideal))

/-- The entries of the arguments in the launch contents. -/
def ent : Ent where
  z := nat3 (a := 2) (b := 8192) (c := 2048) (V (Proc.devRef .tc main_arg0))
  x := nat3 (a := 2) (b := 8192) (c := 3072) (V (Proc.devRef .tc main_arg1))
  d := nat3 (a := 2) (b := 8192) (c := 32) (V (Proc.devRef .tc main_arg2))
  w := fun k q => nat3 (a := 4) (b := 1) (c := 3072) (V (Proc.devRef .tc main_arg3)) k 0 q
  cb := nat1 (a := 3072) (V (Proc.devRef .tc main_arg4))
  db := nat1 (a := 32) (V (Proc.devRef .tc main_arg5))
  al := nat1 (a := 32) (V (Proc.devRef .tc main_arg6))
  sk := nat1 (a := 32) (V (Proc.devRef .tc main_arg7))
  ng := nat1 (a := 2048) (V (Proc.devRef .tc main_arg8))

theorem arg0_at (a : Fin 2) (b : Fin 8192) (c : Fin 2048) :
    (V (Proc.devRef .tc main_arg0) : S2x8192x2048.Idx → EReal) (ix3 a b c) = (ent V).z a b c := eq_nat3 _ a b c
theorem arg1_at (a : Fin 2) (b : Fin 8192) (c : Fin 3072) :
    (V (Proc.devRef .tc main_arg1) : S2x8192x3072.Idx → EReal) (ix3 a b c) = (ent V).x a b c := eq_nat3 _ a b c
theorem arg2_at (a : Fin 2) (b : Fin 8192) (c : Fin 32) :
    (V (Proc.devRef .tc main_arg2) : S2x8192x32.Idx → EReal) (ix3 a b c) = (ent V).d a b c := eq_nat3 _ a b c
theorem arg3_at (a : Fin 4) (c : Fin 3072) :
    (V (Proc.devRef .tc main_arg3) : S4x1x3072.Idx → EReal) (ix3 a 0 c) = (ent V).w a c := eq_nat3 _ a 0 c
theorem arg4_at (c : Fin 3072) : (V (Proc.devRef .tc main_arg4) : S3072.Idx → EReal) (ix1 c) = (ent V).cb c := eq_nat1 _ c
theorem arg5_at (c : Fin 32) : (V (Proc.devRef .tc main_arg5) : S32.Idx → EReal) (ix1 c) = (ent V).db c := eq_nat1 _ c
theorem arg6_at (c : Fin 32) : (V (Proc.devRef .tc main_arg6) : S32.Idx → EReal) (ix1 c) = (ent V).al c := eq_nat1 _ c
theorem arg7_at (c : Fin 32) : (V (Proc.devRef .tc main_arg7) : S32.Idx → EReal) (ix1 c) = (ent V).sk c := eq_nat1 _ c
theorem arg8_at (c : Fin 2048) : (V (Proc.devRef .tc main_arg8) : S2048.Idx → EReal) (ix1 c) = (ent V).ng c := eq_nat1 _ c

/-! ## The stretches at an index -/

abbrev C (s : Shape) : Type := (⟨s, .f32⟩ : BufTy).Contents (Elt Ideal)

theorem h1_at (x : C S2x8192x3072) (X : ℕ → ℕ → ℕ → EReal) (hx : ∀ a b c, x (ix3 a b c) = X a b c)
    (a : Fin 2) (b : Fin 8195) (c : Fin 3072) :
    h1_v0 (F := Ideal) x (h0_c (F := Ideal)) (ix3 a b c) = if 3 ≤ (b : ℕ) then X a (b - 3) c else 0 := by
  pointwise [h1_v0, h0_c, hx]
  by_cases h : 3 ≤ (b : ℕ)
  · have h' : 3 ≤ (b : ℕ) ∧ (b : ℕ) - 3 < 8192 := ⟨h, by omega⟩
    rw [dif_pos h', if_pos h]
  · rw [dif_neg (fun k => h k.1), if_neg h]
    show (((0#32 : BitVec 32).toInt : ℝ) : EReal) = 0
    norm_num

theorem h2_at (v0 : C S2x8195x3072) (w : C S4x1x3072) (cb : C S3072) (E : Ent)
    (hv : ∀ a b c, v0 (ix3 a b c) = if 3 ≤ (b : ℕ) then E.x a (b - 3) c else 0)
    (hw : ∀ a c, w (ix3 a 0 c) = E.w a c) (hc : ∀ c, cb (ix1 c) = E.cb c)
    (a : Fin 2) (b : Fin 8192) (c : Fin 3072) : h2_v32 (F := Ideal) v0 w cb (ix3 a b c) = conv E a b c := by
  pointwise [h2_v32, hv, hw, hc, conv, lag]
  simp only [show (3 ≤ 1 + (b : ℕ)) = (2 ≤ (b : ℕ)) by rw [eq_iff_iff]; omega, show (3 ≤ 2 + (b : ℕ)) = (1 ≤ (b : ℕ)) by rw [eq_iff_iff]; omega,
    show 1 + (b : ℕ) - 3 = b - 2 by omega, show 2 + (b : ℕ) - 3 = b - 1 by omega]

theorem h3_at (v : C S2x8192x3072) (E : Ent) (hv : ∀ a b c, v (ix3 a b c) = conv E a b c)
    (a : Fin 2) (b : Fin 8192) (c : Fin 3072) : h3_v33 (F := Ideal) v (ix3 a b c) = act E a b c := by
  pointwise [h3_v33, hv, act, silu]

theorem h4_v37_at (v : C S2x8192x3072) (E : Ent) (hv : ∀ a b c, v (ix3 a b c) = act E a b c)
    (a : Fin 2) (b : Fin 8192) (c : Fin 32) (d : Fin 64) : h4_v37 (F := Ideal) v (ix4 a b c d) = act E a b (c * 64 + d) := by
  pointwise [h4_v37, hv]

theorem h4_v38_at (v : C S2x8192x3072) (E : Ent) (hv : ∀ a b c, v (ix3 a b c) = act E a b c)
    (a : Fin 2) (b : Fin 8192) (c : Fin 4) (d : Fin 128) : h4_v38 (F := Ideal) v (ix4 a b c d) = act E a b (2048 + (c * 128 + d)) := by
  pointwise [h4_v38, hv]

theorem h4_v39_at (v : C S2x8192x3072) (E : Ent) (hv : ∀ a b c, v (ix3 a b c) = act E a b c)
    (a : Fin 2) (b : Fin 8192) (c : Fin 4) (d : Fin 128) : h4_v39 (F := Ideal) v (ix4 a b c d) = act E a b (2560 + (c * 128 + d)) := by
  pointwise [h4_v39, hv]

theorem h4_v42_at (d : C S2x8192x32) (db : C S32) (E : Ent) (hd : ∀ a b c, d (ix3 a b c) = E.d a b c) (hb : ∀ c, db (ix1 c) = E.db c)
    (a : Fin 2) (b : Fin 8192) (c : Fin 32) : h4_v42 (F := Ideal) d db (ix3 a b c) = E.d a b c + E.db c := by
  pointwise [h4_v42, hd, hb]

theorem h5_at (v : C S2x8192x32) (E : Ent) (hv : ∀ a b c, v (ix3 a b c) = E.d a b c + E.db c)
    (a : Fin 2) (b : Fin 8192) (c : Fin 32) : h5_v43 (F := Ideal) v (ix3 a b c) = step E a b c := by
  pointwise [h5_v43, hv, step, softplus, ne_eq, not_true_eq_false, if_false]
  rfl

theorem h6_v49_at (x : C S2x8192x32x64) (t : C S2x8192x32) (E : Ent) (hx : ∀ a b c d, x (ix4 a b c d) = act E a b (c * 64 + d))
    (ht : ∀ a b c, t (ix3 a b c) = step E a b c)
    (a : Fin 2) (b : Fin 64) (c : Fin 128) (d : Fin 4) (e : Fin 8) (f : Fin 64) :
    h6_v49 (F := Ideal) x t (ix6 a b c d e f) = xdt E a (128 * b + c) (64 * (8 * d + e) + f) := by
  have h : (64 * (8 * (d : ℕ) + e) + f) / 64 = 8 * d + e := by omega
  pointwise [h6_v49, hx, ht, xdt, h]
  simp only [Nat.mul_comm]

theorem h6_v53_at (al : C S32) (t : C S2x8192x32) (E : Ent) (ha : ∀ c, al (ix1 c) = E.al c)
    (ht : ∀ a b c, t (ix3 a b c) = step E a b c)
    (a : Fin 2) (b : Fin 64) (c : Fin 128) (d : Fin 4) (e : Fin 8) :
    h6_v53 (F := Ideal) t al (ix5 a b c d e) = ldec E a (128 * b + c) (8 * d + e) := by
  pointwise [h6_v53, ha, ht, ldec]
  simp only [Nat.mul_comm]

theorem h6_v54_at (x : C S2x8192x4x128) (E : Ent) (o : ℕ) (hx : ∀ a b c d, x (ix4 a b c d) = act E a b (o + (c * 128 + d)))
    (a : Fin 2) (b : Fin 64) (c : Fin 128) (d : Fin 4) (e : Fin 128) :
    h6_v54 (F := Ideal) x (ix5 a b c d e) = act E a (128 * b + c) (o + (128 * d + e)) := by
  pointwise [h6_v54, hx]
  simp only [Nat.mul_comm]

theorem h6_v55_at (x : C S2x8192x4x128) (E : Ent) (o : ℕ) (hx : ∀ a b c d, x (ix4 a b c d) = act E a b (o + (c * 128 + d)))
    (a : Fin 2) (b : Fin 64) (c : Fin 128) (d : Fin 4) (e : Fin 128) :
    h6_v55 (F := Ideal) x (ix5 a b c d e) = act E a (128 * b + c) (o + (128 * d + e)) := by
  pointwise [h6_v55, hx]
  simp only [Nat.mul_comm]

/-- A left fold of sums from zero is the sum. -/
theorem foldl_add_eq_sum {n : ℕ} (g : Fin n → EReal) : (List.finRange n).foldl (fun r k => r + g k) 0 = ∑ k, g k := by
  rw [← List.foldl_map (f := g) (g := (· + ·)), ← List.sum_eq_foldl, Fin.sum_univ_def]

theorem h7_at (v : C S2x64x128x4x8) (E : Ent) (hv : ∀ a b c d e, v (ix5 a b c d e) = ldec E a (128 * b + c) (8 * d + e))
    (a : Fin 2) (b : Fin 64) (c : Fin 128) (d : Fin 4) (e : Fin 8) :
    h7_v56 (F := Ideal) v (ix5 a b c d e) = cum E a b c (8 * d + e) := by
  have h0 : (broadcastInDim S_ ![] bcast_S_S_ (constant (F := Ideal) S_ .f32 0x00000000#32)) (Shape.Idx.first h_S_) = (0 : EReal) := by
    pointwise
  unfold h7_v56
  dsimp only
  unfold Host.reduceWindowAdd
  rw [h0, Ideal.hostReduceWindowAdd_def]
  unfold Ideal.hostReduceWindowAdd Host.reduceWindow
  dsimp only
  rw [foldl_add_eq_sum, ← Equiv.sum_comp (Shape.rowMajor _)]
  simp only [Equiv.symm_apply_apply]
  refine (sum_idx5 (n0 := 1) (n1 := 1) (n2 := 128) (n3 := 1) (n4 := 1) _).trans ?_
  simp only [Fin.sum_univ_one]
  unfold cum
  rw [← sum_window c c.isLt (fun s => ldec E a (128 * b + s) (8 * d + e))]
  refine Finset.sum_congr rfl fun s _ => ?_
  by_cases h : 127 ≤ (c : ℕ) + s
  · rw [if_pos h]
    have hs := s.isLt
    have hc := c.isLt
    refine (dif_pos (fun i => ?_)).trans ?_
    · fin_cases i
      · exact ⟨Nat.zero_le _, by show (a : ℕ) * 1 + 0 - 0 < 2; omega⟩
      · exact ⟨Nat.zero_le _, by show (b : ℕ) * 1 + 0 - 0 < 64; omega⟩
      · exact ⟨by show 127 ≤ (c : ℕ) * 1 + s; omega, by show (c : ℕ) * 1 + s - 127 < 128; omega⟩
      · exact ⟨Nat.zero_le _, by show (d : ℕ) * 1 + 0 - 0 < 4; omega⟩
      · exact ⟨Nat.zero_le _, by show (e : ℕ) * 1 + 0 - 0 < 8; omega⟩
    · refine Eq.trans ?_ (hv a b ⟨c + s - 127, by omega⟩ d e)
      refine congrArg v (funext fun i => Fin.ext ?_)
      fin_cases i
      · show (a : ℕ) * 1 + 0 - 0 = a; omega
      · show (b : ℕ) * 1 + 0 - 0 = b; omega
      · show (c : ℕ) * 1 + s - 127 = c + s - 127; omega
      · show (d : ℕ) * 1 + 0 - 0 = d; omega
      · show (e : ℕ) * 1 + 0 - 0 = e; omega
  · rw [if_neg h]
    refine dif_neg (fun k => h ?_)
    have := (k 2).1
    have h2 : 127 ≤ (c : ℕ) * 1 + s := this
    omega

theorem h9_at (a b : Fin 128) : h9_v58 (F := Ideal) (h8_v57 (F := Ideal)) (ix2 a b) = if (b : ℕ) ≤ a then 1#1 else 0#1 := by
  pointwise [h9_v58, h8_v57]
  have e : IntOp.addi (BitVec.ofNat 32 (a : ℕ)) 0#32 = BitVec.ofNat 32 a := BitVec.add_zero _
  rw [e, select_sge _ _ (by omega) (by omega)]

theorem h11_at (t : C S2x64x128x4x8) (E : Ent) (ht : ∀ a b c d e, t (ix5 a b c d e) = cum E a b c (8 * d + e))
    (m : (⟨S128x128, .i1⟩ : BufTy).Contents (Elt Ideal)) (hm : ∀ a b, m (ix2 a b) = if (b : ℕ) ≤ a then 1#1 else 0#1)
    (a : Fin 2) (b : Fin 64) (c s : Fin 128) (d : Fin 4) (e : Fin 8) :
    h11_v65 (F := Ideal) (h10_v64 (F := Ideal) m) (h10_v63 (F := Ideal) t) (h10_cst_1 (F := Ideal)) (ix6 a b c s d e)
      = if (s : ℕ) ≤ c then cum E a b c (8 * d + e) - cum E a b s (8 * d + e) else ⊥ := by
  pointwise [h11_v65, h10_v64, h10_v63, h10_cst_1, hm, ht]
  have e : (id (constant (F := Ideal) S_ FTy.f32 4286578688#32) ix0 : EReal) = ⊥ := ofBits_ninf
  rw [e]
  split <;> rfl

theorem h12_v73_at (x : C S2x64x128x4x8x64) (bb cc : C S2x64x128x4x128) (l : C S2x64x128x128x4x8) (E : Ent)
    (hx : ∀ a b c d e f, x (ix6 a b c d e f) = xdt E a (128 * b + c) (64 * (8 * d + e) + f))
    (hb : ∀ a b c d e, bb (ix5 a b c d e) = act E a (128 * b + c) (2048 + (128 * d + e)))
    (hc : ∀ a b c d e, cc (ix5 a b c d e) = act E a (128 * b + c) (2560 + (128 * d + e)))
    (hl : ∀ a b c s d e, l (ix6 a b c s d e) = if (s : ℕ) ≤ c then cum E a b c (8 * d + e) - cum E a b s (8 * d + e) else ⊥)
    (a : Fin 2) (b : Fin 64) (c : Fin 128) (d : Fin 4) (e : Fin 8) (f : Fin 64) :
    h12_v73 (F := Ideal) x bb cc l (ix6 a b c d e f) = diag E a b c (64 * (8 * d + e) + f) := by
  pointwise [h12_v73, hx, hb, hc, hl, diag, mix, cbp, show (64 * (8 * (d : ℕ) + e) + f) / 64 = 8 * d + e by omega,
    show (8 * (d : ℕ) + e) / 8 = d by omega, dot_S2x64x128x4x8x64_S2x64x128x128x4x8_S2x64x4x8x64x128_2_3_5_2_0134_0145, dot_S2x64x128x4x128_S2x64x128x4x128_S2x64x4x128x128_4_4_2_2_013_013]
  refine Finset.sum_congr rfl fun s _ => ?_
  rw [mul_comm]
  congr 2
  exact Finset.sum_congr rfl fun s _ => mul_comm _ _

theorem h12_v89_0_at (t : C S2x64x128x4x8) (x : C S2x64x128x4x8x64) (bb : C S2x64x128x4x128) (E : Ent)
    (ht : ∀ a b c d e, t (ix5 a b c d e) = cum E a b c (8 * d + e))
    (hx : ∀ a b c d e f, x (ix6 a b c d e f) = xdt E a (128 * b + c) (64 * (8 * d + e) + f))
    (hb : ∀ a b c d e, bb (ix5 a b c d e) = act E a (128 * b + c) (2048 + (128 * d + e)))
    (k : Fin 64) (a : Fin 2) (d : Fin 4) (e : Fin 8) (f : Fin 64) (n : Fin 128) :
    h12_v89_0 (F := Ideal) t x bb (ix6 k a d e f n) = own E a k n (64 * (8 * d + e) + f) := by
  pointwise [h12_v89_0, id_eq, hx, hb, ht, own, show (64 * (8 * (d : ℕ) + e) + f) / 64 = 8 * d + e by omega,
    show (64 * (8 * (d : ℕ) + e) + f) / 512 = d by omega]
  refine Finset.sum_congr rfl fun s _ => ?_
  rw [mul_comm, mul_comm (Ideal.exp _)]

theorem h12_v89_1_at (t : C S2x64x128x4x8) (E : Ent) (ht : ∀ a b c d e, t (ix5 a b c d e) = cum E a b c (8 * d + e))
    (k : Fin 64) (a : Fin 2) (d : Fin 4) (e : Fin 8) :
    h12_v89_1 (F := Ideal) t (ix4 k a d e) = Ideal.exp (cum E a k 127 (8 * d + e)) := by
  pointwise [h12_v89_1, id_eq, ht]

/-! ## The values at the loop's entry -/

theorem v33_at (a : Fin 2) (b : Fin 8192) (c : Fin 3072) : R_v33 V (ix3 a b c) = act (ent V) a b c :=
  h3_at _ _ (h2_at _ _ _ _ (h1_at _ _ (arg1_at V)) (arg3_at V) (arg4_at V)) a b c

theorem v37_at (a : Fin 2) (b : Fin 8192) (c : Fin 32) (d : Fin 64) : R_v37 V (ix4 a b c d) = act (ent V) a b (c * 64 + d) :=
  h4_v37_at _ _ (v33_at V) a b c d

theorem v43_at (a : Fin 2) (b : Fin 8192) (c : Fin 32) : R_v43 V (ix3 a b c) = step (ent V) a b c :=
  h5_at _ _ (h4_v42_at _ _ _ (arg2_at V) (arg5_at V)) a b c

theorem v49_at (a : Fin 2) (b : Fin 64) (c : Fin 128) (d : Fin 4) (e : Fin 8) (f : Fin 64) :
    R_v49 V (ix6 a b c d e f) = xdt (ent V) a (128 * b + c) (64 * (8 * d + e) + f) :=
  h6_v49_at _ _ _ (v37_at V) (v43_at V) a b c d e f

theorem v54_at (a : Fin 2) (b : Fin 64) (c : Fin 128) (d : Fin 4) (e : Fin 128) :
    R_v54 V (ix5 a b c d e) = act (ent V) a (128 * b + c) (2048 + (128 * d + e)) :=
  h6_v54_at _ _ 2048 (h4_v38_at _ _ (v33_at V)) a b c d e

theorem v55_at (a : Fin 2) (b : Fin 64) (c : Fin 128) (d : Fin 4) (e : Fin 128) :
    R_v55 V (ix5 a b c d e) = act (ent V) a (128 * b + c) (2560 + (128 * d + e)) :=
  h6_v55_at _ _ 2560 (h4_v39_at _ _ (v33_at V)) a b c d e

theorem v56_at (a : Fin 2) (b : Fin 64) (c : Fin 128) (d : Fin 4) (e : Fin 8) :
    R_v56 V (ix5 a b c d e) = cum (ent V) a b c (8 * d + e) :=
  h7_at _ _ (h6_v53_at _ _ _ (arg6_at V) (v43_at V)) a b c d e

theorem v73_at (a : Fin 2) (b : Fin 64) (c : Fin 128) (d : Fin 4) (e : Fin 8) (f : Fin 64) :
    R_v73 V (ix6 a b c d e f) = diag (ent V) a b c (64 * (8 * d + e) + f) :=
  h12_v73_at _ _ _ _ _ (v49_at V) (v54_at V) (v55_at V) (h11_at _ _ (v56_at V) _ h9_at) a b c d e f

theorem v89_0_at (k : Fin 64) (a : Fin 2) (d : Fin 4) (e : Fin 8) (f : Fin 64) (n : Fin 128) :
    R_v89_0 V (ix6 k a d e f n) = own (ent V) a k n (64 * (8 * d + e) + f) :=
  h12_v89_0_at _ _ _ _ (v56_at V) (v49_at V) (v54_at V) k a d e f n

theorem v89_1_at (k : Fin 64) (a : Fin 2) (d : Fin 4) (e : Fin 8) :
    R_v89_1 V (ix4 k a d e) = Ideal.exp (cum (ent V) a k 127 (8 * d + e)) :=
  h12_v89_1_at _ _ (v56_at V) k a d e

theorem v89_3_at (a : Fin 2) (d : Fin 4) (e : Fin 8) (f : Fin 64) (n : Fin 128) : R_v89_3 V (ix5 a d e f n) = (0 : EReal) := by
  pointwise [R_v89_3, h12_v89_3, id_eq]

theorem v89_4_at (k : Fin 64) (a : Fin 2) (d : Fin 4) (e : Fin 8) (f : Fin 64) (n : Fin 128) :
    R_v89_4 V (ix6 k a d e f n) = (0 : EReal) := by
  pointwise [R_v89_4, h12_v89_4, id_eq]

end Cert.ReferenceIdeal.Value
-- ==== Proof.RefLoop.lean ====
/-
  The reference's loop: after `k` trips the carried state is the state of chunk `k`, and the stacked states are those of
  the chunks before it.
-/
module

public import proofs.«01_k».proof.Proof.RefIndex

@[expose] public section

set_option maxRecDepth 10000

noncomputable section

namespace Cert.ReferenceIdeal.Value

open Cert.ReferenceIdeal Cert.ReferenceIdeal.Gen Cert.Ssd
open Idealize.ShloMosaic Idealize.ShloMosaic.TcCoe Idealize.ShloMosaic.StableHlo
open scoped BigOperators

section Body

variable {F : FTy → Type} [FloatOps F]

/-- The carried state after a trip, of the state before it, the trip's decays and its own states. -/
def next3 (b0 : (⟨S64x2x4x8x64x128, .f32⟩ : BufTy).Contents (Elt F)) (b1 : (⟨S64x2x4x8, .f32⟩ : BufTy).Contents (Elt F))
    (b2 : (⟨S_, .i32⟩ : BufTy).Contents (Elt F)) (b3 : (⟨S2x4x8x64x128, .f32⟩ : BufTy).Contents (Elt F)) :
    (⟨S2x4x8x64x128, .f32⟩ : BufTy).Contents (Elt F) :=
  id (addf (mulf (b3) (broadcastInDim S2x4x8x64x128 ![0, 1, 2, 3, 4] bcast_S2x4x8x1x1_S2x4x8x64x128_0_1_2_3_4 (broadcastInDim S2x4x8x1x1 ![0, 1, 2] bcast_S2x4x8_S2x4x8x1x1_0_1_2 (shapeCast S2x4x8 (Host.dynamicSlice S1x2x4x8 (b1) (fun k => (((![b2, constantI S_ 32 0#32, constantI S_ 32 0#32, constantI S_ 32 0#32] : Fin 4 → (⟨S_, .i32⟩ : BufTy).Contents (Elt F))) k (Shape.Idx.first h_S_)).toInt) sliceFits_S64x2x4x8_S1x2x4x8) shapeCasts_S1x2x4x8_S2x4x8)))) (shapeCast S2x4x8x64x128 (Host.dynamicSlice S1x2x4x8x64x128 (b0) (fun k => (((![b2, constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S64x2x4x8x64x128_S1x2x4x8x64x128) shapeCasts_S1x2x4x8x64x128_S2x4x8x64x128))

/-- The stacked states after a trip. -/
def next4 (b2 : (⟨S_, .i32⟩ : BufTy).Contents (Elt F)) (b3 : (⟨S2x4x8x64x128, .f32⟩ : BufTy).Contents (Elt F))
    (b4 : (⟨S64x2x4x8x64x128, .f32⟩ : BufTy).Contents (Elt F)) : (⟨S64x2x4x8x64x128, .f32⟩ : BufTy).Contents (Elt F) :=
  id (Host.dynamicUpdateSlice (b4) (broadcastInDim S1x2x4x8x64x128 ![1, 2, 3, 4, 5] bcast_S2x4x8x64x128_S1x2x4x8x64x128_1_2_3_4_5 (b3)) (fun k => (((![b2, constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S64x2x4x8x64x128_S1x2x4x8x64x128)

end Body

/-- The trip's counter. -/
def ctr (k : ℕ) : (⟨S_, .i32⟩ : BufTy).Contents (Elt Ideal) := fun _ => Scf.iv 0#32 1#32 k

theorem toInt_ctr (k : ℕ) (hk : k < 64) (i : S_.Idx) : (ctr k i : BitVec 32).toInt = k := by
  show (Scf.iv 0#32 1#32 k).toInt = k
  have h := Scf.toInt_iv (lb := 0#32) (ub := 64#32) (st := 1#32) (by decide) (k := k) (show k ≤ Scf.trips 0#32 64#32 1#32 from le_of_lt hk)
  rw [h]
  show (0 : ℤ) + k * 1 = k
  omega

theorem next3_at (b0 : C S64x2x4x8x64x128) (b1 : C S64x2x4x8) (b3 : C S2x4x8x64x128) (E : Ent) (k : ℕ) (hk : k < 64)
    (h0 : ∀ k a d e f n, b0 (ix6 k a d e f n) = own E a k n (64 * (8 * d + e) + f))
    (h1 : ∀ k a d e, b1 (ix4 k a d e) = Ideal.exp (cum E a k 127 (8 * d + e)))
    (h3 : ∀ a d e f n, b3 (ix5 a d e f n) = state E a k n (64 * (8 * d + e) + f))
    (a : Fin 2) (d : Fin 4) (e : Fin 8) (f : Fin 64) (n : Fin 128) :
    next3 (F := Ideal) b0 b1 (ctr k) b3 (ix5 a d e f n) = state E a (k + 1) n (64 * (8 * d + e) + f) := by
  have ht := toInt_ctr k hk
  have hc : (min (max (k : ℤ) 0) ((63 : ℕ) : ℤ)).toNat = k := by omega
  have hz : (min (max (0#32 : BitVec 32).toInt 0) ((0 : ℕ) : ℤ)).toNat = 0 := by decide
  pointwise [next3, id_eq, h3, ht, Host.clampedStart, h0, h1]
  simp only [hc, hz, Nat.zero_add, state]
  rw [show (64 * (8 * (d : ℕ) + e) + f) / 64 = 8 * d + e by omega]

theorem next4_at (b3 : C S2x4x8x64x128) (b4 : C S64x2x4x8x64x128) (E : Ent) (k : ℕ) (hk : k < 64)
    (h3 : ∀ a d e f n, b3 (ix5 a d e f n) = state E a k n (64 * (8 * d + e) + f))
    (h4 : ∀ i a d e f n, b4 (ix6 i a d e f n) = if (i : ℕ) < k then state E a i n (64 * (8 * d + e) + f) else 0)
    (i : Fin 64) (a : Fin 2) (d : Fin 4) (e : Fin 8) (f : Fin 64) (n : Fin 128) :
    next4 (F := Ideal) (ctr k) b3 b4 (ix6 i a d e f n) = if (i : ℕ) < k + 1 then state E a i n (64 * (8 * d + e) + f) else 0 := by
  have ht := toInt_ctr k hk
  have hc : (min (max (k : ℤ) 0) ((63 : ℕ) : ℤ)).toNat = k := by omega
  have hz : (min (max (0#32 : BitVec 32).toInt 0) ((0 : ℕ) : ℤ)).toNat = 0 := by decide
  pointwise [next4, id_eq, h3, ht, Host.clampedStart, h4]
  simp only [hc, hz, Nat.sub_zero, Nat.zero_le, and_true]
  by_cases h : (i : ℕ) = k
  · rw [dif_pos (by omega), if_pos (by omega), h]
  · rw [dif_neg (by omega)]
    by_cases h' : (i : ℕ) < k
    · rw [if_pos h', if_pos (by omega)]
    · rw [if_neg h', if_neg (by omega)]

variable (m : (ℓ : Loc nD τ sig) → Buf (Elt Ideal) ℓ) (c : Dev nD)

/-- The state before the loop's `k`-th trip. -/
structure Inv (k : ℕ) : Prop where
  h0 : ∀ k' a d e f n, (atK m k c (Proc.devRef .tc main_v89_0) : C S64x2x4x8x64x128) (ix6 k' a d e f n)
    = own (ent (launchContents m c)) a k' n (64 * (8 * d + e) + f)
  h1 : ∀ k' a d e, (atK m k c (Proc.devRef .tc main_v89_1) : C S64x2x4x8) (ix4 k' a d e)
    = Ideal.exp (cum (ent (launchContents m c)) a k' 127 (8 * d + e))
  h3 : ∀ a d e f n, (atK m k c (Proc.devRef .tc main_v89_3) : C S2x4x8x64x128) (ix5 a d e f n)
    = state (ent (launchContents m c)) a k n (64 * (8 * d + e) + f)
  h4 : ∀ i a d e f n, (atK m k c (Proc.devRef .tc main_v89_4) : C S64x2x4x8x64x128) (ix6 i a d e f n)
    = if (i : ℕ) < k then state (ent (launchContents m c)) a i n (64 * (8 * d + e) + f) else 0

theorem inv : ∀ k, k ≤ 64 → Inv m c k
  | 0, _ => by
    have e0 : atK m 0 c = E13 (launchContents m c) := rfl
    refine ⟨?_, ?_, ?_, ?_⟩
    · rw [e0, E13_v89_0]; exact v89_0_at _
    · rw [e0, E13_v89_1]; exact v89_1_at _
    · rw [e0, E13_v89_3]; intro a d e f n; exact v89_3_at _ a d e f n
    · rw [e0, E13_v89_4]; intro i a d e f n; rw [if_neg (Nat.not_lt_zero _)]; exact v89_4_at _ i a d e f n
  | k + 1, hk => by
    obtain ⟨h0, h1, h3, h4⟩ := inv k (by omega)
    have hs := trip_agree (atK m k c)
    have hct : atK m k c (Proc.devRef .tc main_v89_2) = ctr k := atK_ctr m c k
    refine ⟨?_, ?_, ?_, ?_⟩
    · rw [show atK m (k + 1) c (Proc.devRef .tc main_v89_0) = _ from (hs main_v89_0 (by decide)).trans (STEP_main_v89_0 _)]; exact h0
    · rw [show atK m (k + 1) c (Proc.devRef .tc main_v89_1) = _ from (hs main_v89_1 (by decide)).trans (STEP_main_v89_1 _)]; exact h1
    · rw [show atK m (k + 1) c (Proc.devRef .tc main_v89_3) = _ from (hs main_v89_3 (by decide)).trans (STEP_main_v89_3 _),
        show step_main_v89_3 (atK m k c) = next3 (atK m k c (Proc.devRef .tc main_v89_0)) (atK m k c (Proc.devRef .tc main_v89_1))
          (atK m k c (Proc.devRef .tc main_v89_2)) (atK m k c (Proc.devRef .tc main_v89_3)) from rfl, hct]
      exact next3_at _ _ _ _ k (by omega) h0 h1 h3
    · rw [show atK m (k + 1) c (Proc.devRef .tc main_v89_4) = _ from (hs main_v89_4 (by decide)).trans (STEP_main_v89_4 _),
        show step_main_v89_4 (atK m k c) = next4
          (atK m k c (Proc.devRef .tc main_v89_2)) (atK m k c (Proc.devRef .tc main_v89_3)) (atK m k c (Proc.devRef .tc main_v89_4)) from rfl, hct]
      exact next4_at _ _ _ k (by omega) h3 h4

/-! ## What the loop leaves alone -/

theorem cond_keep (V : Valuation τ sig (Elt Ideal)) (r : Ref sig .tc) (h : r ∉ condOps_W) :
    after condOps V (Proc.devRef .tc r) = V (Proc.devRef .tc r) := after_of_writes_sub condOps V condOps_writes h

theorem loop_keep (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) : ∀ k, atK m k c (Proc.devRef .tc r) = E13 (launchContents m c) (Proc.devRef .tc r)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, cond_keep _ r h, loop_keep r h h0 h1 h2 h3 h4 k]

/-- The contents after the loop. -/
def L64 : Valuation τ sig (Elt Ideal) := after condOps (atK m 64 c)

theorem L64_keep (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) : L64 m c (Proc.devRef .tc r) = E13 (launchContents m c) (Proc.devRef .tc r) :=
  (cond_keep _ r h).trans (loop_keep m c r h h0 h1 h2 h3 h4 64)

theorem L64_v89_4 : L64 m c (Proc.devRef .tc main_v89_4) = atK m 64 c (Proc.devRef .tc main_v89_4) := cond_keep _ _ (by decide)

/-! ## After the loop -/

theorem h13_at (y : C S2x64x128x4x8x64) (st : C S64x2x4x8x64x128) (cc : C S2x64x128x4x128) (t : C S2x64x128x4x8)
    (x : C S2x8192x32x64) (sk : C S32) (E : Ent)
    (hy : ∀ a b c d e f, y (ix6 a b c d e f) = diag E a b c (64 * (8 * d + e) + f))
    (hst : ∀ i a d e f n, st (ix6 i a d e f n) = if (i : ℕ) < 64 then state E a i n (64 * (8 * d + e) + f) else 0)
    (hc : ∀ a b c d e, cc (ix5 a b c d e) = act E a (128 * b + c) (2560 + (128 * d + e)))
    (ht : ∀ a b c d e, t (ix5 a b c d e) = cum E a b c (8 * d + e))
    (hx : ∀ a b c d, x (ix4 a b c d) = act E a b (c * 64 + d)) (hs : ∀ c, sk (ix1 c) = E.sk c)
    (a : Fin 2) (b : Fin 8192) (q : Fin 2048) :
    h13_v104 (F := Ideal) y st cc t x sk (ix3 a b q)
      = carried E a (b / 128) (b % 128) q + diag E a (b / 128) (b % 128) q + act E a b q * E.sk (q / 64) := by
  have e7 : 64 * ((q : ℕ) / 64) + (q : ℕ) % 64 = q := by omega
  have e2 : 8 * ((q : ℕ) / 64 / 8) + (q : ℕ) / 64 % 8 = q / 64 := by omega
  have e3 : 128 * ((b : ℕ) / 128) + (b : ℕ) % 128 = b := by omega
  have e4 : (q : ℕ) / 64 / 8 = q / 512 := by omega
  have e5 : (q : ℕ) / 64 * 64 + (q : ℕ) % 64 = q := by omega
  have e6 : (b : ℕ) / 128 < 64 := by omega
  pointwise [h13_v104, id_eq, hy, hst, hc, ht, hx, hs]
  simp only [e2, e3, e5, e7, if_pos e6, carried]
  rw [e4, add_comm (diag E a _ _ q)]
  simp only [mul_comm (state E _ _ _ _)]

theorem h14_at (z : C S2x8192x2048) (E : Ent) (hz : ∀ a b c, z (ix3 a b c) = E.z a b c)
    (a : Fin 2) (b : Fin 8192) (q : Fin 2048) : h14_v105 (F := Ideal) z (ix3 a b q) = silu (E.z a b q) := by
  pointwise [h14_v105, hz, silu]

theorem h15_at (y g : C S2x8192x2048) (ng : C S2048) (E : Ent)
    (hy : ∀ (a : Fin 2) (b : Fin 8192) (q : Fin 2048), y (ix3 a b q)
      = carried E a (b / 128) (b % 128) q + diag E a (b / 128) (b % 128) q + act E a b q * E.sk (q / 64))
    (hg : ∀ (a : Fin 2) (b : Fin 8192) (q : Fin 2048), g (ix3 a b q) = silu (E.z a b q)) (hn : ∀ c, ng (ix1 c) = E.ng c)
    (r : Fin 16384) (q : Fin 2048) :
    h15_v120 (F := Ideal) y g ng (ix2 r q) = out E (r / 8192) (r % 8192 / 128) (r % 128) q := by
  have e1 : (r : ℕ) % 8192 % 128 = r % 128 := by omega
  have e2 : 128 * ((r : ℕ) % 8192 / 128) + r % 128 = r % 8192 := by omega
  pointwise [h15_v120, id_eq, hy, hg, hn, out, gated, e1, e2]

theorem keep13 (V : Valuation τ sig (Elt Ideal)) (r : Ref sig .tc) (h : r = main_arg0 ∨ r = main_arg8) :
    after hostOps0_13 V (Proc.devRef .tc r) = V (Proc.devRef .tc r) := by
  rcases h with rfl | rfl <;> after_results

theorem keep14 (V : Valuation τ sig (Elt Ideal)) (r : Ref sig .tc) (h : r = main_v104 ∨ r = main_arg8) :
    after hostOps0_14 V (Proc.devRef .tc r) = V (Proc.devRef .tc r) := by
  rcases h with rfl | rfl <;> after_results

/-- The contents at the end. -/
def Z16 : Valuation τ sig (Elt Ideal) := after hostOps0_15 (after hostOps0_14 (after hostOps0_13 (L64 m c)))

theorem Z16_eq : finalContents condOps preI bodyI postI 64 m c = Z16 m c := rfl

theorem result_at (r : Fin 16384) (q : Fin 2048) :
    (finalContents condOps preI bodyI postI 64 m c (Proc.devRef .tc main_v120) : S16384x2048.Idx → EReal) (ix2 r q)
      = out (ent (launchContents m c)) (r / 8192) (r % 8192 / 128) (r % 128) q := by
  rw [Z16_eq, Z16, w15_v120]
  refine h15_at _ _ _ (ent (launchContents m c)) ?_ ?_ ?_ r q
  · rw [keep14 _ _ (Or.inl rfl), w13_v104, L64_v89_4,
      L64_keep m c main_v73 (by decide) (by decide) (by decide) (by decide) (by decide) (by decide), E13_v73,
      L64_keep m c main_v55 (by decide) (by decide) (by decide) (by decide) (by decide) (by decide), E13_v55,
      L64_keep m c main_v56 (by decide) (by decide) (by decide) (by decide) (by decide) (by decide), E13_v56,
      L64_keep m c main_v37 (by decide) (by decide) (by decide) (by decide) (by decide) (by decide), E13_v37,
      L64_keep m c main_arg7 (by decide) (by decide) (by decide) (by decide) (by decide) (by decide), E13_arg7]
    exact h13_at _ _ _ _ _ _ _ (v73_at _) (inv m c 64 le_rfl).h4 (v55_at _) (v56_at _) (v37_at _) (arg7_at _)
  · rw [w14_v105, keep13 _ _ (Or.inl rfl),
      L64_keep m c main_arg0 (by decide) (by decide) (by decide) (by decide) (by decide) (by decide), E13_arg0]
    exact h14_at _ _ (arg0_at _)
  · rw [keep14 _ _ (Or.inr rfl), keep13 _ _ (Or.inr rfl),
      L64_keep m c main_arg8 (by decide) (by decide) (by decide) (by decide) (by decide) (by decide), E13_arg8]
    exact arg8_at _

end Cert.ReferenceIdeal.Value
-- ==== Proof.RefRun.lean ====
/-
  The reference's run: the scan's output in the result, the arguments unchanged.
-/
module

public import proofs.«01_k».proof.Proof.RefLoop
public import Idealize.ShloMosaic.Lib.Quiescent

@[expose] public section

set_option maxRecDepth 10000

noncomputable section

namespace Cert.ReferenceIdeal.Value

open Cert.ReferenceIdeal Cert.ReferenceIdeal.Gen Cert.Ssd
open Idealize.ShloMosaic Idealize.ShloMosaic.TcCoe Idealize.ShloMosaic.Tactic
open Idealize.SL.Sem
open Idealize.ShloMosaic.StableHlo

variable (m : (ℓ : Loc nD τ sig) → Buf (Elt Ideal) ℓ) (ρ : Dev nD → PrngReg) (c : Dev nD)

/-- The arguments' arrays. -/
abbrev argRefs : List (Ref sig .tc) := [main_arg0, main_arg1, main_arg2, main_arg3, main_arg4, main_arg5, main_arg6, main_arg7, main_arg8]

theorem post13_arg (V : Valuation τ sig (Elt Ideal)) (r : Ref sig .tc) (h : r ∈ argRefs) :
    after hostOps0_13 V (Proc.devRef .tc r) = V (Proc.devRef .tc r) := by
  simp only [argRefs, List.mem_cons, List.not_mem_nil, or_false] at h
  rcases h with rfl | rfl | rfl | rfl | rfl | rfl | rfl | rfl | rfl <;> after_results

theorem post14_arg (V : Valuation τ sig (Elt Ideal)) (r : Ref sig .tc) (h : r ∈ argRefs) :
    after hostOps0_14 V (Proc.devRef .tc r) = V (Proc.devRef .tc r) := by
  simp only [argRefs, List.mem_cons, List.not_mem_nil, or_false] at h
  rcases h with rfl | rfl | rfl | rfl | rfl | rfl | rfl | rfl | rfl <;> after_results

theorem post15_arg (V : Valuation τ sig (Elt Ideal)) (r : Ref sig .tc) (h : r ∈ argRefs) :
    after hostOps0_15 V (Proc.devRef .tc r) = V (Proc.devRef .tc r) := by
  simp only [argRefs, List.mem_cons, List.not_mem_nil, or_false] at h
  rcases h with rfl | rfl | rfl | rfl | rfl | rfl | rfl | rfl | rfl <;> after_results

/-- No operation writes an argument. -/
theorem arg_final (r : Ref sig .tc) (h : r ∈ argRefs) :
    finalContents condOps preI bodyI postI 64 m c (Proc.devRef .tc r) = m (c, Proc.devRef .tc r) := by
  have h0 : ∀ r ∈ argRefs, r ∉ condOps_W := by decide
  have h1 : ∀ r ∈ argRefs, r ∉ while0Ops0_W := by decide
  have h2 : ∀ r ∈ argRefs, r ∉ while0Ops0_1_W := by decide
  have h3 : ∀ r ∈ argRefs, r ∉ while0Ops0_2_W := by decide
  have h4 : ∀ r ∈ argRefs, r ∉ while0Ops0_3_W := by decide
  have h5 : ∀ r ∈ argRefs, r ∉ while0Ops0_4_W := by decide
  have e1 : ∀ r ∈ argRefs, r ∉ hostOps0_W := by decide
  have e2 : ∀ r ∈ argRefs, r ∉ hostOps0_1_W := by decide
  have e3 : ∀ r ∈ argRefs, r ∉ hostOps0_2_W := by decide
  have e4 : ∀ r ∈ argRefs, r ∉ hostOps0_3_W := by decide
  have e5 : ∀ r ∈ argRefs, r ∉ hostOps0_4_W := by decide
  have e6 : ∀ r ∈ argRefs, r ∉ hostOps0_5_W := by decide
  have e7 : ∀ r ∈ argRefs, r ∉ hostOps0_6_W := by decide
  have e8 : ∀ r ∈ argRefs, r ∉ hostOps0_7_W := by decide
  have e9 : ∀ r ∈ argRefs, r ∉ hostOps0_8_W := by decide
  have e10 : ∀ r ∈ argRefs, r ∉ hostOps0_9_W := by decide
  have e11 : ∀ r ∈ argRefs, r ∉ hostOps0_10_W := by decide
  have e12 : ∀ r ∈ argRefs, r ∉ hostOps0_11_W := by decide
  have e13 : ∀ r ∈ argRefs, r ∉ hostOps0_12_W := by decide
  rw [Z16_eq, Z16, post15_arg _ r h, post14_arg _ r h, post13_arg _ r h,
    L64_keep m c r (h0 r h) (h1 r h) (h2 r h) (h3 r h) (h4 r h) (h5 r h), E13_keep _ r (e13 r h), E12_keep _ r (e12 r h), E11_keep _ r (e11 r h), E10_keep _ r (e10 r h), E9_keep _ r (e9 r h), E8_keep _ r (e8 r h), E7_keep _ r (e7 r h), E6_keep _ r (e6 r h), E5_keep _ r (e5 r h), E4_keep _ r (e4 r h), E3_keep _ r (e3 r h), E2_keep _ r (e2 r h), E1_keep _ r (e1 r h)]
  rfl

/-- The reference's result. -/
def result : Buf (Elt Ideal) ((c.tc : Thread nD τ).loc main_v120) := finalContents condOps preI bodyI postI 64 m c (Proc.devRef .tc main_v120)

/-- The run: the result, the arguments, and every counter at zero. -/
theorem run_all : θ_run (defs (F := Ideal)) (onTc (τ := τ) (main (F := Ideal))) ⟨m, fun _ => 0, ρ⟩
    (fun r => (∀ c : Dev nD, r.2.mem ((c.tc : Thread nD τ).loc main_v120) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run _ _ _).mono (fun r h => ⟨fun c => ⟨h c main_v120 rfl, ?_⟩, sem_eq_zero_of_no_sems rfl _⟩) (run_fold m ρ)
  have k : ∀ b ∈ argRefs, (Proc.devRef .tc b : DevRef τ sig).isScoped = false := by decide
  have e : ∀ b ∈ argRefs, r.2.mem ((c.tc : Thread nD τ).loc b) = m ((c.tc : Thread nD τ).loc b) := fun b hb => (h c b (k b hb)).trans (arg_final m c b hb)
  exact ⟨e main_arg0 (by simp only [argRefs, List.mem_cons, true_or, or_true]), e main_arg1 (by simp only [argRefs, List.mem_cons, true_or, or_true]), e main_arg2 (by simp only [argRefs, List.mem_cons, true_or, or_true]), e main_arg3 (by simp only [argRefs, List.mem_cons, true_or, or_true]), e main_arg4 (by simp only [argRefs, List.mem_cons, true_or, or_true]), e main_arg5 (by simp only [argRefs, List.mem_cons, true_or, or_true]), e main_arg6 (by simp only [argRefs, List.mem_cons, true_or, or_true]), e main_arg7 (by simp only [argRefs, List.mem_cons, true_or, or_true]), e main_arg8 (by simp only [argRefs, List.mem_cons, true_or, or_true])⟩

end Cert.ReferenceIdeal.Value
-- ==== Proof.SsdEqual.lean ====
/-
  The kernel's array is the reference's result.
-/
module

public import proofs.«01_k».proof.Defs
public import proofs.«01_k».proof.Proof.SsdRun
public import proofs.«01_k».proof.Proof.RefRun

@[expose] public section

set_option maxRecDepth 10000

noncomputable section

namespace Cert.Ssd

open Idealize.ShloMosaic Idealize.ShloMosaic.TcCoe Idealize.SL.Sem

/-- The precondition's own facts. -/
instance preFacts : Cert.Pre_steps_finite.Facts where
  bcast_S_S2x8192x32 := by decide
  bcast_S_S32 := by decide
  bcast_S32_S1x1x32_2 := by decide
  bcast_S1x1x32_S2x8192x32_0_1_2 := by decide

/-- A number whose absolute value is below the largest is a real. -/
theorem re_of_lt {x : EReal} (h : max x (-x) < ⊤) : Re x := by
  induction x with
  | bot => exact absurd h (by simp)
  | top => exact absurd h (by simp)
  | coe r => exact ⟨r, rfl⟩

theorem re_of_abs {x y : EReal} (h : decide ((FloatOps.absf (x : Ideal .f32) : Ideal .f32) < y) = true) : Re x :=
  re_of_lt (lt_of_lt_of_le (of_decide_eq_true h : max x (-x) < y) le_top)

theorem bits_and : ∀ a b c : Bool, IntOp.andi (IntOp.andi (BitVec.ofBool a) (BitVec.ofBool b)) (BitVec.ofBool c) = 1#1 → a = true ∧ b = true ∧ c = true := by
  decide

section Pre
variable (a0 : FVec Ideal Pre_steps_finite.S2x8192x2048 .f32) (a1 : FVec Ideal Pre_steps_finite.S2x8192x3072 .f32)
  (a2 : FVec Ideal Pre_steps_finite.S2x8192x32 .f32) (a3 : FVec Ideal Pre_steps_finite.S4x1x3072 .f32) (a4 : FVec Ideal Pre_steps_finite.S3072 .f32)
  (a5 a6 a7 : FVec Ideal Pre_steps_finite.S32 .f32) (a8 : FVec Ideal Pre_steps_finite.S2048 .f32)

theorem pre_at (i : Fin 2) (j : Fin 8192) (k : Fin 32) (h : Pre_steps_finite.fn a0 a1 a2 a3 a4 a5 a6 a7 a8 (ix3 i j k) = 1#1) :
    Re (a2 (ix3 i j k)) ∧ Re (a5 (ix1 k)) ∧ Re (a6 (ix1 k)) := by
  have e : Pre_steps_finite.fn a0 a1 a2 a3 a4 a5 a6 a7 a8 (ix3 i j k) = IntOp.andi
      (IntOp.andi (BitVec.ofBool (decide (FloatOps.absf (a2 (ix3 i j k)) < Ideal.ofBits FTy.f32 2139095040#32)))
        (BitVec.ofBool (decide (FloatOps.absf (a5 (ix1 k)) < Ideal.ofBits FTy.f32 2139095040#32))))
      (BitVec.ofBool (decide (FloatOps.absf (a6 (ix1 k)) < Ideal.ofBits FTy.f32 2139095040#32))) := by
    pointwise [Pre_steps_finite.fn]
  have h3 := bits_and _ _ _ (e.symm.trans h)
  exact ⟨re_of_abs h3.1, re_of_abs h3.2.1, re_of_abs h3.2.2⟩

/-- Under the precondition the scan's steps are real. -/
theorem fine_of_pre (h : Pre_steps_finite.fn a0 a1 a2 a3 a4 a5 a6 a7 a8 = fun _ => 1#1) :
    Fine (KernelIdeal.Value.entOf a0 a1 a2 a3 a4 a5 a6 a7 a8) where
  d b r k := by
    show Re (nat3 (a := 2) (b := 8192) (c := 32) a2 b r k)
    unfold nat3
    split
    · exact (pre_at a0 a1 a2 a3 a4 a5 a6 a7 a8 _ _ _ (congrFun h _)).1
    · exact Re.zero
  db k := by
    show Re (nat1 (a := 32) a5 k)
    unfold nat1
    split
    · exact (pre_at a0 a1 a2 a3 a4 a5 a6 a7 a8 0 0 _ (congrFun h _)).2.1
    · exact Re.zero
  al k := by
    show Re (nat1 (a := 32) a6 k)
    unfold nat1
    split
    · exact (pre_at a0 a1 a2 a3 a4 a5 a6 a7 a8 0 0 _ (congrFun h _)).2.2
    · exact Re.zero
end Pre

/-- The reference's result is the kernel's array, from equal arguments. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7))
    (h8 : m' ((c.tc : Thread ReferenceIdeal.nD ReferenceIdeal.τ).loc ReferenceIdeal.main_arg8) = m ((c.tc : Thread KernelIdeal.nD KernelIdeal.τ).loc KernelIdeal.main_arg8))
    (hE : Fine (KernelIdeal.Value.entAt m c)) :
    ReferenceIdeal.Value.result m' c = KernelIdeal.Value.G11 m c := by
  have e : ReferenceIdeal.Value.ent (StableHlo.launchContents m' c) = KernelIdeal.Value.entOf
      (m' ((c.tc : Thread ReferenceIdeal.nD ReferenceIdeal.τ).loc ReferenceIdeal.main_arg0))
      (m' ((c.tc : Thread ReferenceIdeal.nD ReferenceIdeal.τ).loc ReferenceIdeal.main_arg1))
      (m' ((c.tc : Thread ReferenceIdeal.nD ReferenceIdeal.τ).loc ReferenceIdeal.main_arg2))
      (m' ((c.tc : Thread ReferenceIdeal.nD ReferenceIdeal.τ).loc ReferenceIdeal.main_arg3))
      (m' ((c.tc : Thread ReferenceIdeal.nD ReferenceIdeal.τ).loc ReferenceIdeal.main_arg4))
      (m' ((c.tc : Thread ReferenceIdeal.nD ReferenceIdeal.τ).loc ReferenceIdeal.main_arg5))
      (m' ((c.tc : Thread ReferenceIdeal.nD ReferenceIdeal.τ).loc ReferenceIdeal.main_arg6))
      (m' ((c.tc : Thread ReferenceIdeal.nD ReferenceIdeal.τ).loc ReferenceIdeal.main_arg7))
      (m' ((c.tc : Thread ReferenceIdeal.nD ReferenceIdeal.τ).loc ReferenceIdeal.main_arg8)) := rfl
  rw [h0, h1, h2, h3, h4, h5, h6, h7, h8] at e
  funext i
  obtain ⟨r, q, rfl⟩ : ∃ (r : Fin 16384) (q : Fin 2048), i = ix2 r q := ⟨i 0, i 1, eq_ix2 i⟩
  refine (ReferenceIdeal.Value.result_at m' c r q).trans (Eq.trans ?_ (KernelIdeal.Value.G11_at m c hE r q).symm)
  rw [e]

end Cert.Ssd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_steps_finite
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Calls
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.SsdEqual

@[expose] public section

noncomputable section

namespace Cert.Proof

open Idealize.ShloMosaic Idealize.SL.Sem Cert.Kernel

theorem reference_frame : Cert.quiescent_ReferenceIdeal := fun m g _ =>
  (θ_run _ _ _).mono (fun _ h => ⟨fun c => (h.1 c).2, h.2⟩) (Cert.ReferenceIdeal.Value.run_all m g)

theorem algebraic : Cert.algebraic_KernelIdeal_ReferenceIdeal_pre_steps_finite := by
  intro m g m' g' hp ha
  refine ⟨fun c => Cert.KernelIdeal.Value.G11 m c, Cert.KernelIdeal.Value.run m g, ?_⟩
  refine (θ_run _ _ _).mono (fun r h c => ⟨(h.1 c).1.trans ?_, (h.1 c).2⟩) (Cert.ReferenceIdeal.Value.run_all m' g')
  obtain ⟨a0, a1, a2, a3, a4, a5, a6, a7, a8⟩ := ha c
  exact Cert.Ssd.result_eq m m' c a0 a1 a2 a3 a4 a5 a6 a7 a8 (Cert.Ssd.fine_of_pre _ _ _ _ _ _ _ _ _ (hp c))

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Ssd.preFacts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  trivial, algebraic, trivial, algebraic2, trivial, algebraic3, trivial, algebraic4, trivial, algebraic5, trivial, algebraic6, trivial, algebraic7⟩

end Cert.Proof

end
